-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInRefIdeal (m : (ℓ : Loc Cert.MlpInRefIdeal.nD Cert.MlpInRefIdeal.τ Cert.MlpInRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_MlpInBwd (m : (ℓ : Loc Cert.MlpInBwd.nD Cert.MlpInBwd.τ Cert.MlpInBwd.sig) → Buf (Elt Bits) ℓ) : Prop :=
  True

def Pre_MlpInBwdIdeal (m : (ℓ : Loc Cert.MlpInBwdIdeal.nD Cert.MlpInBwdIdeal.τ Cert.MlpInBwdIdeal.sig) → Buf (Elt Ideal) ℓ) : Prop :=
  True

def Pre_MlpInBwdRefIdeal (m : (ℓ : Loc Cert.MlpInBwdRefIdeal.nD Cert.MlpInBwdRefIdeal.τ Cert.MlpInBwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_WMlpOut (m : (ℓ : Loc Cert.WMlpOut.nD Cert.WMlpOut.τ Cert.WMlpOut.sig) → Buf (Elt Bits) ℓ) : Prop :=
  True

def Pre_WMlpOutIdeal (m : (ℓ : Loc Cert.WMlpOutIdeal.nD Cert.WMlpOutIdeal.τ Cert.WMlpOutIdeal.sig) → Buf (Elt Ideal) ℓ) : Prop :=
  True

def Pre_WMlpOutRefIdeal (m : (ℓ : Loc Cert.WMlpOutRefIdeal.nD Cert.WMlpOutRefIdeal.τ Cert.WMlpOutRefIdeal.sig) → Buf (Elt Ideal) ℓ) : Prop :=
  True

def Pre_WMlpIn (m : (ℓ : Loc Cert.WMlpIn.nD Cert.WMlpIn.τ Cert.WMlpIn.sig) → Buf (Elt Bits) ℓ) : Prop :=
  True

def Pre_WMlpInIdeal (m : (ℓ : Loc Cert.WMlpInIdeal.nD Cert.WMlpInIdeal.τ Cert.WMlpInIdeal.sig) → Buf (Elt Ideal) ℓ) : Prop :=
  True

def Pre_WMlpInRefIdeal (m : (ℓ : Loc Cert.WMlpInRefIdeal.nD Cert.WMlpInRefIdeal.τ Cert.WMlpInRefIdeal.sig) → Buf (Elt Ideal) ℓ) : Prop :=
  True

def Pre_W1024 (m : (ℓ : Loc Cert.W1024.nD Cert.W1024.τ Cert.W1024.sig) → Buf (Elt Bits) ℓ) : Prop :=
  True

def Pre_W1024Ideal (m : (ℓ : Loc Cert.W1024Ideal.nD Cert.W1024Ideal.τ Cert.W1024Ideal.sig) → Buf (Elt Ideal) ℓ) : Prop :=
  True

def Pre_W1024RefIdeal (m : (ℓ : Loc Cert.W1024RefIdeal.nD Cert.W1024RefIdeal.τ Cert.W1024RefIdeal.sig) → Buf (Elt Ideal) ℓ) : Prop :=
  True

def Pre_WBranchB (m : (ℓ : Loc Cert.WBranchB.nD Cert.WBranchB.τ Cert.WBranchB.sig) → Buf (Elt Bits) ℓ) : Prop :=
  True

def Pre_WBranchBIdeal (m : (ℓ : Loc Cert.WBranchBIdeal.nD Cert.WBranchBIdeal.τ Cert.WBranchBIdeal.sig) → Buf (Elt Ideal) ℓ) : Prop :=
  True

def Pre_WBranchBRefIdeal (m : (ℓ : Loc Cert.WBranchBRefIdeal.nD Cert.WBranchBRefIdeal.τ Cert.WBranchBRefIdeal.sig) → Buf (Elt Ideal) ℓ) : Prop :=
  True

def Pre_W2048 (m : (ℓ : Loc Cert.W2048.nD Cert.W2048.τ Cert.W2048.sig) → Buf (Elt Bits) ℓ) : Prop :=
  True

def Pre_W2048Ideal (m : (ℓ : Loc Cert.W2048Ideal.nD Cert.W2048Ideal.τ Cert.W2048Ideal.sig) → Buf (Elt Ideal) ℓ) : Prop :=
  True

def Pre_W2048RefIdeal (m : (ℓ : Loc Cert.W2048RefIdeal.nD Cert.W2048RefIdeal.τ Cert.W2048RefIdeal.sig) → Buf (Elt Ideal) ℓ) : Prop :=
  True

def Pre_W512 (m : (ℓ : Loc Cert.W512.nD Cert.W512.τ Cert.W512.sig) → Buf (Elt Bits) ℓ) : Prop :=
  True

def Pre_W512Ideal (m : (ℓ : Loc Cert.W512Ideal.nD Cert.W512Ideal.τ Cert.W512Ideal.sig) → Buf (Elt Ideal) ℓ) : Prop :=
  True

def Pre_W512RefIdeal (m : (ℓ : Loc Cert.W512RefIdeal.nD Cert.W512RefIdeal.τ Cert.W512RefIdeal.sig) → Buf (Elt Ideal) ℓ) : Prop :=
  True

def Pre_W1152 (m : (ℓ : Loc Cert.W1152.nD Cert.W1152.τ Cert.W1152.sig) → Buf (Elt Bits) ℓ) : Prop :=
  True

def Pre_W1152Ideal (m : (ℓ : Loc Cert.W1152Ideal.nD Cert.W1152Ideal.τ Cert.W1152Ideal.sig) → Buf (Elt Ideal) ℓ) : Prop :=
  True

def Pre_W1152RefIdeal (m : (ℓ : Loc Cert.W1152RefIdeal.nD Cert.W1152RefIdeal.τ Cert.W1152RefIdeal.sig) → Buf (Elt Ideal) ℓ) : Prop :=
  True

def Pre_UpdMlpOut (m : (ℓ : Loc Cert.UpdMlpOut.nD Cert.UpdMlpOut.τ Cert.UpdMlpOut.sig) → Buf (Elt Bits) ℓ) : Prop :=
  True

def Pre_UpdMlpOutIdeal (m : (ℓ : Loc Cert.UpdMlpOutIdeal.nD Cert.UpdMlpOutIdeal.τ Cert.UpdMlpOutIdeal.sig) → Buf (Elt Ideal) ℓ) : Prop :=
  True

def Pre_UpdMlpOutRefIdeal (m : (ℓ : Loc Cert.UpdMlpOutRefIdeal.nD Cert.UpdMlpOutRefIdeal.τ Cert.UpdMlpOutRefIdeal.sig) → Buf (Elt Ideal) ℓ) : Prop :=
  True

def Pre_UpdMlpIn (m : (ℓ : Loc Cert.UpdMlpIn.nD Cert.UpdMlpIn.τ Cert.UpdMlpIn.sig) → Buf (Elt Bits) ℓ) : Prop :=
  True

def Pre_UpdMlpInIdeal (m : (ℓ : Loc Cert.UpdMlpInIdeal.nD Cert.UpdMlpInIdeal.τ Cert.UpdMlpInIdeal.sig) → Buf (Elt Ideal) ℓ) : Prop :=
  True

def Pre_UpdMlpInRefIdeal (m : (ℓ : Loc Cert.UpdMlpInRefIdeal.nD Cert.UpdMlpInRefIdeal.τ Cert.UpdMlpInRefIdeal.sig) → Buf (Elt Ideal) ℓ) : Prop :=
  True

def Pre_UpdOut (m : (ℓ : Loc Cert.UpdOut.nD Cert.UpdOut.τ Cert.UpdOut.sig) → Buf (Elt Bits) ℓ) : Prop :=
  True

def Pre_UpdOutIdeal (m : (ℓ : Loc Cert.UpdOutIdeal.nD Cert.UpdOutIdeal.τ Cert.UpdOutIdeal.sig) → Buf (Elt Ideal) ℓ) : Prop :=
  True

def Pre_UpdOutRefIdeal (m : (ℓ : Loc Cert.UpdOutRefIdeal.nD Cert.UpdOutRefIdeal.τ Cert.UpdOutRefIdeal.sig) → Buf (Elt Ideal) ℓ) : Prop :=
  True

def Pre_UpdBranch (m : (ℓ : Loc Cert.UpdBranch.nD Cert.UpdBranch.τ Cert.UpdBranch.sig) → Buf (Elt Bits) ℓ) : Prop :=
  True

def Pre_UpdBranchIdeal (m : (ℓ : Loc Cert.UpdBranchIdeal.nD Cert.UpdBranchIdeal.τ Cert.UpdBranchIdeal.sig) → Buf (Elt Ideal) ℓ) : Prop :=
  True

def Pre_UpdBranchRefIdeal (m : (ℓ : Loc Cert.UpdBranchRefIdeal.nD Cert.UpdBranchRefIdeal.τ Cert.UpdBranchRefIdeal.sig) → Buf (Elt Ideal) ℓ) : Prop :=
  True

def Pre_UpdGlu (m : (ℓ : Loc Cert.UpdGlu.nD Cert.UpdGlu.τ Cert.UpdGlu.sig) → Buf (Elt Bits) ℓ) : Prop :=
  True

def Pre_UpdGluIdeal (m : (ℓ : Loc Cert.UpdGluIdeal.nD Cert.UpdGluIdeal.τ Cert.UpdGluIdeal.sig) → Buf (Elt Ideal) ℓ) : Prop :=
  True

def Pre_UpdGluRefIdeal (m : (ℓ : Loc Cert.UpdGluRefIdeal.nD Cert.UpdGluRefIdeal.τ Cert.UpdGluRefIdeal.sig) → Buf (Elt Ideal) ℓ) : Prop :=
  True

def Pre_UpdIn (m : (ℓ : Loc Cert.UpdIn.nD Cert.UpdIn.τ Cert.UpdIn.sig) → Buf (Elt Bits) ℓ) : Prop :=
  True

def Pre_UpdInIdeal (m : (ℓ : Loc Cert.UpdInIdeal.nD Cert.UpdInIdeal.τ Cert.UpdInIdeal.sig) → Buf (Elt Ideal) ℓ) : Prop :=
  True

def Pre_UpdInRefIdeal (m : (ℓ : Loc Cert.UpdInRefIdeal.nD Cert.UpdInRefIdeal.τ Cert.UpdInRefIdeal.sig) → Buf (Elt Ideal) ℓ) : Prop :=
  True

def Pre_UpdConv (m : (ℓ : Loc Cert.UpdConv.nD Cert.UpdConv.τ Cert.UpdConv.sig) → Buf (Elt Bits) ℓ) : Prop :=
  True

def Pre_UpdConvIdeal (m : (ℓ : Loc Cert.UpdConvIdeal.nD Cert.UpdConvIdeal.τ Cert.UpdConvIdeal.sig) → Buf (Elt Ideal) ℓ) : Prop :=
  True

def Pre_UpdConvRefIdeal (m : (ℓ : Loc Cert.UpdConvRefIdeal.nD Cert.UpdConvRefIdeal.τ Cert.UpdConvRefIdeal.sig) → Buf (Elt Ideal) ℓ) : Prop :=
  True

def Pre_UpdS5B (m : (ℓ : Loc Cert.UpdS5B.nD Cert.UpdS5B.τ Cert.UpdS5B.sig) → Buf (Elt Bits) ℓ) : Prop :=
  True

def Pre_UpdS5BIdeal (m : (ℓ : Loc Cert.UpdS5BIdeal.nD Cert.UpdS5BIdeal.τ Cert.UpdS5BIdeal.sig) → Buf (Elt Ideal) ℓ) : Prop :=
  True

def Pre_UpdS5BRefIdeal (m : (ℓ : Loc Cert.UpdS5BRefIdeal.nD Cert.UpdS5BRefIdeal.τ Cert.UpdS5BRefIdeal.sig) → Buf (Elt Ideal) ℓ) : Prop :=
  True

def Pre_UpdLast (m : (ℓ : Loc Cert.UpdLast.nD Cert.UpdLast.τ Cert.UpdLast.sig) → Buf (Elt Bits) ℓ) : Prop :=
  True

def Pre_UpdLastIdeal (m : (ℓ : Loc Cert.UpdLastIdeal.nD Cert.UpdLastIdeal.τ Cert.UpdLastIdeal.sig) → Buf (Elt Ideal) ℓ) : Prop :=
  True

def Pre_UpdLastRefIdeal (m : (ℓ : Loc Cert.UpdLastRefIdeal.nD Cert.UpdLastRefIdeal.τ Cert.UpdLastRefIdeal.sig) → Buf (Elt Ideal) ℓ) : Prop :=
  True

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscRefIdeal (m : (ℓ : Loc Cert.DiscRefIdeal.nD Cert.DiscRefIdeal.τ Cert.DiscRefIdeal.sig) → Buf (Elt Ideal) ℓ) : Prop :=
  True

def Pre_DiscBwd (m : (ℓ : Loc Cert.DiscBwd.nD Cert.DiscBwd.τ Cert.DiscBwd.sig) → Buf (Elt Bits) ℓ) : Prop :=
  True

def Pre_DiscBwdIdeal (m : (ℓ : Loc Cert.DiscBwdIdeal.nD Cert.DiscBwdIdeal.τ Cert.DiscBwdIdeal.sig) → Buf (Elt Ideal) ℓ) : Prop :=
  True

def Pre_DiscBwdIdeal_finite_nonzero [hPre_finite_nonzero : Cert.Pre_finite_nonzero.Facts] (m : (ℓ : Loc Cert.DiscBwdIdeal.nD Cert.DiscBwdIdeal.τ Cert.DiscBwdIdeal.sig) → Buf (Elt Ideal) ℓ) : Prop :=
  ∀ c : Dev Cert.DiscBwdIdeal.nD,
    (Cert.Pre_finite_nonzero.fn (F := Ideal) (m ((c.tc : Thread Cert.DiscBwdIdeal.nD Cert.DiscBwdIdeal.τ).loc Cert.DiscBwdIdeal.main_arg0)) (m ((c.tc : Thread Cert.DiscBwdIdeal.nD Cert.DiscBwdIdeal.τ).loc Cert.DiscBwdIdeal.main_arg1)) (m ((c.tc : Thread Cert.DiscBwdIdeal.nD Cert.DiscBwdIdeal.τ).loc Cert.DiscBwdIdeal.main_arg2)) (m ((c.tc : Thread Cert.DiscBwdIdeal.nD Cert.DiscBwdIdeal.τ).loc Cert.DiscBwdIdeal.main_arg3)) (m ((c.tc : Thread Cert.DiscBwdIdeal.nD Cert.DiscBwdIdeal.τ).loc Cert.DiscBwdIdeal.main_arg4)) (m ((c.tc : Thread Cert.DiscBwdIdeal.nD Cert.DiscBwdIdeal.τ).loc Cert.DiscBwdIdeal.main_arg5)) (m ((c.tc : Thread Cert.DiscBwdIdeal.nD Cert.DiscBwdIdeal.τ).loc Cert.DiscBwdIdeal.main_arg6)) (m ((c.tc : Thread Cert.DiscBwdIdeal.nD Cert.DiscBwdIdeal.τ).loc Cert.DiscBwdIdeal.main_arg7))) = (fun _ => 1#1)

def Pre_DiscBwdRefIdeal (m : (ℓ : Loc Cert.DiscBwdRefIdeal.nD Cert.DiscBwdRefIdeal.τ Cert.DiscBwdRefIdeal.sig) → Buf (Elt Ideal) ℓ) : Prop :=
  True

def Pre_DiscBwdRefIdeal_finite_nonzero [hPre_finite_nonzero : Cert.Pre_finite_nonzero.Facts] (m : (ℓ : Loc Cert.DiscBwdRefIdeal.nD Cert.DiscBwdRefIdeal.τ Cert.DiscBwdRefIdeal.sig) → Buf (Elt Ideal) ℓ) : Prop :=
  ∀ c : Dev Cert.DiscBwdRefIdeal.nD,
    (Cert.Pre_finite_nonzero.fn (F := Ideal) (m ((c.tc : Thread Cert.DiscBwdRefIdeal.nD Cert.DiscBwdRefIdeal.τ).loc Cert.DiscBwdRefIdeal.main_arg0)) (m ((c.tc : Thread Cert.DiscBwdRefIdeal.nD Cert.DiscBwdRefIdeal.τ).loc Cert.DiscBwdRefIdeal.main_arg1)) (m ((c.tc : Thread Cert.DiscBwdRefIdeal.nD Cert.DiscBwdRefIdeal.τ).loc Cert.DiscBwdRefIdeal.main_arg2)) (m ((c.tc : Thread Cert.DiscBwdRefIdeal.nD Cert.DiscBwdRefIdeal.τ).loc Cert.DiscBwdRefIdeal.main_arg3)) (m ((c.tc : Thread Cert.DiscBwdRefIdeal.nD Cert.DiscBwdRefIdeal.τ).loc Cert.DiscBwdRefIdeal.main_arg4)) (m ((c.tc : Thread Cert.DiscBwdRefIdeal.nD Cert.DiscBwdRefIdeal.τ).loc Cert.DiscBwdRefIdeal.main_arg5)) (m ((c.tc : Thread Cert.DiscBwdRefIdeal.nD Cert.DiscBwdRefIdeal.τ).loc Cert.DiscBwdRefIdeal.main_arg6)) (m ((c.tc : Thread Cert.DiscBwdRefIdeal.nD Cert.DiscBwdRefIdeal.τ).loc Cert.DiscBwdRefIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1)
      ∧ r.2.mem ((c.tc : Thread Cert.MlpIn.nD Cert.MlpIn.τ).loc Cert.MlpIn.main_arg2) = m ((c.tc : Thread Cert.MlpIn.nD Cert.MlpIn.τ).loc Cert.MlpIn.main_arg2))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
      ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2))
      ∧ r.2.sem = fun _ => 0)

def quiescent_MlpInRefIdeal [hMlpInRefIdeal : Cert.MlpInRefIdeal.Facts] : Prop :=
  ∀ (m : (ℓ : Loc Cert.MlpInRefIdeal.nD Cert.MlpInRefIdeal.τ Cert.MlpInRefIdeal.sig) → Buf (Elt Ideal) ℓ) (g : Dev Cert.MlpInRefIdeal.nD → PrngReg), Pre_MlpInRefIdeal m →
    θ_run (Cert.MlpInRefIdeal.defs (F := Ideal)) (onTc (τ := Cert.MlpInRefIdeal.τ) (Cert.MlpInRefIdeal.main (F := Ideal))) ⟨m, fun _ => 0, g⟩ (fun r => (∀ c : Dev Cert.MlpInRefIdeal.nD,
      r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1)
      ∧ r.2.mem ((c.tc : Thread Cert.MlpInRefIdeal.nD Cert.MlpInRefIdeal.τ).loc Cert.MlpInRefIdeal.main_arg2) = m ((c.tc : Thread Cert.MlpInRefIdeal.nD Cert.MlpInRefIdeal.τ).loc Cert.MlpInRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_MlpInBwd [hMlpInBwd : Cert.MlpInBwd.Facts] : Prop :=
  ∀ (m : (ℓ : Loc Cert.MlpInBwd.nD Cert.MlpInBwd.τ Cert.MlpInBwd.sig) → Buf (Elt Bits) ℓ) (g : Dev Cert.MlpInBwd.nD → PrngReg), Pre_MlpInBwd m →
    θ_run (Cert.MlpInBwd.defs (F := Bits)) (onTc (τ := Cert.MlpInBwd.τ) (Cert.MlpInBwd.main (F := Bits))) ⟨m, fun _ => 0, g⟩ (fun r => (∀ c : Dev Cert.MlpInBwd.nD,
      r.2.mem ((c.tc : Thread Cert.MlpInBwd.nD Cert.MlpInBwd.τ).loc Cert.MlpInBwd.main_arg0) = m ((c.tc : Thread Cert.MlpInBwd.nD Cert.MlpInBwd.τ).loc Cert.MlpInBwd.main_arg0)
      ∧ r.2.mem ((c.tc : Thread Cert.MlpInBwd.nD Cert.MlpInBwd.τ).loc Cert.MlpInBwd.main_arg1) = m ((c.tc : Thread Cert.MlpInBwd.nD Cert.MlpInBwd.τ).loc Cert.MlpInBwd.main_arg1)
      ∧ r.2.mem ((c.tc : Thread Cert.MlpInBwd.nD Cert.MlpInBwd.τ).loc Cert.MlpInBwd.main_arg2) = m ((c.tc : Thread Cert.MlpInBwd.nD Cert.MlpInBwd.τ).loc Cert.MlpInBwd.main_arg2)
      ∧ r.2.mem ((c.tc : Thread Cert.MlpInBwd.nD Cert.MlpInBwd.τ).loc Cert.MlpInBwd.main_arg3) = m ((c.tc : Thread Cert.MlpInBwd.nD Cert.MlpInBwd.τ).loc Cert.MlpInBwd.main_arg3)
      ∧ r.2.mem ((c.tc : Thread Cert.MlpInBwd.nD Cert.MlpInBwd.τ).loc Cert.MlpInBwd.main_arg4) = m ((c.tc : Thread Cert.MlpInBwd.nD Cert.MlpInBwd.τ).loc Cert.MlpInBwd.main_arg4))
      ∧ r.2.sem = fun _ => 0)

def quiescent_MlpInBwdIdeal [hMlpInBwdIdeal : Cert.MlpInBwdIdeal.Facts] : Prop :=
  ∀ (m : (ℓ : Loc Cert.MlpInBwdIdeal.nD Cert.MlpInBwdIdeal.τ Cert.MlpInBwdIdeal.sig) → Buf (Elt Ideal) ℓ) (g : Dev Cert.MlpInBwdIdeal.nD → PrngReg), Pre_MlpInBwdIdeal m →
    θ_run (Cert.MlpInBwdIdeal.defs (F := Ideal)) (onTc (τ := Cert.MlpInBwdIdeal.τ) (Cert.MlpInBwdIdeal.main (F := Ideal))) ⟨m, fun _ => 0, g⟩ (fun r => (∀ c : Dev Cert.MlpInBwdIdeal.nD,
      r.2.mem ((c.tc : Thread Cert.MlpInBwdIdeal.nD Cert.MlpInBwdIdeal.τ).loc Cert.MlpInBwdIdeal.main_arg0) = m ((c.tc : Thread Cert.MlpInBwdIdeal.nD Cert.MlpInBwdIdeal.τ).loc Cert.MlpInBwdIdeal.main_arg0)
      ∧ r.2.mem ((c.tc : Thread Cert.MlpInBwdIdeal.nD Cert.MlpInBwdIdeal.τ).loc Cert.MlpInBwdIdeal.main_arg1) = m ((c.tc : Thread Cert.MlpInBwdIdeal.nD Cert.MlpInBwdIdeal.τ).loc Cert.MlpInBwdIdeal.main_arg1)
      ∧ r.2.mem ((c.tc : Thread Cert.MlpInBwdIdeal.nD Cert.MlpInBwdIdeal.τ).loc Cert.MlpInBwdIdeal.main_arg2) = m ((c.tc : Thread Cert.MlpInBwdIdeal.nD Cert.MlpInBwdIdeal.τ).loc Cert.MlpInBwdIdeal.main_arg2)
      ∧ r.2.mem ((c.tc : Thread Cert.MlpInBwdIdeal.nD Cert.MlpInBwdIdeal.τ).loc Cert.MlpInBwdIdeal.main_arg3) = m ((c.tc : Thread Cert.MlpInBwdIdeal.nD Cert.MlpInBwdIdeal.τ).loc Cert.MlpInBwdIdeal.main_arg3)
      ∧ r.2.mem ((c.tc : Thread Cert.MlpInBwdIdeal.nD Cert.MlpInBwdIdeal.τ).loc Cert.MlpInBwdIdeal.main_arg4) = m ((c.tc : Thread Cert.MlpInBwdIdeal.nD Cert.MlpInBwdIdeal.τ).loc Cert.MlpInBwdIdeal.main_arg4))
      ∧ r.2.sem = fun _ => 0)

def quiescent_MlpInBwdRefIdeal [hMlpInBwdRefIdeal : Cert.MlpInBwdRefIdeal.Facts] : Prop :=
  ∀ (m : (ℓ : Loc Cert.MlpInBwdRefIdeal.nD Cert.MlpInBwdRefIdeal.τ Cert.MlpInBwdRefIdeal.sig) → Buf (Elt Ideal) ℓ) (g : Dev Cert.MlpInBwdRefIdeal.nD → PrngReg), Pre_MlpInBwdRefIdeal m →
    θ_run (Cert.MlpInBwdRefIdeal.defs (F := Ideal)) (onTc (τ := Cert.MlpInBwdRefIdeal.τ) (Cert.MlpInBwdRefIdeal.main (F := Ideal))) ⟨m, fun _ => 0, g⟩ (fun r => (∀ c : Dev Cert.MlpInBwdRefIdeal.nD,
      r.2.mem ((c.tc : Thread Cert.MlpInBwdRefIdeal.nD Cert.MlpInBwdRefIdeal.τ).loc Cert.MlpInBwdRefIdeal.main_arg0) = m ((c.tc : Thread Cert.MlpInBwdRefIdeal.nD Cert.MlpInBwdRefIdeal.τ).loc Cert.MlpInBwdRefIdeal.main_arg0)
      ∧ r.2.mem ((c.tc : Thread Cert.MlpInBwdRefIdeal.nD Cert.MlpInBwdRefIdeal.τ).loc Cert.MlpInBwdRefIdeal.main_arg1) = m ((c.tc : Thread Cert.MlpInBwdRefIdeal.nD Cert.MlpInBwdRefIdeal.τ).loc Cert.MlpInBwdRefIdeal.main_arg1)
      ∧ r.2.mem ((c.tc : Thread Cert.MlpInBwdRefIdeal.nD Cert.MlpInBwdRefIdeal.τ).loc Cert.MlpInBwdRefIdeal.main_arg2) = m ((c.tc : Thread Cert.MlpInBwdRefIdeal.nD Cert.MlpInBwdRefIdeal.τ).loc Cert.MlpInBwdRefIdeal.main_arg2)
      ∧ r.2.mem ((c.tc : Thread Cert.MlpInBwdRefIdeal.nD Cert.MlpInBwdRefIdeal.τ).loc Cert.MlpInBwdRefIdeal.main_arg3) = m ((c.tc : Thread Cert.MlpInBwdRefIdeal.nD Cert.MlpInBwdRefIdeal.τ).loc Cert.MlpInBwdRefIdeal.main_arg3)
      ∧ r.2.mem ((c.tc : Thread Cert.MlpInBwdRefIdeal.nD Cert.MlpInBwdRefIdeal.τ).loc Cert.MlpInBwdRefIdeal.main_arg4) = m ((c.tc : Thread Cert.MlpInBwdRefIdeal.nD Cert.MlpInBwdRefIdeal.τ).loc Cert.MlpInBwdRefIdeal.main_arg4))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7))
      ∧ r.2.sem = fun _ => 0)

def quiescent_WMlpOut [hWMlpOut : Cert.WMlpOut.Facts] : Prop :=
  ∀ (m : (ℓ : Loc Cert.WMlpOut.nD Cert.WMlpOut.τ Cert.WMlpOut.sig) → Buf (Elt Bits) ℓ) (g : Dev Cert.WMlpOut.nD → PrngReg), Pre_WMlpOut m →
    θ_run (Cert.WMlpOut.defs (F := Bits)) (onTc (τ := Cert.WMlpOut.τ) (Cert.WMlpOut.main (F := Bits))) ⟨m, fun _ => 0, g⟩ (fun r => (∀ c : Dev Cert.WMlpOut.nD,
      r.2.mem ((c.tc : Thread Cert.WMlpOut.nD Cert.WMlpOut.τ).loc Cert.WMlpOut.main_arg0) = m ((c.tc : Thread Cert.WMlpOut.nD Cert.WMlpOut.τ).loc Cert.WMlpOut.main_arg0)
      ∧ r.2.mem ((c.tc : Thread Cert.WMlpOut.nD Cert.WMlpOut.τ).loc Cert.WMlpOut.main_arg1) = m ((c.tc : Thread Cert.WMlpOut.nD Cert.WMlpOut.τ).loc Cert.WMlpOut.main_arg1))
      ∧ r.2.sem = fun _ => 0)

def quiescent_WMlpOutIdeal [hWMlpOutIdeal : Cert.WMlpOutIdeal.Facts] : Prop :=
  ∀ (m : (ℓ : Loc Cert.WMlpOutIdeal.nD Cert.WMlpOutIdeal.τ Cert.WMlpOutIdeal.sig) → Buf (Elt Ideal) ℓ) (g : Dev Cert.WMlpOutIdeal.nD → PrngReg), Pre_WMlpOutIdeal m →
    θ_run (Cert.WMlpOutIdeal.defs (F := Ideal)) (onTc (τ := Cert.WMlpOutIdeal.τ) (Cert.WMlpOutIdeal.main (F := Ideal))) ⟨m, fun _ => 0, g⟩ (fun r => (∀ c : Dev Cert.WMlpOutIdeal.nD,
      r.2.mem ((c.tc : Thread Cert.WMlpOutIdeal.nD Cert.WMlpOutIdeal.τ).loc Cert.WMlpOutIdeal.main_arg0) = m ((c.tc : Thread Cert.WMlpOutIdeal.nD Cert.WMlpOutIdeal.τ).loc Cert.WMlpOutIdeal.main_arg0)
      ∧ r.2.mem ((c.tc : Thread Cert.WMlpOutIdeal.nD Cert.WMlpOutIdeal.τ).loc Cert.WMlpOutIdeal.main_arg1) = m ((c.tc : Thread Cert.WMlpOutIdeal.nD Cert.WMlpOutIdeal.τ).loc Cert.WMlpOutIdeal.main_arg1))
      ∧ r.2.sem = fun _ => 0)

def quiescent_WMlpOutRefIdeal [hWMlpOutRefIdeal : Cert.WMlpOutRefIdeal.Facts] : Prop :=
  ∀ (m : (ℓ : Loc Cert.WMlpOutRefIdeal.nD Cert.WMlpOutRefIdeal.τ Cert.WMlpOutRefIdeal.sig) → Buf (Elt Ideal) ℓ) (g : Dev Cert.WMlpOutRefIdeal.nD → PrngReg), Pre_WMlpOutRefIdeal m →
    θ_run (Cert.WMlpOutRefIdeal.defs (F := Ideal)) (onTc (τ := Cert.WMlpOutRefIdeal.τ) (Cert.WMlpOutRefIdeal.main (F := Ideal))) ⟨m, fun _ => 0, g⟩ (fun r => (∀ c : Dev Cert.WMlpOutRefIdeal.nD,
      r.2.mem ((c.tc : Thread Cert.WMlpOutRefIdeal.nD Cert.WMlpOutRefIdeal.τ).loc Cert.WMlpOutRefIdeal.main_arg0) = m ((c.tc : Thread Cert.WMlpOutRefIdeal.nD Cert.WMlpOutRefIdeal.τ).loc Cert.WMlpOutRefIdeal.main_arg0)
      ∧ r.2.mem ((c.tc : Thread Cert.WMlpOutRefIdeal.nD Cert.WMlpOutRefIdeal.τ).loc Cert.WMlpOutRefIdeal.main_arg1) = m ((c.tc : Thread Cert.WMlpOutRefIdeal.nD Cert.WMlpOutRefIdeal.τ).loc Cert.WMlpOutRefIdeal.main_arg1))
      ∧ r.2.sem = fun _ => 0)

def quiescent_WMlpIn [hWMlpIn : Cert.WMlpIn.Facts] : Prop :=
  ∀ (m : (ℓ : Loc Cert.WMlpIn.nD Cert.WMlpIn.τ Cert.WMlpIn.sig) → Buf (Elt Bits) ℓ) (g : Dev Cert.WMlpIn.nD → PrngReg), Pre_WMlpIn m →
    θ_run (Cert.WMlpIn.defs (F := Bits)) (onTc (τ := Cert.WMlpIn.τ) (Cert.WMlpIn.main (F := Bits))) ⟨m, fun _ => 0, g⟩ (fun r => (∀ c : Dev Cert.WMlpIn.nD,
      r.2.mem ((c.tc : Thread Cert.WMlpIn.nD Cert.WMlpIn.τ).loc Cert.WMlpIn.main_arg0) = m ((c.tc : Thread Cert.WMlpIn.nD Cert.WMlpIn.τ).loc Cert.WMlpIn.main_arg0)
      ∧ r.2.mem ((c.tc : Thread Cert.WMlpIn.nD Cert.WMlpIn.τ).loc Cert.WMlpIn.main_arg1) = m ((c.tc : Thread Cert.WMlpIn.nD Cert.WMlpIn.τ).loc Cert.WMlpIn.main_arg1))
      ∧ r.2.sem = fun _ => 0)

def quiescent_WMlpInIdeal [hWMlpInIdeal : Cert.WMlpInIdeal.Facts] : Prop :=
  ∀ (m : (ℓ : Loc Cert.WMlpInIdeal.nD Cert.WMlpInIdeal.τ Cert.WMlpInIdeal.sig) → Buf (Elt Ideal) ℓ) (g : Dev Cert.WMlpInIdeal.nD → PrngReg), Pre_WMlpInIdeal m →
    θ_run (Cert.WMlpInIdeal.defs (F := Ideal)) (onTc (τ := Cert.WMlpInIdeal.τ) (Cert.WMlpInIdeal.main (F := Ideal))) ⟨m, fun _ => 0, g⟩ (fun r => (∀ c : Dev Cert.WMlpInIdeal.nD,
      r.2.mem ((c.tc : Thread Cert.WMlpInIdeal.nD Cert.WMlpInIdeal.τ).loc Cert.WMlpInIdeal.main_arg0) = m ((c.tc : Thread Cert.WMlpInIdeal.nD Cert.WMlpInIdeal.τ).loc Cert.WMlpInIdeal.main_arg0)
      ∧ r.2.mem ((c.tc : Thread Cert.WMlpInIdeal.nD Cert.WMlpInIdeal.τ).loc Cert.WMlpInIdeal.main_arg1) = m ((c.tc : Thread Cert.WMlpInIdeal.nD Cert.WMlpInIdeal.τ).loc Cert.WMlpInIdeal.main_arg1))
      ∧ r.2.sem = fun _ => 0)

def quiescent_WMlpInRefIdeal [hWMlpInRefIdeal : Cert.WMlpInRefIdeal.Facts] : Prop :=
  ∀ (m : (ℓ : Loc Cert.WMlpInRefIdeal.nD Cert.WMlpInRefIdeal.τ Cert.WMlpInRefIdeal.sig) → Buf (Elt Ideal) ℓ) (g : Dev Cert.WMlpInRefIdeal.nD → PrngReg), Pre_WMlpInRefIdeal m →
    θ_run (Cert.WMlpInRefIdeal.defs (F := Ideal)) (onTc (τ := Cert.WMlpInRefIdeal.τ) (Cert.WMlpInRefIdeal.main (F := Ideal))) ⟨m, fun _ => 0, g⟩ (fun r => (∀ c : Dev Cert.WMlpInRefIdeal.nD,
      r.2.mem ((c.tc : Thread Cert.WMlpInRefIdeal.nD Cert.WMlpInRefIdeal.τ).loc Cert.WMlpInRefIdeal.main_arg0) = m ((c.tc : Thread Cert.WMlpInRefIdeal.nD Cert.WMlpInRefIdeal.τ).loc Cert.WMlpInRefIdeal.main_arg0)
      ∧ r.2.mem ((c.tc : Thread Cert.WMlpInRefIdeal.nD Cert.WMlpInRefIdeal.τ).loc Cert.WMlpInRefIdeal.main_arg1) = m ((c.tc : Thread Cert.WMlpInRefIdeal.nD Cert.WMlpInRefIdeal.τ).loc Cert.WMlpInRefIdeal.main_arg1))
      ∧ r.2.sem = fun _ => 0)

def quiescent_W1024 [hW1024 : Cert.W1024.Facts] : Prop :=
  ∀ (m : (ℓ : Loc Cert.W1024.nD Cert.W1024.τ Cert.W1024.sig) → Buf (Elt Bits) ℓ) (g : Dev Cert.W1024.nD → PrngReg), Pre_W1024 m →
    θ_run (Cert.W1024.defs (F := Bits)) (onTc (τ := Cert.W1024.τ) (Cert.W1024.main (F := Bits))) ⟨m, fun _ => 0, g⟩ (fun r => (∀ c : Dev Cert.W1024.nD,
      r.2.mem ((c.tc : Thread Cert.W1024.nD Cert.W1024.τ).loc Cert.W1024.main_arg0) = m ((c.tc : Thread Cert.W1024.nD Cert.W1024.τ).loc Cert.W1024.main_arg0)
      ∧ r.2.mem ((c.tc : Thread Cert.W1024.nD Cert.W1024.τ).loc Cert.W1024.main_arg1) = m ((c.tc : Thread Cert.W1024.nD Cert.W1024.τ).loc Cert.W1024.main_arg1))
      ∧ r.2.sem = fun _ => 0)

def quiescent_W1024Ideal [hW1024Ideal : Cert.W1024Ideal.Facts] : Prop :=
  ∀ (m : (ℓ : Loc Cert.W1024Ideal.nD Cert.W1024Ideal.τ Cert.W1024Ideal.sig) → Buf (Elt Ideal) ℓ) (g : Dev Cert.W1024Ideal.nD → PrngReg), Pre_W1024Ideal m →
    θ_run (Cert.W1024Ideal.defs (F := Ideal)) (onTc (τ := Cert.W1024Ideal.τ) (Cert.W1024Ideal.main (F := Ideal))) ⟨m, fun _ => 0, g⟩ (fun r => (∀ c : Dev Cert.W1024Ideal.nD,
      r.2.mem ((c.tc : Thread Cert.W1024Ideal.nD Cert.W1024Ideal.τ).loc Cert.W1024Ideal.main_arg0) = m ((c.tc : Thread Cert.W1024Ideal.nD Cert.W1024Ideal.τ).loc Cert.W1024Ideal.main_arg0)
      ∧ r.2.mem ((c.tc : Thread Cert.W1024Ideal.nD Cert.W1024Ideal.τ).loc Cert.W1024Ideal.main_arg1) = m ((c.tc : Thread Cert.W1024Ideal.nD Cert.W1024Ideal.τ).loc Cert.W1024Ideal.main_arg1))
      ∧ r.2.sem = fun _ => 0)

def quiescent_W1024RefIdeal [hW1024RefIdeal : Cert.W1024RefIdeal.Facts] : Prop :=
  ∀ (m : (ℓ : Loc Cert.W1024RefIdeal.nD Cert.W1024RefIdeal.τ Cert.W1024RefIdeal.sig) → Buf (Elt Ideal) ℓ) (g : Dev Cert.W1024RefIdeal.nD → PrngReg), Pre_W1024RefIdeal m →
    θ_run (Cert.W1024RefIdeal.defs (F := Ideal)) (onTc (τ := Cert.W1024RefIdeal.τ) (Cert.W1024RefIdeal.main (F := Ideal))) ⟨m, fun _ => 0, g⟩ (fun r => (∀ c : Dev Cert.W1024RefIdeal.nD,
      r.2.mem ((c.tc : Thread Cert.W1024RefIdeal.nD Cert.W1024RefIdeal.τ).loc Cert.W1024RefIdeal.main_arg0) = m ((c.tc : Thread Cert.W1024RefIdeal.nD Cert.W1024RefIdeal.τ).loc Cert.W1024RefIdeal.main_arg0)
      ∧ r.2.mem ((c.tc : Thread Cert.W1024RefIdeal.nD Cert.W1024RefIdeal.τ).loc Cert.W1024RefIdeal.main_arg1) = m ((c.tc : Thread Cert.W1024RefIdeal.nD Cert.W1024RefIdeal.τ).loc Cert.W1024RefIdeal.main_arg1))
      ∧ r.2.sem = fun _ => 0)

def quiescent_WBranchB [hWBranchB : Cert.WBranchB.Facts] : Prop :=
  ∀ (m : (ℓ : Loc Cert.WBranchB.nD Cert.WBranchB.τ Cert.WBranchB.sig) → Buf (Elt Bits) ℓ) (g : Dev Cert.WBranchB.nD → PrngReg), Pre_WBranchB m →
    θ_run (Cert.WBranchB.defs (F := Bits)) (onTc (τ := Cert.WBranchB.τ) (Cert.WBranchB.main (F := Bits))) ⟨m, fun _ => 0, g⟩ (fun r => (∀ c : Dev Cert.WBranchB.nD,
      r.2.mem ((c.tc : Thread Cert.WBranchB.nD Cert.WBranchB.τ).loc Cert.WBranchB.main_arg0) = m ((c.tc : Thread Cert.WBranchB.nD Cert.WBranchB.τ).loc Cert.WBranchB.main_arg0)
      ∧ r.2.mem ((c.tc : Thread Cert.WBranchB.nD Cert.WBranchB.τ).loc Cert.WBranchB.main_arg1) = m ((c.tc : Thread Cert.WBranchB.nD Cert.WBranchB.τ).loc Cert.WBranchB.main_arg1))
      ∧ r.2.sem = fun _ => 0)

def quiescent_WBranchBIdeal [hWBranchBIdeal : Cert.WBranchBIdeal.Facts] : Prop :=
  ∀ (m : (ℓ : Loc Cert.WBranchBIdeal.nD Cert.WBranchBIdeal.τ Cert.WBranchBIdeal.sig) → Buf (Elt Ideal) ℓ) (g : Dev Cert.WBranchBIdeal.nD → PrngReg), Pre_WBranchBIdeal m →
    θ_run (Cert.WBranchBIdeal.defs (F := Ideal)) (onTc (τ := Cert.WBranchBIdeal.τ) (Cert.WBranchBIdeal.main (F := Ideal))) ⟨m, fun _ => 0, g⟩ (fun r => (∀ c : Dev Cert.WBranchBIdeal.nD,
      r.2.mem ((c.tc : Thread Cert.WBranchBIdeal.nD Cert.WBranchBIdeal.τ).loc Cert.WBranchBIdeal.main_arg0) = m ((c.tc : Thread Cert.WBranchBIdeal.nD Cert.WBranchBIdeal.τ).loc Cert.WBranchBIdeal.main_arg0)
      ∧ r.2.mem ((c.tc : Thread Cert.WBranchBIdeal.nD Cert.WBranchBIdeal.τ).loc Cert.WBranchBIdeal.main_arg1) = m ((c.tc : Thread Cert.WBranchBIdeal.nD Cert.WBranchBIdeal.τ).loc Cert.WBranchBIdeal.main_arg1))
      ∧ r.2.sem = fun _ => 0)

def quiescent_WBranchBRefIdeal [hWBranchBRefIdeal : Cert.WBranchBRefIdeal.Facts] : Prop :=
  ∀ (m : (ℓ : Loc Cert.WBranchBRefIdeal.nD Cert.WBranchBRefIdeal.τ Cert.WBranchBRefIdeal.sig) → Buf (Elt Ideal) ℓ) (g : Dev Cert.WBranchBRefIdeal.nD → PrngReg), Pre_WBranchBRefIdeal m →
    θ_run (Cert.WBranchBRefIdeal.defs (F := Ideal)) (onTc (τ := Cert.WBranchBRefIdeal.τ) (Cert.WBranchBRefIdeal.main (F := Ideal))) ⟨m, fun _ => 0, g⟩ (fun r => (∀ c : Dev Cert.WBranchBRefIdeal.nD,
      r.2.mem ((c.tc : Thread Cert.WBranchBRefIdeal.nD Cert.WBranchBRefIdeal.τ).loc Cert.WBranchBRefIdeal.main_arg0) = m ((c.tc : Thread Cert.WBranchBRefIdeal.nD Cert.WBranchBRefIdeal.τ).loc Cert.WBranchBRefIdeal.main_arg0)
      ∧ r.2.mem ((c.tc : Thread Cert.WBranchBRefIdeal.nD Cert.WBranchBRefIdeal.τ).loc Cert.WBranchBRefIdeal.main_arg1) = m ((c.tc : Thread Cert.WBranchBRefIdeal.nD Cert.WBranchBRefIdeal.τ).loc Cert.WBranchBRefIdeal.main_arg1))
      ∧ r.2.sem = fun _ => 0)

def quiescent_W2048 [hW2048 : Cert.W2048.Facts] : Prop :=
  ∀ (m : (ℓ : Loc Cert.W2048.nD Cert.W2048.τ Cert.W2048.sig) → Buf (Elt Bits) ℓ) (g : Dev Cert.W2048.nD → PrngReg), Pre_W2048 m →
    θ_run (Cert.W2048.defs (F := Bits)) (onTc (τ := Cert.W2048.τ) (Cert.W2048.main (F := Bits))) ⟨m, fun _ => 0, g⟩ (fun r => (∀ c : Dev Cert.W2048.nD,
      r.2.mem ((c.tc : Thread Cert.W2048.nD Cert.W2048.τ).loc Cert.W2048.main_arg0) = m ((c.tc : Thread Cert.W2048.nD Cert.W2048.τ).loc Cert.W2048.main_arg0)
      ∧ r.2.mem ((c.tc : Thread Cert.W2048.nD Cert.W2048.τ).loc Cert.W2048.main_arg1) = m ((c.tc : Thread Cert.W2048.nD Cert.W2048.τ).loc Cert.W2048.main_arg1))
      ∧ r.2.sem = fun _ => 0)

def quiescent_W2048Ideal [hW2048Ideal : Cert.W2048Ideal.Facts] : Prop :=
  ∀ (m : (ℓ : Loc Cert.W2048Ideal.nD Cert.W2048Ideal.τ Cert.W2048Ideal.sig) → Buf (Elt Ideal) ℓ) (g : Dev Cert.W2048Ideal.nD → PrngReg), Pre_W2048Ideal m →
    θ_run (Cert.W2048Ideal.defs (F := Ideal)) (onTc (τ := Cert.W2048Ideal.τ) (Cert.W2048Ideal.main (F := Ideal))) ⟨m, fun _ => 0, g⟩ (fun r => (∀ c : Dev Cert.W2048Ideal.nD,
      r.2.mem ((c.tc : Thread Cert.W2048Ideal.nD Cert.W2048Ideal.τ).loc Cert.W2048Ideal.main_arg0) = m ((c.tc : Thread Cert.W2048Ideal.nD Cert.W2048Ideal.τ).loc Cert.W2048Ideal.main_arg0)
      ∧ r.2.mem ((c.tc : Thread Cert.W2048Ideal.nD Cert.W2048Ideal.τ).loc Cert.W2048Ideal.main_arg1) = m ((c.tc : Thread Cert.W2048Ideal.nD Cert.W2048Ideal.τ).loc Cert.W2048Ideal.main_arg1))
      ∧ r.2.sem = fun _ => 0)

def quiescent_W2048RefIdeal [hW2048RefIdeal : Cert.W2048RefIdeal.Facts] : Prop :=
  ∀ (m : (ℓ : Loc Cert.W2048RefIdeal.nD Cert.W2048RefIdeal.τ Cert.W2048RefIdeal.sig) → Buf (Elt Ideal) ℓ) (g : Dev Cert.W2048RefIdeal.nD → PrngReg), Pre_W2048RefIdeal m →
    θ_run (Cert.W2048RefIdeal.defs (F := Ideal)) (onTc (τ := Cert.W2048RefIdeal.τ) (Cert.W2048RefIdeal.main (F := Ideal))) ⟨m, fun _ => 0, g⟩ (fun r => (∀ c : Dev Cert.W2048RefIdeal.nD,
      r.2.mem ((c.tc : Thread Cert.W2048RefIdeal.nD Cert.W2048RefIdeal.τ).loc Cert.W2048RefIdeal.main_arg0) = m ((c.tc : Thread Cert.W2048RefIdeal.nD Cert.W2048RefIdeal.τ).loc Cert.W2048RefIdeal.main_arg0)
      ∧ r.2.mem ((c.tc : Thread Cert.W2048RefIdeal.nD Cert.W2048RefIdeal.τ).loc Cert.W2048RefIdeal.main_arg1) = m ((c.tc : Thread Cert.W2048RefIdeal.nD Cert.W2048RefIdeal.τ).loc Cert.W2048RefIdeal.main_arg1))
      ∧ r.2.sem = fun _ => 0)

def quiescent_W512 [hW512 : Cert.W512.Facts] : Prop :=
  ∀ (m : (ℓ : Loc Cert.W512.nD Cert.W512.τ Cert.W512.sig) → Buf (Elt Bits) ℓ) (g : Dev Cert.W512.nD → PrngReg), Pre_W512 m →
    θ_run (Cert.W512.defs (F := Bits)) (onTc (τ := Cert.W512.τ) (Cert.W512.main (F := Bits))) ⟨m, fun _ => 0, g⟩ (fun r => (∀ c : Dev Cert.W512.nD,
      r.2.mem ((c.tc : Thread Cert.W512.nD Cert.W512.τ).loc Cert.W512.main_arg0) = m ((c.tc : Thread Cert.W512.nD Cert.W512.τ).loc Cert.W512.main_arg0)
      ∧ r.2.mem ((c.tc : Thread Cert.W512.nD Cert.W512.τ).loc Cert.W512.main_arg1) = m ((c.tc : Thread Cert.W512.nD Cert.W512.τ).loc Cert.W512.main_arg1))
      ∧ r.2.sem = fun _ => 0)

def quiescent_W512Ideal [hW512Ideal : Cert.W512Ideal.Facts] : Prop :=
  ∀ (m : (ℓ : Loc Cert.W512Ideal.nD Cert.W512Ideal.τ Cert.W512Ideal.sig) → Buf (Elt Ideal) ℓ) (g : Dev Cert.W512Ideal.nD → PrngReg), Pre_W512Ideal m →
    θ_run (Cert.W512Ideal.defs (F := Ideal)) (onTc (τ := Cert.W512Ideal.τ) (Cert.W512Ideal.main (F := Ideal))) ⟨m, fun _ => 0, g⟩ (fun r => (∀ c : Dev Cert.W512Ideal.nD,
      r.2.mem ((c.tc : Thread Cert.W512Ideal.nD Cert.W512Ideal.τ).loc Cert.W512Ideal.main_arg0) = m ((c.tc : Thread Cert.W512Ideal.nD Cert.W512Ideal.τ).loc Cert.W512Ideal.main_arg0)
      ∧ r.2.mem ((c.tc : Thread Cert.W512Ideal.nD Cert.W512Ideal.τ).loc Cert.W512Ideal.main_arg1) = m ((c.tc : Thread Cert.W512Ideal.nD Cert.W512Ideal.τ).loc Cert.W512Ideal.main_arg1))
      ∧ r.2.sem = fun _ => 0)

def quiescent_W512RefIdeal [hW512RefIdeal : Cert.W512RefIdeal.Facts] : Prop :=
  ∀ (m : (ℓ : Loc Cert.W512RefIdeal.nD Cert.W512RefIdeal.τ Cert.W512RefIdeal.sig) → Buf (Elt Ideal) ℓ) (g : Dev Cert.W512RefIdeal.nD → PrngReg), Pre_W512RefIdeal m →
    θ_run (Cert.W512RefIdeal.defs (F := Ideal)) (onTc (τ := Cert.W512RefIdeal.τ) (Cert.W512RefIdeal.main (F := Ideal))) ⟨m, fun _ => 0, g⟩ (fun r => (∀ c : Dev Cert.W512RefIdeal.nD,
      r.2.mem ((c.tc : Thread Cert.W512RefIdeal.nD Cert.W512RefIdeal.τ).loc Cert.W512RefIdeal.main_arg0) = m ((c.tc : Thread Cert.W512RefIdeal.nD Cert.W512RefIdeal.τ).loc Cert.W512RefIdeal.main_arg0)
      ∧ r.2.mem ((c.tc : Thread Cert.W512RefIdeal.nD Cert.W512RefIdeal.τ).loc Cert.W512RefIdeal.main_arg1) = m ((c.tc : Thread Cert.W512RefIdeal.nD Cert.W512RefIdeal.τ).loc Cert.W512RefIdeal.main_arg1))
      ∧ r.2.sem = fun _ => 0)

def quiescent_W1152 [hW1152 : Cert.W1152.Facts] : Prop :=
  ∀ (m : (ℓ : Loc Cert.W1152.nD Cert.W1152.τ Cert.W1152.sig) → Buf (Elt Bits) ℓ) (g : Dev Cert.W1152.nD → PrngReg), Pre_W1152 m →
    θ_run (Cert.W1152.defs (F := Bits)) (onTc (τ := Cert.W1152.τ) (Cert.W1152.main (F := Bits))) ⟨m, fun _ => 0, g⟩ (fun r => (∀ c : Dev Cert.W1152.nD,
      r.2.mem ((c.tc : Thread Cert.W1152.nD Cert.W1152.τ).loc Cert.W1152.main_arg0) = m ((c.tc : Thread Cert.W1152.nD Cert.W1152.τ).loc Cert.W1152.main_arg0)
      ∧ r.2.mem ((c.tc : Thread Cert.W1152.nD Cert.W1152.τ).loc Cert.W1152.main_arg1) = m ((c.tc : Thread Cert.W1152.nD Cert.W1152.τ).loc Cert.W1152.main_arg1))
      ∧ r.2.sem = fun _ => 0)

def quiescent_W1152Ideal [hW1152Ideal : Cert.W1152Ideal.Facts] : Prop :=
  ∀ (m : (ℓ : Loc Cert.W1152Ideal.nD Cert.W1152Ideal.τ Cert.W1152Ideal.sig) → Buf (Elt Ideal) ℓ) (g : Dev Cert.W1152Ideal.nD → PrngReg), Pre_W1152Ideal m →
    θ_run (Cert.W1152Ideal.defs (F := Ideal)) (onTc (τ := Cert.W1152Ideal.τ) (Cert.W1152Ideal.main (F := Ideal))) ⟨m, fun _ => 0, g⟩ (fun r => (∀ c : Dev Cert.W1152Ideal.nD,
      r.2.mem ((c.tc : Thread Cert.W1152Ideal.nD Cert.W1152Ideal.τ).loc Cert.W1152Ideal.main_arg0) = m ((c.tc : Thread Cert.W1152Ideal.nD Cert.W1152Ideal.τ).loc Cert.W1152Ideal.main_arg0)
      ∧ r.2.mem ((c.tc : Thread Cert.W1152Ideal.nD Cert.W1152Ideal.τ).loc Cert.W1152Ideal.main_arg1) = m ((c.tc : Thread Cert.W1152Ideal.nD Cert.W1152Ideal.τ).loc Cert.W1152Ideal.main_arg1))
      ∧ r.2.sem = fun _ => 0)

def quiescent_W1152RefIdeal [hW1152RefIdeal : Cert.W1152RefIdeal.Facts] : Prop :=
  ∀ (m : (ℓ : Loc Cert.W1152RefIdeal.nD Cert.W1152RefIdeal.τ Cert.W1152RefIdeal.sig) → Buf (Elt Ideal) ℓ) (g : Dev Cert.W1152RefIdeal.nD → PrngReg), Pre_W1152RefIdeal m →
    θ_run (Cert.W1152RefIdeal.defs (F := Ideal)) (onTc (τ := Cert.W1152RefIdeal.τ) (Cert.W1152RefIdeal.main (F := Ideal))) ⟨m, fun _ => 0, g⟩ (fun r => (∀ c : Dev Cert.W1152RefIdeal.nD,
      r.2.mem ((c.tc : Thread Cert.W1152RefIdeal.nD Cert.W1152RefIdeal.τ).loc Cert.W1152RefIdeal.main_arg0) = m ((c.tc : Thread Cert.W1152RefIdeal.nD Cert.W1152RefIdeal.τ).loc Cert.W1152RefIdeal.main_arg0)
      ∧ r.2.mem ((c.tc : Thread Cert.W1152RefIdeal.nD Cert.W1152RefIdeal.τ).loc Cert.W1152RefIdeal.main_arg1) = m ((c.tc : Thread Cert.W1152RefIdeal.nD Cert.W1152RefIdeal.τ).loc Cert.W1152RefIdeal.main_arg1))
      ∧ r.2.sem = fun _ => 0)

def quiescent_UpdMlpOut [hUpdMlpOut : Cert.UpdMlpOut.Facts] : Prop :=
  ∀ (m : (ℓ : Loc Cert.UpdMlpOut.nD Cert.UpdMlpOut.τ Cert.UpdMlpOut.sig) → Buf (Elt Bits) ℓ) (g : Dev Cert.UpdMlpOut.nD → PrngReg), Pre_UpdMlpOut m →
    θ_run (Cert.UpdMlpOut.defs (F := Bits)) (onTc (τ := Cert.UpdMlpOut.τ) (Cert.UpdMlpOut.main (F := Bits))) ⟨m, fun _ => 0, g⟩ (fun r => (∀ c : Dev Cert.UpdMlpOut.nD,
      r.2.mem ((c.tc : Thread Cert.UpdMlpOut.nD Cert.UpdMlpOut.τ).loc Cert.UpdMlpOut.main_arg0) = m ((c.tc : Thread Cert.UpdMlpOut.nD Cert.UpdMlpOut.τ).loc Cert.UpdMlpOut.main_arg0)
      ∧ r.2.mem ((c.tc : Thread Cert.UpdMlpOut.nD Cert.UpdMlpOut.τ).loc Cert.UpdMlpOut.main_arg1) = m ((c.tc : Thread Cert.UpdMlpOut.nD Cert.UpdMlpOut.τ).loc Cert.UpdMlpOut.main_arg1)
      ∧ r.2.mem ((c.tc : Thread Cert.UpdMlpOut.nD Cert.UpdMlpOut.τ).loc Cert.UpdMlpOut.main_arg2) = m ((c.tc : Thread Cert.UpdMlpOut.nD Cert.UpdMlpOut.τ).loc Cert.UpdMlpOut.main_arg2)
      ∧ r.2.mem ((c.tc : Thread Cert.UpdMlpOut.nD Cert.UpdMlpOut.τ).loc Cert.UpdMlpOut.main_arg3) = m ((c.tc : Thread Cert.UpdMlpOut.nD Cert.UpdMlpOut.τ).loc Cert.UpdMlpOut.main_arg3))
      ∧ r.2.sem = fun _ => 0)

def quiescent_UpdMlpOutIdeal [hUpdMlpOutIdeal : Cert.UpdMlpOutIdeal.Facts] : Prop :=
  ∀ (m : (ℓ : Loc Cert.UpdMlpOutIdeal.nD Cert.UpdMlpOutIdeal.τ Cert.UpdMlpOutIdeal.sig) → Buf (Elt Ideal) ℓ) (g : Dev Cert.UpdMlpOutIdeal.nD → PrngReg), Pre_UpdMlpOutIdeal m →
    θ_run (Cert.UpdMlpOutIdeal.defs (F := Ideal)) (onTc (τ := Cert.UpdMlpOutIdeal.τ) (Cert.UpdMlpOutIdeal.main (F := Ideal))) ⟨m, fun _ => 0, g⟩ (fun r => (∀ c : Dev Cert.UpdMlpOutIdeal.nD,
      r.2.mem ((c.tc : Thread Cert.UpdMlpOutIdeal.nD Cert.UpdMlpOutIdeal.τ).loc Cert.UpdMlpOutIdeal.main_arg0) = m ((c.tc : Thread Cert.UpdMlpOutIdeal.nD Cert.UpdMlpOutIdeal.τ).loc Cert.UpdMlpOutIdeal.main_arg0)
      ∧ r.2.mem ((c.tc : Thread Cert.UpdMlpOutIdeal.nD Cert.UpdMlpOutIdeal.τ).loc Cert.UpdMlpOutIdeal.main_arg1) = m ((c.tc : Thread Cert.UpdMlpOutIdeal.nD Cert.UpdMlpOutIdeal.τ).loc Cert.UpdMlpOutIdeal.main_arg1)
      ∧ r.2.mem ((c.tc : Thread Cert.UpdMlpOutIdeal.nD Cert.UpdMlpOutIdeal.τ).loc Cert.UpdMlpOutIdeal.main_arg2) = m ((c.tc : Thread Cert.UpdMlpOutIdeal.nD Cert.UpdMlpOutIdeal.τ).loc Cert.UpdMlpOutIdeal.main_arg2)
      ∧ r.2.mem ((c.tc : Thread Cert.UpdMlpOutIdeal.nD Cert.UpdMlpOutIdeal.τ).loc Cert.UpdMlpOutIdeal.main_arg3) = m ((c.tc : Thread Cert.UpdMlpOutIdeal.nD Cert.UpdMlpOutIdeal.τ).loc Cert.UpdMlpOutIdeal.main_arg3))
      ∧ r.2.sem = fun _ => 0)

def quiescent_UpdMlpOutRefIdeal [hUpdMlpOutRefIdeal : Cert.UpdMlpOutRefIdeal.Facts] : Prop :=
  ∀ (m : (ℓ : Loc Cert.UpdMlpOutRefIdeal.nD Cert.UpdMlpOutRefIdeal.τ Cert.UpdMlpOutRefIdeal.sig) → Buf (Elt Ideal) ℓ) (g : Dev Cert.UpdMlpOutRefIdeal.nD → PrngReg), Pre_UpdMlpOutRefIdeal m →
    θ_run (Cert.UpdMlpOutRefIdeal.defs (F := Ideal)) (onTc (τ := Cert.UpdMlpOutRefIdeal.τ) (Cert.UpdMlpOutRefIdeal.main (F := Ideal))) ⟨m, fun _ => 0, g⟩ (fun r => (∀ c : Dev Cert.UpdMlpOutRefIdeal.nD,
      r.2.mem ((c.tc : Thread Cert.UpdMlpOutRefIdeal.nD Cert.UpdMlpOutRefIdeal.τ).loc Cert.UpdMlpOutRefIdeal.main_arg0) = m ((c.tc : Thread Cert.UpdMlpOutRefIdeal.nD Cert.UpdMlpOutRefIdeal.τ).loc Cert.UpdMlpOutRefIdeal.main_arg0)
      ∧ r.2.mem ((c.tc : Thread Cert.UpdMlpOutRefIdeal.nD Cert.UpdMlpOutRefIdeal.τ).loc Cert.UpdMlpOutRefIdeal.main_arg1) = m ((c.tc : Thread Cert.UpdMlpOutRefIdeal.nD Cert.UpdMlpOutRefIdeal.τ).loc Cert.UpdMlpOutRefIdeal.main_arg1)
      ∧ r.2.mem ((c.tc : Thread Cert.UpdMlpOutRefIdeal.nD Cert.UpdMlpOutRefIdeal.τ).loc Cert.UpdMlpOutRefIdeal.main_arg2) = m ((c.tc : Thread Cert.UpdMlpOutRefIdeal.nD Cert.UpdMlpOutRefIdeal.τ).loc Cert.UpdMlpOutRefIdeal.main_arg2)
      ∧ r.2.mem ((c.tc : Thread Cert.UpdMlpOutRefIdeal.nD Cert.UpdMlpOutRefIdeal.τ).loc Cert.UpdMlpOutRefIdeal.main_arg3) = m ((c.tc : Thread Cert.UpdMlpOutRefIdeal.nD Cert.UpdMlpOutRefIdeal.τ).loc Cert.UpdMlpOutRefIdeal.main_arg3))
      ∧ r.2.sem = fun _ => 0)

def quiescent_UpdMlpIn [hUpdMlpIn : Cert.UpdMlpIn.Facts] : Prop :=
  ∀ (m : (ℓ : Loc Cert.UpdMlpIn.nD Cert.UpdMlpIn.τ Cert.UpdMlpIn.sig) → Buf (Elt Bits) ℓ) (g : Dev Cert.UpdMlpIn.nD → PrngReg), Pre_UpdMlpIn m →
    θ_run (Cert.UpdMlpIn.defs (F := Bits)) (onTc (τ := Cert.UpdMlpIn.τ) (Cert.UpdMlpIn.main (F := Bits))) ⟨m, fun _ => 0, g⟩ (fun r => (∀ c : Dev Cert.UpdMlpIn.nD,
      r.2.mem ((c.tc : Thread Cert.UpdMlpIn.nD Cert.UpdMlpIn.τ).loc Cert.UpdMlpIn.main_arg0) = m ((c.tc : Thread Cert.UpdMlpIn.nD Cert.UpdMlpIn.τ).loc Cert.UpdMlpIn.main_arg0)
      ∧ r.2.mem ((c.tc : Thread Cert.UpdMlpIn.nD Cert.UpdMlpIn.τ).loc Cert.UpdMlpIn.main_arg1) = m ((c.tc : Thread Cert.UpdMlpIn.nD Cert.UpdMlpIn.τ).loc Cert.UpdMlpIn.main_arg1)
      ∧ r.2.mem ((c.tc : Thread Cert.UpdMlpIn.nD Cert.UpdMlpIn.τ).loc Cert.UpdMlpIn.main_arg2) = m ((c.tc : Thread Cert.UpdMlpIn.nD Cert.UpdMlpIn.τ).loc Cert.UpdMlpIn.main_arg2)
      ∧ r.2.mem ((c.tc : Thread Cert.UpdMlpIn.nD Cert.UpdMlpIn.τ).loc Cert.UpdMlpIn.main_arg3) = m ((c.tc : Thread Cert.UpdMlpIn.nD Cert.UpdMlpIn.τ).loc Cert.UpdMlpIn.main_arg3))
      ∧ r.2.sem = fun _ => 0)

def quiescent_UpdMlpInIdeal [hUpdMlpInIdeal : Cert.UpdMlpInIdeal.Facts] : Prop :=
  ∀ (m : (ℓ : Loc Cert.UpdMlpInIdeal.nD Cert.UpdMlpInIdeal.τ Cert.UpdMlpInIdeal.sig) → Buf (Elt Ideal) ℓ) (g : Dev Cert.UpdMlpInIdeal.nD → PrngReg), Pre_UpdMlpInIdeal m →
    θ_run (Cert.UpdMlpInIdeal.defs (F := Ideal)) (onTc (τ := Cert.UpdMlpInIdeal.τ) (Cert.UpdMlpInIdeal.main (F := Ideal))) ⟨m, fun _ => 0, g⟩ (fun r => (∀ c : Dev Cert.UpdMlpInIdeal.nD,
      r.2.mem ((c.tc : Thread Cert.UpdMlpInIdeal.nD Cert.UpdMlpInIdeal.τ).loc Cert.UpdMlpInIdeal.main_arg0) = m ((c.tc : Thread Cert.UpdMlpInIdeal.nD Cert.UpdMlpInIdeal.τ).loc Cert.UpdMlpInIdeal.main_arg0)
      ∧ r.2.mem ((c.tc : Thread Cert.UpdMlpInIdeal.nD Cert.UpdMlpInIdeal.τ).loc Cert.UpdMlpInIdeal.main_arg1) = m ((c.tc : Thread Cert.UpdMlpInIdeal.nD Cert.UpdMlpInIdeal.τ).loc Cert.UpdMlpInIdeal.main_arg1)
      ∧ r.2.mem ((c.tc : Thread Cert.UpdMlpInIdeal.nD Cert.UpdMlpInIdeal.τ).loc Cert.UpdMlpInIdeal.main_arg2) = m ((c.tc : Thread Cert.UpdMlpInIdeal.nD Cert.UpdMlpInIdeal.τ).loc Cert.UpdMlpInIdeal.main_arg2)
      ∧ r.2.mem ((c.tc : Thread Cert.UpdMlpInIdeal.nD Cert.UpdMlpInIdeal.τ).loc Cert.UpdMlpInIdeal.main_arg3) = m ((c.tc : Thread Cert.UpdMlpInIdeal.nD Cert.UpdMlpInIdeal.τ).loc Cert.UpdMlpInIdeal.main_arg3))
      ∧ r.2.sem = fun _ => 0)

def quiescent_UpdMlpInRefIdeal [hUpdMlpInRefIdeal : Cert.UpdMlpInRefIdeal.Facts] : Prop :=
  ∀ (m : (ℓ : Loc Cert.UpdMlpInRefIdeal.nD Cert.UpdMlpInRefIdeal.τ Cert.UpdMlpInRefIdeal.sig) → Buf (Elt Ideal) ℓ) (g : Dev Cert.UpdMlpInRefIdeal.nD → PrngReg), Pre_UpdMlpInRefIdeal m →
    θ_run (Cert.UpdMlpInRefIdeal.defs (F := Ideal)) (onTc (τ := Cert.UpdMlpInRefIdeal.τ) (Cert.UpdMlpInRefIdeal.main (F := Ideal))) ⟨m, fun _ => 0, g⟩ (fun r => (∀ c : Dev Cert.UpdMlpInRefIdeal.nD,
      r.2.mem ((c.tc : Thread Cert.UpdMlpInRefIdeal.nD Cert.UpdMlpInRefIdeal.τ).loc Cert.UpdMlpInRefIdeal.main_arg0) = m ((c.tc : Thread Cert.UpdMlpInRefIdeal.nD Cert.UpdMlpInRefIdeal.τ).loc Cert.UpdMlpInRefIdeal.main_arg0)
      ∧ r.2.mem ((c.tc : Thread Cert.UpdMlpInRefIdeal.nD Cert.UpdMlpInRefIdeal.τ).loc Cert.UpdMlpInRefIdeal.main_arg1) = m ((c.tc : Thread Cert.UpdMlpInRefIdeal.nD Cert.UpdMlpInRefIdeal.τ).loc Cert.UpdMlpInRefIdeal.main_arg1)
      ∧ r.2.mem ((c.tc : Thread Cert.UpdMlpInRefIdeal.nD Cert.UpdMlpInRefIdeal.τ).loc Cert.UpdMlpInRefIdeal.main_arg2) = m ((c.tc : Thread Cert.UpdMlpInRefIdeal.nD Cert.UpdMlpInRefIdeal.τ).loc Cert.UpdMlpInRefIdeal.main_arg2)
      ∧ r.2.mem ((c.tc : Thread Cert.UpdMlpInRefIdeal.nD Cert.UpdMlpInRefIdeal.τ).loc Cert.UpdMlpInRefIdeal.main_arg3) = m ((c.tc : Thread Cert.UpdMlpInRefIdeal.nD Cert.UpdMlpInRefIdeal.τ).loc Cert.UpdMlpInRefIdeal.main_arg3))
      ∧ r.2.sem = fun _ => 0)

def quiescent_UpdOut [hUpdOut : Cert.UpdOut.Facts] : Prop :=
  ∀ (m : (ℓ : Loc Cert.UpdOut.nD Cert.UpdOut.τ Cert.UpdOut.sig) → Buf (Elt Bits) ℓ) (g : Dev Cert.UpdOut.nD → PrngReg), Pre_UpdOut m →
    θ_run (Cert.UpdOut.defs (F := Bits)) (onTc (τ := Cert.UpdOut.τ) (Cert.UpdOut.main (F := Bits))) ⟨m, fun _ => 0, g⟩ (fun r => (∀ c : Dev Cert.UpdOut.nD,
      r.2.mem ((c.tc : Thread Cert.UpdOut.nD Cert.UpdOut.τ).loc Cert.UpdOut.main_arg0) = m ((c.tc : Thread Cert.UpdOut.nD Cert.UpdOut.τ).loc Cert.UpdOut.main_arg0)
      ∧ r.2.mem ((c.tc : Thread Cert.UpdOut.nD Cert.UpdOut.τ).loc Cert.UpdOut.main_arg1) = m ((c.tc : Thread Cert.UpdOut.nD Cert.UpdOut.τ).loc Cert.UpdOut.main_arg1)
      ∧ r.2.mem ((c.tc : Thread Cert.UpdOut.nD Cert.UpdOut.τ).loc Cert.UpdOut.main_arg2) = m ((c.tc : Thread Cert.UpdOut.nD Cert.UpdOut.τ).loc Cert.UpdOut.main_arg2)
      ∧ r.2.mem ((c.tc : Thread Cert.UpdOut.nD Cert.UpdOut.τ).loc Cert.UpdOut.main_arg3) = m ((c.tc : Thread Cert.UpdOut.nD Cert.UpdOut.τ).loc Cert.UpdOut.main_arg3))
      ∧ r.2.sem = fun _ => 0)

def quiescent_UpdOutIdeal [hUpdOutIdeal : Cert.UpdOutIdeal.Facts] : Prop :=
  ∀ (m : (ℓ : Loc Cert.UpdOutIdeal.nD Cert.UpdOutIdeal.τ Cert.UpdOutIdeal.sig) → Buf (Elt Ideal) ℓ) (g : Dev Cert.UpdOutIdeal.nD → PrngReg), Pre_UpdOutIdeal m →
    θ_run (Cert.UpdOutIdeal.defs (F := Ideal)) (onTc (τ := Cert.UpdOutIdeal.τ) (Cert.UpdOutIdeal.main (F := Ideal))) ⟨m, fun _ => 0, g⟩ (fun r => (∀ c : Dev Cert.UpdOutIdeal.nD,
      r.2.mem ((c.tc : Thread Cert.UpdOutIdeal.nD Cert.UpdOutIdeal.τ).loc Cert.UpdOutIdeal.main_arg0) = m ((c.tc : Thread Cert.UpdOutIdeal.nD Cert.UpdOutIdeal.τ).loc Cert.UpdOutIdeal.main_arg0)
      ∧ r.2.mem ((c.tc : Thread Cert.UpdOutIdeal.nD Cert.UpdOutIdeal.τ).loc Cert.UpdOutIdeal.main_arg1) = m ((c.tc : Thread Cert.UpdOutIdeal.nD Cert.UpdOutIdeal.τ).loc Cert.UpdOutIdeal.main_arg1)
      ∧ r.2.mem ((c.tc : Thread Cert.UpdOutIdeal.nD Cert.UpdOutIdeal.τ).loc Cert.UpdOutIdeal.main_arg2) = m ((c.tc : Thread Cert.UpdOutIdeal.nD Cert.UpdOutIdeal.τ).loc Cert.UpdOutIdeal.main_arg2)
      ∧ r.2.mem ((c.tc : Thread Cert.UpdOutIdeal.nD Cert.UpdOutIdeal.τ).loc Cert.UpdOutIdeal.main_arg3) = m ((c.tc : Thread Cert.UpdOutIdeal.nD Cert.UpdOutIdeal.τ).loc Cert.UpdOutIdeal.main_arg3))
      ∧ r.2.sem = fun _ => 0)

def quiescent_UpdOutRefIdeal [hUpdOutRefIdeal : Cert.UpdOutRefIdeal.Facts] : Prop :=
  ∀ (m : (ℓ : Loc Cert.UpdOutRefIdeal.nD Cert.UpdOutRefIdeal.τ Cert.UpdOutRefIdeal.sig) → Buf (Elt Ideal) ℓ) (g : Dev Cert.UpdOutRefIdeal.nD → PrngReg), Pre_UpdOutRefIdeal m →
    θ_run (Cert.UpdOutRefIdeal.defs (F := Ideal)) (onTc (τ := Cert.UpdOutRefIdeal.τ) (Cert.UpdOutRefIdeal.main (F := Ideal))) ⟨m, fun _ => 0, g⟩ (fun r => (∀ c : Dev Cert.UpdOutRefIdeal.nD,
      r.2.mem ((c.tc : Thread Cert.UpdOutRefIdeal.nD Cert.UpdOutRefIdeal.τ).loc Cert.UpdOutRefIdeal.main_arg0) = m ((c.tc : Thread Cert.UpdOutRefIdeal.nD Cert.UpdOutRefIdeal.τ).loc Cert.UpdOutRefIdeal.main_arg0)
      ∧ r.2.mem ((c.tc : Thread Cert.UpdOutRefIdeal.nD Cert.UpdOutRefIdeal.τ).loc Cert.UpdOutRefIdeal.main_arg1) = m ((c.tc : Thread Cert.UpdOutRefIdeal.nD Cert.UpdOutRefIdeal.τ).loc Cert.UpdOutRefIdeal.main_arg1)
      ∧ r.2.mem ((c.tc : Thread Cert.UpdOutRefIdeal.nD Cert.UpdOutRefIdeal.τ).loc Cert.UpdOutRefIdeal.main_arg2) = m ((c.tc : Thread Cert.UpdOutRefIdeal.nD Cert.UpdOutRefIdeal.τ).loc Cert.UpdOutRefIdeal.main_arg2)
      ∧ r.2.mem ((c.tc : Thread Cert.UpdOutRefIdeal.nD Cert.UpdOutRefIdeal.τ).loc Cert.UpdOutRefIdeal.main_arg3) = m ((c.tc : Thread Cert.UpdOutRefIdeal.nD Cert.UpdOutRefIdeal.τ).loc Cert.UpdOutRefIdeal.main_arg3))
      ∧ r.2.sem = fun _ => 0)

def quiescent_UpdBranch [hUpdBranch : Cert.UpdBranch.Facts] : Prop :=
  ∀ (m : (ℓ : Loc Cert.UpdBranch.nD Cert.UpdBranch.τ Cert.UpdBranch.sig) → Buf (Elt Bits) ℓ) (g : Dev Cert.UpdBranch.nD → PrngReg), Pre_UpdBranch m →
    θ_run (Cert.UpdBranch.defs (F := Bits)) (onTc (τ := Cert.UpdBranch.τ) (Cert.UpdBranch.main (F := Bits))) ⟨m, fun _ => 0, g⟩ (fun r => (∀ c : Dev Cert.UpdBranch.nD,
      r.2.mem ((c.tc : Thread Cert.UpdBranch.nD Cert.UpdBranch.τ).loc Cert.UpdBranch.main_arg0) = m ((c.tc : Thread Cert.UpdBranch.nD Cert.UpdBranch.τ).loc Cert.UpdBranch.main_arg0)
      ∧ r.2.mem ((c.tc : Thread Cert.UpdBranch.nD Cert.UpdBranch.τ).loc Cert.UpdBranch.main_arg1) = m ((c.tc : Thread Cert.UpdBranch.nD Cert.UpdBranch.τ).loc Cert.UpdBranch.main_arg1)
      ∧ r.2.mem ((c.tc : Thread Cert.UpdBranch.nD Cert.UpdBranch.τ).loc Cert.UpdBranch.main_arg2) = m ((c.tc : Thread Cert.UpdBranch.nD Cert.UpdBranch.τ).loc Cert.UpdBranch.main_arg2)
      ∧ r.2.mem ((c.tc : Thread Cert.UpdBranch.nD Cert.UpdBranch.τ).loc Cert.UpdBranch.main_arg3) = m ((c.tc : Thread Cert.UpdBranch.nD Cert.UpdBranch.τ).loc Cert.UpdBranch.main_arg3))
      ∧ r.2.sem = fun _ => 0)

def quiescent_UpdBranchIdeal [hUpdBranchIdeal : Cert.UpdBranchIdeal.Facts] : Prop :=
  ∀ (m : (ℓ : Loc Cert.UpdBranchIdeal.nD Cert.UpdBranchIdeal.τ Cert.UpdBranchIdeal.sig) → Buf (Elt Ideal) ℓ) (g : Dev Cert.UpdBranchIdeal.nD → PrngReg), Pre_UpdBranchIdeal m →
    θ_run (Cert.UpdBranchIdeal.defs (F := Ideal)) (onTc (τ := Cert.UpdBranchIdeal.τ) (Cert.UpdBranchIdeal.main (F := Ideal))) ⟨m, fun _ => 0, g⟩ (fun r => (∀ c : Dev Cert.UpdBranchIdeal.nD,
      r.2.mem ((c.tc : Thread Cert.UpdBranchIdeal.nD Cert.UpdBranchIdeal.τ).loc Cert.UpdBranchIdeal.main_arg0) = m ((c.tc : Thread Cert.UpdBranchIdeal.nD Cert.UpdBranchIdeal.τ).loc Cert.UpdBranchIdeal.main_arg0)
      ∧ r.2.mem ((c.tc : Thread Cert.UpdBranchIdeal.nD Cert.UpdBranchIdeal.τ).loc Cert.UpdBranchIdeal.main_arg1) = m ((c.tc : Thread Cert.UpdBranchIdeal.nD Cert.UpdBranchIdeal.τ).loc Cert.UpdBranchIdeal.main_arg1)
      ∧ r.2.mem ((c.tc : Thread Cert.UpdBranchIdeal.nD Cert.UpdBranchIdeal.τ).loc Cert.UpdBranchIdeal.main_arg2) = m ((c.tc : Thread Cert.UpdBranchIdeal.nD Cert.UpdBranchIdeal.τ).loc Cert.UpdBranchIdeal.main_arg2)
      ∧ r.2.mem ((c.tc : Thread Cert.UpdBranchIdeal.nD Cert.UpdBranchIdeal.τ).loc Cert.UpdBranchIdeal.main_arg3) = m ((c.tc : Thread Cert.UpdBranchIdeal.nD Cert.UpdBranchIdeal.τ).loc Cert.UpdBranchIdeal.main_arg3))
      ∧ r.2.sem = fun _ => 0)

def quiescent_UpdBranchRefIdeal [hUpdBranchRefIdeal : Cert.UpdBranchRefIdeal.Facts] : Prop :=
  ∀ (m : (ℓ : Loc Cert.UpdBranchRefIdeal.nD Cert.UpdBranchRefIdeal.τ Cert.UpdBranchRefIdeal.sig) → Buf (Elt Ideal) ℓ) (g : Dev Cert.UpdBranchRefIdeal.nD → PrngReg), Pre_UpdBranchRefIdeal m →
    θ_run (Cert.UpdBranchRefIdeal.defs (F := Ideal)) (onTc (τ := Cert.UpdBranchRefIdeal.τ) (Cert.UpdBranchRefIdeal.main (F := Ideal))) ⟨m, fun _ => 0, g⟩ (fun r => (∀ c : Dev Cert.UpdBranchRefIdeal.nD,
      r.2.mem ((c.tc : Thread Cert.UpdBranchRefIdeal.nD Cert.UpdBranchRefIdeal.τ).loc Cert.UpdBranchRefIdeal.main_arg0) = m ((c.tc : Thread Cert.UpdBranchRefIdeal.nD Cert.UpdBranchRefIdeal.τ).loc Cert.UpdBranchRefIdeal.main_arg0)
      ∧ r.2.mem ((c.tc : Thread Cert.UpdBranchRefIdeal.nD Cert.UpdBranchRefIdeal.τ).loc Cert.UpdBranchRefIdeal.main_arg1) = m ((c.tc : Thread Cert.UpdBranchRefIdeal.nD Cert.UpdBranchRefIdeal.τ).loc Cert.UpdBranchRefIdeal.main_arg1)
      ∧ r.2.mem ((c.tc : Thread Cert.UpdBranchRefIdeal.nD Cert.UpdBranchRefIdeal.τ).loc Cert.UpdBranchRefIdeal.main_arg2) = m ((c.tc : Thread Cert.UpdBranchRefIdeal.nD Cert.UpdBranchRefIdeal.τ).loc Cert.UpdBranchRefIdeal.main_arg2)
      ∧ r.2.mem ((c.tc : Thread Cert.UpdBranchRefIdeal.nD Cert.UpdBranchRefIdeal.τ).loc Cert.UpdBranchRefIdeal.main_arg3) = m ((c.tc : Thread Cert.UpdBranchRefIdeal.nD Cert.UpdBranchRefIdeal.τ).loc Cert.UpdBranchRefIdeal.main_arg3))
      ∧ r.2.sem = fun _ => 0)

def quiescent_UpdGlu [hUpdGlu : Cert.UpdGlu.Facts] : Prop :=
  ∀ (m : (ℓ : Loc Cert.UpdGlu.nD Cert.UpdGlu.τ Cert.UpdGlu.sig) → Buf (Elt Bits) ℓ) (g : Dev Cert.UpdGlu.nD → PrngReg), Pre_UpdGlu m →
    θ_run (Cert.UpdGlu.defs (F := Bits)) (onTc (τ := Cert.UpdGlu.τ) (Cert.UpdGlu.main (F := Bits))) ⟨m, fun _ => 0, g⟩ (fun r => (∀ c : Dev Cert.UpdGlu.nD,
      r.2.mem ((c.tc : Thread Cert.UpdGlu.nD Cert.UpdGlu.τ).loc Cert.UpdGlu.main_arg0) = m ((c.tc : Thread Cert.UpdGlu.nD Cert.UpdGlu.τ).loc Cert.UpdGlu.main_arg0)
      ∧ r.2.mem ((c.tc : Thread Cert.UpdGlu.nD Cert.UpdGlu.τ).loc Cert.UpdGlu.main_arg1) = m ((c.tc : Thread Cert.UpdGlu.nD Cert.UpdGlu.τ).loc Cert.UpdGlu.main_arg1)
      ∧ r.2.mem ((c.tc : Thread Cert.UpdGlu.nD Cert.UpdGlu.τ).loc Cert.UpdGlu.main_arg2) = m ((c.tc : Thread Cert.UpdGlu.nD Cert.UpdGlu.τ).loc Cert.UpdGlu.main_arg2)
      ∧ r.2.mem ((c.tc : Thread Cert.UpdGlu.nD Cert.UpdGlu.τ).loc Cert.UpdGlu.main_arg3) = m ((c.tc : Thread Cert.UpdGlu.nD Cert.UpdGlu.τ).loc Cert.UpdGlu.main_arg3))
      ∧ r.2.sem = fun _ => 0)

def quiescent_UpdGluIdeal [hUpdGluIdeal : Cert.UpdGluIdeal.Facts] : Prop :=
  ∀ (m : (ℓ : Loc Cert.UpdGluIdeal.nD Cert.UpdGluIdeal.τ Cert.UpdGluIdeal.sig) → Buf (Elt Ideal) ℓ) (g : Dev Cert.UpdGluIdeal.nD → PrngReg), Pre_UpdGluIdeal m →
    θ_run (Cert.UpdGluIdeal.defs (F := Ideal)) (onTc (τ := Cert.UpdGluIdeal.τ) (Cert.UpdGluIdeal.main (F := Ideal))) ⟨m, fun _ => 0, g⟩ (fun r => (∀ c : Dev Cert.UpdGluIdeal.nD,
      r.2.mem ((c.tc : Thread Cert.UpdGluIdeal.nD Cert.UpdGluIdeal.τ).loc Cert.UpdGluIdeal.main_arg0) = m ((c.tc : Thread Cert.UpdGluIdeal.nD Cert.UpdGluIdeal.τ).loc Cert.UpdGluIdeal.main_arg0)
      ∧ r.2.mem ((c.tc : Thread Cert.UpdGluIdeal.nD Cert.UpdGluIdeal.τ).loc Cert.UpdGluIdeal.main_arg1) = m ((c.tc : Thread Cert.UpdGluIdeal.nD Cert.UpdGluIdeal.τ).loc Cert.UpdGluIdeal.main_arg1)
      ∧ r.2.mem ((c.tc : Thread Cert.UpdGluIdeal.nD Cert.UpdGluIdeal.τ).loc Cert.UpdGluIdeal.main_arg2) = m ((c.tc : Thread Cert.UpdGluIdeal.nD Cert.UpdGluIdeal.τ).loc Cert.UpdGluIdeal.main_arg2)
      ∧ r.2.mem ((c.tc : Thread Cert.UpdGluIdeal.nD Cert.UpdGluIdeal.τ).loc Cert.UpdGluIdeal.main_arg3) = m ((c.tc : Thread Cert.UpdGluIdeal.nD Cert.UpdGluIdeal.τ).loc Cert.UpdGluIdeal.main_arg3))
      ∧ r.2.sem = fun _ => 0)

def quiescent_UpdGluRefIdeal [hUpdGluRefIdeal : Cert.UpdGluRefIdeal.Facts] : Prop :=
  ∀ (m : (ℓ : Loc Cert.UpdGluRefIdeal.nD Cert.UpdGluRefIdeal.τ Cert.UpdGluRefIdeal.sig) → Buf (Elt Ideal) ℓ) (g : Dev Cert.UpdGluRefIdeal.nD → PrngReg), Pre_UpdGluRefIdeal m →
    θ_run (Cert.UpdGluRefIdeal.defs (F := Ideal)) (onTc (τ := Cert.UpdGluRefIdeal.τ) (Cert.UpdGluRefIdeal.main (F := Ideal))) ⟨m, fun _ => 0, g⟩ (fun r => (∀ c : Dev Cert.UpdGluRefIdeal.nD,
      r.2.mem ((c.tc : Thread Cert.UpdGluRefIdeal.nD Cert.UpdGluRefIdeal.τ).loc Cert.UpdGluRefIdeal.main_arg0) = m ((c.tc : Thread Cert.UpdGluRefIdeal.nD Cert.UpdGluRefIdeal.τ).loc Cert.UpdGluRefIdeal.main_arg0)
      ∧ r.2.mem ((c.tc : Thread Cert.UpdGluRefIdeal.nD Cert.UpdGluRefIdeal.τ).loc Cert.UpdGluRefIdeal.main_arg1) = m ((c.tc : Thread Cert.UpdGluRefIdeal.nD Cert.UpdGluRefIdeal.τ).loc Cert.UpdGluRefIdeal.main_arg1)
      ∧ r.2.mem ((c.tc : Thread Cert.UpdGluRefIdeal.nD Cert.UpdGluRefIdeal.τ).loc Cert.UpdGluRefIdeal.main_arg2) = m ((c.tc : Thread Cert.UpdGluRefIdeal.nD Cert.UpdGluRefIdeal.τ).loc Cert.UpdGluRefIdeal.main_arg2)
      ∧ r.2.mem ((c.tc : Thread Cert.UpdGluRefIdeal.nD Cert.UpdGluRefIdeal.τ).loc Cert.UpdGluRefIdeal.main_arg3) = m ((c.tc : Thread Cert.UpdGluRefIdeal.nD Cert.UpdGluRefIdeal.τ).loc Cert.UpdGluRefIdeal.main_arg3))
      ∧ r.2.sem = fun _ => 0)

def quiescent_UpdIn [hUpdIn : Cert.UpdIn.Facts] : Prop :=
  ∀ (m : (ℓ : Loc Cert.UpdIn.nD Cert.UpdIn.τ Cert.UpdIn.sig) → Buf (Elt Bits) ℓ) (g : Dev Cert.UpdIn.nD → PrngReg), Pre_UpdIn m →
    θ_run (Cert.UpdIn.defs (F := Bits)) (onTc (τ := Cert.UpdIn.τ) (Cert.UpdIn.main (F := Bits))) ⟨m, fun _ => 0, g⟩ (fun r => (∀ c : Dev Cert.UpdIn.nD,
      r.2.mem ((c.tc : Thread Cert.UpdIn.nD Cert.UpdIn.τ).loc Cert.UpdIn.main_arg0) = m ((c.tc : Thread Cert.UpdIn.nD Cert.UpdIn.τ).loc Cert.UpdIn.main_arg0)
      ∧ r.2.mem ((c.tc : Thread Cert.UpdIn.nD Cert.UpdIn.τ).loc Cert.UpdIn.main_arg1) = m ((c.tc : Thread Cert.UpdIn.nD Cert.UpdIn.τ).loc Cert.UpdIn.main_arg1)
      ∧ r.2.mem ((c.tc : Thread Cert.UpdIn.nD Cert.UpdIn.τ).loc Cert.UpdIn.main_arg2) = m ((c.tc : Thread Cert.UpdIn.nD Cert.UpdIn.τ).loc Cert.UpdIn.main_arg2)
      ∧ r.2.mem ((c.tc : Thread Cert.UpdIn.nD Cert.UpdIn.τ).loc Cert.UpdIn.main_arg3) = m ((c.tc : Thread Cert.UpdIn.nD Cert.UpdIn.τ).loc Cert.UpdIn.main_arg3))
      ∧ r.2.sem = fun _ => 0)

def quiescent_UpdInIdeal [hUpdInIdeal : Cert.UpdInIdeal.Facts] : Prop :=
  ∀ (m : (ℓ : Loc Cert.UpdInIdeal.nD Cert.UpdInIdeal.τ Cert.UpdInIdeal.sig) → Buf (Elt Ideal) ℓ) (g : Dev Cert.UpdInIdeal.nD → PrngReg), Pre_UpdInIdeal m →
    θ_run (Cert.UpdInIdeal.defs (F := Ideal)) (onTc (τ := Cert.UpdInIdeal.τ) (Cert.UpdInIdeal.main (F := Ideal))) ⟨m, fun _ => 0, g⟩ (fun r => (∀ c : Dev Cert.UpdInIdeal.nD,
      r.2.mem ((c.tc : Thread Cert.UpdInIdeal.nD Cert.UpdInIdeal.τ).loc Cert.UpdInIdeal.main_arg0) = m ((c.tc : Thread Cert.UpdInIdeal.nD Cert.UpdInIdeal.τ).loc Cert.UpdInIdeal.main_arg0)
      ∧ r.2.mem ((c.tc : Thread Cert.UpdInIdeal.nD Cert.UpdInIdeal.τ).loc Cert.UpdInIdeal.main_arg1) = m ((c.tc : Thread Cert.UpdInIdeal.nD Cert.UpdInIdeal.τ).loc Cert.UpdInIdeal.main_arg1)
      ∧ r.2.mem ((c.tc : Thread Cert.UpdInIdeal.nD Cert.UpdInIdeal.τ).loc Cert.UpdInIdeal.main_arg2) = m ((c.tc : Thread Cert.UpdInIdeal.nD Cert.UpdInIdeal.τ).loc Cert.UpdInIdeal.main_arg2)
      ∧ r.2.mem ((c.tc : Thread Cert.UpdInIdeal.nD Cert.UpdInIdeal.τ).loc Cert.UpdInIdeal.main_arg3) = m ((c.tc : Thread Cert.UpdInIdeal.nD Cert.UpdInIdeal.τ).loc Cert.UpdInIdeal.main_arg3))
      ∧ r.2.sem = fun _ => 0)

def quiescent_UpdInRefIdeal [hUpdInRefIdeal : Cert.UpdInRefIdeal.Facts] : Prop :=
  ∀ (m : (ℓ : Loc Cert.UpdInRefIdeal.nD Cert.UpdInRefIdeal.τ Cert.UpdInRefIdeal.sig) → Buf (Elt Ideal) ℓ) (g : Dev Cert.UpdInRefIdeal.nD → PrngReg), Pre_UpdInRefIdeal m →
    θ_run (Cert.UpdInRefIdeal.defs (F := Ideal)) (onTc (τ := Cert.UpdInRefIdeal.τ) (Cert.UpdInRefIdeal.main (F := Ideal))) ⟨m, fun _ => 0, g⟩ (fun r => (∀ c : Dev Cert.UpdInRefIdeal.nD,
      r.2.mem ((c.tc : Thread Cert.UpdInRefIdeal.nD Cert.UpdInRefIdeal.τ).loc Cert.UpdInRefIdeal.main_arg0) = m ((c.tc : Thread Cert.UpdInRefIdeal.nD Cert.UpdInRefIdeal.τ).loc Cert.UpdInRefIdeal.main_arg0)
      ∧ r.2.mem ((c.tc : Thread Cert.UpdInRefIdeal.nD Cert.UpdInRefIdeal.τ).loc Cert.UpdInRefIdeal.main_arg1) = m ((c.tc : Thread Cert.UpdInRefIdeal.nD Cert.UpdInRefIdeal.τ).loc Cert.UpdInRefIdeal.main_arg1)
      ∧ r.2.mem ((c.tc : Thread Cert.UpdInRefIdeal.nD Cert.UpdInRefIdeal.τ).loc Cert.UpdInRefIdeal.main_arg2) = m ((c.tc : Thread Cert.UpdInRefIdeal.nD Cert.UpdInRefIdeal.τ).loc Cert.UpdInRefIdeal.main_arg2)
      ∧ r.2.mem ((c.tc : Thread Cert.UpdInRefIdeal.nD Cert.UpdInRefIdeal.τ).loc Cert.UpdInRefIdeal.main_arg3) = m ((c.tc : Thread Cert.UpdInRefIdeal.nD Cert.UpdInRefIdeal.τ).loc Cert.UpdInRefIdeal.main_arg3))
      ∧ r.2.sem = fun _ => 0)

def quiescent_UpdConv [hUpdConv : Cert.UpdConv.Facts] : Prop :=
  ∀ (m : (ℓ : Loc Cert.UpdConv.nD Cert.UpdConv.τ Cert.UpdConv.sig) → Buf (Elt Bits) ℓ) (g : Dev Cert.UpdConv.nD → PrngReg), Pre_UpdConv m →
    θ_run (Cert.UpdConv.defs (F := Bits)) (onTc (τ := Cert.UpdConv.τ) (Cert.UpdConv.main (F := Bits))) ⟨m, fun _ => 0, g⟩ (fun r => (∀ c : Dev Cert.UpdConv.nD,
      r.2.mem ((c.tc : Thread Cert.UpdConv.nD Cert.UpdConv.τ).loc Cert.UpdConv.main_arg0) = m ((c.tc : Thread Cert.UpdConv.nD Cert.UpdConv.τ).loc Cert.UpdConv.main_arg0)
      ∧ r.2.mem ((c.tc : Thread Cert.UpdConv.nD Cert.UpdConv.τ).loc Cert.UpdConv.main_arg1) = m ((c.tc : Thread Cert.UpdConv.nD Cert.UpdConv.τ).loc Cert.UpdConv.main_arg1)
      ∧ r.2.mem ((c.tc : Thread Cert.UpdConv.nD Cert.UpdConv.τ).loc Cert.UpdConv.main_arg2) = m ((c.tc : Thread Cert.UpdConv.nD Cert.UpdConv.τ).loc Cert.UpdConv.main_arg2)
      ∧ r.2.mem ((c.tc : Thread Cert.UpdConv.nD Cert.UpdConv.τ).loc Cert.UpdConv.main_arg3) = m ((c.tc : Thread Cert.UpdConv.nD Cert.UpdConv.τ).loc Cert.UpdConv.main_arg3))
      ∧ r.2.sem = fun _ => 0)

def quiescent_UpdConvIdeal [hUpdConvIdeal : Cert.UpdConvIdeal.Facts] : Prop :=
  ∀ (m : (ℓ : Loc Cert.UpdConvIdeal.nD Cert.UpdConvIdeal.τ Cert.UpdConvIdeal.sig) → Buf (Elt Ideal) ℓ) (g : Dev Cert.UpdConvIdeal.nD → PrngReg), Pre_UpdConvIdeal m →
    θ_run (Cert.UpdConvIdeal.defs (F := Ideal)) (onTc (τ := Cert.UpdConvIdeal.τ) (Cert.UpdConvIdeal.main (F := Ideal))) ⟨m, fun _ => 0, g⟩ (fun r => (∀ c : Dev Cert.UpdConvIdeal.nD,
      r.2.mem ((c.tc : Thread Cert.UpdConvIdeal.nD Cert.UpdConvIdeal.τ).loc Cert.UpdConvIdeal.main_arg0) = m ((c.tc : Thread Cert.UpdConvIdeal.nD Cert.UpdConvIdeal.τ).loc Cert.UpdConvIdeal.main_arg0)
      ∧ r.2.mem ((c.tc : Thread Cert.UpdConvIdeal.nD Cert.UpdConvIdeal.τ).loc Cert.UpdConvIdeal.main_arg1) = m ((c.tc : Thread Cert.UpdConvIdeal.nD Cert.UpdConvIdeal.τ).loc Cert.UpdConvIdeal.main_arg1)
      ∧ r.2.mem ((c.tc : Thread Cert.UpdConvIdeal.nD Cert.UpdConvIdeal.τ).loc Cert.UpdConvIdeal.main_arg2) = m ((c.tc : Thread Cert.UpdConvIdeal.nD Cert.UpdConvIdeal.τ).loc Cert.UpdConvIdeal.main_arg2)
      ∧ r.2.mem ((c.tc : Thread Cert.UpdConvIdeal.nD Cert.UpdConvIdeal.τ).loc Cert.UpdConvIdeal.main_arg3) = m ((c.tc : Thread Cert.UpdConvIdeal.nD Cert.UpdConvIdeal.τ).loc Cert.UpdConvIdeal.main_arg3))
      ∧ r.2.sem = fun _ => 0)

def quiescent_UpdConvRefIdeal [hUpdConvRefIdeal : Cert.UpdConvRefIdeal.Facts] : Prop :=
  ∀ (m : (ℓ : Loc Cert.UpdConvRefIdeal.nD Cert.UpdConvRefIdeal.τ Cert.UpdConvRefIdeal.sig) → Buf (Elt Ideal) ℓ) (g : Dev Cert.UpdConvRefIdeal.nD → PrngReg), Pre_UpdConvRefIdeal m →
    θ_run (Cert.UpdConvRefIdeal.defs (F := Ideal)) (onTc (τ := Cert.UpdConvRefIdeal.τ) (Cert.UpdConvRefIdeal.main (F := Ideal))) ⟨m, fun _ => 0, g⟩ (fun r => (∀ c : Dev Cert.UpdConvRefIdeal.nD,
      r.2.mem ((c.tc : Thread Cert.UpdConvRefIdeal.nD Cert.UpdConvRefIdeal.τ).loc Cert.UpdConvRefIdeal.main_arg0) = m ((c.tc : Thread Cert.UpdConvRefIdeal.nD Cert.UpdConvRefIdeal.τ).loc Cert.UpdConvRefIdeal.main_arg0)
      ∧ r.2.mem ((c.tc : Thread Cert.UpdConvRefIdeal.nD Cert.UpdConvRefIdeal.τ).loc Cert.UpdConvRefIdeal.main_arg1) = m ((c.tc : Thread Cert.UpdConvRefIdeal.nD Cert.UpdConvRefIdeal.τ).loc Cert.UpdConvRefIdeal.main_arg1)
      ∧ r.2.mem ((c.tc : Thread Cert.UpdConvRefIdeal.nD Cert.UpdConvRefIdeal.τ).loc Cert.UpdConvRefIdeal.main_arg2) = m ((c.tc : Thread Cert.UpdConvRefIdeal.nD Cert.UpdConvRefIdeal.τ).loc Cert.UpdConvRefIdeal.main_arg2)
      ∧ r.2.mem ((c.tc : Thread Cert.UpdConvRefIdeal.nD Cert.UpdConvRefIdeal.τ).loc Cert.UpdConvRefIdeal.main_arg3) = m ((c.tc : Thread Cert.UpdConvRefIdeal.nD Cert.UpdConvRefIdeal.τ).loc Cert.UpdConvRefIdeal.main_arg3))
      ∧ r.2.sem = fun _ => 0)

def quiescent_UpdS5B [hUpdS5B : Cert.UpdS5B.Facts] : Prop :=
  ∀ (m : (ℓ : Loc Cert.UpdS5B.nD Cert.UpdS5B.τ Cert.UpdS5B.sig) → Buf (Elt Bits) ℓ) (g : Dev Cert.UpdS5B.nD → PrngReg), Pre_UpdS5B m →
    θ_run (Cert.UpdS5B.defs (F := Bits)) (onTc (τ := Cert.UpdS5B.τ) (Cert.UpdS5B.main (F := Bits))) ⟨m, fun _ => 0, g⟩ (fun r => (∀ c : Dev Cert.UpdS5B.nD,
      r.2.mem ((c.tc : Thread Cert.UpdS5B.nD Cert.UpdS5B.τ).loc Cert.UpdS5B.main_arg0) = m ((c.tc : Thread Cert.UpdS5B.nD Cert.UpdS5B.τ).loc Cert.UpdS5B.main_arg0)
      ∧ r.2.mem ((c.tc : Thread Cert.UpdS5B.nD Cert.UpdS5B.τ).loc Cert.UpdS5B.main_arg1) = m ((c.tc : Thread Cert.UpdS5B.nD Cert.UpdS5B.τ).loc Cert.UpdS5B.main_arg1)
      ∧ r.2.mem ((c.tc : Thread Cert.UpdS5B.nD Cert.UpdS5B.τ).loc Cert.UpdS5B.main_arg2) = m ((c.tc : Thread Cert.UpdS5B.nD Cert.UpdS5B.τ).loc Cert.UpdS5B.main_arg2)
      ∧ r.2.mem ((c.tc : Thread Cert.UpdS5B.nD Cert.UpdS5B.τ).loc Cert.UpdS5B.main_arg3) = m ((c.tc : Thread Cert.UpdS5B.nD Cert.UpdS5B.τ).loc Cert.UpdS5B.main_arg3)
      ∧ r.2.mem ((c.tc : Thread Cert.UpdS5B.nD Cert.UpdS5B.τ).loc Cert.UpdS5B.main_arg4) = m ((c.tc : Thread Cert.UpdS5B.nD Cert.UpdS5B.τ).loc Cert.UpdS5B.main_arg4)
      ∧ r.2.mem ((c.tc : Thread Cert.UpdS5B.nD Cert.UpdS5B.τ).loc Cert.UpdS5B.main_arg5) = m ((c.tc : Thread Cert.UpdS5B.nD Cert.UpdS5B.τ).loc Cert.UpdS5B.main_arg5)
      ∧ r.2.mem ((c.tc : Thread Cert.UpdS5B.nD Cert.UpdS5B.τ).loc Cert.UpdS5B.main_arg6) = m ((c.tc : Thread Cert.UpdS5B.nD Cert.UpdS5B.τ).loc Cert.UpdS5B.main_arg6)
      ∧ r.2.mem ((c.tc : Thread Cert.UpdS5B.nD Cert.UpdS5B.τ).loc Cert.UpdS5B.main_arg7) = m ((c.tc : Thread Cert.UpdS5B.nD Cert.UpdS5B.τ).loc Cert.UpdS5B.main_arg7))
      ∧ r.2.sem = fun _ => 0)

def quiescent_UpdS5BIdeal [hUpdS5BIdeal : Cert.UpdS5BIdeal.Facts] : Prop :=
  ∀ (m : (ℓ : Loc Cert.UpdS5BIdeal.nD Cert.UpdS5BIdeal.τ Cert.UpdS5BIdeal.sig) → Buf (Elt Ideal) ℓ) (g : Dev Cert.UpdS5BIdeal.nD → PrngReg), Pre_UpdS5BIdeal m →
    θ_run (Cert.UpdS5BIdeal.defs (F := Ideal)) (onTc (τ := Cert.UpdS5BIdeal.τ) (Cert.UpdS5BIdeal.main (F := Ideal))) ⟨m, fun _ => 0, g⟩ (fun r => (∀ c : Dev Cert.UpdS5BIdeal.nD,
      r.2.mem ((c.tc : Thread Cert.UpdS5BIdeal.nD Cert.UpdS5BIdeal.τ).loc Cert.UpdS5BIdeal.main_arg0) = m ((c.tc : Thread Cert.UpdS5BIdeal.nD Cert.UpdS5BIdeal.τ).loc Cert.UpdS5BIdeal.main_arg0)
      ∧ r.2.mem ((c.tc : Thread Cert.UpdS5BIdeal.nD Cert.UpdS5BIdeal.τ).loc Cert.UpdS5BIdeal.main_arg1) = m ((c.tc : Thread Cert.UpdS5BIdeal.nD Cert.UpdS5BIdeal.τ).loc Cert.UpdS5BIdeal.main_arg1)
      ∧ r.2.mem ((c.tc : Thread Cert.UpdS5BIdeal.nD Cert.UpdS5BIdeal.τ).loc Cert.UpdS5BIdeal.main_arg2) = m ((c.tc : Thread Cert.UpdS5BIdeal.nD Cert.UpdS5BIdeal.τ).loc Cert.UpdS5BIdeal.main_arg2)
      ∧ r.2.mem ((c.tc : Thread Cert.UpdS5BIdeal.nD Cert.UpdS5BIdeal.τ).loc Cert.UpdS5BIdeal.main_arg3) = m ((c.tc : Thread Cert.UpdS5BIdeal.nD Cert.UpdS5BIdeal.τ).loc Cert.UpdS5BIdeal.main_arg3)
      ∧ r.2.mem ((c.tc : Thread Cert.UpdS5BIdeal.nD Cert.UpdS5BIdeal.τ).loc Cert.UpdS5BIdeal.main_arg4) = m ((c.tc : Thread Cert.UpdS5BIdeal.nD Cert.UpdS5BIdeal.τ).loc Cert.UpdS5BIdeal.main_arg4)
      ∧ r.2.mem ((c.tc : Thread Cert.UpdS5BIdeal.nD Cert.UpdS5BIdeal.τ).loc Cert.UpdS5BIdeal.main_arg5) = m ((c.tc : Thread Cert.UpdS5BIdeal.nD Cert.UpdS5BIdeal.τ).loc Cert.UpdS5BIdeal.main_arg5)
      ∧ r.2.mem ((c.tc : Thread Cert.UpdS5BIdeal.nD Cert.UpdS5BIdeal.τ).loc Cert.UpdS5BIdeal.main_arg6) = m ((c.tc : Thread Cert.UpdS5BIdeal.nD Cert.UpdS5BIdeal.τ).loc Cert.UpdS5BIdeal.main_arg6)
      ∧ r.2.mem ((c.tc : Thread Cert.UpdS5BIdeal.nD Cert.UpdS5BIdeal.τ).loc Cert.UpdS5BIdeal.main_arg7) = m ((c.tc : Thread Cert.UpdS5BIdeal.nD Cert.UpdS5BIdeal.τ).loc Cert.UpdS5BIdeal.main_arg7))
      ∧ r.2.sem = fun _ => 0)

def quiescent_UpdS5BRefIdeal [hUpdS5BRefIdeal : Cert.UpdS5BRefIdeal.Facts] : Prop :=
  ∀ (m : (ℓ : Loc Cert.UpdS5BRefIdeal.nD Cert.UpdS5BRefIdeal.τ Cert.UpdS5BRefIdeal.sig) → Buf (Elt Ideal) ℓ) (g : Dev Cert.UpdS5BRefIdeal.nD → PrngReg), Pre_UpdS5BRefIdeal m →
    θ_run (Cert.UpdS5BRefIdeal.defs (F := Ideal)) (onTc (τ := Cert.UpdS5BRefIdeal.τ) (Cert.UpdS5BRefIdeal.main (F := Ideal))) ⟨m, fun _ => 0, g⟩ (fun r => (∀ c : Dev Cert.UpdS5BRefIdeal.nD,
      r.2.mem ((c.tc : Thread Cert.UpdS5BRefIdeal.nD Cert.UpdS5BRefIdeal.τ).loc Cert.UpdS5BRefIdeal.main_arg0) = m ((c.tc : Thread Cert.UpdS5BRefIdeal.nD Cert.UpdS5BRefIdeal.τ).loc Cert.UpdS5BRefIdeal.main_arg0)
      ∧ r.2.mem ((c.tc : Thread Cert.UpdS5BRefIdeal.nD Cert.UpdS5BRefIdeal.τ).loc Cert.UpdS5BRefIdeal.main_arg1) = m ((c.tc : Thread Cert.UpdS5BRefIdeal.nD Cert.UpdS5BRefIdeal.τ).loc Cert.UpdS5BRefIdeal.main_arg1)
      ∧ r.2.mem ((c.tc : Thread Cert.UpdS5BRefIdeal.nD Cert.UpdS5BRefIdeal.τ).loc Cert.UpdS5BRefIdeal.main_arg2) = m ((c.tc : Thread Cert.UpdS5BRefIdeal.nD Cert.UpdS5BRefIdeal.τ).loc Cert.UpdS5BRefIdeal.main_arg2)
      ∧ r.2.mem ((c.tc : Thread Cert.UpdS5BRefIdeal.nD Cert.UpdS5BRefIdeal.τ).loc Cert.UpdS5BRefIdeal.main_arg3) = m ((c.tc : Thread Cert.UpdS5BRefIdeal.nD Cert.UpdS5BRefIdeal.τ).loc Cert.UpdS5BRefIdeal.main_arg3)
      ∧ r.2.mem ((c.tc : Thread Cert.UpdS5BRefIdeal.nD Cert.UpdS5BRefIdeal.τ).loc Cert.UpdS5BRefIdeal.main_arg4) = m ((c.tc : Thread Cert.UpdS5BRefIdeal.nD Cert.UpdS5BRefIdeal.τ).loc Cert.UpdS5BRefIdeal.main_arg4)
      ∧ r.2.mem ((c.tc : Thread Cert.UpdS5BRefIdeal.nD Cert.UpdS5BRefIdeal.τ).loc Cert.UpdS5BRefIdeal.main_arg5) = m ((c.tc : Thread Cert.UpdS5BRefIdeal.nD Cert.UpdS5BRefIdeal.τ).loc Cert.UpdS5BRefIdeal.main_arg5)
      ∧ r.2.mem ((c.tc : Thread Cert.UpdS5BRefIdeal.nD Cert.UpdS5BRefIdeal.τ).loc Cert.UpdS5BRefIdeal.main_arg6) = m ((c.tc : Thread Cert.UpdS5BRefIdeal.nD Cert.UpdS5BRefIdeal.τ).loc Cert.UpdS5BRefIdeal.main_arg6)
      ∧ r.2.mem ((c.tc : Thread Cert.UpdS5BRefIdeal.nD Cert.UpdS5BRefIdeal.τ).loc Cert.UpdS5BRefIdeal.main_arg7) = m ((c.tc : Thread Cert.UpdS5BRefIdeal.nD Cert.UpdS5BRefIdeal.τ).loc Cert.UpdS5BRefIdeal.main_arg7))
      ∧ r.2.sem = fun _ => 0)

def quiescent_UpdLast [hUpdLast : Cert.UpdLast.Facts] : Prop :=
  ∀ (m : (ℓ : Loc Cert.UpdLast.nD Cert.UpdLast.τ Cert.UpdLast.sig) → Buf (Elt Bits) ℓ) (g : Dev Cert.UpdLast.nD → PrngReg), Pre_UpdLast m →
    θ_run (Cert.UpdLast.defs (F := Bits)) (onTc (τ := Cert.UpdLast.τ) (Cert.UpdLast.main (F := Bits))) ⟨m, fun _ => 0, g⟩ (fun r => (∀ c : Dev Cert.UpdLast.nD,
      r.2.mem ((c.tc : Thread Cert.UpdLast.nD Cert.UpdLast.τ).loc Cert.UpdLast.main_arg0) = m ((c.tc : Thread Cert.UpdLast.nD Cert.UpdLast.τ).loc Cert.UpdLast.main_arg0)
      ∧ r.2.mem ((c.tc : Thread Cert.UpdLast.nD Cert.UpdLast.τ).loc Cert.UpdLast.main_arg1) = m ((c.tc : Thread Cert.UpdLast.nD Cert.UpdLast.τ).loc Cert.UpdLast.main_arg1)
      ∧ r.2.mem ((c.tc : Thread Cert.UpdLast.nD Cert.UpdLast.τ).loc Cert.UpdLast.main_arg2) = m ((c.tc : Thread Cert.UpdLast.nD Cert.UpdLast.τ).loc Cert.UpdLast.main_arg2)
      ∧ r.2.mem ((c.tc : Thread Cert.UpdLast.nD Cert.UpdLast.τ).loc Cert.UpdLast.main_arg3) = m ((c.tc : Thread Cert.UpdLast.nD Cert.UpdLast.τ).loc Cert.UpdLast.main_arg3))
      ∧ r.2.sem = fun _ => 0)

def quiescent_UpdLastIdeal [hUpdLastIdeal : Cert.UpdLastIdeal.Facts] : Prop :=
  ∀ (m : (ℓ : Loc Cert.UpdLastIdeal.nD Cert.UpdLastIdeal.τ Cert.UpdLastIdeal.sig) → Buf (Elt Ideal) ℓ) (g : Dev Cert.UpdLastIdeal.nD → PrngReg), Pre_UpdLastIdeal m →
    θ_run (Cert.UpdLastIdeal.defs (F := Ideal)) (onTc (τ := Cert.UpdLastIdeal.τ) (Cert.UpdLastIdeal.main (F := Ideal))) ⟨m, fun _ => 0, g⟩ (fun r => (∀ c : Dev Cert.UpdLastIdeal.nD,
      r.2.mem ((c.tc : Thread Cert.UpdLastIdeal.nD Cert.UpdLastIdeal.τ).loc Cert.UpdLastIdeal.main_arg0) = m ((c.tc : Thread Cert.UpdLastIdeal.nD Cert.UpdLastIdeal.τ).loc Cert.UpdLastIdeal.main_arg0)
      ∧ r.2.mem ((c.tc : Thread Cert.UpdLastIdeal.nD Cert.UpdLastIdeal.τ).loc Cert.UpdLastIdeal.main_arg1) = m ((c.tc : Thread Cert.UpdLastIdeal.nD Cert.UpdLastIdeal.τ).loc Cert.UpdLastIdeal.main_arg1)
      ∧ r.2.mem ((c.tc : Thread Cert.UpdLastIdeal.nD Cert.UpdLastIdeal.τ).loc Cert.UpdLastIdeal.main_arg2) = m ((c.tc : Thread Cert.UpdLastIdeal.nD Cert.UpdLastIdeal.τ).loc Cert.UpdLastIdeal.main_arg2)
      ∧ r.2.mem ((c.tc : Thread Cert.UpdLastIdeal.nD Cert.UpdLastIdeal.τ).loc Cert.UpdLastIdeal.main_arg3) = m ((c.tc : Thread Cert.UpdLastIdeal.nD Cert.UpdLastIdeal.τ).loc Cert.UpdLastIdeal.main_arg3))
      ∧ r.2.sem = fun _ => 0)

def quiescent_UpdLastRefIdeal [hUpdLastRefIdeal : Cert.UpdLastRefIdeal.Facts] : Prop :=
  ∀ (m : (ℓ : Loc Cert.UpdLastRefIdeal.nD Cert.UpdLastRefIdeal.τ Cert.UpdLastRefIdeal.sig) → Buf (Elt Ideal) ℓ) (g : Dev Cert.UpdLastRefIdeal.nD → PrngReg), Pre_UpdLastRefIdeal m →
    θ_run (Cert.UpdLastRefIdeal.defs (F := Ideal)) (onTc (τ := Cert.UpdLastRefIdeal.τ) (Cert.UpdLastRefIdeal.main (F := Ideal))) ⟨m, fun _ => 0, g⟩ (fun r => (∀ c : Dev Cert.UpdLastRefIdeal.nD,
      r.2.mem ((c.tc : Thread Cert.UpdLastRefIdeal.nD Cert.UpdLastRefIdeal.τ).loc Cert.UpdLastRefIdeal.main_arg0) = m ((c.tc : Thread Cert.UpdLastRefIdeal.nD Cert.UpdLastRefIdeal.τ).loc Cert.UpdLastRefIdeal.main_arg0)
      ∧ r.2.mem ((c.tc : Thread Cert.UpdLastRefIdeal.nD Cert.UpdLastRefIdeal.τ).loc Cert.UpdLastRefIdeal.main_arg1) = m ((c.tc : Thread Cert.UpdLastRefIdeal.nD Cert.UpdLastRefIdeal.τ).loc Cert.UpdLastRefIdeal.main_arg1)
      ∧ r.2.mem ((c.tc : Thread Cert.UpdLastRefIdeal.nD Cert.UpdLastRefIdeal.τ).loc Cert.UpdLastRefIdeal.main_arg2) = m ((c.tc : Thread Cert.UpdLastRefIdeal.nD Cert.UpdLastRefIdeal.τ).loc Cert.UpdLastRefIdeal.main_arg2)
      ∧ r.2.mem ((c.tc : Thread Cert.UpdLastRefIdeal.nD Cert.UpdLastRefIdeal.τ).loc Cert.UpdLastRefIdeal.main_arg3) = m ((c.tc : Thread Cert.UpdLastRefIdeal.nD Cert.UpdLastRefIdeal.τ).loc Cert.UpdLastRefIdeal.main_arg3))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2)
      ∧ r.2.mem ((c.tc : Thread Cert.Disc.nD Cert.Disc.τ).loc Cert.Disc.main_arg3) = m ((c.tc : Thread Cert.Disc.nD Cert.Disc.τ).loc Cert.Disc.main_arg3)
      ∧ r.2.mem ((c.tc : Thread Cert.Disc.nD Cert.Disc.τ).loc Cert.Disc.main_arg4) = m ((c.tc : Thread Cert.Disc.nD Cert.Disc.τ).loc Cert.Disc.main_arg4))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
      ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)
      ∧ r.2.mem ((c.tc : Thread Cert.DiscRefIdeal.nD Cert.DiscRefIdeal.τ).loc Cert.DiscRefIdeal.main_arg3) = m ((c.tc : Thread Cert.DiscRefIdeal.nD Cert.DiscRefIdeal.τ).loc Cert.DiscRefIdeal.main_arg3)
      ∧ r.2.mem ((c.tc : Thread Cert.DiscRefIdeal.nD Cert.DiscRefIdeal.τ).loc Cert.DiscRefIdeal.main_arg4) = m ((c.tc : Thread Cert.DiscRefIdeal.nD Cert.DiscRefIdeal.τ).loc Cert.DiscRefIdeal.main_arg4))
      ∧ r.2.sem = fun _ => 0)

def quiescent_DiscBwd [hDiscBwd : Cert.DiscBwd.Facts] : Prop :=
  ∀ (m : (ℓ : Loc Cert.DiscBwd.nD Cert.DiscBwd.τ Cert.DiscBwd.sig) → Buf (Elt Bits) ℓ) (g : Dev Cert.DiscBwd.nD → PrngReg), Pre_DiscBwd m →
    θ_run (Cert.DiscBwd.defs (F := Bits)) (onTc (τ := Cert.DiscBwd.τ) (Cert.DiscBwd.main (F := Bits))) ⟨m, fun _ => 0, g⟩ (fun r => (∀ c : Dev Cert.DiscBwd.nD,
      r.2.mem ((c.tc : Thread Cert.DiscBwd.nD Cert.DiscBwd.τ).loc Cert.DiscBwd.main_arg0) = m ((c.tc : Thread Cert.DiscBwd.nD Cert.DiscBwd.τ).loc Cert.DiscBwd.main_arg0)
      ∧ r.2.mem ((c.tc : Thread Cert.DiscBwd.nD Cert.DiscBwd.τ).loc Cert.DiscBwd.main_arg1) = m ((c.tc : Thread Cert.DiscBwd.nD Cert.DiscBwd.τ).loc Cert.DiscBwd.main_arg1)
      ∧ r.2.mem ((c.tc : Thread Cert.DiscBwd.nD Cert.DiscBwd.τ).loc Cert.DiscBwd.main_arg2) = m ((c.tc : Thread Cert.DiscBwd.nD Cert.DiscBwd.τ).loc Cert.DiscBwd.main_arg2)
      ∧ r.2.mem ((c.tc : Thread Cert.DiscBwd.nD Cert.DiscBwd.τ).loc Cert.DiscBwd.main_arg3) = m ((c.tc : Thread Cert.DiscBwd.nD Cert.DiscBwd.τ).loc Cert.DiscBwd.main_arg3)
      ∧ r.2.mem ((c.tc : Thread Cert.DiscBwd.nD Cert.DiscBwd.τ).loc Cert.DiscBwd.main_arg4) = m ((c.tc : Thread Cert.DiscBwd.nD Cert.DiscBwd.τ).loc Cert.DiscBwd.main_arg4)
      ∧ r.2.mem ((c.tc : Thread Cert.DiscBwd.nD Cert.DiscBwd.τ).loc Cert.DiscBwd.main_arg5) = m ((c.tc : Thread Cert.DiscBwd.nD Cert.DiscBwd.τ).loc Cert.DiscBwd.main_arg5)
      ∧ r.2.mem ((c.tc : Thread Cert.DiscBwd.nD Cert.DiscBwd.τ).loc Cert.DiscBwd.main_arg6) = m ((c.tc : Thread Cert.DiscBwd.nD Cert.DiscBwd.τ).loc Cert.DiscBwd.main_arg6)
      ∧ r.2.mem ((c.tc : Thread Cert.DiscBwd.nD Cert.DiscBwd.τ).loc Cert.DiscBwd.main_arg7) = m ((c.tc : Thread Cert.DiscBwd.nD Cert.DiscBwd.τ).loc Cert.DiscBwd.main_arg7))
      ∧ r.2.sem = fun _ => 0)

def quiescent_DiscBwdIdeal [hDiscBwdIdeal : Cert.DiscBwdIdeal.Facts] : Prop :=
  ∀ (m : (ℓ : Loc Cert.DiscBwdIdeal.nD Cert.DiscBwdIdeal.τ Cert.DiscBwdIdeal.sig) → Buf (Elt Ideal) ℓ) (g : Dev Cert.DiscBwdIdeal.nD → PrngReg), Pre_DiscBwdIdeal m →
    θ_run (Cert.DiscBwdIdeal.defs (F := Ideal)) (onTc (τ := Cert.DiscBwdIdeal.τ) (Cert.DiscBwdIdeal.main (F := Ideal))) ⟨m, fun _ => 0, g⟩ (fun r => (∀ c : Dev Cert.DiscBwdIdeal.nD,
      r.2.mem ((c.tc : Thread Cert.DiscBwdIdeal.nD Cert.DiscBwdIdeal.τ).loc Cert.DiscBwdIdeal.main_arg0) = m ((c.tc : Thread Cert.DiscBwdIdeal.nD Cert.DiscBwdIdeal.τ).loc Cert.DiscBwdIdeal.main_arg0)
      ∧ r.2.mem ((c.tc : Thread Cert.DiscBwdIdeal.nD Cert.DiscBwdIdeal.τ).loc Cert.DiscBwdIdeal.main_arg1) = m ((c.tc : Thread Cert.DiscBwdIdeal.nD Cert.DiscBwdIdeal.τ).loc Cert.DiscBwdIdeal.main_arg1)
      ∧ r.2.mem ((c.tc : Thread Cert.DiscBwdIdeal.nD Cert.DiscBwdIdeal.τ).loc Cert.DiscBwdIdeal.main_arg2) = m ((c.tc : Thread Cert.DiscBwdIdeal.nD Cert.DiscBwdIdeal.τ).loc Cert.DiscBwdIdeal.main_arg2)
      ∧ r.2.mem ((c.tc : Thread Cert.DiscBwdIdeal.nD Cert.DiscBwdIdeal.τ).loc Cert.DiscBwdIdeal.main_arg3) = m ((c.tc : Thread Cert.DiscBwdIdeal.nD Cert.DiscBwdIdeal.τ).loc Cert.DiscBwdIdeal.main_arg3)
      ∧ r.2.mem ((c.tc : Thread Cert.DiscBwdIdeal.nD Cert.DiscBwdIdeal.τ).loc Cert.DiscBwdIdeal.main_arg4) = m ((c.tc : Thread Cert.DiscBwdIdeal.nD Cert.DiscBwdIdeal.τ).loc Cert.DiscBwdIdeal.main_arg4)
      ∧ r.2.mem ((c.tc : Thread Cert.DiscBwdIdeal.nD Cert.DiscBwdIdeal.τ).loc Cert.DiscBwdIdeal.main_arg5) = m ((c.tc : Thread Cert.DiscBwdIdeal.nD Cert.DiscBwdIdeal.τ).loc Cert.DiscBwdIdeal.main_arg5)
      ∧ r.2.mem ((c.tc : Thread Cert.DiscBwdIdeal.nD Cert.DiscBwdIdeal.τ).loc Cert.DiscBwdIdeal.main_arg6) = m ((c.tc : Thread Cert.DiscBwdIdeal.nD Cert.DiscBwdIdeal.τ).loc Cert.DiscBwdIdeal.main_arg6)
      ∧ r.2.mem ((c.tc : Thread Cert.DiscBwdIdeal.nD Cert.DiscBwdIdeal.τ).loc Cert.DiscBwdIdeal.main_arg7) = m ((c.tc : Thread Cert.DiscBwdIdeal.nD Cert.DiscBwdIdeal.τ).loc Cert.DiscBwdIdeal.main_arg7))
      ∧ r.2.sem = fun _ => 0)

def quiescent_DiscBwdIdeal_pre_finite_nonzero [hDiscBwdIdeal : Cert.DiscBwdIdeal.Facts] [hPre_finite_nonzero : Cert.Pre_finite_nonzero.Facts] : Prop :=
  ∀ (m : (ℓ : Loc Cert.DiscBwdIdeal.nD Cert.DiscBwdIdeal.τ Cert.DiscBwdIdeal.sig) → Buf (Elt Ideal) ℓ) (g : Dev Cert.DiscBwdIdeal.nD → PrngReg), Pre_DiscBwdIdeal_finite_nonzero m →
    θ_run (Cert.DiscBwdIdeal.defs (F := Ideal)) (onTc (τ := Cert.DiscBwdIdeal.τ) (Cert.DiscBwdIdeal.main (F := Ideal))) ⟨m, fun _ => 0, g⟩ (fun r => (∀ c : Dev Cert.DiscBwdIdeal.nD,
      r.2.mem ((c.tc : Thread Cert.DiscBwdIdeal.nD Cert.DiscBwdIdeal.τ).loc Cert.DiscBwdIdeal.main_arg0) = m ((c.tc : Thread Cert.DiscBwdIdeal.nD Cert.DiscBwdIdeal.τ).loc Cert.DiscBwdIdeal.main_arg0)
      ∧ r.2.mem ((c.tc : Thread Cert.DiscBwdIdeal.nD Cert.DiscBwdIdeal.τ).loc Cert.DiscBwdIdeal.main_arg1) = m ((c.tc : Thread Cert.DiscBwdIdeal.nD Cert.DiscBwdIdeal.τ).loc Cert.DiscBwdIdeal.main_arg1)
      ∧ r.2.mem ((c.tc : Thread Cert.DiscBwdIdeal.nD Cert.DiscBwdIdeal.τ).loc Cert.DiscBwdIdeal.main_arg2) = m ((c.tc : Thread Cert.DiscBwdIdeal.nD Cert.DiscBwdIdeal.τ).loc Cert.DiscBwdIdeal.main_arg2)
      ∧ r.2.mem ((c.tc : Thread Cert.DiscBwdIdeal.nD Cert.DiscBwdIdeal.τ).loc Cert.DiscBwdIdeal.main_arg3) = m ((c.tc : Thread Cert.DiscBwdIdeal.nD Cert.DiscBwdIdeal.τ).loc Cert.DiscBwdIdeal.main_arg3)
      ∧ r.2.mem ((c.tc : Thread Cert.DiscBwdIdeal.nD Cert.DiscBwdIdeal.τ).loc Cert.DiscBwdIdeal.main_arg4) = m ((c.tc : Thread Cert.DiscBwdIdeal.nD Cert.DiscBwdIdeal.τ).loc Cert.DiscBwdIdeal.main_arg4)
      ∧ r.2.mem ((c.tc : Thread Cert.DiscBwdIdeal.nD Cert.DiscBwdIdeal.τ).loc Cert.DiscBwdIdeal.main_arg5) = m ((c.tc : Thread Cert.DiscBwdIdeal.nD Cert.DiscBwdIdeal.τ).loc Cert.DiscBwdIdeal.main_arg5)
      ∧ r.2.mem ((c.tc : Thread Cert.DiscBwdIdeal.nD Cert.DiscBwdIdeal.τ).loc Cert.DiscBwdIdeal.main_arg6) = m ((c.tc : Thread Cert.DiscBwdIdeal.nD Cert.DiscBwdIdeal.τ).loc Cert.DiscBwdIdeal.main_arg6)
      ∧ r.2.mem ((c.tc : Thread Cert.DiscBwdIdeal.nD Cert.DiscBwdIdeal.τ).loc Cert.DiscBwdIdeal.main_arg7) = m ((c.tc : Thread Cert.DiscBwdIdeal.nD Cert.DiscBwdIdeal.τ).loc Cert.DiscBwdIdeal.main_arg7))
      ∧ r.2.sem = fun _ => 0)

def quiescent_DiscBwdRefIdeal [hDiscBwdRefIdeal : Cert.DiscBwdRefIdeal.Facts] : Prop :=
  ∀ (m : (ℓ : Loc Cert.DiscBwdRefIdeal.nD Cert.DiscBwdRefIdeal.τ Cert.DiscBwdRefIdeal.sig) → Buf (Elt Ideal) ℓ) (g : Dev Cert.DiscBwdRefIdeal.nD → PrngReg), Pre_DiscBwdRefIdeal m →
    θ_run (Cert.DiscBwdRefIdeal.defs (F := Ideal)) (onTc (τ := Cert.DiscBwdRefIdeal.τ) (Cert.DiscBwdRefIdeal.main (F := Ideal))) ⟨m, fun _ => 0, g⟩ (fun r => (∀ c : Dev Cert.DiscBwdRefIdeal.nD,
      r.2.mem ((c.tc : Thread Cert.DiscBwdRefIdeal.nD Cert.DiscBwdRefIdeal.τ).loc Cert.DiscBwdRefIdeal.main_arg0) = m ((c.tc : Thread Cert.DiscBwdRefIdeal.nD Cert.DiscBwdRefIdeal.τ).loc Cert.DiscBwdRefIdeal.main_arg0)
      ∧ r.2.mem ((c.tc : Thread Cert.DiscBwdRefIdeal.nD Cert.DiscBwdRefIdeal.τ).loc Cert.DiscBwdRefIdeal.main_arg1) = m ((c.tc : Thread Cert.DiscBwdRefIdeal.nD Cert.DiscBwdRefIdeal.τ).loc Cert.DiscBwdRefIdeal.main_arg1)
      ∧ r.2.mem ((c.tc : Thread Cert.DiscBwdRefIdeal.nD Cert.DiscBwdRefIdeal.τ).loc Cert.DiscBwdRefIdeal.main_arg2) = m ((c.tc : Thread Cert.DiscBwdRefIdeal.nD Cert.DiscBwdRefIdeal.τ).loc Cert.DiscBwdRefIdeal.main_arg2)
      ∧ r.2.mem ((c.tc : Thread Cert.DiscBwdRefIdeal.nD Cert.DiscBwdRefIdeal.τ).loc Cert.DiscBwdRefIdeal.main_arg3) = m ((c.tc : Thread Cert.DiscBwdRefIdeal.nD Cert.DiscBwdRefIdeal.τ).loc Cert.DiscBwdRefIdeal.main_arg3)
      ∧ r.2.mem ((c.tc : Thread Cert.DiscBwdRefIdeal.nD Cert.DiscBwdRefIdeal.τ).loc Cert.DiscBwdRefIdeal.main_arg4) = m ((c.tc : Thread Cert.DiscBwdRefIdeal.nD Cert.DiscBwdRefIdeal.τ).loc Cert.DiscBwdRefIdeal.main_arg4)
      ∧ r.2.mem ((c.tc : Thread Cert.DiscBwdRefIdeal.nD Cert.DiscBwdRefIdeal.τ).loc Cert.DiscBwdRefIdeal.main_arg5) = m ((c.tc : Thread Cert.DiscBwdRefIdeal.nD Cert.DiscBwdRefIdeal.τ).loc Cert.DiscBwdRefIdeal.main_arg5)
      ∧ r.2.mem ((c.tc : Thread Cert.DiscBwdRefIdeal.nD Cert.DiscBwdRefIdeal.τ).loc Cert.DiscBwdRefIdeal.main_arg6) = m ((c.tc : Thread Cert.DiscBwdRefIdeal.nD Cert.DiscBwdRefIdeal.τ).loc Cert.DiscBwdRefIdeal.main_arg6)
      ∧ r.2.mem ((c.tc : Thread Cert.DiscBwdRefIdeal.nD Cert.DiscBwdRefIdeal.τ).loc Cert.DiscBwdRefIdeal.main_arg7) = m ((c.tc : Thread Cert.DiscBwdRefIdeal.nD Cert.DiscBwdRefIdeal.τ).loc Cert.DiscBwdRefIdeal.main_arg7))
      ∧ r.2.sem = fun _ => 0)

def quiescent_DiscBwdRefIdeal_pre_finite_nonzero [hDiscBwdRefIdeal : Cert.DiscBwdRefIdeal.Facts] [hPre_finite_nonzero : Cert.Pre_finite_nonzero.Facts] : Prop :=
  ∀ (m : (ℓ : Loc Cert.DiscBwdRefIdeal.nD Cert.DiscBwdRefIdeal.τ Cert.DiscBwdRefIdeal.sig) → Buf (Elt Ideal) ℓ) (g : Dev Cert.DiscBwdRefIdeal.nD → PrngReg), Pre_DiscBwdRefIdeal_finite_nonzero m →
    θ_run (Cert.DiscBwdRefIdeal.defs (F := Ideal)) (onTc (τ := Cert.DiscBwdRefIdeal.τ) (Cert.DiscBwdRefIdeal.main (F := Ideal))) ⟨m, fun _ => 0, g⟩ (fun r => (∀ c : Dev Cert.DiscBwdRefIdeal.nD,
      r.2.mem ((c.tc : Thread Cert.DiscBwdRefIdeal.nD Cert.DiscBwdRefIdeal.τ).loc Cert.DiscBwdRefIdeal.main_arg0) = m ((c.tc : Thread Cert.DiscBwdRefIdeal.nD Cert.DiscBwdRefIdeal.τ).loc Cert.DiscBwdRefIdeal.main_arg0)
      ∧ r.2.mem ((c.tc : Thread Cert.DiscBwdRefIdeal.nD Cert.DiscBwdRefIdeal.τ).loc Cert.DiscBwdRefIdeal.main_arg1) = m ((c.tc : Thread Cert.DiscBwdRefIdeal.nD Cert.DiscBwdRefIdeal.τ).loc Cert.DiscBwdRefIdeal.main_arg1)
      ∧ r.2.mem ((c.tc : Thread Cert.DiscBwdRefIdeal.nD Cert.DiscBwdRefIdeal.τ).loc Cert.DiscBwdRefIdeal.main_arg2) = m ((c.tc : Thread Cert.DiscBwdRefIdeal.nD Cert.DiscBwdRefIdeal.τ).loc Cert.DiscBwdRefIdeal.main_arg2)
      ∧ r.2.mem ((c.tc : Thread Cert.DiscBwdRefIdeal.nD Cert.DiscBwdRefIdeal.τ).loc Cert.DiscBwdRefIdeal.main_arg3) = m ((c.tc : Thread Cert.DiscBwdRefIdeal.nD Cert.DiscBwdRefIdeal.τ).loc Cert.DiscBwdRefIdeal.main_arg3)
      ∧ r.2.mem ((c.tc : Thread Cert.DiscBwdRefIdeal.nD Cert.DiscBwdRefIdeal.τ).loc Cert.DiscBwdRefIdeal.main_arg4) = m ((c.tc : Thread Cert.DiscBwdRefIdeal.nD Cert.DiscBwdRefIdeal.τ).loc Cert.DiscBwdRefIdeal.main_arg4)
      ∧ r.2.mem ((c.tc : Thread Cert.DiscBwdRefIdeal.nD Cert.DiscBwdRefIdeal.τ).loc Cert.DiscBwdRefIdeal.main_arg5) = m ((c.tc : Thread Cert.DiscBwdRefIdeal.nD Cert.DiscBwdRefIdeal.τ).loc Cert.DiscBwdRefIdeal.main_arg5)
      ∧ r.2.mem ((c.tc : Thread Cert.DiscBwdRefIdeal.nD Cert.DiscBwdRefIdeal.τ).loc Cert.DiscBwdRefIdeal.main_arg6) = m ((c.tc : Thread Cert.DiscBwdRefIdeal.nD Cert.DiscBwdRefIdeal.τ).loc Cert.DiscBwdRefIdeal.main_arg6)
      ∧ r.2.mem ((c.tc : Thread Cert.DiscBwdRefIdeal.nD Cert.DiscBwdRefIdeal.τ).loc Cert.DiscBwdRefIdeal.main_arg7) = m ((c.tc : Thread Cert.DiscBwdRefIdeal.nD Cert.DiscBwdRefIdeal.τ).loc Cert.DiscBwdRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_v86) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v24) = v0 c
          ∧ r.2.mem ((c.tc : Thread Cert.MergeFwdRefIdeal.nD Cert.MergeFwdRefIdeal.τ).loc Cert.MergeFwdRefIdeal.main_v27) = v1 c
          ∧ r.2.mem ((c.tc : Thread Cert.MergeFwdRefIdeal.nD Cert.MergeFwdRefIdeal.τ).loc Cert.MergeFwdRefIdeal.main_v30) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5))

def preserves_MlpIn_MlpInIdeal : Prop :=
  True

def algebraic_MlpInIdeal_MlpInRefIdeal [hMlpInIdeal : Cert.MlpInIdeal.Facts] [hMlpInRefIdeal : Cert.MlpInRefIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInRefIdeal.nD Cert.MlpInRefIdeal.τ Cert.MlpInRefIdeal.sig) → Buf (Elt Ideal) ℓ) (g' : Dev Cert.MlpInRefIdeal.nD → PrngReg), Pre_MlpInIdeal m →
    (∀ c : Dev Cert.MlpInIdeal.nD,
      m' ((c.tc : Thread Cert.MlpInRefIdeal.nD Cert.MlpInRefIdeal.τ).loc Cert.MlpInRefIdeal.main_arg0) = m ((c.tc : Thread Cert.MlpInIdeal.nD Cert.MlpInIdeal.τ).loc Cert.MlpInIdeal.main_arg0)
      ∧ m' ((c.tc : Thread Cert.MlpInRefIdeal.nD Cert.MlpInRefIdeal.τ).loc Cert.MlpInRefIdeal.main_arg1) = m ((c.tc : Thread Cert.MlpInIdeal.nD Cert.MlpInIdeal.τ).loc Cert.MlpInIdeal.main_arg1)
      ∧ m' ((c.tc : Thread Cert.MlpInRefIdeal.nD Cert.MlpInRefIdeal.τ).loc Cert.MlpInRefIdeal.main_arg2) = m ((c.tc : Thread Cert.MlpInIdeal.nD Cert.MlpInIdeal.τ).loc Cert.MlpInIdeal.main_arg2)) →
    ∃ (v0 : (c : Dev Cert.MlpInIdeal.nD) → Buf (Elt Ideal) ((c.tc : Thread Cert.MlpInIdeal.nD Cert.MlpInIdeal.τ).loc Cert.MlpInIdeal.main_v1_0)) (v1 : (c : Dev Cert.MlpInIdeal.nD) → Buf (Elt Ideal) ((c.tc : Thread Cert.MlpInIdeal.nD Cert.MlpInIdeal.τ).loc Cert.MlpInIdeal.main_v1_1)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v1_0) = v0 c
          ∧ r.2.mem ((c.tc : Thread Cert.MlpInIdeal.nD Cert.MlpInIdeal.τ).loc Cert.MlpInIdeal.main_v1_1) = v1 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
          ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2))
      ∧ θ_run (Cert.MlpInRefIdeal.defs (F := Ideal)) (onTc (τ := Cert.MlpInRefIdeal.τ) (Cert.MlpInRefIdeal.main (F := Ideal))) ⟨m', fun _ => 0, g'⟩ (fun r => ∀ c : Dev Cert.MlpInRefIdeal.nD,
          r.2.mem ((c.tc : Thread Cert.MlpInRefIdeal.nD Cert.MlpInRefIdeal.τ).loc Cert.MlpInRefIdeal.main_v13) = v0 c
          ∧ r.2.mem ((c.tc : Thread Cert.MlpInRefIdeal.nD Cert.MlpInRefIdeal.τ).loc Cert.MlpInRefIdeal.main_v18) = v1 c
          ∧ r.2.mem ((c.tc : Thread Cert.MlpInRefIdeal.nD Cert.MlpInRefIdeal.τ).loc Cert.MlpInRefIdeal.main_arg0) = m' ((c.tc : Thread Cert.MlpInRefIdeal.nD Cert.MlpInRefIdeal.τ).loc Cert.MlpInRefIdeal.main_arg0)
          ∧ r.2.mem ((c.tc : Thread Cert.MlpInRefIdeal.nD Cert.MlpInRefIdeal.τ).loc Cert.MlpInRefIdeal.main_arg1) = m' ((c.tc : Thread Cert.MlpInRefIdeal.nD Cert.MlpInRefIdeal.τ).loc Cert.MlpInRefIdeal.main_arg1)
          ∧ r.2.mem ((c.tc : Thread Cert.MlpInRefIdeal.nD Cert.MlpInRefIdeal.τ).loc Cert.MlpInRefIdeal.main_arg2) = m' ((c.tc : Thread Cert.MlpInRefIdeal.nD Cert.MlpInRefIdeal.τ).loc Cert.MlpInRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)) (v2 : (c : Dev Cert.InProjIdeal.nD) → Buf (Elt Ideal) ((c.tc : Thread Cert.InProjIdeal.nD Cert.InProjIdeal.τ).loc Cert.InProjIdeal.main_v1_2)) (v3 : (c : Dev Cert.InProjIdeal.nD) → Buf (Elt Ideal) ((c.tc : Thread Cert.InProjIdeal.nD Cert.InProjIdeal.τ).loc Cert.InProjIdeal.main_v1_3)) (v4 : (c : Dev Cert.InProjIdeal.nD) → Buf (Elt Ideal) ((c.tc : Thread Cert.InProjIdeal.nD Cert.InProjIdeal.τ).loc Cert.InProjIdeal.main_v1_4)) (v5 : (c : Dev Cert.InProjIdeal.nD) → Buf (Elt Ideal) ((c.tc : Thread Cert.InProjIdeal.nD Cert.InProjIdeal.τ).loc Cert.InProjIdeal.main_v1_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_v1_2) = v2 c
          ∧ r.2.mem ((c.tc : Thread Cert.InProjIdeal.nD Cert.InProjIdeal.τ).loc Cert.InProjIdeal.main_v1_3) = v3 c
          ∧ r.2.mem ((c.tc : Thread Cert.InProjIdeal.nD Cert.InProjIdeal.τ).loc Cert.InProjIdeal.main_v1_4) = v4 c
          ∧ r.2.mem ((c.tc : Thread Cert.InProjIdeal.nD Cert.InProjIdeal.τ).loc Cert.InProjIdeal.main_v1_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v20) = v0 c
          ∧ r.2.mem ((c.tc : Thread Cert.InProjRefIdeal.nD Cert.InProjRefIdeal.τ).loc Cert.InProjRefIdeal.main_v21) = v1 c
          ∧ r.2.mem ((c.tc : Thread Cert.InProjRefIdeal.nD Cert.InProjRefIdeal.τ).loc Cert.InProjRefIdeal.main_v22) = v2 c
          ∧ r.2.mem ((c.tc : Thread Cert.InProjRefIdeal.nD Cert.InProjRefIdeal.τ).loc Cert.InProjRefIdeal.main_v23) = v3 c
          ∧ r.2.mem ((c.tc : Thread Cert.InProjRefIdeal.nD Cert.InProjRefIdeal.τ).loc Cert.InProjRefIdeal.main_v24) = v4 c
          ∧ r.2.mem ((c.tc : Thread Cert.InProjRefIdeal.nD Cert.InProjRefIdeal.τ).loc Cert.InProjRefIdeal.main_v19) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v56) = v0 c
          ∧ r.2.mem ((c.tc : Thread Cert.LossRefIdeal.nD Cert.LossRefIdeal.τ).loc Cert.LossRefIdeal.main_v57) = v1 c
          ∧ r.2.mem ((c.tc : Thread Cert.LossRefIdeal.nD Cert.LossRefIdeal.τ).loc Cert.LossRefIdeal.main_v58) = v2 c
          ∧ r.2.mem ((c.tc : Thread Cert.LossRefIdeal.nD Cert.LossRefIdeal.τ).loc Cert.LossRefIdeal.main_v59) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v15) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_MlpInBwd_MlpInBwdIdeal : Prop :=
  True

def algebraic_MlpInBwdIdeal_MlpInBwdRefIdeal [hMlpInBwdIdeal : Cert.MlpInBwdIdeal.Facts] [hMlpInBwdRefIdeal : Cert.MlpInBwdRefIdeal.Facts] : Prop :=
  ∀ (m : (ℓ : Loc Cert.MlpInBwdIdeal.nD Cert.MlpInBwdIdeal.τ Cert.MlpInBwdIdeal.sig) → Buf (Elt Ideal) ℓ) (g : Dev Cert.MlpInBwdIdeal.nD → PrngReg)
    (m' : (ℓ : Loc Cert.MlpInBwdRefIdeal.nD Cert.MlpInBwdRefIdeal.τ Cert.MlpInBwdRefIdeal.sig) → Buf (Elt Ideal) ℓ) (g' : Dev Cert.MlpInBwdRefIdeal.nD → PrngReg), Pre_MlpInBwdIdeal m →
    (∀ c : Dev Cert.MlpInBwdIdeal.nD,
      m' ((c.tc : Thread Cert.MlpInBwdRefIdeal.nD Cert.MlpInBwdRefIdeal.τ).loc Cert.MlpInBwdRefIdeal.main_arg0) = m ((c.tc : Thread Cert.MlpInBwdIdeal.nD Cert.MlpInBwdIdeal.τ).loc Cert.MlpInBwdIdeal.main_arg0)
      ∧ m' ((c.tc : Thread Cert.MlpInBwdRefIdeal.nD Cert.MlpInBwdRefIdeal.τ).loc Cert.MlpInBwdRefIdeal.main_arg1) = m ((c.tc : Thread Cert.MlpInBwdIdeal.nD Cert.MlpInBwdIdeal.τ).loc Cert.MlpInBwdIdeal.main_arg1)
      ∧ m' ((c.tc : Thread Cert.MlpInBwdRefIdeal.nD Cert.MlpInBwdRefIdeal.τ).loc Cert.MlpInBwdRefIdeal.main_arg2) = m ((c.tc : Thread Cert.MlpInBwdIdeal.nD Cert.MlpInBwdIdeal.τ).loc Cert.MlpInBwdIdeal.main_arg2)
      ∧ m' ((c.tc : Thread Cert.MlpInBwdRefIdeal.nD Cert.MlpInBwdRefIdeal.τ).loc Cert.MlpInBwdRefIdeal.main_arg3) = m ((c.tc : Thread Cert.MlpInBwdIdeal.nD Cert.MlpInBwdIdeal.τ).loc Cert.MlpInBwdIdeal.main_arg3)
      ∧ m' ((c.tc : Thread Cert.MlpInBwdRefIdeal.nD Cert.MlpInBwdRefIdeal.τ).loc Cert.MlpInBwdRefIdeal.main_arg4) = m ((c.tc : Thread Cert.MlpInBwdIdeal.nD Cert.MlpInBwdIdeal.τ).loc Cert.MlpInBwdIdeal.main_arg4)) →
    ∃ (v0 : (c : Dev Cert.MlpInBwdIdeal.nD) → Buf (Elt Ideal) ((c.tc : Thread Cert.MlpInBwdIdeal.nD Cert.MlpInBwdIdeal.τ).loc Cert.MlpInBwdIdeal.main_v1_0)) (v1 : (c : Dev Cert.MlpInBwdIdeal.nD) → Buf (Elt Ideal) ((c.tc : Thread Cert.MlpInBwdIdeal.nD Cert.MlpInBwdIdeal.τ).loc Cert.MlpInBwdIdeal.main_v1_1)) (v2 : (c : Dev Cert.MlpInBwdIdeal.nD) → Buf (Elt Ideal) ((c.tc : Thread Cert.MlpInBwdIdeal.nD Cert.MlpInBwdIdeal.τ).loc Cert.MlpInBwdIdeal.main_v1_2)),
      θ_run (Cert.MlpInBwdIdeal.defs (F := Ideal)) (onTc (τ := Cert.MlpInBwdIdeal.τ) (Cert.MlpInBwdIdeal.main (F := Ideal))) ⟨m, fun _ => 0, g⟩ (fun r => ∀ c : Dev Cert.MlpInBwdIdeal.nD,
          r.2.mem ((c.tc : Thread Cert.MlpInBwdIdeal.nD Cert.MlpInBwdIdeal.τ).loc Cert.MlpInBwdIdeal.main_v1_0) = v0 c
          ∧ r.2.mem ((c.tc : Thread Cert.MlpInBwdIdeal.nD Cert.MlpInBwdIdeal.τ).loc Cert.MlpInBwdIdeal.main_v1_1) = v1 c
          ∧ r.2.mem ((c.tc : Thread Cert.MlpInBwdIdeal.nD Cert.MlpInBwdIdeal.τ).loc Cert.MlpInBwdIdeal.main_v1_2) = v2 c
          ∧ r.2.mem ((c.tc : Thread Cert.MlpInBwdIdeal.nD Cert.MlpInBwdIdeal.τ).loc Cert.MlpInBwdIdeal.main_arg0) = m ((c.tc : Thread Cert.MlpInBwdIdeal.nD Cert.MlpInBwdIdeal.τ).loc Cert.MlpInBwdIdeal.main_arg0)
          ∧ r.2.mem ((c.tc : Thread Cert.MlpInBwdIdeal.nD Cert.MlpInBwdIdeal.τ).loc Cert.MlpInBwdIdeal.main_arg1) = m ((c.tc : Thread Cert.MlpInBwdIdeal.nD Cert.MlpInBwdIdeal.τ).loc Cert.MlpInBwdIdeal.main_arg1)
          ∧ r.2.mem ((c.tc : Thread Cert.MlpInBwdIdeal.nD Cert.MlpInBwdIdeal.τ).loc Cert.MlpInBwdIdeal.main_arg2) = m ((c.tc : Thread Cert.MlpInBwdIdeal.nD Cert.MlpInBwdIdeal.τ).loc Cert.MlpInBwdIdeal.main_arg2)
          ∧ r.2.mem ((c.tc : Thread Cert.MlpInBwdIdeal.nD Cert.MlpInBwdIdeal.τ).loc Cert.MlpInBwdIdeal.main_arg3) = m ((c.tc : Thread Cert.MlpInBwdIdeal.nD Cert.MlpInBwdIdeal.τ).loc Cert.MlpInBwdIdeal.main_arg3)
          ∧ r.2.mem ((c.tc : Thread Cert.MlpInBwdIdeal.nD Cert.MlpInBwdIdeal.τ).loc Cert.MlpInBwdIdeal.main_arg4) = m ((c.tc : Thread Cert.MlpInBwdIdeal.nD Cert.MlpInBwdIdeal.τ).loc Cert.MlpInBwdIdeal.main_arg4))
      ∧ θ_run (Cert.MlpInBwdRefIdeal.defs (F := Ideal)) (onTc (τ := Cert.MlpInBwdRefIdeal.τ) (Cert.MlpInBwdRefIdeal.main (F := Ideal))) ⟨m', fun _ => 0, g'⟩ (fun r => ∀ c : Dev Cert.MlpInBwdRefIdeal.nD,
          r.2.mem ((c.tc : Thread Cert.MlpInBwdRefIdeal.nD Cert.MlpInBwdRefIdeal.τ).loc Cert.MlpInBwdRefIdeal.main_v42) = v0 c
          ∧ r.2.mem ((c.tc : Thread Cert.MlpInBwdRefIdeal.nD Cert.MlpInBwdRefIdeal.τ).loc Cert.MlpInBwdRefIdeal.main_v43) = v1 c
          ∧ r.2.mem ((c.tc : Thread Cert.MlpInBwdRefIdeal.nD Cert.MlpInBwdRefIdeal.τ).loc Cert.MlpInBwdRefIdeal.main_v44) = v2 c
          ∧ r.2.mem ((c.tc : Thread Cert.MlpInBwdRefIdeal.nD Cert.MlpInBwdRefIdeal.τ).loc Cert.MlpInBwdRefIdeal.main_arg0) = m' ((c.tc : Thread Cert.MlpInBwdRefIdeal.nD Cert.MlpInBwdRefIdeal.τ).loc Cert.MlpInBwdRefIdeal.main_arg0)
          ∧ r.2.mem ((c.tc : Thread Cert.MlpInBwdRefIdeal.nD Cert.MlpInBwdRefIdeal.τ).loc Cert.MlpInBwdRefIdeal.main_arg1) = m' ((c.tc : Thread Cert.MlpInBwdRefIdeal.nD Cert.MlpInBwdRefIdeal.τ).loc Cert.MlpInBwdRefIdeal.main_arg1)
          ∧ r.2.mem ((c.tc : Thread Cert.MlpInBwdRefIdeal.nD Cert.MlpInBwdRefIdeal.τ).loc Cert.MlpInBwdRefIdeal.main_arg2) = m' ((c.tc : Thread Cert.MlpInBwdRefIdeal.nD Cert.MlpInBwdRefIdeal.τ).loc Cert.MlpInBwdRefIdeal.main_arg2)
          ∧ r.2.mem ((c.tc : Thread Cert.MlpInBwdRefIdeal.nD Cert.MlpInBwdRefIdeal.τ).loc Cert.MlpInBwdRefIdeal.main_arg3) = m' ((c.tc : Thread Cert.MlpInBwdRefIdeal.nD Cert.MlpInBwdRefIdeal.τ).loc Cert.MlpInBwdRefIdeal.main_arg3)
          ∧ r.2.mem ((c.tc : Thread Cert.MlpInBwdRefIdeal.nD Cert.MlpInBwdRefIdeal.τ).loc Cert.MlpInBwdRefIdeal.main_arg4) = m' ((c.tc : Thread Cert.MlpInBwdRefIdeal.nD Cert.MlpInBwdRefIdeal.τ).loc Cert.MlpInBwdRefIdeal.main_arg4))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)) →
    ∃ (v0 : (c : Dev Cert.InBwdIdeal.nD) → Buf (Elt Ideal) ((c.tc : Thread Cert.InBwdIdeal.nD Cert.InBwdIdeal.τ).loc Cert.InBwdIdeal.main_v1_0)) (v1 : (c : Dev Cert.InBwdIdeal.nD) → Buf (Elt Ideal) ((c.tc : Thread Cert.InBwdIdeal.nD Cert.InBwdIdeal.τ).loc Cert.InBwdIdeal.main_v1_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v1_0) = v0 c
          ∧ r.2.mem ((c.tc : Thread Cert.InBwdIdeal.nD Cert.InBwdIdeal.τ).loc Cert.InBwdIdeal.main_v1_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v54) = v0 c
          ∧ r.2.mem ((c.tc : Thread Cert.InBwdRefIdeal.nD Cert.InBwdRefIdeal.τ).loc Cert.InBwdRefIdeal.main_v55) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7))

def preserves_WMlpOut_WMlpOutIdeal : Prop :=
  True

def algebraic_WMlpOutIdeal_WMlpOutRefIdeal [hWMlpOutIdeal : Cert.WMlpOutIdeal.Facts] [hWMlpOutRefIdeal : Cert.WMlpOutRefIdeal.Facts] : Prop :=
  ∀ (m : (ℓ : Loc Cert.WMlpOutIdeal.nD Cert.WMlpOutIdeal.τ Cert.WMlpOutIdeal.sig) → Buf (Elt Ideal) ℓ) (g : Dev Cert.WMlpOutIdeal.nD → PrngReg)
    (m' : (ℓ : Loc Cert.WMlpOutRefIdeal.nD Cert.WMlpOutRefIdeal.τ Cert.WMlpOutRefIdeal.sig) → Buf (Elt Ideal) ℓ) (g' : Dev Cert.WMlpOutRefIdeal.nD → PrngReg), Pre_WMlpOutIdeal m →
    (∀ c : Dev Cert.WMlpOutIdeal.nD,
      m' ((c.tc : Thread Cert.WMlpOutRefIdeal.nD Cert.WMlpOutRefIdeal.τ).loc Cert.WMlpOutRefIdeal.main_arg0) = m ((c.tc : Thread Cert.WMlpOutIdeal.nD Cert.WMlpOutIdeal.τ).loc Cert.WMlpOutIdeal.main_arg0)
      ∧ m' ((c.tc : Thread Cert.WMlpOutRefIdeal.nD Cert.WMlpOutRefIdeal.τ).loc Cert.WMlpOutRefIdeal.main_arg1) = m ((c.tc : Thread Cert.WMlpOutIdeal.nD Cert.WMlpOutIdeal.τ).loc Cert.WMlpOutIdeal.main_arg1)) →
    ∃ (v0 : (c : Dev Cert.WMlpOutIdeal.nD) → Buf (Elt Ideal) ((c.tc : Thread Cert.WMlpOutIdeal.nD Cert.WMlpOutIdeal.τ).loc Cert.WMlpOutIdeal.main_v0)),
      θ_run (Cert.WMlpOutIdeal.defs (F := Ideal)) (onTc (τ := Cert.WMlpOutIdeal.τ) (Cert.WMlpOutIdeal.main (F := Ideal))) ⟨m, fun _ => 0, g⟩ (fun r => ∀ c : Dev Cert.WMlpOutIdeal.nD,
          r.2.mem ((c.tc : Thread Cert.WMlpOutIdeal.nD Cert.WMlpOutIdeal.τ).loc Cert.WMlpOutIdeal.main_v0) = v0 c
          ∧ r.2.mem ((c.tc : Thread Cert.WMlpOutIdeal.nD Cert.WMlpOutIdeal.τ).loc Cert.WMlpOutIdeal.main_arg0) = m ((c.tc : Thread Cert.WMlpOutIdeal.nD Cert.WMlpOutIdeal.τ).loc Cert.WMlpOutIdeal.main_arg0)
          ∧ r.2.mem ((c.tc : Thread Cert.WMlpOutIdeal.nD Cert.WMlpOutIdeal.τ).loc Cert.WMlpOutIdeal.main_arg1) = m ((c.tc : Thread Cert.WMlpOutIdeal.nD Cert.WMlpOutIdeal.τ).loc Cert.WMlpOutIdeal.main_arg1))
      ∧ θ_run (Cert.WMlpOutRefIdeal.defs (F := Ideal)) (onTc (τ := Cert.WMlpOutRefIdeal.τ) (Cert.WMlpOutRefIdeal.main (F := Ideal))) ⟨m', fun _ => 0, g'⟩ (fun r => ∀ c : Dev Cert.WMlpOutRefIdeal.nD,
          r.2.mem ((c.tc : Thread Cert.WMlpOutRefIdeal.nD Cert.WMlpOutRefIdeal.τ).loc Cert.WMlpOutRefIdeal.main_v8) = v0 c
          ∧ r.2.mem ((c.tc : Thread Cert.WMlpOutRefIdeal.nD Cert.WMlpOutRefIdeal.τ).loc Cert.WMlpOutRefIdeal.main_arg0) = m' ((c.tc : Thread Cert.WMlpOutRefIdeal.nD Cert.WMlpOutRefIdeal.τ).loc Cert.WMlpOutRefIdeal.main_arg0)
          ∧ r.2.mem ((c.tc : Thread Cert.WMlpOutRefIdeal.nD Cert.WMlpOutRefIdeal.τ).loc Cert.WMlpOutRefIdeal.main_arg1) = m' ((c.tc : Thread Cert.WMlpOutRefIdeal.nD Cert.WMlpOutRefIdeal.τ).loc Cert.WMlpOutRefIdeal.main_arg1))

def preserves_WMlpIn_WMlpInIdeal : Prop :=
  True

def algebraic_WMlpInIdeal_WMlpInRefIdeal [hWMlpInIdeal : Cert.WMlpInIdeal.Facts] [hWMlpInRefIdeal : Cert.WMlpInRefIdeal.Facts] : Prop :=
  ∀ (m : (ℓ : Loc Cert.WMlpInIdeal.nD Cert.WMlpInIdeal.τ Cert.WMlpInIdeal.sig) → Buf (Elt Ideal) ℓ) (g : Dev Cert.WMlpInIdeal.nD → PrngReg)
    (m' : (ℓ : Loc Cert.WMlpInRefIdeal.nD Cert.WMlpInRefIdeal.τ Cert.WMlpInRefIdeal.sig) → Buf (Elt Ideal) ℓ) (g' : Dev Cert.WMlpInRefIdeal.nD → PrngReg), Pre_WMlpInIdeal m →
    (∀ c : Dev Cert.WMlpInIdeal.nD,
      m' ((c.tc : Thread Cert.WMlpInRefIdeal.nD Cert.WMlpInRefIdeal.τ).loc Cert.WMlpInRefIdeal.main_arg0) = m ((c.tc : Thread Cert.WMlpInIdeal.nD Cert.WMlpInIdeal.τ).loc Cert.WMlpInIdeal.main_arg0)
      ∧ m' ((c.tc : Thread Cert.WMlpInRefIdeal.nD Cert.WMlpInRefIdeal.τ).loc Cert.WMlpInRefIdeal.main_arg1) = m ((c.tc : Thread Cert.WMlpInIdeal.nD Cert.WMlpInIdeal.τ).loc Cert.WMlpInIdeal.main_arg1)) →
    ∃ (v0 : (c : Dev Cert.WMlpInIdeal.nD) → Buf (Elt Ideal) ((c.tc : Thread Cert.WMlpInIdeal.nD Cert.WMlpInIdeal.τ).loc Cert.WMlpInIdeal.main_v0)),
      θ_run (Cert.WMlpInIdeal.defs (F := Ideal)) (onTc (τ := Cert.WMlpInIdeal.τ) (Cert.WMlpInIdeal.main (F := Ideal))) ⟨m, fun _ => 0, g⟩ (fun r => ∀ c : Dev Cert.WMlpInIdeal.nD,
          r.2.mem ((c.tc : Thread Cert.WMlpInIdeal.nD Cert.WMlpInIdeal.τ).loc Cert.WMlpInIdeal.main_v0) = v0 c
          ∧ r.2.mem ((c.tc : Thread Cert.WMlpInIdeal.nD Cert.WMlpInIdeal.τ).loc Cert.WMlpInIdeal.main_arg0) = m ((c.tc : Thread Cert.WMlpInIdeal.nD Cert.WMlpInIdeal.τ).loc Cert.WMlpInIdeal.main_arg0)
          ∧ r.2.mem ((c.tc : Thread Cert.WMlpInIdeal.nD Cert.WMlpInIdeal.τ).loc Cert.WMlpInIdeal.main_arg1) = m ((c.tc : Thread Cert.WMlpInIdeal.nD Cert.WMlpInIdeal.τ).loc Cert.WMlpInIdeal.main_arg1))
      ∧ θ_run (Cert.WMlpInRefIdeal.defs (F := Ideal)) (onTc (τ := Cert.WMlpInRefIdeal.τ) (Cert.WMlpInRefIdeal.main (F := Ideal))) ⟨m', fun _ => 0, g'⟩ (fun r => ∀ c : Dev Cert.WMlpInRefIdeal.nD,
          r.2.mem ((c.tc : Thread Cert.WMlpInRefIdeal.nD Cert.WMlpInRefIdeal.τ).loc Cert.WMlpInRefIdeal.main_v10) = v0 c
          ∧ r.2.mem ((c.tc : Thread Cert.WMlpInRefIdeal.nD Cert.WMlpInRefIdeal.τ).loc Cert.WMlpInRefIdeal.main_arg0) = m' ((c.tc : Thread Cert.WMlpInRefIdeal.nD Cert.WMlpInRefIdeal.τ).loc Cert.WMlpInRefIdeal.main_arg0)
          ∧ r.2.mem ((c.tc : Thread Cert.WMlpInRefIdeal.nD Cert.WMlpInRefIdeal.τ).loc Cert.WMlpInRefIdeal.main_arg1) = m' ((c.tc : Thread Cert.WMlpInRefIdeal.nD Cert.WMlpInRefIdeal.τ).loc Cert.WMlpInRefIdeal.main_arg1))

def preserves_W1024_W1024Ideal : Prop :=
  True

def algebraic_W1024Ideal_W1024RefIdeal [hW1024Ideal : Cert.W1024Ideal.Facts] [hW1024RefIdeal : Cert.W1024RefIdeal.Facts] : Prop :=
  ∀ (m : (ℓ : Loc Cert.W1024Ideal.nD Cert.W1024Ideal.τ Cert.W1024Ideal.sig) → Buf (Elt Ideal) ℓ) (g : Dev Cert.W1024Ideal.nD → PrngReg)
    (m' : (ℓ : Loc Cert.W1024RefIdeal.nD Cert.W1024RefIdeal.τ Cert.W1024RefIdeal.sig) → Buf (Elt Ideal) ℓ) (g' : Dev Cert.W1024RefIdeal.nD → PrngReg), Pre_W1024Ideal m →
    (∀ c : Dev Cert.W1024Ideal.nD,
      m' ((c.tc : Thread Cert.W1024RefIdeal.nD Cert.W1024RefIdeal.τ).loc Cert.W1024RefIdeal.main_arg0) = m ((c.tc : Thread Cert.W1024Ideal.nD Cert.W1024Ideal.τ).loc Cert.W1024Ideal.main_arg0)
      ∧ m' ((c.tc : Thread Cert.W1024RefIdeal.nD Cert.W1024RefIdeal.τ).loc Cert.W1024RefIdeal.main_arg1) = m ((c.tc : Thread Cert.W1024Ideal.nD Cert.W1024Ideal.τ).loc Cert.W1024Ideal.main_arg1)) →
    ∃ (v0 : (c : Dev Cert.W1024Ideal.nD) → Buf (Elt Ideal) ((c.tc : Thread Cert.W1024Ideal.nD Cert.W1024Ideal.τ).loc Cert.W1024Ideal.main_v0)),
      θ_run (Cert.W1024Ideal.defs (F := Ideal)) (onTc (τ := Cert.W1024Ideal.τ) (Cert.W1024Ideal.main (F := Ideal))) ⟨m, fun _ => 0, g⟩ (fun r => ∀ c : Dev Cert.W1024Ideal.nD,
          r.2.mem ((c.tc : Thread Cert.W1024Ideal.nD Cert.W1024Ideal.τ).loc Cert.W1024Ideal.main_v0) = v0 c
          ∧ r.2.mem ((c.tc : Thread Cert.W1024Ideal.nD Cert.W1024Ideal.τ).loc Cert.W1024Ideal.main_arg0) = m ((c.tc : Thread Cert.W1024Ideal.nD Cert.W1024Ideal.τ).loc Cert.W1024Ideal.main_arg0)
          ∧ r.2.mem ((c.tc : Thread Cert.W1024Ideal.nD Cert.W1024Ideal.τ).loc Cert.W1024Ideal.main_arg1) = m ((c.tc : Thread Cert.W1024Ideal.nD Cert.W1024Ideal.τ).loc Cert.W1024Ideal.main_arg1))
      ∧ θ_run (Cert.W1024RefIdeal.defs (F := Ideal)) (onTc (τ := Cert.W1024RefIdeal.τ) (Cert.W1024RefIdeal.main (F := Ideal))) ⟨m', fun _ => 0, g'⟩ (fun r => ∀ c : Dev Cert.W1024RefIdeal.nD,
          r.2.mem ((c.tc : Thread Cert.W1024RefIdeal.nD Cert.W1024RefIdeal.τ).loc Cert.W1024RefIdeal.main_v6) = v0 c
          ∧ r.2.mem ((c.tc : Thread Cert.W1024RefIdeal.nD Cert.W1024RefIdeal.τ).loc Cert.W1024RefIdeal.main_arg0) = m' ((c.tc : Thread Cert.W1024RefIdeal.nD Cert.W1024RefIdeal.τ).loc Cert.W1024RefIdeal.main_arg0)
          ∧ r.2.mem ((c.tc : Thread Cert.W1024RefIdeal.nD Cert.W1024RefIdeal.τ).loc Cert.W1024RefIdeal.main_arg1) = m' ((c.tc : Thread Cert.W1024RefIdeal.nD Cert.W1024RefIdeal.τ).loc Cert.W1024RefIdeal.main_arg1))

def preserves_WBranchB_WBranchBIdeal : Prop :=
  True

def algebraic_WBranchBIdeal_WBranchBRefIdeal [hWBranchBIdeal : Cert.WBranchBIdeal.Facts] [hWBranchBRefIdeal : Cert.WBranchBRefIdeal.Facts] : Prop :=
  ∀ (m : (ℓ : Loc Cert.WBranchBIdeal.nD Cert.WBranchBIdeal.τ Cert.WBranchBIdeal.sig) → Buf (Elt Ideal) ℓ) (g : Dev Cert.WBranchBIdeal.nD → PrngReg)
    (m' : (ℓ : Loc Cert.WBranchBRefIdeal.nD Cert.WBranchBRefIdeal.τ Cert.WBranchBRefIdeal.sig) → Buf (Elt Ideal) ℓ) (g' : Dev Cert.WBranchBRefIdeal.nD → PrngReg), Pre_WBranchBIdeal m →
    (∀ c : Dev Cert.WBranchBIdeal.nD,
      m' ((c.tc : Thread Cert.WBranchBRefIdeal.nD Cert.WBranchBRefIdeal.τ).loc Cert.WBranchBRefIdeal.main_arg0) = m ((c.tc : Thread Cert.WBranchBIdeal.nD Cert.WBranchBIdeal.τ).loc Cert.WBranchBIdeal.main_arg0)
      ∧ m' ((c.tc : Thread Cert.WBranchBRefIdeal.nD Cert.WBranchBRefIdeal.τ).loc Cert.WBranchBRefIdeal.main_arg1) = m ((c.tc : Thread Cert.WBranchBIdeal.nD Cert.WBranchBIdeal.τ).loc Cert.WBranchBIdeal.main_arg1)) →
    ∃ (v0 : (c : Dev Cert.WBranchBIdeal.nD) → Buf (Elt Ideal) ((c.tc : Thread Cert.WBranchBIdeal.nD Cert.WBranchBIdeal.τ).loc Cert.WBranchBIdeal.main_v0)),
      θ_run (Cert.WBranchBIdeal.defs (F := Ideal)) (onTc (τ := Cert.WBranchBIdeal.τ) (Cert.WBranchBIdeal.main (F := Ideal))) ⟨m, fun _ => 0, g⟩ (fun r => ∀ c : Dev Cert.WBranchBIdeal.nD,
          r.2.mem ((c.tc : Thread Cert.WBranchBIdeal.nD Cert.WBranchBIdeal.τ).loc Cert.WBranchBIdeal.main_v0) = v0 c
          ∧ r.2.mem ((c.tc : Thread Cert.WBranchBIdeal.nD Cert.WBranchBIdeal.τ).loc Cert.WBranchBIdeal.main_arg0) = m ((c.tc : Thread Cert.WBranchBIdeal.nD Cert.WBranchBIdeal.τ).loc Cert.WBranchBIdeal.main_arg0)
          ∧ r.2.mem ((c.tc : Thread Cert.WBranchBIdeal.nD Cert.WBranchBIdeal.τ).loc Cert.WBranchBIdeal.main_arg1) = m ((c.tc : Thread Cert.WBranchBIdeal.nD Cert.WBranchBIdeal.τ).loc Cert.WBranchBIdeal.main_arg1))
      ∧ θ_run (Cert.WBranchBRefIdeal.defs (F := Ideal)) (onTc (τ := Cert.WBranchBRefIdeal.τ) (Cert.WBranchBRefIdeal.main (F := Ideal))) ⟨m', fun _ => 0, g'⟩ (fun r => ∀ c : Dev Cert.WBranchBRefIdeal.nD,
          r.2.mem ((c.tc : Thread Cert.WBranchBRefIdeal.nD Cert.WBranchBRefIdeal.τ).loc Cert.WBranchBRefIdeal.main_v6) = v0 c
          ∧ r.2.mem ((c.tc : Thread Cert.WBranchBRefIdeal.nD Cert.WBranchBRefIdeal.τ).loc Cert.WBranchBRefIdeal.main_arg0) = m' ((c.tc : Thread Cert.WBranchBRefIdeal.nD Cert.WBranchBRefIdeal.τ).loc Cert.WBranchBRefIdeal.main_arg0)
          ∧ r.2.mem ((c.tc : Thread Cert.WBranchBRefIdeal.nD Cert.WBranchBRefIdeal.τ).loc Cert.WBranchBRefIdeal.main_arg1) = m' ((c.tc : Thread Cert.WBranchBRefIdeal.nD Cert.WBranchBRefIdeal.τ).loc Cert.WBranchBRefIdeal.main_arg1))

def preserves_W2048_W2048Ideal : Prop :=
  True

def algebraic_W2048Ideal_W2048RefIdeal [hW2048Ideal : Cert.W2048Ideal.Facts] [hW2048RefIdeal : Cert.W2048RefIdeal.Facts] : Prop :=
  ∀ (m : (ℓ : Loc Cert.W2048Ideal.nD Cert.W2048Ideal.τ Cert.W2048Ideal.sig) → Buf (Elt Ideal) ℓ) (g : Dev Cert.W2048Ideal.nD → PrngReg)
    (m' : (ℓ : Loc Cert.W2048RefIdeal.nD Cert.W2048RefIdeal.τ Cert.W2048RefIdeal.sig) → Buf (Elt Ideal) ℓ) (g' : Dev Cert.W2048RefIdeal.nD → PrngReg), Pre_W2048Ideal m →
    (∀ c : Dev Cert.W2048Ideal.nD,
      m' ((c.tc : Thread Cert.W2048RefIdeal.nD Cert.W2048RefIdeal.τ).loc Cert.W2048RefIdeal.main_arg0) = m ((c.tc : Thread Cert.W2048Ideal.nD Cert.W2048Ideal.τ).loc Cert.W2048Ideal.main_arg0)
      ∧ m' ((c.tc : Thread Cert.W2048RefIdeal.nD Cert.W2048RefIdeal.τ).loc Cert.W2048RefIdeal.main_arg1) = m ((c.tc : Thread Cert.W2048Ideal.nD Cert.W2048Ideal.τ).loc Cert.W2048Ideal.main_arg1)) →
    ∃ (v0 : (c : Dev Cert.W2048Ideal.nD) → Buf (Elt Ideal) ((c.tc : Thread Cert.W2048Ideal.nD Cert.W2048Ideal.τ).loc Cert.W2048Ideal.main_v0)),
      θ_run (Cert.W2048Ideal.defs (F := Ideal)) (onTc (τ := Cert.W2048Ideal.τ) (Cert.W2048Ideal.main (F := Ideal))) ⟨m, fun _ => 0, g⟩ (fun r => ∀ c : Dev Cert.W2048Ideal.nD,
          r.2.mem ((c.tc : Thread Cert.W2048Ideal.nD Cert.W2048Ideal.τ).loc Cert.W2048Ideal.main_v0) = v0 c
          ∧ r.2.mem ((c.tc : Thread Cert.W2048Ideal.nD Cert.W2048Ideal.τ).loc Cert.W2048Ideal.main_arg0) = m ((c.tc : Thread Cert.W2048Ideal.nD Cert.W2048Ideal.τ).loc Cert.W2048Ideal.main_arg0)
          ∧ r.2.mem ((c.tc : Thread Cert.W2048Ideal.nD Cert.W2048Ideal.τ).loc Cert.W2048Ideal.main_arg1) = m ((c.tc : Thread Cert.W2048Ideal.nD Cert.W2048Ideal.τ).loc Cert.W2048Ideal.main_arg1))
      ∧ θ_run (Cert.W2048RefIdeal.defs (F := Ideal)) (onTc (τ := Cert.W2048RefIdeal.τ) (Cert.W2048RefIdeal.main (F := Ideal))) ⟨m', fun _ => 0, g'⟩ (fun r => ∀ c : Dev Cert.W2048RefIdeal.nD,
          r.2.mem ((c.tc : Thread Cert.W2048RefIdeal.nD Cert.W2048RefIdeal.τ).loc Cert.W2048RefIdeal.main_v6) = v0 c
          ∧ r.2.mem ((c.tc : Thread Cert.W2048RefIdeal.nD Cert.W2048RefIdeal.τ).loc Cert.W2048RefIdeal.main_arg0) = m' ((c.tc : Thread Cert.W2048RefIdeal.nD Cert.W2048RefIdeal.τ).loc Cert.W2048RefIdeal.main_arg0)
          ∧ r.2.mem ((c.tc : Thread Cert.W2048RefIdeal.nD Cert.W2048RefIdeal.τ).loc Cert.W2048RefIdeal.main_arg1) = m' ((c.tc : Thread Cert.W2048RefIdeal.nD Cert.W2048RefIdeal.τ).loc Cert.W2048RefIdeal.main_arg1))

def preserves_W512_W512Ideal : Prop :=
  True

def algebraic_W512Ideal_W512RefIdeal [hW512Ideal : Cert.W512Ideal.Facts] [hW512RefIdeal : Cert.W512RefIdeal.Facts] : Prop :=
  ∀ (m : (ℓ : Loc Cert.W512Ideal.nD Cert.W512Ideal.τ Cert.W512Ideal.sig) → Buf (Elt Ideal) ℓ) (g : Dev Cert.W512Ideal.nD → PrngReg)
    (m' : (ℓ : Loc Cert.W512RefIdeal.nD Cert.W512RefIdeal.τ Cert.W512RefIdeal.sig) → Buf (Elt Ideal) ℓ) (g' : Dev Cert.W512RefIdeal.nD → PrngReg), Pre_W512Ideal m →
    (∀ c : Dev Cert.W512Ideal.nD,
      m' ((c.tc : Thread Cert.W512RefIdeal.nD Cert.W512RefIdeal.τ).loc Cert.W512RefIdeal.main_arg0) = m ((c.tc : Thread Cert.W512Ideal.nD Cert.W512Ideal.τ).loc Cert.W512Ideal.main_arg0)
      ∧ m' ((c.tc : Thread Cert.W512RefIdeal.nD Cert.W512RefIdeal.τ).loc Cert.W512RefIdeal.main_arg1) = m ((c.tc : Thread Cert.W512Ideal.nD Cert.W512Ideal.τ).loc Cert.W512Ideal.main_arg1)) →
    ∃ (v0 : (c : Dev Cert.W512Ideal.nD) → Buf (Elt Ideal) ((c.tc : Thread Cert.W512Ideal.nD Cert.W512Ideal.τ).loc Cert.W512Ideal.main_v0)),
      θ_run (Cert.W512Ideal.defs (F := Ideal)) (onTc (τ := Cert.W512Ideal.τ) (Cert.W512Ideal.main (F := Ideal))) ⟨m, fun _ => 0, g⟩ (fun r => ∀ c : Dev Cert.W512Ideal.nD,
          r.2.mem ((c.tc : Thread Cert.W512Ideal.nD Cert.W512Ideal.τ).loc Cert.W512Ideal.main_v0) = v0 c
          ∧ r.2.mem ((c.tc : Thread Cert.W512Ideal.nD Cert.W512Ideal.τ).loc Cert.W512Ideal.main_arg0) = m ((c.tc : Thread Cert.W512Ideal.nD Cert.W512Ideal.τ).loc Cert.W512Ideal.main_arg0)
          ∧ r.2.mem ((c.tc : Thread Cert.W512Ideal.nD Cert.W512Ideal.τ).loc Cert.W512Ideal.main_arg1) = m ((c.tc : Thread Cert.W512Ideal.nD Cert.W512Ideal.τ).loc Cert.W512Ideal.main_arg1))
      ∧ θ_run (Cert.W512RefIdeal.defs (F := Ideal)) (onTc (τ := Cert.W512RefIdeal.τ) (Cert.W512RefIdeal.main (F := Ideal))) ⟨m', fun _ => 0, g'⟩ (fun r => ∀ c : Dev Cert.W512RefIdeal.nD,
          r.2.mem ((c.tc : Thread Cert.W512RefIdeal.nD Cert.W512RefIdeal.τ).loc Cert.W512RefIdeal.main_v6) = v0 c
          ∧ r.2.mem ((c.tc : Thread Cert.W512RefIdeal.nD Cert.W512RefIdeal.τ).loc Cert.W512RefIdeal.main_arg0) = m' ((c.tc : Thread Cert.W512RefIdeal.nD Cert.W512RefIdeal.τ).loc Cert.W512RefIdeal.main_arg0)
          ∧ r.2.mem ((c.tc : Thread Cert.W512RefIdeal.nD Cert.W512RefIdeal.τ).loc Cert.W512RefIdeal.main_arg1) = m' ((c.tc : Thread Cert.W512RefIdeal.nD Cert.W512RefIdeal.τ).loc Cert.W512RefIdeal.main_arg1))

def preserves_W1152_W1152Ideal : Prop :=
  True

def algebraic_W1152Ideal_W1152RefIdeal [hW1152Ideal : Cert.W1152Ideal.Facts] [hW1152RefIdeal : Cert.W1152RefIdeal.Facts] : Prop :=
  ∀ (m : (ℓ : Loc Cert.W1152Ideal.nD Cert.W1152Ideal.τ Cert.W1152Ideal.sig) → Buf (Elt Ideal) ℓ) (g : Dev Cert.W1152Ideal.nD → PrngReg)
    (m' : (ℓ : Loc Cert.W1152RefIdeal.nD Cert.W1152RefIdeal.τ Cert.W1152RefIdeal.sig) → Buf (Elt Ideal) ℓ) (g' : Dev Cert.W1152RefIdeal.nD → PrngReg), Pre_W1152Ideal m →
    (∀ c : Dev Cert.W1152Ideal.nD,
      m' ((c.tc : Thread Cert.W1152RefIdeal.nD Cert.W1152RefIdeal.τ).loc Cert.W1152RefIdeal.main_arg0) = m ((c.tc : Thread Cert.W1152Ideal.nD Cert.W1152Ideal.τ).loc Cert.W1152Ideal.main_arg0)
      ∧ m' ((c.tc : Thread Cert.W1152RefIdeal.nD Cert.W1152RefIdeal.τ).loc Cert.W1152RefIdeal.main_arg1) = m ((c.tc : Thread Cert.W1152Ideal.nD Cert.W1152Ideal.τ).loc Cert.W1152Ideal.main_arg1)) →
    ∃ (v0 : (c : Dev Cert.W1152Ideal.nD) → Buf (Elt Ideal) ((c.tc : Thread Cert.W1152Ideal.nD Cert.W1152Ideal.τ).loc Cert.W1152Ideal.main_v0)),
      θ_run (Cert.W1152Ideal.defs (F := Ideal)) (onTc (τ := Cert.W1152Ideal.τ) (Cert.W1152Ideal.main (F := Ideal))) ⟨m, fun _ => 0, g⟩ (fun r => ∀ c : Dev Cert.W1152Ideal.nD,
          r.2.mem ((c.tc : Thread Cert.W1152Ideal.nD Cert.W1152Ideal.τ).loc Cert.W1152Ideal.main_v0) = v0 c
          ∧ r.2.mem ((c.tc : Thread Cert.W1152Ideal.nD Cert.W1152Ideal.τ).loc Cert.W1152Ideal.main_arg0) = m ((c.tc : Thread Cert.W1152Ideal.nD Cert.W1152Ideal.τ).loc Cert.W1152Ideal.main_arg0)
          ∧ r.2.mem ((c.tc : Thread Cert.W1152Ideal.nD Cert.W1152Ideal.τ).loc Cert.W1152Ideal.main_arg1) = m ((c.tc : Thread Cert.W1152Ideal.nD Cert.W1152Ideal.τ).loc Cert.W1152Ideal.main_arg1))
      ∧ θ_run (Cert.W1152RefIdeal.defs (F := Ideal)) (onTc (τ := Cert.W1152RefIdeal.τ) (Cert.W1152RefIdeal.main (F := Ideal))) ⟨m', fun _ => 0, g'⟩ (fun r => ∀ c : Dev Cert.W1152RefIdeal.nD,
          r.2.mem ((c.tc : Thread Cert.W1152RefIdeal.nD Cert.W1152RefIdeal.τ).loc Cert.W1152RefIdeal.main_v6) = v0 c
          ∧ r.2.mem ((c.tc : Thread Cert.W1152RefIdeal.nD Cert.W1152RefIdeal.τ).loc Cert.W1152RefIdeal.main_arg0) = m' ((c.tc : Thread Cert.W1152RefIdeal.nD Cert.W1152RefIdeal.τ).loc Cert.W1152RefIdeal.main_arg0)
          ∧ r.2.mem ((c.tc : Thread Cert.W1152RefIdeal.nD Cert.W1152RefIdeal.τ).loc Cert.W1152RefIdeal.main_arg1) = m' ((c.tc : Thread Cert.W1152RefIdeal.nD Cert.W1152RefIdeal.τ).loc Cert.W1152RefIdeal.main_arg1))

def preserves_UpdMlpOut_UpdMlpOutIdeal : Prop :=
  True

def algebraic_UpdMlpOutIdeal_UpdMlpOutRefIdeal [hUpdMlpOutIdeal : Cert.UpdMlpOutIdeal.Facts] [hUpdMlpOutRefIdeal : Cert.UpdMlpOutRefIdeal.Facts] : Prop :=
  ∀ (m : (ℓ : Loc Cert.UpdMlpOutIdeal.nD Cert.UpdMlpOutIdeal.τ Cert.UpdMlpOutIdeal.sig) → Buf (Elt Ideal) ℓ) (g : Dev Cert.UpdMlpOutIdeal.nD → PrngReg)
    (m' : (ℓ : Loc Cert.UpdMlpOutRefIdeal.nD Cert.UpdMlpOutRefIdeal.τ Cert.UpdMlpOutRefIdeal.sig) → Buf (Elt Ideal) ℓ) (g' : Dev Cert.UpdMlpOutRefIdeal.nD → PrngReg), Pre_UpdMlpOutIdeal m →
    (∀ c : Dev Cert.UpdMlpOutIdeal.nD,
      m' ((c.tc : Thread Cert.UpdMlpOutRefIdeal.nD Cert.UpdMlpOutRefIdeal.τ).loc Cert.UpdMlpOutRefIdeal.main_arg0) = m ((c.tc : Thread Cert.UpdMlpOutIdeal.nD Cert.UpdMlpOutIdeal.τ).loc Cert.UpdMlpOutIdeal.main_arg0)
      ∧ m' ((c.tc : Thread Cert.UpdMlpOutRefIdeal.nD Cert.UpdMlpOutRefIdeal.τ).loc Cert.UpdMlpOutRefIdeal.main_arg1) = m ((c.tc : Thread Cert.UpdMlpOutIdeal.nD Cert.UpdMlpOutIdeal.τ).loc Cert.UpdMlpOutIdeal.main_arg1)
      ∧ m' ((c.tc : Thread Cert.UpdMlpOutRefIdeal.nD Cert.UpdMlpOutRefIdeal.τ).loc Cert.UpdMlpOutRefIdeal.main_arg2) = m ((c.tc : Thread Cert.UpdMlpOutIdeal.nD Cert.UpdMlpOutIdeal.τ).loc Cert.UpdMlpOutIdeal.main_arg2)
      ∧ m' ((c.tc : Thread Cert.UpdMlpOutRefIdeal.nD Cert.UpdMlpOutRefIdeal.τ).loc Cert.UpdMlpOutRefIdeal.main_arg3) = m ((c.tc : Thread Cert.UpdMlpOutIdeal.nD Cert.UpdMlpOutIdeal.τ).loc Cert.UpdMlpOutIdeal.main_arg3)) →
    ∃ (v0 : (c : Dev Cert.UpdMlpOutIdeal.nD) → Buf (Elt Ideal) ((c.tc : Thread Cert.UpdMlpOutIdeal.nD Cert.UpdMlpOutIdeal.τ).loc Cert.UpdMlpOutIdeal.main_v0_0)) (v1 : (c : Dev Cert.UpdMlpOutIdeal.nD) → Buf (Elt Ideal) ((c.tc : Thread Cert.UpdMlpOutIdeal.nD Cert.UpdMlpOutIdeal.τ).loc Cert.UpdMlpOutIdeal.main_v0_1)) (v2 : (c : Dev Cert.UpdMlpOutIdeal.nD) → Buf (Elt Ideal) ((c.tc : Thread Cert.UpdMlpOutIdeal.nD Cert.UpdMlpOutIdeal.τ).loc Cert.UpdMlpOutIdeal.main_v0_2)) (v3 : (c : Dev Cert.UpdMlpOutIdeal.nD) → Buf (Elt Ideal) ((c.tc : Thread Cert.UpdMlpOutIdeal.nD Cert.UpdMlpOutIdeal.τ).loc Cert.UpdMlpOutIdeal.main_v0_3)),
      θ_run (Cert.UpdMlpOutIdeal.defs (F := Ideal)) (onTc (τ := Cert.UpdMlpOutIdeal.τ) (Cert.UpdMlpOutIdeal.main (F := Ideal))) ⟨m, fun _ => 0, g⟩ (fun r => ∀ c : Dev Cert.UpdMlpOutIdeal.nD,
          r.2.mem ((c.tc : Thread Cert.UpdMlpOutIdeal.nD Cert.UpdMlpOutIdeal.τ).loc Cert.UpdMlpOutIdeal.main_v0_0) = v0 c
          ∧ r.2.mem ((c.tc : Thread Cert.UpdMlpOutIdeal.nD Cert.UpdMlpOutIdeal.τ).loc Cert.UpdMlpOutIdeal.main_v0_1) = v1 c
          ∧ r.2.mem ((c.tc : Thread Cert.UpdMlpOutIdeal.nD Cert.UpdMlpOutIdeal.τ).loc Cert.UpdMlpOutIdeal.main_v0_2) = v2 c
          ∧ r.2.mem ((c.tc : Thread Cert.UpdMlpOutIdeal.nD Cert.UpdMlpOutIdeal.τ).loc Cert.UpdMlpOutIdeal.main_v0_3) = v3 c
          ∧ r.2.mem ((c.tc : Thread Cert.UpdMlpOutIdeal.nD Cert.UpdMlpOutIdeal.τ).loc Cert.UpdMlpOutIdeal.main_arg0) = m ((c.tc : Thread Cert.UpdMlpOutIdeal.nD Cert.UpdMlpOutIdeal.τ).loc Cert.UpdMlpOutIdeal.main_arg0)
          ∧ r.2.mem ((c.tc : Thread Cert.UpdMlpOutIdeal.nD Cert.UpdMlpOutIdeal.τ).loc Cert.UpdMlpOutIdeal.main_arg1) = m ((c.tc : Thread Cert.UpdMlpOutIdeal.nD Cert.UpdMlpOutIdeal.τ).loc Cert.UpdMlpOutIdeal.main_arg1)
          ∧ r.2.mem ((c.tc : Thread Cert.UpdMlpOutIdeal.nD Cert.UpdMlpOutIdeal.τ).loc Cert.UpdMlpOutIdeal.main_arg2) = m ((c.tc : Thread Cert.UpdMlpOutIdeal.nD Cert.UpdMlpOutIdeal.τ).loc Cert.UpdMlpOutIdeal.main_arg2)
          ∧ r.2.mem ((c.tc : Thread Cert.UpdMlpOutIdeal.nD Cert.UpdMlpOutIdeal.τ).loc Cert.UpdMlpOutIdeal.main_arg3) = m ((c.tc : Thread Cert.UpdMlpOutIdeal.nD Cert.UpdMlpOutIdeal.τ).loc Cert.UpdMlpOutIdeal.main_arg3))
      ∧ θ_run (Cert.UpdMlpOutRefIdeal.defs (F := Ideal)) (onTc (τ := Cert.UpdMlpOutRefIdeal.τ) (Cert.UpdMlpOutRefIdeal.main (F := Ideal))) ⟨m', fun _ => 0, g'⟩ (fun r => ∀ c : Dev Cert.UpdMlpOutRefIdeal.nD,
          r.2.mem ((c.tc : Thread Cert.UpdMlpOutRefIdeal.nD Cert.UpdMlpOutRefIdeal.τ).loc Cert.UpdMlpOutRefIdeal.main_v1) = v0 c
          ∧ r.2.mem ((c.tc : Thread Cert.UpdMlpOutRefIdeal.nD Cert.UpdMlpOutRefIdeal.τ).loc Cert.UpdMlpOutRefIdeal.main_v25) = v1 c
          ∧ r.2.mem ((c.tc : Thread Cert.UpdMlpOutRefIdeal.nD Cert.UpdMlpOutRefIdeal.τ).loc Cert.UpdMlpOutRefIdeal.main_v6) = v2 c
          ∧ r.2.mem ((c.tc : Thread Cert.UpdMlpOutRefIdeal.nD Cert.UpdMlpOutRefIdeal.τ).loc Cert.UpdMlpOutRefIdeal.main_v12) = v3 c
          ∧ r.2.mem ((c.tc : Thread Cert.UpdMlpOutRefIdeal.nD Cert.UpdMlpOutRefIdeal.τ).loc Cert.UpdMlpOutRefIdeal.main_arg0) = m' ((c.tc : Thread Cert.UpdMlpOutRefIdeal.nD Cert.UpdMlpOutRefIdeal.τ).loc Cert.UpdMlpOutRefIdeal.main_arg0)
          ∧ r.2.mem ((c.tc : Thread Cert.UpdMlpOutRefIdeal.nD Cert.UpdMlpOutRefIdeal.τ).loc Cert.UpdMlpOutRefIdeal.main_arg1) = m' ((c.tc : Thread Cert.UpdMlpOutRefIdeal.nD Cert.UpdMlpOutRefIdeal.τ).loc Cert.UpdMlpOutRefIdeal.main_arg1)
          ∧ r.2.mem ((c.tc : Thread Cert.UpdMlpOutRefIdeal.nD Cert.UpdMlpOutRefIdeal.τ).loc Cert.UpdMlpOutRefIdeal.main_arg2) = m' ((c.tc : Thread Cert.UpdMlpOutRefIdeal.nD Cert.UpdMlpOutRefIdeal.τ).loc Cert.UpdMlpOutRefIdeal.main_arg2)
          ∧ r.2.mem ((c.tc : Thread Cert.UpdMlpOutRefIdeal.nD Cert.UpdMlpOutRefIdeal.τ).loc Cert.UpdMlpOutRefIdeal.main_arg3) = m' ((c.tc : Thread Cert.UpdMlpOutRefIdeal.nD Cert.UpdMlpOutRefIdeal.τ).loc Cert.UpdMlpOutRefIdeal.main_arg3))

def preserves_UpdMlpIn_UpdMlpInIdeal : Prop :=
  True

def algebraic_UpdMlpInIdeal_UpdMlpInRefIdeal [hUpdMlpInIdeal : Cert.UpdMlpInIdeal.Facts] [hUpdMlpInRefIdeal : Cert.UpdMlpInRefIdeal.Facts] : Prop :=
  ∀ (m : (ℓ : Loc Cert.UpdMlpInIdeal.nD Cert.UpdMlpInIdeal.τ Cert.UpdMlpInIdeal.sig) → Buf (Elt Ideal) ℓ) (g : Dev Cert.UpdMlpInIdeal.nD → PrngReg)
    (m' : (ℓ : Loc Cert.UpdMlpInRefIdeal.nD Cert.UpdMlpInRefIdeal.τ Cert.UpdMlpInRefIdeal.sig) → Buf (Elt Ideal) ℓ) (g' : Dev Cert.UpdMlpInRefIdeal.nD → PrngReg), Pre_UpdMlpInIdeal m →
    (∀ c : Dev Cert.UpdMlpInIdeal.nD,
      m' ((c.tc : Thread Cert.UpdMlpInRefIdeal.nD Cert.UpdMlpInRefIdeal.τ).loc Cert.UpdMlpInRefIdeal.main_arg0) = m ((c.tc : Thread Cert.UpdMlpInIdeal.nD Cert.UpdMlpInIdeal.τ).loc Cert.UpdMlpInIdeal.main_arg0)
      ∧ m' ((c.tc : Thread Cert.UpdMlpInRefIdeal.nD Cert.UpdMlpInRefIdeal.τ).loc Cert.UpdMlpInRefIdeal.main_arg1) = m ((c.tc : Thread Cert.UpdMlpInIdeal.nD Cert.UpdMlpInIdeal.τ).loc Cert.UpdMlpInIdeal.main_arg1)
      ∧ m' ((c.tc : Thread Cert.UpdMlpInRefIdeal.nD Cert.UpdMlpInRefIdeal.τ).loc Cert.UpdMlpInRefIdeal.main_arg2) = m ((c.tc : Thread Cert.UpdMlpInIdeal.nD Cert.UpdMlpInIdeal.τ).loc Cert.UpdMlpInIdeal.main_arg2)
      ∧ m' ((c.tc : Thread Cert.UpdMlpInRefIdeal.nD Cert.UpdMlpInRefIdeal.τ).loc Cert.UpdMlpInRefIdeal.main_arg3) = m ((c.tc : Thread Cert.UpdMlpInIdeal.nD Cert.UpdMlpInIdeal.τ).loc Cert.UpdMlpInIdeal.main_arg3)) →
    ∃ (v0 : (c : Dev Cert.UpdMlpInIdeal.nD) → Buf (Elt Ideal) ((c.tc : Thread Cert.UpdMlpInIdeal.nD Cert.UpdMlpInIdeal.τ).loc Cert.UpdMlpInIdeal.main_v0_0)) (v1 : (c : Dev Cert.UpdMlpInIdeal.nD) → Buf (Elt Ideal) ((c.tc : Thread Cert.UpdMlpInIdeal.nD Cert.UpdMlpInIdeal.τ).loc Cert.UpdMlpInIdeal.main_v0_1)) (v2 : (c : Dev Cert.UpdMlpInIdeal.nD) → Buf (Elt Ideal) ((c.tc : Thread Cert.UpdMlpInIdeal.nD Cert.UpdMlpInIdeal.τ).loc Cert.UpdMlpInIdeal.main_v0_2)) (v3 : (c : Dev Cert.UpdMlpInIdeal.nD) → Buf (Elt Ideal) ((c.tc : Thread Cert.UpdMlpInIdeal.nD Cert.UpdMlpInIdeal.τ).loc Cert.UpdMlpInIdeal.main_v0_3)),
      θ_run (Cert.UpdMlpInIdeal.defs (F := Ideal)) (onTc (τ := Cert.UpdMlpInIdeal.τ) (Cert.UpdMlpInIdeal.main (F := Ideal))) ⟨m, fun _ => 0, g⟩ (fun r => ∀ c : Dev Cert.UpdMlpInIdeal.nD,
          r.2.mem ((c.tc : Thread Cert.UpdMlpInIdeal.nD Cert.UpdMlpInIdeal.τ).loc Cert.UpdMlpInIdeal.main_v0_0) = v0 c
          ∧ r.2.mem ((c.tc : Thread Cert.UpdMlpInIdeal.nD Cert.UpdMlpInIdeal.τ).loc Cert.UpdMlpInIdeal.main_v0_1) = v1 c
          ∧ r.2.mem ((c.tc : Thread Cert.UpdMlpInIdeal.nD Cert.UpdMlpInIdeal.τ).loc Cert.UpdMlpInIdeal.main_v0_2) = v2 c
          ∧ r.2.mem ((c.tc : Thread Cert.UpdMlpInIdeal.nD Cert.UpdMlpInIdeal.τ).loc Cert.UpdMlpInIdeal.main_v0_3) = v3 c
          ∧ r.2.mem ((c.tc : Thread Cert.UpdMlpInIdeal.nD Cert.UpdMlpInIdeal.τ).loc Cert.UpdMlpInIdeal.main_arg0) = m ((c.tc : Thread Cert.UpdMlpInIdeal.nD Cert.UpdMlpInIdeal.τ).loc Cert.UpdMlpInIdeal.main_arg0)
          ∧ r.2.mem ((c.tc : Thread Cert.UpdMlpInIdeal.nD Cert.UpdMlpInIdeal.τ).loc Cert.UpdMlpInIdeal.main_arg1) = m ((c.tc : Thread Cert.UpdMlpInIdeal.nD Cert.UpdMlpInIdeal.τ).loc Cert.UpdMlpInIdeal.main_arg1)
          ∧ r.2.mem ((c.tc : Thread Cert.UpdMlpInIdeal.nD Cert.UpdMlpInIdeal.τ).loc Cert.UpdMlpInIdeal.main_arg2) = m ((c.tc : Thread Cert.UpdMlpInIdeal.nD Cert.UpdMlpInIdeal.τ).loc Cert.UpdMlpInIdeal.main_arg2)
          ∧ r.2.mem ((c.tc : Thread Cert.UpdMlpInIdeal.nD Cert.UpdMlpInIdeal.τ).loc Cert.UpdMlpInIdeal.main_arg3) = m ((c.tc : Thread Cert.UpdMlpInIdeal.nD Cert.UpdMlpInIdeal.τ).loc Cert.UpdMlpInIdeal.main_arg3))
      ∧ θ_run (Cert.UpdMlpInRefIdeal.defs (F := Ideal)) (onTc (τ := Cert.UpdMlpInRefIdeal.τ) (Cert.UpdMlpInRefIdeal.main (F := Ideal))) ⟨m', fun _ => 0, g'⟩ (fun r => ∀ c : Dev Cert.UpdMlpInRefIdeal.nD,
          r.2.mem ((c.tc : Thread Cert.UpdMlpInRefIdeal.nD Cert.UpdMlpInRefIdeal.τ).loc Cert.UpdMlpInRefIdeal.main_v1) = v0 c
          ∧ r.2.mem ((c.tc : Thread Cert.UpdMlpInRefIdeal.nD Cert.UpdMlpInRefIdeal.τ).loc Cert.UpdMlpInRefIdeal.main_v25) = v1 c
          ∧ r.2.mem ((c.tc : Thread Cert.UpdMlpInRefIdeal.nD Cert.UpdMlpInRefIdeal.τ).loc Cert.UpdMlpInRefIdeal.main_v6) = v2 c
          ∧ r.2.mem ((c.tc : Thread Cert.UpdMlpInRefIdeal.nD Cert.UpdMlpInRefIdeal.τ).loc Cert.UpdMlpInRefIdeal.main_v12) = v3 c
          ∧ r.2.mem ((c.tc : Thread Cert.UpdMlpInRefIdeal.nD Cert.UpdMlpInRefIdeal.τ).loc Cert.UpdMlpInRefIdeal.main_arg0) = m' ((c.tc : Thread Cert.UpdMlpInRefIdeal.nD Cert.UpdMlpInRefIdeal.τ).loc Cert.UpdMlpInRefIdeal.main_arg0)
          ∧ r.2.mem ((c.tc : Thread Cert.UpdMlpInRefIdeal.nD Cert.UpdMlpInRefIdeal.τ).loc Cert.UpdMlpInRefIdeal.main_arg1) = m' ((c.tc : Thread Cert.UpdMlpInRefIdeal.nD Cert.UpdMlpInRefIdeal.τ).loc Cert.UpdMlpInRefIdeal.main_arg1)
          ∧ r.2.mem ((c.tc : Thread Cert.UpdMlpInRefIdeal.nD Cert.UpdMlpInRefIdeal.τ).loc Cert.UpdMlpInRefIdeal.main_arg2) = m' ((c.tc : Thread Cert.UpdMlpInRefIdeal.nD Cert.UpdMlpInRefIdeal.τ).loc Cert.UpdMlpInRefIdeal.main_arg2)
          ∧ r.2.mem ((c.tc : Thread Cert.UpdMlpInRefIdeal.nD Cert.UpdMlpInRefIdeal.τ).loc Cert.UpdMlpInRefIdeal.main_arg3) = m' ((c.tc : Thread Cert.UpdMlpInRefIdeal.nD Cert.UpdMlpInRefIdeal.τ).loc Cert.UpdMlpInRefIdeal.main_arg3))

def preserves_UpdOut_UpdOutIdeal : Prop :=
  True

def algebraic_UpdOutIdeal_UpdOutRefIdeal [hUpdOutIdeal : Cert.UpdOutIdeal.Facts] [hUpdOutRefIdeal : Cert.UpdOutRefIdeal.Facts] : Prop :=
  ∀ (m : (ℓ : Loc Cert.UpdOutIdeal.nD Cert.UpdOutIdeal.τ Cert.UpdOutIdeal.sig) → Buf (Elt Ideal) ℓ) (g : Dev Cert.UpdOutIdeal.nD → PrngReg)
    (m' : (ℓ : Loc Cert.UpdOutRefIdeal.nD Cert.UpdOutRefIdeal.τ Cert.UpdOutRefIdeal.sig) → Buf (Elt Ideal) ℓ) (g' : Dev Cert.UpdOutRefIdeal.nD → PrngReg), Pre_UpdOutIdeal m →
    (∀ c : Dev Cert.UpdOutIdeal.nD,
      m' ((c.tc : Thread Cert.UpdOutRefIdeal.nD Cert.UpdOutRefIdeal.τ).loc Cert.UpdOutRefIdeal.main_arg0) = m ((c.tc : Thread Cert.UpdOutIdeal.nD Cert.UpdOutIdeal.τ).loc Cert.UpdOutIdeal.main_arg0)
      ∧ m' ((c.tc : Thread Cert.UpdOutRefIdeal.nD Cert.UpdOutRefIdeal.τ).loc Cert.UpdOutRefIdeal.main_arg1) = m ((c.tc : Thread Cert.UpdOutIdeal.nD Cert.UpdOutIdeal.τ).loc Cert.UpdOutIdeal.main_arg1)
      ∧ m' ((c.tc : Thread Cert.UpdOutRefIdeal.nD Cert.UpdOutRefIdeal.τ).loc Cert.UpdOutRefIdeal.main_arg2) = m ((c.tc : Thread Cert.UpdOutIdeal.nD Cert.UpdOutIdeal.τ).loc Cert.UpdOutIdeal.main_arg2)
      ∧ m' ((c.tc : Thread Cert.UpdOutRefIdeal.nD Cert.UpdOutRefIdeal.τ).loc Cert.UpdOutRefIdeal.main_arg3) = m ((c.tc : Thread Cert.UpdOutIdeal.nD Cert.UpdOutIdeal.τ).loc Cert.UpdOutIdeal.main_arg3)) →
    ∃ (v0 : (c : Dev Cert.UpdOutIdeal.nD) → Buf (Elt Ideal) ((c.tc : Thread Cert.UpdOutIdeal.nD Cert.UpdOutIdeal.τ).loc Cert.UpdOutIdeal.main_v0_0)) (v1 : (c : Dev Cert.UpdOutIdeal.nD) → Buf (Elt Ideal) ((c.tc : Thread Cert.UpdOutIdeal.nD Cert.UpdOutIdeal.τ).loc Cert.UpdOutIdeal.main_v0_1)) (v2 : (c : Dev Cert.UpdOutIdeal.nD) → Buf (Elt Ideal) ((c.tc : Thread Cert.UpdOutIdeal.nD Cert.UpdOutIdeal.τ).loc Cert.UpdOutIdeal.main_v0_2)) (v3 : (c : Dev Cert.UpdOutIdeal.nD) → Buf (Elt Ideal) ((c.tc : Thread Cert.UpdOutIdeal.nD Cert.UpdOutIdeal.τ).loc Cert.UpdOutIdeal.main_v0_3)),
      θ_run (Cert.UpdOutIdeal.defs (F := Ideal)) (onTc (τ := Cert.UpdOutIdeal.τ) (Cert.UpdOutIdeal.main (F := Ideal))) ⟨m, fun _ => 0, g⟩ (fun r => ∀ c : Dev Cert.UpdOutIdeal.nD,
          r.2.mem ((c.tc : Thread Cert.UpdOutIdeal.nD Cert.UpdOutIdeal.τ).loc Cert.UpdOutIdeal.main_v0_0) = v0 c
          ∧ r.2.mem ((c.tc : Thread Cert.UpdOutIdeal.nD Cert.UpdOutIdeal.τ).loc Cert.UpdOutIdeal.main_v0_1) = v1 c
          ∧ r.2.mem ((c.tc : Thread Cert.UpdOutIdeal.nD Cert.UpdOutIdeal.τ).loc Cert.UpdOutIdeal.main_v0_2) = v2 c
          ∧ r.2.mem ((c.tc : Thread Cert.UpdOutIdeal.nD Cert.UpdOutIdeal.τ).loc Cert.UpdOutIdeal.main_v0_3) = v3 c
          ∧ r.2.mem ((c.tc : Thread Cert.UpdOutIdeal.nD Cert.UpdOutIdeal.τ).loc Cert.UpdOutIdeal.main_arg0) = m ((c.tc : Thread Cert.UpdOutIdeal.nD Cert.UpdOutIdeal.τ).loc Cert.UpdOutIdeal.main_arg0)
          ∧ r.2.mem ((c.tc : Thread Cert.UpdOutIdeal.nD Cert.UpdOutIdeal.τ).loc Cert.UpdOutIdeal.main_arg1) = m ((c.tc : Thread Cert.UpdOutIdeal.nD Cert.UpdOutIdeal.τ).loc Cert.UpdOutIdeal.main_arg1)
          ∧ r.2.mem ((c.tc : Thread Cert.UpdOutIdeal.nD Cert.UpdOutIdeal.τ).loc Cert.UpdOutIdeal.main_arg2) = m ((c.tc : Thread Cert.UpdOutIdeal.nD Cert.UpdOutIdeal.τ).loc Cert.UpdOutIdeal.main_arg2)
          ∧ r.2.mem ((c.tc : Thread Cert.UpdOutIdeal.nD Cert.UpdOutIdeal.τ).loc Cert.UpdOutIdeal.main_arg3) = m ((c.tc : Thread Cert.UpdOutIdeal.nD Cert.UpdOutIdeal.τ).loc Cert.UpdOutIdeal.main_arg3))
      ∧ θ_run (Cert.UpdOutRefIdeal.defs (F := Ideal)) (onTc (τ := Cert.UpdOutRefIdeal.τ) (Cert.UpdOutRefIdeal.main (F := Ideal))) ⟨m', fun _ => 0, g'⟩ (fun r => ∀ c : Dev Cert.UpdOutRefIdeal.nD,
          r.2.mem ((c.tc : Thread Cert.UpdOutRefIdeal.nD Cert.UpdOutRefIdeal.τ).loc Cert.UpdOutRefIdeal.main_v1) = v0 c
          ∧ r.2.mem ((c.tc : Thread Cert.UpdOutRefIdeal.nD Cert.UpdOutRefIdeal.τ).loc Cert.UpdOutRefIdeal.main_v25) = v1 c
          ∧ r.2.mem ((c.tc : Thread Cert.UpdOutRefIdeal.nD Cert.UpdOutRefIdeal.τ).loc Cert.UpdOutRefIdeal.main_v6) = v2 c
          ∧ r.2.mem ((c.tc : Thread Cert.UpdOutRefIdeal.nD Cert.UpdOutRefIdeal.τ).loc Cert.UpdOutRefIdeal.main_v12) = v3 c
          ∧ r.2.mem ((c.tc : Thread Cert.UpdOutRefIdeal.nD Cert.UpdOutRefIdeal.τ).loc Cert.UpdOutRefIdeal.main_arg0) = m' ((c.tc : Thread Cert.UpdOutRefIdeal.nD Cert.UpdOutRefIdeal.τ).loc Cert.UpdOutRefIdeal.main_arg0)
          ∧ r.2.mem ((c.tc : Thread Cert.UpdOutRefIdeal.nD Cert.UpdOutRefIdeal.τ).loc Cert.UpdOutRefIdeal.main_arg1) = m' ((c.tc : Thread Cert.UpdOutRefIdeal.nD Cert.UpdOutRefIdeal.τ).loc Cert.UpdOutRefIdeal.main_arg1)
          ∧ r.2.mem ((c.tc : Thread Cert.UpdOutRefIdeal.nD Cert.UpdOutRefIdeal.τ).loc Cert.UpdOutRefIdeal.main_arg2) = m' ((c.tc : Thread Cert.UpdOutRefIdeal.nD Cert.UpdOutRefIdeal.τ).loc Cert.UpdOutRefIdeal.main_arg2)
          ∧ r.2.mem ((c.tc : Thread Cert.UpdOutRefIdeal.nD Cert.UpdOutRefIdeal.τ).loc Cert.UpdOutRefIdeal.main_arg3) = m' ((c.tc : Thread Cert.UpdOutRefIdeal.nD Cert.UpdOutRefIdeal.τ).loc Cert.UpdOutRefIdeal.main_arg3))

def preserves_UpdBranch_UpdBranchIdeal : Prop :=
  True

def algebraic_UpdBranchIdeal_UpdBranchRefIdeal [hUpdBranchIdeal : Cert.UpdBranchIdeal.Facts] [hUpdBranchRefIdeal : Cert.UpdBranchRefIdeal.Facts] : Prop :=
  ∀ (m : (ℓ : Loc Cert.UpdBranchIdeal.nD Cert.UpdBranchIdeal.τ Cert.UpdBranchIdeal.sig) → Buf (Elt Ideal) ℓ) (g : Dev Cert.UpdBranchIdeal.nD → PrngReg)
    (m' : (ℓ : Loc Cert.UpdBranchRefIdeal.nD Cert.UpdBranchRefIdeal.τ Cert.UpdBranchRefIdeal.sig) → Buf (Elt Ideal) ℓ) (g' : Dev Cert.UpdBranchRefIdeal.nD → PrngReg), Pre_UpdBranchIdeal m →
    (∀ c : Dev Cert.UpdBranchIdeal.nD,
      m' ((c.tc : Thread Cert.UpdBranchRefIdeal.nD Cert.UpdBranchRefIdeal.τ).loc Cert.UpdBranchRefIdeal.main_arg0) = m ((c.tc : Thread Cert.UpdBranchIdeal.nD Cert.UpdBranchIdeal.τ).loc Cert.UpdBranchIdeal.main_arg0)
      ∧ m' ((c.tc : Thread Cert.UpdBranchRefIdeal.nD Cert.UpdBranchRefIdeal.τ).loc Cert.UpdBranchRefIdeal.main_arg1) = m ((c.tc : Thread Cert.UpdBranchIdeal.nD Cert.UpdBranchIdeal.τ).loc Cert.UpdBranchIdeal.main_arg1)
      ∧ m' ((c.tc : Thread Cert.UpdBranchRefIdeal.nD Cert.UpdBranchRefIdeal.τ).loc Cert.UpdBranchRefIdeal.main_arg2) = m ((c.tc : Thread Cert.UpdBranchIdeal.nD Cert.UpdBranchIdeal.τ).loc Cert.UpdBranchIdeal.main_arg2)
      ∧ m' ((c.tc : Thread Cert.UpdBranchRefIdeal.nD Cert.UpdBranchRefIdeal.τ).loc Cert.UpdBranchRefIdeal.main_arg3) = m ((c.tc : Thread Cert.UpdBranchIdeal.nD Cert.UpdBranchIdeal.τ).loc Cert.UpdBranchIdeal.main_arg3)) →
    ∃ (v0 : (c : Dev Cert.UpdBranchIdeal.nD) → Buf (Elt Ideal) ((c.tc : Thread Cert.UpdBranchIdeal.nD Cert.UpdBranchIdeal.τ).loc Cert.UpdBranchIdeal.main_v0_0)) (v1 : (c : Dev Cert.UpdBranchIdeal.nD) → Buf (Elt Ideal) ((c.tc : Thread Cert.UpdBranchIdeal.nD Cert.UpdBranchIdeal.τ).loc Cert.UpdBranchIdeal.main_v0_1)) (v2 : (c : Dev Cert.UpdBranchIdeal.nD) → Buf (Elt Ideal) ((c.tc : Thread Cert.UpdBranchIdeal.nD Cert.UpdBranchIdeal.τ).loc Cert.UpdBranchIdeal.main_v0_2)) (v3 : (c : Dev Cert.UpdBranchIdeal.nD) → Buf (Elt Ideal) ((c.tc : Thread Cert.UpdBranchIdeal.nD Cert.UpdBranchIdeal.τ).loc Cert.UpdBranchIdeal.main_v0_3)),
      θ_run (Cert.UpdBranchIdeal.defs (F := Ideal)) (onTc (τ := Cert.UpdBranchIdeal.τ) (Cert.UpdBranchIdeal.main (F := Ideal))) ⟨m, fun _ => 0, g⟩ (fun r => ∀ c : Dev Cert.UpdBranchIdeal.nD,
          r.2.mem ((c.tc : Thread Cert.UpdBranchIdeal.nD Cert.UpdBranchIdeal.τ).loc Cert.UpdBranchIdeal.main_v0_0) = v0 c
          ∧ r.2.mem ((c.tc : Thread Cert.UpdBranchIdeal.nD Cert.UpdBranchIdeal.τ).loc Cert.UpdBranchIdeal.main_v0_1) = v1 c
          ∧ r.2.mem ((c.tc : Thread Cert.UpdBranchIdeal.nD Cert.UpdBranchIdeal.τ).loc Cert.UpdBranchIdeal.main_v0_2) = v2 c
          ∧ r.2.mem ((c.tc : Thread Cert.UpdBranchIdeal.nD Cert.UpdBranchIdeal.τ).loc Cert.UpdBranchIdeal.main_v0_3) = v3 c
          ∧ r.2.mem ((c.tc : Thread Cert.UpdBranchIdeal.nD Cert.UpdBranchIdeal.τ).loc Cert.UpdBranchIdeal.main_arg0) = m ((c.tc : Thread Cert.UpdBranchIdeal.nD Cert.UpdBranchIdeal.τ).loc Cert.UpdBranchIdeal.main_arg0)
          ∧ r.2.mem ((c.tc : Thread Cert.UpdBranchIdeal.nD Cert.UpdBranchIdeal.τ).loc Cert.UpdBranchIdeal.main_arg1) = m ((c.tc : Thread Cert.UpdBranchIdeal.nD Cert.UpdBranchIdeal.τ).loc Cert.UpdBranchIdeal.main_arg1)
          ∧ r.2.mem ((c.tc : Thread Cert.UpdBranchIdeal.nD Cert.UpdBranchIdeal.τ).loc Cert.UpdBranchIdeal.main_arg2) = m ((c.tc : Thread Cert.UpdBranchIdeal.nD Cert.UpdBranchIdeal.τ).loc Cert.UpdBranchIdeal.main_arg2)
          ∧ r.2.mem ((c.tc : Thread Cert.UpdBranchIdeal.nD Cert.UpdBranchIdeal.τ).loc Cert.UpdBranchIdeal.main_arg3) = m ((c.tc : Thread Cert.UpdBranchIdeal.nD Cert.UpdBranchIdeal.τ).loc Cert.UpdBranchIdeal.main_arg3))
      ∧ θ_run (Cert.UpdBranchRefIdeal.defs (F := Ideal)) (onTc (τ := Cert.UpdBranchRefIdeal.τ) (Cert.UpdBranchRefIdeal.main (F := Ideal))) ⟨m', fun _ => 0, g'⟩ (fun r => ∀ c : Dev Cert.UpdBranchRefIdeal.nD,
          r.2.mem ((c.tc : Thread Cert.UpdBranchRefIdeal.nD Cert.UpdBranchRefIdeal.τ).loc Cert.UpdBranchRefIdeal.main_v1) = v0 c
          ∧ r.2.mem ((c.tc : Thread Cert.UpdBranchRefIdeal.nD Cert.UpdBranchRefIdeal.τ).loc Cert.UpdBranchRefIdeal.main_v25) = v1 c
          ∧ r.2.mem ((c.tc : Thread Cert.UpdBranchRefIdeal.nD Cert.UpdBranchRefIdeal.τ).loc Cert.UpdBranchRefIdeal.main_v6) = v2 c
          ∧ r.2.mem ((c.tc : Thread Cert.UpdBranchRefIdeal.nD Cert.UpdBranchRefIdeal.τ).loc Cert.UpdBranchRefIdeal.main_v12) = v3 c
          ∧ r.2.mem ((c.tc : Thread Cert.UpdBranchRefIdeal.nD Cert.UpdBranchRefIdeal.τ).loc Cert.UpdBranchRefIdeal.main_arg0) = m' ((c.tc : Thread Cert.UpdBranchRefIdeal.nD Cert.UpdBranchRefIdeal.τ).loc Cert.UpdBranchRefIdeal.main_arg0)
          ∧ r.2.mem ((c.tc : Thread Cert.UpdBranchRefIdeal.nD Cert.UpdBranchRefIdeal.τ).loc Cert.UpdBranchRefIdeal.main_arg1) = m' ((c.tc : Thread Cert.UpdBranchRefIdeal.nD Cert.UpdBranchRefIdeal.τ).loc Cert.UpdBranchRefIdeal.main_arg1)
          ∧ r.2.mem ((c.tc : Thread Cert.UpdBranchRefIdeal.nD Cert.UpdBranchRefIdeal.τ).loc Cert.UpdBranchRefIdeal.main_arg2) = m' ((c.tc : Thread Cert.UpdBranchRefIdeal.nD Cert.UpdBranchRefIdeal.τ).loc Cert.UpdBranchRefIdeal.main_arg2)
          ∧ r.2.mem ((c.tc : Thread Cert.UpdBranchRefIdeal.nD Cert.UpdBranchRefIdeal.τ).loc Cert.UpdBranchRefIdeal.main_arg3) = m' ((c.tc : Thread Cert.UpdBranchRefIdeal.nD Cert.UpdBranchRefIdeal.τ).loc Cert.UpdBranchRefIdeal.main_arg3))

def preserves_UpdGlu_UpdGluIdeal : Prop :=
  True

def algebraic_UpdGluIdeal_UpdGluRefIdeal [hUpdGluIdeal : Cert.UpdGluIdeal.Facts] [hUpdGluRefIdeal : Cert.UpdGluRefIdeal.Facts] : Prop :=
  ∀ (m : (ℓ : Loc Cert.UpdGluIdeal.nD Cert.UpdGluIdeal.τ Cert.UpdGluIdeal.sig) → Buf (Elt Ideal) ℓ) (g : Dev Cert.UpdGluIdeal.nD → PrngReg)
    (m' : (ℓ : Loc Cert.UpdGluRefIdeal.nD Cert.UpdGluRefIdeal.τ Cert.UpdGluRefIdeal.sig) → Buf (Elt Ideal) ℓ) (g' : Dev Cert.UpdGluRefIdeal.nD → PrngReg), Pre_UpdGluIdeal m →
    (∀ c : Dev Cert.UpdGluIdeal.nD,
      m' ((c.tc : Thread Cert.UpdGluRefIdeal.nD Cert.UpdGluRefIdeal.τ).loc Cert.UpdGluRefIdeal.main_arg0) = m ((c.tc : Thread Cert.UpdGluIdeal.nD Cert.UpdGluIdeal.τ).loc Cert.UpdGluIdeal.main_arg0)
      ∧ m' ((c.tc : Thread Cert.UpdGluRefIdeal.nD Cert.UpdGluRefIdeal.τ).loc Cert.UpdGluRefIdeal.main_arg1) = m ((c.tc : Thread Cert.UpdGluIdeal.nD Cert.UpdGluIdeal.τ).loc Cert.UpdGluIdeal.main_arg1)
      ∧ m' ((c.tc : Thread Cert.UpdGluRefIdeal.nD Cert.UpdGluRefIdeal.τ).loc Cert.UpdGluRefIdeal.main_arg2) = m ((c.tc : Thread Cert.UpdGluIdeal.nD Cert.UpdGluIdeal.τ).loc Cert.UpdGluIdeal.main_arg2)
      ∧ m' ((c.tc : Thread Cert.UpdGluRefIdeal.nD Cert.UpdGluRefIdeal.τ).loc Cert.UpdGluRefIdeal.main_arg3) = m ((c.tc : Thread Cert.UpdGluIdeal.nD Cert.UpdGluIdeal.τ).loc Cert.UpdGluIdeal.main_arg3)) →
    ∃ (v0 : (c : Dev Cert.UpdGluIdeal.nD) → Buf (Elt Ideal) ((c.tc : Thread Cert.UpdGluIdeal.nD Cert.UpdGluIdeal.τ).loc Cert.UpdGluIdeal.main_v0_0)) (v1 : (c : Dev Cert.UpdGluIdeal.nD) → Buf (Elt Ideal) ((c.tc : Thread Cert.UpdGluIdeal.nD Cert.UpdGluIdeal.τ).loc Cert.UpdGluIdeal.main_v0_1)) (v2 : (c : Dev Cert.UpdGluIdeal.nD) → Buf (Elt Ideal) ((c.tc : Thread Cert.UpdGluIdeal.nD Cert.UpdGluIdeal.τ).loc Cert.UpdGluIdeal.main_v0_2)) (v3 : (c : Dev Cert.UpdGluIdeal.nD) → Buf (Elt Ideal) ((c.tc : Thread Cert.UpdGluIdeal.nD Cert.UpdGluIdeal.τ).loc Cert.UpdGluIdeal.main_v0_3)),
      θ_run (Cert.UpdGluIdeal.defs (F := Ideal)) (onTc (τ := Cert.UpdGluIdeal.τ) (Cert.UpdGluIdeal.main (F := Ideal))) ⟨m, fun _ => 0, g⟩ (fun r => ∀ c : Dev Cert.UpdGluIdeal.nD,
          r.2.mem ((c.tc : Thread Cert.UpdGluIdeal.nD Cert.UpdGluIdeal.τ).loc Cert.UpdGluIdeal.main_v0_0) = v0 c
          ∧ r.2.mem ((c.tc : Thread Cert.UpdGluIdeal.nD Cert.UpdGluIdeal.τ).loc Cert.UpdGluIdeal.main_v0_1) = v1 c
          ∧ r.2.mem ((c.tc : Thread Cert.UpdGluIdeal.nD Cert.UpdGluIdeal.τ).loc Cert.UpdGluIdeal.main_v0_2) = v2 c
          ∧ r.2.mem ((c.tc : Thread Cert.UpdGluIdeal.nD Cert.UpdGluIdeal.τ).loc Cert.UpdGluIdeal.main_v0_3) = v3 c
          ∧ r.2.mem ((c.tc : Thread Cert.UpdGluIdeal.nD Cert.UpdGluIdeal.τ).loc Cert.UpdGluIdeal.main_arg0) = m ((c.tc : Thread Cert.UpdGluIdeal.nD Cert.UpdGluIdeal.τ).loc Cert.UpdGluIdeal.main_arg0)
          ∧ r.2.mem ((c.tc : Thread Cert.UpdGluIdeal.nD Cert.UpdGluIdeal.τ).loc Cert.UpdGluIdeal.main_arg1) = m ((c.tc : Thread Cert.UpdGluIdeal.nD Cert.UpdGluIdeal.τ).loc Cert.UpdGluIdeal.main_arg1)
          ∧ r.2.mem ((c.tc : Thread Cert.UpdGluIdeal.nD Cert.UpdGluIdeal.τ).loc Cert.UpdGluIdeal.main_arg2) = m ((c.tc : Thread Cert.UpdGluIdeal.nD Cert.UpdGluIdeal.τ).loc Cert.UpdGluIdeal.main_arg2)
          ∧ r.2.mem ((c.tc : Thread Cert.UpdGluIdeal.nD Cert.UpdGluIdeal.τ).loc Cert.UpdGluIdeal.main_arg3) = m ((c.tc : Thread Cert.UpdGluIdeal.nD Cert.UpdGluIdeal.τ).loc Cert.UpdGluIdeal.main_arg3))
      ∧ θ_run (Cert.UpdGluRefIdeal.defs (F := Ideal)) (onTc (τ := Cert.UpdGluRefIdeal.τ) (Cert.UpdGluRefIdeal.main (F := Ideal))) ⟨m', fun _ => 0, g'⟩ (fun r => ∀ c : Dev Cert.UpdGluRefIdeal.nD,
          r.2.mem ((c.tc : Thread Cert.UpdGluRefIdeal.nD Cert.UpdGluRefIdeal.τ).loc Cert.UpdGluRefIdeal.main_v1) = v0 c
          ∧ r.2.mem ((c.tc : Thread Cert.UpdGluRefIdeal.nD Cert.UpdGluRefIdeal.τ).loc Cert.UpdGluRefIdeal.main_v25) = v1 c
          ∧ r.2.mem ((c.tc : Thread Cert.UpdGluRefIdeal.nD Cert.UpdGluRefIdeal.τ).loc Cert.UpdGluRefIdeal.main_v6) = v2 c
          ∧ r.2.mem ((c.tc : Thread Cert.UpdGluRefIdeal.nD Cert.UpdGluRefIdeal.τ).loc Cert.UpdGluRefIdeal.main_v12) = v3 c
          ∧ r.2.mem ((c.tc : Thread Cert.UpdGluRefIdeal.nD Cert.UpdGluRefIdeal.τ).loc Cert.UpdGluRefIdeal.main_arg0) = m' ((c.tc : Thread Cert.UpdGluRefIdeal.nD Cert.UpdGluRefIdeal.τ).loc Cert.UpdGluRefIdeal.main_arg0)
          ∧ r.2.mem ((c.tc : Thread Cert.UpdGluRefIdeal.nD Cert.UpdGluRefIdeal.τ).loc Cert.UpdGluRefIdeal.main_arg1) = m' ((c.tc : Thread Cert.UpdGluRefIdeal.nD Cert.UpdGluRefIdeal.τ).loc Cert.UpdGluRefIdeal.main_arg1)
          ∧ r.2.mem ((c.tc : Thread Cert.UpdGluRefIdeal.nD Cert.UpdGluRefIdeal.τ).loc Cert.UpdGluRefIdeal.main_arg2) = m' ((c.tc : Thread Cert.UpdGluRefIdeal.nD Cert.UpdGluRefIdeal.τ).loc Cert.UpdGluRefIdeal.main_arg2)
          ∧ r.2.mem ((c.tc : Thread Cert.UpdGluRefIdeal.nD Cert.UpdGluRefIdeal.τ).loc Cert.UpdGluRefIdeal.main_arg3) = m' ((c.tc : Thread Cert.UpdGluRefIdeal.nD Cert.UpdGluRefIdeal.τ).loc Cert.UpdGluRefIdeal.main_arg3))

def preserves_UpdIn_UpdInIdeal : Prop :=
  True

def algebraic_UpdInIdeal_UpdInRefIdeal [hUpdInIdeal : Cert.UpdInIdeal.Facts] [hUpdInRefIdeal : Cert.UpdInRefIdeal.Facts] : Prop :=
  ∀ (m : (ℓ : Loc Cert.UpdInIdeal.nD Cert.UpdInIdeal.τ Cert.UpdInIdeal.sig) → Buf (Elt Ideal) ℓ) (g : Dev Cert.UpdInIdeal.nD → PrngReg)
    (m' : (ℓ : Loc Cert.UpdInRefIdeal.nD Cert.UpdInRefIdeal.τ Cert.UpdInRefIdeal.sig) → Buf (Elt Ideal) ℓ) (g' : Dev Cert.UpdInRefIdeal.nD → PrngReg), Pre_UpdInIdeal m →
    (∀ c : Dev Cert.UpdInIdeal.nD,
      m' ((c.tc : Thread Cert.UpdInRefIdeal.nD Cert.UpdInRefIdeal.τ).loc Cert.UpdInRefIdeal.main_arg0) = m ((c.tc : Thread Cert.UpdInIdeal.nD Cert.UpdInIdeal.τ).loc Cert.UpdInIdeal.main_arg0)
      ∧ m' ((c.tc : Thread Cert.UpdInRefIdeal.nD Cert.UpdInRefIdeal.τ).loc Cert.UpdInRefIdeal.main_arg1) = m ((c.tc : Thread Cert.UpdInIdeal.nD Cert.UpdInIdeal.τ).loc Cert.UpdInIdeal.main_arg1)
      ∧ m' ((c.tc : Thread Cert.UpdInRefIdeal.nD Cert.UpdInRefIdeal.τ).loc Cert.UpdInRefIdeal.main_arg2) = m ((c.tc : Thread Cert.UpdInIdeal.nD Cert.UpdInIdeal.τ).loc Cert.UpdInIdeal.main_arg2)
      ∧ m' ((c.tc : Thread Cert.UpdInRefIdeal.nD Cert.UpdInRefIdeal.τ).loc Cert.UpdInRefIdeal.main_arg3) = m ((c.tc : Thread Cert.UpdInIdeal.nD Cert.UpdInIdeal.τ).loc Cert.UpdInIdeal.main_arg3)) →
    ∃ (v0 : (c : Dev Cert.UpdInIdeal.nD) → Buf (Elt Ideal) ((c.tc : Thread Cert.UpdInIdeal.nD Cert.UpdInIdeal.τ).loc Cert.UpdInIdeal.main_v0_0)) (v1 : (c : Dev Cert.UpdInIdeal.nD) → Buf (Elt Ideal) ((c.tc : Thread Cert.UpdInIdeal.nD Cert.UpdInIdeal.τ).loc Cert.UpdInIdeal.main_v0_1)) (v2 : (c : Dev Cert.UpdInIdeal.nD) → Buf (Elt Ideal) ((c.tc : Thread Cert.UpdInIdeal.nD Cert.UpdInIdeal.τ).loc Cert.UpdInIdeal.main_v0_2)) (v3 : (c : Dev Cert.UpdInIdeal.nD) → Buf (Elt Ideal) ((c.tc : Thread Cert.UpdInIdeal.nD Cert.UpdInIdeal.τ).loc Cert.UpdInIdeal.main_v0_3)),
      θ_run (Cert.UpdInIdeal.defs (F := Ideal)) (onTc (τ := Cert.UpdInIdeal.τ) (Cert.UpdInIdeal.main (F := Ideal))) ⟨m, fun _ => 0, g⟩ (fun r => ∀ c : Dev Cert.UpdInIdeal.nD,
          r.2.mem ((c.tc : Thread Cert.UpdInIdeal.nD Cert.UpdInIdeal.τ).loc Cert.UpdInIdeal.main_v0_0) = v0 c
          ∧ r.2.mem ((c.tc : Thread Cert.UpdInIdeal.nD Cert.UpdInIdeal.τ).loc Cert.UpdInIdeal.main_v0_1) = v1 c
          ∧ r.2.mem ((c.tc : Thread Cert.UpdInIdeal.nD Cert.UpdInIdeal.τ).loc Cert.UpdInIdeal.main_v0_2) = v2 c
          ∧ r.2.mem ((c.tc : Thread Cert.UpdInIdeal.nD Cert.UpdInIdeal.τ).loc Cert.UpdInIdeal.main_v0_3) = v3 c
          ∧ r.2.mem ((c.tc : Thread Cert.UpdInIdeal.nD Cert.UpdInIdeal.τ).loc Cert.UpdInIdeal.main_arg0) = m ((c.tc : Thread Cert.UpdInIdeal.nD Cert.UpdInIdeal.τ).loc Cert.UpdInIdeal.main_arg0)
          ∧ r.2.mem ((c.tc : Thread Cert.UpdInIdeal.nD Cert.UpdInIdeal.τ).loc Cert.UpdInIdeal.main_arg1) = m ((c.tc : Thread Cert.UpdInIdeal.nD Cert.UpdInIdeal.τ).loc Cert.UpdInIdeal.main_arg1)
          ∧ r.2.mem ((c.tc : Thread Cert.UpdInIdeal.nD Cert.UpdInIdeal.τ).loc Cert.UpdInIdeal.main_arg2) = m ((c.tc : Thread Cert.UpdInIdeal.nD Cert.UpdInIdeal.τ).loc Cert.UpdInIdeal.main_arg2)
          ∧ r.2.mem ((c.tc : Thread Cert.UpdInIdeal.nD Cert.UpdInIdeal.τ).loc Cert.UpdInIdeal.main_arg3) = m ((c.tc : Thread Cert.UpdInIdeal.nD Cert.UpdInIdeal.τ).loc Cert.UpdInIdeal.main_arg3))
      ∧ θ_run (Cert.UpdInRefIdeal.defs (F := Ideal)) (onTc (τ := Cert.UpdInRefIdeal.τ) (Cert.UpdInRefIdeal.main (F := Ideal))) ⟨m', fun _ => 0, g'⟩ (fun r => ∀ c : Dev Cert.UpdInRefIdeal.nD,
          r.2.mem ((c.tc : Thread Cert.UpdInRefIdeal.nD Cert.UpdInRefIdeal.τ).loc Cert.UpdInRefIdeal.main_v1) = v0 c
          ∧ r.2.mem ((c.tc : Thread Cert.UpdInRefIdeal.nD Cert.UpdInRefIdeal.τ).loc Cert.UpdInRefIdeal.main_v25) = v1 c
          ∧ r.2.mem ((c.tc : Thread Cert.UpdInRefIdeal.nD Cert.UpdInRefIdeal.τ).loc Cert.UpdInRefIdeal.main_v6) = v2 c
          ∧ r.2.mem ((c.tc : Thread Cert.UpdInRefIdeal.nD Cert.UpdInRefIdeal.τ).loc Cert.UpdInRefIdeal.main_v12) = v3 c
          ∧ r.2.mem ((c.tc : Thread Cert.UpdInRefIdeal.nD Cert.UpdInRefIdeal.τ).loc Cert.UpdInRefIdeal.main_arg0) = m' ((c.tc : Thread Cert.UpdInRefIdeal.nD Cert.UpdInRefIdeal.τ).loc Cert.UpdInRefIdeal.main_arg0)
          ∧ r.2.mem ((c.tc : Thread Cert.UpdInRefIdeal.nD Cert.UpdInRefIdeal.τ).loc Cert.UpdInRefIdeal.main_arg1) = m' ((c.tc : Thread Cert.UpdInRefIdeal.nD Cert.UpdInRefIdeal.τ).loc Cert.UpdInRefIdeal.main_arg1)
          ∧ r.2.mem ((c.tc : Thread Cert.UpdInRefIdeal.nD Cert.UpdInRefIdeal.τ).loc Cert.UpdInRefIdeal.main_arg2) = m' ((c.tc : Thread Cert.UpdInRefIdeal.nD Cert.UpdInRefIdeal.τ).loc Cert.UpdInRefIdeal.main_arg2)
          ∧ r.2.mem ((c.tc : Thread Cert.UpdInRefIdeal.nD Cert.UpdInRefIdeal.τ).loc Cert.UpdInRefIdeal.main_arg3) = m' ((c.tc : Thread Cert.UpdInRefIdeal.nD Cert.UpdInRefIdeal.τ).loc Cert.UpdInRefIdeal.main_arg3))

def preserves_UpdConv_UpdConvIdeal : Prop :=
  True

def algebraic_UpdConvIdeal_UpdConvRefIdeal [hUpdConvIdeal : Cert.UpdConvIdeal.Facts] [hUpdConvRefIdeal : Cert.UpdConvRefIdeal.Facts] : Prop :=
  ∀ (m : (ℓ : Loc Cert.UpdConvIdeal.nD Cert.UpdConvIdeal.τ Cert.UpdConvIdeal.sig) → Buf (Elt Ideal) ℓ) (g : Dev Cert.UpdConvIdeal.nD → PrngReg)
    (m' : (ℓ : Loc Cert.UpdConvRefIdeal.nD Cert.UpdConvRefIdeal.τ Cert.UpdConvRefIdeal.sig) → Buf (Elt Ideal) ℓ) (g' : Dev Cert.UpdConvRefIdeal.nD → PrngReg), Pre_UpdConvIdeal m →
    (∀ c : Dev Cert.UpdConvIdeal.nD,
      m' ((c.tc : Thread Cert.UpdConvRefIdeal.nD Cert.UpdConvRefIdeal.τ).loc Cert.UpdConvRefIdeal.main_arg0) = m ((c.tc : Thread Cert.UpdConvIdeal.nD Cert.UpdConvIdeal.τ).loc Cert.UpdConvIdeal.main_arg0)
      ∧ m' ((c.tc : Thread Cert.UpdConvRefIdeal.nD Cert.UpdConvRefIdeal.τ).loc Cert.UpdConvRefIdeal.main_arg1) = m ((c.tc : Thread Cert.UpdConvIdeal.nD Cert.UpdConvIdeal.τ).loc Cert.UpdConvIdeal.main_arg1)
      ∧ m' ((c.tc : Thread Cert.UpdConvRefIdeal.nD Cert.UpdConvRefIdeal.τ).loc Cert.UpdConvRefIdeal.main_arg2) = m ((c.tc : Thread Cert.UpdConvIdeal.nD Cert.UpdConvIdeal.τ).loc Cert.UpdConvIdeal.main_arg2)
      ∧ m' ((c.tc : Thread Cert.UpdConvRefIdeal.nD Cert.UpdConvRefIdeal.τ).loc Cert.UpdConvRefIdeal.main_arg3) = m ((c.tc : Thread Cert.UpdConvIdeal.nD Cert.UpdConvIdeal.τ).loc Cert.UpdConvIdeal.main_arg3)) →
    ∃ (v0 : (c : Dev Cert.UpdConvIdeal.nD) → Buf (Elt Ideal) ((c.tc : Thread Cert.UpdConvIdeal.nD Cert.UpdConvIdeal.τ).loc Cert.UpdConvIdeal.main_v0_0)) (v1 : (c : Dev Cert.UpdConvIdeal.nD) → Buf (Elt Ideal) ((c.tc : Thread Cert.UpdConvIdeal.nD Cert.UpdConvIdeal.τ).loc Cert.UpdConvIdeal.main_v0_1)) (v2 : (c : Dev Cert.UpdConvIdeal.nD) → Buf (Elt Ideal) ((c.tc : Thread Cert.UpdConvIdeal.nD Cert.UpdConvIdeal.τ).loc Cert.UpdConvIdeal.main_v0_2)) (v3 : (c : Dev Cert.UpdConvIdeal.nD) → Buf (Elt Ideal) ((c.tc : Thread Cert.UpdConvIdeal.nD Cert.UpdConvIdeal.τ).loc Cert.UpdConvIdeal.main_v0_3)),
      θ_run (Cert.UpdConvIdeal.defs (F := Ideal)) (onTc (τ := Cert.UpdConvIdeal.τ) (Cert.UpdConvIdeal.main (F := Ideal))) ⟨m, fun _ => 0, g⟩ (fun r => ∀ c : Dev Cert.UpdConvIdeal.nD,
          r.2.mem ((c.tc : Thread Cert.UpdConvIdeal.nD Cert.UpdConvIdeal.τ).loc Cert.UpdConvIdeal.main_v0_0) = v0 c
          ∧ r.2.mem ((c.tc : Thread Cert.UpdConvIdeal.nD Cert.UpdConvIdeal.τ).loc Cert.UpdConvIdeal.main_v0_1) = v1 c
          ∧ r.2.mem ((c.tc : Thread Cert.UpdConvIdeal.nD Cert.UpdConvIdeal.τ).loc Cert.UpdConvIdeal.main_v0_2) = v2 c
          ∧ r.2.mem ((c.tc : Thread Cert.UpdConvIdeal.nD Cert.UpdConvIdeal.τ).loc Cert.UpdConvIdeal.main_v0_3) = v3 c
          ∧ r.2.mem ((c.tc : Thread Cert.UpdConvIdeal.nD Cert.UpdConvIdeal.τ).loc Cert.UpdConvIdeal.main_arg0) = m ((c.tc : Thread Cert.UpdConvIdeal.nD Cert.UpdConvIdeal.τ).loc Cert.UpdConvIdeal.main_arg0)
          ∧ r.2.mem ((c.tc : Thread Cert.UpdConvIdeal.nD Cert.UpdConvIdeal.τ).loc Cert.UpdConvIdeal.main_arg1) = m ((c.tc : Thread Cert.UpdConvIdeal.nD Cert.UpdConvIdeal.τ).loc Cert.UpdConvIdeal.main_arg1)
          ∧ r.2.mem ((c.tc : Thread Cert.UpdConvIdeal.nD Cert.UpdConvIdeal.τ).loc Cert.UpdConvIdeal.main_arg2) = m ((c.tc : Thread Cert.UpdConvIdeal.nD Cert.UpdConvIdeal.τ).loc Cert.UpdConvIdeal.main_arg2)
          ∧ r.2.mem ((c.tc : Thread Cert.UpdConvIdeal.nD Cert.UpdConvIdeal.τ).loc Cert.UpdConvIdeal.main_arg3) = m ((c.tc : Thread Cert.UpdConvIdeal.nD Cert.UpdConvIdeal.τ).loc Cert.UpdConvIdeal.main_arg3))
      ∧ θ_run (Cert.UpdConvRefIdeal.defs (F := Ideal)) (onTc (τ := Cert.UpdConvRefIdeal.τ) (Cert.UpdConvRefIdeal.main (F := Ideal))) ⟨m', fun _ => 0, g'⟩ (fun r => ∀ c : Dev Cert.UpdConvRefIdeal.nD,
          r.2.mem ((c.tc : Thread Cert.UpdConvRefIdeal.nD Cert.UpdConvRefIdeal.τ).loc Cert.UpdConvRefIdeal.main_v0) = v0 c
          ∧ r.2.mem ((c.tc : Thread Cert.UpdConvRefIdeal.nD Cert.UpdConvRefIdeal.τ).loc Cert.UpdConvRefIdeal.main_v24) = v1 c
          ∧ r.2.mem ((c.tc : Thread Cert.UpdConvRefIdeal.nD Cert.UpdConvRefIdeal.τ).loc Cert.UpdConvRefIdeal.main_v5) = v2 c
          ∧ r.2.mem ((c.tc : Thread Cert.UpdConvRefIdeal.nD Cert.UpdConvRefIdeal.τ).loc Cert.UpdConvRefIdeal.main_v11) = v3 c
          ∧ r.2.mem ((c.tc : Thread Cert.UpdConvRefIdeal.nD Cert.UpdConvRefIdeal.τ).loc Cert.UpdConvRefIdeal.main_arg0) = m' ((c.tc : Thread Cert.UpdConvRefIdeal.nD Cert.UpdConvRefIdeal.τ).loc Cert.UpdConvRefIdeal.main_arg0)
          ∧ r.2.mem ((c.tc : Thread Cert.UpdConvRefIdeal.nD Cert.UpdConvRefIdeal.τ).loc Cert.UpdConvRefIdeal.main_arg1) = m' ((c.tc : Thread Cert.UpdConvRefIdeal.nD Cert.UpdConvRefIdeal.τ).loc Cert.UpdConvRefIdeal.main_arg1)
          ∧ r.2.mem ((c.tc : Thread Cert.UpdConvRefIdeal.nD Cert.UpdConvRefIdeal.τ).loc Cert.UpdConvRefIdeal.main_arg2) = m' ((c.tc : Thread Cert.UpdConvRefIdeal.nD Cert.UpdConvRefIdeal.τ).loc Cert.UpdConvRefIdeal.main_arg2)
          ∧ r.2.mem ((c.tc : Thread Cert.UpdConvRefIdeal.nD Cert.UpdConvRefIdeal.τ).loc Cert.UpdConvRefIdeal.main_arg3) = m' ((c.tc : Thread Cert.UpdConvRefIdeal.nD Cert.UpdConvRefIdeal.τ).loc Cert.UpdConvRefIdeal.main_arg3))

def preserves_UpdS5B_UpdS5BIdeal : Prop :=
  True

def algebraic_UpdS5BIdeal_UpdS5BRefIdeal [hUpdS5BIdeal : Cert.UpdS5BIdeal.Facts] [hUpdS5BRefIdeal : Cert.UpdS5BRefIdeal.Facts] : Prop :=
  ∀ (m : (ℓ : Loc Cert.UpdS5BIdeal.nD Cert.UpdS5BIdeal.τ Cert.UpdS5BIdeal.sig) → Buf (Elt Ideal) ℓ) (g : Dev Cert.UpdS5BIdeal.nD → PrngReg)
    (m' : (ℓ : Loc Cert.UpdS5BRefIdeal.nD Cert.UpdS5BRefIdeal.τ Cert.UpdS5BRefIdeal.sig) → Buf (Elt Ideal) ℓ) (g' : Dev Cert.UpdS5BRefIdeal.nD → PrngReg), Pre_UpdS5BIdeal m →
    (∀ c : Dev Cert.UpdS5BIdeal.nD,
      m' ((c.tc : Thread Cert.UpdS5BRefIdeal.nD Cert.UpdS5BRefIdeal.τ).loc Cert.UpdS5BRefIdeal.main_arg0) = m ((c.tc : Thread Cert.UpdS5BIdeal.nD Cert.UpdS5BIdeal.τ).loc Cert.UpdS5BIdeal.main_arg0)
      ∧ m' ((c.tc : Thread Cert.UpdS5BRefIdeal.nD Cert.UpdS5BRefIdeal.τ).loc Cert.UpdS5BRefIdeal.main_arg1) = m ((c.tc : Thread Cert.UpdS5BIdeal.nD Cert.UpdS5BIdeal.τ).loc Cert.UpdS5BIdeal.main_arg1)
      ∧ m' ((c.tc : Thread Cert.UpdS5BRefIdeal.nD Cert.UpdS5BRefIdeal.τ).loc Cert.UpdS5BRefIdeal.main_arg2) = m ((c.tc : Thread Cert.UpdS5BIdeal.nD Cert.UpdS5BIdeal.τ).loc Cert.UpdS5BIdeal.main_arg2)
      ∧ m' ((c.tc : Thread Cert.UpdS5BRefIdeal.nD Cert.UpdS5BRefIdeal.τ).loc Cert.UpdS5BRefIdeal.main_arg3) = m ((c.tc : Thread Cert.UpdS5BIdeal.nD Cert.UpdS5BIdeal.τ).loc Cert.UpdS5BIdeal.main_arg3)
      ∧ m' ((c.tc : Thread Cert.UpdS5BRefIdeal.nD Cert.UpdS5BRefIdeal.τ).loc Cert.UpdS5BRefIdeal.main_arg4) = m ((c.tc : Thread Cert.UpdS5BIdeal.nD Cert.UpdS5BIdeal.τ).loc Cert.UpdS5BIdeal.main_arg4)
      ∧ m' ((c.tc : Thread Cert.UpdS5BRefIdeal.nD Cert.UpdS5BRefIdeal.τ).loc Cert.UpdS5BRefIdeal.main_arg5) = m ((c.tc : Thread Cert.UpdS5BIdeal.nD Cert.UpdS5BIdeal.τ).loc Cert.UpdS5BIdeal.main_arg5)
      ∧ m' ((c.tc : Thread Cert.UpdS5BRefIdeal.nD Cert.UpdS5BRefIdeal.τ).loc Cert.UpdS5BRefIdeal.main_arg6) = m ((c.tc : Thread Cert.UpdS5BIdeal.nD Cert.UpdS5BIdeal.τ).loc Cert.UpdS5BIdeal.main_arg6)
      ∧ m' ((c.tc : Thread Cert.UpdS5BRefIdeal.nD Cert.UpdS5BRefIdeal.τ).loc Cert.UpdS5BRefIdeal.main_arg7) = m ((c.tc : Thread Cert.UpdS5BIdeal.nD Cert.UpdS5BIdeal.τ).loc Cert.UpdS5BIdeal.main_arg7)) →
    ∃ (v0 : (c : Dev Cert.UpdS5BIdeal.nD) → Buf (Elt Ideal) ((c.tc : Thread Cert.UpdS5BIdeal.nD Cert.UpdS5BIdeal.τ).loc Cert.UpdS5BIdeal.main_v0_0)) (v1 : (c : Dev Cert.UpdS5BIdeal.nD) → Buf (Elt Ideal) ((c.tc : Thread Cert.UpdS5BIdeal.nD Cert.UpdS5BIdeal.τ).loc Cert.UpdS5BIdeal.main_v0_1)) (v2 : (c : Dev Cert.UpdS5BIdeal.nD) → Buf (Elt Ideal) ((c.tc : Thread Cert.UpdS5BIdeal.nD Cert.UpdS5BIdeal.τ).loc Cert.UpdS5BIdeal.main_v0_2)) (v3 : (c : Dev Cert.UpdS5BIdeal.nD) → Buf (Elt Ideal) ((c.tc : Thread Cert.UpdS5BIdeal.nD Cert.UpdS5BIdeal.τ).loc Cert.UpdS5BIdeal.main_v0_3)) (v4 : (c : Dev Cert.UpdS5BIdeal.nD) → Buf (Elt Ideal) ((c.tc : Thread Cert.UpdS5BIdeal.nD Cert.UpdS5BIdeal.τ).loc Cert.UpdS5BIdeal.main_v0_4)) (v5 : (c : Dev Cert.UpdS5BIdeal.nD) → Buf (Elt Ideal) ((c.tc : Thread Cert.UpdS5BIdeal.nD Cert.UpdS5BIdeal.τ).loc Cert.UpdS5BIdeal.main_v0_5)) (v6 : (c : Dev Cert.UpdS5BIdeal.nD) → Buf (Elt Ideal) ((c.tc : Thread Cert.UpdS5BIdeal.nD Cert.UpdS5BIdeal.τ).loc Cert.UpdS5BIdeal.main_v0_6)) (v7 : (c : Dev Cert.UpdS5BIdeal.nD) → Buf (Elt Ideal) ((c.tc : Thread Cert.UpdS5BIdeal.nD Cert.UpdS5BIdeal.τ).loc Cert.UpdS5BIdeal.main_v0_7)),
      θ_run (Cert.UpdS5BIdeal.defs (F := Ideal)) (onTc (τ := Cert.UpdS5BIdeal.τ) (Cert.UpdS5BIdeal.main (F := Ideal))) ⟨m, fun _ => 0, g⟩ (fun r => ∀ c : Dev Cert.UpdS5BIdeal.nD,
          r.2.mem ((c.tc : Thread Cert.UpdS5BIdeal.nD Cert.UpdS5BIdeal.τ).loc Cert.UpdS5BIdeal.main_v0_0) = v0 c
          ∧ r.2.mem ((c.tc : Thread Cert.UpdS5BIdeal.nD Cert.UpdS5BIdeal.τ).loc Cert.UpdS5BIdeal.main_v0_1) = v1 c
          ∧ r.2.mem ((c.tc : Thread Cert.UpdS5BIdeal.nD Cert.UpdS5BIdeal.τ).loc Cert.UpdS5BIdeal.main_v0_2) = v2 c
          ∧ r.2.mem ((c.tc : Thread Cert.UpdS5BIdeal.nD Cert.UpdS5BIdeal.τ).loc Cert.UpdS5BIdeal.main_v0_3) = v3 c
          ∧ r.2.mem ((c.tc : Thread Cert.UpdS5BIdeal.nD Cert.UpdS5BIdeal.τ).loc Cert.UpdS5BIdeal.main_v0_4) = v4 c
          ∧ r.2.mem ((c.tc : Thread Cert.UpdS5BIdeal.nD Cert.UpdS5BIdeal.τ).loc Cert.UpdS5BIdeal.main_v0_5) = v5 c
          ∧ r.2.mem ((c.tc : Thread Cert.UpdS5BIdeal.nD Cert.UpdS5BIdeal.τ).loc Cert.UpdS5BIdeal.main_v0_6) = v6 c
          ∧ r.2.mem ((c.tc : Thread Cert.UpdS5BIdeal.nD Cert.UpdS5BIdeal.τ).loc Cert.UpdS5BIdeal.main_v0_7) = v7 c
          ∧ r.2.mem ((c.tc : Thread Cert.UpdS5BIdeal.nD Cert.UpdS5BIdeal.τ).loc Cert.UpdS5BIdeal.main_arg0) = m ((c.tc : Thread Cert.UpdS5BIdeal.nD Cert.UpdS5BIdeal.τ).loc Cert.UpdS5BIdeal.main_arg0)
          ∧ r.2.mem ((c.tc : Thread Cert.UpdS5BIdeal.nD Cert.UpdS5BIdeal.τ).loc Cert.UpdS5BIdeal.main_arg1) = m ((c.tc : Thread Cert.UpdS5BIdeal.nD Cert.UpdS5BIdeal.τ).loc Cert.UpdS5BIdeal.main_arg1)
          ∧ r.2.mem ((c.tc : Thread Cert.UpdS5BIdeal.nD Cert.UpdS5BIdeal.τ).loc Cert.UpdS5BIdeal.main_arg2) = m ((c.tc : Thread Cert.UpdS5BIdeal.nD Cert.UpdS5BIdeal.τ).loc Cert.UpdS5BIdeal.main_arg2)
          ∧ r.2.mem ((c.tc : Thread Cert.UpdS5BIdeal.nD Cert.UpdS5BIdeal.τ).loc Cert.UpdS5BIdeal.main_arg3) = m ((c.tc : Thread Cert.UpdS5BIdeal.nD Cert.UpdS5BIdeal.τ).loc Cert.UpdS5BIdeal.main_arg3)
          ∧ r.2.mem ((c.tc : Thread Cert.UpdS5BIdeal.nD Cert.UpdS5BIdeal.τ).loc Cert.UpdS5BIdeal.main_arg4) = m ((c.tc : Thread Cert.UpdS5BIdeal.nD Cert.UpdS5BIdeal.τ).loc Cert.UpdS5BIdeal.main_arg4)
          ∧ r.2.mem ((c.tc : Thread Cert.UpdS5BIdeal.nD Cert.UpdS5BIdeal.τ).loc Cert.UpdS5BIdeal.main_arg5) = m ((c.tc : Thread Cert.UpdS5BIdeal.nD Cert.UpdS5BIdeal.τ).loc Cert.UpdS5BIdeal.main_arg5)
          ∧ r.2.mem ((c.tc : Thread Cert.UpdS5BIdeal.nD Cert.UpdS5BIdeal.τ).loc Cert.UpdS5BIdeal.main_arg6) = m ((c.tc : Thread Cert.UpdS5BIdeal.nD Cert.UpdS5BIdeal.τ).loc Cert.UpdS5BIdeal.main_arg6)
          ∧ r.2.mem ((c.tc : Thread Cert.UpdS5BIdeal.nD Cert.UpdS5BIdeal.τ).loc Cert.UpdS5BIdeal.main_arg7) = m ((c.tc : Thread Cert.UpdS5BIdeal.nD Cert.UpdS5BIdeal.τ).loc Cert.UpdS5BIdeal.main_arg7))
      ∧ θ_run (Cert.UpdS5BRefIdeal.defs (F := Ideal)) (onTc (τ := Cert.UpdS5BRefIdeal.τ) (Cert.UpdS5BRefIdeal.main (F := Ideal))) ⟨m', fun _ => 0, g'⟩ (fun r => ∀ c : Dev Cert.UpdS5BRefIdeal.nD,
          r.2.mem ((c.tc : Thread Cert.UpdS5BRefIdeal.nD Cert.UpdS5BRefIdeal.τ).loc Cert.UpdS5BRefIdeal.main_v0) = v0 c
          ∧ r.2.mem ((c.tc : Thread Cert.UpdS5BRefIdeal.nD Cert.UpdS5BRefIdeal.τ).loc Cert.UpdS5BRefIdeal.main_v1) = v1 c
          ∧ r.2.mem ((c.tc : Thread Cert.UpdS5BRefIdeal.nD Cert.UpdS5BRefIdeal.τ).loc Cert.UpdS5BRefIdeal.main_v25) = v2 c
          ∧ r.2.mem ((c.tc : Thread Cert.UpdS5BRefIdeal.nD Cert.UpdS5BRefIdeal.τ).loc Cert.UpdS5BRefIdeal.main_v49) = v3 c
          ∧ r.2.mem ((c.tc : Thread Cert.UpdS5BRefIdeal.nD Cert.UpdS5BRefIdeal.τ).loc Cert.UpdS5BRefIdeal.main_v6) = v4 c
          ∧ r.2.mem ((c.tc : Thread Cert.UpdS5BRefIdeal.nD Cert.UpdS5BRefIdeal.τ).loc Cert.UpdS5BRefIdeal.main_v30) = v5 c
          ∧ r.2.mem ((c.tc : Thread Cert.UpdS5BRefIdeal.nD Cert.UpdS5BRefIdeal.τ).loc Cert.UpdS5BRefIdeal.main_v12) = v6 c
          ∧ r.2.mem ((c.tc : Thread Cert.UpdS5BRefIdeal.nD Cert.UpdS5BRefIdeal.τ).loc Cert.UpdS5BRefIdeal.main_v36) = v7 c
          ∧ r.2.mem ((c.tc : Thread Cert.UpdS5BRefIdeal.nD Cert.UpdS5BRefIdeal.τ).loc Cert.UpdS5BRefIdeal.main_arg0) = m' ((c.tc : Thread Cert.UpdS5BRefIdeal.nD Cert.UpdS5BRefIdeal.τ).loc Cert.UpdS5BRefIdeal.main_arg0)
          ∧ r.2.mem ((c.tc : Thread Cert.UpdS5BRefIdeal.nD Cert.UpdS5BRefIdeal.τ).loc Cert.UpdS5BRefIdeal.main_arg1) = m' ((c.tc : Thread Cert.UpdS5BRefIdeal.nD Cert.UpdS5BRefIdeal.τ).loc Cert.UpdS5BRefIdeal.main_arg1)
          ∧ r.2.mem ((c.tc : Thread Cert.UpdS5BRefIdeal.nD Cert.UpdS5BRefIdeal.τ).loc Cert.UpdS5BRefIdeal.main_arg2) = m' ((c.tc : Thread Cert.UpdS5BRefIdeal.nD Cert.UpdS5BRefIdeal.τ).loc Cert.UpdS5BRefIdeal.main_arg2)
          ∧ r.2.mem ((c.tc : Thread Cert.UpdS5BRefIdeal.nD Cert.UpdS5BRefIdeal.τ).loc Cert.UpdS5BRefIdeal.main_arg3) = m' ((c.tc : Thread Cert.UpdS5BRefIdeal.nD Cert.UpdS5BRefIdeal.τ).loc Cert.UpdS5BRefIdeal.main_arg3)
          ∧ r.2.mem ((c.tc : Thread Cert.UpdS5BRefIdeal.nD Cert.UpdS5BRefIdeal.τ).loc Cert.UpdS5BRefIdeal.main_arg4) = m' ((c.tc : Thread Cert.UpdS5BRefIdeal.nD Cert.UpdS5BRefIdeal.τ).loc Cert.UpdS5BRefIdeal.main_arg4)
          ∧ r.2.mem ((c.tc : Thread Cert.UpdS5BRefIdeal.nD Cert.UpdS5BRefIdeal.τ).loc Cert.UpdS5BRefIdeal.main_arg5) = m' ((c.tc : Thread Cert.UpdS5BRefIdeal.nD Cert.UpdS5BRefIdeal.τ).loc Cert.UpdS5BRefIdeal.main_arg5)
          ∧ r.2.mem ((c.tc : Thread Cert.UpdS5BRefIdeal.nD Cert.UpdS5BRefIdeal.τ).loc Cert.UpdS5BRefIdeal.main_arg6) = m' ((c.tc : Thread Cert.UpdS5BRefIdeal.nD Cert.UpdS5BRefIdeal.τ).loc Cert.UpdS5BRefIdeal.main_arg6)
          ∧ r.2.mem ((c.tc : Thread Cert.UpdS5BRefIdeal.nD Cert.UpdS5BRefIdeal.τ).loc Cert.UpdS5BRefIdeal.main_arg7) = m' ((c.tc : Thread Cert.UpdS5BRefIdeal.nD Cert.UpdS5BRefIdeal.τ).loc Cert.UpdS5BRefIdeal.main_arg7))

def preserves_UpdLast_UpdLastIdeal : Prop :=
  True

def algebraic_UpdLastIdeal_UpdLastRefIdeal [hUpdLastIdeal : Cert.UpdLastIdeal.Facts] [hUpdLastRefIdeal : Cert.UpdLastRefIdeal.Facts] : Prop :=
  ∀ (m : (ℓ : Loc Cert.UpdLastIdeal.nD Cert.UpdLastIdeal.τ Cert.UpdLastIdeal.sig) → Buf (Elt Ideal) ℓ) (g : Dev Cert.UpdLastIdeal.nD → PrngReg)
    (m' : (ℓ : Loc Cert.UpdLastRefIdeal.nD Cert.UpdLastRefIdeal.τ Cert.UpdLastRefIdeal.sig) → Buf (Elt Ideal) ℓ) (g' : Dev Cert.UpdLastRefIdeal.nD → PrngReg), Pre_UpdLastIdeal m →
    (∀ c : Dev Cert.UpdLastIdeal.nD,
      m' ((c.tc : Thread Cert.UpdLastRefIdeal.nD Cert.UpdLastRefIdeal.τ).loc Cert.UpdLastRefIdeal.main_arg0) = m ((c.tc : Thread Cert.UpdLastIdeal.nD Cert.UpdLastIdeal.τ).loc Cert.UpdLastIdeal.main_arg0)
      ∧ m' ((c.tc : Thread Cert.UpdLastRefIdeal.nD Cert.UpdLastRefIdeal.τ).loc Cert.UpdLastRefIdeal.main_arg1) = m ((c.tc : Thread Cert.UpdLastIdeal.nD Cert.UpdLastIdeal.τ).loc Cert.UpdLastIdeal.main_arg1)
      ∧ m' ((c.tc : Thread Cert.UpdLastRefIdeal.nD Cert.UpdLastRefIdeal.τ).loc Cert.UpdLastRefIdeal.main_arg2) = m ((c.tc : Thread Cert.UpdLastIdeal.nD Cert.UpdLastIdeal.τ).loc Cert.UpdLastIdeal.main_arg2)
      ∧ m' ((c.tc : Thread Cert.UpdLastRefIdeal.nD Cert.UpdLastRefIdeal.τ).loc Cert.UpdLastRefIdeal.main_arg3) = m ((c.tc : Thread Cert.UpdLastIdeal.nD Cert.UpdLastIdeal.τ).loc Cert.UpdLastIdeal.main_arg3)) →
    ∃ (v0 : (c : Dev Cert.UpdLastIdeal.nD) → Buf (Elt Ideal) ((c.tc : Thread Cert.UpdLastIdeal.nD Cert.UpdLastIdeal.τ).loc Cert.UpdLastIdeal.main_v0_0)) (v1 : (c : Dev Cert.UpdLastIdeal.nD) → Buf (Elt Ideal) ((c.tc : Thread Cert.UpdLastIdeal.nD Cert.UpdLastIdeal.τ).loc Cert.UpdLastIdeal.main_v0_1)) (v2 : (c : Dev Cert.UpdLastIdeal.nD) → Buf (Elt Ideal) ((c.tc : Thread Cert.UpdLastIdeal.nD Cert.UpdLastIdeal.τ).loc Cert.UpdLastIdeal.main_v0_2)) (v3 : (c : Dev Cert.UpdLastIdeal.nD) → Buf (Elt Ideal) ((c.tc : Thread Cert.UpdLastIdeal.nD Cert.UpdLastIdeal.τ).loc Cert.UpdLastIdeal.main_v0_3)),
      θ_run (Cert.UpdLastIdeal.defs (F := Ideal)) (onTc (τ := Cert.UpdLastIdeal.τ) (Cert.UpdLastIdeal.main (F := Ideal))) ⟨m, fun _ => 0, g⟩ (fun r => ∀ c : Dev Cert.UpdLastIdeal.nD,
          r.2.mem ((c.tc : Thread Cert.UpdLastIdeal.nD Cert.UpdLastIdeal.τ).loc Cert.UpdLastIdeal.main_v0_0) = v0 c
          ∧ r.2.mem ((c.tc : Thread Cert.UpdLastIdeal.nD Cert.UpdLastIdeal.τ).loc Cert.UpdLastIdeal.main_v0_1) = v1 c
          ∧ r.2.mem ((c.tc : Thread Cert.UpdLastIdeal.nD Cert.UpdLastIdeal.τ).loc Cert.UpdLastIdeal.main_v0_2) = v2 c
          ∧ r.2.mem ((c.tc : Thread Cert.UpdLastIdeal.nD Cert.UpdLastIdeal.τ).loc Cert.UpdLastIdeal.main_v0_3) = v3 c
          ∧ r.2.mem ((c.tc : Thread Cert.UpdLastIdeal.nD Cert.UpdLastIdeal.τ).loc Cert.UpdLastIdeal.main_arg0) = m ((c.tc : Thread Cert.UpdLastIdeal.nD Cert.UpdLastIdeal.τ).loc Cert.UpdLastIdeal.main_arg0)
          ∧ r.2.mem ((c.tc : Thread Cert.UpdLastIdeal.nD Cert.UpdLastIdeal.τ).loc Cert.UpdLastIdeal.main_arg1) = m ((c.tc : Thread Cert.UpdLastIdeal.nD Cert.UpdLastIdeal.τ).loc Cert.UpdLastIdeal.main_arg1)
          ∧ r.2.mem ((c.tc : Thread Cert.UpdLastIdeal.nD Cert.UpdLastIdeal.τ).loc Cert.UpdLastIdeal.main_arg2) = m ((c.tc : Thread Cert.UpdLastIdeal.nD Cert.UpdLastIdeal.τ).loc Cert.UpdLastIdeal.main_arg2)
          ∧ r.2.mem ((c.tc : Thread Cert.UpdLastIdeal.nD Cert.UpdLastIdeal.τ).loc Cert.UpdLastIdeal.main_arg3) = m ((c.tc : Thread Cert.UpdLastIdeal.nD Cert.UpdLastIdeal.τ).loc Cert.UpdLastIdeal.main_arg3))
      ∧ θ_run (Cert.UpdLastRefIdeal.defs (F := Ideal)) (onTc (τ := Cert.UpdLastRefIdeal.τ) (Cert.UpdLastRefIdeal.main (F := Ideal))) ⟨m', fun _ => 0, g'⟩ (fun r => ∀ c : Dev Cert.UpdLastRefIdeal.nD,
          r.2.mem ((c.tc : Thread Cert.UpdLastRefIdeal.nD Cert.UpdLastRefIdeal.τ).loc Cert.UpdLastRefIdeal.main_v0) = v0 c
          ∧ r.2.mem ((c.tc : Thread Cert.UpdLastRefIdeal.nD Cert.UpdLastRefIdeal.τ).loc Cert.UpdLastRefIdeal.main_v24) = v1 c
          ∧ r.2.mem ((c.tc : Thread Cert.UpdLastRefIdeal.nD Cert.UpdLastRefIdeal.τ).loc Cert.UpdLastRefIdeal.main_v5) = v2 c
          ∧ r.2.mem ((c.tc : Thread Cert.UpdLastRefIdeal.nD Cert.UpdLastRefIdeal.τ).loc Cert.UpdLastRefIdeal.main_v11) = v3 c
          ∧ r.2.mem ((c.tc : Thread Cert.UpdLastRefIdeal.nD Cert.UpdLastRefIdeal.τ).loc Cert.UpdLastRefIdeal.main_arg0) = m' ((c.tc : Thread Cert.UpdLastRefIdeal.nD Cert.UpdLastRefIdeal.τ).loc Cert.UpdLastRefIdeal.main_arg0)
          ∧ r.2.mem ((c.tc : Thread Cert.UpdLastRefIdeal.nD Cert.UpdLastRefIdeal.τ).loc Cert.UpdLastRefIdeal.main_arg1) = m' ((c.tc : Thread Cert.UpdLastRefIdeal.nD Cert.UpdLastRefIdeal.τ).loc Cert.UpdLastRefIdeal.main_arg1)
          ∧ r.2.mem ((c.tc : Thread Cert.UpdLastRefIdeal.nD Cert.UpdLastRefIdeal.τ).loc Cert.UpdLastRefIdeal.main_arg2) = m' ((c.tc : Thread Cert.UpdLastRefIdeal.nD Cert.UpdLastRefIdeal.τ).loc Cert.UpdLastRefIdeal.main_arg2)
          ∧ r.2.mem ((c.tc : Thread Cert.UpdLastRefIdeal.nD Cert.UpdLastRefIdeal.τ).loc Cert.UpdLastRefIdeal.main_arg3) = m' ((c.tc : Thread Cert.UpdLastRefIdeal.nD Cert.UpdLastRefIdeal.τ).loc Cert.UpdLastRefIdeal.main_arg3))

def preserves_Disc_DiscIdeal : Prop :=
  True

def algebraic_DiscIdeal_DiscRefIdeal [hDiscIdeal : Cert.DiscIdeal.Facts] [hDiscRefIdeal : Cert.DiscRefIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)
      ∧ m' ((c.tc : Thread Cert.DiscRefIdeal.nD Cert.DiscRefIdeal.τ).loc Cert.DiscRefIdeal.main_arg3) = m ((c.tc : Thread Cert.DiscIdeal.nD Cert.DiscIdeal.τ).loc Cert.DiscIdeal.main_arg3)
      ∧ m' ((c.tc : Thread Cert.DiscRefIdeal.nD Cert.DiscRefIdeal.τ).loc Cert.DiscRefIdeal.main_arg4) = m ((c.tc : Thread Cert.DiscIdeal.nD Cert.DiscIdeal.τ).loc Cert.DiscIdeal.main_arg4)) →
    ∃ (v0 : (c : Dev Cert.DiscIdeal.nD) → Buf (Elt Ideal) ((c.tc : Thread Cert.DiscIdeal.nD Cert.DiscIdeal.τ).loc Cert.DiscIdeal.main_v7_0)) (v1 : (c : Dev Cert.DiscIdeal.nD) → Buf (Elt Ideal) ((c.tc : Thread Cert.DiscIdeal.nD Cert.DiscIdeal.τ).loc Cert.DiscIdeal.main_v7_1)) (v2 : (c : Dev Cert.DiscIdeal.nD) → Buf (Elt Ideal) ((c.tc : Thread Cert.DiscIdeal.nD Cert.DiscIdeal.τ).loc Cert.DiscIdeal.main_v7_2)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v7_0) = v0 c
          ∧ r.2.mem ((c.tc : Thread Cert.DiscIdeal.nD Cert.DiscIdeal.τ).loc Cert.DiscIdeal.main_v7_1) = v1 c
          ∧ r.2.mem ((c.tc : Thread Cert.DiscIdeal.nD Cert.DiscIdeal.τ).loc Cert.DiscIdeal.main_v7_2) = v2 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
          ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
          ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v44) = v0 c
          ∧ r.2.mem ((c.tc : Thread Cert.DiscRefIdeal.nD Cert.DiscRefIdeal.τ).loc Cert.DiscRefIdeal.main_v45) = v1 c
          ∧ r.2.mem ((c.tc : Thread Cert.DiscRefIdeal.nD Cert.DiscRefIdeal.τ).loc Cert.DiscRefIdeal.main_v46) = v2 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2)
          ∧ r.2.mem ((c.tc : Thread Cert.DiscRefIdeal.nD Cert.DiscRefIdeal.τ).loc Cert.DiscRefIdeal.main_arg3) = m' ((c.tc : Thread Cert.DiscRefIdeal.nD Cert.DiscRefIdeal.τ).loc Cert.DiscRefIdeal.main_arg3)
          ∧ r.2.mem ((c.tc : Thread Cert.DiscRefIdeal.nD Cert.DiscRefIdeal.τ).loc Cert.DiscRefIdeal.main_arg4) = m' ((c.tc : Thread Cert.DiscRefIdeal.nD Cert.DiscRefIdeal.τ).loc Cert.DiscRefIdeal.main_arg4))

def preserves_DiscBwd_DiscBwdIdeal : Prop :=
  True

def algebraic_DiscBwdIdeal_DiscBwdRefIdeal_pre_finite_nonzero [hDiscBwdIdeal : Cert.DiscBwdIdeal.Facts] [hDiscBwdRefIdeal : Cert.DiscBwdRefIdeal.Facts] [hPre_finite_nonzero : Cert.Pre_finite_nonzero.Facts] : Prop :=
  ∀ (m : (ℓ : Loc Cert.DiscBwdIdeal.nD Cert.DiscBwdIdeal.τ Cert.DiscBwdIdeal.sig) → Buf (Elt Ideal) ℓ) (g : Dev Cert.DiscBwdIdeal.nD → PrngReg)
    (m' : (ℓ : Loc Cert.DiscBwdRefIdeal.nD Cert.DiscBwdRefIdeal.τ Cert.DiscBwdRefIdeal.sig) → Buf (Elt Ideal) ℓ) (g' : Dev Cert.DiscBwdRefIdeal.nD → PrngReg), Pre_DiscBwdIdeal_finite_nonzero m →
    (∀ c : Dev Cert.DiscBwdIdeal.nD,
      m' ((c.tc : Thread Cert.DiscBwdRefIdeal.nD Cert.DiscBwdRefIdeal.τ).loc Cert.DiscBwdRefIdeal.main_arg0) = m ((c.tc : Thread Cert.DiscBwdIdeal.nD Cert.DiscBwdIdeal.τ).loc Cert.DiscBwdIdeal.main_arg0)
      ∧ m' ((c.tc : Thread Cert.DiscBwdRefIdeal.nD Cert.DiscBwdRefIdeal.τ).loc Cert.DiscBwdRefIdeal.main_arg1) = m ((c.tc : Thread Cert.DiscBwdIdeal.nD Cert.DiscBwdIdeal.τ).loc Cert.DiscBwdIdeal.main_arg1)
      ∧ m' ((c.tc : Thread Cert.DiscBwdRefIdeal.nD Cert.DiscBwdRefIdeal.τ).loc Cert.DiscBwdRefIdeal.main_arg2) = m ((c.tc : Thread Cert.DiscBwdIdeal.nD Cert.DiscBwdIdeal.τ).loc Cert.DiscBwdIdeal.main_arg2)
      ∧ m' ((c.tc : Thread Cert.DiscBwdRefIdeal.nD Cert.DiscBwdRefIdeal.τ).loc Cert.DiscBwdRefIdeal.main_arg3) = m ((c.tc : Thread Cert.DiscBwdIdeal.nD Cert.DiscBwdIdeal.τ).loc Cert.DiscBwdIdeal.main_arg3)
      ∧ m' ((c.tc : Thread Cert.DiscBwdRefIdeal.nD Cert.DiscBwdRefIdeal.τ).loc Cert.DiscBwdRefIdeal.main_arg4) = m ((c.tc : Thread Cert.DiscBwdIdeal.nD Cert.DiscBwdIdeal.τ).loc Cert.DiscBwdIdeal.main_arg4)
      ∧ m' ((c.tc : Thread Cert.DiscBwdRefIdeal.nD Cert.DiscBwdRefIdeal.τ).loc Cert.DiscBwdRefIdeal.main_arg5) = m ((c.tc : Thread Cert.DiscBwdIdeal.nD Cert.DiscBwdIdeal.τ).loc Cert.DiscBwdIdeal.main_arg5)
      ∧ m' ((c.tc : Thread Cert.DiscBwdRefIdeal.nD Cert.DiscBwdRefIdeal.τ).loc Cert.DiscBwdRefIdeal.main_arg6) = m ((c.tc : Thread Cert.DiscBwdIdeal.nD Cert.DiscBwdIdeal.τ).loc Cert.DiscBwdIdeal.main_arg6)
      ∧ m' ((c.tc : Thread Cert.DiscBwdRefIdeal.nD Cert.DiscBwdRefIdeal.τ).loc Cert.DiscBwdRefIdeal.main_arg7) = m ((c.tc : Thread Cert.DiscBwdIdeal.nD Cert.DiscBwdIdeal.τ).loc Cert.DiscBwdIdeal.main_arg7)) →
    ∃ (v0 : (c : Dev Cert.DiscBwdIdeal.nD) → Buf (Elt Ideal) ((c.tc : Thread Cert.DiscBwdIdeal.nD Cert.DiscBwdIdeal.τ).loc Cert.DiscBwdIdeal.main_v9_0)) (v1 : (c : Dev Cert.DiscBwdIdeal.nD) → Buf (Elt Ideal) ((c.tc : Thread Cert.DiscBwdIdeal.nD Cert.DiscBwdIdeal.τ).loc Cert.DiscBwdIdeal.main_v9_1)) (v2 : (c : Dev Cert.DiscBwdIdeal.nD) → Buf (Elt Ideal) ((c.tc : Thread Cert.DiscBwdIdeal.nD Cert.DiscBwdIdeal.τ).loc Cert.DiscBwdIdeal.main_v9_2)) (v3 : (c : Dev Cert.DiscBwdIdeal.nD) → Buf (Elt Ideal) ((c.tc : Thread Cert.DiscBwdIdeal.nD Cert.DiscBwdIdeal.τ).loc Cert.DiscBwdIdeal.main_v9_3)),
      θ_run (Cert.DiscBwdIdeal.defs (F := Ideal)) (onTc (τ := Cert.DiscBwdIdeal.τ) (Cert.DiscBwdIdeal.main (F := Ideal))) ⟨m, fun _ => 0, g⟩ (fun r => ∀ c : Dev Cert.DiscBwdIdeal.nD,
          r.2.mem ((c.tc : Thread Cert.DiscBwdIdeal.nD Cert.DiscBwdIdeal.τ).loc Cert.DiscBwdIdeal.main_v9_0) = v0 c
          ∧ r.2.mem ((c.tc : Thread Cert.DiscBwdIdeal.nD Cert.DiscBwdIdeal.τ).loc Cert.DiscBwdIdeal.main_v9_1) = v1 c
          ∧ r.2.mem ((c.tc : Thread Cert.DiscBwdIdeal.nD Cert.DiscBwdIdeal.τ).loc Cert.DiscBwdIdeal.main_v9_2) = v2 c
          ∧ r.2.mem ((c.tc : Thread Cert.DiscBwdIdeal.nD Cert.DiscBwdIdeal.τ).loc Cert.DiscBwdIdeal.main_v9_3) = v3 c
          ∧ r.2.mem ((c.tc : Thread Cert.DiscBwdIdeal.nD Cert.DiscBwdIdeal.τ).loc Cert.DiscBwdIdeal.main_arg0) = m ((c.tc : Thread Cert.DiscBwdIdeal.nD Cert.DiscBwdIdeal.τ).loc Cert.DiscBwdIdeal.main_arg0)
          ∧ r.2.mem ((c.tc : Thread Cert.DiscBwdIdeal.nD Cert.DiscBwdIdeal.τ).loc Cert.DiscBwdIdeal.main_arg1) = m ((c.tc : Thread Cert.DiscBwdIdeal.nD Cert.DiscBwdIdeal.τ).loc Cert.DiscBwdIdeal.main_arg1)
          ∧ r.2.mem ((c.tc : Thread Cert.DiscBwdIdeal.nD Cert.DiscBwdIdeal.τ).loc Cert.DiscBwdIdeal.main_arg2) = m ((c.tc : Thread Cert.DiscBwdIdeal.nD Cert.DiscBwdIdeal.τ).loc Cert.DiscBwdIdeal.main_arg2)
          ∧ r.2.mem ((c.tc : Thread Cert.DiscBwdIdeal.nD Cert.DiscBwdIdeal.τ).loc Cert.DiscBwdIdeal.main_arg3) = m ((c.tc : Thread Cert.DiscBwdIdeal.nD Cert.DiscBwdIdeal.τ).loc Cert.DiscBwdIdeal.main_arg3)
          ∧ r.2.mem ((c.tc : Thread Cert.DiscBwdIdeal.nD Cert.DiscBwdIdeal.τ).loc Cert.DiscBwdIdeal.main_arg4) = m ((c.tc : Thread Cert.DiscBwdIdeal.nD Cert.DiscBwdIdeal.τ).loc Cert.DiscBwdIdeal.main_arg4)
          ∧ r.2.mem ((c.tc : Thread Cert.DiscBwdIdeal.nD Cert.DiscBwdIdeal.τ).loc Cert.DiscBwdIdeal.main_arg5) = m ((c.tc : Thread Cert.DiscBwdIdeal.nD Cert.DiscBwdIdeal.τ).loc Cert.DiscBwdIdeal.main_arg5)
          ∧ r.2.mem ((c.tc : Thread Cert.DiscBwdIdeal.nD Cert.DiscBwdIdeal.τ).loc Cert.DiscBwdIdeal.main_arg6) = m ((c.tc : Thread Cert.DiscBwdIdeal.nD Cert.DiscBwdIdeal.τ).loc Cert.DiscBwdIdeal.main_arg6)
          ∧ r.2.mem ((c.tc : Thread Cert.DiscBwdIdeal.nD Cert.DiscBwdIdeal.τ).loc Cert.DiscBwdIdeal.main_arg7) = m ((c.tc : Thread Cert.DiscBwdIdeal.nD Cert.DiscBwdIdeal.τ).loc Cert.DiscBwdIdeal.main_arg7))
      ∧ θ_run (Cert.DiscBwdRefIdeal.defs (F := Ideal)) (onTc (τ := Cert.DiscBwdRefIdeal.τ) (Cert.DiscBwdRefIdeal.main (F := Ideal))) ⟨m', fun _ => 0, g'⟩ (fun r => ∀ c : Dev Cert.DiscBwdRefIdeal.nD,
          r.2.mem ((c.tc : Thread Cert.DiscBwdRefIdeal.nD Cert.DiscBwdRefIdeal.τ).loc Cert.DiscBwdRefIdeal.main_v152) = v0 c
          ∧ r.2.mem ((c.tc : Thread Cert.DiscBwdRefIdeal.nD Cert.DiscBwdRefIdeal.τ).loc Cert.DiscBwdRefIdeal.main_v153) = v1 c
          ∧ r.2.mem ((c.tc : Thread Cert.DiscBwdRefIdeal.nD Cert.DiscBwdRefIdeal.τ).loc Cert.DiscBwdRefIdeal.main_v154) = v2 c
          ∧ r.2.mem ((c.tc : Thread Cert.DiscBwdRefIdeal.nD Cert.DiscBwdRefIdeal.τ).loc Cert.DiscBwdRefIdeal.main_v155) = v3 c
          ∧ r.2.mem ((c.tc : Thread Cert.DiscBwdRefIdeal.nD Cert.DiscBwdRefIdeal.τ).loc Cert.DiscBwdRefIdeal.main_arg0) = m' ((c.tc : Thread Cert.DiscBwdRefIdeal.nD Cert.DiscBwdRefIdeal.τ).loc Cert.DiscBwdRefIdeal.main_arg0)
          ∧ r.2.mem ((c.tc : Thread Cert.DiscBwdRefIdeal.nD Cert.DiscBwdRefIdeal.τ).loc Cert.DiscBwdRefIdeal.main_arg1) = m' ((c.tc : Thread Cert.DiscBwdRefIdeal.nD Cert.DiscBwdRefIdeal.τ).loc Cert.DiscBwdRefIdeal.main_arg1)
          ∧ r.2.mem ((c.tc : Thread Cert.DiscBwdRefIdeal.nD Cert.DiscBwdRefIdeal.τ).loc Cert.DiscBwdRefIdeal.main_arg2) = m' ((c.tc : Thread Cert.DiscBwdRefIdeal.nD Cert.DiscBwdRefIdeal.τ).loc Cert.DiscBwdRefIdeal.main_arg2)
          ∧ r.2.mem ((c.tc : Thread Cert.DiscBwdRefIdeal.nD Cert.DiscBwdRefIdeal.τ).loc Cert.DiscBwdRefIdeal.main_arg3) = m' ((c.tc : Thread Cert.DiscBwdRefIdeal.nD Cert.DiscBwdRefIdeal.τ).loc Cert.DiscBwdRefIdeal.main_arg3)
          ∧ r.2.mem ((c.tc : Thread Cert.DiscBwdRefIdeal.nD Cert.DiscBwdRefIdeal.τ).loc Cert.DiscBwdRefIdeal.main_arg4) = m' ((c.tc : Thread Cert.DiscBwdRefIdeal.nD Cert.DiscBwdRefIdeal.τ).loc Cert.DiscBwdRefIdeal.main_arg4)
          ∧ r.2.mem ((c.tc : Thread Cert.DiscBwdRefIdeal.nD Cert.DiscBwdRefIdeal.τ).loc Cert.DiscBwdRefIdeal.main_arg5) = m' ((c.tc : Thread Cert.DiscBwdRefIdeal.nD Cert.DiscBwdRefIdeal.τ).loc Cert.DiscBwdRefIdeal.main_arg5)
          ∧ r.2.mem ((c.tc : Thread Cert.DiscBwdRefIdeal.nD Cert.DiscBwdRefIdeal.τ).loc Cert.DiscBwdRefIdeal.main_arg6) = m' ((c.tc : Thread Cert.DiscBwdRefIdeal.nD Cert.DiscBwdRefIdeal.τ).loc Cert.DiscBwdRefIdeal.main_arg6)
          ∧ r.2.mem ((c.tc : Thread Cert.DiscBwdRefIdeal.nD Cert.DiscBwdRefIdeal.τ).loc Cert.DiscBwdRefIdeal.main_arg7) = m' ((c.tc : Thread Cert.DiscBwdRefIdeal.nD Cert.DiscBwdRefIdeal.τ).loc Cert.DiscBwdRefIdeal.main_arg7))

def Claim : Prop :=
  ∃ (hKernel : Cert.Kernel.Facts) (hKernelIdeal : Cert.KernelIdeal.Facts) (hReferenceIdeal : Cert.ReferenceIdeal.Facts) (hMergeFwd : Cert.MergeFwd.Facts) (hMergeFwdIdeal : Cert.MergeFwdIdeal.Facts) (hMergeFwdRefIdeal : Cert.MergeFwdRefIdeal.Facts) (hMlpIn : Cert.MlpIn.Facts) (hMlpInIdeal : Cert.MlpInIdeal.Facts) (hMlpInRefIdeal : Cert.MlpInRefIdeal.Facts) (hInProj : Cert.InProj.Facts) (hInProjIdeal : Cert.InProjIdeal.Facts) (hInProjRefIdeal : Cert.InProjRefIdeal.Facts) (hLoss : Cert.Loss.Facts) (hLossIdeal : Cert.LossIdeal.Facts) (hLossRefIdeal : Cert.LossRefIdeal.Facts) (hAct : Cert.Act.Facts) (hActIdeal : Cert.ActIdeal.Facts) (hActRefIdeal : Cert.ActRefIdeal.Facts) (hMlpInBwd : Cert.MlpInBwd.Facts) (hMlpInBwdIdeal : Cert.MlpInBwdIdeal.Facts) (hMlpInBwdRefIdeal : Cert.MlpInBwdRefIdeal.Facts) (hInBwd : Cert.InBwd.Facts) (hInBwdIdeal : Cert.InBwdIdeal.Facts) (hInBwdRefIdeal : Cert.InBwdRefIdeal.Facts) (hWMlpOut : Cert.WMlpOut.Facts) (hWMlpOutIdeal : Cert.WMlpOutIdeal.Facts) (hWMlpOutRefIdeal : Cert.WMlpOutRefIdeal.Facts) (hWMlpIn : Cert.WMlpIn.Facts) (hWMlpInIdeal : Cert.WMlpInIdeal.Facts) (hWMlpInRefIdeal : Cert.WMlpInRefIdeal.Facts) (hW1024 : Cert.W1024.Facts) (hW1024Ideal : Cert.W1024Ideal.Facts) (hW1024RefIdeal : Cert.W1024RefIdeal.Facts) (hWBranchB : Cert.WBranchB.Facts) (hWBranchBIdeal : Cert.WBranchBIdeal.Facts) (hWBranchBRefIdeal : Cert.WBranchBRefIdeal.Facts) (hW2048 : Cert.W2048.Facts) (hW2048Ideal : Cert.W2048Ideal.Facts) (hW2048RefIdeal : Cert.W2048RefIdeal.Facts) (hW512 : Cert.W512.Facts) (hW512Ideal : Cert.W512Ideal.Facts) (hW512RefIdeal : Cert.W512RefIdeal.Facts) (hW1152 : Cert.W1152.Facts) (hW1152Ideal : Cert.W1152Ideal.Facts) (hW1152RefIdeal : Cert.W1152RefIdeal.Facts) (hUpdMlpOut : Cert.UpdMlpOut.Facts) (hUpdMlpOutIdeal : Cert.UpdMlpOutIdeal.Facts) (hUpdMlpOutRefIdeal : Cert.UpdMlpOutRefIdeal.Facts) (hUpdMlpIn : Cert.UpdMlpIn.Facts) (hUpdMlpInIdeal : Cert.UpdMlpInIdeal.Facts) (hUpdMlpInRefIdeal : Cert.UpdMlpInRefIdeal.Facts) (hUpdOut : Cert.UpdOut.Facts) (hUpdOutIdeal : Cert.UpdOutIdeal.Facts) (hUpdOutRefIdeal : Cert.UpdOutRefIdeal.Facts) (hUpdBranch : Cert.UpdBranch.Facts) (hUpdBranchIdeal : Cert.UpdBranchIdeal.Facts) (hUpdBranchRefIdeal : Cert.UpdBranchRefIdeal.Facts) (hUpdGlu : Cert.UpdGlu.Facts) (hUpdGluIdeal : Cert.UpdGluIdeal.Facts) (hUpdGluRefIdeal : Cert.UpdGluRefIdeal.Facts) (hUpdIn : Cert.UpdIn.Facts) (hUpdInIdeal : Cert.UpdInIdeal.Facts) (hUpdInRefIdeal : Cert.UpdInRefIdeal.Facts) (hUpdConv : Cert.UpdConv.Facts) (hUpdConvIdeal : Cert.UpdConvIdeal.Facts) (hUpdConvRefIdeal : Cert.UpdConvRefIdeal.Facts) (hUpdS5B : Cert.UpdS5B.Facts) (hUpdS5BIdeal : Cert.UpdS5BIdeal.Facts) (hUpdS5BRefIdeal : Cert.UpdS5BRefIdeal.Facts) (hUpdLast : Cert.UpdLast.Facts) (hUpdLastIdeal : Cert.UpdLastIdeal.Facts) (hUpdLastRefIdeal : Cert.UpdLastRefIdeal.Facts) (hDisc : Cert.Disc.Facts) (hDiscIdeal : Cert.DiscIdeal.Facts) (hDiscRefIdeal : Cert.DiscRefIdeal.Facts) (hDiscBwd : Cert.DiscBwd.Facts) (hDiscBwdIdeal : Cert.DiscBwdIdeal.Facts) (hDiscBwdRefIdeal : Cert.DiscBwdRefIdeal.Facts) (hPre_finite_nonzero : Cert.Pre_finite_nonzero.Facts),
    quiescent_Kernel (hKernel := hKernel)
    ∧ quiescent_KernelIdeal (hKernelIdeal := hKernelIdeal)
    ∧ quiescent_ReferenceIdeal (hReferenceIdeal := hReferenceIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MlpIn (hMlpIn := hMlpIn)
    ∧ quiescent_MlpInIdeal (hMlpInIdeal := hMlpInIdeal)
    ∧ quiescent_MlpInRefIdeal (hMlpInRefIdeal := hMlpInRefIdeal)
    ∧ quiescent_InProj (hInProj := hInProj)
    ∧ quiescent_InProjIdeal (hInProjIdeal := hInProjIdeal)
    ∧ quiescent_InProjRefIdeal (hInProjRefIdeal := hInProjRefIdeal)
    ∧ quiescent_Loss (hLoss := hLoss)
    ∧ quiescent_LossIdeal (hLossIdeal := hLossIdeal)
    ∧ quiescent_LossRefIdeal (hLossRefIdeal := hLossRefIdeal)
    ∧ quiescent_Act (hAct := hAct)
    ∧ quiescent_ActIdeal (hActIdeal := hActIdeal)
    ∧ quiescent_ActRefIdeal (hActRefIdeal := hActRefIdeal)
    ∧ quiescent_MlpInBwd (hMlpInBwd := hMlpInBwd)
    ∧ quiescent_MlpInBwdIdeal (hMlpInBwdIdeal := hMlpInBwdIdeal)
    ∧ quiescent_MlpInBwdRefIdeal (hMlpInBwdRefIdeal := hMlpInBwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_WMlpOut (hWMlpOut := hWMlpOut)
    ∧ quiescent_WMlpOutIdeal (hWMlpOutIdeal := hWMlpOutIdeal)
    ∧ quiescent_WMlpOutRefIdeal (hWMlpOutRefIdeal := hWMlpOutRefIdeal)
    ∧ quiescent_WMlpIn (hWMlpIn := hWMlpIn)
    ∧ quiescent_WMlpInIdeal (hWMlpInIdeal := hWMlpInIdeal)
    ∧ quiescent_WMlpInRefIdeal (hWMlpInRefIdeal := hWMlpInRefIdeal)
    ∧ quiescent_W1024 (hW1024 := hW1024)
    ∧ quiescent_W1024Ideal (hW1024Ideal := hW1024Ideal)
    ∧ quiescent_W1024RefIdeal (hW1024RefIdeal := hW1024RefIdeal)
    ∧ quiescent_WBranchB (hWBranchB := hWBranchB)
    ∧ quiescent_WBranchBIdeal (hWBranchBIdeal := hWBranchBIdeal)
    ∧ quiescent_WBranchBRefIdeal (hWBranchBRefIdeal := hWBranchBRefIdeal)
    ∧ quiescent_W2048 (hW2048 := hW2048)
    ∧ quiescent_W2048Ideal (hW2048Ideal := hW2048Ideal)
    ∧ quiescent_W2048RefIdeal (hW2048RefIdeal := hW2048RefIdeal)
    ∧ quiescent_W512 (hW512 := hW512)
    ∧ quiescent_W512Ideal (hW512Ideal := hW512Ideal)
    ∧ quiescent_W512RefIdeal (hW512RefIdeal := hW512RefIdeal)
    ∧ quiescent_W1152 (hW1152 := hW1152)
    ∧ quiescent_W1152Ideal (hW1152Ideal := hW1152Ideal)
    ∧ quiescent_W1152RefIdeal (hW1152RefIdeal := hW1152RefIdeal)
    ∧ quiescent_UpdMlpOut (hUpdMlpOut := hUpdMlpOut)
    ∧ quiescent_UpdMlpOutIdeal (hUpdMlpOutIdeal := hUpdMlpOutIdeal)
    ∧ quiescent_UpdMlpOutRefIdeal (hUpdMlpOutRefIdeal := hUpdMlpOutRefIdeal)
    ∧ quiescent_UpdMlpIn (hUpdMlpIn := hUpdMlpIn)
    ∧ quiescent_UpdMlpInIdeal (hUpdMlpInIdeal := hUpdMlpInIdeal)
    ∧ quiescent_UpdMlpInRefIdeal (hUpdMlpInRefIdeal := hUpdMlpInRefIdeal)
    ∧ quiescent_UpdOut (hUpdOut := hUpdOut)
    ∧ quiescent_UpdOutIdeal (hUpdOutIdeal := hUpdOutIdeal)
    ∧ quiescent_UpdOutRefIdeal (hUpdOutRefIdeal := hUpdOutRefIdeal)
    ∧ quiescent_UpdBranch (hUpdBranch := hUpdBranch)
    ∧ quiescent_UpdBranchIdeal (hUpdBranchIdeal := hUpdBranchIdeal)
    ∧ quiescent_UpdBranchRefIdeal (hUpdBranchRefIdeal := hUpdBranchRefIdeal)
    ∧ quiescent_UpdGlu (hUpdGlu := hUpdGlu)
    ∧ quiescent_UpdGluIdeal (hUpdGluIdeal := hUpdGluIdeal)
    ∧ quiescent_UpdGluRefIdeal (hUpdGluRefIdeal := hUpdGluRefIdeal)
    ∧ quiescent_UpdIn (hUpdIn := hUpdIn)
    ∧ quiescent_UpdInIdeal (hUpdInIdeal := hUpdInIdeal)
    ∧ quiescent_UpdInRefIdeal (hUpdInRefIdeal := hUpdInRefIdeal)
    ∧ quiescent_UpdConv (hUpdConv := hUpdConv)
    ∧ quiescent_UpdConvIdeal (hUpdConvIdeal := hUpdConvIdeal)
    ∧ quiescent_UpdConvRefIdeal (hUpdConvRefIdeal := hUpdConvRefIdeal)
    ∧ quiescent_UpdS5B (hUpdS5B := hUpdS5B)
    ∧ quiescent_UpdS5BIdeal (hUpdS5BIdeal := hUpdS5BIdeal)
    ∧ quiescent_UpdS5BRefIdeal (hUpdS5BRefIdeal := hUpdS5BRefIdeal)
    ∧ quiescent_UpdLast (hUpdLast := hUpdLast)
    ∧ quiescent_UpdLastIdeal (hUpdLastIdeal := hUpdLastIdeal)
    ∧ quiescent_UpdLastRefIdeal (hUpdLastRefIdeal := hUpdLastRefIdeal)
    ∧ quiescent_Disc (hDisc := hDisc)
    ∧ quiescent_DiscIdeal (hDiscIdeal := hDiscIdeal)
    ∧ quiescent_DiscRefIdeal (hDiscRefIdeal := hDiscRefIdeal)
    ∧ quiescent_DiscBwd (hDiscBwd := hDiscBwd)
    ∧ quiescent_DiscBwdIdeal (hDiscBwdIdeal := hDiscBwdIdeal)
    ∧ quiescent_DiscBwdIdeal_pre_finite_nonzero (hDiscBwdIdeal := hDiscBwdIdeal) (hPre_finite_nonzero := hPre_finite_nonzero)
    ∧ quiescent_DiscBwdRefIdeal (hDiscBwdRefIdeal := hDiscBwdRefIdeal)
    ∧ quiescent_DiscBwdRefIdeal_pre_finite_nonzero (hDiscBwdRefIdeal := hDiscBwdRefIdeal) (hPre_finite_nonzero := hPre_finite_nonzero)
    ∧ preserves_Kernel_KernelIdeal
    ∧ algebraic_KernelIdeal_ReferenceIdeal (hKernelIdeal := hKernelIdeal) (hReferenceIdeal := hReferenceIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MlpIn_MlpInIdeal
    ∧ algebraic_MlpInIdeal_MlpInRefIdeal (hMlpInIdeal := hMlpInIdeal) (hMlpInRefIdeal := hMlpInRefIdeal)
    ∧ preserves_InProj_InProjIdeal
    ∧ algebraic_InProjIdeal_InProjRefIdeal (hInProjIdeal := hInProjIdeal) (hInProjRefIdeal := hInProjRefIdeal)
    ∧ preserves_Loss_LossIdeal
    ∧ algebraic_LossIdeal_LossRefIdeal (hLossIdeal := hLossIdeal) (hLossRefIdeal := hLossRefIdeal)
    ∧ preserves_Act_ActIdeal
    ∧ algebraic_ActIdeal_ActRefIdeal (hActIdeal := hActIdeal) (hActRefIdeal := hActRefIdeal)
    ∧ preserves_MlpInBwd_MlpInBwdIdeal
    ∧ algebraic_MlpInBwdIdeal_MlpInBwdRefIdeal (hMlpInBwdIdeal := hMlpInBwdIdeal) (hMlpInBwdRefIdeal := hMlpInBwdRefIdeal)
    ∧ preserves_InBwd_InBwdIdeal
    ∧ algebraic_InBwdIdeal_InBwdRefIdeal (hInBwdIdeal := hInBwdIdeal) (hInBwdRefIdeal := hInBwdRefIdeal)
    ∧ preserves_WMlpOut_WMlpOutIdeal
    ∧ algebraic_WMlpOutIdeal_WMlpOutRefIdeal (hWMlpOutIdeal := hWMlpOutIdeal) (hWMlpOutRefIdeal := hWMlpOutRefIdeal)
    ∧ preserves_WMlpIn_WMlpInIdeal
    ∧ algebraic_WMlpInIdeal_WMlpInRefIdeal (hWMlpInIdeal := hWMlpInIdeal) (hWMlpInRefIdeal := hWMlpInRefIdeal)
    ∧ preserves_W1024_W1024Ideal
    ∧ algebraic_W1024Ideal_W1024RefIdeal (hW1024Ideal := hW1024Ideal) (hW1024RefIdeal := hW1024RefIdeal)
    ∧ preserves_WBranchB_WBranchBIdeal
    ∧ algebraic_WBranchBIdeal_WBranchBRefIdeal (hWBranchBIdeal := hWBranchBIdeal) (hWBranchBRefIdeal := hWBranchBRefIdeal)
    ∧ preserves_W2048_W2048Ideal
    ∧ algebraic_W2048Ideal_W2048RefIdeal (hW2048Ideal := hW2048Ideal) (hW2048RefIdeal := hW2048RefIdeal)
    ∧ preserves_W512_W512Ideal
    ∧ algebraic_W512Ideal_W512RefIdeal (hW512Ideal := hW512Ideal) (hW512RefIdeal := hW512RefIdeal)
    ∧ preserves_W1152_W1152Ideal
    ∧ algebraic_W1152Ideal_W1152RefIdeal (hW1152Ideal := hW1152Ideal) (hW1152RefIdeal := hW1152RefIdeal)
    ∧ preserves_UpdMlpOut_UpdMlpOutIdeal
    ∧ algebraic_UpdMlpOutIdeal_UpdMlpOutRefIdeal (hUpdMlpOutIdeal := hUpdMlpOutIdeal) (hUpdMlpOutRefIdeal := hUpdMlpOutRefIdeal)
    ∧ preserves_UpdMlpIn_UpdMlpInIdeal
    ∧ algebraic_UpdMlpInIdeal_UpdMlpInRefIdeal (hUpdMlpInIdeal := hUpdMlpInIdeal) (hUpdMlpInRefIdeal := hUpdMlpInRefIdeal)
    ∧ preserves_UpdOut_UpdOutIdeal
    ∧ algebraic_UpdOutIdeal_UpdOutRefIdeal (hUpdOutIdeal := hUpdOutIdeal) (hUpdOutRefIdeal := hUpdOutRefIdeal)
    ∧ preserves_UpdBranch_UpdBranchIdeal
    ∧ algebraic_UpdBranchIdeal_UpdBranchRefIdeal (hUpdBranchIdeal := hUpdBranchIdeal) (hUpdBranchRefIdeal := hUpdBranchRefIdeal)
    ∧ preserves_UpdGlu_UpdGluIdeal
    ∧ algebraic_UpdGluIdeal_UpdGluRefIdeal (hUpdGluIdeal := hUpdGluIdeal) (hUpdGluRefIdeal := hUpdGluRefIdeal)
    ∧ preserves_UpdIn_UpdInIdeal
    ∧ algebraic_UpdInIdeal_UpdInRefIdeal (hUpdInIdeal := hUpdInIdeal) (hUpdInRefIdeal := hUpdInRefIdeal)
    ∧ preserves_UpdConv_UpdConvIdeal
    ∧ algebraic_UpdConvIdeal_UpdConvRefIdeal (hUpdConvIdeal := hUpdConvIdeal) (hUpdConvRefIdeal := hUpdConvRefIdeal)
    ∧ preserves_UpdS5B_UpdS5BIdeal
    ∧ algebraic_UpdS5BIdeal_UpdS5BRefIdeal (hUpdS5BIdeal := hUpdS5BIdeal) (hUpdS5BRefIdeal := hUpdS5BRefIdeal)
    ∧ preserves_UpdLast_UpdLastIdeal
    ∧ algebraic_UpdLastIdeal_UpdLastRefIdeal (hUpdLastIdeal := hUpdLastIdeal) (hUpdLastRefIdeal := hUpdLastRefIdeal)
    ∧ preserves_Disc_DiscIdeal
    ∧ algebraic_DiscIdeal_DiscRefIdeal (hDiscIdeal := hDiscIdeal) (hDiscRefIdeal := hDiscRefIdeal)
    ∧ preserves_DiscBwd_DiscBwdIdeal
    ∧ algebraic_DiscBwdIdeal_DiscBwdRefIdeal_pre_finite_nonzero (hDiscBwdIdeal := hDiscBwdIdeal) (hDiscBwdRefIdeal := hDiscBwdRefIdeal) (hPre_finite_nonzero := hPre_finite_nonzero)
-- ==== Pre_finite_nonzero.lean ====
abbrev S32x64 : Shape := ⟨2, ![32, 64]⟩
abbrev S32 : Shape := ⟨1, ![32]⟩
abbrev S32x64x16 : Shape := ⟨3, ![32, 64, 16]⟩
abbrev S8x2048 : Shape := ⟨2, ![8, 2048]⟩
abbrev S2048x16 : Shape := ⟨2, ![2048, 16]⟩
abbrev S_ : Shape := ⟨0, ![]⟩
abbrev S32x1 : Shape := ⟨2, ![32, 1]⟩
abbrev S1x2048 : Shape := ⟨2, ![1, 2048]⟩
abbrev S2048 : Shape := ⟨1, ![2048]⟩
abbrev S32x64x1 : Shape := ⟨3, ![32, 64, 1]⟩

class Facts : Prop where
  bcast_S_S32x64 : S_.BroadcastsInDim S32x64 (![] : Fin 0 → Fin S32x64.rank)
  bcast_S_S32 : S_.BroadcastsInDim S32 (![] : Fin 0 → Fin S32.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  slices_S8x2048_S1x2048_0_0 : S8x2048.Slices ![0, 0] S1x2048
  shapeCasts_S1x2048_S2048 : S1x2048.ShapeCasts S2048
  shapeCasts_S2048_S32x64 : S2048.ShapeCasts S32x64
  slices_S8x2048_S1x2048_1_0 : S8x2048.Slices ![1, 0] S1x2048
  bcast_S32x64_S32x64x1_0_1 : S32x64.BroadcastsInDim S32x64x1 (![0, 1] : Fin 2 → Fin S32x64x1.rank)
  bcast_S_S32x64x16 : S_.BroadcastsInDim S32x64x16 (![] : Fin 0 → Fin S32x64x16.rank)
  bcast_S32x64x1_S32x64x16_0_1_2 : S32x64x1.BroadcastsInDim S32x64x16 (![0, 1, 2] : Fin 3 → Fin S32x64x16.rank)
  shapeCasts_S2048x16_S32x64x16 : S2048x16.ShapeCasts S32x64x16

variable [Facts]

def fn_part2 {F : FTy → Type} [FloatOps F] (main_arg6 : FVec F S2048x16 .f32) (main_arg7 : FVec F S2048x16 .f32) (main_v38 : IVec S32x64x16 1) (main_v39 : FVec F S32x64x16 .f32) (main_cst_6 : FVec F S_ .f32) : IVec S32x64x16 1 :=
  let main_v40 : FVec F S32x64x16 .f32 := broadcastInDim S32x64x16 ![] bcast_S_S32x64x16 main_cst_6
  let main_v41 : IVec S32x64x16 1 := cmpf .olt main_v39 main_v40
  let main_v42 : IVec S32x64x16 1 := andi main_v38 main_v41
  let main_v43 : FVec F S32x64x16 .f32 := shapeCast S32x64x16 main_arg6 shapeCasts_S2048x16_S32x64x16
  let main_v44 : FVec F S32x64x16 .f32 := Host.absf main_v43
  let main_cst_7 : FVec F S_ .f32 := constant S_ .f32 0x7F800000#32
  let main_v45 : FVec F S32x64x16 .f32 := broadcastInDim S32x64x16 ![] bcast_S_S32x64x16 main_cst_7
  let main_v46 : IVec S32x64x16 1 := cmpf .olt main_v44 main_v45
  let main_v47 : IVec S32x64x16 1 := andi main_v42 main_v46
  let main_v48 : FVec F S32x64x16 .f32 := shapeCast S32x64x16 main_arg7 shapeCasts_S2048x16_S32x64x16
  let main_v49 : FVec F S32x64x16 .f32 := Host.absf main_v48
  let main_cst_8 : FVec F S_ .f32 := constant S_ .f32 0x7F800000#32
  let main_v50 : FVec F S32x64x16 .f32 := broadcastInDim S32x64x16 ![] bcast_S_S32x64x16 main_cst_8
  let main_v51 : IVec S32x64x16 1 := cmpf .olt main_v49 main_v50
  let main_v52 : IVec S32x64x16 1 := andi main_v47 main_v51
  main_v52

def fn_part1 {F : FTy → Type} [FloatOps F] (main_arg3 : FVec F S32x64x16 .f32) (main_arg4 : FVec F S32x64x16 .f32) (main_arg5 : FVec F S8x2048 .f32) (main_arg6 : FVec F S2048x16 .f32) (main_arg7 : FVec F S2048x16 .f32) (main_v18 : IVec S32x64 1) (main_v19 : FVec F S1x2048 .f32) : IVec S32x64x16 1 :=
  let main_v20 : FVec F S2048 .f32 := shapeCast S2048 main_v19 shapeCasts_S1x2048_S2048
  let main_v21 : FVec F S32x64 .f32 := shapeCast S32x64 main_v20 shapeCasts_S2048_S32x64
  let main_v22 : FVec F S32x64 .f32 := Host.absf main_v21
  let main_cst_3 : FVec F S_ .f32 := constant S_ .f32 0x7F800000#32
  let main_v23 : FVec F S32x64 .f32 := broadcastInDim S32x64 ![] bcast_S_S32x64 main_cst_3
  let main_v24 : IVec S32x64 1 := cmpf .olt main_v22 main_v23
  let main_v25 : IVec S32x64 1 := andi main_v18 main_v24
  let main_v26 : FVec F S1x2048 .f32 := (extractStridedSlice S1x2048 ![1, 0] · slices_S8x2048_S1x2048_1_0) main_arg5
  let main_v27 : FVec F S2048 .f32 := shapeCast S2048 main_v26 shapeCasts_S1x2048_S2048
  let main_v28 : FVec F S32x64 .f32 := shapeCast S32x64 main_v27 shapeCasts_S2048_S32x64
  let main_v29 : FVec F S32x64 .f32 := Host.absf main_v28
  let main_cst_4 : FVec F S_ .f32 := constant S_ .f32 0x7F800000#32
  let main_v30 : FVec F S32x64 .f32 := broadcastInDim S32x64 ![] bcast_S_S32x64 main_cst_4
  let main_v31 : IVec S32x64 1 := cmpf .olt main_v29 main_v30
  let main_v32 : IVec S32x64 1 := andi main_v25 main_v31
  let main_v33 : IVec S32x64x1 1 := broadcastInDim S32x64x1 ![0, 1] bcast_S32x64_S32x64x1_0_1 main_v32
  let main_v34 : FVec F S32x64x16 .f32 := Host.absf main_arg3
  let main_cst_5 : FVec F S_ .f32 := constant S_ .f32 0x7F800000#32
  let main_v35 : FVec F S32x64x16 .f32 := broadcastInDim S32x64x16 ![] bcast_S_S32x64x16 main_cst_5
  let main_v36 : IVec S32x64x16 1 := cmpf .olt main_v34 main_v35
  let main_v37 : IVec S32x64x16 1 := broadcastInDim S32x64x16 ![0, 1, 2] bcast_S32x64x1_S32x64x16_0_1_2 main_v33
  let main_v38 : IVec S32x64x16 1 := andi main_v37 main_v36
  let main_v39 : FVec F S32x64x16 .f32 := Host.absf main_arg4
  let main_cst_6 : FVec F S_ .f32 := constant S_ .f32 0x7F800000#32
  fn_part2 (F := F) main_arg6 main_arg7 main_v38 main_v39 main_cst_6

def fn {F : FTy → Type} [FloatOps F] (main_arg0 : FVec F S32x64 .f32) (main_arg1 : FVec F S32x64 .f32) (main_arg2 : FVec F S32 .f32) (main_arg3 : FVec F S32x64x16 .f32) (main_arg4 : FVec F S32x64x16 .f32) (main_arg5 : FVec F S8x2048 .f32) (main_arg6 : FVec F S2048x16 .f32) (main_arg7 : FVec F S2048x16 .f32) : IVec S32x64x16 1 :=
  let main_v0 : FVec F S32x64 .f32 := Host.absf main_arg0
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_v3 : FVec F S32x64 .f32 := Host.absf main_arg1
  let main_cst_0 : FVec F S_ .f32 := constant S_ .f32 0x7F800000#32
  let main_v4 : FVec F S32x64 .f32 := broadcastInDim S32x64 ![] bcast_S_S32x64 main_cst_0
  let main_v5 : IVec S32x64 1 := cmpf .olt main_v3 main_v4
  let main_v6 : IVec S32x64 1 := andi main_v2 main_v5
  let main_v7 : FVec F S32 .f32 := Host.absf main_arg2
  let main_cst_1 : FVec F S_ .f32 := constant S_ .f32 0x7F800000#32
  let main_v8 : FVec F S32 .f32 := broadcastInDim S32 ![] bcast_S_S32 main_cst_1
  let main_v9 : IVec S32 1 := cmpf .olt main_v7 main_v8
  let main_v10 : IVec S32x1 1 := broadcastInDim S32x1 ![0] bcast_S32_S32x1_0 main_v9
  let main_v11 : IVec S32x64 1 := broadcastInDim S32x64 ![0, 1] bcast_S32x1_S32x64_0_1 main_v10
  let main_v12 : IVec S32x64 1 := andi main_v6 main_v11
  let main_v13 : FVec F S32x64 .f32 := mulf main_arg0 main_arg0
  let main_v14 : FVec F S32x64 .f32 := mulf main_arg1 main_arg1
  let main_v15 : FVec F S32x64 .f32 := addf main_v13 main_v14
  let main_cst_2 : FVec F S_ .f32 := constant S_ .f32 0x00000000#32
  let main_v16 : FVec F S32x64 .f32 := broadcastInDim S32x64 ![] bcast_S_S32x64 main_cst_2
  let main_v17 : IVec S32x64 1 := cmpf .ogt main_v15 main_v16
  let main_v18 : IVec S32x64 1 := andi main_v12 main_v17
  let main_v19 : FVec F S1x2048 .f32 := (extractStridedSlice S1x2048 ![0, 0] · slices_S8x2048_S1x2048_0_0) main_arg5
  fn_part1 (F := F) main_arg3 main_arg4 main_arg5 main_arg6 main_arg7 main_v18 main_v19
-- ==== Kernel.lean ====
abbrev S8192x1024 : Shape := ⟨2, ![8192, 1024]⟩
abbrev S8192x2048 : Shape := ⟨2, ![8192, 2048]⟩
abbrev S8192x512 : Shape := ⟨2, ![8192, 512]⟩
abbrev S1536x1024 : Shape := ⟨2, ![1536, 1024]⟩
abbrev S1024x1024 : Shape := ⟨2, ![1024, 1024]⟩
abbrev S512x1024 : Shape := ⟨2, ![512, 1024]⟩
abbrev S256x1024 : Shape := ⟨2, ![256, 1024]⟩
abbrev S256x2048 : Shape := ⟨2, ![256, 2048]⟩
abbrev S256x512 : Shape := ⟨2, ![256, 512]⟩

abbrev nBuf : Space → Nat
  | .hbm => 18
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .bf16⟩
  | .hbm, ⟨3, _⟩ => ⟨S8192x512, .bf16⟩
  | .hbm, ⟨4, _⟩ => ⟨S1536x1024, .bf16⟩
  | .hbm, ⟨5, _⟩ => ⟨S1024x1024, .bf16⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S512x1024, .bf16⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x2048, .bf16⟩
  | .hbm, ⟨14, _⟩ => ⟨S8192x1024, .bf16⟩
  | .hbm, ⟨15, _⟩ => ⟨S8192x1024, .bf16⟩
  | .hbm, ⟨16, _⟩ => ⟨S8192x1024, .f32⟩
  | .hbm, ⟨17, _⟩ => ⟨S8192x512, .f32⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1536x1024, .bf16⟩
  | .local _ .vmem, ⟨9, _⟩ => ⟨S1024x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .bf16⟩
  | .local _ .vmem, ⟨13, _⟩ => ⟨S256x2048, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S256x512, .f32⟩
  | .local _ .vmem, ⟨21, _⟩ => ⟨S256x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8192x1024 : Shape := ⟨2, ![8192, 1024]⟩
abbrev S8192x2048 : Shape := ⟨2, ![8192, 2048]⟩
abbrev S8192x512 : Shape := ⟨2, ![8192, 512]⟩
abbrev S1536x1024 : Shape := ⟨2, ![1536, 1024]⟩
abbrev S1024x1024 : Shape := ⟨2, ![1024, 1024]⟩
abbrev S512x1024 : Shape := ⟨2, ![512, 1024]⟩
abbrev S_ : Shape := ⟨0, ![]⟩
abbrev S8192x2x1024 : Shape := ⟨3, ![8192, 2, 1024]⟩
abbrev S8192x1x1024 : Shape := ⟨3, ![8192, 1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .bf16⟩
  | .hbm, ⟨3, _⟩ => ⟨S8192x512, .bf16⟩
  | .hbm, ⟨4, _⟩ => ⟨S1536x1024, .bf16⟩
  | .hbm, ⟨5, _⟩ => ⟨S1024x1024, .bf16⟩
  | .hbm, ⟨6, _⟩ => ⟨S8192x1024, .f32⟩
  | .hbm, ⟨7, _⟩ => ⟨S8192x2048, .f32⟩
  | .hbm, ⟨8, _⟩ => ⟨S8192x1024, .f32⟩
  | .hbm, ⟨9, _⟩ => ⟨S8192x512, .f32⟩
  | .hbm, ⟨10, _⟩ => ⟨S1536x1024, .f32⟩
  | .hbm, ⟨11, _⟩ => ⟨S1024x1024, .f32⟩
  | .hbm, ⟨12, _⟩ => ⟨S1024x1024, .f32⟩
  | .hbm, ⟨13, _⟩ => ⟨S8192x1024, .f32⟩
  | .hbm, ⟨14, _⟩ => ⟨S512x1024, .f32⟩
  | .hbm, ⟨15, _⟩ => ⟨S8192x1024, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2x1024, .f32⟩
  | .hbm, ⟨45, _⟩ => ⟨S8192x1x1024, .f32⟩
  | .hbm, ⟨46, _⟩ => ⟨S8192x1024, .f32⟩
  | .hbm, ⟨47, _⟩ => ⟨S8192x1024, .f32⟩
  | .hbm, ⟨48, _⟩ => ⟨S8192x1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1x1024, .f32⟩
  | .hbm, ⟨57, _⟩ => ⟨S_, .f32⟩
  | .hbm, ⟨58, _⟩ => ⟨S8192x2x1024, .f32⟩
  | .hbm, ⟨59, _⟩ => ⟨S8192x1024, .f32⟩
  | .hbm, ⟨60, _⟩ => ⟨S8192x1024, .f32⟩
  | .hbm, ⟨61, _⟩ => ⟨S8192x1x1024, .f32⟩
  | .hbm, ⟨62, _⟩ => ⟨S_, .f32⟩
  | .hbm, ⟨63, _⟩ => ⟨S8192x2x1024, .f32⟩
  | .hbm, ⟨64, _⟩ => ⟨S8192x2x1024, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S_, .f32⟩
  | .hbm, ⟨70, _⟩ => ⟨S8192x2048, .f32⟩
  | .hbm, ⟨71, _⟩ => ⟨S8192x2048, .f32⟩
  | .hbm, ⟨72, _⟩ => ⟨S_, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2x1024, .f32⟩
  | .hbm, ⟨80, _⟩ => ⟨S1024x1024, .f32⟩
  | .hbm, ⟨81, _⟩ => ⟨S8192x1024, .f32⟩
  | .hbm, ⟨82, _⟩ => ⟨S512x1024, .f32⟩
  | .hbm, ⟨83, _⟩ => ⟨S8192x1024, .f32⟩
  | .hbm, ⟨84, _⟩ => ⟨S8192x1x1024, .f32⟩
  | .hbm, ⟨85, _⟩ => ⟨S8192x1024, .f32⟩
  | .hbm, ⟨86, _⟩ => ⟨S8192x1024, .f32⟩
  | .hbm, ⟨87, _⟩ => ⟨S8192x1x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1x1024, .f32⟩
  | .hbm, ⟨96, _⟩ => ⟨S_, .f32⟩
  | .hbm, ⟨97, _⟩ => ⟨S8192x2x1024, .f32⟩
  | .hbm, ⟨98, _⟩ => ⟨S8192x1024, .f32⟩
  | .hbm, ⟨99, _⟩ => ⟨S8192x1024, .f32⟩
  | .hbm, ⟨100, _⟩ => ⟨S8192x1x1024, .f32⟩
  | .hbm, ⟨101, _⟩ => ⟨S_, .f32⟩
  | .hbm, ⟨102, _⟩ => ⟨S8192x2x1024, .f32⟩
  | .hbm, ⟨103, _⟩ => ⟨S8192x2x1024, .f32⟩
  | .hbm, ⟨104, _⟩ => ⟨S8192x512, .f32⟩
  | .hbm, ⟨105, _⟩ => ⟨S8192x1024, .f32⟩
  | .hbm, ⟨106, _⟩ => ⟨S8192x2048, .f32⟩
  | .hbm, ⟨107, _⟩ => ⟨S8192x2048, .f32⟩
  | .hbm, ⟨108, _⟩ => ⟨S8192x1024, .bf16⟩
  | .hbm, ⟨109, _⟩ => ⟨S8192x2048, .bf16⟩
  | .hbm, ⟨110, _⟩ => ⟨S8192x1024, .bf16⟩
  | .hbm, ⟨111, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_9 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_10 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩

abbrev nD : Nat := 1
abbrev τ : Topo := Topo.v7x

variable {F : FTy → Type} [FloatOps F]
-- ==== MergeFwd.lean ====
abbrev S8192x1024 : Shape := ⟨2, ![8192, 1024]⟩
abbrev S8192x512 : Shape := ⟨2, ![8192, 512]⟩
abbrev S8192x2048 : Shape := ⟨2, ![8192, 2048]⟩
abbrev S1536x1024 : Shape := ⟨2, ![1536, 1024]⟩
abbrev S1024x1024 : Shape := ⟨2, ![1024, 1024]⟩
abbrev S512x1024 : Shape := ⟨2, ![512, 1024]⟩
abbrev S512x512 : Shape := ⟨2, ![512, 512]⟩
abbrev S512x2048 : Shape := ⟨2, ![512, 2048]⟩

abbrev nBuf : Space → Nat
  | .hbm => 9
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x2048, .bf16⟩
  | .hbm, ⟨3, _⟩ => ⟨S8192x1024, .f32⟩
  | .hbm, ⟨4, _⟩ => ⟨S1536x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1536x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeFwdRefIdeal.lean ====
abbrev S8192x1024 : Shape := ⟨2, ![8192, 1024]⟩
abbrev S8192x512 : Shape := ⟨2, ![8192, 512]⟩
abbrev S8192x2048 : Shape := ⟨2, ![8192, 2048]⟩
abbrev S1536x1024 : Shape := ⟨2, ![1536, 1024]⟩
abbrev S1024x1024 : Shape := ⟨2, ![1024, 1024]⟩
abbrev S_ : Shape := ⟨0, ![]⟩
abbrev S8192x2x1024 : Shape := ⟨3, ![8192, 2, 1024]⟩
abbrev S512x1024 : Shape := ⟨2, ![512, 1024]⟩
abbrev S8192x1x1024 : Shape := ⟨3, ![8192, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x2048, .bf16⟩
  | .hbm, ⟨3, _⟩ => ⟨S8192x1024, .f32⟩
  | .hbm, ⟨4, _⟩ => ⟨S1536x1024, .bf16⟩
  | .hbm, ⟨5, _⟩ => ⟨S1024x1024, .bf16⟩
  | .hbm, ⟨6, _⟩ => ⟨S8192x1024, .f32⟩
  | .hbm, ⟨7, _⟩ => ⟨S8192x512, .f32⟩
  | .hbm, ⟨8, _⟩ => ⟨S8192x2048, .f32⟩
  | .hbm, ⟨9, _⟩ => ⟨S1536x1024, .f32⟩
  | .hbm, ⟨10, _⟩ => ⟨S1024x1024, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2x1024, .f32⟩
  | .hbm, ⟨20, _⟩ => ⟨S1024x1024, .f32⟩
  | .hbm, ⟨21, _⟩ => ⟨S8192x1024, .f32⟩
  | .hbm, ⟨22, _⟩ => ⟨S512x1024, .f32⟩
  | .hbm, ⟨23, _⟩ => ⟨S8192x1024, .f32⟩
  | .hbm, ⟨24, _⟩ => ⟨S8192x1x1024, .f32⟩
  | .hbm, ⟨25, _⟩ => ⟨S8192x1024, .f32⟩
  | .hbm, ⟨26, _⟩ => ⟨S8192x1024, .f32⟩
  | .hbm, ⟨27, _⟩ => ⟨S8192x1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1024x1024, .f32⟩
  | .hbm, ⟨34, _⟩ => ⟨S8192x1024, .f32⟩
  | .hbm, ⟨35, _⟩ => ⟨S8192x1024, .bf16⟩
  | .hbm, ⟨36, _⟩ => ⟨S512x1024, .f32⟩
  | .hbm, ⟨37, _⟩ => ⟨S8192x1024, .f32⟩
  | .hbm, ⟨38, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== MlpIn.lean ====
abbrev S8192x1024 : Shape := ⟨2, ![8192, 1024]⟩
abbrev S1024 : Shape := ⟨1, ![1024]⟩
abbrev S8x1024x512 : Shape := ⟨3, ![8, 1024, 512]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x1024x512, .bf16⟩
  | .hbm, ⟨3, _⟩ => ⟨S1x1024, .f32⟩
  | .hbm, ⟨4, _⟩ => ⟨S8192x1024, .bf16⟩
  | .hbm, ⟨5, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlpInRefIdeal.lean ====
abbrev S8192x1024 : Shape := ⟨2, ![8192, 1024]⟩
abbrev S1024 : Shape := ⟨1, ![1024]⟩
abbrev S8x1024x512 : Shape := ⟨3, ![8, 1024, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8x512 : Shape := ⟨3, ![1024, 8, 512]⟩
abbrev S1024x4096 : Shape := ⟨2, ![1024, 4096]⟩
abbrev S8192x4096 : Shape := ⟨2, ![8192, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x1024x512, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8x1024x512, .f32⟩
  | .hbm, ⟨21, _⟩ => ⟨S1024x8x512, .f32⟩
  | .hbm, ⟨22, _⟩ => ⟨S1024x4096, .f32⟩
  | .hbm, ⟨23, _⟩ => ⟨S8192x4096, .f32⟩
  | .hbm, ⟨24, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S1024x5760 : Shape := ⟨2, ![1024, 5760]⟩
abbrev S1x1024 : Shape := ⟨2, ![1, 1024]⟩
abbrev S8192x2048 : Shape := ⟨2, ![8192, 2048]⟩
abbrev S8192x512 : Shape := ⟨2, ![8192, 512]⟩
abbrev S8192x128 : Shape := ⟨2, ![8192, 128]⟩
abbrev S512x1024 : Shape := ⟨2, ![512, 1024]⟩
abbrev S512x2048 : Shape := ⟨2, ![512, 2048]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x2048 : Shape := ⟨2, ![1024, 2048]⟩
abbrev S1024x512 : Shape := ⟨2, ![1024, 512]⟩
abbrev S1024x1024 : Shape := ⟨2, ![1024, 1024]⟩
abbrev S1024x128 : Shape := ⟨2, ![1024, 128]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5760, .bf16⟩
  | .hbm, ⟨3, _⟩ => ⟨S1x1024, .f32⟩
  | .hbm, ⟨4, _⟩ => ⟨S8192x1024, .bf16⟩
  | .hbm, ⟨5, _⟩ => ⟨S8192x2048, .bf16⟩
  | .hbm, ⟨6, _⟩ => ⟨S8192x2048, .bf16⟩
  | .hbm, ⟨7, _⟩ => ⟨S8192x512, .bf16⟩
  | .hbm, ⟨8, _⟩ => ⟨S8192x1024, .bf16⟩
  | .hbm, ⟨9, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5760, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x128, .f32⟩
  | .local _ .vmem, ⟨15, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5760 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S8192x1024 : Shape := ⟨2, ![8192, 1024]⟩
abbrev S1024 : Shape := ⟨1, ![1024]⟩
abbrev S1024x5760 : Shape := ⟨2, ![1024, 5760]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5760 : Shape := ⟨2, ![8192, 5760]⟩
abbrev S8192x2048 : Shape := ⟨2, ![8192, 2048]⟩
abbrev S8192x512 : Shape := ⟨2, ![8192, 512]⟩
abbrev S8192x128 : Shape := ⟨2, ![8192, 128]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5760, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x5760, .f32⟩
  | .hbm, ⟨20, _⟩ => ⟨S8192x5760, .f32⟩
  | .hbm, ⟨21, _⟩ => ⟨S8192x2048, .f32⟩
  | .hbm, ⟨22, _⟩ => ⟨S8192x2048, .f32⟩
  | .hbm, ⟨23, _⟩ => ⟨S8192x512, .f32⟩
  | .hbm, ⟨24, _⟩ => ⟨S8192x1024, .f32⟩
  | .hbm, ⟨25, _⟩ => ⟨S8192x128, .f32⟩
  | .hbm, ⟨26, _⟩ => ⟨S8192x1024, .bf16⟩
  | .hbm, ⟨27, _⟩ => ⟨S8192x2048, .bf16⟩
  | .hbm, ⟨28, _⟩ => ⟨S8192x2048, .bf16⟩
  | .hbm, ⟨29, _⟩ => ⟨S8192x512, .bf16⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Loss.lean ====
abbrev S8192x4096 : Shape := ⟨2, ![8192, 4096]⟩
abbrev S8192x1024 : Shape := ⟨2, ![8192, 1024]⟩
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .bf16⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x128, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x4096 : Shape := ⟨2, ![8192, 4096]⟩
abbrev S8192x1024 : Shape := ⟨2, ![8192, 1024]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .bf16⟩
  | .hbm, ⟨3, _⟩ => ⟨S1024, .f32⟩
  | .hbm, ⟨4, _⟩ => ⟨S8192x1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S4096x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .bf16⟩
  | .hbm, ⟨82, _⟩ => ⟨S1x128, .f32⟩
  | .hbm, ⟨83, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_cst_8 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_cst_15 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Act.lean ====
abbrev S8192x1024 : Shape := ⟨2, ![8192, 1024]⟩
abbrev S8192x4096 : Shape := ⟨2, ![8192, 4096]⟩
abbrev S4096x1024 : Shape := ⟨2, ![4096, 1024]⟩
abbrev S512x1024 : Shape := ⟨2, ![512, 1024]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4096x1024, .bf16⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x4096, .bf16⟩
  | .local _ .vmem, ⟨6, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActRefIdeal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4096x1024, .bf16⟩
  | .hbm, ⟨3, _⟩ => ⟨S8192x1024, .f32⟩
  | .hbm, ⟨4, _⟩ => ⟨S8192x4096, .f32⟩
  | .hbm, ⟨5, _⟩ => ⟨S4096x1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== MlpInBwd.lean ====
abbrev S8192x4096 : Shape := ⟨2, ![8192, 4096]⟩
abbrev S8x1024x512 : Shape := ⟨3, ![8, 1024, 512]⟩
abbrev S8192x1024 : Shape := ⟨2, ![8192, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S8x1024x512, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpInBwdRefIdeal.lean ====
abbrev S8192x4096 : Shape := ⟨2, ![8192, 4096]⟩
abbrev S8x1024x512 : Shape := ⟨3, ![8, 1024, 512]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8x512 : Shape := ⟨3, ![1024, 8, 512]⟩
abbrev S1024x4096 : Shape := ⟨2, ![1024, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x1024x512, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8x1024x512, .f32⟩
  | .hbm, ⟨26, _⟩ => ⟨S1024x8x512, .f32⟩
  | .hbm, ⟨27, _⟩ => ⟨S1024x4096, .f32⟩
  | .hbm, ⟨28, _⟩ => ⟨S8192x4096, .f32⟩
  | .hbm, ⟨29, _⟩ => ⟨S8192x4096, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== InBwd.lean ====
abbrev S8192x2048 : Shape := ⟨2, ![8192, 2048]⟩
abbrev S8192x512 : Shape := ⟨2, ![8192, 512]⟩
abbrev S8192x1152 : Shape := ⟨2, ![8192, 1152]⟩
abbrev S1024x5760 : Shape := ⟨2, ![1024, 5760]⟩
abbrev S8192x1024 : Shape := ⟨2, ![8192, 1024]⟩
abbrev S1024 : Shape := ⟨1, ![1024]⟩
abbrev S1x1024 : Shape := ⟨2, ![1, 1024]⟩
abbrev S256x2048 : Shape := ⟨2, ![256, 2048]⟩
abbrev S256x512 : Shape := ⟨2, ![256, 512]⟩
abbrev S256x1152 : Shape := ⟨2, ![256, 1152]⟩
abbrev S256x1024 : Shape := ⟨2, ![256, 1024]⟩
abbrev S1024x2048 : Shape := ⟨2, ![1024, 2048]⟩
abbrev S1024x512 : Shape := ⟨2, ![1024, 512]⟩
abbrev S1024x1152 : Shape := ⟨2, ![1024, 1152]⟩
abbrev S256 : Shape := ⟨1, ![256]⟩
abbrev S256x1 : Shape := ⟨2, ![256, 1]⟩

abbrev nBuf : Space → Nat
  | .hbm => 11
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x512, .bf16⟩
  | .hbm, ⟨3, _⟩ => ⟨S8192x1152, .bf16⟩
  | .hbm, ⟨4, _⟩ => ⟨S1024x5760, .bf16⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x512, .bf16⟩
  | .local _ .vmem, ⟨5, _⟩ => ⟨S256x512, .bf16⟩
  | .local _ .vmem, ⟨6, _⟩ => ⟨S256x1152, .bf16⟩
  | .local _ .vmem, ⟨7, _⟩ => ⟨S256x1152, .bf16⟩
  | .local _ .vmem, ⟨8, _⟩ => ⟨S1024x5760, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5760 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InBwdRefIdeal.lean ====
abbrev S8192x2048 : Shape := ⟨2, ![8192, 2048]⟩
abbrev S8192x512 : Shape := ⟨2, ![8192, 512]⟩
abbrev S8192x1152 : Shape := ⟨2, ![8192, 1152]⟩
abbrev S1024x5760 : Shape := ⟨2, ![1024, 5760]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5760 : Shape := ⟨2, ![8192, 5760]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x512, .bf16⟩
  | .hbm, ⟨3, _⟩ => ⟨S8192x1152, .bf16⟩
  | .hbm, ⟨4, _⟩ => ⟨S1024x5760, .bf16⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S8192x512, .f32⟩
  | .hbm, ⟨11, _⟩ => ⟨S8192x1152, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1024x5760, .f32⟩
  | .hbm, ⟨33, _⟩ => ⟨S8192x5760, .f32⟩
  | .hbm, ⟨34, _⟩ => ⟨S8192x2048, .f32⟩
  | .hbm, ⟨35, _⟩ => ⟨S8192x2048, .f32⟩
  | .hbm, ⟨36, _⟩ => ⟨S8192x512, .f32⟩
  | .hbm, ⟨37, _⟩ => ⟨S8192x1152, .f32⟩
  | .hbm, ⟨38, _⟩ => ⟨S_, .f32⟩
  | .hbm, ⟨39, _⟩ => ⟨S8192x5760, .f32⟩
  | .hbm, ⟨40, _⟩ => ⟨S_, .f32⟩
  | .hbm, ⟨41, _⟩ => ⟨S8192x5760, .f32⟩
  | .hbm, ⟨42, _⟩ => ⟨S8192x5760, .f32⟩
  | .hbm, ⟨43, _⟩ => ⟨S_, .f32⟩
  | .hbm, ⟨44, _⟩ => ⟨S8192x5760, .f32⟩
  | .hbm, ⟨45, _⟩ => ⟨S8192x5760, .f32⟩
  | .hbm, ⟨46, _⟩ => ⟨S_, .f32⟩
  | .hbm, ⟨47, _⟩ => ⟨S8192x5760, .f32⟩
  | .hbm, ⟨48, _⟩ => ⟨S8192x5760, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S1x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== WMlpOut.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WMlpOutRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== WMlpIn.lean ====
abbrev S8192x1024 : Shape := ⟨2, ![8192, 1024]⟩
abbrev S8192x4096 : Shape := ⟨2, ![8192, 4096]⟩
abbrev S8x1024x512 : Shape := ⟨3, ![8, 1024, 512]⟩
abbrev S512x1024 : Shape := ⟨2, ![512, 1024]⟩
abbrev S512x4096 : Shape := ⟨2, ![512, 4096]⟩
abbrev S1024x4096 : Shape := ⟨2, ![1024, 4096]⟩
abbrev S1024x512 : Shape := ⟨2, ![1024, 512]⟩
abbrev S1x1024x512 : Shape := ⟨3, ![1, 1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S8x1024x512, .bf16⟩
  | .local _ .vmem, ⟨5, _⟩ => ⟨S1024x4096, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== WMlpInRefIdeal.lean ====
abbrev S8192x1024 : Shape := ⟨2, ![8192, 1024]⟩
abbrev S8192x4096 : Shape := ⟨2, ![8192, 4096]⟩
abbrev S_ : Shape := ⟨0, ![]⟩
abbrev S8x1024x512 : Shape := ⟨3, ![8, 1024, 512]⟩
abbrev S1024x8x512 : Shape := ⟨3, ![1024, 8, 512]⟩
abbrev S1024x4096 : Shape := ⟨2, ![1024, 4096]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S8x1024x512, .f32⟩
  | .hbm, ⟨6, _⟩ => ⟨S1024x8x512, .f32⟩
  | .hbm, ⟨7, _⟩ => ⟨S1024x4096, .f32⟩
  | .hbm, ⟨8, _⟩ => ⟨S8192x4096, .f32⟩
  | .hbm, ⟨9, _⟩ => ⟨S4096x1024, .f32⟩
  | .hbm, ⟨10, _⟩ => ⟨S1024x4096, .f32⟩
  | .hbm, ⟨11, _⟩ => ⟨S1024x8x512, .f32⟩
  | .hbm, ⟨12, _⟩ => ⟨S8x1024x512, .f32⟩
  | .hbm, ⟨13, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== W1024.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== W1024Ideal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== W1024RefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WBranchB.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WBranchBIdeal.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WBranchBRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== W2048.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== W2048Ideal.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== W2048RefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== W512.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== W512Ideal.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== W512RefIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .f32⟩
  | .hbm, ⟨3, _⟩ => ⟨S8192x512, .f32⟩
  | .hbm, ⟨4, _⟩ => ⟨S_, .f32⟩
  | .hbm, ⟨5, _⟩ => ⟨S1024x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== W1152.lean ====
abbrev S8192x1024 : Shape := ⟨2, ![8192, 1024]⟩
abbrev S8192x1152 : Shape := ⟨2, ![8192, 1152]⟩
abbrev S1024x1152 : Shape := ⟨2, ![1024, 1152]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1152, .bf16⟩
  | .hbm, ⟨2, _⟩ => ⟨S1024x1152, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== W1152RefIdeal.lean ====
abbrev S8192x1024 : Shape := ⟨2, ![8192, 1024]⟩
abbrev S8192x1152 : Shape := ⟨2, ![8192, 1152]⟩
abbrev S_ : Shape := ⟨0, ![]⟩
abbrev S1024x1152 : Shape := ⟨2, ![1024, 1152]⟩
abbrev S1152x1024 : Shape := ⟨2, ![1152, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1152, .bf16⟩
  | .hbm, ⟨2, _⟩ => ⟨S8192x1024, .f32⟩
  | .hbm, ⟨3, _⟩ => ⟨S8192x1152, .f32⟩
  | .hbm, ⟨4, _⟩ => ⟨S_, .f32⟩
  | .hbm, ⟨5, _⟩ => ⟨S1024x1152, .f32⟩
  | .hbm, ⟨6, _⟩ => ⟨S8192x1152, .f32⟩
  | .hbm, ⟨7, _⟩ => ⟨S1152x1024, .f32⟩
  | .hbm, ⟨8, _⟩ => ⟨S1024x1152, .f32⟩
  | .hbm, ⟨9, _⟩ => ⟨S1024x1152, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpdMlpOut.lean ====
abbrev S512x1024 : Shape := ⟨2, ![512, 1024]⟩
abbrev S8x512x1024 : Shape := ⟨3, ![8, 512, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdMlpOutIdeal.lean ====
abbrev S512x1024 : Shape := ⟨2, ![512, 1024]⟩
abbrev S8x512x1024 : Shape := ⟨3, ![8, 512, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdMlpOutRefIdeal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .bf16⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdMlpIn.lean ====
abbrev S1024x512 : Shape := ⟨2, ![1024, 512]⟩
abbrev S8x1024x512 : Shape := ⟨3, ![8, 1024, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S8x1024x512, .bf16⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x256x512, .bf16⟩
  | .local _ .vmem, ⟨7, _⟩ => ⟨S8x256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdMlpInIdeal.lean ====
abbrev S1024x512 : Shape := ⟨2, ![1024, 512]⟩
abbrev S8x1024x512 : Shape := ⟨3, ![8, 1024, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S8x1024x512, .bf16⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x256x512, .bf16⟩
  | .local _ .vmem, ⟨7, _⟩ => ⟨S8x256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdMlpInRefIdeal.lean ====
abbrev S1024x512 : Shape := ⟨2, ![1024, 512]⟩
abbrev S8x1024x512 : Shape := ⟨3, ![8, 1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S8x1024x512, .bf16⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdOut.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdOutIdeal.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdOutRefIdeal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdBranch.lean ====
abbrev S192x1024 : Shape := ⟨2, ![192, 1024]⟩
abbrev S8x192x1024 : Shape := ⟨3, ![8, 192, 1024]⟩
abbrev S96x1024 : Shape := ⟨2, ![96, 1024]⟩
abbrev S8x96x1024 : Shape := ⟨3, ![8, 96, 1024]⟩
abbrev S1x96x1024 : Shape := ⟨3, ![1, 96, 1024]⟩

abbrev nBuf : Space → Nat
  | .hbm => 8
  | .vmem => 16
  | .smem => 0
  | _ => 0

abbrev bufTy : (tb : Table) → Fin (tcTables nBuf tb) → BufTy
  | .hbm, ⟨0, _⟩ => ⟨S192x1024, .f32⟩
  | .hbm, ⟨1, _⟩ => ⟨S192x1024, .f32⟩
  | .hbm, ⟨2, _⟩ => ⟨S192x1024, .f32⟩
  | .hbm, ⟨3, _⟩ => ⟨S8x192x1024, .bf16⟩
  | .hbm, ⟨4, _⟩ => ⟨S192x1024, .f32⟩
  | .hbm, ⟨5, _⟩ => ⟨S192x1024, .f32⟩
  | .hbm, ⟨6, _⟩ => ⟨S192x1024, .f32⟩
  | .hbm, ⟨7, _⟩ => ⟨S192x1024, .f32⟩
  | .local _ .vmem, ⟨0, _⟩ => ⟨S96x1024, .f32⟩
  | .local _ .vmem, ⟨1, _⟩ => ⟨S96x1024, .f32⟩
  | .local _ .vmem, ⟨2, _⟩ => ⟨S96x1024, .f32⟩
  | .local _ .vmem, ⟨3, _⟩ => ⟨S96x1024, .f32⟩
  | .local _ .vmem, ⟨4, _⟩ => ⟨S96x1024, .f32⟩
  | .local _ .vmem, ⟨5, _⟩ => ⟨S96x1024, .f32⟩
  | .local _ .vmem, ⟨6, _⟩ => ⟨S8x96x1024, .bf16⟩
  | .local _ .vmem, ⟨7, _⟩ => ⟨S8x96x1024, .bf16⟩
  | .local _ .vmem, ⟨8, _⟩ => ⟨S96x1024, .f32⟩
  | .local _ .vmem, ⟨9, _⟩ => ⟨S96x1024, .f32⟩
  | .local _ .vmem, ⟨10, _⟩ => ⟨S96x1024, .f32⟩
  | .local _ .vmem, ⟨11, _⟩ => ⟨S96x1024, .f32⟩
  | .local _ .vmem, ⟨12, _⟩ => ⟨S96x1024, .f32⟩
  | .local _ .vmem, ⟨13, _⟩ => ⟨S96x1024, .f32⟩
  | .local _ .vmem, ⟨14, _⟩ => ⟨S96x1024, .f32⟩
  | .local _ .vmem, ⟨15, _⟩ => ⟨S96x1024, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x96x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdBranchIdeal.lean ====
abbrev S192x1024 : Shape := ⟨2, ![192, 1024]⟩
abbrev S8x192x1024 : Shape := ⟨3, ![8, 192, 1024]⟩
abbrev S96x1024 : Shape := ⟨2, ![96, 1024]⟩
abbrev S8x96x1024 : Shape := ⟨3, ![8, 96, 1024]⟩
abbrev S1x96x1024 : Shape := ⟨3, ![1, 96, 1024]⟩

abbrev nBuf : Space → Nat
  | .hbm => 8
  | .vmem => 16
  | .smem => 0
  | _ => 0

abbrev bufTy : (tb : Table) → Fin (tcTables nBuf tb) → BufTy
  | .hbm, ⟨0, _⟩ => ⟨S192x1024, .f32⟩
  | .hbm, ⟨1, _⟩ => ⟨S192x1024, .f32⟩
  | .hbm, ⟨2, _⟩ => ⟨S192x1024, .f32⟩
  | .hbm, ⟨3, _⟩ => ⟨S8x192x1024, .bf16⟩
  | .hbm, ⟨4, _⟩ => ⟨S192x1024, .f32⟩
  | .hbm, ⟨5, _⟩ => ⟨S192x1024, .f32⟩
  | .hbm, ⟨6, _⟩ => ⟨S192x1024, .f32⟩
  | .hbm, ⟨7, _⟩ => ⟨S192x1024, .f32⟩
  | .local _ .vmem, ⟨0, _⟩ => ⟨S96x1024, .f32⟩
  | .local _ .vmem, ⟨1, _⟩ => ⟨S96x1024, .f32⟩
  | .local _ .vmem, ⟨2, _⟩ => ⟨S96x1024, .f32⟩
  | .local _ .vmem, ⟨3, _⟩ => ⟨S96x1024, .f32⟩
  | .local _ .vmem, ⟨4, _⟩ => ⟨S96x1024, .f32⟩
  | .local _ .vmem, ⟨5, _⟩ => ⟨S96x1024, .f32⟩
  | .local _ .vmem, ⟨6, _⟩ => ⟨S8x96x1024, .bf16⟩
  | .local _ .vmem, ⟨7, _⟩ => ⟨S8x96x1024, .bf16⟩
  | .local _ .vmem, ⟨8, _⟩ => ⟨S96x1024, .f32⟩
  | .local _ .vmem, ⟨9, _⟩ => ⟨S96x1024, .f32⟩
  | .local _ .vmem, ⟨10, _⟩ => ⟨S96x1024, .f32⟩
  | .local _ .vmem, ⟨11, _⟩ => ⟨S96x1024, .f32⟩
  | .local _ .vmem, ⟨12, _⟩ => ⟨S96x1024, .f32⟩
  | .local _ .vmem, ⟨13, _⟩ => ⟨S96x1024, .f32⟩
  | .local _ .vmem, ⟨14, _⟩ => ⟨S96x1024, .f32⟩
  | .local _ .vmem, ⟨15, _⟩ => ⟨S96x1024, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x96x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdBranchRefIdeal.lean ====
abbrev S192x1024 : Shape := ⟨2, ![192, 1024]⟩
abbrev S8x192x1024 : Shape := ⟨3, ![8, 192, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S192x1024, .f32⟩
  | .hbm, ⟨2, _⟩ => ⟨S192x1024, .f32⟩
  | .hbm, ⟨3, _⟩ => ⟨S8x192x1024, .bf16⟩
  | .hbm, ⟨4, _⟩ => ⟨S8x192x1024, .f32⟩
  | .hbm, ⟨5, _⟩ => ⟨S_, .f32⟩
  | .hbm, ⟨6, _⟩ => ⟨S192x1024, .f32⟩
  | .hbm, ⟨7, _⟩ => ⟨S_, .f32⟩
  | .hbm, ⟨8, _⟩ => ⟨S192x1024, .f32⟩
  | .hbm, ⟨9, _⟩ => ⟨S192x1024, .f32⟩
  | .hbm, ⟨10, _⟩ => ⟨S_, .f32⟩
  | .hbm, ⟨11, _⟩ => ⟨S192x1024, .f32⟩
  | .hbm, ⟨12, _⟩ => ⟨S192x1024, .f32⟩
  | .hbm, ⟨13, _⟩ => ⟨S192x1024, .f32⟩
  | .hbm, ⟨14, _⟩ => ⟨S_, .f32⟩
  | .hbm, ⟨15, _⟩ => ⟨S192x1024, .f32⟩
  | .hbm, ⟨16, _⟩ => ⟨S192x1024, .f32⟩
  | .hbm, ⟨17, _⟩ => ⟨S192x1024, .f32⟩
  | .hbm, ⟨18, _⟩ => ⟨S_, .f32⟩
  | .hbm, ⟨19, _⟩ => ⟨S192x1024, .f32⟩
  | .hbm, ⟨20, _⟩ => ⟨S192x1024, .f32⟩
  | .hbm, ⟨21, _⟩ => ⟨S192x1024, .f32⟩
  | .hbm, ⟨22, _⟩ => ⟨S_, .f32⟩
  | .hbm, ⟨23, _⟩ => ⟨S192x1024, .f32⟩
  | .hbm, ⟨24, _⟩ => ⟨S192x1024, .f32⟩
  | .hbm, ⟨25, _⟩ => ⟨S_, .f32⟩
  | .hbm, ⟨26, _⟩ => ⟨S192x1024, .f32⟩
  | .hbm, ⟨27, _⟩ => ⟨S192x1024, .f32⟩
  | .hbm, ⟨28, _⟩ => ⟨S192x1024, .f32⟩
  | .hbm, ⟨29, _⟩ => ⟨S_, .f32⟩
  | .hbm, ⟨30, _⟩ => ⟨S192x1024, .f32⟩
  | .hbm, ⟨31, _⟩ => ⟨S192x1024, .f32⟩
  | .hbm, ⟨32, _⟩ => ⟨S192x1024, .f32⟩
  | .hbm, ⟨33, _⟩ => ⟨S_, .f32⟩
  | .hbm, ⟨34, _⟩ => ⟨S192x1024, .f32⟩
  | .hbm, ⟨35, _⟩ => ⟨S192x1024, .f32⟩
  | .hbm, ⟨36, _⟩ => ⟨S192x1024, .f32⟩
  | .hbm, ⟨37, _⟩ => ⟨S_, .f32⟩
  | .hbm, ⟨38, _⟩ => ⟨S192x1024, .f32⟩
  | .hbm, ⟨39, _⟩ => ⟨S192x1024, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdGlu.lean ====
abbrev S64x512 : Shape := ⟨2, ![64, 512]⟩
abbrev S8x64x512 : Shape := ⟨3, ![8, 64, 512]⟩
abbrev S1x64x512 : Shape := ⟨3, ![1, 64, 512]⟩

abbrev nBuf : Space → Nat
  | .hbm => 8
  | .vmem => 8
  | .smem => 0
  | _ => 0

abbrev bufTy : (tb : Table) → Fin (tcTables nBuf tb) → BufTy
  | .hbm, ⟨0, _⟩ => ⟨S64x512, .f32⟩
  | .hbm, ⟨1, _⟩ => ⟨S64x512, .f32⟩
  | .hbm, ⟨2, _⟩ => ⟨S64x512, .f32⟩
  | .hbm, ⟨3, _⟩ => ⟨S8x64x512, .bf16⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S8x64x512, .bf16⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdGluIdeal.lean ====
abbrev S64x512 : Shape := ⟨2, ![64, 512]⟩
abbrev S8x64x512 : Shape := ⟨3, ![8, 64, 512]⟩
abbrev S1x64x512 : Shape := ⟨3, ![1, 64, 512]⟩

abbrev nBuf : Space → Nat
  | .hbm => 8
  | .vmem => 8
  | .smem => 0
  | _ => 0

abbrev bufTy : (tb : Table) → Fin (tcTables nBuf tb) → BufTy
  | .hbm, ⟨0, _⟩ => ⟨S64x512, .f32⟩
  | .hbm, ⟨1, _⟩ => ⟨S64x512, .f32⟩
  | .hbm, ⟨2, _⟩ => ⟨S64x512, .f32⟩
  | .hbm, ⟨3, _⟩ => ⟨S8x64x512, .bf16⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S8x64x512, .bf16⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdGluRefIdeal.lean ====
abbrev S64x512 : Shape := ⟨2, ![64, 512]⟩
abbrev S8x64x512 : Shape := ⟨3, ![8, 64, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S64x512, .f32⟩
  | .hbm, ⟨2, _⟩ => ⟨S64x512, .f32⟩
  | .hbm, ⟨3, _⟩ => ⟨S8x64x512, .bf16⟩
  | .hbm, ⟨4, _⟩ => ⟨S8x64x512, .f32⟩
  | .hbm, ⟨5, _⟩ => ⟨S_, .f32⟩
  | .hbm, ⟨6, _⟩ => ⟨S64x512, .f32⟩
  | .hbm, ⟨7, _⟩ => ⟨S_, .f32⟩
  | .hbm, ⟨8, _⟩ => ⟨S64x512, .f32⟩
  | .hbm, ⟨9, _⟩ => ⟨S64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S64x512, .f32⟩
  | .hbm, ⟨14, _⟩ => ⟨S_, .f32⟩
  | .hbm, ⟨15, _⟩ => ⟨S64x512, .f32⟩
  | .hbm, ⟨16, _⟩ => ⟨S64x512, .f32⟩
  | .hbm, ⟨17, _⟩ => ⟨S64x512, .f32⟩
  | .hbm, ⟨18, _⟩ => ⟨S_, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S_, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S64x512, .f32⟩
  | .hbm, ⟨29, _⟩ => ⟨S_, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S64x512, .f32⟩
  | .hbm, ⟨37, _⟩ => ⟨S_, .f32⟩
  | .hbm, ⟨38, _⟩ => ⟨S64x512, .f32⟩
  | .hbm, ⟨39, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdIn.lean ====
abbrev S1024x706 : Shape := ⟨2, ![1024, 706]⟩
abbrev S8x1024x706 : Shape := ⟨3, ![8, 1024, 706]⟩
abbrev S128x706 : Shape := ⟨2, ![128, 706]⟩
abbrev S8x128x706 : Shape := ⟨3, ![8, 128, 706]⟩
abbrev S1x128x706 : Shape := ⟨3, ![1, 128, 706]⟩

abbrev nBuf : Space → Nat
  | .hbm => 8
  | .vmem => 16
  | .smem => 0
  | _ => 0

abbrev bufTy : (tb : Table) → Fin (tcTables nBuf tb) → BufTy
  | .hbm, ⟨0, _⟩ => ⟨S1024x706, .f32⟩
  | .hbm, ⟨1, _⟩ => ⟨S1024x706, .f32⟩
  | .hbm, ⟨2, _⟩ => ⟨S1024x706, .f32⟩
  | .hbm, ⟨3, _⟩ => ⟨S8x1024x706, .bf16⟩
  | .hbm, ⟨4, _⟩ => ⟨S1024x706, .f32⟩
  | .hbm, ⟨5, _⟩ => ⟨S1024x706, .f32⟩
  | .hbm, ⟨6, _⟩ => ⟨S1024x706, .f32⟩
  | .hbm, ⟨7, _⟩ => ⟨S1024x706, .f32⟩
  | .local _ .vmem, ⟨0, _⟩ => ⟨S128x706, .f32⟩
  | .local _ .vmem, ⟨1, _⟩ => ⟨S128x706, .f32⟩
  | .local _ .vmem, ⟨2, _⟩ => ⟨S128x706, .f32⟩
  | .local _ .vmem, ⟨3, _⟩ => ⟨S128x706, .f32⟩
  | .local _ .vmem, ⟨4, _⟩ => ⟨S128x706, .f32⟩
  | .local _ .vmem, ⟨5, _⟩ => ⟨S128x706, .f32⟩
  | .local _ .vmem, ⟨6, _⟩ => ⟨S8x128x706, .bf16⟩
  | .local _ .vmem, ⟨7, _⟩ => ⟨S8x128x706, .bf16⟩
  | .local _ .vmem, ⟨8, _⟩ => ⟨S128x706, .f32⟩
  | .local _ .vmem, ⟨9, _⟩ => ⟨S128x706, .f32⟩
  | .local _ .vmem, ⟨10, _⟩ => ⟨S128x706, .f32⟩
  | .local _ .vmem, ⟨11, _⟩ => ⟨S128x706, .f32⟩
  | .local _ .vmem, ⟨12, _⟩ => ⟨S128x706, .f32⟩
  | .local _ .vmem, ⟨13, _⟩ => ⟨S128x706, .f32⟩
  | .local _ .vmem, ⟨14, _⟩ => ⟨S128x706, .f32⟩
  | .local _ .vmem, ⟨15, _⟩ => ⟨S128x706, .f32⟩
  | _, _ => ⟨S1024x706, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x706 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x706 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x706 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x706 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x706 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x706 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x706 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x706 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdInIdeal.lean ====
abbrev S1024x706 : Shape := ⟨2, ![1024, 706]⟩
abbrev S8x1024x706 : Shape := ⟨3, ![8, 1024, 706]⟩
abbrev S128x706 : Shape := ⟨2, ![128, 706]⟩
abbrev S8x128x706 : Shape := ⟨3, ![8, 128, 706]⟩
abbrev S1x128x706 : Shape := ⟨3, ![1, 128, 706]⟩

abbrev nBuf : Space → Nat
  | .hbm => 8
  | .vmem => 16
  | .smem => 0
  | _ => 0

abbrev bufTy : (tb : Table) → Fin (tcTables nBuf tb) → BufTy
  | .hbm, ⟨0, _⟩ => ⟨S1024x706, .f32⟩
  | .hbm, ⟨1, _⟩ => ⟨S1024x706, .f32⟩
  | .hbm, ⟨2, _⟩ => ⟨S1024x706, .f32⟩
  | .hbm, ⟨3, _⟩ => ⟨S8x1024x706, .bf16⟩
  | .hbm, ⟨4, _⟩ => ⟨S1024x706, .f32⟩
  | .hbm, ⟨5, _⟩ => ⟨S1024x706, .f32⟩
  | .hbm, ⟨6, _⟩ => ⟨S1024x706, .f32⟩
  | .hbm, ⟨7, _⟩ => ⟨S1024x706, .f32⟩
  | .local _ .vmem, ⟨0, _⟩ => ⟨S128x706, .f32⟩
  | .local _ .vmem, ⟨1, _⟩ => ⟨S128x706, .f32⟩
  | .local _ .vmem, ⟨2, _⟩ => ⟨S128x706, .f32⟩
  | .local _ .vmem, ⟨3, _⟩ => ⟨S128x706, .f32⟩
  | .local _ .vmem, ⟨4, _⟩ => ⟨S128x706, .f32⟩
  | .local _ .vmem, ⟨5, _⟩ => ⟨S128x706, .f32⟩
  | .local _ .vmem, ⟨6, _⟩ => ⟨S8x128x706, .bf16⟩
  | .local _ .vmem, ⟨7, _⟩ => ⟨S8x128x706, .bf16⟩
  | .local _ .vmem, ⟨8, _⟩ => ⟨S128x706, .f32⟩
  | .local _ .vmem, ⟨9, _⟩ => ⟨S128x706, .f32⟩
  | .local _ .vmem, ⟨10, _⟩ => ⟨S128x706, .f32⟩
  | .local _ .vmem, ⟨11, _⟩ => ⟨S128x706, .f32⟩
  | .local _ .vmem, ⟨12, _⟩ => ⟨S128x706, .f32⟩
  | .local _ .vmem, ⟨13, _⟩ => ⟨S128x706, .f32⟩
  | .local _ .vmem, ⟨14, _⟩ => ⟨S128x706, .f32⟩
  | .local _ .vmem, ⟨15, _⟩ => ⟨S128x706, .f32⟩
  | _, _ => ⟨S1024x706, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x706 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x706 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x706 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x706 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x706 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x706 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x706 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x706 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdInRefIdeal.lean ====
abbrev S1024x706 : Shape := ⟨2, ![1024, 706]⟩
abbrev S8x1024x706 : Shape := ⟨3, ![8, 1024, 706]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x706, .f32⟩
  | .hbm, ⟨1, _⟩ => ⟨S1024x706, .f32⟩
  | .hbm, ⟨2, _⟩ => ⟨S1024x706, .f32⟩
  | .hbm, ⟨3, _⟩ => ⟨S8x1024x706, .bf16⟩
  | .hbm, ⟨4, _⟩ => ⟨S8x1024x706, .f32⟩
  | .hbm, ⟨5, _⟩ => ⟨S_, .f32⟩
  | .hbm, ⟨6, _⟩ => ⟨S1024x706, .f32⟩
  | .hbm, ⟨7, _⟩ => ⟨S_, .f32⟩
  | .hbm, ⟨8, _⟩ => ⟨S1024x706, .f32⟩
  | .hbm, ⟨9, _⟩ => ⟨S1024x706, .f32⟩
  | .hbm, ⟨10, _⟩ => ⟨S_, .f32⟩
  | .hbm, ⟨11, _⟩ => ⟨S1024x706, .f32⟩
  | .hbm, ⟨12, _⟩ => ⟨S1024x706, .f32⟩
  | .hbm, ⟨13, _⟩ => ⟨S1024x706, .f32⟩
  | .hbm, ⟨14, _⟩ => ⟨S_, .f32⟩
  | .hbm, ⟨15, _⟩ => ⟨S1024x706, .f32⟩
  | .hbm, ⟨16, _⟩ => ⟨S1024x706, .f32⟩
  | .hbm, ⟨17, _⟩ => ⟨S1024x706, .f32⟩
  | .hbm, ⟨18, _⟩ => ⟨S_, .f32⟩
  | .hbm, ⟨19, _⟩ => ⟨S1024x706, .f32⟩
  | .hbm, ⟨20, _⟩ => ⟨S1024x706, .f32⟩
  | .hbm, ⟨21, _⟩ => ⟨S1024x706, .f32⟩
  | .hbm, ⟨22, _⟩ => ⟨S_, .f32⟩
  | .hbm, ⟨23, _⟩ => ⟨S1024x706, .f32⟩
  | .hbm, ⟨24, _⟩ => ⟨S1024x706, .f32⟩
  | .hbm, ⟨25, _⟩ => ⟨S_, .f32⟩
  | .hbm, ⟨26, _⟩ => ⟨S1024x706, .f32⟩
  | .hbm, ⟨27, _⟩ => ⟨S1024x706, .f32⟩
  | .hbm, ⟨28, _⟩ => ⟨S1024x706, .f32⟩
  | .hbm, ⟨29, _⟩ => ⟨S_, .f32⟩
  | .hbm, ⟨30, _⟩ => ⟨S1024x706, .f32⟩
  | .hbm, ⟨31, _⟩ => ⟨S1024x706, .f32⟩
  | .hbm, ⟨32, _⟩ => ⟨S1024x706, .f32⟩
  | .hbm, ⟨33, _⟩ => ⟨S_, .f32⟩
  | .hbm, ⟨34, _⟩ => ⟨S1024x706, .f32⟩
  | .hbm, ⟨35, _⟩ => ⟨S1024x706, .f32⟩
  | .hbm, ⟨36, _⟩ => ⟨S1024x706, .f32⟩
  | .hbm, ⟨37, _⟩ => ⟨S_, .f32⟩
  | .hbm, ⟨38, _⟩ => ⟨S1024x706, .f32⟩
  | .hbm, ⟨39, _⟩ => ⟨S1024x706, .f32⟩
  | _, _ => ⟨S1024x706, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdConv.lean ====
abbrev S4x256 : Shape := ⟨2, ![4, 256]⟩
abbrev S8x4x256 : Shape := ⟨3, ![8, 4, 256]⟩
abbrev S1x4x256 : Shape := ⟨3, ![1, 4, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S8x4x256, .f32⟩
  | .hbm, ⟨4, _⟩ => ⟨S4x256, .f32⟩
  | .hbm, ⟨5, _⟩ => ⟨S4x256, .f32⟩
  | .hbm, ⟨6, _⟩ => ⟨S4x256, .f32⟩
  | .hbm, ⟨7, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S8x4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdConvRefIdeal.lean ====
abbrev S4x256 : Shape := ⟨2, ![4, 256]⟩
abbrev S8x4x256 : Shape := ⟨3, ![8, 4, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S8x4x256, .f32⟩
  | .hbm, ⟨4, _⟩ => ⟨S_, .f32⟩
  | .hbm, ⟨5, _⟩ => ⟨S4x256, .f32⟩
  | .hbm, ⟨6, _⟩ => ⟨S_, .f32⟩
  | .hbm, ⟨7, _⟩ => ⟨S4x256, .f32⟩
  | .hbm, ⟨8, _⟩ => ⟨S4x256, .f32⟩
  | .hbm, ⟨9, _⟩ => ⟨S_, .f32⟩
  | .hbm, ⟨10, _⟩ => ⟨S4x256, .f32⟩
  | .hbm, ⟨11, _⟩ => ⟨S4x256, .f32⟩
  | .hbm, ⟨12, _⟩ => ⟨S4x256, .f32⟩
  | .hbm, ⟨13, _⟩ => ⟨S_, .f32⟩
  | .hbm, ⟨14, _⟩ => ⟨S4x256, .f32⟩
  | .hbm, ⟨15, _⟩ => ⟨S4x256, .f32⟩
  | .hbm, ⟨16, _⟩ => ⟨S4x256, .f32⟩
  | .hbm, ⟨17, _⟩ => ⟨S_, .f32⟩
  | .hbm, ⟨18, _⟩ => ⟨S4x256, .f32⟩
  | .hbm, ⟨19, _⟩ => ⟨S4x256, .f32⟩
  | .hbm, ⟨20, _⟩ => ⟨S4x256, .f32⟩
  | .hbm, ⟨21, _⟩ => ⟨S_, .f32⟩
  | .hbm, ⟨22, _⟩ => ⟨S4x256, .f32⟩
  | .hbm, ⟨23, _⟩ => ⟨S4x256, .f32⟩
  | .hbm, ⟨24, _⟩ => ⟨S_, .f32⟩
  | .hbm, ⟨25, _⟩ => ⟨S4x256, .f32⟩
  | .hbm, ⟨26, _⟩ => ⟨S4x256, .f32⟩
  | .hbm, ⟨27, _⟩ => ⟨S4x256, .f32⟩
  | .hbm, ⟨28, _⟩ => ⟨S_, .f32⟩
  | .hbm, ⟨29, _⟩ => ⟨S4x256, .f32⟩
  | .hbm, ⟨30, _⟩ => ⟨S4x256, .f32⟩
  | .hbm, ⟨31, _⟩ => ⟨S4x256, .f32⟩
  | .hbm, ⟨32, _⟩ => ⟨S_, .f32⟩
  | .hbm, ⟨33, _⟩ => ⟨S4x256, .f32⟩
  | .hbm, ⟨34, _⟩ => ⟨S4x256, .f32⟩
  | .hbm, ⟨35, _⟩ => ⟨S4x256, .f32⟩
  | .hbm, ⟨36, _⟩ => ⟨S_, .f32⟩
  | .hbm, ⟨37, _⟩ => ⟨S4x256, .f32⟩
  | .hbm, ⟨38, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdS5B.lean ====
abbrev S32x64x16 : Shape := ⟨3, ![32, 64, 16]⟩
abbrev S8x32x64x16 : Shape := ⟨4, ![8, 32, 64, 16]⟩
abbrev S1x32x64x16 : Shape := ⟨4, ![1, 32, 64, 16]⟩

abbrev nBuf : Space → Nat
  | .hbm => 16
  | .vmem => 16
  | .smem => 0
  | _ => 0

abbrev bufTy : (tb : Table) → Fin (tcTables nBuf tb) → BufTy
  | .hbm, ⟨0, _⟩ => ⟨S32x64x16, .f32⟩
  | .hbm, ⟨1, _⟩ => ⟨S32x64x16, .f32⟩
  | .hbm, ⟨2, _⟩ => ⟨S32x64x16, .f32⟩
  | .hbm, ⟨3, _⟩ => ⟨S32x64x16, .f32⟩
  | .hbm, ⟨4, _⟩ => ⟨S32x64x16, .f32⟩
  | .hbm, ⟨5, _⟩ => ⟨S32x64x16, .f32⟩
  | .hbm, ⟨6, _⟩ => ⟨S8x32x64x16, .f32⟩
  | .hbm, ⟨7, _⟩ => ⟨S8x32x64x16, .f32⟩
  | .hbm, ⟨8, _⟩ => ⟨S32x64x16, .f32⟩
  | .hbm, ⟨9, _⟩ => ⟨S32x64x16, .f32⟩
  | .hbm, ⟨10, _⟩ => ⟨S32x64x16, .f32⟩
  | .hbm, ⟨11, _⟩ => ⟨S32x64x16, .f32⟩
  | .hbm, ⟨12, _⟩ => ⟨S32x64x16, .f32⟩
  | .hbm, ⟨13, _⟩ => ⟨S32x64x16, .f32⟩
  | .hbm, ⟨14, _⟩ => ⟨S32x64x16, .f32⟩
  | .hbm, ⟨15, _⟩ => ⟨S32x64x16, .f32⟩
  | .local _ .vmem, ⟨0, _⟩ => ⟨S32x64x16, .f32⟩
  | .local _ .vmem, ⟨1, _⟩ => ⟨S32x64x16, .f32⟩
  | .local _ .vmem, ⟨2, _⟩ => ⟨S32x64x16, .f32⟩
  | .local _ .vmem, ⟨3, _⟩ => ⟨S32x64x16, .f32⟩
  | .local _ .vmem, ⟨4, _⟩ => ⟨S32x64x16, .f32⟩
  | .local _ .vmem, ⟨5, _⟩ => ⟨S32x64x16, .f32⟩
  | .local _ .vmem, ⟨6, _⟩ => ⟨S8x32x64x16, .f32⟩
  | .local _ .vmem, ⟨7, _⟩ => ⟨S8x32x64x16, .f32⟩
  | .local _ .vmem, ⟨8, _⟩ => ⟨S32x64x16, .f32⟩
  | .local _ .vmem, ⟨9, _⟩ => ⟨S32x64x16, .f32⟩
  | .local _ .vmem, ⟨10, _⟩ => ⟨S32x64x16, .f32⟩
  | .local _ .vmem, ⟨11, _⟩ => ⟨S32x64x16, .f32⟩
  | .local _ .vmem, ⟨12, _⟩ => ⟨S32x64x16, .f32⟩
  | .local _ .vmem, ⟨13, _⟩ => ⟨S32x64x16, .f32⟩
  | .local _ .vmem, ⟨14, _⟩ => ⟨S32x64x16, .f32⟩
  | .local _ .vmem, ⟨15, _⟩ => ⟨S32x64x16, .f32⟩
  | _, _ => ⟨S32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S32x64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x32x64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x32x64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x64x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x64x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x64x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x64x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x64x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== UpdS5BIdeal.lean ====
abbrev S32x64x16 : Shape := ⟨3, ![32, 64, 16]⟩
abbrev S8x32x64x16 : Shape := ⟨4, ![8, 32, 64, 16]⟩
abbrev S1x32x64x16 : Shape := ⟨4, ![1, 32, 64, 16]⟩

abbrev nBuf : Space → Nat
  | .hbm => 16
  | .vmem => 16
  | .smem => 0
  | _ => 0

abbrev bufTy : (tb : Table) → Fin (tcTables nBuf tb) → BufTy
  | .hbm, ⟨0, _⟩ => ⟨S32x64x16, .f32⟩
  | .hbm, ⟨1, _⟩ => ⟨S32x64x16, .f32⟩
  | .hbm, ⟨2, _⟩ => ⟨S32x64x16, .f32⟩
  | .hbm, ⟨3, _⟩ => ⟨S32x64x16, .f32⟩
  | .hbm, ⟨4, _⟩ => ⟨S32x64x16, .f32⟩
  | .hbm, ⟨5, _⟩ => ⟨S32x64x16, .f32⟩
  | .hbm, ⟨6, _⟩ => ⟨S8x32x64x16, .f32⟩
  | .hbm, ⟨7, _⟩ => ⟨S8x32x64x16, .f32⟩
  | .hbm, ⟨8, _⟩ => ⟨S32x64x16, .f32⟩
  | .hbm, ⟨9, _⟩ => ⟨S32x64x16, .f32⟩
  | .hbm, ⟨10, _⟩ => ⟨S32x64x16, .f32⟩
  | .hbm, ⟨11, _⟩ => ⟨S32x64x16, .f32⟩
  | .hbm, ⟨12, _⟩ => ⟨S32x64x16, .f32⟩
  | .hbm, ⟨13, _⟩ => ⟨S32x64x16, .f32⟩
  | .hbm, ⟨14, _⟩ => ⟨S32x64x16, .f32⟩
  | .hbm, ⟨15, _⟩ => ⟨S32x64x16, .f32⟩
  | .local _ .vmem, ⟨0, _⟩ => ⟨S32x64x16, .f32⟩
  | .local _ .vmem, ⟨1, _⟩ => ⟨S32x64x16, .f32⟩
  | .local _ .vmem, ⟨2, _⟩ => ⟨S32x64x16, .f32⟩
  | .local _ .vmem, ⟨3, _⟩ => ⟨S32x64x16, .f32⟩
  | .local _ .vmem, ⟨4, _⟩ => ⟨S32x64x16, .f32⟩
  | .local _ .vmem, ⟨5, _⟩ => ⟨S32x64x16, .f32⟩
  | .local _ .vmem, ⟨6, _⟩ => ⟨S8x32x64x16, .f32⟩
  | .local _ .vmem, ⟨7, _⟩ => ⟨S8x32x64x16, .f32⟩
  | .local _ .vmem, ⟨8, _⟩ => ⟨S32x64x16, .f32⟩
  | .local _ .vmem, ⟨9, _⟩ => ⟨S32x64x16, .f32⟩
  | .local _ .vmem, ⟨10, _⟩ => ⟨S32x64x16, .f32⟩
  | .local _ .vmem, ⟨11, _⟩ => ⟨S32x64x16, .f32⟩
  | .local _ .vmem, ⟨12, _⟩ => ⟨S32x64x16, .f32⟩
  | .local _ .vmem, ⟨13, _⟩ => ⟨S32x64x16, .f32⟩
  | .local _ .vmem, ⟨14, _⟩ => ⟨S32x64x16, .f32⟩
  | .local _ .vmem, ⟨15, _⟩ => ⟨S32x64x16, .f32⟩
  | _, _ => ⟨S32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S32x64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x32x64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x32x64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x64x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x64x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x64x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x64x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x64x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== UpdS5BRefIdeal.lean ====
abbrev S32x64x16 : Shape := ⟨3, ![32, 64, 16]⟩
abbrev S8x32x64x16 : Shape := ⟨4, ![8, 32, 64, 16]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S32x64x16, .f32⟩
  | .hbm, ⟨1, _⟩ => ⟨S32x64x16, .f32⟩
  | .hbm, ⟨2, _⟩ => ⟨S32x64x16, .f32⟩
  | .hbm, ⟨3, _⟩ => ⟨S32x64x16, .f32⟩
  | .hbm, ⟨4, _⟩ => ⟨S32x64x16, .f32⟩
  | .hbm, ⟨5, _⟩ => ⟨S32x64x16, .f32⟩
  | .hbm, ⟨6, _⟩ => ⟨S8x32x64x16, .f32⟩
  | .hbm, ⟨7, _⟩ => ⟨S8x32x64x16, .f32⟩
  | .hbm, ⟨8, _⟩ => ⟨S_, .f32⟩
  | .hbm, ⟨9, _⟩ => ⟨S32x64x16, .f32⟩
  | .hbm, ⟨10, _⟩ => ⟨S_, .f32⟩
  | .hbm, ⟨11, _⟩ => ⟨S32x64x16, .f32⟩
  | .hbm, ⟨12, _⟩ => ⟨S_, .f32⟩
  | .hbm, ⟨13, _⟩ => ⟨S32x64x16, .f32⟩
  | .hbm, ⟨14, _⟩ => ⟨S32x64x16, .f32⟩
  | .hbm, ⟨15, _⟩ => ⟨S_, .f32⟩
  | .hbm, ⟨16, _⟩ => ⟨S32x64x16, .f32⟩
  | .hbm, ⟨17, _⟩ => ⟨S32x64x16, .f32⟩
  | .hbm, ⟨18, _⟩ => ⟨S32x64x16, .f32⟩
  | .hbm, ⟨19, _⟩ => ⟨S_, .f32⟩
  | .hbm, ⟨20, _⟩ => ⟨S32x64x16, .f32⟩
  | .hbm, ⟨21, _⟩ => ⟨S32x64x16, .f32⟩
  | .hbm, ⟨22, _⟩ => ⟨S32x64x16, .f32⟩
  | .hbm, ⟨23, _⟩ => ⟨S_, .f32⟩
  | .hbm, ⟨24, _⟩ => ⟨S32x64x16, .f32⟩
  | .hbm, ⟨25, _⟩ => ⟨S32x64x16, .f32⟩
  | .hbm, ⟨26, _⟩ => ⟨S32x64x16, .f32⟩
  | .hbm, ⟨27, _⟩ => ⟨S_, .f32⟩
  | .hbm, ⟨28, _⟩ => ⟨S32x64x16, .f32⟩
  | .hbm, ⟨29, _⟩ => ⟨S32x64x16, .f32⟩
  | .hbm, ⟨30, _⟩ => ⟨S_, .f32⟩
  | .hbm, ⟨31, _⟩ => ⟨S32x64x16, .f32⟩
  | .hbm, ⟨32, _⟩ => ⟨S32x64x16, .f32⟩
  | .hbm, ⟨33, _⟩ => ⟨S32x64x16, .f32⟩
  | .hbm, ⟨34, _⟩ => ⟨S_, .f32⟩
  | .hbm, ⟨35, _⟩ => ⟨S32x64x16, .f32⟩
  | .hbm, ⟨36, _⟩ => ⟨S32x64x16, .f32⟩
  | .hbm, ⟨37, _⟩ => ⟨S32x64x16, .f32⟩
  | .hbm, ⟨38, _⟩ => ⟨S_, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S_, .f32⟩
  | .hbm, ⟨43, _⟩ => ⟨S32x64x16, .f32⟩
  | .hbm, ⟨44, _⟩ => ⟨S32x64x16, .f32⟩
  | .hbm, ⟨45, _⟩ => ⟨S_, .f32⟩
  | .hbm, ⟨46, _⟩ => ⟨S32x64x16, .f32⟩
  | .hbm, ⟨47, _⟩ => ⟨S32x64x16, .f32⟩
  | .hbm, ⟨48, _⟩ => ⟨S_, .f32⟩
  | .hbm, ⟨49, _⟩ => ⟨S32x64x16, .f32⟩
  | .hbm, ⟨50, _⟩ => ⟨S32x64x16, .f32⟩
  | .hbm, ⟨51, _⟩ => ⟨S32x64x16, .f32⟩
  | .hbm, ⟨52, _⟩ => ⟨S_, .f32⟩
  | .hbm, ⟨53, _⟩ => ⟨S32x64x16, .f32⟩
  | .hbm, ⟨54, _⟩ => ⟨S32x64x16, .f32⟩
  | .hbm, ⟨55, _⟩ => ⟨S32x64x16, .f32⟩
  | .hbm, ⟨56, _⟩ => ⟨S_, .f32⟩
  | .hbm, ⟨57, _⟩ => ⟨S32x64x16, .f32⟩
  | .hbm, ⟨58, _⟩ => ⟨S32x64x16, .f32⟩
  | .hbm, ⟨59, _⟩ => ⟨S32x64x16, .f32⟩
  | .hbm, ⟨60, _⟩ => ⟨S_, .f32⟩
  | .hbm, ⟨61, _⟩ => ⟨S32x64x16, .f32⟩
  | .hbm, ⟨62, _⟩ => ⟨S32x64x16, .f32⟩
  | .hbm, ⟨63, _⟩ => ⟨S_, .f32⟩
  | .hbm, ⟨64, _⟩ => ⟨S32x64x16, .f32⟩
  | .hbm, ⟨65, _⟩ => ⟨S32x64x16, .f32⟩
  | .hbm, ⟨66, _⟩ => ⟨S32x64x16, .f32⟩
  | .hbm, ⟨67, _⟩ => ⟨S_, .f32⟩
  | .hbm, ⟨68, _⟩ => ⟨S32x64x16, .f32⟩
  | .hbm, ⟨69, _⟩ => ⟨S32x64x16, .f32⟩
  | .hbm, ⟨70, _⟩ => ⟨S32x64x16, .f32⟩
  | .hbm, ⟨71, _⟩ => ⟨S_, .f32⟩
  | .hbm, ⟨72, _⟩ => ⟨S32x64x16, .f32⟩
  | .hbm, ⟨73, _⟩ => ⟨S32x64x16, .f32⟩
  | .hbm, ⟨74, _⟩ => ⟨S32x64x16, .f32⟩
  | .hbm, ⟨75, _⟩ => ⟨S_, .f32⟩
  | .hbm, ⟨76, _⟩ => ⟨S32x64x16, .f32⟩
  | .hbm, ⟨77, _⟩ => ⟨S32x64x16, .f32⟩
  | _, _ => ⟨S32x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_cst_10 : Ref sig .tc := ⟨.hbm, 45, rfl⟩
abbrev main_v26 : Ref sig .tc := ⟨.hbm, 46, rfl⟩
abbrev main_v27 : Ref sig .tc := ⟨.hbm, 47, rfl⟩
abbrev main_cst_11 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_12 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_13 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_14 : Ref sig .tc := ⟨.hbm, 60, rfl⟩
abbrev main_v37 : Ref sig .tc := ⟨.hbm, 61, rfl⟩
abbrev main_v38 : Ref sig .tc := ⟨.hbm, 62, rfl⟩
abbrev main_cst_15 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_16 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_17 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_18 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== UpdLast.lean ====
abbrev S1024 : Shape := ⟨1, ![1024]⟩
abbrev S8x1024 : Shape := ⟨2, ![8, 1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S8x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .local _ .vmem, ⟨0, _⟩ => ⟨S1024, .f32⟩
  | .local _ .vmem, ⟨1, _⟩ => ⟨S1024, .f32⟩
  | .local _ .vmem, ⟨2, _⟩ => ⟨S1024, .f32⟩
  | .local _ .vmem, ⟨3, _⟩ => ⟨S8x1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== UpdLastRefIdeal.lean ====
abbrev S1024 : Shape := ⟨1, ![1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S8x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Disc.lean ====
abbrev S32x64 : Shape := ⟨2, ![32, 64]⟩
abbrev S32 : Shape := ⟨1, ![32]⟩
abbrev S32x64x16 : Shape := ⟨3, ![32, 64, 16]⟩
abbrev S2048x1 : Shape := ⟨2, ![2048, 1]⟩
abbrev S2048 : Shape := ⟨1, ![2048]⟩
abbrev S2048x16 : Shape := ⟨2, ![2048, 16]⟩
abbrev S2048x2 : Shape := ⟨2, ![2048, 2]⟩

abbrev nBuf : Space → Nat
  | .hbm => 15
  | .vmem => 8
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S2048x1, .f32⟩
  | .hbm, ⟨6, _⟩ => ⟨S2048x1, .f32⟩
  | .hbm, ⟨7, _⟩ => ⟨S32x64, .f32⟩
  | .hbm, ⟨8, _⟩ => ⟨S2048, .f32⟩
  | .hbm, ⟨9, _⟩ => ⟨S2048x1, .f32⟩
  | .hbm, ⟨10, _⟩ => ⟨S2048x16, .f32⟩
  | .hbm, ⟨11, _⟩ => ⟨S2048x16, .f32⟩
  | .hbm, ⟨12, _⟩ => ⟨S2048x2, .f32⟩
  | .hbm, ⟨13, _⟩ => ⟨S2048x16, .f32⟩
  | .hbm, ⟨14, _⟩ => ⟨S2048x16, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x16, .f32⟩
  | .local _ .vmem, ⟨4, _⟩ => ⟨S2048x16, .f32⟩
  | .local _ .vmem, ⟨5, _⟩ => ⟨S2048x2, .f32⟩
  | .local _ .vmem, ⟨6, _⟩ => ⟨S2048x16, .f32⟩
  | .local _ .vmem, ⟨7, _⟩ => ⟨S2048x16, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== DiscRefIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S2048 : Shape := ⟨1, ![2048]⟩
abbrev S2048x1 : Shape := ⟨2, ![2048, 1]⟩
abbrev S2048x2 : Shape := ⟨2, ![2048, 2]⟩
abbrev S2048x16 : Shape := ⟨2, ![2048, 16]⟩

abbrev nBuf : Space → Nat
  | .hbm => 53
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64x1, .f32⟩
  | .hbm, ⟨33, _⟩ => ⟨S32x64x16, .f32⟩
  | .hbm, ⟨34, _⟩ => ⟨S32x64x16, .f32⟩
  | .hbm, ⟨35, _⟩ => ⟨S32x64x1, .f32⟩
  | .hbm, ⟨36, _⟩ => ⟨S32x64x16, .f32⟩
  | .hbm, ⟨37, _⟩ => ⟨S32x64x16, .f32⟩
  | .hbm, ⟨38, _⟩ => ⟨S32x64x16, .f32⟩
  | .hbm, ⟨39, _⟩ => ⟨S32x64x1, .f32⟩
  | .hbm, ⟨40, _⟩ => ⟨S32x64x16, .f32⟩
  | .hbm, ⟨41, _⟩ => ⟨S32x64x16, .f32⟩
  | .hbm, ⟨42, _⟩ => ⟨S32x64x1, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S2048, .f32⟩
  | .hbm, ⟨47, _⟩ => ⟨S2048, .f32⟩
  | .hbm, ⟨48, _⟩ => ⟨S2048x1, .f32⟩
  | .hbm, ⟨49, _⟩ => ⟨S2048x1, .f32⟩
  | .hbm, ⟨50, _⟩ => ⟨S2048x2, .f32⟩
  | .hbm, ⟨51, _⟩ => ⟨S2048x16, .f32⟩
  | .hbm, ⟨52, _⟩ => ⟨S2048x16, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩

abbrev nD : Nat := 1
abbrev τ : Topo := Topo.v7x

variable {F : FTy → Type} [FloatOps F]
-- ==== DiscBwd.lean ====
abbrev S32x64 : Shape := ⟨2, ![32, 64]⟩
abbrev S32 : Shape := ⟨1, ![32]⟩
abbrev S32x64x16 : Shape := ⟨3, ![32, 64, 16]⟩
abbrev S8x2048 : Shape := ⟨2, ![8, 2048]⟩
abbrev S2048x16 : Shape := ⟨2, ![2048, 16]⟩
abbrev S2048x1 : Shape := ⟨2, ![2048, 1]⟩
abbrev S2048 : Shape := ⟨1, ![2048]⟩
abbrev S2x2048 : Shape := ⟨2, ![2, 2048]⟩
abbrev S2048x2 : Shape := ⟨2, ![2048, 2]⟩
abbrev S32x1 : Shape := ⟨2, ![32, 1]⟩
abbrev S32x64x1 : Shape := ⟨3, ![32, 64, 1]⟩

abbrev nBuf : Space → Nat
  | .hbm => 21
  | .vmem => 12
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S8x2048, .f32⟩
  | .hbm, ⟨6, _⟩ => ⟨S2048x16, .f32⟩
  | .hbm, ⟨7, _⟩ => ⟨S2048x16, .f32⟩
  | .hbm, ⟨8, _⟩ => ⟨S2048x1, .f32⟩
  | .hbm, ⟨9, _⟩ => ⟨S2048x1, .f32⟩
  | .hbm, ⟨10, _⟩ => ⟨S32x64, .f32⟩
  | .hbm, ⟨11, _⟩ => ⟨S2048, .f32⟩
  | .hbm, ⟨12, _⟩ => ⟨S2048x1, .f32⟩
  | .hbm, ⟨13, _⟩ => ⟨S2048x16, .f32⟩
  | .hbm, ⟨14, _⟩ => ⟨S2048x16, .f32⟩
  | .hbm, ⟨15, _⟩ => ⟨S2x2048, .f32⟩
  | .hbm, ⟨16, _⟩ => ⟨S2048x2, .f32⟩
  | .hbm, ⟨17, _⟩ => ⟨S2048x2, .f32⟩
  | .hbm, ⟨18, _⟩ => ⟨S32x1, .f32⟩
  | .hbm, ⟨19, _⟩ => ⟨S2048x16, .f32⟩
  | .hbm, ⟨20, _⟩ => ⟨S2048x16, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x16, .f32⟩
  | .local _ .vmem, ⟨4, _⟩ => ⟨S2048x16, .f32⟩
  | .local _ .vmem, ⟨5, _⟩ => ⟨S2048x2, .f32⟩
  | .local _ .vmem, ⟨6, _⟩ => ⟨S2048x16, .f32⟩
  | .local _ .vmem, ⟨7, _⟩ => ⟨S2048x16, .f32⟩
  | .local _ .vmem, ⟨8, _⟩ => ⟨S2048x2, .f32⟩
  | .local _ .vmem, ⟨9, _⟩ => ⟨S32x1, .f32⟩
  | .local _ .vmem, ⟨10, _⟩ => ⟨S2048x16, .f32⟩
  | .local _ .vmem, ⟨11, _⟩ => ⟨S2048x16, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== DiscBwdRefIdeal.lean ====
abbrev S32x64 : Shape := ⟨2, ![32, 64]⟩
abbrev S32 : Shape := ⟨1, ![32]⟩
abbrev S32x64x16 : Shape := ⟨3, ![32, 64, 16]⟩
abbrev S8x2048 : Shape := ⟨2, ![8, 2048]⟩
abbrev S2048x16 : Shape := ⟨2, ![2048, 16]⟩
abbrev S1x2048 : Shape := ⟨2, ![1, 2048]⟩
abbrev S2048 : Shape := ⟨1, ![2048]⟩
abbrev S32x1 : Shape := ⟨2, ![32, 1]⟩
abbrev S_ : Shape := ⟨0, ![]⟩
abbrev S32x64x1 : Shape := ⟨3, ![32, 64, 1]⟩
abbrev S2048x1 : Shape := ⟨2, ![2048, 1]⟩
abbrev S2048x2 : Shape := ⟨2, ![2048, 2]⟩

abbrev nBuf : Space → Nat
  | .hbm => 179
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S8x2048, .f32⟩
  | 6 => ⟨S2048x16, .f32⟩
  | 7 => ⟨S2048x16, .f32⟩
  | 8 => ⟨S1x2048, .f32⟩
  | 9 => ⟨S2048, .f32⟩
  | 10 => ⟨S32x64, .f32⟩
  | 11 => ⟨S1x2048, .f32⟩
  | 12 => ⟨S2048, .f32⟩
  | 13 => ⟨S32x64, .f32⟩
  | 14 => ⟨S32x64x16, .f32⟩
  | 15 => ⟨S32x64x16, .f32⟩
  | 16 => ⟨S32, .f32⟩
  | 17 => ⟨S32x1, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S_, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S_, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S_, .f32⟩
  | 51 => ⟨S32x64, .f32⟩
  | 52 => ⟨S32x64, .f32⟩
  | 53 => ⟨S32x64x1, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x16, .f32⟩
  | 60 => ⟨S32x64x1, .f32⟩
  | 61 => ⟨S32x64x16, .f32⟩
  | 62 => ⟨S32x64x16, .f32⟩
  | 63 => ⟨S32x64x1, .f32⟩
  | 64 => ⟨S32x64x16, .f32⟩
  | 65 => ⟨S32x64x16, .f32⟩
  | 66 => ⟨S32x64x16, .f32⟩
  | 67 => ⟨S32x64x16, .f32⟩
  | 68 => ⟨S32x64x16, .f32⟩
  | 69 => ⟨S32x64x16, .f32⟩
  | 70 => ⟨S_, .f32⟩
  | 71 => ⟨S32x64, .f32⟩
  | 72 => ⟨S32x64x1, .f32⟩
  | 73 => ⟨S_, .f32⟩
  | 74 => ⟨S32x64, .f32⟩
  | 75 => ⟨S32x64x16, .f32⟩
  | 76 => ⟨S32x64x16, .f32⟩
  | 77 => ⟨S32x64x16, .f32⟩
  | 78 => ⟨S_, .f32⟩
  | 79 => ⟨S32x64, .f32⟩
  | 80 => ⟨S32x64x1, .f32⟩
  | 81 => ⟨S_, .f32⟩
  | 82 => ⟨S32x64, .f32⟩
  | 83 => ⟨S32x64x16, .f32⟩
  | 84 => ⟨S32x64x16, .f32⟩
  | 85 => ⟨S32x64x16, .f32⟩
  | 86 => ⟨S32x64x16, .f32⟩
  | 87 => ⟨S32x64x16, .f32⟩
  | 88 => ⟨S_, .f32⟩
  | 89 => ⟨S32x64, .f32⟩
  | 90 => ⟨S32x64x1, .f32⟩
  | 91 => ⟨S_, .f32⟩
  | 92 => ⟨S32x64, .f32⟩
  | 93 => ⟨S32x64, .f32⟩
  | 94 => ⟨S32x64x16, .f32⟩
  | 95 => ⟨S32x64x16, .f32⟩
  | 96 => ⟨S32x64x16, .f32⟩
  | 97 => ⟨S32x64x16, .f32⟩
  | 98 => ⟨S_, .f32⟩
  | 99 => ⟨S32x64, .f32⟩
  | 100 => ⟨S32x64x1, .f32⟩
  | 101 => ⟨S_, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S_, .f32⟩
  | 13 => ⟨S32, .f32⟩
  | 14 => ⟨S32x1, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S_, .f32⟩
  | 25 => ⟨S32, .f32⟩
  | 26 => ⟨S32x1, .f32⟩
  | 27 => ⟨S32x1, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S_, .f32⟩
  | 34 => ⟨S32, .f32⟩
  | 35 => ⟨S32x1, .f32⟩
  | 36 => ⟨S32x1, .f32⟩
  | 37 => ⟨S32x64, .f32⟩
  | 38 => ⟨S32x64, .f32⟩
  | 39 => ⟨S32x64, .f32⟩
  | 40 => ⟨S_, .f32⟩
  | 41 => ⟨S32, .f32⟩
  | 42 => ⟨S32, .f32⟩
  | 43 => ⟨S2048, .f32⟩
  | 44 => ⟨S2048, .f32⟩
  | 45 => ⟨S2048x1, .f32⟩
  | 46 => ⟨S2048x1, .f32⟩
  | 47 => ⟨S2048x2, .f32⟩
  | 48 => ⟨S32x1, .f32⟩
  | 49 => ⟨S2048x16, .f32⟩
  | 50 => ⟨S2048x16, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_1 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_2 : Ref sig .tc := ⟨.hbm, 70, rfl⟩
abbrev main_v59 : Ref sig .tc := ⟨.hbm, 71, rfl⟩
abbrev main_v60 : Ref sig .tc := ⟨.hbm, 72, rfl⟩
abbrev main_cst_3 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_4 : Ref sig .tc := ⟨.hbm, 78, rfl⟩
abbrev main_v65 : Ref sig .tc := ⟨.hbm, 79, rfl⟩
abbrev main_v66 : Ref sig .tc := ⟨.hbm, 80, rfl⟩
abbrev main_cst_5 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_6 : Ref sig .tc := ⟨.hbm, 88, rfl⟩
abbrev main_v73 : Ref sig .tc := ⟨.hbm, 89, rfl⟩
abbrev main_v74 : Ref sig .tc := ⟨.hbm, 90, rfl⟩
abbrev main_cst_7 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_8 : Ref sig .tc := ⟨.hbm, 98, rfl⟩
abbrev main_v81 : Ref sig .tc := ⟨.hbm, 99, rfl⟩
abbrev main_v82 : Ref sig .tc := ⟨.hbm, 100, rfl⟩
abbrev main_cst_9 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_10 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_cst_11 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_cst_12 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_cst_13 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩

abbrev nD : Nat := 1
abbrev τ : Topo := Topo.v7x

variable {F : FTy → Type} [FloatOps F]
-- ==== Proof.Merge.lean ====
/-
  The backward call of the gated merge, read index by index: what its pipeline leaves in each of its six result
  arrays is one function of the arrays it is handed.
-/
module
public import proofs.«01_k».proof.Proof.Gen.KernelIdeal.Value
public import Idealize.ShloMosaic.Lib.Pointwise
@[expose] public section
set_option maxRecDepth 16384
noncomputable section
namespace Cert.KernelIdeal.MergeValue
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The functions -/

/-- An array of reals of the given extents. -/
abbrev Arr (s : Shape) := s.Idx → EReal

/-- The logistic function. -/
def sg (x : EReal) : EReal := Ideal.div 1 (1 + Ideal.exp (-x))

/-- The gradient of the merged row: the incoming gradient against the rows of the output projection. -/
def dm (a0 : Arr S8192x1024) (a5 : Arr S1024x1024) (r : Fin 8192) (c : Fin 1024) : EReal :=
  ∑ k : Fin 1024, a0 (ix2 r k) * a5 (ix2 c k)

/-- The first gate of a row. -/
def ga (a1 : Arr S8192x2048) (r : Fin 8192) (c : Fin 1024) : EReal := sg (a1 (ix2 r ⟨c.val, by omega⟩))
/-- The second gate of a row. -/
def gb (a1 : Arr S8192x2048) (r : Fin 8192) (c : Fin 1024) : EReal := sg (a1 (ix2 r ⟨1024 + c.val, by omega⟩))

/-- The merged rows. -/
def specMg (a1 : Arr S8192x2048) (p q : Arr S8192x1024) : Arr S8192x1024 := fun i =>
  ga a1 (i 0) (i 1) * p (ix2 (i 0) (i 1)) + gb a1 (i 0) (i 1) * q (ix2 (i 0) (i 1))
/-- The first half of the gate's gradient. -/
def dga (a0 : Arr S8192x1024) (a1 : Arr S8192x2048) (p : Arr S8192x1024) (a5 : Arr S1024x1024) (r : Fin 8192) (c : Fin 1024) : EReal :=
  dm a0 a5 r c * p (ix2 r c) * ga a1 r c * (1 - ga a1 r c)
/-- The second half of the gate's gradient. -/
def dgb (a0 : Arr S8192x1024) (a1 : Arr S8192x2048) (q : Arr S8192x1024) (a5 : Arr S1024x1024) (r : Fin 8192) (c : Fin 1024) : EReal :=
  dm a0 a5 r c * q (ix2 r c) * gb a1 r c * (1 - gb a1 r c)
/-- The gate's gradient. -/
def specDg (a0 : Arr S8192x1024) (a1 : Arr S8192x2048) (p q : Arr S8192x1024) (a5 : Arr S1024x1024) : Arr S8192x2048 := fun i =>
  if h : (i 1).val < 1024 then dga a0 a1 p a5 (i 0) ⟨(i 1).val, h⟩
  else dgb a0 a1 q a5 (i 0) ⟨(i 1).val - 1024, by have : (i 1).val < 2048 := (i 1).isLt; omega⟩
/-- The gradient of the first branch's projection. -/
def specPa (a0 : Arr S8192x1024) (a1 : Arr S8192x2048) (a5 : Arr S1024x1024) : Arr S8192x1024 := fun i =>
  dm a0 a5 (i 0) (i 1) * ga a1 (i 0) (i 1)
/-- The gradient of the second branch's projection. -/
def specPb (a0 : Arr S8192x1024) (a1 : Arr S8192x2048) (a5 : Arr S1024x1024) : Arr S8192x1024 := fun i =>
  dm a0 a5 (i 0) (i 1) * gb a1 (i 0) (i 1)
/-- The gradient of the first branch. -/
def specYa (a0 : Arr S8192x1024) (a1 : Arr S8192x2048) (a4 : Arr S1536x1024) (a5 : Arr S1024x1024) : Arr S8192x1024 := fun i =>
  ∑ k : Fin 1024, dm a0 a5 (i 0) k * ga a1 (i 0) k * a4 (ix2 ⟨(i 1).val, by have : (i 1).val < 1024 := (i 1).isLt; omega⟩ k)
/-- The gradient of the second branch. -/
def specYb (a0 : Arr S8192x1024) (a1 : Arr S8192x2048) (a4 : Arr S1536x1024) (a5 : Arr S1024x1024) : Arr S8192x512 := fun i =>
  ∑ k : Fin 1024, dm a0 a5 (i 0) k * gb a1 (i 0) k * a4 (ix2 ⟨1024 + (i 1).val, by have : (i 1).val < 512 := (i 1).isLt; omega⟩ k)

/-! ## The blocks a point loads -/

theorem N32 : cfg0.N = 32 := N_0

/-- The array row that row `r` of point `t`'s block is. -/
def row (t : Fin cfg0.N) (r : Fin 256) : Fin 8192 := ⟨t.val * 256 + r.val, by have := t.isLt; have := N32; omega⟩

theorem hz : (![0, 0] : Fin 2 → Nat) = fun _ => 0 := funext fun a => by fin_cases a <;> rfl

theorem off0 : ∀ t : Fin cfg0.N, win0_0.index t 0 * win0_0.size 0 = t.val * 256 ∧ win0_0.index t 1 * win0_0.size 1 = 0 :=
  (by decide +kernel : ∀ t : Fin grid0.N, win0_0.index t 0 * win0_0.size 0 = t.val * 256 ∧ win0_0.index t 1 * win0_0.size 1 = 0)
theorem off1 : ∀ t : Fin cfg0.N, win0_1.index t 0 * win0_1.size 0 = t.val * 256 ∧ win0_1.index t 1 * win0_1.size 1 = 0 :=
  (by decide +kernel : ∀ t : Fin grid0.N, win0_1.index t 0 * win0_1.size 0 = t.val * 256 ∧ win0_1.index t 1 * win0_1.size 1 = 0)
theorem off2 : ∀ t : Fin cfg0.N, win0_2.index t 0 * win0_2.size 0 = t.val * 256 ∧ win0_2.index t 1 * win0_2.size 1 = 0 :=
  (by decide +kernel : ∀ t : Fin grid0.N, win0_2.index t 0 * win0_2.size 0 = t.val * 256 ∧ win0_2.index t 1 * win0_2.size 1 = 0)
theorem off3 : ∀ t : Fin cfg0.N, win0_3.index t 0 * win0_3.size 0 = t.val * 256 ∧ win0_3.index t 1 * win0_3.size 1 = 0 :=
  (by decide +kernel : ∀ t : Fin grid0.N, win0_3.index t 0 * win0_3.size 0 = t.val * 256 ∧ win0_3.index t 1 * win0_3.size 1 = 0)
theorem off4 : ∀ t : Fin cfg0.N, win0_4.index t 0 * win0_4.size 0 = 0 ∧ win0_4.index t 1 * win0_4.size 1 = 0 :=
  (by decide +kernel : ∀ t : Fin grid0.N, win0_4.index t 0 * win0_4.size 0 = 0 ∧ win0_4.index t 1 * win0_4.size 1 = 0)
theorem off5 : ∀ t : Fin cfg0.N, win0_5.index t 0 * win0_5.size 0 = 0 ∧ win0_5.index t 1 * win0_5.size 1 = 0 :=
  (by decide +kernel : ∀ t : Fin grid0.N, win0_5.index t 0 * win0_5.size 0 = 0 ∧ win0_5.index t 1 * win0_5.size 1 = 0)
theorem off6 : ∀ t : Fin cfg0.N, win0_6.index t 0 * win0_6.size 0 = t.val * 256 ∧ win0_6.index t 1 * win0_6.size 1 = 0 :=
  (by decide +kernel : ∀ t : Fin grid0.N, win0_6.index t 0 * win0_6.size 0 = t.val * 256 ∧ win0_6.index t 1 * win0_6.size 1 = 0)
theorem off7 : ∀ t : Fin cfg0.N, win0_7.index t 0 * win0_7.size 0 = t.val * 256 ∧ win0_7.index t 1 * win0_7.size 1 = 0 :=
  (by decide +kernel : ∀ t : Fin grid0.N, win0_7.index t 0 * win0_7.size 0 = t.val * 256 ∧ win0_7.index t 1 * win0_7.size 1 = 0)
theorem off8 : ∀ t : Fin cfg0.N, win0_8.index t 0 * win0_8.size 0 = t.val * 256 ∧ win0_8.index t 1 * win0_8.size 1 = 0 :=
  (by decide +kernel : ∀ t : Fin grid0.N, win0_8.index t 0 * win0_8.size 0 = t.val * 256 ∧ win0_8.index t 1 * win0_8.size 1 = 0)
theorem off9 : ∀ t : Fin cfg0.N, win0_9.index t 0 * win0_9.size 0 = t.val * 256 ∧ win0_9.index t 1 * win0_9.size 1 = 0 :=
  (by decide +kernel : ∀ t : Fin grid0.N, win0_9.index t 0 * win0_9.size 0 = t.val * 256 ∧ win0_9.index t 1 * win0_9.size 1 = 0)
theorem off10 : ∀ t : Fin cfg0.N, win0_10.index t 0 * win0_10.size 0 = t.val * 256 ∧ win0_10.index t 1 * win0_10.size 1 = 0 :=
  (by decide +kernel : ∀ t : Fin grid0.N, win0_10.index t 0 * win0_10.size 0 = t.val * 256 ∧ win0_10.index t 1 * win0_10.size 1 = 0)
theorem off11 : ∀ t : Fin cfg0.N, win0_11.index t 0 * win0_11.size 0 = t.val * 256 ∧ win0_11.index t 1 * win0_11.size 1 = 0 :=
  (by decide +kernel : ∀ t : Fin grid0.N, win0_11.index t 0 * win0_11.size 0 = t.val * 256 ∧ win0_11.index t 1 * win0_11.size 1 = 0)

theorem iblk0_apply (c : Dev nD) (t : Fin cfg0.N) (r : Fin 256) (k : Fin 1024) :
    (iblk m c 0 t : S256x1024.Idx → EReal) (ix2 r k) = m ((c : Thread nD τ).loc main_arg0) (ix2 (row t r) k) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val * 256 + r.val
              rw [(off0 t).1]; omega
  | ⟨1, _⟩ => show win0_0.index t 1 * win0_0.size 1 + 1 * k.val = k.val
              rw [(off0 t).2]; omega

theorem iblk1_apply (c : Dev nD) (t : Fin cfg0.N) (r : Fin 256) (k : Fin 2048) :
    (iblk m c 1 t : S256x2048.Idx → EReal) (ix2 r k) = m ((c : Thread nD τ).loc main_arg1) (ix2 (row t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val * 256 + r.val
              rw [(off1 t).1]; omega
  | ⟨1, _⟩ => show win0_1.index t 1 * win0_1.size 1 + 1 * k.val = k.val
              rw [(off1 t).2]; omega

theorem iblk2_apply (c : Dev nD) (t : Fin cfg0.N) (r : Fin 256) (k : Fin 1024) :
    (iblk m c 2 t : S256x1024.Idx → EReal) (ix2 r k) = V m c main_v2 (ix2 (row t r) k) := by
  unfold iblk
  show V m c main_v2 ((win0_2.rect t).idx (ix2 r k)) = _
  refine congrArg _ (funext fun a => Fin.ext ?_)
  match a with
  | ⟨0, _⟩ => show win0_2.index t 0 * win0_2.size 0 + 1 * r.val = t.val * 256 + r.val
              rw [(off2 t).1]; omega
  | ⟨1, _⟩ => show win0_2.index t 1 * win0_2.size 1 + 1 * k.val = k.val
              rw [(off2 t).2]; omega

theorem iblk3_apply (c : Dev nD) (t : Fin cfg0.N) (r : Fin 256) (k : Fin 1024) :
    (iblk m c 3 t : S256x1024.Idx → EReal) (ix2 r k) = V m c main_v5 (ix2 (row t r) k) := by
  unfold iblk
  show V m c main_v5 ((win0_3.rect t).idx (ix2 r k)) = _
  refine congrArg _ (funext fun a => Fin.ext ?_)
  match a with
  | ⟨0, _⟩ => show win0_3.index t 0 * win0_3.size 0 + 1 * r.val = t.val * 256 + r.val
              rw [(off3 t).1]; omega
  | ⟨1, _⟩ => show win0_3.index t 1 * win0_3.size 1 + 1 * k.val = k.val
              rw [(off3 t).2]; omega

theorem iblk4_apply (c : Dev nD) (t : Fin cfg0.N) (r : Fin 1536) (k : Fin 1024) :
    (iblk m c 4 t : S1536x1024.Idx → EReal) (ix2 r k) = m ((c : Thread nD τ).loc main_arg4) (ix2 r k) := by
  unfold iblk
  show V m c main_arg4 ((win0_4.rect t).idx (ix2 r k)) = _
  rw [V_main_arg4]
  refine congrArg _ (funext fun a => Fin.ext ?_)
  match a with
  | ⟨0, _⟩ => show win0_4.index t 0 * win0_4.size 0 + 1 * r.val = r.val
              rw [(off4 t).1]; omega
  | ⟨1, _⟩ => show win0_4.index t 1 * win0_4.size 1 + 1 * k.val = k.val
              rw [(off4 t).2]; omega

theorem iblk5_apply (c : Dev nD) (t : Fin cfg0.N) (r : Fin 1024) (k : Fin 1024) :
    (iblk m c 5 t : S1024x1024.Idx → EReal) (ix2 r k) = m ((c : Thread nD τ).loc main_arg5) (ix2 r k) := by
  unfold iblk
  show V m c main_arg5 ((win0_5.rect t).idx (ix2 r k)) = _
  rw [V_main_arg5]
  refine congrArg _ (funext fun a => Fin.ext ?_)
  match a with
  | ⟨0, _⟩ => show win0_5.index t 0 * win0_5.size 0 + 1 * r.val = r.val
              rw [(off5 t).1]; omega
  | ⟨1, _⟩ => show win0_5.index t 1 * win0_5.size 1 + 1 * k.val = k.val
              rw [(off5 t).2]; omega

/-! ## What a point writes back, and the arrays after the run -/

/-- An array read through point `t`'s block of window 6. -/
theorem read6_apply (X : Arr S8192x1024) (t : Fin cfg0.N) (r : Fin 256) (k : Fin 1024) :
    ((win0_6.blk t).view.read (Elt Ideal) X : S256x1024.Idx → EReal) (ix2 r k) = X (ix2 (row t r) k) := by
  show X ((win0_6.rect t).idx (ix2 r k)) = _
  refine congrArg _ (funext fun a => Fin.ext ?_)
  match a with
  | ⟨0, _⟩ => show win0_6.index t 0 * win0_6.size 0 + 1 * r.val = t.val * 256 + r.val
              rw [(off6 t).1]; omega
  | ⟨1, _⟩ => show win0_6.index t 1 * win0_6.size 1 + 1 * k.val = k.val
              rw [(off6 t).2]; omega

/-- Every index of the array is in some point's block. -/
theorem cover6 (i : S8192x1024.Idx) : ∃ t : Fin cfg0.N, (cfg0.win 6).flush t = true ∧ i ∈ ((cfg0.win 6).blk t).view.set := by
  have h0 : (i 0 : Nat) < 8192 := (i 0).isLt
  have h1 : (i 1 : Nat) < 1024 := (i 1).isLt
  have hN := N32
  obtain ⟨t, ht⟩ : ∃ t : Fin cfg0.N, t.val = (i 0).val / 256 := ⟨⟨(i 0).val / 256, by omega⟩, rfl⟩
  refine ⟨t, flush0_6 t, ?_⟩
  show i ∈ ((View.whole main_v6_0).slice (win0_6.rect t)).set
  rw [View.set_slice_whole, Rect.mem_set_unit]
  intro a
  match a with
  | ⟨0, _⟩ => show win0_6.index t 0 * win0_6.size 0 ≤ (i 0 : Nat) ∧ (i 0 : Nat) < win0_6.index t 0 * win0_6.size 0 + 256
              rw [(off6 t).1]; omega
  | ⟨1, _⟩ => show win0_6.index t 1 * win0_6.size 1 ≤ (i 1 : Nat) ∧ (i 1 : Nat) < win0_6.index t 1 * win0_6.size 1 + 1024
              rw [(off6 t).2]; omega

/-- An array read through point `t`'s block of window 7. -/
theorem read7_apply (X : Arr S8192x2048) (t : Fin cfg0.N) (r : Fin 256) (k : Fin 2048) :
    ((win0_7.blk t).view.read (Elt Ideal) X : S256x2048.Idx → EReal) (ix2 r k) = X (ix2 (row t r) k) := by
  show X ((win0_7.rect t).idx (ix2 r k)) = _
  refine congrArg _ (funext fun a => Fin.ext ?_)
  match a with
  | ⟨0, _⟩ => show win0_7.index t 0 * win0_7.size 0 + 1 * r.val = t.val * 256 + r.val
              rw [(off7 t).1]; omega
  | ⟨1, _⟩ => show win0_7.index t 1 * win0_7.size 1 + 1 * k.val = k.val
              rw [(off7 t).2]; omega

/-- Every index of the array is in some point's block. -/
theorem cover7 (i : S8192x2048.Idx) : ∃ t : Fin cfg0.N, (cfg0.win 7).flush t = true ∧ i ∈ ((cfg0.win 7).blk t).view.set := by
  have h0 : (i 0 : Nat) < 8192 := (i 0).isLt
  have h1 : (i 1 : Nat) < 2048 := (i 1).isLt
  have hN := N32
  obtain ⟨t, ht⟩ : ∃ t : Fin cfg0.N, t.val = (i 0).val / 256 := ⟨⟨(i 0).val / 256, by omega⟩, rfl⟩
  refine ⟨t, flush0_7 t, ?_⟩
  show i ∈ ((View.whole main_v6_1).slice (win0_7.rect t)).set
  rw [View.set_slice_whole, Rect.mem_set_unit]
  intro a
  match a with
  | ⟨0, _⟩ => show win0_7.index t 0 * win0_7.size 0 ≤ (i 0 : Nat) ∧ (i 0 : Nat) < win0_7.index t 0 * win0_7.size 0 + 256
              rw [(off7 t).1]; omega
  | ⟨1, _⟩ => show win0_7.index t 1 * win0_7.size 1 ≤ (i 1 : Nat) ∧ (i 1 : Nat) < win0_7.index t 1 * win0_7.size 1 + 2048
              rw [(off7 t).2]; omega

/-- An array read through point `t`'s block of window 8. -/
theorem read8_apply (X : Arr S8192x1024) (t : Fin cfg0.N) (r : Fin 256) (k : Fin 1024) :
    ((win0_8.blk t).view.read (Elt Ideal) X : S256x1024.Idx → EReal) (ix2 r k) = X (ix2 (row t r) k) := by
  show X ((win0_8.rect t).idx (ix2 r k)) = _
  refine congrArg _ (funext fun a => Fin.ext ?_)
  match a with
  | ⟨0, _⟩ => show win0_8.index t 0 * win0_8.size 0 + 1 * r.val = t.val * 256 + r.val
              rw [(off8 t).1]; omega
  | ⟨1, _⟩ => show win0_8.index t 1 * win0_8.size 1 + 1 * k.val = k.val
              rw [(off8 t).2]; omega

/-- Every index of the array is in some point's block. -/
theorem cover8 (i : S8192x1024.Idx) : ∃ t : Fin cfg0.N, (cfg0.win 8).flush t = true ∧ i ∈ ((cfg0.win 8).blk t).view.set := by
  have h0 : (i 0 : Nat) < 8192 := (i 0).isLt
  have h1 : (i 1 : Nat) < 1024 := (i 1).isLt
  have hN := N32
  obtain ⟨t, ht⟩ : ∃ t : Fin cfg0.N, t.val = (i 0).val / 256 := ⟨⟨(i 0).val / 256, by omega⟩, rfl⟩
  refine ⟨t, flush0_8 t, ?_⟩
  show i ∈ ((View.whole main_v6_2).slice (win0_8.rect t)).set
  rw [View.set_slice_whole, Rect.mem_set_unit]
  intro a
  match a with
  | ⟨0, _⟩ => show win0_8.index t 0 * win0_8.size 0 ≤ (i 0 : Nat) ∧ (i 0 : Nat) < win0_8.index t 0 * win0_8.size 0 + 256
              rw [(off8 t).1]; omega
  | ⟨1, _⟩ => show win0_8.index t 1 * win0_8.size 1 ≤ (i 1 : Nat) ∧ (i 1 : Nat) < win0_8.index t 1 * win0_8.size 1 + 1024
              rw [(off8 t).2]; omega

/-- An array read through point `t`'s block of window 9. -/
theorem read9_apply (X : Arr S8192x1024) (t : Fin cfg0.N) (r : Fin 256) (k : Fin 1024) :
    ((win0_9.blk t).view.read (Elt Ideal) X : S256x1024.Idx → EReal) (ix2 r k) = X (ix2 (row t r) k) := by
  show X ((win0_9.rect t).idx (ix2 r k)) = _
  refine congrArg _ (funext fun a => Fin.ext ?_)
  match a with
  | ⟨0, _⟩ => show win0_9.index t 0 * win0_9.size 0 + 1 * r.val = t.val * 256 + r.val
              rw [(off9 t).1]; omega
  | ⟨1, _⟩ => show win0_9.index t 1 * win0_9.size 1 + 1 * k.val = k.val
              rw [(off9 t).2]; omega

/-- Every index of the array is in some point's block. -/
theorem cover9 (i : S8192x1024.Idx) : ∃ t : Fin cfg0.N, (cfg0.win 9).flush t = true ∧ i ∈ ((cfg0.win 9).blk t).view.set := by
  have h0 : (i 0 : Nat) < 8192 := (i 0).isLt
  have h1 : (i 1 : Nat) < 1024 := (i 1).isLt
  have hN := N32
  obtain ⟨t, ht⟩ : ∃ t : Fin cfg0.N, t.val = (i 0).val / 256 := ⟨⟨(i 0).val / 256, by omega⟩, rfl⟩
  refine ⟨t, flush0_9 t, ?_⟩
  show i ∈ ((View.whole main_v6_3).slice (win0_9.rect t)).set
  rw [View.set_slice_whole, Rect.mem_set_unit]
  intro a
  match a with
  | ⟨0, _⟩ => show win0_9.index t 0 * win0_9.size 0 ≤ (i 0 : Nat) ∧ (i 0 : Nat) < win0_9.index t 0 * win0_9.size 0 + 256
              rw [(off9 t).1]; omega
  | ⟨1, _⟩ => show win0_9.index t 1 * win0_9.size 1 ≤ (i 1 : Nat) ∧ (i 1 : Nat) < win0_9.index t 1 * win0_9.size 1 + 1024
              rw [(off9 t).2]; omega

/-- An array read through point `t`'s block of window 10. -/
theorem read10_apply (X : Arr S8192x1024) (t : Fin cfg0.N) (r : Fin 256) (k : Fin 1024) :
    ((win0_10.blk t).view.read (Elt Ideal) X : S256x1024.Idx → EReal) (ix2 r k) = X (ix2 (row t r) k) := by
  show X ((win0_10.rect t).idx (ix2 r k)) = _
  refine congrArg _ (funext fun a => Fin.ext ?_)
  match a with
  | ⟨0, _⟩ => show win0_10.index t 0 * win0_10.size 0 + 1 * r.val = t.val * 256 + r.val
              rw [(off10 t).1]; omega
  | ⟨1, _⟩ => show win0_10.index t 1 * win0_10.size 1 + 1 * k.val = k.val
              rw [(off10 t).2]; omega

/-- Every index of the array is in some point's block. -/
theorem cover10 (i : S8192x1024.Idx) : ∃ t : Fin cfg0.N, (cfg0.win 10).flush t = true ∧ i ∈ ((cfg0.win 10).blk t).view.set := by
  have h0 : (i 0 : Nat) < 8192 := (i 0).isLt
  have h1 : (i 1 : Nat) < 1024 := (i 1).isLt
  have hN := N32
  obtain ⟨t, ht⟩ : ∃ t : Fin cfg0.N, t.val = (i 0).val / 256 := ⟨⟨(i 0).val / 256, by omega⟩, rfl⟩
  refine ⟨t, flush0_10 t, ?_⟩
  show i ∈ ((View.whole main_v6_4).slice (win0_10.rect t)).set
  rw [View.set_slice_whole, Rect.mem_set_unit]
  intro a
  match a with
  | ⟨0, _⟩ => show win0_10.index t 0 * win0_10.size 0 ≤ (i 0 : Nat) ∧ (i 0 : Nat) < win0_10.index t 0 * win0_10.size 0 + 256
              rw [(off10 t).1]; omega
  | ⟨1, _⟩ => show win0_10.index t 1 * win0_10.size 1 ≤ (i 1 : Nat) ∧ (i 1 : Nat) < win0_10.index t 1 * win0_10.size 1 + 1024
              rw [(off10 t).2]; omega

/-- An array read through point `t`'s block of window 11. -/
theorem read11_apply (X : Arr S8192x512) (t : Fin cfg0.N) (r : Fin 256) (k : Fin 512) :
    ((win0_11.blk t).view.read (Elt Ideal) X : S256x512.Idx → EReal) (ix2 r k) = X (ix2 (row t r) k) := by
  show X ((win0_11.rect t).idx (ix2 r k)) = _
  refine congrArg _ (funext fun a => Fin.ext ?_)
  match a with
  | ⟨0, _⟩ => show win0_11.index t 0 * win0_11.size 0 + 1 * r.val = t.val * 256 + r.val
              rw [(off11 t).1]; omega
  | ⟨1, _⟩ => show win0_11.index t 1 * win0_11.size 1 + 1 * k.val = k.val
              rw [(off11 t).2]; omega

/-- Every index of the array is in some point's block. -/
theorem cover11 (i : S8192x512.Idx) : ∃ t : Fin cfg0.N, (cfg0.win 11).flush t = true ∧ i ∈ ((cfg0.win 11).blk t).view.set := by
  have h0 : (i 0 : Nat) < 8192 := (i 0).isLt
  have h1 : (i 1 : Nat) < 512 := (i 1).isLt
  have hN := N32
  obtain ⟨t, ht⟩ : ∃ t : Fin cfg0.N, t.val = (i 0).val / 256 := ⟨⟨(i 0).val / 256, by omega⟩, rfl⟩
  refine ⟨t, flush0_11 t, ?_⟩
  show i ∈ ((View.whole main_v6_5).slice (win0_11.rect t)).set
  rw [View.set_slice_whole, Rect.mem_set_unit]
  intro a
  match a with
  | ⟨0, _⟩ => show win0_11.index t 0 * win0_11.size 0 ≤ (i 0 : Nat) ∧ (i 0 : Nat) < win0_11.index t 0 * win0_11.size 0 + 256
              rw [(off11 t).1]; omega
  | ⟨1, _⟩ => show win0_11.index t 1 * win0_11.size 1 ≤ (i 1 : Nat) ∧ (i 1 : Nat) < win0_11.index t 1 * win0_11.size 1 + 512
              rw [(off11 t).2]; omega

set_option maxHeartbeats 1000000 in
/-- What point `t` writes back is block `t` of the array's function. -/
theorem flush_eq6 (c : Dev nD) (t : Fin cfg0.N) :
    (dats m 0 c).flushed 6 t = (win0_6.blk t).view.read (Elt Ideal) (specMg (m ((c : Thread nD τ).loc main_arg1)) (V m c main_v2) (V m c main_v5)) := by
  show (cfg0.win 6).cut (grid0.coords t) ((dats m 0 c).after 6 t) = _
  rw [after0_6]
  unfold_out out0_6
  rw [View.canon_unit_zero hz]
  refine funext fun (j : S256x1024.Idx) => ?_
  idx_vars j
  refine Eq.trans ?_ (read6_apply _ t j0 j1).symm
  show (k0_pay12 (View.ld (iblk m c 1 t) r0_2) (View.ld (iblk m c 2 t) r0_0) (View.ld (iblk m c 3 t) r0_0)) (ix2 j0 j1) = _
  pointwise [k0_pay12, k0_pay13, k0_pay14, k0_pay1, k0_pay2, k0_pay3, k0_pay4, k0_pay5, k0_pay6, k0_pay7, k0_pay8, k0_pay9, k0_pay10, k0_pay11]
  simp only [iblk1_apply, iblk2_apply, iblk3_apply, specMg, specPa, specPb, specYa, specYb, dm, ga, gb, sg, zero_sub]
  try rfl

theorem final6 (c : Dev nD) : (dats m 0 c).arrAt 6 cfg0.N = specMg (m ((c : Thread nD τ).loc main_arg1)) (V m c main_v2) (V m c main_v5) :=
  (dats m 0 c).arrAt_eq_of_cover 6 _ (fun t _ => flush_eq6 m c t) cover6

set_option maxHeartbeats 1000000 in
/-- What point `t` writes back is block `t` of the array's function. -/
theorem flush_eq8 (c : Dev nD) (t : Fin cfg0.N) :
    (dats m 0 c).flushed 8 t = (win0_8.blk t).view.read (Elt Ideal) (specPa (m ((c : Thread nD τ).loc main_arg0)) (m ((c : Thread nD τ).loc main_arg1)) (m ((c : Thread nD τ).loc main_arg5))) := by
  show (cfg0.win 8).cut (grid0.coords t) ((dats m 0 c).after 8 t) = _
  rw [after0_8]
  unfold_out out0_8
  rw [View.canon_unit_zero hz]
  refine funext fun (j : S256x1024.Idx) => ?_
  idx_vars j
  refine Eq.trans ?_ (read8_apply _ t j0 j1).symm
  show (k0_pay2 (k0_pay6 (View.ld (iblk m c 0 t) r0_0) (View.ld (iblk m c 5 t) r0_1)) (k0_pay8 (View.ld (iblk m c 1 t) r0_2))) (ix2 j0 j1) = _
  pointwise [k0_pay12, k0_pay13, k0_pay14, k0_pay1, k0_pay2, k0_pay3, k0_pay4, k0_pay5, k0_pay6, k0_pay7, k0_pay8, k0_pay9, k0_pay10, k0_pay11]
  simp only [iblk0_apply, iblk1_apply, iblk5_apply, specMg, specPa, specPb, specYa, specYb, dm, ga, gb, sg, zero_sub]
  try rfl

theorem final8 (c : Dev nD) : (dats m 0 c).arrAt 8 cfg0.N = specPa (m ((c : Thread nD τ).loc main_arg0)) (m ((c : Thread nD τ).loc main_arg1)) (m ((c : Thread nD τ).loc main_arg5)) :=
  (dats m 0 c).arrAt_eq_of_cover 8 _ (fun t _ => flush_eq8 m c t) cover8

set_option maxHeartbeats 1000000 in
/-- What point `t` writes back is block `t` of the array's function. -/
theorem flush_eq9 (c : Dev nD) (t : Fin cfg0.N) :
    (dats m 0 c).flushed 9 t = (win0_9.blk t).view.read (Elt Ideal) (specPb (m ((c : Thread nD τ).loc main_arg0)) (m ((c : Thread nD τ).loc main_arg1)) (m ((c : Thread nD τ).loc main_arg5))) := by
  show (cfg0.win 9).cut (grid0.coords t) ((dats m 0 c).after 9 t) = _
  rw [after0_9]
  unfold_out out0_9
  rw [View.canon_unit_zero hz]
  refine funext fun (j : S256x1024.Idx) => ?_
  idx_vars j
  refine Eq.trans ?_ (read9_apply _ t j0 j1).symm
  show (k0_pay3 (k0_pay6 (View.ld (iblk m c 0 t) r0_0) (View.ld (iblk m c 5 t) r0_1)) (k0_pay9 (View.ld (iblk m c 1 t) r0_2))) (ix2 j0 j1) = _
  pointwise [k0_pay12, k0_pay13, k0_pay14, k0_pay1, k0_pay2, k0_pay3, k0_pay4, k0_pay5, k0_pay6, k0_pay7, k0_pay8, k0_pay9, k0_pay10, k0_pay11]
  simp only [iblk0_apply, iblk1_apply, iblk5_apply, specMg, specPa, specPb, specYa, specYb, dm, ga, gb, sg, zero_sub]
  try rfl

theorem final9 (c : Dev nD) : (dats m 0 c).arrAt 9 cfg0.N = specPb (m ((c : Thread nD τ).loc main_arg0)) (m ((c : Thread nD τ).loc main_arg1)) (m ((c : Thread nD τ).loc main_arg5)) :=
  (dats m 0 c).arrAt_eq_of_cover 9 _ (fun t _ => flush_eq9 m c t) cover9

set_option maxHeartbeats 1000000 in
/-- What point `t` writes back is block `t` of the array's function. -/
theorem flush_eq10 (c : Dev nD) (t : Fin cfg0.N) :
    (dats m 0 c).flushed 10 t = (win0_10.blk t).view.read (Elt Ideal) (specYa (m ((c : Thread nD τ).loc main_arg0)) (m ((c : Thread nD τ).loc main_arg1)) (m ((c : Thread nD τ).loc main_arg4)) (m ((c : Thread nD τ).loc main_arg5))) := by
  show (cfg0.win 10).cut (grid0.coords t) ((dats m 0 c).after 10 t) = _
  rw [after0_10]
  unfold_out out0_10
  rw [View.canon_unit_zero hz]
  refine funext fun (j : S256x1024.Idx) => ?_
  idx_vars j
  refine Eq.trans ?_ (read10_apply _ t j0 j1).symm
  show (k0_pay4 (k0_pay6 (View.ld (iblk m c 0 t) r0_0) (View.ld (iblk m c 5 t) r0_1)) (k0_pay8 (View.ld (iblk m c 1 t) r0_2)) (View.ld (iblk m c 4 t) r0_5)) (ix2 j0 j1) = _
  pointwise [k0_pay12, k0_pay13, k0_pay14, k0_pay1, k0_pay2, k0_pay3, k0_pay4, k0_pay5, k0_pay6, k0_pay7, k0_pay8, k0_pay9, k0_pay10, k0_pay11]
  simp only [iblk0_apply, iblk1_apply, iblk5_apply, iblk4_apply, specMg, specPa, specPb, specYa, specYb, dm, ga, gb, sg, zero_sub]
  try rfl

theorem final10 (c : Dev nD) : (dats m 0 c).arrAt 10 cfg0.N = specYa (m ((c : Thread nD τ).loc main_arg0)) (m ((c : Thread nD τ).loc main_arg1)) (m ((c : Thread nD τ).loc main_arg4)) (m ((c : Thread nD τ).loc main_arg5)) :=
  (dats m 0 c).arrAt_eq_of_cover 10 _ (fun t _ => flush_eq10 m c t) cover10

set_option maxHeartbeats 1000000 in
/-- What point `t` writes back is block `t` of the array's function. -/
theorem flush_eq11 (c : Dev nD) (t : Fin cfg0.N) :
    (dats m 0 c).flushed 11 t = (win0_11.blk t).view.read (Elt Ideal) (specYb (m ((c : Thread nD τ).loc main_arg0)) (m ((c : Thread nD τ).loc main_arg1)) (m ((c : Thread nD τ).loc main_arg4)) (m ((c : Thread nD τ).loc main_arg5))) := by
  show (cfg0.win 11).cut (grid0.coords t) ((dats m 0 c).after 11 t) = _
  rw [after0_11]
  unfold_out out0_11
  rw [View.canon_unit_zero hz]
  refine funext fun (j : S256x512.Idx) => ?_
  idx_vars j
  refine Eq.trans ?_ (read11_apply _ t j0 j1).symm
  show (k0_pay5 (k0_pay6 (View.ld (iblk m c 0 t) r0_0) (View.ld (iblk m c 5 t) r0_1)) (k0_pay9 (View.ld (iblk m c 1 t) r0_2)) (View.ld (iblk m c 4 t) r0_6)) (ix2 j0 j1) = _
  pointwise [k0_pay12, k0_pay13, k0_pay14, k0_pay1, k0_pay2, k0_pay3, k0_pay4, k0_pay5, k0_pay6, k0_pay7, k0_pay8, k0_pay9, k0_pay10, k0_pay11]
  simp only [iblk0_apply, iblk1_apply, iblk5_apply, iblk4_apply, specMg, specPa, specPb, specYa, specYb, dm, ga, gb, sg, zero_sub]
  try rfl

theorem final11 (c : Dev nD) : (dats m 0 c).arrAt 11 cfg0.N = specYb (m ((c : Thread nD τ).loc main_arg0)) (m ((c : Thread nD τ).loc main_arg1)) (m ((c : Thread nD τ).loc main_arg4)) (m ((c : Thread nD τ).loc main_arg5)) :=
  (dats m 0 c).arrAt_eq_of_cover 11 _ (fun t _ => flush_eq11 m c t) cover11

/-- The gate's gradient at a column of the first half, -/
theorem specDg_lo (a0 : Arr S8192x1024) (a1 : Arr S8192x2048) (p q : Arr S8192x1024) (a5 : Arr S1024x1024) (r : Fin 8192) (c : Fin 1024)
    (h : c.val < 2048) : specDg a0 a1 p q a5 (ix2 r ⟨c.val, h⟩) = dga a0 a1 p a5 r c := dif_pos c.isLt
/-- and of the second. -/
theorem specDg_hi (a0 : Arr S8192x1024) (a1 : Arr S8192x2048) (p q : Arr S8192x1024) (a5 : Arr S1024x1024) (r : Fin 8192) (c : Fin 1024)
    (h : 1024 + c.val < 2048) : specDg a0 a1 p q a5 (ix2 r ⟨1024 + c.val, h⟩) = dgb a0 a1 q a5 r c := by
  refine (dif_neg (show ¬ 1024 + c.val < 1024 by omega)).trans ?_
  exact congrArg (dgb a0 a1 q a5 r) (Fin.ext (show 1024 + c.val - 1024 = c.val by omega))

/-- Point `t`'s rows of an array. -/
def blk7 (t : Fin cfg0.N) (X : Arr S8192x2048) : S256x2048.Idx → EReal := fun y => X (ix2 (row t (y 0)) (y 1))
theorem blk7_apply (t : Fin cfg0.N) (X : Arr S8192x2048) (r : Fin 256) (k : Fin 2048) : blk7 t X (ix2 r k) = X (ix2 (row t r) k) := rfl

set_option maxHeartbeats 1000000 in
/-- What point `t` writes back is block `t` of the array's function. -/
theorem flush_eq7 (c : Dev nD) (t : Fin cfg0.N) :
    (dats m 0 c).flushed 7 t = (win0_7.blk t).view.read (Elt Ideal) (specDg (m ((c : Thread nD τ).loc main_arg0)) (m ((c : Thread nD τ).loc main_arg1)) (V m c main_v2) (V m c main_v5) (m ((c : Thread nD τ).loc main_arg5))) := by
  show (cfg0.win 7).cut (grid0.coords t) ((dats m 0 c).after 7 t) = _
  rw [after0_7]
  refine funext fun (j : S256x2048.Idx) => ?_
  idx_vars j
  refine Eq.trans ?_ (read7_apply _ t j0 j1).symm
  show out0_7 _ _ _ _ _ _ (ix2 j0 j1) = _
  unfold_out out0_7
  refine View.canon_apply_of_pieces (Val := Elt Ideal) (blk7 t (specDg (m ((c : Thread nD τ).loc main_arg0)) (m ((c : Thread nD τ).loc main_arg1)) (V m c main_v2) (V m c main_v5) (m ((c : Thread nD τ).loc main_arg5)))) _ ?_ (ix2 j0 j1) (cover0_7 _ _ _)
  intro pc hpc
  rcases List.mem_cons.mp hpc with rfl | hpc
  · refine fun (x : S256x1024.Idx) => ?_
    idx_vars x
    show k0_pay1 (k0_pay14 (View.ld (iblk m c 0 t) r0_0) (View.ld (iblk m c 5 t) r0_1) (View.ld (iblk m c 1 t) r0_2) (View.ld (iblk m c 3 t) r0_0)) (ix2 x0 x1) = _
    have ex : r0_4.idx (ix2 x0 x1) = ix2 x0 (⟨1024 + x1.val, by omega⟩ : Fin 2048) := by pointwise
    refine Eq.trans ?_ (congrArg (blk7 t _) (show r0_4.emb (ix2 x0 x1) = _ from ex)).symm
    rw [blk7_apply, specDg_hi]
    pointwise [k0_pay1, k0_pay14, k0_pay6, k0_pay9, k0_pay7, k0_pay11]
    simp only [iblk0_apply, iblk1_apply, iblk3_apply, iblk5_apply, dgb, dm, gb, sg, zero_sub]
    try rfl
  rcases List.mem_cons.mp hpc with rfl | hpc
  · refine fun (x : S256x1024.Idx) => ?_
    idx_vars x
    show k0_pay13 (View.ld (iblk m c 0 t) r0_0) (View.ld (iblk m c 5 t) r0_1) (View.ld (iblk m c 1 t) r0_2) (View.ld (iblk m c 2 t) r0_0) (ix2 x0 x1) = _
    have ex : r0_3.idx (ix2 x0 x1) = ix2 x0 (⟨x1.val, by omega⟩ : Fin 2048) := by pointwise
    refine Eq.trans ?_ (congrArg (blk7 t _) (show r0_3.emb (ix2 x0 x1) = _ from ex)).symm
    rw [blk7_apply, specDg_lo]
    pointwise [k0_pay13, k0_pay6, k0_pay8, k0_pay7, k0_pay10]
    simp only [iblk0_apply, iblk1_apply, iblk2_apply, iblk5_apply, dga, dm, ga, sg, zero_sub]
    try rfl
  nomatch hpc

theorem final7 (c : Dev nD) : (dats m 0 c).arrAt 7 cfg0.N = specDg (m ((c : Thread nD τ).loc main_arg0)) (m ((c : Thread nD τ).loc main_arg1)) (V m c main_v2) (V m c main_v5) (m ((c : Thread nD τ).loc main_arg5)) :=
  (dats m 0 c).arrAt_eq_of_cover 7 _ (fun t _ => flush_eq7 m c t) cover7

/-- The first branch's projection. -/
def projA (a2 : Arr S8192x1024) (a4 : Arr S1536x1024) : Arr S8192x1024 := fun i =>
  ∑ k : Fin 1024, a2 (ix2 (i 0) k) * a4 (ix2 ⟨k.val, by omega⟩ (i 1))
/-- The second branch's projection. -/
def projB (a3 : Arr S8192x512) (a4 : Arr S1536x1024) : Arr S8192x1024 := fun i =>
  ∑ k : Fin 512, a3 (ix2 (i 0) k) * a4 (ix2 ⟨1024 + k.val, by omega⟩ (i 1))

/-- The two projections handed to the call are the host's. -/
theorem V_projA (c : Dev nD) : (V m c main_v2 : Arr S8192x1024) = projA (m ((c : Thread nD τ).loc main_arg2)) (m ((c : Thread nD τ).loc main_arg4)) := by
  unfold V hostOps0
  after_results_simp
  funext i
  idx_vars i
  pointwise
  rfl
theorem V_projB (c : Dev nD) : (V m c main_v5 : Arr S8192x1024) = projB (m ((c : Thread nD τ).loc main_arg3)) (m ((c : Thread nD τ).loc main_arg4)) := by
  unfold V hostOps0
  after_results_simp
  funext i
  idx_vars i
  pointwise
  rfl

end Cert.KernelIdeal.MergeValue
end
-- ==== Proof.MergeClaim.lean ====
/-
  The gradient of the gated merge by its reference, read index by index, and the claims: the backward call's six results
  are the reference's.
-/
module
public import proofs.«01_k».proof.Defs
public import proofs.«01_k».proof.Proof.Merge
public import proofs.«01_k».proof.Proof.Gen.ReferenceIdeal.Run
public import Idealize.ShloMosaic.Lib.Quiescent
@[expose] public section
set_option maxRecDepth 16384
noncomputable section
namespace Cert.MergeClaim
open Idealize.ShloMosaic Idealize.ShloMosaic.TcCoe Idealize.SL.Sem
open Cert.KernelIdeal.MergeValue

/-- The reference's frame: its host operations leave the arguments, and it declares no semaphore. -/
theorem frame_ref : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

theorem lo_lt (k : Fin 1024) : k.val < 2048 := by omega
theorem hi_lt (k : Fin 1024) : 1024 + k.val < 2048 := by omega

set_option maxHeartbeats 2000000 in
/-- The reference's run: its six results are the six functions of its arguments, which it leaves. -/
theorem run_ref (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v90) = specMg (m ((c.tc : Thread Cert.ReferenceIdeal.nD Cert.ReferenceIdeal.τ).loc Cert.ReferenceIdeal.main_arg1)) (projA (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg4))) (projB (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)))
      ∧ r.2.mem ((c.tc : Thread Cert.ReferenceIdeal.nD Cert.ReferenceIdeal.τ).loc Cert.ReferenceIdeal.main_v91) = specDg (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (projA (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg4))) (projB (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v92) = specPa (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v93) = specPb (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v87) = specYa (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v86) = specYb (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) := by
  refine (θ_run Cert.ReferenceIdeal.defs _ _).mono (fun r h c => ?_) (Cert.ReferenceIdeal.Value.run (F := Ideal) m ρ)
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · refine funext fun (i : Cert.KernelIdeal.S8192x1024.Idx) => ?_
    idx_vars i
    pointwise
    rfl
  · refine funext fun (i : Cert.KernelIdeal.S8192x2048.Idx) => ?_
    idx_vars i
    by_cases h1 : i1.val < 1024
    · obtain ⟨k, hk⟩ : ∃ k : Fin 1024, i1.val = k.val := ⟨⟨i1.val, h1⟩, rfl⟩
      obtain rfl : i1 = ⟨k.val, lo_lt k⟩ := Fin.ext hk
      have hm : k.val % 1024 = k.val := by omega
      rw [specDg_lo]
      pointwise
      rw [dif_neg (by omega), dif_pos (by omega), zero_add]
      simp only [dga, dm, ga, sg, projA, hm, mul_assoc]
      try rfl
    · obtain ⟨k, hk⟩ : ∃ k : Fin 1024, i1.val = 1024 + k.val := ⟨⟨i1.val - 1024, by omega⟩, by show i1.val = 1024 + (i1.val - 1024); omega⟩
      obtain rfl : i1 = ⟨1024 + k.val, hi_lt k⟩ := Fin.ext hk
      have hm : (1024 + k.val) % 1024 = k.val := by omega
      rw [specDg_hi]
      pointwise
      rw [dif_pos (by omega), dif_neg (by omega), add_zero]
      simp only [dgb, dm, gb, sg, projB, hm, mul_assoc]
      try rfl
  · refine funext fun (i : Cert.KernelIdeal.S8192x1024.Idx) => ?_
    idx_vars i
    pointwise
    exact mul_comm _ _
  · refine funext fun (i : Cert.KernelIdeal.S8192x1024.Idx) => ?_
    idx_vars i
    pointwise
    exact mul_comm _ _
  · refine funext fun (i : Cert.KernelIdeal.S8192x1024.Idx) => ?_
    idx_vars i
    pointwise
    exact Finset.sum_congr rfl fun k _ => congrArg (· * _) (mul_comm _ _)
  · refine funext fun (i : Cert.KernelIdeal.S8192x512.Idx) => ?_
    idx_vars i
    pointwise
    exact Finset.sum_congr rfl fun k _ => congrArg (· * _) (mul_comm _ _)

/-- The call's six results are the reference's, whatever the arguments hold. -/
theorem algebraic : Cert.algebraic_KernelIdeal_ReferenceIdeal := by
  intro m ρ m' ρ' _ hag
  refine ⟨fun c => specMg (m ((c.tc : Thread Cert.KernelIdeal.nD Cert.KernelIdeal.τ).loc Cert.KernelIdeal.main_arg1)) (projA (m ((c.tc : Thread Cert.KernelIdeal.nD Cert.KernelIdeal.τ).loc Cert.KernelIdeal.main_arg2)) (m ((c.tc : Thread Cert.KernelIdeal.nD Cert.KernelIdeal.τ).loc Cert.KernelIdeal.main_arg4))) (projB (m ((c.tc : Thread Cert.KernelIdeal.nD Cert.KernelIdeal.τ).loc Cert.KernelIdeal.main_arg3)) (m ((c.tc : Thread Cert.KernelIdeal.nD Cert.KernelIdeal.τ).loc Cert.KernelIdeal.main_arg4))), fun c => specDg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (projA (m ((c.tc : Thread Cert.KernelIdeal.nD Cert.KernelIdeal.τ).loc Cert.KernelIdeal.main_arg2)) (m ((c.tc : Thread Cert.KernelIdeal.nD Cert.KernelIdeal.τ).loc Cert.KernelIdeal.main_arg4))) (projB (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)), fun c => specPa (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)), fun c => specPb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)), fun c => specYa (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => specYb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Value.run_blocks (F := Ideal) m ρ)
    have h := h c
    rw [final6, final7, final8, final9, final10, final11, V_projA, V_projB] at h
    exact h
  · refine (θ_run Cert.ReferenceIdeal.defs _ _).mono (fun r h c => ?_) (run_ref m' ρ')
    have e := hag c
    have h := h c
    rw [e.1, e.2.1, e.2.2.1, e.2.2.2.1, e.2.2.2.2.1, e.2.2.2.2.2] at h
    rw [e.1, e.2.1, e.2.2.1, e.2.2.2.1, e.2.2.2.2.1, e.2.2.2.2.2]
    exact h

end Cert.MergeClaim
end
-- ==== Proof.MergeFwdCall.lean ====
/-
  The forward call of the gated merge; and the claims.
-/
module
public import proofs.«01_k».proof.Defs
public import proofs.«01_k».proof.Proof.Gen.MergeFwdIdeal.Value
public import proofs.«01_k».proof.Proof.Gen.MergeFwdRefIdeal.Run
public import Idealize.ShloMosaic.Lib.Pointwise
public import Idealize.ShloMosaic.Lib.Pipeline.ValueKit
public import Idealize.ShloMosaic.Lib.Pipeline.ReadBack
public import Idealize.ShloMosaic.Lib.Quiescent
@[expose] public section
set_option maxRecDepth 16384
noncomputable section
namespace Cert.MergeFwdIdeal.Call
open Cert.MergeFwdIdeal Cert.MergeFwdIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The logistic function. -/
def sg (x : EReal) : EReal := Ideal.div 1 (1 + Ideal.exp (-x))
/-- The first branch's projection. -/
def projA (a : Arr S8192x1024) (w : Arr S1536x1024) : Arr S8192x1024 := fun i =>
  ∑ k : Fin 1024, a (ix2 (i 0) k) * w (ix2 (⟨k.val, by omega⟩ : Fin 1536) (i 1))
/-- The second branch's projection. -/
def projB (b : Arr S8192x512) (w : Arr S1536x1024) : Arr S8192x1024 := fun i =>
  ∑ k : Fin 512, b (ix2 (i 0) k) * w (ix2 (⟨1024 + k.val, by omega⟩ : Fin 1536) (i 1))
/-- The residual row and the gated merge of the two projections, projected. -/
def spec (a : Arr S8192x1024) (b : Arr S8192x512) (g : Arr S8192x2048) (x : Arr S8192x1024) (w : Arr S1536x1024) (o : Arr S1024x1024) : Arr S8192x1024 := fun i =>
  x (ix2 (i 0) (i 1)) + ∑ k : Fin 1024, (sg (g (ix2 (i 0) (⟨k.val, by omega⟩ : Fin 2048))) * projA a w (ix2 (i 0) k)
    + sg (g (ix2 (i 0) (⟨1024 + k.val, by omega⟩ : Fin 2048))) * projB b w (ix2 (i 0) k)) * o (ix2 k (i 1))

theorem N16 : cfg0.N = 16 := N_0

/-- The array row that row `r` of point `t`'s block is. -/
def row (t : Fin cfg0.N) (r : Fin 512) : Fin 8192 := ⟨t.val * 512 + r.val, by have := t.isLt; have := N16; omega⟩

theorem hz : (![0, 0] : Fin 2 → Nat) = fun _ => 0 := funext fun a => by fin_cases a <;> rfl

theorem off0 : ∀ t : Fin cfg0.N, win0_0.index t 0 * win0_0.size 0 = t.val * 512 ∧ win0_0.index t 1 * win0_0.size 1 = 0 :=
  (by decide +kernel : ∀ t : Fin grid0.N, win0_0.index t 0 * win0_0.size 0 = t.val * 512 ∧ win0_0.index t 1 * win0_0.size 1 = 0)
theorem iblk0_apply (c : Dev nD) (t : Fin cfg0.N) (r : Fin 512) (k : Fin 1024) :
    (iblk m c 0 t : S512x1024.Idx → EReal) (ix2 r k) = m ((c : Thread nD τ).loc main_arg0) (ix2 (row t r) k) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val * 512 + r.val
              rw [(off0 t).1]; omega
  | ⟨1, _⟩ => show win0_0.index t 1 * win0_0.size 1 + 1 * k.val = k.val
              rw [(off0 t).2]; omega

theorem off1 : ∀ t : Fin cfg0.N, win0_1.index t 0 * win0_1.size 0 = t.val * 512 ∧ win0_1.index t 1 * win0_1.size 1 = 0 :=
  (by decide +kernel : ∀ t : Fin grid0.N, win0_1.index t 0 * win0_1.size 0 = t.val * 512 ∧ win0_1.index t 1 * win0_1.size 1 = 0)
theorem iblk1_apply (c : Dev nD) (t : Fin cfg0.N) (r : Fin 512) (k : Fin 512) :
    (iblk m c 1 t : S512x512.Idx → EReal) (ix2 r k) = m ((c : Thread nD τ).loc main_arg1) (ix2 (row t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val * 512 + r.val
              rw [(off1 t).1]; omega
  | ⟨1, _⟩ => show win0_1.index t 1 * win0_1.size 1 + 1 * k.val = k.val
              rw [(off1 t).2]; omega

theorem off2 : ∀ t : Fin cfg0.N, win0_2.index t 0 * win0_2.size 0 = t.val * 512 ∧ win0_2.index t 1 * win0_2.size 1 = 0 :=
  (by decide +kernel : ∀ t : Fin grid0.N, win0_2.index t 0 * win0_2.size 0 = t.val * 512 ∧ win0_2.index t 1 * win0_2.size 1 = 0)
theorem iblk2_apply (c : Dev nD) (t : Fin cfg0.N) (r : Fin 512) (k : Fin 2048) :
    (iblk m c 2 t : S512x2048.Idx → EReal) (ix2 r k) = m ((c : Thread nD τ).loc main_arg2) (ix2 (row t r) k) := by
  unfold iblk
  show V m c main_arg2 ((win0_2.rect t).idx (ix2 r k)) = _
  rw [V_main_arg2]
  refine congrArg _ (funext fun a => Fin.ext ?_)
  match a with
  | ⟨0, _⟩ => show win0_2.index t 0 * win0_2.size 0 + 1 * r.val = t.val * 512 + r.val
              rw [(off2 t).1]; omega
  | ⟨1, _⟩ => show win0_2.index t 1 * win0_2.size 1 + 1 * k.val = k.val
              rw [(off2 t).2]; omega

theorem off3 : ∀ t : Fin cfg0.N, win0_3.index t 0 * win0_3.size 0 = t.val * 512 ∧ win0_3.index t 1 * win0_3.size 1 = 0 :=
  (by decide +kernel : ∀ t : Fin grid0.N, win0_3.index t 0 * win0_3.size 0 = t.val * 512 ∧ win0_3.index t 1 * win0_3.size 1 = 0)
theorem iblk3_apply (c : Dev nD) (t : Fin cfg0.N) (r : Fin 512) (k : Fin 1024) :
    (iblk m c 3 t : S512x1024.Idx → EReal) (ix2 r k) = m ((c : Thread nD τ).loc main_arg3) (ix2 (row t r) k) := by
  unfold iblk
  show V m c main_arg3 ((win0_3.rect t).idx (ix2 r k)) = _
  rw [V_main_arg3]
  refine congrArg _ (funext fun a => Fin.ext ?_)
  match a with
  | ⟨0, _⟩ => show win0_3.index t 0 * win0_3.size 0 + 1 * r.val = t.val * 512 + r.val
              rw [(off3 t).1]; omega
  | ⟨1, _⟩ => show win0_3.index t 1 * win0_3.size 1 + 1 * k.val = k.val
              rw [(off3 t).2]; omega

theorem off4 : ∀ t : Fin cfg0.N, win0_4.index t 0 * win0_4.size 0 = 0 ∧ win0_4.index t 1 * win0_4.size 1 = 0 :=
  (by decide +kernel : ∀ t : Fin grid0.N, win0_4.index t 0 * win0_4.size 0 = 0 ∧ win0_4.index t 1 * win0_4.size 1 = 0)
theorem iblk4_apply (c : Dev nD) (t : Fin cfg0.N) (r : Fin 1536) (k : Fin 1024) :
    (iblk m c 4 t : S1536x1024.Idx → EReal) (ix2 r k) = m ((c : Thread nD τ).loc main_arg4) (ix2 r k) := by
  unfold iblk
  show V m c main_arg4 ((win0_4.rect t).idx (ix2 r k)) = _
  rw [V_main_arg4]
  refine congrArg _ (funext fun a => Fin.ext ?_)
  match a with
  | ⟨0, _⟩ => show win0_4.index t 0 * win0_4.size 0 + 1 * r.val = r.val
              rw [(off4 t).1]; omega
  | ⟨1, _⟩ => show win0_4.index t 1 * win0_4.size 1 + 1 * k.val = k.val
              rw [(off4 t).2]; omega

theorem off5 : ∀ t : Fin cfg0.N, win0_5.index t 0 * win0_5.size 0 = 0 ∧ win0_5.index t 1 * win0_5.size 1 = 0 :=
  (by decide +kernel : ∀ t : Fin grid0.N, win0_5.index t 0 * win0_5.size 0 = 0 ∧ win0_5.index t 1 * win0_5.size 1 = 0)
theorem iblk5_apply (c : Dev nD) (t : Fin cfg0.N) (r : Fin 1024) (k : Fin 1024) :
    (iblk m c 5 t : S1024x1024.Idx → EReal) (ix2 r k) = m ((c : Thread nD τ).loc main_arg5) (ix2 r k) := by
  unfold iblk
  show V m c main_arg5 ((win0_5.rect t).idx (ix2 r k)) = _
  rw [V_main_arg5]
  refine congrArg _ (funext fun a => Fin.ext ?_)
  match a with
  | ⟨0, _⟩ => show win0_5.index t 0 * win0_5.size 0 + 1 * r.val = r.val
              rw [(off5 t).1]; omega
  | ⟨1, _⟩ => show win0_5.index t 1 * win0_5.size 1 + 1 * k.val = k.val
              rw [(off5 t).2]; omega

theorem off6 : ∀ t : Fin cfg0.N, win0_6.index t 0 * win0_6.size 0 = t.val * 512 ∧ win0_6.index t 1 * win0_6.size 1 = 0 :=
  (by decide +kernel : ∀ t : Fin grid0.N, win0_6.index t 0 * win0_6.size 0 = t.val * 512 ∧ win0_6.index t 1 * win0_6.size 1 = 0)
/-- An array read through point `t`'s block of window 6. -/
theorem read6_apply (X : Arr S8192x1024) (t : Fin cfg0.N) (r : Fin 512) (k : Fin 1024) :
    ((win0_6.blk t).view.read (Elt Ideal) X : S512x1024.Idx → EReal) (ix2 r k) = X (ix2 (row t r) k) := by
  show X ((win0_6.rect t).idx (ix2 r k)) = _
  refine congrArg _ (funext fun a => Fin.ext ?_)
  match a with
  | ⟨0, _⟩ => show win0_6.index t 0 * win0_6.size 0 + 1 * r.val = t.val * 512 + r.val
              rw [(off6 t).1]; omega
  | ⟨1, _⟩ => show win0_6.index t 1 * win0_6.size 1 + 1 * k.val = k.val
              rw [(off6 t).2]; omega

/-- Every index of the array is in the block of a point that writes back. -/
theorem cover6 (i : S8192x1024.Idx) : ∃ t : Fin cfg0.N, (cfg0.win 6).flush t = true ∧ i ∈ ((cfg0.win 6).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0).val / 512 := ⟨⟨(i 0).val / 512, by omega⟩, rfl⟩
  refine ⟨t, flush0_6 t, ?_⟩
  show i ∈ ((View.whole main_v0_0).slice (win0_6.rect t)).set
  rw [View.set_slice_whole, Rect.mem_set_unit]
  intro a
  match a with
  | ⟨0, _⟩ => show win0_6.index t 0 * win0_6.size 0 ≤ (i 0 : Nat) ∧ (i 0 : Nat) < win0_6.index t 0 * win0_6.size 0 + 512
              rw [(off6 t).1]; omega
  | ⟨1, _⟩ => show win0_6.index t 1 * win0_6.size 1 ≤ (i 1 : Nat) ∧ (i 1 : Nat) < win0_6.index t 1 * win0_6.size 1 + 1024
              rw [(off6 t).2]; omega

theorem off7 : ∀ t : Fin cfg0.N, win0_7.index t 0 * win0_7.size 0 = t.val * 512 ∧ win0_7.index t 1 * win0_7.size 1 = 0 :=
  (by decide +kernel : ∀ t : Fin grid0.N, win0_7.index t 0 * win0_7.size 0 = t.val * 512 ∧ win0_7.index t 1 * win0_7.size 1 = 0)
/-- An array read through point `t`'s block of window 7. -/
theorem read7_apply (X : Arr S8192x1024) (t : Fin cfg0.N) (r : Fin 512) (k : Fin 1024) :
    ((win0_7.blk t).view.read (Elt Ideal) X : S512x1024.Idx → EReal) (ix2 r k) = X (ix2 (row t r) k) := by
  show X ((win0_7.rect t).idx (ix2 r k)) = _
  refine congrArg _ (funext fun a => Fin.ext ?_)
  match a with
  | ⟨0, _⟩ => show win0_7.index t 0 * win0_7.size 0 + 1 * r.val = t.val * 512 + r.val
              rw [(off7 t).1]; omega
  | ⟨1, _⟩ => show win0_7.index t 1 * win0_7.size 1 + 1 * k.val = k.val
              rw [(off7 t).2]; omega

/-- Every index of the array is in the block of a point that writes back. -/
theorem cover7 (i : S8192x1024.Idx) : ∃ t : Fin cfg0.N, (cfg0.win 7).flush t = true ∧ i ∈ ((cfg0.win 7).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0).val / 512 := ⟨⟨(i 0).val / 512, by omega⟩, rfl⟩
  refine ⟨t, flush0_7 t, ?_⟩
  show i ∈ ((View.whole main_v0_1).slice (win0_7.rect t)).set
  rw [View.set_slice_whole, Rect.mem_set_unit]
  intro a
  match a with
  | ⟨0, _⟩ => show win0_7.index t 0 * win0_7.size 0 ≤ (i 0 : Nat) ∧ (i 0 : Nat) < win0_7.index t 0 * win0_7.size 0 + 512
              rw [(off7 t).1]; omega
  | ⟨1, _⟩ => show win0_7.index t 1 * win0_7.size 1 ≤ (i 1 : Nat) ∧ (i 1 : Nat) < win0_7.index t 1 * win0_7.size 1 + 1024
              rw [(off7 t).2]; omega

theorem off8 : ∀ t : Fin cfg0.N, win0_8.index t 0 * win0_8.size 0 = t.val * 512 ∧ win0_8.index t 1 * win0_8.size 1 = 0 :=
  (by decide +kernel : ∀ t : Fin grid0.N, win0_8.index t 0 * win0_8.size 0 = t.val * 512 ∧ win0_8.index t 1 * win0_8.size 1 = 0)
/-- An array read through point `t`'s block of window 8. -/
theorem read8_apply (X : Arr S8192x1024) (t : Fin cfg0.N) (r : Fin 512) (k : Fin 1024) :
    ((win0_8.blk t).view.read (Elt Ideal) X : S512x1024.Idx → EReal) (ix2 r k) = X (ix2 (row t r) k) := by
  show X ((win0_8.rect t).idx (ix2 r k)) = _
  refine congrArg _ (funext fun a => Fin.ext ?_)
  match a with
  | ⟨0, _⟩ => show win0_8.index t 0 * win0_8.size 0 + 1 * r.val = t.val * 512 + r.val
              rw [(off8 t).1]; omega
  | ⟨1, _⟩ => show win0_8.index t 1 * win0_8.size 1 + 1 * k.val = k.val
              rw [(off8 t).2]; omega

/-- Every index of the array is in the block of a point that writes back. -/
theorem cover8 (i : S8192x1024.Idx) : ∃ t : Fin cfg0.N, (cfg0.win 8).flush t = true ∧ i ∈ ((cfg0.win 8).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0).val / 512 := ⟨⟨(i 0).val / 512, by omega⟩, rfl⟩
  refine ⟨t, flush0_8 t, ?_⟩
  show i ∈ ((View.whole main_v0_2).slice (win0_8.rect t)).set
  rw [View.set_slice_whole, Rect.mem_set_unit]
  intro a
  match a with
  | ⟨0, _⟩ => show win0_8.index t 0 * win0_8.size 0 ≤ (i 0 : Nat) ∧ (i 0 : Nat) < win0_8.index t 0 * win0_8.size 0 + 512
              rw [(off8 t).1]; omega
  | ⟨1, _⟩ => show win0_8.index t 1 * win0_8.size 1 ≤ (i 1 : Nat) ∧ (i 1 : Nat) < win0_8.index t 1 * win0_8.size 1 + 1024
              rw [(off8 t).2]; omega

set_option maxHeartbeats 1000000 in
/-- What point `t` writes back is block `t` of the array's function. -/
theorem flush_eq6 (c : Dev nD) (t : Fin cfg0.N) :
    (dats m 0 c).flushed 6 t = (win0_6.blk t).view.read (Elt Ideal) (spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 6).cut (grid0.coords t) ((dats m 0 c).after 6 t) = _
  rw [after0_6]
  unfold out0_6
  rw [View.canon_unit_zero hz]
  refine funext fun (j : S512x1024.Idx) => ?_
  idx_vars j
  refine Eq.trans ?_ (read6_apply _ t j0 j1).symm
  show (k0_pay3 (View.ld (iblk m c 0 t) r0_0) (View.ld (iblk m c 4 t) r0_1) (View.ld (iblk m c 1 t) r0_2) (View.ld (iblk m c 4 t) r0_3) (View.ld (iblk m c 2 t) r0_4) (View.ld (iblk m c 3 t) r0_0) (View.ld (iblk m c 5 t) r0_5)) (ix2 j0 j1) = _
  pointwise [k0_pay1, k0_pay2, k0_pay3, k0_pay4, k0_pay5]
  simp only [iblk0_apply, iblk1_apply, iblk2_apply, iblk3_apply, iblk4_apply, iblk5_apply, spec, projA, projB, sg, zero_sub]
  try rfl

theorem final6 (c : Dev nD) : (dats m 0 c).arrAt 6 cfg0.N = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flush_eq6 m c t) cover6

set_option maxHeartbeats 1000000 in
/-- What point `t` writes back is block `t` of the array's function. -/
theorem flush_eq7 (c : Dev nD) (t : Fin cfg0.N) :
    (dats m 0 c).flushed 7 t = (win0_7.blk t).view.read (Elt Ideal) (projA (m ((c : Thread nD τ).loc main_arg0)) (m ((c : Thread nD τ).loc main_arg4))) := by
  show (cfg0.win 7).cut (grid0.coords t) ((dats m 0 c).after 7 t) = _
  rw [after0_7]
  unfold out0_7
  rw [View.canon_unit_zero hz]
  refine funext fun (j : S512x1024.Idx) => ?_
  idx_vars j
  refine Eq.trans ?_ (read7_apply _ t j0 j1).symm
  show (k0_pay4 (View.ld (iblk m c 0 t) r0_0) (View.ld (iblk m c 4 t) r0_1)) (ix2 j0 j1) = _
  pointwise [k0_pay1, k0_pay2, k0_pay3, k0_pay4, k0_pay5]
  simp only [iblk0_apply, iblk1_apply, iblk2_apply, iblk3_apply, iblk4_apply, iblk5_apply, spec, projA, projB, sg, zero_sub]
  try rfl

theorem final7 (c : Dev nD) : (dats m 0 c).arrAt 7 cfg0.N = projA (m ((c : Thread nD τ).loc main_arg0)) (m ((c : Thread nD τ).loc main_arg4)) :=
  (dats m 0 c).arrAt_eq_of_cover 7 _ (fun t _ => flush_eq7 m c t) cover7

set_option maxHeartbeats 1000000 in
/-- What point `t` writes back is block `t` of the array's function. -/
theorem flush_eq8 (c : Dev nD) (t : Fin cfg0.N) :
    (dats m 0 c).flushed 8 t = (win0_8.blk t).view.read (Elt Ideal) (projB (m ((c : Thread nD τ).loc main_arg1)) (m ((c : Thread nD τ).loc main_arg4))) := by
  show (cfg0.win 8).cut (grid0.coords t) ((dats m 0 c).after 8 t) = _
  rw [after0_8]
  unfold out0_8
  rw [View.canon_unit_zero hz]
  refine funext fun (j : S512x1024.Idx) => ?_
  idx_vars j
  refine Eq.trans ?_ (read8_apply _ t j0 j1).symm
  show (k0_pay5 (View.ld (iblk m c 1 t) r0_2) (View.ld (iblk m c 4 t) r0_3)) (ix2 j0 j1) = _
  pointwise [k0_pay1, k0_pay2, k0_pay3, k0_pay4, k0_pay5]
  simp only [iblk0_apply, iblk1_apply, iblk2_apply, iblk3_apply, iblk4_apply, iblk5_apply, spec, projA, projB, sg, zero_sub]
  try rfl

theorem final8 (c : Dev nD) : (dats m 0 c).arrAt 8 cfg0.N = projB (m ((c : Thread nD τ).loc main_arg1)) (m ((c : Thread nD τ).loc main_arg4)) :=
  (dats m 0 c).arrAt_eq_of_cover 8 _ (fun t _ => flush_eq8 m c t) cover8

end Cert.MergeFwdIdeal.Call

namespace Cert.MergeFwdIdeal.Claims
open Idealize.ShloMosaic Idealize.ShloMosaic.TcCoe Idealize.SL.Sem
open Cert.MergeFwdIdeal.Call

/-- The reference's frame: its host operations leave the arguments, and it declares no semaphore. -/
theorem frame_ref : Cert.quiescent_MergeFwdRefIdeal := fun m ρ _ =>
  (θ_run Cert.MergeFwdRefIdeal.defs _ _).mono (fun r h => ⟨fun c => (h c).2.2.2,
      Idealize.ShloMosaic.sem_eq_zero_of_no_sems (by decide) r.2⟩)
    (Cert.MergeFwdRefIdeal.Value.run (F := Ideal) m ρ)

set_option maxHeartbeats 2000000 in
/-- The reference's run: its results as functions of its arguments, which it leaves. -/
theorem run_ref (m : (ℓ : Loc Cert.MergeFwdRefIdeal.nD Cert.MergeFwdRefIdeal.τ Cert.MergeFwdRefIdeal.sig) → Buf (Elt Ideal) ℓ) (ρ : Dev Cert.MergeFwdRefIdeal.nD → PrngReg) :
    θ_run Cert.MergeFwdRefIdeal.defs (onTc (τ := Cert.MergeFwdRefIdeal.τ) (Cert.MergeFwdRefIdeal.main (F := Ideal))) ⟨m, fun _ => 0, ρ⟩ fun r => ∀ c : Dev Cert.MergeFwdRefIdeal.nD,
      r.2.mem ((c.tc : Thread Cert.MergeFwdRefIdeal.nD Cert.MergeFwdRefIdeal.τ).loc Cert.MergeFwdRefIdeal.main_v24) = spec (m ((c.tc : Thread Cert.MergeFwdRefIdeal.nD Cert.MergeFwdRefIdeal.τ).loc Cert.MergeFwdRefIdeal.main_arg0)) (m ((c.tc : Thread Cert.MergeFwdRefIdeal.nD Cert.MergeFwdRefIdeal.τ).loc Cert.MergeFwdRefIdeal.main_arg1)) (m ((c.tc : Thread Cert.MergeFwdRefIdeal.nD Cert.MergeFwdRefIdeal.τ).loc Cert.MergeFwdRefIdeal.main_arg2)) (m ((c.tc : Thread Cert.MergeFwdRefIdeal.nD Cert.MergeFwdRefIdeal.τ).loc Cert.MergeFwdRefIdeal.main_arg3)) (m ((c.tc : Thread Cert.MergeFwdRefIdeal.nD Cert.MergeFwdRefIdeal.τ).loc Cert.MergeFwdRefIdeal.main_arg4)) (m ((c.tc : Thread Cert.MergeFwdRefIdeal.nD Cert.MergeFwdRefIdeal.τ).loc Cert.MergeFwdRefIdeal.main_arg5))
      ∧ r.2.mem ((c.tc : Thread Cert.MergeFwdRefIdeal.nD Cert.MergeFwdRefIdeal.τ).loc Cert.MergeFwdRefIdeal.main_v27) = projA (m ((c.tc : Thread Cert.MergeFwdRefIdeal.nD Cert.MergeFwdRefIdeal.τ).loc Cert.MergeFwdRefIdeal.main_arg0)) (m ((c.tc : Thread Cert.MergeFwdRefIdeal.nD Cert.MergeFwdRefIdeal.τ).loc Cert.MergeFwdRefIdeal.main_arg4))
      ∧ r.2.mem ((c.tc : Thread Cert.MergeFwdRefIdeal.nD Cert.MergeFwdRefIdeal.τ).loc Cert.MergeFwdRefIdeal.main_v30) = projB (m ((c.tc : Thread Cert.MergeFwdRefIdeal.nD Cert.MergeFwdRefIdeal.τ).loc Cert.MergeFwdRefIdeal.main_arg1)) (m ((c.tc : Thread Cert.MergeFwdRefIdeal.nD Cert.MergeFwdRefIdeal.τ).loc Cert.MergeFwdRefIdeal.main_arg4))
      ∧ r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5) := by
  refine (θ_run Cert.MergeFwdRefIdeal.defs _ _).mono (fun r h c => ?_) (Cert.MergeFwdRefIdeal.Value.run (F := Ideal) m ρ)
  refine ⟨(h c).1.trans ?_, (h c).2.1.trans ?_, (h c).2.2.1.trans ?_, (h c).2.2.2⟩
  · refine funext fun (i : S8192x1024.Idx) => ?_
    idx_vars i
    pointwise
    rfl
  · refine funext fun (i : S8192x1024.Idx) => ?_
    idx_vars i
    pointwise
    rfl
  · refine funext fun (i : S8192x1024.Idx) => ?_
    idx_vars i
    pointwise
    rfl

/-- The call's results are the reference's, whatever the arguments hold. -/
theorem algebraic : Cert.algebraic_MergeFwdIdeal_MergeFwdRefIdeal := by
  intro m ρ m' ρ' _ hag
  refine ⟨fun c => spec (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5)), fun c => projA (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg4)), fun c => projB (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg4)), ?_, ?_⟩
  · refine (θ_run Cert.MergeFwdIdeal.defs _ _).mono (fun r h c => ?_) (Cert.MergeFwdIdeal.Value.run_blocks (F := Ideal) m ρ)
    have h := h c
    rw [final6, final7, final8] at h
    exact h
  · refine (θ_run Cert.MergeFwdRefIdeal.defs _ _).mono (fun r h c => ?_) (run_ref m' ρ')
    have e := hag c
    have h := h c
    rw [e.1, e.2.1, e.2.2.1, e.2.2.2.1, e.2.2.2.2.1, e.2.2.2.2.2] at h
    rw [e.1, e.2.1, e.2.2.1, e.2.2.2.1, e.2.2.2.2.1, e.2.2.2.2.2]
    exact h

end Cert.MergeFwdIdeal.Claims
end
-- ==== Proof.MlpInCall.lean ====
/-
  The forward call of the normalisation and the two-layer network's first layer; and the claims.
-/
module
public import proofs.«01_k».proof.Defs
public import proofs.«01_k».proof.Proof.Gen.MlpInIdeal.Value
public import proofs.«01_k».proof.Proof.Gen.MlpInRefIdeal.Run
public import Idealize.ShloMosaic.Lib.Pointwise
public import Idealize.ShloMosaic.Lib.Pipeline.ValueKit
public import Idealize.ShloMosaic.Lib.Pipeline.ReadBack
public import Idealize.ShloMosaic.Lib.Quiescent
@[expose] public section
set_option maxRecDepth 16384
noncomputable section
namespace Cert.MlpInIdeal.Call
open Cert.MlpInIdeal Cert.MlpInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The row's reciprocal root mean square. -/
def inv (x : Arr S8192x1024) (r : Fin 8192) : EReal :=
  Ideal.rsqrt (Ideal.div (∑ k : Fin 1024, x (ix2 r k) * x (ix2 r k)) (Ideal.ofBits .f32 0x44800000#32) + Ideal.ofBits .f32 0x358637BD#32)
/-- The normalised rows. -/
def norm (x : Arr S8192x1024) (g : Arr S1024) : Arr S8192x1024 := fun i =>
  x (ix2 (i 0) (i 1)) * inv x (i 0) * g (ix1 (i 1))
/-- The hidden rows: the normalised rows against the weight, whose columns are stacked by eighths. -/
def hid (x : Arr S8192x1024) (g : Arr S1024) (w : Arr S8x1024x512) : Arr S8192x4096 := fun i =>
  ∑ k : Fin 1024, norm x g (ix2 (i 0) k) * w (ix3 (⟨(i 1).val / 512, by have : (i 1).val < 4096 := (i 1).isLt; omega⟩ : Fin 8) k (⟨(i 1).val % 512, by omega⟩ : Fin 512))

theorem N16 : cfg0.N = 16 := N_0

/-- The array row that row `r` of point `t`'s block is. -/
def row (t : Fin cfg0.N) (r : Fin 512) : Fin 8192 := ⟨t.val * 512 + r.val, by have := t.isLt; have := N16; omega⟩

theorem hz : (![0, 0] : Fin 2 → Nat) = fun _ => 0 := funext fun a => by fin_cases a <;> rfl

theorem off0 : ∀ t : Fin cfg0.N, win0_0.index t 0 * win0_0.size 0 = t.val * 512 ∧ win0_0.index t 1 * win0_0.size 1 = 0 :=
  (by decide +kernel : ∀ t : Fin grid0.N, win0_0.index t 0 * win0_0.size 0 = t.val * 512 ∧ win0_0.index t 1 * win0_0.size 1 = 0)
theorem iblk0_apply (c : Dev nD) (t : Fin cfg0.N) (r : Fin 512) (k : Fin 1024) :
    (iblk m c 0 t : S512x1024.Idx → EReal) (ix2 r k) = m ((c : Thread nD τ).loc main_arg0) (ix2 (row t r) k) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val * 512 + r.val
              rw [(off0 t).1]; omega
  | ⟨1, _⟩ => show win0_0.index t 1 * win0_0.size 1 + 1 * k.val = k.val
              rw [(off0 t).2]; omega

theorem off1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)
theorem iblk1_apply (c : Dev nD) (t : Fin cfg0.N) (r : Fin 1) (k : Fin 1024) :
    (iblk m c 1 t : S1x1024.Idx → EReal) (ix2 r k) = V m c main_v0 (ix2 r k) := by
  unfold iblk
  show V m c main_v0 ((win0_1.rect t).idx (ix2 r k)) = _
  refine congrArg _ (funext fun a => Fin.ext ?_)
  match a with
  | ⟨0, _⟩ => show win0_1.index t 0 * win0_1.size 0 + 1 * r.val = r.val
              rw [(off1 t).1]; omega
  | ⟨1, _⟩ => show win0_1.index t 1 * win0_1.size 1 + 1 * k.val = k.val
              rw [(off1 t).2]; omega

theorem off2 : ∀ t : Fin cfg0.N, win0_2.index t 0 * win0_2.size 0 = 0 ∧ win0_2.index t 1 * win0_2.size 1 = 0 ∧ win0_2.index t 2 * win0_2.size 2 = 0 :=
  (by decide +kernel : ∀ t : Fin grid0.N, win0_2.index t 0 * win0_2.size 0 = 0 ∧ win0_2.index t 1 * win0_2.size 1 = 0 ∧ win0_2.index t 2 * win0_2.size 2 = 0)
theorem iblk2_apply (c : Dev nD) (t : Fin cfg0.N) (s : Fin 8) (r : Fin 1024) (k : Fin 512) :
    (iblk m c 2 t : S8x1024x512.Idx → EReal) (ix3 s r k) = m ((c : Thread nD τ).loc main_arg2) (ix3 s r k) := by
  unfold iblk
  show V m c main_arg2 ((win0_2.rect t).idx (ix3 s r k)) = _
  rw [V_main_arg2]
  refine congrArg _ (funext fun a => Fin.ext ?_)
  match a with
  | ⟨0, _⟩ => show win0_2.index t 0 * win0_2.size 0 + 1 * s.val = s.val
              rw [(off2 t).1]; omega
  | ⟨1, _⟩ => show win0_2.index t 1 * win0_2.size 1 + 1 * r.val = r.val
              rw [(off2 t).2.1]; omega
  | ⟨2, _⟩ => show win0_2.index t 2 * win0_2.size 2 + 1 * k.val = k.val
              rw [(off2 t).2.2]; omega

/-- The gain as the row the call is handed. -/
theorem V_gain (c : Dev nD) (k : Fin 1024) : V m c main_v0 (ix2 (0 : Fin 1) k) = m ((c : Thread nD τ).loc main_arg1) (ix1 k) := by
  unfold V hostOps0
  after_results_simp
  pointwise

theorem off3 : ∀ t : Fin cfg0.N, win0_3.index t 0 * win0_3.size 0 = t.val * 512 ∧ win0_3.index t 1 * win0_3.size 1 = 0 :=
  (by decide +kernel : ∀ t : Fin grid0.N, win0_3.index t 0 * win0_3.size 0 = t.val * 512 ∧ win0_3.index t 1 * win0_3.size 1 = 0)
/-- An array read through point `t`'s block of window 3. -/
theorem read3_apply (X : Arr S8192x1024) (t : Fin cfg0.N) (r : Fin 512) (k : Fin 1024) :
    ((win0_3.blk t).view.read (Elt Ideal) X : S512x1024.Idx → EReal) (ix2 r k) = X (ix2 (row t r) k) := by
  show X ((win0_3.rect t).idx (ix2 r k)) = _
  refine congrArg _ (funext fun a => Fin.ext ?_)
  match a with
  | ⟨0, _⟩ => show win0_3.index t 0 * win0_3.size 0 + 1 * r.val = t.val * 512 + r.val
              rw [(off3 t).1]; omega
  | ⟨1, _⟩ => show win0_3.index t 1 * win0_3.size 1 + 1 * k.val = k.val
              rw [(off3 t).2]; omega

/-- Every index of the array is in the block of a point that writes back. -/
theorem cover3 (i : S8192x1024.Idx) : ∃ t : Fin cfg0.N, (cfg0.win 3).flush t = true ∧ i ∈ ((cfg0.win 3).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0).val / 512 := ⟨⟨(i 0).val / 512, by omega⟩, rfl⟩
  refine ⟨t, flush0_3 t, ?_⟩
  show i ∈ ((View.whole main_v1_0).slice (win0_3.rect t)).set
  rw [View.set_slice_whole, Rect.mem_set_unit]
  intro a
  match a with
  | ⟨0, _⟩ => show win0_3.index t 0 * win0_3.size 0 ≤ (i 0 : Nat) ∧ (i 0 : Nat) < win0_3.index t 0 * win0_3.size 0 + 512
              rw [(off3 t).1]; omega
  | ⟨1, _⟩ => show win0_3.index t 1 * win0_3.size 1 ≤ (i 1 : Nat) ∧ (i 1 : Nat) < win0_3.index t 1 * win0_3.size 1 + 1024
              rw [(off3 t).2]; omega

theorem off4 : ∀ t : Fin cfg0.N, win0_4.index t 0 * win0_4.size 0 = t.val * 512 ∧ win0_4.index t 1 * win0_4.size 1 = 0 :=
  (by decide +kernel : ∀ t : Fin grid0.N, win0_4.index t 0 * win0_4.size 0 = t.val * 512 ∧ win0_4.index t 1 * win0_4.size 1 = 0)
/-- An array read through point `t`'s block of window 4. -/
theorem read4_apply (X : Arr S8192x4096) (t : Fin cfg0.N) (r : Fin 512) (k : Fin 4096) :
    ((win0_4.blk t).view.read (Elt Ideal) X : S512x4096.Idx → EReal) (ix2 r k) = X (ix2 (row t r) k) := by
  show X ((win0_4.rect t).idx (ix2 r k)) = _
  refine congrArg _ (funext fun a => Fin.ext ?_)
  match a with
  | ⟨0, _⟩ => show win0_4.index t 0 * win0_4.size 0 + 1 * r.val = t.val * 512 + r.val
              rw [(off4 t).1]; omega
  | ⟨1, _⟩ => show win0_4.index t 1 * win0_4.size 1 + 1 * k.val = k.val
              rw [(off4 t).2]; omega

/-- Every index of the array is in the block of a point that writes back. -/
theorem cover4 (i : S8192x4096.Idx) : ∃ t : Fin cfg0.N, (cfg0.win 4).flush t = true ∧ i ∈ ((cfg0.win 4).blk t).view.set := by
  have h0 : (i 0 : Nat) < 8192 := (i 0).isLt
  have h1 : (i 1 : Nat) < 4096 := (i 1).isLt
  have hN : cfg0.N = 16 := N_0
  obtain ⟨t, ht⟩ : ∃ t : Fin cfg0.N, t.val = (i 0).val / 512 := ⟨⟨(i 0).val / 512, by omega⟩, rfl⟩
  refine ⟨t, flush0_4 t, ?_⟩
  show i ∈ ((View.whole main_v1_1).slice (win0_4.rect t)).set
  rw [View.set_slice_whole, Rect.mem_set_unit]
  intro a
  match a with
  | ⟨0, _⟩ => show win0_4.index t 0 * win0_4.size 0 ≤ (i 0 : Nat) ∧ (i 0 : Nat) < win0_4.index t 0 * win0_4.size 0 + 512
              rw [(off4 t).1]; omega
  | ⟨1, _⟩ => show win0_4.index t 1 * win0_4.size 1 ≤ (i 1 : Nat) ∧ (i 1 : Nat) < win0_4.index t 1 * win0_4.size 1 + 4096
              rw [(off4 t).2]; omega

theorem pay1_apply (c : Dev nD) (t : Fin cfg0.N) (r : Fin 512) (k : Fin 1024) :
    k0_pay1 (View.ld (iblk m c 0 t) r0_0) (View.ld (iblk m c 1 t) r0_1) (ix2 r k) = norm (m ((c : Thread nD τ).loc main_arg0)) (m ((c : Thread nD τ).loc main_arg1)) (ix2 (row t r) k) := by
  pointwise [k0_pay1]
  simp only [iblk0_apply, iblk1_apply, norm, inv]
  exact congrArg (fun q : EReal => _ * q) (V_gain m c k)

theorem col_lt (e : Fin 8) (k : Fin 512) : e.val * 512 + k.val < 4096 := by omega
/-- The hidden rows at a column of the eighth `e`. -/
theorem hid_apply (x : Arr S8192x1024) (g : Arr S1024) (w : Arr S8x1024x512) (r : Fin 8192) (e : Fin 8) (k : Fin 512) :
    hid x g w (ix2 r ⟨e.val * 512 + k.val, col_lt e k⟩) = ∑ j : Fin 1024, norm x g (ix2 r j) * w (ix3 e j k) := by
  unfold hid
  refine Finset.sum_congr rfl fun j _ => ?_
  have e1 : (⟨(e.val * 512 + k.val) / 512, by omega⟩ : Fin 8) = e := Fin.ext (by show (e.val * 512 + k.val) / 512 = e.val; omega)
  have e2 : (⟨(e.val * 512 + k.val) % 512, by omega⟩ : Fin 512) = k := Fin.ext (by show (e.val * 512 + k.val) % 512 = k.val; omega)
  show _ * w (ix3 ⟨(e.val * 512 + k.val) / 512, _⟩ j ⟨(e.val * 512 + k.val) % 512, _⟩) = _
  rw [e1, e2]
  try rfl

/-- Point `t`'s rows of an array. -/
def blk4 (t : Fin cfg0.N) (X : Arr S8192x4096) : Arr S512x4096 := fun y => X (ix2 (row t (y 0)) (y 1))
theorem blk4_apply (t : Fin cfg0.N) (X : Arr S8192x4096) (r : Fin 512) (k : Fin 4096) : blk4 t X (ix2 r k) = X (ix2 (row t r) k) := rfl

set_option maxHeartbeats 1000000 in
/-- What point `t` writes back is block `t` of the array's function. -/
theorem flush_eq3 (c : Dev nD) (t : Fin cfg0.N) :
    (dats m 0 c).flushed 3 t = (win0_3.blk t).view.read (Elt Ideal) (norm (m ((c : Thread nD τ).loc main_arg0)) (m ((c : Thread nD τ).loc main_arg1))) := by
  show (cfg0.win 3).cut (grid0.coords t) ((dats m 0 c).after 3 t) = _
  rw [after0_3]
  unfold out0_3
  rw [View.canon_unit_zero hz]
  refine funext fun (j : S512x1024.Idx) => ?_
  idx_vars j
  exact (pay1_apply m c t j0 j1).trans (read3_apply _ t j0 j1).symm

set_option maxHeartbeats 1000000 in
/-- What point `t` writes back is block `t` of the array's function. -/
theorem flush_eq4 (c : Dev nD) (t : Fin cfg0.N) :
    (dats m 0 c).flushed 4 t = (win0_4.blk t).view.read (Elt Ideal) (hid (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  refine funext fun (j : S512x4096.Idx) => ?_
  idx_vars j
  refine Eq.trans ?_ (read4_apply _ t j0 j1).symm
  show out0_4 _ _ _ (ix2 j0 j1) = _
  unfold out0_4 k0_pay10
  refine View.canon_apply_of_pieces (Val := Elt Ideal) (e := .bf16) (blk4 t (hid (m ((c : Thread nD τ).loc main_arg0)) (m ((c : Thread nD τ).loc main_arg1)) (m ((c : Thread nD τ).loc main_arg2)))) _ ?_ (ix2 j0 j1) (cover0_4 _ _ _ _ _ _ _ _ _)
  refine View.PiecesOf.mem ⟨?_, ?_, ?_, ?_, ?_, ?_, ?_, ?_, trivial⟩
  · refine fun (x : S512x512.Idx) => ?_
    idx_vars x
    show k0_pay9 (k0_pay1 (View.ld (iblk m c 0 t) r0_0) (View.ld (iblk m c 1 t) r0_1)) (View.ld (iblk m c 2 t) r0_16) (ix2 x0 x1) = _
    have ex : r0_17.idx (ix2 x0 x1) = ix2 x0 (⟨(⟨7, by omega⟩ : Fin 8).val * 512 + x1.val, by show 7 * 512 + x1.val < 4096; omega⟩ : Fin 4096) := by pointwise
    refine Eq.trans ?_ (congrArg (blk4 t _) (show r0_17.emb (ix2 x0 x1) = _ from ex)).symm
    rw [blk4_apply, hid_apply]
    pointwise [k0_pay9]
    refine Finset.sum_congr rfl fun k _ => ?_
    rw [pay1_apply, iblk2_apply]
  · refine fun (x : S512x512.Idx) => ?_
    idx_vars x
    show k0_pay8 (k0_pay1 (View.ld (iblk m c 0 t) r0_0) (View.ld (iblk m c 1 t) r0_1)) (View.ld (iblk m c 2 t) r0_14) (ix2 x0 x1) = _
    have ex : r0_15.idx (ix2 x0 x1) = ix2 x0 (⟨(⟨6, by omega⟩ : Fin 8).val * 512 + x1.val, by show 6 * 512 + x1.val < 4096; omega⟩ : Fin 4096) := by pointwise
    refine Eq.trans ?_ (congrArg (blk4 t _) (show r0_15.emb (ix2 x0 x1) = _ from ex)).symm
    rw [blk4_apply, hid_apply]
    pointwise [k0_pay8]
    refine Finset.sum_congr rfl fun k _ => ?_
    rw [pay1_apply, iblk2_apply]
  · refine fun (x : S512x512.Idx) => ?_
    idx_vars x
    show k0_pay7 (k0_pay1 (View.ld (iblk m c 0 t) r0_0) (View.ld (iblk m c 1 t) r0_1)) (View.ld (iblk m c 2 t) r0_12) (ix2 x0 x1) = _
    have ex : r0_13.idx (ix2 x0 x1) = ix2 x0 (⟨(⟨5, by omega⟩ : Fin 8).val * 512 + x1.val, by show 5 * 512 + x1.val < 4096; omega⟩ : Fin 4096) := by pointwise
    refine Eq.trans ?_ (congrArg (blk4 t _) (show r0_13.emb (ix2 x0 x1) = _ from ex)).symm
    rw [blk4_apply, hid_apply]
    pointwise [k0_pay7]
    refine Finset.sum_congr rfl fun k _ => ?_
    rw [pay1_apply, iblk2_apply]
  · refine fun (x : S512x512.Idx) => ?_
    idx_vars x
    show k0_pay6 (k0_pay1 (View.ld (iblk m c 0 t) r0_0) (View.ld (iblk m c 1 t) r0_1)) (View.ld (iblk m c 2 t) r0_10) (ix2 x0 x1) = _
    have ex : r0_11.idx (ix2 x0 x1) = ix2 x0 (⟨(⟨4, by omega⟩ : Fin 8).val * 512 + x1.val, by show 4 * 512 + x1.val < 4096; omega⟩ : Fin 4096) := by pointwise
    refine Eq.trans ?_ (congrArg (blk4 t _) (show r0_11.emb (ix2 x0 x1) = _ from ex)).symm
    rw [blk4_apply, hid_apply]
    pointwise [k0_pay6]
    refine Finset.sum_congr rfl fun k _ => ?_
    rw [pay1_apply, iblk2_apply]
  · refine fun (x : S512x512.Idx) => ?_
    idx_vars x
    show k0_pay5 (k0_pay1 (View.ld (iblk m c 0 t) r0_0) (View.ld (iblk m c 1 t) r0_1)) (View.ld (iblk m c 2 t) r0_8) (ix2 x0 x1) = _
    have ex : r0_9.idx (ix2 x0 x1) = ix2 x0 (⟨(⟨3, by omega⟩ : Fin 8).val * 512 + x1.val, by show 3 * 512 + x1.val < 4096; omega⟩ : Fin 4096) := by pointwise
    refine Eq.trans ?_ (congrArg (blk4 t _) (show r0_9.emb (ix2 x0 x1) = _ from ex)).symm
    rw [blk4_apply, hid_apply]
    pointwise [k0_pay5]
    refine Finset.sum_congr rfl fun k _ => ?_
    rw [pay1_apply, iblk2_apply]
  · refine fun (x : S512x512.Idx) => ?_
    idx_vars x
    show k0_pay4 (View.ld (iblk m c 0 t) r0_0) (View.ld (iblk m c 1 t) r0_1) (View.ld (iblk m c 2 t) r0_6) (ix2 x0 x1) = _
    have ex : r0_7.idx (ix2 x0 x1) = ix2 x0 (⟨(⟨2, by omega⟩ : Fin 8).val * 512 + x1.val, by show 2 * 512 + x1.val < 4096; omega⟩ : Fin 4096) := by pointwise
    refine Eq.trans ?_ (congrArg (blk4 t _) (show r0_7.emb (ix2 x0 x1) = _ from ex)).symm
    rw [blk4_apply, hid_apply]
    pointwise [k0_pay4]
    refine Finset.sum_congr rfl fun k _ => ?_
    rw [pay1_apply, iblk2_apply]
  · refine fun (x : S512x512.Idx) => ?_
    idx_vars x
    show k0_pay3 (View.ld (iblk m c 0 t) r0_0) (View.ld (iblk m c 1 t) r0_1) (View.ld (iblk m c 2 t) r0_4) (ix2 x0 x1) = _
    have ex : r0_5.idx (ix2 x0 x1) = ix2 x0 (⟨(⟨1, by omega⟩ : Fin 8).val * 512 + x1.val, by show 1 * 512 + x1.val < 4096; omega⟩ : Fin 4096) := by pointwise
    refine Eq.trans ?_ (congrArg (blk4 t _) (show r0_5.emb (ix2 x0 x1) = _ from ex)).symm
    rw [blk4_apply, hid_apply]
    pointwise [k0_pay3]
    refine Finset.sum_congr rfl fun k _ => ?_
    rw [pay1_apply, iblk2_apply]
  · refine fun (x : S512x512.Idx) => ?_
    idx_vars x
    show k0_pay2 (View.ld (iblk m c 0 t) r0_0) (View.ld (iblk m c 1 t) r0_1) (View.ld (iblk m c 2 t) r0_2) (ix2 x0 x1) = _
    have ex : r0_3.idx (ix2 x0 x1) = ix2 x0 (⟨(⟨0, by omega⟩ : Fin 8).val * 512 + x1.val, by show 0 * 512 + x1.val < 4096; omega⟩ : Fin 4096) := by pointwise
    refine Eq.trans ?_ (congrArg (blk4 t _) (show r0_3.emb (ix2 x0 x1) = _ from ex)).symm
    rw [blk4_apply, hid_apply]
    pointwise [k0_pay2]
    refine Finset.sum_congr rfl fun k _ => ?_
    rw [pay1_apply, iblk2_apply]
theorem final3 (c : Dev nD) : (dats m 0 c).arrAt 3 cfg0.N = norm (m ((c : Thread nD τ).loc main_arg0)) (m ((c : Thread nD τ).loc main_arg1)) :=
  (dats m 0 c).arrAt_eq_of_cover 3 _ (fun t _ => flush_eq3 m c t) cover3

theorem final4 (c : Dev nD) : (dats m 0 c).arrAt 4 cfg0.N = hid (m ((c : Thread nD τ).loc main_arg0)) (m ((c : Thread nD τ).loc main_arg1)) (m ((c : Thread nD τ).loc main_arg2)) :=
  (dats m 0 c).arrAt_eq_of_cover 4 _ (fun t _ => flush_eq4 m c t) cover4

end Cert.MlpInIdeal.Call

namespace Cert.MlpInIdeal.Claims
open Idealize.ShloMosaic Idealize.ShloMosaic.TcCoe Idealize.SL.Sem
open Cert.MlpInIdeal.Call

/-- The reference's frame: its host operations leave the arguments, and it declares no semaphore. -/
theorem frame_ref : Cert.quiescent_MlpInRefIdeal := fun m ρ _ =>
  (θ_run Cert.MlpInRefIdeal.defs _ _).mono (fun r h => ⟨fun c => (h c).2.2,
      Idealize.ShloMosaic.sem_eq_zero_of_no_sems (by decide) r.2⟩)
    (Cert.MlpInRefIdeal.Value.run (F := Ideal) m ρ)

set_option maxHeartbeats 2000000 in
/-- The reference's run: its results as functions of its arguments, which it leaves. -/
theorem run_ref (m : (ℓ : Loc Cert.MlpInRefIdeal.nD Cert.MlpInRefIdeal.τ Cert.MlpInRefIdeal.sig) → Buf (Elt Ideal) ℓ) (ρ : Dev Cert.MlpInRefIdeal.nD → PrngReg) :
    θ_run Cert.MlpInRefIdeal.defs (onTc (τ := Cert.MlpInRefIdeal.τ) (Cert.MlpInRefIdeal.main (F := Ideal))) ⟨m, fun _ => 0, ρ⟩ fun r => ∀ c : Dev Cert.MlpInRefIdeal.nD,
      r.2.mem ((c.tc : Thread Cert.MlpInRefIdeal.nD Cert.MlpInRefIdeal.τ).loc Cert.MlpInRefIdeal.main_v13) = norm (m ((c.tc : Thread Cert.MlpInRefIdeal.nD Cert.MlpInRefIdeal.τ).loc Cert.MlpInRefIdeal.main_arg0)) (m ((c.tc : Thread Cert.MlpInRefIdeal.nD Cert.MlpInRefIdeal.τ).loc Cert.MlpInRefIdeal.main_arg1))
      ∧ r.2.mem ((c.tc : Thread Cert.MlpInRefIdeal.nD Cert.MlpInRefIdeal.τ).loc Cert.MlpInRefIdeal.main_v18) = hid (m ((c.tc : Thread Cert.MlpInRefIdeal.nD Cert.MlpInRefIdeal.τ).loc Cert.MlpInRefIdeal.main_arg0)) (m ((c.tc : Thread Cert.MlpInRefIdeal.nD Cert.MlpInRefIdeal.τ).loc Cert.MlpInRefIdeal.main_arg1)) (m ((c.tc : Thread Cert.MlpInRefIdeal.nD Cert.MlpInRefIdeal.τ).loc Cert.MlpInRefIdeal.main_arg2))
      ∧ r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1)
      ∧ r.2.mem ((c.tc : Thread Cert.MlpInRefIdeal.nD Cert.MlpInRefIdeal.τ).loc Cert.MlpInRefIdeal.main_arg2) = m ((c.tc : Thread Cert.MlpInRefIdeal.nD Cert.MlpInRefIdeal.τ).loc Cert.MlpInRefIdeal.main_arg2) := by
  refine (θ_run Cert.MlpInRefIdeal.defs _ _).mono (fun r h c => ?_) (Cert.MlpInRefIdeal.Value.run (F := Ideal) m ρ)
  refine ⟨(h c).1.trans ?_, (h c).2.1.trans ?_, (h c).2.2⟩
  · refine funext fun (i : S8192x1024.Idx) => ?_
    idx_vars i
    pointwise
    rfl
  · refine funext fun (i : S8192x4096.Idx) => ?_
    idx_vars i
    pointwise
    rfl

/-- The call's results are the reference's, whatever the arguments hold. -/
theorem algebraic : Cert.algebraic_MlpInIdeal_MlpInRefIdeal := by
  intro m ρ m' ρ' _ hag
  refine ⟨fun c => norm (m ((c.tc : Thread Cert.MlpInIdeal.nD Cert.MlpInIdeal.τ).loc Cert.MlpInIdeal.main_arg0)) (m ((c.tc : Thread Cert.MlpInIdeal.nD Cert.MlpInIdeal.τ).loc Cert.MlpInIdeal.main_arg1)), fun c => hid (m ((c.tc : Thread Cert.MlpInIdeal.nD Cert.MlpInIdeal.τ).loc Cert.MlpInIdeal.main_arg0)) (m ((c.tc : Thread Cert.MlpInIdeal.nD Cert.MlpInIdeal.τ).loc Cert.MlpInIdeal.main_arg1)) (m ((c.tc : Thread Cert.MlpInIdeal.nD Cert.MlpInIdeal.τ).loc Cert.MlpInIdeal.main_arg2)), ?_, ?_⟩
  · refine (θ_run Cert.MlpInIdeal.defs _ _).mono (fun r h c => ?_) (Cert.MlpInIdeal.Value.run_blocks (F := Ideal) m ρ)
    have h := h c
    rw [final3, final4] at h
    exact h
  · refine (θ_run Cert.MlpInRefIdeal.defs _ _).mono (fun r h c => ?_) (run_ref m' ρ')
    have e := hag c
    have h := h c
    rw [e.1, e.2.1, e.2.2] at h
    rw [e.1, e.2.1, e.2.2]
    exact h

end Cert.MlpInIdeal.Claims
end
-- ==== Proof.InProjCall.lean ====
/-
  The forward call of the input projection: the rows through the root mean square norm, and against the five column
  ranges of the weight; and the claims.
-/
module
public import proofs.«01_k».proof.Defs
public import proofs.«01_k».proof.Proof.Gen.InProjIdeal.Value
public import proofs.«01_k».proof.Proof.Gen.InProjRefIdeal.Run
public import Idealize.ShloMosaic.Lib.Pointwise
public import Idealize.ShloMosaic.Lib.Pipeline.ValueKit
public import Idealize.ShloMosaic.Lib.Pipeline.ReadBack
public import Idealize.ShloMosaic.Lib.Quiescent
@[expose] public section
set_option maxRecDepth 16384
noncomputable section
namespace Cert.InProjIdeal.Call
open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The row's reciprocal root mean square. -/
def inv (x : Arr S8192x1024) (r : Fin 8192) : EReal :=
  Ideal.rsqrt (Ideal.div (∑ k : Fin 1024, x (ix2 r k) * x (ix2 r k)) (Ideal.ofBits .f32 0x44800000#32) + Ideal.ofBits .f32 0x358637BD#32)
/-- The normalised rows. -/
def norm (x : Arr S8192x1024) (g : Arr S1024) : Arr S8192x1024 := fun i =>
  x (ix2 (i 0) (i 1)) * inv x (i 0) * g (ix1 (i 1))
/-- The normalised rows against 2048 columns of the weight, from column 0. -/
def colsA (x : Arr S8192x1024) (g : Arr S1024) (w : Arr S1024x5760) : Arr S8192x2048 := fun i =>
  ∑ k : Fin 1024, norm x g (ix2 (i 0) k) * w (ix2 k (⟨(i 1).val, by have : (i 1).val < 2048 := (i 1).isLt; omega⟩ : Fin 5760))
/-- The normalised rows against 2048 columns of the weight, from column 2048. -/
def colsB (x : Arr S8192x1024) (g : Arr S1024) (w : Arr S1024x5760) : Arr S8192x2048 := fun i =>
  ∑ k : Fin 1024, norm x g (ix2 (i 0) k) * w (ix2 k (⟨2048 + (i 1).val, by have : (i 1).val < 2048 := (i 1).isLt; omega⟩ : Fin 5760))
/-- The normalised rows against 512 columns of the weight, from column 4096. -/
def colsC (x : Arr S8192x1024) (g : Arr S1024) (w : Arr S1024x5760) : Arr S8192x512 := fun i =>
  ∑ k : Fin 1024, norm x g (ix2 (i 0) k) * w (ix2 k (⟨4096 + (i 1).val, by have : (i 1).val < 512 := (i 1).isLt; omega⟩ : Fin 5760))
/-- The normalised rows against 1024 columns of the weight, from column 4608. -/
def colsD (x : Arr S8192x1024) (g : Arr S1024) (w : Arr S1024x5760) : Arr S8192x1024 := fun i =>
  ∑ k : Fin 1024, norm x g (ix2 (i 0) k) * w (ix2 k (⟨4608 + (i 1).val, by have : (i 1).val < 1024 := (i 1).isLt; omega⟩ : Fin 5760))
/-- The normalised rows against 128 columns of the weight, from column 5632. -/
def colsE (x : Arr S8192x1024) (g : Arr S1024) (w : Arr S1024x5760) : Arr S8192x128 := fun i =>
  ∑ k : Fin 1024, norm x g (ix2 (i 0) k) * w (ix2 k (⟨5632 + (i 1).val, by have : (i 1).val < 128 := (i 1).isLt; omega⟩ : Fin 5760))

theorem N16 : cfg0.N = 16 := N_0

/-- The array row that row `r` of point `t`'s block is. -/
def row (t : Fin cfg0.N) (r : Fin 512) : Fin 8192 := ⟨t.val * 512 + r.val, by have := t.isLt; have := N16; omega⟩

theorem hz : (![0, 0] : Fin 2 → Nat) = fun _ => 0 := funext fun a => by fin_cases a <;> rfl

theorem off0 : ∀ t : Fin cfg0.N, win0_0.index t 0 * win0_0.size 0 = t.val * 512 ∧ win0_0.index t 1 * win0_0.size 1 = 0 :=
  (by decide +kernel : ∀ t : Fin grid0.N, win0_0.index t 0 * win0_0.size 0 = t.val * 512 ∧ win0_0.index t 1 * win0_0.size 1 = 0)
theorem iblk0_apply (c : Dev nD) (t : Fin cfg0.N) (r : Fin 512) (k : Fin 1024) :
    (iblk m c 0 t : S512x1024.Idx → EReal) (ix2 r k) = m ((c : Thread nD τ).loc main_arg0) (ix2 (row t r) k) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val * 512 + r.val
              rw [(off0 t).1]; omega
  | ⟨1, _⟩ => show win0_0.index t 1 * win0_0.size 1 + 1 * k.val = k.val
              rw [(off0 t).2]; omega

theorem off1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)
theorem iblk1_apply (c : Dev nD) (t : Fin cfg0.N) (r : Fin 1) (k : Fin 1024) :
    (iblk m c 1 t : S1x1024.Idx → EReal) (ix2 r k) = V m c main_v0 (ix2 r k) := by
  unfold iblk
  show V m c main_v0 ((win0_1.rect t).idx (ix2 r k)) = _
  refine congrArg _ (funext fun a => Fin.ext ?_)
  match a with
  | ⟨0, _⟩ => show win0_1.index t 0 * win0_1.size 0 + 1 * r.val = r.val
              rw [(off1 t).1]; omega
  | ⟨1, _⟩ => show win0_1.index t 1 * win0_1.size 1 + 1 * k.val = k.val
              rw [(off1 t).2]; omega

theorem off2 : ∀ t : Fin cfg0.N, win0_2.index t 0 * win0_2.size 0 = 0 ∧ win0_2.index t 1 * win0_2.size 1 = 0 :=
  (by decide +kernel : ∀ t : Fin grid0.N, win0_2.index t 0 * win0_2.size 0 = 0 ∧ win0_2.index t 1 * win0_2.size 1 = 0)
theorem iblk2_apply (c : Dev nD) (t : Fin cfg0.N) (r : Fin 1024) (k : Fin 5760) :
    (iblk m c 2 t : S1024x5760.Idx → EReal) (ix2 r k) = m ((c : Thread nD τ).loc main_arg2) (ix2 r k) := by
  unfold iblk
  show V m c main_arg2 ((win0_2.rect t).idx (ix2 r k)) = _
  rw [V_main_arg2]
  refine congrArg _ (funext fun a => Fin.ext ?_)
  match a with
  | ⟨0, _⟩ => show win0_2.index t 0 * win0_2.size 0 + 1 * r.val = r.val
              rw [(off2 t).1]; omega
  | ⟨1, _⟩ => show win0_2.index t 1 * win0_2.size 1 + 1 * k.val = k.val
              rw [(off2 t).2]; omega

/-- The gain as the row the call is handed. -/
theorem V_gain (c : Dev nD) (k : Fin 1024) : V m c main_v0 (ix2 (0 : Fin 1) k) = m ((c : Thread nD τ).loc main_arg1) (ix1 k) := by
  unfold V hostOps0
  after_results_simp
  pointwise

theorem off3 : ∀ t : Fin cfg0.N, win0_3.index t 0 * win0_3.size 0 = t.val * 512 ∧ win0_3.index t 1 * win0_3.size 1 = 0 :=
  (by decide +kernel : ∀ t : Fin grid0.N, win0_3.index t 0 * win0_3.size 0 = t.val * 512 ∧ win0_3.index t 1 * win0_3.size 1 = 0)
/-- An array read through point `t`'s block of window 3. -/
theorem read3_apply (X : Arr S8192x1024) (t : Fin cfg0.N) (r : Fin 512) (k : Fin 1024) :
    ((win0_3.blk t).view.read (Elt Ideal) X : S512x1024.Idx → EReal) (ix2 r k) = X (ix2 (row t r) k) := by
  show X ((win0_3.rect t).idx (ix2 r k)) = _
  refine congrArg _ (funext fun a => Fin.ext ?_)
  match a with
  | ⟨0, _⟩ => show win0_3.index t 0 * win0_3.size 0 + 1 * r.val = t.val * 512 + r.val
              rw [(off3 t).1]; omega
  | ⟨1, _⟩ => show win0_3.index t 1 * win0_3.size 1 + 1 * k.val = k.val
              rw [(off3 t).2]; omega

/-- Every index of the array is in the block of a point that writes back. -/
theorem cover3 (i : S8192x1024.Idx) : ∃ t : Fin cfg0.N, (cfg0.win 3).flush t = true ∧ i ∈ ((cfg0.win 3).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0).val / 512 := ⟨⟨(i 0).val / 512, by omega⟩, rfl⟩
  refine ⟨t, flush0_3 t, ?_⟩
  show i ∈ ((View.whole main_v1_0).slice (win0_3.rect t)).set
  rw [View.set_slice_whole, Rect.mem_set_unit]
  intro a
  match a with
  | ⟨0, _⟩ => show win0_3.index t 0 * win0_3.size 0 ≤ (i 0 : Nat) ∧ (i 0 : Nat) < win0_3.index t 0 * win0_3.size 0 + 512
              rw [(off3 t).1]; omega
  | ⟨1, _⟩ => show win0_3.index t 1 * win0_3.size 1 ≤ (i 1 : Nat) ∧ (i 1 : Nat) < win0_3.index t 1 * win0_3.size 1 + 1024
              rw [(off3 t).2]; omega

theorem off4 : ∀ t : Fin cfg0.N, win0_4.index t 0 * win0_4.size 0 = t.val * 512 ∧ win0_4.index t 1 * win0_4.size 1 = 0 :=
  (by decide +kernel : ∀ t : Fin grid0.N, win0_4.index t 0 * win0_4.size 0 = t.val * 512 ∧ win0_4.index t 1 * win0_4.size 1 = 0)
/-- An array read through point `t`'s block of window 4. -/
theorem read4_apply (X : Arr S8192x2048) (t : Fin cfg0.N) (r : Fin 512) (k : Fin 2048) :
    ((win0_4.blk t).view.read (Elt Ideal) X : S512x2048.Idx → EReal) (ix2 r k) = X (ix2 (row t r) k) := by
  show X ((win0_4.rect t).idx (ix2 r k)) = _
  refine congrArg _ (funext fun a => Fin.ext ?_)
  match a with
  | ⟨0, _⟩ => show win0_4.index t 0 * win0_4.size 0 + 1 * r.val = t.val * 512 + r.val
              rw [(off4 t).1]; omega
  | ⟨1, _⟩ => show win0_4.index t 1 * win0_4.size 1 + 1 * k.val = k.val
              rw [(off4 t).2]; omega

/-- Every index of the array is in the block of a point that writes back. -/
theorem cover4 (i : S8192x2048.Idx) : ∃ t : Fin cfg0.N, (cfg0.win 4).flush t = true ∧ i ∈ ((cfg0.win 4).blk t).view.set := by
  have h0 : (i 0 : Nat) < 8192 := (i 0).isLt
  have h1 : (i 1 : Nat) < 2048 := (i 1).isLt
  have hN : cfg0.N = 16 := N_0
  obtain ⟨t, ht⟩ : ∃ t : Fin cfg0.N, t.val = (i 0).val / 512 := ⟨⟨(i 0).val / 512, by omega⟩, rfl⟩
  refine ⟨t, flush0_4 t, ?_⟩
  show i ∈ ((View.whole main_v1_1).slice (win0_4.rect t)).set
  rw [View.set_slice_whole, Rect.mem_set_unit]
  intro a
  match a with
  | ⟨0, _⟩ => show win0_4.index t 0 * win0_4.size 0 ≤ (i 0 : Nat) ∧ (i 0 : Nat) < win0_4.index t 0 * win0_4.size 0 + 512
              rw [(off4 t).1]; omega
  | ⟨1, _⟩ => show win0_4.index t 1 * win0_4.size 1 ≤ (i 1 : Nat) ∧ (i 1 : Nat) < win0_4.index t 1 * win0_4.size 1 + 2048
              rw [(off4 t).2]; omega

theorem off5 : ∀ t : Fin cfg0.N, win0_5.index t 0 * win0_5.size 0 = t.val * 512 ∧ win0_5.index t 1 * win0_5.size 1 = 0 :=
  (by decide +kernel : ∀ t : Fin grid0.N, win0_5.index t 0 * win0_5.size 0 = t.val * 512 ∧ win0_5.index t 1 * win0_5.size 1 = 0)
/-- An array read through point `t`'s block of window 5. -/
theorem read5_apply (X : Arr S8192x2048) (t : Fin cfg0.N) (r : Fin 512) (k : Fin 2048) :
    ((win0_5.blk t).view.read (Elt Ideal) X : S512x2048.Idx → EReal) (ix2 r k) = X (ix2 (row t r) k) := by
  show X ((win0_5.rect t).idx (ix2 r k)) = _
  refine congrArg _ (funext fun a => Fin.ext ?_)
  match a with
  | ⟨0, _⟩ => show win0_5.index t 0 * win0_5.size 0 + 1 * r.val = t.val * 512 + r.val
              rw [(off5 t).1]; omega
  | ⟨1, _⟩ => show win0_5.index t 1 * win0_5.size 1 + 1 * k.val = k.val
              rw [(off5 t).2]; omega

/-- Every index of the array is in the block of a point that writes back. -/
theorem cover5 (i : S8192x2048.Idx) : ∃ t : Fin cfg0.N, (cfg0.win 5).flush t = true ∧ i ∈ ((cfg0.win 5).blk t).view.set := by
  have h0 : (i 0 : Nat) < 8192 := (i 0).isLt
  have h1 : (i 1 : Nat) < 2048 := (i 1).isLt
  have hN : cfg0.N = 16 := N_0
  obtain ⟨t, ht⟩ : ∃ t : Fin cfg0.N, t.val = (i 0).val / 512 := ⟨⟨(i 0).val / 512, by omega⟩, rfl⟩
  refine ⟨t, flush0_5 t, ?_⟩
  show i ∈ ((View.whole main_v1_2).slice (win0_5.rect t)).set
  rw [View.set_slice_whole, Rect.mem_set_unit]
  intro a
  match a with
  | ⟨0, _⟩ => show win0_5.index t 0 * win0_5.size 0 ≤ (i 0 : Nat) ∧ (i 0 : Nat) < win0_5.index t 0 * win0_5.size 0 + 512
              rw [(off5 t).1]; omega
  | ⟨1, _⟩ => show win0_5.index t 1 * win0_5.size 1 ≤ (i 1 : Nat) ∧ (i 1 : Nat) < win0_5.index t 1 * win0_5.size 1 + 2048
              rw [(off5 t).2]; omega

theorem off6 : ∀ t : Fin cfg0.N, win0_6.index t 0 * win0_6.size 0 = t.val * 512 ∧ win0_6.index t 1 * win0_6.size 1 = 0 :=
  (by decide +kernel : ∀ t : Fin grid0.N, win0_6.index t 0 * win0_6.size 0 = t.val * 512 ∧ win0_6.index t 1 * win0_6.size 1 = 0)
/-- An array read through point `t`'s block of window 6. -/
theorem read6_apply (X : Arr S8192x512) (t : Fin cfg0.N) (r : Fin 512) (k : Fin 512) :
    ((win0_6.blk t).view.read (Elt Ideal) X : S512x512.Idx → EReal) (ix2 r k) = X (ix2 (row t r) k) := by
  show X ((win0_6.rect t).idx (ix2 r k)) = _
  refine congrArg _ (funext fun a => Fin.ext ?_)
  match a with
  | ⟨0, _⟩ => show win0_6.index t 0 * win0_6.size 0 + 1 * r.val = t.val * 512 + r.val
              rw [(off6 t).1]; omega
  | ⟨1, _⟩ => show win0_6.index t 1 * win0_6.size 1 + 1 * k.val = k.val
              rw [(off6 t).2]; omega

/-- Every index of the array is in the block of a point that writes back. -/
theorem cover6 (i : S8192x512.Idx) : ∃ t : Fin cfg0.N, (cfg0.win 6).flush t = true ∧ i ∈ ((cfg0.win 6).blk t).view.set := by
  have h0 : (i 0 : Nat) < 8192 := (i 0).isLt
  have h1 : (i 1 : Nat) < 512 := (i 1).isLt
  have hN : cfg0.N = 16 := N_0
  obtain ⟨t, ht⟩ : ∃ t : Fin cfg0.N, t.val = (i 0).val / 512 := ⟨⟨(i 0).val / 512, by omega⟩, rfl⟩
  refine ⟨t, flush0_6 t, ?_⟩
  show i ∈ ((View.whole main_v1_3).slice (win0_6.rect t)).set
  rw [View.set_slice_whole, Rect.mem_set_unit]
  intro a
  match a with
  | ⟨0, _⟩ => show win0_6.index t 0 * win0_6.size 0 ≤ (i 0 : Nat) ∧ (i 0 : Nat) < win0_6.index t 0 * win0_6.size 0 + 512
              rw [(off6 t).1]; omega
  | ⟨1, _⟩ => show win0_6.index t 1 * win0_6.size 1 ≤ (i 1 : Nat) ∧ (i 1 : Nat) < win0_6.index t 1 * win0_6.size 1 + 512
              rw [(off6 t).2]; omega

theorem off7 : ∀ t : Fin cfg0.N, win0_7.index t 0 * win0_7.size 0 = t.val * 512 ∧ win0_7.index t 1 * win0_7.size 1 = 0 :=
  (by decide +kernel : ∀ t : Fin grid0.N, win0_7.index t 0 * win0_7.size 0 = t.val * 512 ∧ win0_7.index t 1 * win0_7.size 1 = 0)
/-- An array read through point `t`'s block of window 7. -/
theorem read7_apply (X : Arr S8192x1024) (t : Fin cfg0.N) (r : Fin 512) (k : Fin 1024) :
    ((win0_7.blk t).view.read (Elt Ideal) X : S512x1024.Idx → EReal) (ix2 r k) = X (ix2 (row t r) k) := by
  show X ((win0_7.rect t).idx (ix2 r k)) = _
  refine congrArg _ (funext fun a => Fin.ext ?_)
  match a with
  | ⟨0, _⟩ => show win0_7.index t 0 * win0_7.size 0 + 1 * r.val = t.val * 512 + r.val
              rw [(off7 t).1]; omega
  | ⟨1, _⟩ => show win0_7.index t 1 * win0_7.size 1 + 1 * k.val = k.val
              rw [(off7 t).2]; omega

/-- Every index of the array is in the block of a point that writes back. -/
theorem cover7 (i : S8192x1024.Idx) : ∃ t : Fin cfg0.N, (cfg0.win 7).flush t = true ∧ i ∈ ((cfg0.win 7).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0).val / 512 := ⟨⟨(i 0).val / 512, by omega⟩, rfl⟩
  refine ⟨t, flush0_7 t, ?_⟩
  show i ∈ ((View.whole main_v1_4).slice (win0_7.rect t)).set
  rw [View.set_slice_whole, Rect.mem_set_unit]
  intro a
  match a with
  | ⟨0, _⟩ => show win0_7.index t 0 * win0_7.size 0 ≤ (i 0 : Nat) ∧ (i 0 : Nat) < win0_7.index t 0 * win0_7.size 0 + 512
              rw [(off7 t).1]; omega
  | ⟨1, _⟩ => show win0_7.index t 1 * win0_7.size 1 ≤ (i 1 : Nat) ∧ (i 1 : Nat) < win0_7.index t 1 * win0_7.size 1 + 1024
              rw [(off7 t).2]; omega

theorem off8 : ∀ t : Fin cfg0.N, win0_8.index t 0 * win0_8.size 0 = t.val * 512 ∧ win0_8.index t 1 * win0_8.size 1 = 0 :=
  (by decide +kernel : ∀ t : Fin grid0.N, win0_8.index t 0 * win0_8.size 0 = t.val * 512 ∧ win0_8.index t 1 * win0_8.size 1 = 0)
/-- An array read through point `t`'s block of window 8. -/
theorem read8_apply (X : Arr S8192x128) (t : Fin cfg0.N) (r : Fin 512) (k : Fin 128) :
    ((win0_8.blk t).view.read (Elt Ideal) X : S512x128.Idx → EReal) (ix2 r k) = X (ix2 (row t r) k) := by
  show X ((win0_8.rect t).idx (ix2 r k)) = _
  refine congrArg _ (funext fun a => Fin.ext ?_)
  match a with
  | ⟨0, _⟩ => show win0_8.index t 0 * win0_8.size 0 + 1 * r.val = t.val * 512 + r.val
              rw [(off8 t).1]; omega
  | ⟨1, _⟩ => show win0_8.index t 1 * win0_8.size 1 + 1 * k.val = k.val
              rw [(off8 t).2]; omega

/-- Every index of the array is in the block of a point that writes back. -/
theorem cover8 (i : S8192x128.Idx) : ∃ t : Fin cfg0.N, (cfg0.win 8).flush t = true ∧ i ∈ ((cfg0.win 8).blk t).view.set := by
  have h0 : (i 0 : Nat) < 8192 := (i 0).isLt
  have h1 : (i 1 : Nat) < 128 := (i 1).isLt
  have hN : cfg0.N = 16 := N_0
  obtain ⟨t, ht⟩ : ∃ t : Fin cfg0.N, t.val = (i 0).val / 512 := ⟨⟨(i 0).val / 512, by omega⟩, rfl⟩
  refine ⟨t, flush0_8 t, ?_⟩
  show i ∈ ((View.whole main_v1_5).slice (win0_8.rect t)).set
  rw [View.set_slice_whole, Rect.mem_set_unit]
  intro a
  match a with
  | ⟨0, _⟩ => show win0_8.index t 0 * win0_8.size 0 ≤ (i 0 : Nat) ∧ (i 0 : Nat) < win0_8.index t 0 * win0_8.size 0 + 512
              rw [(off8 t).1]; omega
  | ⟨1, _⟩ => show win0_8.index t 1 * win0_8.size 1 ≤ (i 1 : Nat) ∧ (i 1 : Nat) < win0_8.index t 1 * win0_8.size 1 + 128
              rw [(off8 t).2]; omega

theorem pay3_apply (c : Dev nD) (t : Fin cfg0.N) (r : Fin 512) (k : Fin 1024) :
    k0_pay3 (F := Ideal) (View.ld (iblk m c 0 t) r0_0) (View.ld (iblk m c 1 t) r0_1) (ix2 r k) = norm (m ((c : Thread nD τ).loc main_arg0)) (m ((c : Thread nD τ).loc main_arg1)) (ix2 (row t r) k) := by
  pointwise [k0_pay3]
  simp only [iblk0_apply, iblk1_apply, norm, inv]
  exact congrArg (fun q : EReal => _ * q) (V_gain m c k)

set_option maxHeartbeats 1000000 in
/-- What point `t` writes back is block `t` of the array's function. -/
theorem flush_eq3 (c : Dev nD) (t : Fin cfg0.N) :
    (dats m 0 c).flushed 3 t = (win0_3.blk t).view.read (Elt Ideal) (norm (m ((c : Thread nD τ).loc main_arg0)) (m ((c : Thread nD τ).loc main_arg1))) := by
  show (cfg0.win 3).cut (grid0.coords t) ((dats m 0 c).after 3 t) = _
  rw [after0_3]
  unfold out0_3
  rw [View.canon_unit_zero hz]
  refine funext fun (j : S512x1024.Idx) => ?_
  idx_vars j
  exact (pay3_apply m c t j0 j1).trans (read3_apply _ t j0 j1).symm

theorem final3 (c : Dev nD) : (dats m 0 c).arrAt 3 cfg0.N = norm (m ((c : Thread nD τ).loc main_arg0)) (m ((c : Thread nD τ).loc main_arg1)) :=
  (dats m 0 c).arrAt_eq_of_cover 3 _ (fun t _ => flush_eq3 m c t) cover3

set_option maxHeartbeats 1000000 in
/-- What point `t` writes back is block `t` of the array's function. -/
theorem flush_eq4 (c : Dev nD) (t : Fin cfg0.N) :
    (dats m 0 c).flushed 4 t = (win0_4.blk t).view.read (Elt Ideal) (colsA (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  unfold out0_4
  rw [View.canon_unit_zero hz]
  refine funext fun (j : S512x2048.Idx) => ?_
  idx_vars j
  refine Eq.trans ?_ (read4_apply _ t j0 j1).symm
  show (k0_pay4 (F := Ideal) (View.ld (iblk m c 0 t) r0_0) (View.ld (iblk m c 1 t) r0_1) (View.ld (iblk m c 2 t) r0_2)) (ix2 j0 j1) = _
  pointwise [k0_pay4]
  refine Finset.sum_congr rfl fun k _ => ?_
  rw [pay3_apply, iblk2_apply]
  rfl

theorem final4 (c : Dev nD) : (dats m 0 c).arrAt 4 cfg0.N = colsA (m ((c : Thread nD τ).loc main_arg0)) (m ((c : Thread nD τ).loc main_arg1)) (m ((c : Thread nD τ).loc main_arg2)) :=
  (dats m 0 c).arrAt_eq_of_cover 4 _ (fun t _ => flush_eq4 m c t) cover4

set_option maxHeartbeats 1000000 in
/-- What point `t` writes back is block `t` of the array's function. -/
theorem flush_eq5 (c : Dev nD) (t : Fin cfg0.N) :
    (dats m 0 c).flushed 5 t = (win0_5.blk t).view.read (Elt Ideal) (colsB (m ((c : Thread nD τ).loc main_arg0)) (m ((c : Thread nD τ).loc main_arg1)) (m ((c : Thread nD τ).loc main_arg2))) := by
  show (cfg0.win 5).cut (grid0.coords t) ((dats m 0 c).after 5 t) = _
  rw [after0_5]
  unfold out0_5
  rw [View.canon_unit_zero hz]
  refine funext fun (j : S512x2048.Idx) => ?_
  idx_vars j
  refine Eq.trans ?_ (read5_apply _ t j0 j1).symm
  show (k0_pay5 (F := Ideal) (View.ld (iblk m c 0 t) r0_0) (View.ld (iblk m c 1 t) r0_1) (View.ld (iblk m c 2 t) r0_4)) (ix2 j0 j1) = _
  pointwise [k0_pay5]
  refine Finset.sum_congr rfl fun k _ => ?_
  rw [pay3_apply, iblk2_apply]
  rfl

theorem final5 (c : Dev nD) : (dats m 0 c).arrAt 5 cfg0.N = colsB (m ((c : Thread nD τ).loc main_arg0)) (m ((c : Thread nD τ).loc main_arg1)) (m ((c : Thread nD τ).loc main_arg2)) :=
  (dats m 0 c).arrAt_eq_of_cover 5 _ (fun t _ => flush_eq5 m c t) cover5

set_option maxHeartbeats 1000000 in
/-- What point `t` writes back is block `t` of the array's function. -/
theorem flush_eq6 (c : Dev nD) (t : Fin cfg0.N) :
    (dats m 0 c).flushed 6 t = (win0_6.blk t).view.read (Elt Ideal) (colsC (m ((c : Thread nD τ).loc main_arg0)) (m ((c : Thread nD τ).loc main_arg1)) (m ((c : Thread nD τ).loc main_arg2))) := by
  show (cfg0.win 6).cut (grid0.coords t) ((dats m 0 c).after 6 t) = _
  rw [after0_6]
  unfold out0_6
  rw [View.canon_unit_zero hz]
  refine funext fun (j : S512x512.Idx) => ?_
  idx_vars j
  refine Eq.trans ?_ (read6_apply _ t j0 j1).symm
  show (k0_pay6 (F := Ideal) (View.ld (iblk m c 0 t) r0_0) (View.ld (iblk m c 1 t) r0_1) (View.ld (iblk m c 2 t) r0_5)) (ix2 j0 j1) = _
  pointwise [k0_pay6]
  refine Finset.sum_congr rfl fun k _ => ?_
  rw [pay3_apply, iblk2_apply]
  rfl

theorem final6 (c : Dev nD) : (dats m 0 c).arrAt 6 cfg0.N = colsC (m ((c : Thread nD τ).loc main_arg0)) (m ((c : Thread nD τ).loc main_arg1)) (m ((c : Thread nD τ).loc main_arg2)) :=
  (dats m 0 c).arrAt_eq_of_cover 6 _ (fun t _ => flush_eq6 m c t) cover6

set_option maxHeartbeats 1000000 in
/-- What point `t` writes back is block `t` of the array's function. -/
theorem flush_eq7 (c : Dev nD) (t : Fin cfg0.N) :
    (dats m 0 c).flushed 7 t = (win0_7.blk t).view.read (Elt Ideal) (colsD (m ((c : Thread nD τ).loc main_arg0)) (m ((c : Thread nD τ).loc main_arg1)) (m ((c : Thread nD τ).loc main_arg2))) := by
  show (cfg0.win 7).cut (grid0.coords t) ((dats m 0 c).after 7 t) = _
  rw [after0_7]
  unfold out0_7
  rw [View.canon_unit_zero hz]
  refine funext fun (j : S512x1024.Idx) => ?_
  idx_vars j
  refine Eq.trans ?_ (read7_apply _ t j0 j1).symm
  show (k0_pay1 (F := Ideal) (k0_pay3 (View.ld (iblk m c 0 t) r0_0) (View.ld (iblk m c 1 t) r0_1)) (View.ld (iblk m c 2 t) r0_7)) (ix2 j0 j1) = _
  pointwise [k0_pay1]
  refine Finset.sum_congr rfl fun k _ => ?_
  rw [pay3_apply, iblk2_apply]
  rfl

theorem final7 (c : Dev nD) : (dats m 0 c).arrAt 7 cfg0.N = colsD (m ((c : Thread nD τ).loc main_arg0)) (m ((c : Thread nD τ).loc main_arg1)) (m ((c : Thread nD τ).loc main_arg2)) :=
  (dats m 0 c).arrAt_eq_of_cover 7 _ (fun t _ => flush_eq7 m c t) cover7

set_option maxHeartbeats 1000000 in
/-- What point `t` writes back is block `t` of the array's function. -/
theorem flush_eq8 (c : Dev nD) (t : Fin cfg0.N) :
    (dats m 0 c).flushed 8 t = (win0_8.blk t).view.read (Elt Ideal) (colsE (m ((c : Thread nD τ).loc main_arg0)) (m ((c : Thread nD τ).loc main_arg1)) (m ((c : Thread nD τ).loc main_arg2))) := by
  show (cfg0.win 8).cut (grid0.coords t) ((dats m 0 c).after 8 t) = _
  rw [after0_8]
  unfold out0_8
  rw [View.canon_unit_zero hz]
  refine funext fun (j : S512x128.Idx) => ?_
  idx_vars j
  refine Eq.trans ?_ (read8_apply _ t j0 j1).symm
  show (k0_pay2 (F := Ideal) (k0_pay3 (View.ld (iblk m c 0 t) r0_0) (View.ld (iblk m c 1 t) r0_1)) (View.ld (iblk m c 2 t) r0_8)) (ix2 j0 j1) = _
  pointwise [k0_pay2]
  refine Finset.sum_congr rfl fun k _ => ?_
  rw [pay3_apply, iblk2_apply]
  rfl

theorem final8 (c : Dev nD) : (dats m 0 c).arrAt 8 cfg0.N = colsE (m ((c : Thread nD τ).loc main_arg0)) (m ((c : Thread nD τ).loc main_arg1)) (m ((c : Thread nD τ).loc main_arg2)) :=
  (dats m 0 c).arrAt_eq_of_cover 8 _ (fun t _ => flush_eq8 m c t) cover8

end Cert.InProjIdeal.Call

namespace Cert.InProjIdeal.Claims
open Idealize.ShloMosaic Idealize.ShloMosaic.TcCoe Idealize.SL.Sem
open Cert.InProjIdeal.Call

/-- The reference's frame: its host operations leave the arguments, and it declares no semaphore. -/
theorem frame_ref : Cert.quiescent_InProjRefIdeal := fun m ρ _ =>
  (θ_run Cert.InProjRefIdeal.defs _ _).mono (fun r h => ⟨fun c => (h c).2.2.2.2.2.2,
      Idealize.ShloMosaic.sem_eq_zero_of_no_sems (by decide) r.2⟩)
    (Cert.InProjRefIdeal.Value.run (F := Ideal) m ρ)

set_option maxHeartbeats 2000000 in
/-- The reference's run: its results as functions of its arguments, which it leaves. -/
theorem run_ref (m : (ℓ : Loc Cert.InProjRefIdeal.nD Cert.InProjRefIdeal.τ Cert.InProjRefIdeal.sig) → Buf (Elt Ideal) ℓ) (ρ : Dev Cert.InProjRefIdeal.nD → PrngReg) :
    θ_run Cert.InProjRefIdeal.defs (onTc (τ := Cert.InProjRefIdeal.τ) (Cert.InProjRefIdeal.main (F := Ideal))) ⟨m, fun _ => 0, ρ⟩ fun r => ∀ c : Dev Cert.InProjRefIdeal.nD,
      r.2.mem ((c.tc : Thread Cert.InProjRefIdeal.nD Cert.InProjRefIdeal.τ).loc Cert.InProjRefIdeal.main_v20) = norm (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1))
      ∧ r.2.mem ((c.tc : Thread Cert.InProjRefIdeal.nD Cert.InProjRefIdeal.τ).loc Cert.InProjRefIdeal.main_v21) = colsA (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_v22) = colsB (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_v23) = colsC (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_v24) = colsD (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_v19) = colsE (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2) := by
  refine (θ_run Cert.InProjRefIdeal.defs _ _).mono (fun r h c => ?_) (Cert.InProjRefIdeal.Value.run (F := Ideal) m ρ)
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · refine funext fun (i : S8192x1024.Idx) => ?_
    idx_vars i
    pointwise
    rfl
  · refine funext fun (i : S8192x2048.Idx) => ?_
    idx_vars i
    pointwise
    rfl
  · refine funext fun (i : S8192x2048.Idx) => ?_
    idx_vars i
    pointwise
    rfl
  · refine funext fun (i : S8192x512.Idx) => ?_
    idx_vars i
    pointwise
    rfl
  · refine funext fun (i : S8192x1024.Idx) => ?_
    idx_vars i
    pointwise
    rfl
  · refine funext fun (i : S8192x128.Idx) => ?_
    idx_vars i
    pointwise
    rfl

/-- The call's results are the reference's, whatever the arguments hold. -/
theorem algebraic : Cert.algebraic_InProjIdeal_InProjRefIdeal := by
  intro m ρ m' ρ' _ hag
  refine ⟨fun c => norm (m ((c.tc : Thread Cert.InProjIdeal.nD Cert.InProjIdeal.τ).loc Cert.InProjIdeal.main_arg0)) (m ((c.tc : Thread Cert.InProjIdeal.nD Cert.InProjIdeal.τ).loc Cert.InProjIdeal.main_arg1)), fun c => colsA (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), fun c => colsB (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), fun c => colsC (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), fun c => colsD (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), fun c => colsE (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), ?_, ?_⟩
  · refine (θ_run Cert.InProjIdeal.defs _ _).mono (fun r h c => ?_) (Cert.InProjIdeal.Value.run_blocks (F := Ideal) m ρ)
    have h := h c
    rw [final3, final4, final5, final6, final7, final8] at h
    exact h
  · refine (θ_run Cert.InProjRefIdeal.defs _ _).mono (fun r h c => ?_) (run_ref m' ρ')
    have e := hag c
    have h := h c
    rw [e.1, e.2.1, e.2.2] at h
    rw [e.1, e.2.1, e.2.2]
    exact h

end Cert.InProjIdeal.Claims
end
-- ==== Proof.RmsGrad.lean ====
/-
  The gradient of the root mean square norm on one row, over the extended reals: the form the calls compute it
  in and the form the derivative rules give. Both hold for every row, the infinite ones included.
-/
module
public import Idealize.ShloMosaic.PureOps.Ideal
@[expose] public section
noncomputable section
namespace Cert.RmsGrad
open Idealize.ShloMosaic

/-- The constant 1024 of the mean. -/
theorem ofBits_width : Ideal.ofBits .f32 0x44800000#32 = ((1024 : ℝ) : EReal) := by
  simp [Ideal.ofBits, Ideal.ieee, -EReal.coe_mul]; norm_num
/-- The constant minus one half of the derivative of the reciprocal square root. -/
theorem ofBits_neg_half : Ideal.ofBits .f32 0xBF000000#32 = ((-(1 / 2) : ℝ) : EReal) := by
  simp [Ideal.ofBits, Ideal.ieee, -EReal.coe_mul]; norm_num
/-- The added epsilon is a positive real. -/
theorem ofBits_eps : ∃ e : ℝ, 0 < e ∧ Ideal.ofBits .f32 0x358637BD#32 = (e : EReal) :=
  ⟨8796093 * (2 : ℝ) ^ (-43 : ℤ), by positivity, by
    simp [Ideal.ofBits, Ideal.ieee, -EReal.coe_mul]⟩

theorem mul_self_nonneg (x : EReal) : 0 ≤ x * x := by
  rcases le_total 0 x with h | h
  · exact mul_nonneg h h
  · have := mul_nonneg (EReal.neg_nonneg.mpr h) (EReal.neg_nonneg.mpr h)
    rwa [EReal.neg_mul, mul_comm x, EReal.neg_mul, neg_neg] at this

/-- The mean of the squares and the epsilon are positive. -/
theorem var_pos {n : ℕ} (x : Fin n → EReal) :
    0 < Ideal.div (∑ k, x k * x k) (Ideal.ofBits .f32 0x44800000#32) + Ideal.ofBits .f32 0x358637BD#32 := by
  obtain ⟨e, he, hb⟩ := ofBits_eps
  rw [hb, ofBits_width, Ideal.div_coe (by norm_num)]
  have h1 : (0 : EReal) ≤ (∑ k, x k * x k) * ((1 / 1024 : ℝ) : EReal) :=
    mul_nonneg (Finset.sum_nonneg fun k _ => mul_self_nonneg (x k)) (EReal.coe_nonneg.mpr (by norm_num))
  exact lt_of_lt_of_le (EReal.coe_pos.mpr he) (le_add_of_nonneg_left h1)

/-- A positive number's reciprocal root is a real that is not negative, and that root over the number is its cube. -/
theorem rsqrt_real {v : EReal} (hv : 0 < v) :
    ∃ r : ℝ, 0 ≤ r ∧ Ideal.rsqrt v = (r : EReal) ∧ Ideal.div (Ideal.rsqrt v) v = ((r * r * r : ℝ) : EReal) := by
  induction v using EReal.rec with
  | bot => exact absurd hv (by simp)
  | top => exact ⟨0, le_rfl, by simp, by simp [Ideal.div]⟩
  | coe a =>
    have ha : 0 < a := EReal.coe_pos.mp hv
    have e : Ideal.rsqrt (a : EReal) = (((Real.sqrt a)⁻¹ : ℝ) : EReal) := by
      rw [Ideal.rsqrt_coe, if_neg (not_lt.mpr ha.le), if_neg ha.ne']
    refine ⟨(Real.sqrt a)⁻¹, by positivity, e, ?_⟩
    rw [e, Ideal.div_coe ha.ne', ← EReal.coe_mul]
    congr 1
    have h : Real.sqrt a * Real.sqrt a = a := Real.mul_self_sqrt ha.le
    have h0 : Real.sqrt a ≠ 0 := (Real.sqrt_pos.mpr ha).ne'
    field_simp
    nlinarith [h]

/-- A real that is not negative goes into a sum of extended reals. -/
theorem coe_mul_sum {n : ℕ} {r : ℝ} (hr : 0 ≤ r) (f : Fin n → EReal) : (r : EReal) * ∑ k, f k = ∑ k, (r : EReal) * f k := by
  induction n with
  | zero => simp
  | succ n ih =>
    rw [Fin.sum_univ_succ, Fin.sum_univ_succ,
      EReal.left_distrib_of_nonneg_of_ne_top (EReal.coe_nonneg.mpr hr) (EReal.coe_ne_top r), ih]

/-- The call's gradient of a row, and the one of the derivative rules. -/
theorem grad {n : ℕ} (x d : Fin n → EReal) (v res : EReal) (hv : 0 < v) (j : Fin n) :
    res + Ideal.rsqrt v * (d j - x j * Ideal.rsqrt v * Ideal.div (∑ k, d k * (x k * Ideal.rsqrt v)) (Ideal.ofBits .f32 0x44800000#32))
    = res + (d j * Ideal.rsqrt v
        + x j * Ideal.div ((∑ k, x k * d k) * (Ideal.ofBits .f32 0xBF000000#32 * Ideal.div (Ideal.rsqrt v) v)) (Ideal.ofBits .f32 0x44800000#32)
        + Ideal.div ((∑ k, x k * d k) * (Ideal.ofBits .f32 0xBF000000#32 * Ideal.div (Ideal.rsqrt v) v)) (Ideal.ofBits .f32 0x44800000#32) * x j) := by
  obtain ⟨r, hr, e1, e2⟩ := rsqrt_real hv
  rw [e2, e1, ofBits_width, ofBits_neg_half, Ideal.div_coe (by norm_num), Ideal.div_coe (by norm_num)]
  have hs : ∑ k, d k * (x k * (r : EReal)) = (r : EReal) * ∑ k, x k * d k := by
    rw [coe_mul_sum hr]
    exact Finset.sum_congr rfl fun k _ => by ac_rfl
  rw [hs]
  generalize (∑ k, x k * d k) = S
  rw [sub_eq_add_neg, EReal.left_distrib_of_nonneg_of_ne_top (EReal.coe_nonneg.mpr hr) (EReal.coe_ne_top r), add_assoc (d j * _)]
  congr 1
  congr 1
  · exact mul_comm _ _
  · have hh : ∀ y : EReal, y + y = ((2 : ℝ) : EReal) * y := fun y => by
      have : ((2 : ℝ) : EReal) = 1 + 1 := by
        rw [← EReal.coe_one, ← EReal.coe_add]; norm_num
      rw [this, EReal.right_distrib_of_nonneg zero_le_one zero_le_one, one_mul]
    rw [mul_comm _ (x j), hh, ← EReal.neg_mul]
    have l : (r : EReal) * (-(x j * (r : EReal)) * ((r : EReal) * S * ((1 / 1024 : ℝ) : EReal)))
        = ((-(r * r * r * (1 / 1024)) : ℝ) : EReal) * (x j * S) := by
      rw [EReal.coe_neg, EReal.coe_mul, EReal.coe_mul, EReal.coe_mul, EReal.neg_mul, EReal.neg_mul, mul_comm (r : EReal) (-_), EReal.neg_mul]
      congr 1
      ac_rfl
    have q : ((2 : ℝ) : EReal) * (x j * (S * (((-(1 / 2) : ℝ) : EReal) * ((r * r * r : ℝ) : EReal)) * ((1 / 1024 : ℝ) : EReal)))
        = (((2 * (-(1 / 2)) * (r * r * r) * (1 / 1024)) : ℝ) : EReal) * (x j * S) := by
      rw [EReal.coe_mul (2 * -(1 / 2) * (r * r * r)), EReal.coe_mul (2 * -(1 / 2)) (r * r * r), EReal.coe_mul 2]
      ac_rfl
    rw [l, q]
    congr 2
    ring

end Cert.RmsGrad
end
-- ==== Proof.LossCall.lean ====
/-
  The call of the MLP's output product and the loss head: the loss, the gradient of the tokens in both precisions, and
  the gradient of the gain, the loss and the gain's gradient summed over the token blocks; and the claims.
-/
module
public import proofs.«01_k».proof.Defs
public import proofs.«01_k».proof.Proof.Gen.LossIdeal.Value
public import proofs.«01_k».proof.Proof.Gen.LossRefIdeal.Run
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.RmsGrad
@[expose] public section
set_option maxRecDepth 16384
noncomputable section
namespace Cert.LossIdeal.Call
open Cert.LossIdeal Cert.LossIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The rows after the MLP: the residual and the squared positive part against the weight. -/
def rows2 (a : Arr S8192x4096) (x : Arr S8192x1024) (w : Arr S4096x1024) : Arr S8192x1024 := fun i =>
  x (ix2 (i 0) (i 1)) + ∑ f : Fin 4096, max (a (ix2 (i 0) f)) 0 * max (a (ix2 (i 0) f)) 0 * w (ix2 f (i 1))
theorem rows2_apply (a : Arr S8192x4096) (x : Arr S8192x1024) (w : Arr S4096x1024) (r : Fin 8192) (k : Fin 1024) :
    rows2 a x w (ix2 r k) = x (ix2 r k) + ∑ f : Fin 4096, max (a (ix2 r f)) 0 * max (a (ix2 r f)) 0 * w (ix2 f k) := rfl
/-- The row's mean square and the epsilon. -/
def var (x : Arr S8192x1024) (r : Fin 8192) : EReal :=
  Ideal.div (∑ k : Fin 1024, x (ix2 r k) * x (ix2 r k)) (Ideal.ofBits .f32 0x44800000#32) + Ideal.ofBits .f32 0x358637BD#32
/-- The normalised rows less the target. -/
def err (x : Arr S8192x1024) (g : Arr S1024) (t : Arr S8192x1024) : Arr S8192x1024 := fun i =>
  x (ix2 (i 0) (i 1)) * Ideal.rsqrt (var x (i 0)) * g (ix1 (i 1)) - t (ix2 (i 0) (i 1))
theorem err_apply (x : Arr S8192x1024) (g : Arr S1024) (t : Arr S8192x1024) (r : Fin 8192) (k : Fin 1024) :
    err x g t (ix2 r k) = x (ix2 r k) * Ideal.rsqrt (var x r) * g (ix1 k) - t (ix2 r k) := rfl
/-- The gradient for the normalised rows: their error over the width. -/
def grad (E : Arr S8192x1024) : Arr S8192x1024 := fun i => E (ix2 (i 0) (i 1)) * Ideal.ofBits .f32 0x3A800000#32
theorem grad_apply (E : Arr S8192x1024) (r : Fin 8192) (k : Fin 1024) : grad E (ix2 r k) = E (ix2 r k) * Ideal.ofBits .f32 0x3A800000#32 := rfl
/-- The gradient for the rows. -/
def gradX (B x : Arr S8192x1024) (g : Arr S1024) : Arr S8192x1024 := fun i =>
  Ideal.rsqrt (var x (i 0)) * (B (ix2 (i 0) (i 1)) * g (ix1 (i 1)) - x (ix2 (i 0) (i 1)) * Ideal.rsqrt (var x (i 0))
    * Ideal.div (∑ k : Fin 1024, B (ix2 (i 0) k) * g (ix1 k) * (x (ix2 (i 0) k) * Ideal.rsqrt (var x (i 0)))) (Ideal.ofBits .f32 0x44800000#32))
/-- The gradient of the gain. -/
def gradG (B x : Arr S8192x1024) : Arr S1x1024 := fun i =>
  ∑ r : Fin 8192, B (ix2 r (i 1)) * (x (ix2 r (i 1)) * Ideal.rsqrt (var x r))
/-- The loss, in every lane of the row it is returned in. -/
def loss (E : Arr S8192x1024) : Arr S1x128 := fun _ =>
  ∑ r : Fin 8192, (∑ k : Fin 1024, E (ix2 r k) * E (ix2 r k)) * Ideal.ofBits .f32 0x3A000000#32

/-- The loss's constant: half of one over the width. -/
theorem ofBits_half_width : Ideal.ofBits .f32 0x3A000000#32 = ((1 / 2048 : ℝ) : EReal) := by
  simp [Ideal.ofBits, Ideal.ieee, -EReal.coe_mul]; norm_num
theorem ofBits_inv_width : Ideal.ofBits .f32 0x3A800000#32 = ((1 / 1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
/-- The derivative of half the mean of squares. -/
theorem coef (e : EReal) : Ideal.div (Ideal.ofBits .f32 0x3F000000#32) (Ideal.ofBits .f32 0x44800000#32) * (Ideal.ofBits .f32 0x40000000#32 * e)
    = e * Ideal.ofBits .f32 0x3A800000#32 := by
  rw [ofBits_half, ofBits_two, Cert.RmsGrad.ofBits_width, ofBits_inv_width, Ideal.div_coe (by norm_num), ← mul_assoc, mul_comm e, ← EReal.coe_mul, ← EReal.coe_mul]
  congr 2
  norm_num
/-- The norm's gradient of a row, with nothing added to it. -/
theorem grad_zero {n : ℕ} (x d : Fin n → EReal) (v : EReal) (hv : 0 < v) (j : Fin n) :
    Ideal.rsqrt v * (d j - x j * Ideal.rsqrt v * Ideal.div (∑ k, d k * (x k * Ideal.rsqrt v)) (Ideal.ofBits .f32 0x44800000#32))
    = d j * Ideal.rsqrt v
        + x j * Ideal.div ((∑ k, x k * d k) * (Ideal.ofBits .f32 0xBF000000#32 * Ideal.div (Ideal.rsqrt v) v)) (Ideal.ofBits .f32 0x44800000#32)
        + Ideal.div ((∑ k, x k * d k) * (Ideal.ofBits .f32 0xBF000000#32 * Ideal.div (Ideal.rsqrt v) v)) (Ideal.ofBits .f32 0x44800000#32) * x j := by
  have h := Cert.RmsGrad.grad x d v 0 hv j
  rwa [zero_add, zero_add] at h
/-- A constant that is not negative goes into a sum. -/
theorem sum_mul_coe {n : ℕ} {r : ℝ} (hr : 0 ≤ r) (f : Fin n → EReal) : (∑ k, f k) * (r : EReal) = ∑ k, f k * (r : EReal) := by
  rw [mul_comm, Cert.RmsGrad.coe_mul_sum hr]
  exact Finset.sum_congr rfl fun k _ => mul_comm _ _
/-- Half the sum of the means is the sum of the scaled sums. -/
theorem half_mean (S : Fin 8192 → EReal) :
    Ideal.ofBits .f32 0x3F000000#32 * ∑ r, Ideal.div (S r) (Ideal.ofBits .f32 0x44800000#32) = ∑ r, S r * Ideal.ofBits .f32 0x3A000000#32 := by
  rw [ofBits_half, Cert.RmsGrad.ofBits_width, ofBits_half_width, Cert.RmsGrad.coe_mul_sum (by norm_num)]
  refine Finset.sum_congr rfl fun r _ => ?_
  rw [Ideal.div_coe (by norm_num), mul_comm, mul_assoc, ← EReal.coe_mul]
  congr 2
  norm_num

theorem N16 : cfg0.N = 16 := N_0

/-- The array row that row `r` of point `t`'s block is. -/
def row (t : Fin cfg0.N) (r : Fin 512) : Fin 8192 := ⟨t.val * 512 + r.val, by have := t.isLt; have := N16; omega⟩

theorem hz : (![0, 0] : Fin 2 → Nat) = fun _ => 0 := funext fun a => by fin_cases a <;> rfl

theorem off0 : ∀ t : Fin cfg0.N, win0_0.index t 0 * win0_0.size 0 = t.val * 512 ∧ win0_0.index t 1 * win0_0.size 1 = 0 :=
  (by decide +kernel : ∀ t : Fin grid0.N, win0_0.index t 0 * win0_0.size 0 = t.val * 512 ∧ win0_0.index t 1 * win0_0.size 1 = 0)
theorem iblk0_apply (c : Dev nD) (t : Fin cfg0.N) (r : Fin 512) (k : Fin 4096) :
    (iblk m c 0 t : S512x4096.Idx → EReal) (ix2 r k) = m ((c : Thread nD τ).loc main_arg0) (ix2 (row t r) k) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val * 512 + r.val
              rw [(off0 t).1]; omega
  | ⟨1, _⟩ => show win0_0.index t 1 * win0_0.size 1 + 1 * k.val = k.val
              rw [(off0 t).2]; omega

theorem off1 : ∀ t : Fin cfg0.N, win0_1.index t 0 * win0_1.size 0 = t.val * 512 ∧ win0_1.index t 1 * win0_1.size 1 = 0 :=
  (by decide +kernel : ∀ t : Fin grid0.N, win0_1.index t 0 * win0_1.size 0 = t.val * 512 ∧ win0_1.index t 1 * win0_1.size 1 = 0)
theorem iblk1_apply (c : Dev nD) (t : Fin cfg0.N) (r : Fin 512) (k : Fin 1024) :
    (iblk m c 1 t : S512x1024.Idx → EReal) (ix2 r k) = m ((c : Thread nD τ).loc main_arg1) (ix2 (row t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val * 512 + r.val
              rw [(off1 t).1]; omega
  | ⟨1, _⟩ => show win0_1.index t 1 * win0_1.size 1 + 1 * k.val = k.val
              rw [(off1 t).2]; omega

theorem off2 : ∀ t : Fin cfg0.N, win0_2.index t 0 * win0_2.size 0 = 0 ∧ win0_2.index t 1 * win0_2.size 1 = 0 :=
  (by decide +kernel : ∀ t : Fin grid0.N, win0_2.index t 0 * win0_2.size 0 = 0 ∧ win0_2.index t 1 * win0_2.size 1 = 0)
theorem iblk2_apply (c : Dev nD) (t : Fin cfg0.N) (r : Fin 4096) (k : Fin 1024) :
    (iblk m c 2 t : S4096x1024.Idx → EReal) (ix2 r k) = m ((c : Thread nD τ).loc main_arg2) (ix2 r k) := by
  unfold iblk
  show V m c main_arg2 ((win0_2.rect t).idx (ix2 r k)) = _
  rw [V_main_arg2]
  refine congrArg _ (funext fun a => Fin.ext ?_)
  match a with
  | ⟨0, _⟩ => show win0_2.index t 0 * win0_2.size 0 + 1 * r.val = r.val
              rw [(off2 t).1]; omega
  | ⟨1, _⟩ => show win0_2.index t 1 * win0_2.size 1 + 1 * k.val = k.val
              rw [(off2 t).2]; omega

theorem off3 : ∀ t : Fin cfg0.N, win0_3.index t 0 * win0_3.size 0 = 0 ∧ win0_3.index t 1 * win0_3.size 1 = 0 :=
  (by decide +kernel : ∀ t : Fin grid0.N, win0_3.index t 0 * win0_3.size 0 = 0 ∧ win0_3.index t 1 * win0_3.size 1 = 0)
theorem iblk3_apply (c : Dev nD) (t : Fin cfg0.N) (r : Fin 1) (k : Fin 1024) :
    (iblk m c 3 t : S1x1024.Idx → EReal) (ix2 r k) = V m c main_v0 (ix2 r k) := by
  unfold iblk
  show V m c main_v0 ((win0_3.rect t).idx (ix2 r k)) = _
  refine congrArg _ (funext fun a => Fin.ext ?_)
  match a with
  | ⟨0, _⟩ => show win0_3.index t 0 * win0_3.size 0 + 1 * r.val = r.val
              rw [(off3 t).1]; omega
  | ⟨1, _⟩ => show win0_3.index t 1 * win0_3.size 1 + 1 * k.val = k.val
              rw [(off3 t).2]; omega

/-- The gain as the row the call is handed. -/
theorem V_gain (c : Dev nD) (k : Fin 1024) : V m c main_v0 (ix2 (0 : Fin 1) k) = m ((c : Thread nD τ).loc main_arg3) (ix1 k) := by
  unfold V hostOps0
  after_results_simp
  pointwise

theorem off4 : ∀ t : Fin cfg0.N, win0_4.index t 0 * win0_4.size 0 = t.val * 512 ∧ win0_4.index t 1 * win0_4.size 1 = 0 :=
  (by decide +kernel : ∀ t : Fin grid0.N, win0_4.index t 0 * win0_4.size 0 = t.val * 512 ∧ win0_4.index t 1 * win0_4.size 1 = 0)
theorem iblk4_apply (c : Dev nD) (t : Fin cfg0.N) (r : Fin 512) (k : Fin 1024) :
    (iblk m c 4 t : S512x1024.Idx → EReal) (ix2 r k) = m ((c : Thread nD τ).loc main_arg4) (ix2 (row t r) k) := by
  unfold iblk
  show V m c main_arg4 ((win0_4.rect t).idx (ix2 r k)) = _
  rw [V_main_arg4]
  refine congrArg _ (funext fun a => Fin.ext ?_)
  match a with
  | ⟨0, _⟩ => show win0_4.index t 0 * win0_4.size 0 + 1 * r.val = t.val * 512 + r.val
              rw [(off4 t).1]; omega
  | ⟨1, _⟩ => show win0_4.index t 1 * win0_4.size 1 + 1 * k.val = k.val
              rw [(off4 t).2]; omega

theorem off5 : ∀ t : Fin cfg0.N, win0_5.index t 0 * win0_5.size 0 = t.val * 512 ∧ win0_5.index t 1 * win0_5.size 1 = 0 :=
  (by decide +kernel : ∀ t : Fin grid0.N, win0_5.index t 0 * win0_5.size 0 = t.val * 512 ∧ win0_5.index t 1 * win0_5.size 1 = 0)
/-- An array read through point `t`'s block of window 5. -/
theorem read5_apply (X : Arr S8192x1024) (t : Fin cfg0.N) (r : Fin 512) (k : Fin 1024) :
    ((win0_5.blk t).view.read (Elt Ideal) X : S512x1024.Idx → EReal) (ix2 r k) = X (ix2 (row t r) k) := by
  show X ((win0_5.rect t).idx (ix2 r k)) = _
  refine congrArg _ (funext fun a => Fin.ext ?_)
  match a with
  | ⟨0, _⟩ => show win0_5.index t 0 * win0_5.size 0 + 1 * r.val = t.val * 512 + r.val
              rw [(off5 t).1]; omega
  | ⟨1, _⟩ => show win0_5.index t 1 * win0_5.size 1 + 1 * k.val = k.val
              rw [(off5 t).2]; omega

/-- Every index of the array is in the block of a point that writes back. -/
theorem cover5 (i : S8192x1024.Idx) : ∃ t : Fin cfg0.N, (cfg0.win 5).flush t = true ∧ i ∈ ((cfg0.win 5).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0).val / 512 := ⟨⟨(i 0).val / 512, by omega⟩, rfl⟩
  refine ⟨t, flush0_5 t, ?_⟩
  show i ∈ ((View.whole main_v1_0).slice (win0_5.rect t)).set
  rw [View.set_slice_whole, Rect.mem_set_unit]
  intro a
  match a with
  | ⟨0, _⟩ => show win0_5.index t 0 * win0_5.size 0 ≤ (i 0 : Nat) ∧ (i 0 : Nat) < win0_5.index t 0 * win0_5.size 0 + 512
              rw [(off5 t).1]; omega
  | ⟨1, _⟩ => show win0_5.index t 1 * win0_5.size 1 ≤ (i 1 : Nat) ∧ (i 1 : Nat) < win0_5.index t 1 * win0_5.size 1 + 1024
              rw [(off5 t).2]; omega

theorem off6 : ∀ t : Fin cfg0.N, win0_6.index t 0 * win0_6.size 0 = t.val * 512 ∧ win0_6.index t 1 * win0_6.size 1 = 0 :=
  (by decide +kernel : ∀ t : Fin grid0.N, win0_6.index t 0 * win0_6.size 0 = t.val * 512 ∧ win0_6.index t 1 * win0_6.size 1 = 0)
/-- An array read through point `t`'s block of window 6. -/
theorem read6_apply (X : Arr S8192x1024) (t : Fin cfg0.N) (r : Fin 512) (k : Fin 1024) :
    ((win0_6.blk t).view.read (Elt Ideal) X : S512x1024.Idx → EReal) (ix2 r k) = X (ix2 (row t r) k) := by
  show X ((win0_6.rect t).idx (ix2 r k)) = _
  refine congrArg _ (funext fun a => Fin.ext ?_)
  match a with
  | ⟨0, _⟩ => show win0_6.index t 0 * win0_6.size 0 + 1 * r.val = t.val * 512 + r.val
              rw [(off6 t).1]; omega
  | ⟨1, _⟩ => show win0_6.index t 1 * win0_6.size 1 + 1 * k.val = k.val
              rw [(off6 t).2]; omega

/-- Every index of the array is in the block of a point that writes back. -/
theorem cover6 (i : S8192x1024.Idx) : ∃ t : Fin cfg0.N, (cfg0.win 6).flush t = true ∧ i ∈ ((cfg0.win 6).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0).val / 512 := ⟨⟨(i 0).val / 512, by omega⟩, rfl⟩
  refine ⟨t, flush0_6 t, ?_⟩
  show i ∈ ((View.whole main_v1_1).slice (win0_6.rect t)).set
  rw [View.set_slice_whole, Rect.mem_set_unit]
  intro a
  match a with
  | ⟨0, _⟩ => show win0_6.index t 0 * win0_6.size 0 ≤ (i 0 : Nat) ∧ (i 0 : Nat) < win0_6.index t 0 * win0_6.size 0 + 512
              rw [(off6 t).1]; omega
  | ⟨1, _⟩ => show win0_6.index t 1 * win0_6.size 1 ≤ (i 1 : Nat) ∧ (i 1 : Nat) < win0_6.index t 1 * win0_6.size 1 + 1024
              rw [(off6 t).2]; omega

theorem off7 : ∀ t : Fin cfg0.N, win0_7.index t 0 * win0_7.size 0 = 0 ∧ win0_7.index t 1 * win0_7.size 1 = 0 :=
  (by decide +kernel : ∀ t : Fin grid0.N, win0_7.index t 0 * win0_7.size 0 = 0 ∧ win0_7.index t 1 * win0_7.size 1 = 0)
/-- An array read through point `t`'s block of window 7. -/
theorem read7_apply (X : Arr S1x128) (t : Fin cfg0.N) (r : Fin 1) (k : Fin 128) :
    ((win0_7.blk t).view.read (Elt Ideal) X : S1x128.Idx → EReal) (ix2 r k) = X (ix2 r k) := by
  show X ((win0_7.rect t).idx (ix2 r k)) = _
  refine congrArg _ (funext fun a => Fin.ext ?_)
  match a with
  | ⟨0, _⟩ => show win0_7.index t 0 * win0_7.size 0 + 1 * r.val = r.val
              rw [(off7 t).1]; omega
  | ⟨1, _⟩ => show win0_7.index t 1 * win0_7.size 1 + 1 * k.val = k.val
              rw [(off7 t).2]; omega

/-- Every index of the array is in the block of a point that writes back. -/
theorem cover7 (i : S1x128.Idx) : ∃ t : Fin cfg0.N, (cfg0.win 7).flush t = true ∧ i ∈ ((cfg0.win 7).blk t).view.set := by
  have h0 : (i 0 : Nat) < 1 := (i 0).isLt
  have h1 : (i 1 : Nat) < 128 := (i 1).isLt
  have hN : cfg0.N = 16 := N_0
  obtain ⟨t, ht⟩ : ∃ t : Fin cfg0.N, t.val = 15 := ⟨⟨15, by omega⟩, rfl⟩
  refine ⟨t, (flush0_7 t).mpr (by omega), ?_⟩
  show i ∈ ((View.whole main_v1_2).slice (win0_7.rect t)).set
  rw [View.set_slice_whole, Rect.mem_set_unit]
  intro a
  match a with
  | ⟨0, _⟩ => show win0_7.index t 0 * win0_7.size 0 ≤ (i 0 : Nat) ∧ (i 0 : Nat) < win0_7.index t 0 * win0_7.size 0 + 1
              rw [(off7 t).1]; omega
  | ⟨1, _⟩ => show win0_7.index t 1 * win0_7.size 1 ≤ (i 1 : Nat) ∧ (i 1 : Nat) < win0_7.index t 1 * win0_7.size 1 + 128
              rw [(off7 t).2]; omega

theorem off8 : ∀ t : Fin cfg0.N, win0_8.index t 0 * win0_8.size 0 = 0 ∧ win0_8.index t 1 * win0_8.size 1 = 0 :=
  (by decide +kernel : ∀ t : Fin grid0.N, win0_8.index t 0 * win0_8.size 0 = 0 ∧ win0_8.index t 1 * win0_8.size 1 = 0)
/-- An array read through point `t`'s block of window 8. -/
theorem read8_apply (X : Arr S1x1024) (t : Fin cfg0.N) (r : Fin 1) (k : Fin 1024) :
    ((win0_8.blk t).view.read (Elt Ideal) X : S1x1024.Idx → EReal) (ix2 r k) = X (ix2 r k) := by
  show X ((win0_8.rect t).idx (ix2 r k)) = _
  refine congrArg _ (funext fun a => Fin.ext ?_)
  match a with
  | ⟨0, _⟩ => show win0_8.index t 0 * win0_8.size 0 + 1 * r.val = r.val
              rw [(off8 t).1]; omega
  | ⟨1, _⟩ => show win0_8.index t 1 * win0_8.size 1 + 1 * k.val = k.val
              rw [(off8 t).2]; omega

/-- Every index of the array is in the block of a point that writes back. -/
theorem cover8 (i : S1x1024.Idx) : ∃ t : Fin cfg0.N, (cfg0.win 8).flush t = true ∧ i ∈ ((cfg0.win 8).blk t).view.set := by
  have h0 : (i 0 : Nat) < 1 := (i 0).isLt
  have h1 : (i 1 : Nat) < 1024 := (i 1).isLt
  have hN : cfg0.N = 16 := N_0
  obtain ⟨t, ht⟩ : ∃ t : Fin cfg0.N, t.val = 15 := ⟨⟨15, by omega⟩, rfl⟩
  refine ⟨t, (flush0_8 t).mpr (by omega), ?_⟩
  show i ∈ ((View.whole main_v1_3).slice (win0_8.rect t)).set
  rw [View.set_slice_whole, Rect.mem_set_unit]
  intro a
  match a with
  | ⟨0, _⟩ => show win0_8.index t 0 * win0_8.size 0 ≤ (i 0 : Nat) ∧ (i 0 : Nat) < win0_8.index t 0 * win0_8.size 0 + 1
              rw [(off8 t).1]; omega
  | ⟨1, _⟩ => show win0_8.index t 1 * win0_8.size 1 ≤ (i 1 : Nat) ∧ (i 1 : Nat) < win0_8.index t 1 * win0_8.size 1 + 1024
              rw [(off8 t).2]; omega

/-- The call's rows after the MLP, their error and its gradient. -/
abbrev xs (c : Dev nD) : Arr S8192x1024 := rows2 (m ((c : Thread nD τ).loc main_arg0)) (m ((c : Thread nD τ).loc main_arg1)) (m ((c : Thread nD τ).loc main_arg2))
abbrev er (c : Dev nD) : Arr S8192x1024 := err (xs m c) (m ((c : Thread nD τ).loc main_arg3)) (m ((c : Thread nD τ).loc main_arg4))
abbrev dy (c : Dev nD) : Arr S8192x1024 := grad (er m c)

theorem pay7_apply (c : Dev nD) (t : Fin cfg0.N) (r : Fin 512) (k : Fin 1024) :
    k0_pay7 (F := Ideal) (iblk m c 0 t) (iblk m c 1 t) (iblk m c 2 t) (ix2 r k) = xs m c (ix2 (row t r) k) := by
  refine Eq.trans ?_ (rows2_apply _ _ _ _ _).symm
  pointwise [k0_pay7]
  simp only [iblk0_apply, iblk1_apply, iblk2_apply]
  try rfl
theorem pay8_apply (c : Dev nD) (t : Fin cfg0.N) (r : Fin 512) (k : Fin 1) :
    k0_pay8 (F := Ideal) (iblk m c 0 t) (iblk m c 1 t) (iblk m c 2 t) (ix2 r k) = Ideal.rsqrt (var (xs m c) (row t r)) := by
  pointwise [k0_pay8]
  simp only [pay7_apply, var]
theorem pay9_apply (c : Dev nD) (t : Fin cfg0.N) (r : Fin 512) (k : Fin 1024) :
    k0_pay9 (F := Ideal) (iblk m c 0 t) (iblk m c 1 t) (iblk m c 2 t) (ix2 r k) = xs m c (ix2 (row t r) k) * Ideal.rsqrt (var (xs m c) (row t r)) := by
  pointwise [k0_pay9]
  rw [pay8_apply, pay7_apply]
theorem gain_apply (c : Dev nD) (t : Fin cfg0.N) (k : Fin 1024) :
    (iblk m c 3 t : S1x1024.Idx → EReal) (ix2 (0 : Fin 1) k) = ((m ((c : Thread nD τ).loc main_arg3)) : Arr S1024) (ix1 k) :=
  (iblk3_apply m c t 0 k).trans (V_gain m c k)
theorem pay10_apply (c : Dev nD) (t : Fin cfg0.N) (r : Fin 512) (k : Fin 1024) :
    k0_pay10 (F := Ideal) (iblk m c 0 t) (iblk m c 1 t) (iblk m c 2 t) (iblk m c 3 t) (iblk m c 4 t) (ix2 r k) = er m c (ix2 (row t r) k) := by
  refine Eq.trans ?_ (err_apply _ _ _ _ _).symm
  pointwise [k0_pay10]
  rw [pay9_apply, gain_apply, iblk4_apply]
theorem pay11_apply (c : Dev nD) (t : Fin cfg0.N) (r : Fin 512) (k : Fin 1024) :
    k0_pay11 (F := Ideal) (iblk m c 0 t) (iblk m c 1 t) (iblk m c 2 t) (iblk m c 3 t) (iblk m c 4 t) (ix2 r k) = dy m c (ix2 (row t r) k) := by
  refine Eq.trans ?_ (grad_apply _ _ _).symm
  pointwise [k0_pay11]
  rw [pay10_apply]
theorem pay12_apply (c : Dev nD) (t : Fin cfg0.N) (r : Fin 512) (k : Fin 1024) :
    k0_pay12 (F := Ideal) (iblk m c 0 t) (iblk m c 1 t) (iblk m c 2 t) (iblk m c 3 t) (iblk m c 4 t) (iblk m c 3 t) (ix2 r k) = dy m c (ix2 (row t r) k) * ((m ((c : Thread nD τ).loc main_arg3)) : Arr S1024) (ix1 k) := by
  pointwise [k0_pay12]
  rw [pay11_apply, gain_apply]
theorem pay13_apply (c : Dev nD) (t : Fin cfg0.N) (r : Fin 512) (k : Fin 1024) :
    k0_pay13 (F := Ideal) (iblk m c 0 t) (iblk m c 1 t) (iblk m c 2 t) (iblk m c 3 t) (iblk m c 4 t) (iblk m c 3 t) (ix2 r k) = xs m c (ix2 (row t r) k) * Ideal.rsqrt (var (xs m c) (row t r))
      * Ideal.div (∑ k : Fin 1024, dy m c (ix2 (row t r) k) * ((m ((c : Thread nD τ).loc main_arg3)) : Arr S1024) (ix1 k) * (xs m c (ix2 (row t r) k) * Ideal.rsqrt (var (xs m c) (row t r)))) (Ideal.ofBits .f32 0x44800000#32) := by
  pointwise [k0_pay13]
  simp only [pay12_apply, pay9_apply]
theorem pay1_apply (c : Dev nD) (t : Fin cfg0.N) (r : Fin 512) (k : Fin 1024) :
    k0_pay1 (F := Ideal) (k0_pay8 (iblk m c 0 t) (iblk m c 1 t) (iblk m c 2 t)) (k0_pay12 (iblk m c 0 t) (iblk m c 1 t) (iblk m c 2 t) (iblk m c 3 t) (iblk m c 4 t) (iblk m c 3 t)) (k0_pay13 (iblk m c 0 t) (iblk m c 1 t) (iblk m c 2 t) (iblk m c 3 t) (iblk m c 4 t) (iblk m c 3 t)) (ix2 r k) = gradX (dy m c) (xs m c) (m ((c : Thread nD τ).loc main_arg3)) (ix2 (row t r) k) := by
  pointwise [k0_pay1]
  rw [pay8_apply, pay12_apply, pay13_apply]
  rfl
theorem pay2_apply (c : Dev nD) (t : Fin cfg0.N) (r : Fin 512) (k : Fin 1024) :
    k0_pay2 (F := Ideal) (k0_pay8 (iblk m c 0 t) (iblk m c 1 t) (iblk m c 2 t)) (k0_pay12 (iblk m c 0 t) (iblk m c 1 t) (iblk m c 2 t) (iblk m c 3 t) (iblk m c 4 t) (iblk m c 3 t)) (k0_pay13 (iblk m c 0 t) (iblk m c 1 t) (iblk m c 2 t) (iblk m c 3 t) (iblk m c 4 t) (iblk m c 3 t)) (ix2 r k) = gradX (dy m c) (xs m c) (m ((c : Thread nD τ).loc main_arg3)) (ix2 (row t r) k) := by
  pointwise [k0_pay2]
  exact pay1_apply m c t r k

/-- One point's summand of the loss. -/
def lossTerm (E : Arr S8192x1024) (t : Fin cfg0.N) : Arr S1x128 := fun _ =>
  ∑ r : Fin 512, (∑ k : Fin 1024, E (ix2 (row t r) k) * E (ix2 (row t r) k)) * Ideal.ofBits .f32 0x3A000000#32
theorem pay5_apply (c : Dev nD) (t : Fin cfg0.N) (acc : Arr S1x128) (z : Fin 1) (k : Fin 128) :
    k0_pay5 (F := Ideal) (k0_pay10 (iblk m c 0 t) (iblk m c 1 t) (iblk m c 2 t) (iblk m c 3 t) (iblk m c 4 t)) acc (ix2 z k) = acc (ix2 z k) + lossTerm (er m c) t (ix2 z k) := by
  pointwise [k0_pay5]
  simp only [pay10_apply]
  refine congrArg (acc (ix2 z k) + ·) ?_
  unfold lossTerm
  rw [ofBits_half_width, sum_mul_coe (by norm_num)]
/-- One point's summand of the gain's gradient. -/
def term (B x : Arr S8192x1024) (t : Fin cfg0.N) : Arr S1x1024 := fun i =>
  ∑ r : Fin 512, B (ix2 (row t r) (i 1)) * (x (ix2 (row t r) (i 1)) * Ideal.rsqrt (var x (row t r)))
theorem term_apply (B x : Arr S8192x1024) (t : Fin cfg0.N) (z : Fin 1) (k : Fin 1024) :
    term B x t (ix2 z k) = ∑ r : Fin 512, B (ix2 (row t r) k) * (x (ix2 (row t r) k) * Ideal.rsqrt (var x (row t r))) := rfl
theorem gradG_apply (B x : Arr S8192x1024) (z : Fin 1) (k : Fin 1024) :
    gradG B x (ix2 z k) = ∑ r : Fin 8192, B (ix2 r k) * (x (ix2 r k) * Ideal.rsqrt (var x r)) := rfl
theorem lossTerm_apply (E : Arr S8192x1024) (t : Fin cfg0.N) (z : Fin 1) (k : Fin 128) :
    lossTerm E t (ix2 z k) = ∑ r : Fin 512, (∑ k : Fin 1024, E (ix2 (row t r) k) * E (ix2 (row t r) k)) * Ideal.ofBits .f32 0x3A000000#32 := rfl
theorem loss_apply (E : Arr S8192x1024) (z : Fin 1) (k : Fin 128) :
    loss E (ix2 z k) = ∑ r : Fin 8192, (∑ k : Fin 1024, E (ix2 r k) * E (ix2 r k)) * Ideal.ofBits .f32 0x3A000000#32 := rfl

theorem pay6_apply (c : Dev nD) (t : Fin cfg0.N) (acc : Arr S1x1024) (z : Fin 1) (k : Fin 1024) :
    k0_pay6 (F := Ideal) (k0_pay9 (iblk m c 0 t) (iblk m c 1 t) (iblk m c 2 t)) (k0_pay11 (iblk m c 0 t) (iblk m c 1 t) (iblk m c 2 t) (iblk m c 3 t) (iblk m c 4 t)) acc (ix2 z k) = acc (ix2 z k) + term (dy m c) (xs m c) t (ix2 z k) := by
  pointwise [k0_pay6]
  simp only [pay11_apply, pay9_apply, term_apply]
  try rfl

/-- What a point leaves in its block of the tokens' gradient. -/
theorem out_eq5 (c : Dev nD) (t : Fin cfg0.N) (r : Fin 512) (k : Fin 1024) :
    (outsAt0 m c t.val t.isLt).1 (ix2 r k) = gradX (dy m c) (xs m c) (m ((c : Thread nD τ).loc main_arg3)) (ix2 (row t r) k) := by
  by_cases h0 : t.val % 16 = 0
  · rw [outsAt0_A m c t h0]; dsimp only; frame_out
    exact pay1_apply m c t r k
  · rw [outsAt0_B m c t h0]; dsimp only; frame_out
    exact pay1_apply m c t r k
theorem flush_eq5 (c : Dev nD) (t : Fin cfg0.N) :
    (dats m 0 c).flushed 5 t = (win0_5.blk t).view.read (Elt Ideal) (gradX (dy m c) (xs m c) (m ((c : Thread nD τ).loc main_arg3))) := by
  show (cfg0.win 5).cut (grid0.coords t) ((dats m 0 c).after 5 t) = _
  rw [after0_5]
  refine funext fun (j : S512x1024.Idx) => ?_
  idx_vars j
  exact (out_eq5 m c t j0 j1).trans (read5_apply _ t j0 j1).symm
theorem final5 (c : Dev nD) : (dats m 0 c).arrAt 5 cfg0.N = gradX (dy m c) (xs m c) (m ((c : Thread nD τ).loc main_arg3)) :=
  (dats m 0 c).arrAt_eq_of_cover 5 _ (fun t _ => flush_eq5 m c t) cover5

/-- What a point leaves in its block of the tokens' gradient. -/
theorem out_eq6 (c : Dev nD) (t : Fin cfg0.N) (r : Fin 512) (k : Fin 1024) :
    (outsAt0 m c t.val t.isLt).2.1 (ix2 r k) = gradX (dy m c) (xs m c) (m ((c : Thread nD τ).loc main_arg3)) (ix2 (row t r) k) := by
  by_cases h0 : t.val % 16 = 0
  · rw [outsAt0_A m c t h0]; dsimp only; frame_out
    exact pay2_apply m c t r k
  · rw [outsAt0_B m c t h0]; dsimp only; frame_out
    exact pay2_apply m c t r k
theorem flush_eq6 (c : Dev nD) (t : Fin cfg0.N) :
    (dats m 0 c).flushed 6 t = (win0_6.blk t).view.read (Elt Ideal) (gradX (dy m c) (xs m c) (m ((c : Thread nD τ).loc main_arg3))) := by
  show (cfg0.win 6).cut (grid0.coords t) ((dats m 0 c).after 6 t) = _
  rw [after0_6]
  refine funext fun (j : S512x1024.Idx) => ?_
  idx_vars j
  exact (out_eq6 m c t j0 j1).trans (read6_apply _ t j0 j1).symm
theorem final6 (c : Dev nD) : (dats m 0 c).arrAt 6 cfg0.N = gradX (dy m c) (xs m c) (m ((c : Thread nD τ).loc main_arg3)) :=
  (dats m 0 c).arrAt_eq_of_cover 6 _ (fun t _ => flush_eq6 m c t) cover6

/-- The accumulator after the last point is the sum over the points. -/
theorem acc_eq7 (c : Dev nD) (t : Fin cfg0.N) (hf : t.val % 16 = 16 - 1) (j : S1x128.Idx) :
    (outsAt0 m c t.val t.isLt).2.2.1 j = 0 + ∑ s : Fin 16, lossTerm (er m c) ⟨16 * (t.val / 16) + s.val, Pipeline.run_point_lt_of_flush t hf s⟩ j :=
  Pipeline.eq_sum_fin_of_reset_step_apply_of_flush (fun n h => (outsAt0 m c n h).2.2.1) 16 (fun _ => (0 : EReal)) (lossTerm (er m c))
    (fun t h j => by
      rw [outsAt0_A m c t h]; dsimp only; frame_out
      idx_vars j
      refine Eq.trans (pay5_apply m c t _ j0 j1) ?_
      refine congrArg (· + _) ?_
      pointwise [k0_pay3])
    (fun t h j => by
      rw [outsAt0_B m c t h]; dsimp only; frame_out
      idx_vars j
      exact pay5_apply m c t _ j0 j1)
    t hf j
theorem flush_eq7 (c : Dev nD) (t : Fin cfg0.N) (hf : (cfg0.win 7).flush t = true) :
    (dats m 0 c).flushed 7 t = (win0_7.blk t).view.read (Elt Ideal) (loss (er m c)) := by
  have h7 : t.val % 16 = 15 := by have h := (flush0_7 t).mp hf; have := t.isLt; have := N16; omega
  show (cfg0.win 7).cut (grid0.coords t) ((dats m 0 c).after 7 t) = _
  rw [after0_7]
  refine funext fun (j : S1x128.Idx) => ?_
  idx_vars j
  refine Eq.trans ?_ (read7_apply _ t j0 j1).symm
  refine Eq.trans (acc_eq7 m c t h7 (ix2 j0 j1)) ?_
  rw [zero_add]
  simp only [lossTerm_apply, loss_apply]
  refine Fin.sum_mul_add_congr fun s k hl => ?_
  have e0 : row ⟨16 * (t.val / 16) + s.val, Pipeline.run_point_lt_of_flush t h7 s⟩ k = ⟨s.val * 512 + k.val, hl⟩ :=
    Fin.ext (by show (16 * (t.val / 16) + s.val) * 512 + k.val = s.val * 512 + k.val; have := t.isLt; have := N16; omega)
  rw [e0]
theorem final7 (c : Dev nD) : (dats m 0 c).arrAt 7 cfg0.N = loss (er m c) :=
  (dats m 0 c).arrAt_eq_of_cover 7 _ (fun t hf => flush_eq7 m c t hf) cover7

/-- The accumulator after the last point is the sum over the points. -/
theorem acc_eq8 (c : Dev nD) (t : Fin cfg0.N) (hf : t.val % 16 = 16 - 1) (j : S1x1024.Idx) :
    (outsAt0 m c t.val t.isLt).2.2.2 j = 0 + ∑ s : Fin 16, term (dy m c) (xs m c) ⟨16 * (t.val / 16) + s.val, Pipeline.run_point_lt_of_flush t hf s⟩ j :=
  Pipeline.eq_sum_fin_of_reset_step_apply_of_flush (fun n h => (outsAt0 m c n h).2.2.2) 16 (fun _ => (0 : EReal)) (term (dy m c) (xs m c))
    (fun t h j => by
      rw [outsAt0_A m c t h]; dsimp only; frame_out
      idx_vars j
      refine Eq.trans (pay6_apply m c t _ j0 j1) ?_
      refine congrArg (· + _) ?_
      pointwise [k0_pay4])
    (fun t h j => by
      rw [outsAt0_B m c t h]; dsimp only; frame_out
      idx_vars j
      exact pay6_apply m c t _ j0 j1)
    t hf j
theorem flush_eq8 (c : Dev nD) (t : Fin cfg0.N) (hf : (cfg0.win 8).flush t = true) :
    (dats m 0 c).flushed 8 t = (win0_8.blk t).view.read (Elt Ideal) (gradG (dy m c) (xs m c)) := by
  have h7 : t.val % 16 = 15 := by have h := (flush0_8 t).mp hf; have := t.isLt; have := N16; omega
  show (cfg0.win 8).cut (grid0.coords t) ((dats m 0 c).after 8 t) = _
  rw [after0_8]
  refine funext fun (j : S1x1024.Idx) => ?_
  idx_vars j
  refine Eq.trans ?_ (read8_apply _ t j0 j1).symm
  refine Eq.trans (acc_eq8 m c t h7 (ix2 j0 j1)) ?_
  rw [zero_add]
  simp only [term_apply, gradG_apply]
  refine Fin.sum_mul_add_congr fun s k hl => ?_
  have e0 : row ⟨16 * (t.val / 16) + s.val, Pipeline.run_point_lt_of_flush t h7 s⟩ k = ⟨s.val * 512 + k.val, hl⟩ :=
    Fin.ext (by show (16 * (t.val / 16) + s.val) * 512 + k.val = s.val * 512 + k.val; have := t.isLt; have := N16; omega)
  rw [e0]
theorem final8 (c : Dev nD) : (dats m 0 c).arrAt 8 cfg0.N = gradG (dy m c) (xs m c) :=
  (dats m 0 c).arrAt_eq_of_cover 8 _ (fun t hf => flush_eq8 m c t hf) cover8

end Cert.LossIdeal.Call

namespace Cert.LossRefIdeal.Dot
open Cert.LossRefIdeal Cert.LossRefIdeal.Gen Idealize.ShloMosaic Idealize.ShloMosaic.TcCoe Idealize.SL.Sem

/-- The reference's rows after the MLP. -/
theorem rows_ref (m : (ℓ : Loc nD τ sig) → Buf (Elt Ideal) ℓ) (c : Dev nD) :
    addf (F := Ideal) (m ((c.tc : Thread nD τ).loc main_arg1)) (Host.dotGeneral (F := Ideal) dot_S8192x4096_S4096x1024_S8192x1024_1_0_0_1_n_n none (mulf (maximumf (extf .f32 (m ((c.tc : Thread nD τ).loc main_arg0)) bitsLt_bf16_f32) (broadcastInDim S8192x4096 ![] bcast_S_S8192x4096 (constant S_ .f32 0x00000000#32))) (maximumf (extf .f32 (m ((c.tc : Thread nD τ).loc main_arg0)) bitsLt_bf16_f32) (broadcastInDim S8192x4096 ![] bcast_S_S8192x4096 (constant S_ .f32 0x00000000#32)))) (extf .f32 (m ((c.tc : Thread nD τ).loc main_arg2)) bitsLt_bf16_f32)) = Cert.LossIdeal.Call.rows2 (m ((c.tc : Thread nD τ).loc main_arg0)) (m ((c.tc : Thread nD τ).loc main_arg1)) (m ((c.tc : Thread nD τ).loc main_arg2)) := by
  refine funext fun (i : S8192x1024.Idx) => ?_
  idx_vars i
  rw [Cert.LossIdeal.Call.rows2_apply]
  pointwise
  try rfl

end Cert.LossRefIdeal.Dot

namespace Cert.LossIdeal.Call
end Cert.LossIdeal.Call

namespace Cert.LossIdeal.Claims
open Idealize.ShloMosaic Idealize.ShloMosaic.TcCoe Idealize.SL.Sem
open Cert.LossIdeal.Call

/-- The reference's frame: its host operations leave the arguments, and it declares no semaphore. -/
theorem frame_ref : Cert.quiescent_LossRefIdeal := fun m ρ _ =>
  (θ_run Cert.LossRefIdeal.defs _ _).mono (fun r h => ⟨fun c => (h c).2.2.2.2,
      Idealize.ShloMosaic.sem_eq_zero_of_no_sems (by decide) r.2⟩)
    (Cert.LossRefIdeal.Value.run (F := Ideal) m ρ)

set_option maxHeartbeats 2000000 in
/-- The reference's run: its results as functions of its arguments, which it leaves. -/
theorem run_ref (m : (ℓ : Loc Cert.LossRefIdeal.nD Cert.LossRefIdeal.τ Cert.LossRefIdeal.sig) → Buf (Elt Ideal) ℓ) (ρ : Dev Cert.LossRefIdeal.nD → PrngReg) :
    θ_run Cert.LossRefIdeal.defs (onTc (τ := Cert.LossRefIdeal.τ) (Cert.LossRefIdeal.main (F := Ideal))) ⟨m, fun _ => 0, ρ⟩ fun r => ∀ c : Dev Cert.LossRefIdeal.nD,
      r.2.mem ((c.tc : Thread Cert.LossRefIdeal.nD Cert.LossRefIdeal.τ).loc Cert.LossRefIdeal.main_v56) = gradX (grad (err (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)))) (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) (m ((c.tc : Thread Cert.LossRefIdeal.nD Cert.LossRefIdeal.τ).loc Cert.LossRefIdeal.main_arg3))
      ∧ r.2.mem ((c.tc : Thread Cert.LossRefIdeal.nD Cert.LossRefIdeal.τ).loc Cert.LossRefIdeal.main_v57) = gradX (grad (err (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)))) (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) (m ((c.tc : Thread Cert.LossRefIdeal.nD Cert.LossRefIdeal.τ).loc Cert.LossRefIdeal.main_arg3))
      ∧ r.2.mem ((c.tc : Thread Cert.LossRefIdeal.nD Cert.LossRefIdeal.τ).loc Cert.LossRefIdeal.main_v58) = loss (err (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)))
      ∧ r.2.mem ((c.tc : Thread Cert.LossRefIdeal.nD Cert.LossRefIdeal.τ).loc Cert.LossRefIdeal.main_v59) = gradG (grad (err (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)))) (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)))
      ∧ r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4) := by
  refine (θ_run Cert.LossRefIdeal.defs _ _).mono (fun r h c => ?_) (Cert.LossRefIdeal.Value.run (F := Ideal) m ρ)
  refine ⟨(h c).1.trans ?_, (h c).2.1.trans ?_, (h c).2.2.1.trans ?_, (h c).2.2.2.1.trans ?_, (h c).2.2.2.2⟩
  · refine funext fun (i : S8192x1024.Idx) => ?_
    idx_vars i
    unfold Cert.LossRefIdeal.Value.res_main_v56
    rw [Cert.LossRefIdeal.Dot.rows_ref]
    pointwise
    try simp only [Fin.sum_univ_one]
    simp only [coef]
    exact (Cert.LossIdeal.Call.grad_zero (fun k : Fin 1024 => (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) (ix2 i0 k)) (fun k : Fin 1024 => (grad (err (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)))) (ix2 i0 k) * ((m ((c.tc : Thread Cert.LossRefIdeal.nD Cert.LossRefIdeal.τ).loc Cert.LossRefIdeal.main_arg3)) : Arr S1024) (ix1 k)) (var (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) i0) (Cert.RmsGrad.var_pos fun k : Fin 1024 => (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) (ix2 i0 k)) i1).symm
  · refine funext fun (i : S8192x1024.Idx) => ?_
    idx_vars i
    unfold Cert.LossRefIdeal.Value.res_main_v57
    rw [Cert.LossRefIdeal.Dot.rows_ref]
    pointwise
    try simp only [Fin.sum_univ_one]
    simp only [coef]
    exact (Cert.LossIdeal.Call.grad_zero (fun k : Fin 1024 => (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) (ix2 i0 k)) (fun k : Fin 1024 => (grad (err (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)))) (ix2 i0 k) * ((m ((c.tc : Thread Cert.LossRefIdeal.nD Cert.LossRefIdeal.τ).loc Cert.LossRefIdeal.main_arg3)) : Arr S1024) (ix1 k)) (var (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) i0) (Cert.RmsGrad.var_pos fun k : Fin 1024 => (rows2 (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) (ix2 i0 k)) i1).symm
  · refine funext fun (i : S1x128.Idx) => ?_
    idx_vars i
    unfold Cert.LossRefIdeal.Value.res_main_v58
    rw [Cert.LossRefIdeal.Dot.rows_ref]
    pointwise
    try simp only [Fin.sum_univ_one]
    exact half_mean _
  · refine funext fun (i : S1x1024.Idx) => ?_
    idx_vars i
    unfold Cert.LossRefIdeal.Value.res_main_v59
    rw [Cert.LossRefIdeal.Dot.rows_ref]
    pointwise
    try simp only [Fin.sum_univ_one]
    simp only [coef]
    refine Eq.trans ?_ (gradG_apply _ _ i0 i1).symm
    exact Finset.sum_congr (M := EReal) rfl fun k _ => mul_comm (G := EReal) _ _

/-- The call's results are the reference's, whatever the arguments hold. -/
theorem algebraic : Cert.algebraic_LossIdeal_LossRefIdeal := by
  intro m ρ m' ρ' _ hag
  refine ⟨fun c => gradX (grad (err (rows2 (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) (m ((c.tc : Thread Cert.LossIdeal.nD Cert.LossIdeal.τ).loc Cert.LossIdeal.main_arg3)) (m ((c.tc : Thread Cert.LossIdeal.nD Cert.LossIdeal.τ).loc Cert.LossIdeal.main_arg4)))) (rows2 (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) (m ((c.tc : Thread Cert.LossIdeal.nD Cert.LossIdeal.τ).loc Cert.LossIdeal.main_arg3)), fun c => gradX (grad (err (rows2 (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) (m ((c.tc : Thread Cert.LossIdeal.nD Cert.LossIdeal.τ).loc Cert.LossIdeal.main_arg3)) (m ((c.tc : Thread Cert.LossIdeal.nD Cert.LossIdeal.τ).loc Cert.LossIdeal.main_arg4)))) (rows2 (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) (m ((c.tc : Thread Cert.LossIdeal.nD Cert.LossIdeal.τ).loc Cert.LossIdeal.main_arg3)), fun c => loss (err (rows2 (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) (m ((c.tc : Thread Cert.LossIdeal.nD Cert.LossIdeal.τ).loc Cert.LossIdeal.main_arg3)) (m ((c.tc : Thread Cert.LossIdeal.nD Cert.LossIdeal.τ).loc Cert.LossIdeal.main_arg4))), fun c => gradG (grad (err (rows2 (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) (m ((c.tc : Thread Cert.LossIdeal.nD Cert.LossIdeal.τ).loc Cert.LossIdeal.main_arg3)) (m ((c.tc : Thread Cert.LossIdeal.nD Cert.LossIdeal.τ).loc Cert.LossIdeal.main_arg4)))) (rows2 (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))), ?_, ?_⟩
  · refine (θ_run Cert.LossIdeal.defs _ _).mono (fun r h c => ?_) (Cert.LossIdeal.Value.run_blocks (F := Ideal) m ρ)
    have h := h c
    rw [final5, final6, final7, final8] at h
    exact h
  · refine (θ_run Cert.LossRefIdeal.defs _ _).mono (fun r h c => ?_) (run_ref m' ρ')
    have e := hag c
    have h := h c
    rw [e.1, e.2.1, e.2.2.1, e.2.2.2.1, e.2.2.2.2] at h
    rw [e.1, e.2.1, e.2.2.1, e.2.2.2.1, e.2.2.2.2]
    exact h

end Cert.LossIdeal.Claims
end
-- ==== Proof.ActCall.lean ====
/-
  The backward call of the two-layer network's second layer and its squared positive part; and the claims.
-/
module
public import proofs.«01_k».proof.Defs
public import proofs.«01_k».proof.Proof.Gen.ActIdeal.Value
public import proofs.«01_k».proof.Proof.Gen.ActRefIdeal.Run
public import Idealize.ShloMosaic.Lib.Pointwise
public import Idealize.ShloMosaic.Lib.Pipeline.ValueKit
public import Idealize.ShloMosaic.Lib.Pipeline.ReadBack
public import Idealize.ShloMosaic.Lib.Quiescent
@[expose] public section
set_option maxRecDepth 16384
noncomputable section
namespace Cert.ActIdeal.Call
open Cert.ActIdeal Cert.ActIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The gradient of the hidden rows. -/
def spec (dx : Arr S8192x1024) (a : Arr S8192x4096) (w : Arr S4096x1024) : Arr S8192x4096 := fun i =>
  (∑ k : Fin 1024, dx (ix2 (i 0) k) * w (ix2 (i 1) k)) * Ideal.ofBits .f32 0x40000000#32 * max (a (ix2 (i 0) (i 1))) 0

theorem N16 : cfg0.N = 16 := N_0

/-- The array row that row `r` of point `t`'s block is. -/
def row (t : Fin cfg0.N) (r : Fin 512) : Fin 8192 := ⟨t.val * 512 + r.val, by have := t.isLt; have := N16; omega⟩

theorem hz : (![0, 0] : Fin 2 → Nat) = fun _ => 0 := funext fun a => by fin_cases a <;> rfl

theorem off0 : ∀ t : Fin cfg0.N, win0_0.index t 0 * win0_0.size 0 = t.val * 512 ∧ win0_0.index t 1 * win0_0.size 1 = 0 :=
  (by decide +kernel : ∀ t : Fin grid0.N, win0_0.index t 0 * win0_0.size 0 = t.val * 512 ∧ win0_0.index t 1 * win0_0.size 1 = 0)
theorem iblk0_apply (c : Dev nD) (t : Fin cfg0.N) (r : Fin 512) (k : Fin 1024) :
    (iblk m c 0 t : S512x1024.Idx → EReal) (ix2 r k) = m ((c : Thread nD τ).loc main_arg0) (ix2 (row t r) k) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val * 512 + r.val
              rw [(off0 t).1]; omega
  | ⟨1, _⟩ => show win0_0.index t 1 * win0_0.size 1 + 1 * k.val = k.val
              rw [(off0 t).2]; omega

theorem off1 : ∀ t : Fin cfg0.N, win0_1.index t 0 * win0_1.size 0 = t.val * 512 ∧ win0_1.index t 1 * win0_1.size 1 = 0 :=
  (by decide +kernel : ∀ t : Fin grid0.N, win0_1.index t 0 * win0_1.size 0 = t.val * 512 ∧ win0_1.index t 1 * win0_1.size 1 = 0)
theorem iblk1_apply (c : Dev nD) (t : Fin cfg0.N) (r : Fin 512) (k : Fin 4096) :
    (iblk m c 1 t : S512x4096.Idx → EReal) (ix2 r k) = m ((c : Thread nD τ).loc main_arg1) (ix2 (row t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val * 512 + r.val
              rw [(off1 t).1]; omega
  | ⟨1, _⟩ => show win0_1.index t 1 * win0_1.size 1 + 1 * k.val = k.val
              rw [(off1 t).2]; omega

theorem off2 : ∀ t : Fin cfg0.N, win0_2.index t 0 * win0_2.size 0 = 0 ∧ win0_2.index t 1 * win0_2.size 1 = 0 :=
  (by decide +kernel : ∀ t : Fin grid0.N, win0_2.index t 0 * win0_2.size 0 = 0 ∧ win0_2.index t 1 * win0_2.size 1 = 0)
theorem iblk2_apply (c : Dev nD) (t : Fin cfg0.N) (r : Fin 4096) (k : Fin 1024) :
    (iblk m c 2 t : S4096x1024.Idx → EReal) (ix2 r k) = m ((c : Thread nD τ).loc main_arg2) (ix2 r k) := by
  unfold iblk
  show V m c main_arg2 ((win0_2.rect t).idx (ix2 r k)) = _
  rw [V_main_arg2]
  refine congrArg _ (funext fun a => Fin.ext ?_)
  match a with
  | ⟨0, _⟩ => show win0_2.index t 0 * win0_2.size 0 + 1 * r.val = r.val
              rw [(off2 t).1]; omega
  | ⟨1, _⟩ => show win0_2.index t 1 * win0_2.size 1 + 1 * k.val = k.val
              rw [(off2 t).2]; omega

theorem off3 : ∀ t : Fin cfg0.N, win0_3.index t 0 * win0_3.size 0 = t.val * 512 ∧ win0_3.index t 1 * win0_3.size 1 = 0 :=
  (by decide +kernel : ∀ t : Fin grid0.N, win0_3.index t 0 * win0_3.size 0 = t.val * 512 ∧ win0_3.index t 1 * win0_3.size 1 = 0)
/-- An array read through point `t`'s block of window 3. -/
theorem read3_apply (X : Arr S8192x4096) (t : Fin cfg0.N) (r : Fin 512) (k : Fin 4096) :
    ((win0_3.blk t).view.read (Elt Ideal) X : S512x4096.Idx → EReal) (ix2 r k) = X (ix2 (row t r) k) := by
  show X ((win0_3.rect t).idx (ix2 r k)) = _
  refine congrArg _ (funext fun a => Fin.ext ?_)
  match a with
  | ⟨0, _⟩ => show win0_3.index t 0 * win0_3.size 0 + 1 * r.val = t.val * 512 + r.val
              rw [(off3 t).1]; omega
  | ⟨1, _⟩ => show win0_3.index t 1 * win0_3.size 1 + 1 * k.val = k.val
              rw [(off3 t).2]; omega

/-- Every index of the array is in the block of a point that writes back. -/
theorem cover3 (i : S8192x4096.Idx) : ∃ t : Fin cfg0.N, (cfg0.win 3).flush t = true ∧ i ∈ ((cfg0.win 3).blk t).view.set := by
  have h0 : (i 0 : Nat) < 8192 := (i 0).isLt
  have h1 : (i 1 : Nat) < 4096 := (i 1).isLt
  have hN : cfg0.N = 16 := N_0
  obtain ⟨t, ht⟩ : ∃ t : Fin cfg0.N, t.val = (i 0).val / 512 := ⟨⟨(i 0).val / 512, by omega⟩, rfl⟩
  refine ⟨t, flush0_3 t, ?_⟩
  show i ∈ ((View.whole main_v0).slice (win0_3.rect t)).set
  rw [View.set_slice_whole, Rect.mem_set_unit]
  intro a
  match a with
  | ⟨0, _⟩ => show win0_3.index t 0 * win0_3.size 0 ≤ (i 0 : Nat) ∧ (i 0 : Nat) < win0_3.index t 0 * win0_3.size 0 + 512
              rw [(off3 t).1]; omega
  | ⟨1, _⟩ => show win0_3.index t 1 * win0_3.size 1 ≤ (i 1 : Nat) ∧ (i 1 : Nat) < win0_3.index t 1 * win0_3.size 1 + 4096
              rw [(off3 t).2]; omega

set_option maxHeartbeats 1000000 in
/-- What point `t` writes back is block `t` of the array's function. -/
theorem flush_eq3 (c : Dev nD) (t : Fin cfg0.N) :
    (dats m 0 c).flushed 3 t = (win0_3.blk t).view.read (Elt Ideal) (spec (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz]
  refine funext fun (j : S512x4096.Idx) => ?_
  idx_vars j
  refine Eq.trans ?_ (read3_apply _ t j0 j1).symm
  show (k0_pay1 (View.ld (iblk m c 0 t) r0_0) (View.ld (iblk m c 2 t) r0_1) (View.ld (iblk m c 1 t) r0_2)) (ix2 j0 j1) = _
  pointwise [k0_pay1]
  simp only [iblk0_apply, iblk1_apply, iblk2_apply, spec]
  try rfl

theorem final3 (c : Dev nD) : (dats m 0 c).arrAt 3 cfg0.N = spec (m ((c : Thread nD τ).loc main_arg0)) (m ((c : Thread nD τ).loc main_arg1)) (m ((c : Thread nD τ).loc main_arg2)) :=
  (dats m 0 c).arrAt_eq_of_cover 3 _ (fun t _ => flush_eq3 m c t) cover3

end Cert.ActIdeal.Call

namespace Cert.ActIdeal.Claims
open Idealize.ShloMosaic Idealize.ShloMosaic.TcCoe Idealize.SL.Sem
open Cert.ActIdeal.Call

/-- The reference's frame: its host operations leave the arguments, and it declares no semaphore. -/
theorem frame_ref : Cert.quiescent_ActRefIdeal := fun m ρ _ =>
  (θ_run Cert.ActRefIdeal.defs _ _).mono (fun r h => ⟨fun c => (h c).2,
      Idealize.ShloMosaic.sem_eq_zero_of_no_sems (by decide) r.2⟩)
    (Cert.ActRefIdeal.Value.run (F := Ideal) m ρ)

set_option maxHeartbeats 2000000 in
/-- The reference's run: its results as functions of its arguments, which it leaves. -/
theorem run_ref (m : (ℓ : Loc Cert.ActRefIdeal.nD Cert.ActRefIdeal.τ Cert.ActRefIdeal.sig) → Buf (Elt Ideal) ℓ) (ρ : Dev Cert.ActRefIdeal.nD → PrngReg) :
    θ_run Cert.ActRefIdeal.defs (onTc (τ := Cert.ActRefIdeal.τ) (Cert.ActRefIdeal.main (F := Ideal))) ⟨m, fun _ => 0, ρ⟩ fun r => ∀ c : Dev Cert.ActRefIdeal.nD,
      r.2.mem ((c.tc : Thread Cert.ActRefIdeal.nD Cert.ActRefIdeal.τ).loc Cert.ActRefIdeal.main_v15) = spec (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))
      ∧ r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2) := by
  refine (θ_run Cert.ActRefIdeal.defs _ _).mono (fun r h c => ?_) (Cert.ActRefIdeal.Value.run (F := Ideal) m ρ)
  refine ⟨(h c).1.trans ?_, (h c).2⟩
  · refine funext fun (i : S8192x4096.Idx) => ?_
    idx_vars i
    pointwise
    show _ = (∑ k : Fin 1024, _) * _ * max _ 0
    split
    · exact (mul_assoc _ _ _).symm
    · rename_i h
      exact ((congrArg (fun q : EReal => _ * q) (max_eq_right (not_lt.mp h))).trans (mul_zero _)).symm

/-- The call's results are the reference's, whatever the arguments hold. -/
theorem algebraic : Cert.algebraic_ActIdeal_ActRefIdeal := by
  intro m ρ m' ρ' _ hag
  refine ⟨fun c => spec (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)), ?_, ?_⟩
  · refine (θ_run Cert.ActIdeal.defs _ _).mono (fun r h c => ?_) (Cert.ActIdeal.Value.run_blocks (F := Ideal) m ρ)
    have h := h c
    rw [final3] at h
    exact h
  · refine (θ_run Cert.ActRefIdeal.defs _ _).mono (fun r h c => ?_) (run_ref m' ρ')
    have e := hag c
    have h := h c
    rw [e.1, e.2.1, e.2.2] at h
    rw [e.1, e.2.1, e.2.2]
    exact h

end Cert.ActIdeal.Claims
end
-- ==== Proof.MlpInBwdCall.lean ====
/-
  The backward call of the MLP's input product: the gradient for the tokens through the root mean square norm, in both
  precisions, and the gradient of the gain, summed over the token blocks; and the claims.
-/
module
public import proofs.«01_k».proof.Defs
public import proofs.«01_k».proof.Proof.Gen.MlpInBwdIdeal.Value
public import proofs.«01_k».proof.Proof.Gen.MlpInBwdRefIdeal.Run
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.RmsGrad
@[expose] public section
set_option maxRecDepth 16384
noncomputable section
namespace Cert.MlpInBwdIdeal.Call
open Cert.MlpInBwdIdeal Cert.MlpInBwdIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The row's mean square and the epsilon. -/
def var (x : Arr S8192x1024) (r : Fin 8192) : EReal :=
  Ideal.div (∑ k : Fin 1024, x (ix2 r k) * x (ix2 r k)) (Ideal.ofBits .f32 0x44800000#32) + Ideal.ofBits .f32 0x358637BD#32
/-- The gradient for the normalised rows: the incoming gradient against the weight's columns, which are stored in eight
    stacked pieces. -/
def back (d : Arr S8192x4096) (w : Arr S8x1024x512) : Arr S8192x1024 := fun i =>
  ∑ e : Fin 8, ∑ f : Fin 512, d (ix2 (i 0) ⟨e.val * 512 + f.val, by omega⟩) * w (ix3 e (i 1) f)
theorem back_apply (d : Arr S8192x4096) (w : Arr S8x1024x512) (r : Fin 8192) (k : Fin 1024) :
    back d w (ix2 r k) = ∑ e : Fin 8, ∑ f : Fin 512, d (ix2 r ⟨e.val * 512 + f.val, by omega⟩) * w (ix3 e k f) := rfl
/-- The gradient for the rows, with what is added to it. -/
def gradX (B x : Arr S8192x1024) (g : Arr S1024) (res : Arr S8192x1024) : Arr S8192x1024 := fun i =>
  res (ix2 (i 0) (i 1)) + Ideal.rsqrt (var x (i 0)) * (B (ix2 (i 0) (i 1)) * g (ix1 (i 1)) - x (ix2 (i 0) (i 1)) * Ideal.rsqrt (var x (i 0))
    * Ideal.div (∑ k : Fin 1024, B (ix2 (i 0) k) * g (ix1 k) * (x (ix2 (i 0) k) * Ideal.rsqrt (var x (i 0)))) (Ideal.ofBits .f32 0x44800000#32))
/-- The gradient of the gain. -/
def gradG (B x : Arr S8192x1024) : Arr S1x1024 := fun i =>
  ∑ r : Fin 8192, B (ix2 r (i 1)) * (x (ix2 r (i 1)) * Ideal.rsqrt (var x r))

theorem N16 : cfg0.N = 16 := N_0

/-- The array row that row `r` of point `t`'s block is. -/
def row (t : Fin cfg0.N) (r : Fin 512) : Fin 8192 := ⟨t.val * 512 + r.val, by have := t.isLt; have := N16; omega⟩

theorem hz : (![0, 0] : Fin 2 → Nat) = fun _ => 0 := funext fun a => by fin_cases a <;> rfl

theorem off0 : ∀ t : Fin cfg0.N, win0_0.index t 0 * win0_0.size 0 = t.val * 512 ∧ win0_0.index t 1 * win0_0.size 1 = 0 :=
  (by decide +kernel : ∀ t : Fin grid0.N, win0_0.index t 0 * win0_0.size 0 = t.val * 512 ∧ win0_0.index t 1 * win0_0.size 1 = 0)
theorem iblk0_apply (c : Dev nD) (t : Fin cfg0.N) (r : Fin 512) (k : Fin 4096) :
    (iblk m c 0 t : S512x4096.Idx → EReal) (ix2 r k) = m ((c : Thread nD τ).loc main_arg0) (ix2 (row t r) k) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val * 512 + r.val
              rw [(off0 t).1]; omega
  | ⟨1, _⟩ => show win0_0.index t 1 * win0_0.size 1 + 1 * k.val = k.val
              rw [(off0 t).2]; omega

theorem off1 : ∀ t : Fin cfg0.N, win0_1.index t 0 * win0_1.size 0 = 0 ∧ win0_1.index t 1 * win0_1.size 1 = 0 ∧ win0_1.index t 2 * win0_1.size 2 = 0 :=
  (by decide +kernel : ∀ t : Fin grid0.N, win0_1.index t 0 * win0_1.size 0 = 0 ∧ win0_1.index t 1 * win0_1.size 1 = 0 ∧ win0_1.index t 2 * win0_1.size 2 = 0)
theorem iblk1_apply (c : Dev nD) (t : Fin cfg0.N) (s : Fin 8) (r : Fin 1024) (k : Fin 512) :
    (iblk m c 1 t : S8x1024x512.Idx → EReal) (ix3 s r k) = m ((c : Thread nD τ).loc main_arg1) (ix3 s r k) := by
  unfold iblk
  show V m c main_arg1 ((win0_1.rect t).idx (ix3 s r k)) = _
  rw [V_main_arg1]
  refine congrArg _ (funext fun a => Fin.ext ?_)
  match a with
  | ⟨0, _⟩ => show win0_1.index t 0 * win0_1.size 0 + 1 * s.val = s.val
              rw [(off1 t).1]; omega
  | ⟨1, _⟩ => show win0_1.index t 1 * win0_1.size 1 + 1 * r.val = r.val
              rw [(off1 t).2.1]; omega
  | ⟨2, _⟩ => show win0_1.index t 2 * win0_1.size 2 + 1 * k.val = k.val
              rw [(off1 t).2.2]; omega

theorem off2 : ∀ t : Fin cfg0.N, win0_2.index t 0 * win0_2.size 0 = t.val * 512 ∧ win0_2.index t 1 * win0_2.size 1 = 0 :=
  (by decide +kernel : ∀ t : Fin grid0.N, win0_2.index t 0 * win0_2.size 0 = t.val * 512 ∧ win0_2.index t 1 * win0_2.size 1 = 0)
theorem iblk2_apply (c : Dev nD) (t : Fin cfg0.N) (r : Fin 512) (k : Fin 1024) :
    (iblk m c 2 t : S512x1024.Idx → EReal) (ix2 r k) = m ((c : Thread nD τ).loc main_arg2) (ix2 (row t r) k) := by
  unfold iblk
  show V m c main_arg2 ((win0_2.rect t).idx (ix2 r k)) = _
  rw [V_main_arg2]
  refine congrArg _ (funext fun a => Fin.ext ?_)
  match a with
  | ⟨0, _⟩ => show win0_2.index t 0 * win0_2.size 0 + 1 * r.val = t.val * 512 + r.val
              rw [(off2 t).1]; omega
  | ⟨1, _⟩ => show win0_2.index t 1 * win0_2.size 1 + 1 * k.val = k.val
              rw [(off2 t).2]; omega

theorem off3 : ∀ t : Fin cfg0.N, win0_3.index t 0 * win0_3.size 0 = 0 ∧ win0_3.index t 1 * win0_3.size 1 = 0 :=
  (by decide +kernel : ∀ t : Fin grid0.N, win0_3.index t 0 * win0_3.size 0 = 0 ∧ win0_3.index t 1 * win0_3.size 1 = 0)
theorem iblk3_apply (c : Dev nD) (t : Fin cfg0.N) (r : Fin 1) (k : Fin 1024) :
    (iblk m c 3 t : S1x1024.Idx → EReal) (ix2 r k) = V m c main_v0 (ix2 r k) := by
  unfold iblk
  show V m c main_v0 ((win0_3.rect t).idx (ix2 r k)) = _
  refine congrArg _ (funext fun a => Fin.ext ?_)
  match a with
  | ⟨0, _⟩ => show win0_3.index t 0 * win0_3.size 0 + 1 * r.val = r.val
              rw [(off3 t).1]; omega
  | ⟨1, _⟩ => show win0_3.index t 1 * win0_3.size 1 + 1 * k.val = k.val
              rw [(off3 t).2]; omega

/-- The gain as the row the call is handed. -/
theorem V_gain (c : Dev nD) (k : Fin 1024) : V m c main_v0 (ix2 (0 : Fin 1) k) = m ((c : Thread nD τ).loc main_arg3) (ix1 k) := by
  unfold V hostOps0
  after_results_simp
  pointwise

theorem off4 : ∀ t : Fin cfg0.N, win0_4.index t 0 * win0_4.size 0 = t.val * 512 ∧ win0_4.index t 1 * win0_4.size 1 = 0 :=
  (by decide +kernel : ∀ t : Fin grid0.N, win0_4.index t 0 * win0_4.size 0 = t.val * 512 ∧ win0_4.index t 1 * win0_4.size 1 = 0)
theorem iblk4_apply (c : Dev nD) (t : Fin cfg0.N) (r : Fin 512) (k : Fin 1024) :
    (iblk m c 4 t : S512x1024.Idx → EReal) (ix2 r k) = m ((c : Thread nD τ).loc main_arg4) (ix2 (row t r) k) := by
  unfold iblk
  show V m c main_arg4 ((win0_4.rect t).idx (ix2 r k)) = _
  rw [V_main_arg4]
  refine congrArg _ (funext fun a => Fin.ext ?_)
  match a with
  | ⟨0, _⟩ => show win0_4.index t 0 * win0_4.size 0 + 1 * r.val = t.val * 512 + r.val
              rw [(off4 t).1]; omega
  | ⟨1, _⟩ => show win0_4.index t 1 * win0_4.size 1 + 1 * k.val = k.val
              rw [(off4 t).2]; omega

theorem off5 : ∀ t : Fin cfg0.N, win0_5.index t 0 * win0_5.size 0 = t.val * 512 ∧ win0_5.index t 1 * win0_5.size 1 = 0 :=
  (by decide +kernel : ∀ t : Fin grid0.N, win0_5.index t 0 * win0_5.size 0 = t.val * 512 ∧ win0_5.index t 1 * win0_5.size 1 = 0)
/-- An array read through point `t`'s block of window 5. -/
theorem read5_apply (X : Arr S8192x1024) (t : Fin cfg0.N) (r : Fin 512) (k : Fin 1024) :
    ((win0_5.blk t).view.read (Elt Ideal) X : S512x1024.Idx → EReal) (ix2 r k) = X (ix2 (row t r) k) := by
  show X ((win0_5.rect t).idx (ix2 r k)) = _
  refine congrArg _ (funext fun a => Fin.ext ?_)
  match a with
  | ⟨0, _⟩ => show win0_5.index t 0 * win0_5.size 0 + 1 * r.val = t.val * 512 + r.val
              rw [(off5 t).1]; omega
  | ⟨1, _⟩ => show win0_5.index t 1 * win0_5.size 1 + 1 * k.val = k.val
              rw [(off5 t).2]; omega

/-- Every index of the array is in the block of a point that writes back. -/
theorem cover5 (i : S8192x1024.Idx) : ∃ t : Fin cfg0.N, (cfg0.win 5).flush t = true ∧ i ∈ ((cfg0.win 5).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0).val / 512 := ⟨⟨(i 0).val / 512, by omega⟩, rfl⟩
  refine ⟨t, flush0_5 t, ?_⟩
  show i ∈ ((View.whole main_v1_0).slice (win0_5.rect t)).set
  rw [View.set_slice_whole, Rect.mem_set_unit]
  intro a
  match a with
  | ⟨0, _⟩ => show win0_5.index t 0 * win0_5.size 0 ≤ (i 0 : Nat) ∧ (i 0 : Nat) < win0_5.index t 0 * win0_5.size 0 + 512
              rw [(off5 t).1]; omega
  | ⟨1, _⟩ => show win0_5.index t 1 * win0_5.size 1 ≤ (i 1 : Nat) ∧ (i 1 : Nat) < win0_5.index t 1 * win0_5.size 1 + 1024
              rw [(off5 t).2]; omega

theorem off6 : ∀ t : Fin cfg0.N, win0_6.index t 0 * win0_6.size 0 = t.val * 512 ∧ win0_6.index t 1 * win0_6.size 1 = 0 :=
  (by decide +kernel : ∀ t : Fin grid0.N, win0_6.index t 0 * win0_6.size 0 = t.val * 512 ∧ win0_6.index t 1 * win0_6.size 1 = 0)
/-- An array read through point `t`'s block of window 6. -/
theorem read6_apply (X : Arr S8192x1024) (t : Fin cfg0.N) (r : Fin 512) (k : Fin 1024) :
    ((win0_6.blk t).view.read (Elt Ideal) X : S512x1024.Idx → EReal) (ix2 r k) = X (ix2 (row t r) k) := by
  show X ((win0_6.rect t).idx (ix2 r k)) = _
  refine congrArg _ (funext fun a => Fin.ext ?_)
  match a with
  | ⟨0, _⟩ => show win0_6.index t 0 * win0_6.size 0 + 1 * r.val = t.val * 512 + r.val
              rw [(off6 t).1]; omega
  | ⟨1, _⟩ => show win0_6.index t 1 * win0_6.size 1 + 1 * k.val = k.val
              rw [(off6 t).2]; omega

/-- Every index of the array is in the block of a point that writes back. -/
theorem cover6 (i : S8192x1024.Idx) : ∃ t : Fin cfg0.N, (cfg0.win 6).flush t = true ∧ i ∈ ((cfg0.win 6).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0).val / 512 := ⟨⟨(i 0).val / 512, by omega⟩, rfl⟩
  refine ⟨t, flush0_6 t, ?_⟩
  show i ∈ ((View.whole main_v1_1).slice (win0_6.rect t)).set
  rw [View.set_slice_whole, Rect.mem_set_unit]
  intro a
  match a with
  | ⟨0, _⟩ => show win0_6.index t 0 * win0_6.size 0 ≤ (i 0 : Nat) ∧ (i 0 : Nat) < win0_6.index t 0 * win0_6.size 0 + 512
              rw [(off6 t).1]; omega
  | ⟨1, _⟩ => show win0_6.index t 1 * win0_6.size 1 ≤ (i 1 : Nat) ∧ (i 1 : Nat) < win0_6.index t 1 * win0_6.size 1 + 1024
              rw [(off6 t).2]; omega

theorem off7 : ∀ t : Fin cfg0.N, win0_7.index t 0 * win0_7.size 0 = 0 ∧ win0_7.index t 1 * win0_7.size 1 = 0 :=
  (by decide +kernel : ∀ t : Fin grid0.N, win0_7.index t 0 * win0_7.size 0 = 0 ∧ win0_7.index t 1 * win0_7.size 1 = 0)
/-- An array read through point `t`'s block of window 7. -/
theorem read7_apply (X : Arr S1x1024) (t : Fin cfg0.N) (r : Fin 1) (k : Fin 1024) :
    ((win0_7.blk t).view.read (Elt Ideal) X : S1x1024.Idx → EReal) (ix2 r k) = X (ix2 r k) := by
  show X ((win0_7.rect t).idx (ix2 r k)) = _
  refine congrArg _ (funext fun a => Fin.ext ?_)
  match a with
  | ⟨0, _⟩ => show win0_7.index t 0 * win0_7.size 0 + 1 * r.val = r.val
              rw [(off7 t).1]; omega
  | ⟨1, _⟩ => show win0_7.index t 1 * win0_7.size 1 + 1 * k.val = k.val
              rw [(off7 t).2]; omega

/-- Every index of the array is in the block of a point that writes back. -/
theorem cover7 (i : S1x1024.Idx) : ∃ t : Fin cfg0.N, (cfg0.win 7).flush t = true ∧ i ∈ ((cfg0.win 7).blk t).view.set := by
  have h0 : (i 0 : Nat) < 1 := (i 0).isLt
  have h1 : (i 1 : Nat) < 1024 := (i 1).isLt
  have hN : cfg0.N = 16 := N_0
  obtain ⟨t, ht⟩ : ∃ t : Fin cfg0.N, t.val = 15 := ⟨⟨15, by omega⟩, rfl⟩
  refine ⟨t, (flush0_7 t).mpr (by omega), ?_⟩
  show i ∈ ((View.whole main_v1_2).slice (win0_7.rect t)).set
  rw [View.set_slice_whole, Rect.mem_set_unit]
  intro a
  match a with
  | ⟨0, _⟩ => show win0_7.index t 0 * win0_7.size 0 ≤ (i 0 : Nat) ∧ (i 0 : Nat) < win0_7.index t 0 * win0_7.size 0 + 1
              rw [(off7 t).1]; omega
  | ⟨1, _⟩ => show win0_7.index t 1 * win0_7.size 1 ≤ (i 1 : Nat) ∧ (i 1 : Nat) < win0_7.index t 1 * win0_7.size 1 + 1024
              rw [(off7 t).2]; omega

/-- The call's gradient for the normalised rows. -/
abbrev bk (c : Dev nD) : Arr S8192x1024 := back (m ((c : Thread nD τ).loc main_arg0)) (m ((c : Thread nD τ).loc main_arg1))

set_option maxHeartbeats 1000000 in
/-- The point's gradient for the normalised rows. -/
theorem pay6_apply (c : Dev nD) (t : Fin cfg0.N) (r : Fin 512) (k : Fin 1024) :
    k0_pay6 (F := Ideal) (k0_pay5 (View.ld (iblk m c 0 t) (Rect.unit ![0, 0] ![512, 512] inb_S512x4096_S512x512_0_0)) (View.ld (iblk m c 1 t) (Rect.unit ![0, 0, 0] ![1, 1024, 512] inb_S8x1024x512_S1x1024x512_0_0_0)) (View.ld (iblk m c 0 t) (Rect.unit ![0, 512] ![512, 512] inb_S512x4096_S512x512_0_512)) (View.ld (iblk m c 1 t) (Rect.unit ![1, 0, 0] ![1, 1024, 512] inb_S8x1024x512_S1x1024x512_1_0_0)) (View.ld (iblk m c 0 t) (Rect.unit ![0, 1024] ![512, 512] inb_S512x4096_S512x512_0_1024)) (View.ld (iblk m c 1 t) (Rect.unit ![2, 0, 0] ![1, 1024, 512] inb_S8x1024x512_S1x1024x512_2_0_0)) (View.ld (iblk m c 0 t) (Rect.unit ![0, 1536] ![512, 512] inb_S512x4096_S512x512_0_1536)) (View.ld (iblk m c 1 t) (Rect.unit ![3, 0, 0] ![1, 1024, 512] inb_S8x1024x512_S1x1024x512_3_0_0)) (View.ld (iblk m c 0 t) (Rect.unit ![0, 2048] ![512, 512] inb_S512x4096_S512x512_0_2048)) (View.ld (iblk m c 1 t) (Rect.unit ![4, 0, 0] ![1, 1024, 512] inb_S8x1024x512_S1x1024x512_4_0_0))) (View.ld (iblk m c 0 t) (Rect.unit ![0, 2560] ![512, 512] inb_S512x4096_S512x512_0_2560)) (View.ld (iblk m c 1 t) (Rect.unit ![5, 0, 0] ![1, 1024, 512] inb_S8x1024x512_S1x1024x512_5_0_0)) (View.ld (iblk m c 0 t) (Rect.unit ![0, 3072] ![512, 512] inb_S512x4096_S512x512_0_3072)) (View.ld (iblk m c 1 t) (Rect.unit ![6, 0, 0] ![1, 1024, 512] inb_S8x1024x512_S1x1024x512_6_0_0)) (View.ld (iblk m c 0 t) (Rect.unit ![0, 3584] ![512, 512] inb_S512x4096_S512x512_0_3584)) (View.ld (iblk m c 1 t) (Rect.unit ![7, 0, 0] ![1, 1024, 512] inb_S8x1024x512_S1x1024x512_7_0_0)) (ix2 r k) = bk m c (ix2 (row t r) k) := by
  refine Eq.trans ?_ (back_apply _ _ _ _).symm
  rw [Fin.sum_univ_eight]
  pointwise [k0_pay6, k0_pay5]
  simp only [iblk0_apply, iblk1_apply]
  try rfl

/-- The rows the norm is of. -/
abbrev rows2 (c : Dev nD) : Arr S8192x1024 := (m ((c : Thread nD τ).loc main_arg2))

theorem pay7_apply (c : Dev nD) (t : Fin cfg0.N) (r : Fin 512) (k : Fin 1) :
    k0_pay7 (F := Ideal) (iblk m c 2 t) (ix2 r k) = Ideal.rsqrt (var (m ((c : Thread nD τ).loc main_arg2)) (row t r)) := by
  pointwise [k0_pay7]
  simp only [iblk2_apply, var]
theorem pay8_apply (c : Dev nD) (t : Fin cfg0.N) (r : Fin 512) (k : Fin 1024) :
    k0_pay8 (F := Ideal) (iblk m c 2 t) (ix2 r k) = rows2 m c (ix2 (row t r) k) * Ideal.rsqrt (var (m ((c : Thread nD τ).loc main_arg2)) (row t r)) := by
  pointwise [k0_pay8]
  rw [pay7_apply, iblk2_apply]
theorem pay9_apply (c : Dev nD) (t : Fin cfg0.N) (r : Fin 512) (k : Fin 1024) :
    k0_pay9 (F := Ideal) (k0_pay5 (View.ld (iblk m c 0 t) (Rect.unit ![0, 0] ![512, 512] inb_S512x4096_S512x512_0_0)) (View.ld (iblk m c 1 t) (Rect.unit ![0, 0, 0] ![1, 1024, 512] inb_S8x1024x512_S1x1024x512_0_0_0)) (View.ld (iblk m c 0 t) (Rect.unit ![0, 512] ![512, 512] inb_S512x4096_S512x512_0_512)) (View.ld (iblk m c 1 t) (Rect.unit ![1, 0, 0] ![1, 1024, 512] inb_S8x1024x512_S1x1024x512_1_0_0)) (View.ld (iblk m c 0 t) (Rect.unit ![0, 1024] ![512, 512] inb_S512x4096_S512x512_0_1024)) (View.ld (iblk m c 1 t) (Rect.unit ![2, 0, 0] ![1, 1024, 512] inb_S8x1024x512_S1x1024x512_2_0_0)) (View.ld (iblk m c 0 t) (Rect.unit ![0, 1536] ![512, 512] inb_S512x4096_S512x512_0_1536)) (View.ld (iblk m c 1 t) (Rect.unit ![3, 0, 0] ![1, 1024, 512] inb_S8x1024x512_S1x1024x512_3_0_0)) (View.ld (iblk m c 0 t) (Rect.unit ![0, 2048] ![512, 512] inb_S512x4096_S512x512_0_2048)) (View.ld (iblk m c 1 t) (Rect.unit ![4, 0, 0] ![1, 1024, 512] inb_S8x1024x512_S1x1024x512_4_0_0))) (View.ld (iblk m c 0 t) (Rect.unit ![0, 2560] ![512, 512] inb_S512x4096_S512x512_0_2560)) (View.ld (iblk m c 1 t) (Rect.unit ![5, 0, 0] ![1, 1024, 512] inb_S8x1024x512_S1x1024x512_5_0_0)) (View.ld (iblk m c 0 t) (Rect.unit ![0, 3072] ![512, 512] inb_S512x4096_S512x512_0_3072)) (View.ld (iblk m c 1 t) (Rect.unit ![6, 0, 0] ![1, 1024, 512] inb_S8x1024x512_S1x1024x512_6_0_0)) (View.ld (iblk m c 0 t) (Rect.unit ![0, 3584] ![512, 512] inb_S512x4096_S512x512_0_3584)) (View.ld (iblk m c 1 t) (Rect.unit ![7, 0, 0] ![1, 1024, 512] inb_S8x1024x512_S1x1024x512_7_0_0)) (iblk m c 3 t) (ix2 r k) = bk m c (ix2 (row t r) k) * ((m ((c : Thread nD τ).loc main_arg3)) : Arr S1024) (ix1 k) := by
  pointwise [k0_pay9]
  rw [pay6_apply, iblk3_apply]
  exact congrArg (fun q : EReal => _ * q) (V_gain m c k)
theorem pay10_apply (c : Dev nD) (t : Fin cfg0.N) (r : Fin 512) (z : Fin 1) :
    k0_pay10 (F := Ideal) (k0_pay5 (View.ld (iblk m c 0 t) (Rect.unit ![0, 0] ![512, 512] inb_S512x4096_S512x512_0_0)) (View.ld (iblk m c 1 t) (Rect.unit ![0, 0, 0] ![1, 1024, 512] inb_S8x1024x512_S1x1024x512_0_0_0)) (View.ld (iblk m c 0 t) (Rect.unit ![0, 512] ![512, 512] inb_S512x4096_S512x512_0_512)) (View.ld (iblk m c 1 t) (Rect.unit ![1, 0, 0] ![1, 1024, 512] inb_S8x1024x512_S1x1024x512_1_0_0)) (View.ld (iblk m c 0 t) (Rect.unit ![0, 1024] ![512, 512] inb_S512x4096_S512x512_0_1024)) (View.ld (iblk m c 1 t) (Rect.unit ![2, 0, 0] ![1, 1024, 512] inb_S8x1024x512_S1x1024x512_2_0_0)) (View.ld (iblk m c 0 t) (Rect.unit ![0, 1536] ![512, 512] inb_S512x4096_S512x512_0_1536)) (View.ld (iblk m c 1 t) (Rect.unit ![3, 0, 0] ![1, 1024, 512] inb_S8x1024x512_S1x1024x512_3_0_0)) (View.ld (iblk m c 0 t) (Rect.unit ![0, 2048] ![512, 512] inb_S512x4096_S512x512_0_2048)) (View.ld (iblk m c 1 t) (Rect.unit ![4, 0, 0] ![1, 1024, 512] inb_S8x1024x512_S1x1024x512_4_0_0))) (View.ld (iblk m c 0 t) (Rect.unit ![0, 2560] ![512, 512] inb_S512x4096_S512x512_0_2560)) (View.ld (iblk m c 1 t) (Rect.unit ![5, 0, 0] ![1, 1024, 512] inb_S8x1024x512_S1x1024x512_5_0_0)) (View.ld (iblk m c 0 t) (Rect.unit ![0, 3072] ![512, 512] inb_S512x4096_S512x512_0_3072)) (View.ld (iblk m c 1 t) (Rect.unit ![6, 0, 0] ![1, 1024, 512] inb_S8x1024x512_S1x1024x512_6_0_0)) (View.ld (iblk m c 0 t) (Rect.unit ![0, 3584] ![512, 512] inb_S512x4096_S512x512_0_3584)) (View.ld (iblk m c 1 t) (Rect.unit ![7, 0, 0] ![1, 1024, 512] inb_S8x1024x512_S1x1024x512_7_0_0)) (iblk m c 2 t) (iblk m c 3 t) (ix2 r z)
      = Ideal.div (∑ k : Fin 1024, bk m c (ix2 (row t r) k) * ((m ((c : Thread nD τ).loc main_arg3)) : Arr S1024) (ix1 k) * (rows2 m c (ix2 (row t r) k) * Ideal.rsqrt (var (m ((c : Thread nD τ).loc main_arg2)) (row t r)))) (Ideal.ofBits .f32 0x44800000#32) := by
  pointwise [k0_pay10]
  simp only [pay9_apply, pay8_apply]
theorem pay1_apply (c : Dev nD) (t : Fin cfg0.N) (r : Fin 512) (k : Fin 1024) :
    k0_pay1 (F := Ideal) (k0_pay7 (iblk m c 2 t)) (k0_pay8 (iblk m c 2 t)) (k0_pay9 (k0_pay5 (View.ld (iblk m c 0 t) (Rect.unit ![0, 0] ![512, 512] inb_S512x4096_S512x512_0_0)) (View.ld (iblk m c 1 t) (Rect.unit ![0, 0, 0] ![1, 1024, 512] inb_S8x1024x512_S1x1024x512_0_0_0)) (View.ld (iblk m c 0 t) (Rect.unit ![0, 512] ![512, 512] inb_S512x4096_S512x512_0_512)) (View.ld (iblk m c 1 t) (Rect.unit ![1, 0, 0] ![1, 1024, 512] inb_S8x1024x512_S1x1024x512_1_0_0)) (View.ld (iblk m c 0 t) (Rect.unit ![0, 1024] ![512, 512] inb_S512x4096_S512x512_0_1024)) (View.ld (iblk m c 1 t) (Rect.unit ![2, 0, 0] ![1, 1024, 512] inb_S8x1024x512_S1x1024x512_2_0_0)) (View.ld (iblk m c 0 t) (Rect.unit ![0, 1536] ![512, 512] inb_S512x4096_S512x512_0_1536)) (View.ld (iblk m c 1 t) (Rect.unit ![3, 0, 0] ![1, 1024, 512] inb_S8x1024x512_S1x1024x512_3_0_0)) (View.ld (iblk m c 0 t) (Rect.unit ![0, 2048] ![512, 512] inb_S512x4096_S512x512_0_2048)) (View.ld (iblk m c 1 t) (Rect.unit ![4, 0, 0] ![1, 1024, 512] inb_S8x1024x512_S1x1024x512_4_0_0))) (View.ld (iblk m c 0 t) (Rect.unit ![0, 2560] ![512, 512] inb_S512x4096_S512x512_0_2560)) (View.ld (iblk m c 1 t) (Rect.unit ![5, 0, 0] ![1, 1024, 512] inb_S8x1024x512_S1x1024x512_5_0_0)) (View.ld (iblk m c 0 t) (Rect.unit ![0, 3072] ![512, 512] inb_S512x4096_S512x512_0_3072)) (View.ld (iblk m c 1 t) (Rect.unit ![6, 0, 0] ![1, 1024, 512] inb_S8x1024x512_S1x1024x512_6_0_0)) (View.ld (iblk m c 0 t) (Rect.unit ![0, 3584] ![512, 512] inb_S512x4096_S512x512_0_3584)) (View.ld (iblk m c 1 t) (Rect.unit ![7, 0, 0] ![1, 1024, 512] inb_S8x1024x512_S1x1024x512_7_0_0)) (iblk m c 3 t)) (iblk m c 4 t) (k0_pay10 (k0_pay5 (View.ld (iblk m c 0 t) (Rect.unit ![0, 0] ![512, 512] inb_S512x4096_S512x512_0_0)) (View.ld (iblk m c 1 t) (Rect.unit ![0, 0, 0] ![1, 1024, 512] inb_S8x1024x512_S1x1024x512_0_0_0)) (View.ld (iblk m c 0 t) (Rect.unit ![0, 512] ![512, 512] inb_S512x4096_S512x512_0_512)) (View.ld (iblk m c 1 t) (Rect.unit ![1, 0, 0] ![1, 1024, 512] inb_S8x1024x512_S1x1024x512_1_0_0)) (View.ld (iblk m c 0 t) (Rect.unit ![0, 1024] ![512, 512] inb_S512x4096_S512x512_0_1024)) (View.ld (iblk m c 1 t) (Rect.unit ![2, 0, 0] ![1, 1024, 512] inb_S8x1024x512_S1x1024x512_2_0_0)) (View.ld (iblk m c 0 t) (Rect.unit ![0, 1536] ![512, 512] inb_S512x4096_S512x512_0_1536)) (View.ld (iblk m c 1 t) (Rect.unit ![3, 0, 0] ![1, 1024, 512] inb_S8x1024x512_S1x1024x512_3_0_0)) (View.ld (iblk m c 0 t) (Rect.unit ![0, 2048] ![512, 512] inb_S512x4096_S512x512_0_2048)) (View.ld (iblk m c 1 t) (Rect.unit ![4, 0, 0] ![1, 1024, 512] inb_S8x1024x512_S1x1024x512_4_0_0))) (View.ld (iblk m c 0 t) (Rect.unit ![0, 2560] ![512, 512] inb_S512x4096_S512x512_0_2560)) (View.ld (iblk m c 1 t) (Rect.unit ![5, 0, 0] ![1, 1024, 512] inb_S8x1024x512_S1x1024x512_5_0_0)) (View.ld (iblk m c 0 t) (Rect.unit ![0, 3072] ![512, 512] inb_S512x4096_S512x512_0_3072)) (View.ld (iblk m c 1 t) (Rect.unit ![6, 0, 0] ![1, 1024, 512] inb_S8x1024x512_S1x1024x512_6_0_0)) (View.ld (iblk m c 0 t) (Rect.unit ![0, 3584] ![512, 512] inb_S512x4096_S512x512_0_3584)) (View.ld (iblk m c 1 t) (Rect.unit ![7, 0, 0] ![1, 1024, 512] inb_S8x1024x512_S1x1024x512_7_0_0)) (iblk m c 2 t) (iblk m c 3 t)) (ix2 r k) = gradX (bk m c) (m ((c : Thread nD τ).loc main_arg2)) (m ((c : Thread nD τ).loc main_arg3)) (m ((c : Thread nD τ).loc main_arg4)) (ix2 (row t r) k) := by
  pointwise [k0_pay1]
  simp only [pay7_apply, pay8_apply, pay9_apply, pay10_apply, iblk4_apply]
  rfl
theorem pay2_apply (c : Dev nD) (t : Fin cfg0.N) (r : Fin 512) (k : Fin 1024) :
    k0_pay2 (F := Ideal) (k0_pay7 (iblk m c 2 t)) (k0_pay8 (iblk m c 2 t)) (k0_pay9 (k0_pay5 (View.ld (iblk m c 0 t) (Rect.unit ![0, 0] ![512, 512] inb_S512x4096_S512x512_0_0)) (View.ld (iblk m c 1 t) (Rect.unit ![0, 0, 0] ![1, 1024, 512] inb_S8x1024x512_S1x1024x512_0_0_0)) (View.ld (iblk m c 0 t) (Rect.unit ![0, 512] ![512, 512] inb_S512x4096_S512x512_0_512)) (View.ld (iblk m c 1 t) (Rect.unit ![1, 0, 0] ![1, 1024, 512] inb_S8x1024x512_S1x1024x512_1_0_0)) (View.ld (iblk m c 0 t) (Rect.unit ![0, 1024] ![512, 512] inb_S512x4096_S512x512_0_1024)) (View.ld (iblk m c 1 t) (Rect.unit ![2, 0, 0] ![1, 1024, 512] inb_S8x1024x512_S1x1024x512_2_0_0)) (View.ld (iblk m c 0 t) (Rect.unit ![0, 1536] ![512, 512] inb_S512x4096_S512x512_0_1536)) (View.ld (iblk m c 1 t) (Rect.unit ![3, 0, 0] ![1, 1024, 512] inb_S8x1024x512_S1x1024x512_3_0_0)) (View.ld (iblk m c 0 t) (Rect.unit ![0, 2048] ![512, 512] inb_S512x4096_S512x512_0_2048)) (View.ld (iblk m c 1 t) (Rect.unit ![4, 0, 0] ![1, 1024, 512] inb_S8x1024x512_S1x1024x512_4_0_0))) (View.ld (iblk m c 0 t) (Rect.unit ![0, 2560] ![512, 512] inb_S512x4096_S512x512_0_2560)) (View.ld (iblk m c 1 t) (Rect.unit ![5, 0, 0] ![1, 1024, 512] inb_S8x1024x512_S1x1024x512_5_0_0)) (View.ld (iblk m c 0 t) (Rect.unit ![0, 3072] ![512, 512] inb_S512x4096_S512x512_0_3072)) (View.ld (iblk m c 1 t) (Rect.unit ![6, 0, 0] ![1, 1024, 512] inb_S8x1024x512_S1x1024x512_6_0_0)) (View.ld (iblk m c 0 t) (Rect.unit ![0, 3584] ![512, 512] inb_S512x4096_S512x512_0_3584)) (View.ld (iblk m c 1 t) (Rect.unit ![7, 0, 0] ![1, 1024, 512] inb_S8x1024x512_S1x1024x512_7_0_0)) (iblk m c 3 t)) (iblk m c 4 t) (k0_pay10 (k0_pay5 (View.ld (iblk m c 0 t) (Rect.unit ![0, 0] ![512, 512] inb_S512x4096_S512x512_0_0)) (View.ld (iblk m c 1 t) (Rect.unit ![0, 0, 0] ![1, 1024, 512] inb_S8x1024x512_S1x1024x512_0_0_0)) (View.ld (iblk m c 0 t) (Rect.unit ![0, 512] ![512, 512] inb_S512x4096_S512x512_0_512)) (View.ld (iblk m c 1 t) (Rect.unit ![1, 0, 0] ![1, 1024, 512] inb_S8x1024x512_S1x1024x512_1_0_0)) (View.ld (iblk m c 0 t) (Rect.unit ![0, 1024] ![512, 512] inb_S512x4096_S512x512_0_1024)) (View.ld (iblk m c 1 t) (Rect.unit ![2, 0, 0] ![1, 1024, 512] inb_S8x1024x512_S1x1024x512_2_0_0)) (View.ld (iblk m c 0 t) (Rect.unit ![0, 1536] ![512, 512] inb_S512x4096_S512x512_0_1536)) (View.ld (iblk m c 1 t) (Rect.unit ![3, 0, 0] ![1, 1024, 512] inb_S8x1024x512_S1x1024x512_3_0_0)) (View.ld (iblk m c 0 t) (Rect.unit ![0, 2048] ![512, 512] inb_S512x4096_S512x512_0_2048)) (View.ld (iblk m c 1 t) (Rect.unit ![4, 0, 0] ![1, 1024, 512] inb_S8x1024x512_S1x1024x512_4_0_0))) (View.ld (iblk m c 0 t) (Rect.unit ![0, 2560] ![512, 512] inb_S512x4096_S512x512_0_2560)) (View.ld (iblk m c 1 t) (Rect.unit ![5, 0, 0] ![1, 1024, 512] inb_S8x1024x512_S1x1024x512_5_0_0)) (View.ld (iblk m c 0 t) (Rect.unit ![0, 3072] ![512, 512] inb_S512x4096_S512x512_0_3072)) (View.ld (iblk m c 1 t) (Rect.unit ![6, 0, 0] ![1, 1024, 512] inb_S8x1024x512_S1x1024x512_6_0_0)) (View.ld (iblk m c 0 t) (Rect.unit ![0, 3584] ![512, 512] inb_S512x4096_S512x512_0_3584)) (View.ld (iblk m c 1 t) (Rect.unit ![7, 0, 0] ![1, 1024, 512] inb_S8x1024x512_S1x1024x512_7_0_0)) (iblk m c 2 t) (iblk m c 3 t)) (ix2 r k) = gradX (bk m c) (m ((c : Thread nD τ).loc main_arg2)) (m ((c : Thread nD τ).loc main_arg3)) (m ((c : Thread nD τ).loc main_arg4)) (ix2 (row t r) k) := by
  pointwise [k0_pay2]
  exact pay1_apply m c t r k

/-- What a point leaves in its block of the first result. -/
theorem out_eq5 (c : Dev nD) (t : Fin cfg0.N) (r : Fin 512) (k : Fin 1024) :
    (outsAt0 m c t.val t.isLt).1 (ix2 r k) = gradX (bk m c) (m ((c : Thread nD τ).loc main_arg2)) (m ((c : Thread nD τ).loc main_arg3)) (m ((c : Thread nD τ).loc main_arg4)) (ix2 (row t r) k) := by
  by_cases h0 : t.val % 16 = 0
  · rw [outsAt0_A m c t h0]; dsimp only; frame_out
    exact pay1_apply m c t r k
  · rw [outsAt0_B m c t h0]; dsimp only; frame_out
    exact pay1_apply m c t r k
/-- What a point leaves in its block of the second result. -/
theorem out_eq6 (c : Dev nD) (t : Fin cfg0.N) (r : Fin 512) (k : Fin 1024) :
    (outsAt0 m c t.val t.isLt).2.1 (ix2 r k) = gradX (bk m c) (m ((c : Thread nD τ).loc main_arg2)) (m ((c : Thread nD τ).loc main_arg3)) (m ((c : Thread nD τ).loc main_arg4)) (ix2 (row t r) k) := by
  by_cases h0 : t.val % 16 = 0
  · rw [outsAt0_A m c t h0]; dsimp only; frame_out
    exact pay2_apply m c t r k
  · rw [outsAt0_B m c t h0]; dsimp only; frame_out
    exact pay2_apply m c t r k

/-- One point's summand of the gain's gradient. -/
def term (B x : Arr S8192x1024) (t : Fin cfg0.N) : Arr S1x1024 := fun i =>
  ∑ r : Fin 512, B (ix2 (row t r) (i 1)) * (x (ix2 (row t r) (i 1)) * Ideal.rsqrt (var x (row t r)))
theorem term_apply (B x : Arr S8192x1024) (t : Fin cfg0.N) (z : Fin 1) (k : Fin 1024) :
    term B x t (ix2 z k) = ∑ r : Fin 512, B (ix2 (row t r) k) * (x (ix2 (row t r) k) * Ideal.rsqrt (var x (row t r))) := rfl
theorem gradG_apply (B x : Arr S8192x1024) (z : Fin 1) (k : Fin 1024) :
    gradG B x (ix2 z k) = ∑ r : Fin 8192, B (ix2 r k) * (x (ix2 r k) * Ideal.rsqrt (var x r)) := rfl

theorem pay4_apply (c : Dev nD) (t : Fin cfg0.N) (acc : Arr S1x1024) (z : Fin 1) (k : Fin 1024) :
    k0_pay4 (F := Ideal) (k0_pay6 (k0_pay5 (View.ld (iblk m c 0 t) (Rect.unit ![0, 0] ![512, 512] inb_S512x4096_S512x512_0_0)) (View.ld (iblk m c 1 t) (Rect.unit ![0, 0, 0] ![1, 1024, 512] inb_S8x1024x512_S1x1024x512_0_0_0)) (View.ld (iblk m c 0 t) (Rect.unit ![0, 512] ![512, 512] inb_S512x4096_S512x512_0_512)) (View.ld (iblk m c 1 t) (Rect.unit ![1, 0, 0] ![1, 1024, 512] inb_S8x1024x512_S1x1024x512_1_0_0)) (View.ld (iblk m c 0 t) (Rect.unit ![0, 1024] ![512, 512] inb_S512x4096_S512x512_0_1024)) (View.ld (iblk m c 1 t) (Rect.unit ![2, 0, 0] ![1, 1024, 512] inb_S8x1024x512_S1x1024x512_2_0_0)) (View.ld (iblk m c 0 t) (Rect.unit ![0, 1536] ![512, 512] inb_S512x4096_S512x512_0_1536)) (View.ld (iblk m c 1 t) (Rect.unit ![3, 0, 0] ![1, 1024, 512] inb_S8x1024x512_S1x1024x512_3_0_0)) (View.ld (iblk m c 0 t) (Rect.unit ![0, 2048] ![512, 512] inb_S512x4096_S512x512_0_2048)) (View.ld (iblk m c 1 t) (Rect.unit ![4, 0, 0] ![1, 1024, 512] inb_S8x1024x512_S1x1024x512_4_0_0))) (View.ld (iblk m c 0 t) (Rect.unit ![0, 2560] ![512, 512] inb_S512x4096_S512x512_0_2560)) (View.ld (iblk m c 1 t) (Rect.unit ![5, 0, 0] ![1, 1024, 512] inb_S8x1024x512_S1x1024x512_5_0_0)) (View.ld (iblk m c 0 t) (Rect.unit ![0, 3072] ![512, 512] inb_S512x4096_S512x512_0_3072)) (View.ld (iblk m c 1 t) (Rect.unit ![6, 0, 0] ![1, 1024, 512] inb_S8x1024x512_S1x1024x512_6_0_0)) (View.ld (iblk m c 0 t) (Rect.unit ![0, 3584] ![512, 512] inb_S512x4096_S512x512_0_3584)) (View.ld (iblk m c 1 t) (Rect.unit ![7, 0, 0] ![1, 1024, 512] inb_S8x1024x512_S1x1024x512_7_0_0))) (k0_pay8 (iblk m c 2 t)) acc (ix2 z k) = acc (ix2 z k) + term (bk m c) (m ((c : Thread nD τ).loc main_arg2)) t (ix2 z k) := by
  pointwise [k0_pay4]
  simp only [pay6_apply, pay8_apply, term_apply]
  try rfl

/-- The accumulator after the last point is the sum over the points. -/
theorem acc_eq (c : Dev nD) (t : Fin cfg0.N) (hf : t.val % 16 = 16 - 1) (j : S1x1024.Idx) :
    (outsAt0 m c t.val t.isLt).2.2 j = 0 + ∑ s : Fin 16, term (bk m c) (m ((c : Thread nD τ).loc main_arg2)) ⟨16 * (t.val / 16) + s.val, Pipeline.run_point_lt_of_flush t hf s⟩ j :=
  Pipeline.eq_sum_fin_of_reset_step_apply_of_flush (fun n h => (outsAt0 m c n h).2.2) 16 (fun _ => (0 : EReal)) (term (bk m c) (m ((c : Thread nD τ).loc main_arg2)))
    (fun t h j => by
      rw [outsAt0_A m c t h]; dsimp only; frame_out
      idx_vars j
      refine Eq.trans (pay4_apply m c t _ j0 j1) ?_
      refine congrArg (· + _) ?_
      pointwise [k0_pay3])
    (fun t h j => by
      rw [outsAt0_B m c t h]; dsimp only; frame_out
      idx_vars j
      exact pay4_apply m c t _ j0 j1)
    t hf j

theorem flush_eq5 (c : Dev nD) (t : Fin cfg0.N) :
    (dats m 0 c).flushed 5 t = (win0_5.blk t).view.read (Elt Ideal) (gradX (bk m c) (m ((c : Thread nD τ).loc main_arg2)) (m ((c : Thread nD τ).loc main_arg3)) (m ((c : Thread nD τ).loc main_arg4))) := by
  show (cfg0.win 5).cut (grid0.coords t) ((dats m 0 c).after 5 t) = _
  rw [after0_5]
  refine funext fun (j : S512x1024.Idx) => ?_
  idx_vars j
  exact (out_eq5 m c t j0 j1).trans (read5_apply _ t j0 j1).symm
theorem final5 (c : Dev nD) : (dats m 0 c).arrAt 5 cfg0.N = gradX (bk m c) (m ((c : Thread nD τ).loc main_arg2)) (m ((c : Thread nD τ).loc main_arg3)) (m ((c : Thread nD τ).loc main_arg4)) :=
  (dats m 0 c).arrAt_eq_of_cover 5 _ (fun t _ => flush_eq5 m c t) cover5

theorem flush_eq6 (c : Dev nD) (t : Fin cfg0.N) :
    (dats m 0 c).flushed 6 t = (win0_6.blk t).view.read (Elt Ideal) (gradX (bk m c) (m ((c : Thread nD τ).loc main_arg2)) (m ((c : Thread nD τ).loc main_arg3)) (m ((c : Thread nD τ).loc main_arg4))) := by
  show (cfg0.win 6).cut (grid0.coords t) ((dats m 0 c).after 6 t) = _
  rw [after0_6]
  refine funext fun (j : S512x1024.Idx) => ?_
  idx_vars j
  exact (out_eq6 m c t j0 j1).trans (read6_apply _ t j0 j1).symm
theorem final6 (c : Dev nD) : (dats m 0 c).arrAt 6 cfg0.N = gradX (bk m c) (m ((c : Thread nD τ).loc main_arg2)) (m ((c : Thread nD τ).loc main_arg3)) (m ((c : Thread nD τ).loc main_arg4)) :=
  (dats m 0 c).arrAt_eq_of_cover 6 _ (fun t _ => flush_eq6 m c t) cover6

theorem flush_eq7 (c : Dev nD) (t : Fin cfg0.N) (hf : (cfg0.win 7).flush t = true) :
    (dats m 0 c).flushed 7 t = (win0_7.blk t).view.read (Elt Ideal) (gradG (bk m c) (m ((c : Thread nD τ).loc main_arg2))) := by
  have h7 : t.val % 16 = 15 := by have h := (flush0_7 t).mp hf; have := t.isLt; have := N16; omega
  show (cfg0.win 7).cut (grid0.coords t) ((dats m 0 c).after 7 t) = _
  rw [after0_7]
  refine funext fun (j : S1x1024.Idx) => ?_
  idx_vars j
  refine Eq.trans ?_ (read7_apply _ t j0 j1).symm
  refine Eq.trans (acc_eq m c t h7 (ix2 j0 j1)) ?_
  rw [zero_add]
  simp only [term_apply, gradG_apply]
  refine Fin.sum_mul_add_congr fun s k hl => ?_
  have e0 : row ⟨16 * (t.val / 16) + s.val, Pipeline.run_point_lt_of_flush t h7 s⟩ k = ⟨s.val * 512 + k.val, hl⟩ :=
    Fin.ext (by show (16 * (t.val / 16) + s.val) * 512 + k.val = s.val * 512 + k.val; have := t.isLt; have := N16; omega)
  rw [e0]
theorem final7 (c : Dev nD) : (dats m 0 c).arrAt 7 cfg0.N = gradG (bk m c) (m ((c : Thread nD τ).loc main_arg2)) :=
  (dats m 0 c).arrAt_eq_of_cover 7 _ (fun t hf => flush_eq7 m c t hf) cover7

end Cert.MlpInBwdIdeal.Call

namespace Cert.MlpInBwdRefIdeal.Dot
open Cert.MlpInBwdRefIdeal Cert.MlpInBwdRefIdeal.Gen Idealize.ShloMosaic Idealize.ShloMosaic.TcCoe Idealize.SL.Sem

/-- The gradient for the normalised rows, with the weight's columns joined. -/
theorem dot_ref (m : (ℓ : Loc nD τ sig) → Buf (Elt Ideal) ℓ) (c : Dev nD) :
    Host.dotGeneral (F := Ideal) dot_S8192x4096_S1024x4096_S8192x1024_1_1_0_0_n_n none (extf .f32 (m ((c.tc : Thread nD τ).loc main_arg0)) bitsLt_bf16_f32) (shapeCast _ (transpose S1024x8x512 [1, 0, 2] (extf .f32 (m ((c.tc : Thread nD τ).loc main_arg1)) bitsLt_bf16_f32) transposes_S8x1024x512_S1024x8x512_1_0_2) shapeCasts_S1024x8x512_S1024x4096) = Cert.MlpInBwdIdeal.Call.back (m ((c.tc : Thread nD τ).loc main_arg0)) (m ((c.tc : Thread nD τ).loc main_arg1)) := by
  refine funext fun (i : S8192x1024.Idx) => ?_
  idx_vars i
  rw [Cert.MlpInBwdIdeal.Call.back_apply]
  pointwise
  refine (Fin.sum_mul_add_congr fun e f hl => ?_).symm
  pointwise
  have e1 : (⟨(e.val * 512 + f.val) / 512, by omega⟩ : Fin 8) = e := Fin.ext (by show (e.val * 512 + f.val) / 512 = e.val; omega)
  have e2 : (⟨(e.val * 512 + f.val) % 512, by omega⟩ : Fin 512) = f := Fin.ext (by show (e.val * 512 + f.val) % 512 = f.val; omega)
  rw [e1, e2]

end Cert.MlpInBwdRefIdeal.Dot

namespace Cert.MlpInBwdIdeal.Call

end Cert.MlpInBwdIdeal.Call

namespace Cert.MlpInBwdIdeal.Claims
open Idealize.ShloMosaic Idealize.ShloMosaic.TcCoe Idealize.SL.Sem
open Cert.MlpInBwdIdeal.Call

/-- The reference's frame: its host operations leave the arguments, and it declares no semaphore. -/
theorem frame_ref : Cert.quiescent_MlpInBwdRefIdeal := fun m ρ _ =>
  (θ_run Cert.MlpInBwdRefIdeal.defs _ _).mono (fun r h => ⟨fun c => (h c).2.2.2,
      Idealize.ShloMosaic.sem_eq_zero_of_no_sems (by decide) r.2⟩)
    (Cert.MlpInBwdRefIdeal.Value.run (F := Ideal) m ρ)

set_option maxHeartbeats 2000000 in
/-- The reference's run: its results as functions of its arguments, which it leaves. -/
theorem run_ref (m : (ℓ : Loc Cert.MlpInBwdRefIdeal.nD Cert.MlpInBwdRefIdeal.τ Cert.MlpInBwdRefIdeal.sig) → Buf (Elt Ideal) ℓ) (ρ : Dev Cert.MlpInBwdRefIdeal.nD → PrngReg) :
    θ_run Cert.MlpInBwdRefIdeal.defs (onTc (τ := Cert.MlpInBwdRefIdeal.τ) (Cert.MlpInBwdRefIdeal.main (F := Ideal))) ⟨m, fun _ => 0, ρ⟩ fun r => ∀ c : Dev Cert.MlpInBwdRefIdeal.nD,
      r.2.mem ((c.tc : Thread Cert.MlpInBwdRefIdeal.nD Cert.MlpInBwdRefIdeal.τ).loc Cert.MlpInBwdRefIdeal.main_v42) = gradX (back (m ((c.tc : Thread Cert.MlpInBwdRefIdeal.nD Cert.MlpInBwdRefIdeal.τ).loc Cert.MlpInBwdRefIdeal.main_arg0)) (m ((c.tc : Thread Cert.MlpInBwdRefIdeal.nD Cert.MlpInBwdRefIdeal.τ).loc Cert.MlpInBwdRefIdeal.main_arg1))) (m ((c.tc : Thread Cert.MlpInBwdRefIdeal.nD Cert.MlpInBwdRefIdeal.τ).loc Cert.MlpInBwdRefIdeal.main_arg2)) (m ((c.tc : Thread Cert.MlpInBwdRefIdeal.nD Cert.MlpInBwdRefIdeal.τ).loc Cert.MlpInBwdRefIdeal.main_arg3)) (m ((c.tc : Thread Cert.MlpInBwdRefIdeal.nD Cert.MlpInBwdRefIdeal.τ).loc Cert.MlpInBwdRefIdeal.main_arg4))
      ∧ r.2.mem ((c.tc : Thread Cert.MlpInBwdRefIdeal.nD Cert.MlpInBwdRefIdeal.τ).loc Cert.MlpInBwdRefIdeal.main_v43) = gradX (back (m ((c.tc : Thread Cert.MlpInBwdRefIdeal.nD Cert.MlpInBwdRefIdeal.τ).loc Cert.MlpInBwdRefIdeal.main_arg0)) (m ((c.tc : Thread Cert.MlpInBwdRefIdeal.nD Cert.MlpInBwdRefIdeal.τ).loc Cert.MlpInBwdRefIdeal.main_arg1))) (m ((c.tc : Thread Cert.MlpInBwdRefIdeal.nD Cert.MlpInBwdRefIdeal.τ).loc Cert.MlpInBwdRefIdeal.main_arg2)) (m ((c.tc : Thread Cert.MlpInBwdRefIdeal.nD Cert.MlpInBwdRefIdeal.τ).loc Cert.MlpInBwdRefIdeal.main_arg3)) (m ((c.tc : Thread Cert.MlpInBwdRefIdeal.nD Cert.MlpInBwdRefIdeal.τ).loc Cert.MlpInBwdRefIdeal.main_arg4))
      ∧ r.2.mem ((c.tc : Thread Cert.MlpInBwdRefIdeal.nD Cert.MlpInBwdRefIdeal.τ).loc Cert.MlpInBwdRefIdeal.main_v44) = gradG (back (m ((c.tc : Thread Cert.MlpInBwdRefIdeal.nD Cert.MlpInBwdRefIdeal.τ).loc Cert.MlpInBwdRefIdeal.main_arg0)) (m ((c.tc : Thread Cert.MlpInBwdRefIdeal.nD Cert.MlpInBwdRefIdeal.τ).loc Cert.MlpInBwdRefIdeal.main_arg1))) (m ((c.tc : Thread Cert.MlpInBwdRefIdeal.nD Cert.MlpInBwdRefIdeal.τ).loc Cert.MlpInBwdRefIdeal.main_arg2))
      ∧ r.2.mem ((c.tc : Thread Cert.MlpInBwdRefIdeal.nD Cert.MlpInBwdRefIdeal.τ).loc Cert.MlpInBwdRefIdeal.main_arg0) = m ((c.tc : Thread Cert.MlpInBwdRefIdeal.nD Cert.MlpInBwdRefIdeal.τ).loc Cert.MlpInBwdRefIdeal.main_arg0)
      ∧ r.2.mem ((c.tc : Thread Cert.MlpInBwdRefIdeal.nD Cert.MlpInBwdRefIdeal.τ).loc Cert.MlpInBwdRefIdeal.main_arg1) = m ((c.tc : Thread Cert.MlpInBwdRefIdeal.nD Cert.MlpInBwdRefIdeal.τ).loc Cert.MlpInBwdRefIdeal.main_arg1)
      ∧ r.2.mem ((c.tc : Thread Cert.MlpInBwdRefIdeal.nD Cert.MlpInBwdRefIdeal.τ).loc Cert.MlpInBwdRefIdeal.main_arg2) = m ((c.tc : Thread Cert.MlpInBwdRefIdeal.nD Cert.MlpInBwdRefIdeal.τ).loc Cert.MlpInBwdRefIdeal.main_arg2)
      ∧ r.2.mem ((c.tc : Thread Cert.MlpInBwdRefIdeal.nD Cert.MlpInBwdRefIdeal.τ).loc Cert.MlpInBwdRefIdeal.main_arg3) = m ((c.tc : Thread Cert.MlpInBwdRefIdeal.nD Cert.MlpInBwdRefIdeal.τ).loc Cert.MlpInBwdRefIdeal.main_arg3)
      ∧ r.2.mem ((c.tc : Thread Cert.MlpInBwdRefIdeal.nD Cert.MlpInBwdRefIdeal.τ).loc Cert.MlpInBwdRefIdeal.main_arg4) = m ((c.tc : Thread Cert.MlpInBwdRefIdeal.nD Cert.MlpInBwdRefIdeal.τ).loc Cert.MlpInBwdRefIdeal.main_arg4) := by
  refine (θ_run Cert.MlpInBwdRefIdeal.defs _ _).mono (fun r h c => ?_) (Cert.MlpInBwdRefIdeal.Value.run (F := Ideal) m ρ)
  refine ⟨(h c).1.trans ?_, (h c).2.1.trans ?_, (h c).2.2.1.trans ?_, (h c).2.2.2⟩
  · refine funext fun (i : S8192x1024.Idx) => ?_
    idx_vars i
    unfold Cert.MlpInBwdRefIdeal.Value.res_main_v42
    rw [Cert.MlpInBwdRefIdeal.Dot.dot_ref]
    pointwise
    simp only [Fin.sum_univ_one]
    exact (Cert.RmsGrad.grad (fun k : Fin 1024 => ((m ((c.tc : Thread Cert.MlpInBwdRefIdeal.nD Cert.MlpInBwdRefIdeal.τ).loc Cert.MlpInBwdRefIdeal.main_arg2)) : Arr S8192x1024) (ix2 i0 k)) (fun k : Fin 1024 => back (m ((c.tc : Thread Cert.MlpInBwdRefIdeal.nD Cert.MlpInBwdRefIdeal.τ).loc Cert.MlpInBwdRefIdeal.main_arg0)) (m ((c.tc : Thread Cert.MlpInBwdRefIdeal.nD Cert.MlpInBwdRefIdeal.τ).loc Cert.MlpInBwdRefIdeal.main_arg1)) (ix2 i0 k) * ((m ((c.tc : Thread Cert.MlpInBwdRefIdeal.nD Cert.MlpInBwdRefIdeal.τ).loc Cert.MlpInBwdRefIdeal.main_arg3)) : Arr S1024) (ix1 k)) (var ((m ((c.tc : Thread Cert.MlpInBwdRefIdeal.nD Cert.MlpInBwdRefIdeal.τ).loc Cert.MlpInBwdRefIdeal.main_arg2)) : Arr S8192x1024) i0) (((m ((c.tc : Thread Cert.MlpInBwdRefIdeal.nD Cert.MlpInBwdRefIdeal.τ).loc Cert.MlpInBwdRefIdeal.main_arg4)) : Arr S8192x1024) (ix2 i0 i1)) (Cert.RmsGrad.var_pos fun k : Fin 1024 => ((m ((c.tc : Thread Cert.MlpInBwdRefIdeal.nD Cert.MlpInBwdRefIdeal.τ).loc Cert.MlpInBwdRefIdeal.main_arg2)) : Arr S8192x1024) (ix2 i0 k)) i1).symm
  · refine funext fun (i : S8192x1024.Idx) => ?_
    idx_vars i
    unfold Cert.MlpInBwdRefIdeal.Value.res_main_v43
    rw [Cert.MlpInBwdRefIdeal.Dot.dot_ref]
    pointwise
    simp only [Fin.sum_univ_one]
    exact (Cert.RmsGrad.grad (fun k : Fin 1024 => ((m ((c.tc : Thread Cert.MlpInBwdRefIdeal.nD Cert.MlpInBwdRefIdeal.τ).loc Cert.MlpInBwdRefIdeal.main_arg2)) : Arr S8192x1024) (ix2 i0 k)) (fun k : Fin 1024 => back (m ((c.tc : Thread Cert.MlpInBwdRefIdeal.nD Cert.MlpInBwdRefIdeal.τ).loc Cert.MlpInBwdRefIdeal.main_arg0)) (m ((c.tc : Thread Cert.MlpInBwdRefIdeal.nD Cert.MlpInBwdRefIdeal.τ).loc Cert.MlpInBwdRefIdeal.main_arg1)) (ix2 i0 k) * ((m ((c.tc : Thread Cert.MlpInBwdRefIdeal.nD Cert.MlpInBwdRefIdeal.τ).loc Cert.MlpInBwdRefIdeal.main_arg3)) : Arr S1024) (ix1 k)) (var ((m ((c.tc : Thread Cert.MlpInBwdRefIdeal.nD Cert.MlpInBwdRefIdeal.τ).loc Cert.MlpInBwdRefIdeal.main_arg2)) : Arr S8192x1024) i0) (((m ((c.tc : Thread Cert.MlpInBwdRefIdeal.nD Cert.MlpInBwdRefIdeal.τ).loc Cert.MlpInBwdRefIdeal.main_arg4)) : Arr S8192x1024) (ix2 i0 i1)) (Cert.RmsGrad.var_pos fun k : Fin 1024 => ((m ((c.tc : Thread Cert.MlpInBwdRefIdeal.nD Cert.MlpInBwdRefIdeal.τ).loc Cert.MlpInBwdRefIdeal.main_arg2)) : Arr S8192x1024) (ix2 i0 k)) i1).symm
  · refine funext fun (i : S1x1024.Idx) => ?_
    idx_vars i
    rw [Cert.MlpInBwdRefIdeal.Dot.dot_ref]
    pointwise
    simp only [Fin.sum_univ_one]
    exact Finset.sum_congr rfl fun k _ => mul_comm _ _

/-- The call's results are the reference's, whatever the arguments hold. -/
theorem algebraic : Cert.algebraic_MlpInBwdIdeal_MlpInBwdRefIdeal := by
  intro m ρ m' ρ' _ hag
  refine ⟨fun c => gradX (back (m ((c.tc : Thread Cert.MlpInBwdIdeal.nD Cert.MlpInBwdIdeal.τ).loc Cert.MlpInBwdIdeal.main_arg0)) (m ((c.tc : Thread Cert.MlpInBwdIdeal.nD Cert.MlpInBwdIdeal.τ).loc Cert.MlpInBwdIdeal.main_arg1))) (m ((c.tc : Thread Cert.MlpInBwdIdeal.nD Cert.MlpInBwdIdeal.τ).loc Cert.MlpInBwdIdeal.main_arg2)) (m ((c.tc : Thread Cert.MlpInBwdIdeal.nD Cert.MlpInBwdIdeal.τ).loc Cert.MlpInBwdIdeal.main_arg3)) (m ((c.tc : Thread Cert.MlpInBwdIdeal.nD Cert.MlpInBwdIdeal.τ).loc Cert.MlpInBwdIdeal.main_arg4)), fun c => gradX (back (m ((c.tc : Thread Cert.MlpInBwdIdeal.nD Cert.MlpInBwdIdeal.τ).loc Cert.MlpInBwdIdeal.main_arg0)) (m ((c.tc : Thread Cert.MlpInBwdIdeal.nD Cert.MlpInBwdIdeal.τ).loc Cert.MlpInBwdIdeal.main_arg1))) (m ((c.tc : Thread Cert.MlpInBwdIdeal.nD Cert.MlpInBwdIdeal.τ).loc Cert.MlpInBwdIdeal.main_arg2)) (m ((c.tc : Thread Cert.MlpInBwdIdeal.nD Cert.MlpInBwdIdeal.τ).loc Cert.MlpInBwdIdeal.main_arg3)) (m ((c.tc : Thread Cert.MlpInBwdIdeal.nD Cert.MlpInBwdIdeal.τ).loc Cert.MlpInBwdIdeal.main_arg4)), fun c => gradG (back (m ((c.tc : Thread Cert.MlpInBwdIdeal.nD Cert.MlpInBwdIdeal.τ).loc Cert.MlpInBwdIdeal.main_arg0)) (m ((c.tc : Thread Cert.MlpInBwdIdeal.nD Cert.MlpInBwdIdeal.τ).loc Cert.MlpInBwdIdeal.main_arg1))) (m ((c.tc : Thread Cert.MlpInBwdIdeal.nD Cert.MlpInBwdIdeal.τ).loc Cert.MlpInBwdIdeal.main_arg2)), ?_, ?_⟩
  · refine (θ_run Cert.MlpInBwdIdeal.defs _ _).mono (fun r h c => ?_) (Cert.MlpInBwdIdeal.Value.run_blocks (F := Ideal) m ρ)
    have h := h c
    rw [final5, final6, final7] at h
    exact h
  · refine (θ_run Cert.MlpInBwdRefIdeal.defs _ _).mono (fun r h c => ?_) (run_ref m' ρ')
    have e := hag c
    have h := h c
    rw [e.1, e.2.1, e.2.2.1, e.2.2.2.1, e.2.2.2.2] at h
    rw [e.1, e.2.1, e.2.2.1, e.2.2.2.1, e.2.2.2.2]
    exact h

end Cert.MlpInBwdIdeal.Claims
end
-- ==== Proof.InBwdCall.lean ====
/-
  The backward call of the input projection: the gradient for the tokens through the root mean square norm, and the
  gradient of the gain, summed over the token blocks; and the claims.
-/
module
public import proofs.«01_k».proof.Defs
public import proofs.«01_k».proof.Proof.Gen.InBwdIdeal.Value
public import proofs.«01_k».proof.Proof.Gen.InBwdRefIdeal.Run
public import Idealize.ShloMosaic.Lib.Pointwise
public import Idealize.ShloMosaic.Lib.Pipeline.ValueKit
public import Idealize.ShloMosaic.Lib.Pipeline.ReadBack
public import Idealize.ShloMosaic.Lib.Quiescent
public import Idealize.ShloMosaic.Lib.KernelVsHost
public import proofs.«01_k».proof.Proof.RmsGrad
@[expose] public section
set_option maxRecDepth 16384
noncomputable section
namespace Cert.InBwdIdeal.Call
open Cert.InBwdIdeal Cert.InBwdIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The row's mean square and the epsilon. -/
def var (x : Arr S8192x1024) (r : Fin 8192) : EReal :=
  Ideal.div (∑ k : Fin 1024, x (ix2 r k) * x (ix2 r k)) (Ideal.ofBits .f32 0x44800000#32) + Ideal.ofBits .f32 0x358637BD#32
/-- The gradient for the normalised rows: the four incoming gradients against their columns of the weight. -/
def back (d0 : Arr S8192x2048) (d1 : Arr S8192x2048) (d2 : Arr S8192x512) (d3 : Arr S8192x1152) (w : Arr S1024x5760) : Arr S8192x1024 := fun i =>
  (∑ f : Fin 2048, d0 (ix2 (i 0) f) * w (ix2 (i 1) ⟨f.val, by omega⟩))
  + (∑ f : Fin 2048, d1 (ix2 (i 0) f) * w (ix2 (i 1) ⟨2048 + f.val, by omega⟩))
  + (∑ f : Fin 512, d2 (ix2 (i 0) f) * w (ix2 (i 1) ⟨4096 + f.val, by omega⟩))
  + (∑ f : Fin 1152, d3 (ix2 (i 0) f) * w (ix2 (i 1) ⟨4608 + f.val, by omega⟩))
theorem back_apply (d0 : Arr S8192x2048) (d1 : Arr S8192x2048) (d2 : Arr S8192x512) (d3 : Arr S8192x1152) (w : Arr S1024x5760) (r : Fin 8192) (k : Fin 1024) :
    back d0 d1 d2 d3 w (ix2 r k) =   (∑ f : Fin 2048, d0 (ix2 r f) * w (ix2 k ⟨f.val, by omega⟩))
  + (∑ f : Fin 2048, d1 (ix2 r f) * w (ix2 k ⟨2048 + f.val, by omega⟩))
  + (∑ f : Fin 512, d2 (ix2 r f) * w (ix2 k ⟨4096 + f.val, by omega⟩))
  + (∑ f : Fin 1152, d3 (ix2 r f) * w (ix2 k ⟨4608 + f.val, by omega⟩)) := rfl
/-- The gradient for the rows, with what is added to it. -/
def gradX (B x : Arr S8192x1024) (g : Arr S1024) (res : Arr S8192x1024) : Arr S8192x1024 := fun i =>
  res (ix2 (i 0) (i 1)) + Ideal.rsqrt (var x (i 0)) * (B (ix2 (i 0) (i 1)) * g (ix1 (i 1)) - x (ix2 (i 0) (i 1)) * Ideal.rsqrt (var x (i 0))
    * Ideal.div (∑ k : Fin 1024, B (ix2 (i 0) k) * g (ix1 k) * (x (ix2 (i 0) k) * Ideal.rsqrt (var x (i 0)))) (Ideal.ofBits .f32 0x44800000#32))
/-- The gradient of the gain. -/
def gradG (B x : Arr S8192x1024) : Arr S1x1024 := fun i =>
  ∑ r : Fin 8192, B (ix2 r (i 1)) * (x (ix2 r (i 1)) * Ideal.rsqrt (var x r))

theorem N32 : cfg0.N = 32 := N_0

/-- The array row that row `r` of point `t`'s block is. -/
def row (t : Fin cfg0.N) (r : Fin 256) : Fin 8192 := ⟨t.val * 256 + r.val, by have := t.isLt; have := N32; omega⟩

theorem hz : (![0, 0] : Fin 2 → Nat) = fun _ => 0 := funext fun a => by fin_cases a <;> rfl

theorem off0 : ∀ t : Fin cfg0.N, win0_0.index t 0 * win0_0.size 0 = t.val * 256 ∧ win0_0.index t 1 * win0_0.size 1 = 0 :=
  (by decide +kernel : ∀ t : Fin grid0.N, win0_0.index t 0 * win0_0.size 0 = t.val * 256 ∧ win0_0.index t 1 * win0_0.size 1 = 0)
theorem iblk0_apply (c : Dev nD) (t : Fin cfg0.N) (r : Fin 256) (k : Fin 2048) :
    (iblk m c 0 t : S256x2048.Idx → EReal) (ix2 r k) = m ((c : Thread nD τ).loc main_arg0) (ix2 (row t r) k) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val * 256 + r.val
              rw [(off0 t).1]; omega
  | ⟨1, _⟩ => show win0_0.index t 1 * win0_0.size 1 + 1 * k.val = k.val
              rw [(off0 t).2]; omega

theorem off1 : ∀ t : Fin cfg0.N, win0_1.index t 0 * win0_1.size 0 = t.val * 256 ∧ win0_1.index t 1 * win0_1.size 1 = 0 :=
  (by decide +kernel : ∀ t : Fin grid0.N, win0_1.index t 0 * win0_1.size 0 = t.val * 256 ∧ win0_1.index t 1 * win0_1.size 1 = 0)
theorem iblk1_apply (c : Dev nD) (t : Fin cfg0.N) (r : Fin 256) (k : Fin 2048) :
    (iblk m c 1 t : S256x2048.Idx → EReal) (ix2 r k) = m ((c : Thread nD τ).loc main_arg1) (ix2 (row t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val * 256 + r.val
              rw [(off1 t).1]; omega
  | ⟨1, _⟩ => show win0_1.index t 1 * win0_1.size 1 + 1 * k.val = k.val
              rw [(off1 t).2]; omega

theorem off2 : ∀ t : Fin cfg0.N, win0_2.index t 0 * win0_2.size 0 = t.val * 256 ∧ win0_2.index t 1 * win0_2.size 1 = 0 :=
  (by decide +kernel : ∀ t : Fin grid0.N, win0_2.index t 0 * win0_2.size 0 = t.val * 256 ∧ win0_2.index t 1 * win0_2.size 1 = 0)
theorem iblk2_apply (c : Dev nD) (t : Fin cfg0.N) (r : Fin 256) (k : Fin 512) :
    (iblk m c 2 t : S256x512.Idx → EReal) (ix2 r k) = m ((c : Thread nD τ).loc main_arg2) (ix2 (row t r) k) := by
  unfold iblk
  show V m c main_arg2 ((win0_2.rect t).idx (ix2 r k)) = _
  rw [V_main_arg2]
  refine congrArg _ (funext fun a => Fin.ext ?_)
  match a with
  | ⟨0, _⟩ => show win0_2.index t 0 * win0_2.size 0 + 1 * r.val = t.val * 256 + r.val
              rw [(off2 t).1]; omega
  | ⟨1, _⟩ => show win0_2.index t 1 * win0_2.size 1 + 1 * k.val = k.val
              rw [(off2 t).2]; omega

theorem off3 : ∀ t : Fin cfg0.N, win0_3.index t 0 * win0_3.size 0 = t.val * 256 ∧ win0_3.index t 1 * win0_3.size 1 = 0 :=
  (by decide +kernel : ∀ t : Fin grid0.N, win0_3.index t 0 * win0_3.size 0 = t.val * 256 ∧ win0_3.index t 1 * win0_3.size 1 = 0)
theorem iblk3_apply (c : Dev nD) (t : Fin cfg0.N) (r : Fin 256) (k : Fin 1152) :
    (iblk m c 3 t : S256x1152.Idx → EReal) (ix2 r k) = m ((c : Thread nD τ).loc main_arg3) (ix2 (row t r) k) := by
  unfold iblk
  show V m c main_arg3 ((win0_3.rect t).idx (ix2 r k)) = _
  rw [V_main_arg3]
  refine congrArg _ (funext fun a => Fin.ext ?_)
  match a with
  | ⟨0, _⟩ => show win0_3.index t 0 * win0_3.size 0 + 1 * r.val = t.val * 256 + r.val
              rw [(off3 t).1]; omega
  | ⟨1, _⟩ => show win0_3.index t 1 * win0_3.size 1 + 1 * k.val = k.val
              rw [(off3 t).2]; omega

theorem off4 : ∀ t : Fin cfg0.N, win0_4.index t 0 * win0_4.size 0 = 0 ∧ win0_4.index t 1 * win0_4.size 1 = 0 :=
  (by decide +kernel : ∀ t : Fin grid0.N, win0_4.index t 0 * win0_4.size 0 = 0 ∧ win0_4.index t 1 * win0_4.size 1 = 0)
theorem iblk4_apply (c : Dev nD) (t : Fin cfg0.N) (r : Fin 1024) (k : Fin 5760) :
    (iblk m c 4 t : S1024x5760.Idx → EReal) (ix2 r k) = m ((c : Thread nD τ).loc main_arg4) (ix2 r k) := by
  unfold iblk
  show V m c main_arg4 ((win0_4.rect t).idx (ix2 r k)) = _
  rw [V_main_arg4]
  refine congrArg _ (funext fun a => Fin.ext ?_)
  match a with
  | ⟨0, _⟩ => show win0_4.index t 0 * win0_4.size 0 + 1 * r.val = r.val
              rw [(off4 t).1]; omega
  | ⟨1, _⟩ => show win0_4.index t 1 * win0_4.size 1 + 1 * k.val = k.val
              rw [(off4 t).2]; omega

theorem off5 : ∀ t : Fin cfg0.N, win0_5.index t 0 * win0_5.size 0 = t.val * 256 ∧ win0_5.index t 1 * win0_5.size 1 = 0 :=
  (by decide +kernel : ∀ t : Fin grid0.N, win0_5.index t 0 * win0_5.size 0 = t.val * 256 ∧ win0_5.index t 1 * win0_5.size 1 = 0)
theorem iblk5_apply (c : Dev nD) (t : Fin cfg0.N) (r : Fin 256) (k : Fin 1024) :
    (iblk m c 5 t : S256x1024.Idx → EReal) (ix2 r k) = m ((c : Thread nD τ).loc main_arg5) (ix2 (row t r) k) := by
  unfold iblk
  show V m c main_arg5 ((win0_5.rect t).idx (ix2 r k)) = _
  rw [V_main_arg5]
  refine congrArg _ (funext fun a => Fin.ext ?_)
  match a with
  | ⟨0, _⟩ => show win0_5.index t 0 * win0_5.size 0 + 1 * r.val = t.val * 256 + r.val
              rw [(off5 t).1]; omega
  | ⟨1, _⟩ => show win0_5.index t 1 * win0_5.size 1 + 1 * k.val = k.val
              rw [(off5 t).2]; omega

theorem off6 : ∀ t : Fin cfg0.N, win0_6.index t 0 * win0_6.size 0 = 0 ∧ win0_6.index t 1 * win0_6.size 1 = 0 :=
  (by decide +kernel : ∀ t : Fin grid0.N, win0_6.index t 0 * win0_6.size 0 = 0 ∧ win0_6.index t 1 * win0_6.size 1 = 0)
theorem iblk6_apply (c : Dev nD) (t : Fin cfg0.N) (r : Fin 1) (k : Fin 1024) :
    (iblk m c 6 t : S1x1024.Idx → EReal) (ix2 r k) = V m c main_v0 (ix2 r k) := by
  unfold iblk
  show V m c main_v0 ((win0_6.rect t).idx (ix2 r k)) = _
  refine congrArg _ (funext fun a => Fin.ext ?_)
  match a with
  | ⟨0, _⟩ => show win0_6.index t 0 * win0_6.size 0 + 1 * r.val = r.val
              rw [(off6 t).1]; omega
  | ⟨1, _⟩ => show win0_6.index t 1 * win0_6.size 1 + 1 * k.val = k.val
              rw [(off6 t).2]; omega

/-- The gain as the row the call is handed. -/
theorem V_gain (c : Dev nD) (k : Fin 1024) : V m c main_v0 (ix2 (0 : Fin 1) k) = m ((c : Thread nD τ).loc main_arg6) (ix1 k) := by
  unfold V hostOps0
  after_results_simp
  pointwise

theorem off7 : ∀ t : Fin cfg0.N, win0_7.index t 0 * win0_7.size 0 = t.val * 256 ∧ win0_7.index t 1 * win0_7.size 1 = 0 :=
  (by decide +kernel : ∀ t : Fin grid0.N, win0_7.index t 0 * win0_7.size 0 = t.val * 256 ∧ win0_7.index t 1 * win0_7.size 1 = 0)
theorem iblk7_apply (c : Dev nD) (t : Fin cfg0.N) (r : Fin 256) (k : Fin 1024) :
    (iblk m c 7 t : S256x1024.Idx → EReal) (ix2 r k) = m ((c : Thread nD τ).loc main_arg7) (ix2 (row t r) k) := by
  unfold iblk
  show V m c main_arg7 ((win0_7.rect t).idx (ix2 r k)) = _
  rw [V_main_arg7]
  refine congrArg _ (funext fun a => Fin.ext ?_)
  match a with
  | ⟨0, _⟩ => show win0_7.index t 0 * win0_7.size 0 + 1 * r.val = t.val * 256 + r.val
              rw [(off7 t).1]; omega
  | ⟨1, _⟩ => show win0_7.index t 1 * win0_7.size 1 + 1 * k.val = k.val
              rw [(off7 t).2]; omega

theorem off8 : ∀ t : Fin cfg0.N, win0_8.index t 0 * win0_8.size 0 = t.val * 256 ∧ win0_8.index t 1 * win0_8.size 1 = 0 :=
  (by decide +kernel : ∀ t : Fin grid0.N, win0_8.index t 0 * win0_8.size 0 = t.val * 256 ∧ win0_8.index t 1 * win0_8.size 1 = 0)
/-- An array read through point `t`'s block of window 8. -/
theorem read8_apply (X : Arr S8192x1024) (t : Fin cfg0.N) (r : Fin 256) (k : Fin 1024) :
    ((win0_8.blk t).view.read (Elt Ideal) X : S256x1024.Idx → EReal) (ix2 r k) = X (ix2 (row t r) k) := by
  show X ((win0_8.rect t).idx (ix2 r k)) = _
  refine congrArg _ (funext fun a => Fin.ext ?_)
  match a with
  | ⟨0, _⟩ => show win0_8.index t 0 * win0_8.size 0 + 1 * r.val = t.val * 256 + r.val
              rw [(off8 t).1]; omega
  | ⟨1, _⟩ => show win0_8.index t 1 * win0_8.size 1 + 1 * k.val = k.val
              rw [(off8 t).2]; omega

/-- Every index of the array is in the block of a point that writes back. -/
theorem cover8 (i : S8192x1024.Idx) : ∃ t : Fin cfg0.N, (cfg0.win 8).flush t = true ∧ i ∈ ((cfg0.win 8).blk t).view.set := by
  have h0 : (i 0 : Nat) < 8192 := (i 0).isLt
  have h1 : (i 1 : Nat) < 1024 := (i 1).isLt
  have hN : cfg0.N = 32 := N_0
  obtain ⟨t, ht⟩ : ∃ t : Fin cfg0.N, t.val = (i 0).val / 256 := ⟨⟨(i 0).val / 256, by omega⟩, rfl⟩
  refine ⟨t, flush0_8 t, ?_⟩
  show i ∈ ((View.whole main_v1_0).slice (win0_8.rect t)).set
  rw [View.set_slice_whole, Rect.mem_set_unit]
  intro a
  match a with
  | ⟨0, _⟩ => show win0_8.index t 0 * win0_8.size 0 ≤ (i 0 : Nat) ∧ (i 0 : Nat) < win0_8.index t 0 * win0_8.size 0 + 256
              rw [(off8 t).1]; omega
  | ⟨1, _⟩ => show win0_8.index t 1 * win0_8.size 1 ≤ (i 1 : Nat) ∧ (i 1 : Nat) < win0_8.index t 1 * win0_8.size 1 + 1024
              rw [(off8 t).2]; omega

theorem off9 : ∀ t : Fin cfg0.N, win0_9.index t 0 * win0_9.size 0 = 0 ∧ win0_9.index t 1 * win0_9.size 1 = 0 :=
  (by decide +kernel : ∀ t : Fin grid0.N, win0_9.index t 0 * win0_9.size 0 = 0 ∧ win0_9.index t 1 * win0_9.size 1 = 0)
/-- An array read through point `t`'s block of window 9. -/
theorem read9_apply (X : Arr S1x1024) (t : Fin cfg0.N) (r : Fin 1) (k : Fin 1024) :
    ((win0_9.blk t).view.read (Elt Ideal) X : S1x1024.Idx → EReal) (ix2 r k) = X (ix2 r k) := by
  show X ((win0_9.rect t).idx (ix2 r k)) = _
  refine congrArg _ (funext fun a => Fin.ext ?_)
  match a with
  | ⟨0, _⟩ => show win0_9.index t 0 * win0_9.size 0 + 1 * r.val = r.val
              rw [(off9 t).1]; omega
  | ⟨1, _⟩ => show win0_9.index t 1 * win0_9.size 1 + 1 * k.val = k.val
              rw [(off9 t).2]; omega

/-- Every index of the array is in the block of a point that writes back. -/
theorem cover9 (i : S1x1024.Idx) : ∃ t : Fin cfg0.N, (cfg0.win 9).flush t = true ∧ i ∈ ((cfg0.win 9).blk t).view.set := by
  have h0 : (i 0 : Nat) < 1 := (i 0).isLt
  have h1 : (i 1 : Nat) < 1024 := (i 1).isLt
  have hN : cfg0.N = 32 := N_0
  obtain ⟨t, ht⟩ : ∃ t : Fin cfg0.N, t.val = 31 := ⟨⟨31, by omega⟩, rfl⟩
  refine ⟨t, (flush0_9 t).mpr (by omega), ?_⟩
  show i ∈ ((View.whole main_v1_1).slice (win0_9.rect t)).set
  rw [View.set_slice_whole, Rect.mem_set_unit]
  intro a
  match a with
  | ⟨0, _⟩ => show win0_9.index t 0 * win0_9.size 0 ≤ (i 0 : Nat) ∧ (i 0 : Nat) < win0_9.index t 0 * win0_9.size 0 + 1
              rw [(off9 t).1]; omega
  | ⟨1, _⟩ => show win0_9.index t 1 * win0_9.size 1 ≤ (i 1 : Nat) ∧ (i 1 : Nat) < win0_9.index t 1 * win0_9.size 1 + 1024
              rw [(off9 t).2]; omega

/-- The call's gradient for the normalised rows. -/
abbrev bk (c : Dev nD) : Arr S8192x1024 := back (m ((c : Thread nD τ).loc main_arg0)) (m ((c : Thread nD τ).loc main_arg1)) (m ((c : Thread nD τ).loc main_arg2)) (m ((c : Thread nD τ).loc main_arg3)) (m ((c : Thread nD τ).loc main_arg4))

/-- The point's gradient for the normalised rows. -/
theorem pay4_apply (c : Dev nD) (t : Fin cfg0.N) (r : Fin 256) (k : Fin 1024) :
    k0_pay4 (F := Ideal) (iblk m c 0 t) (View.ld (iblk m c 4 t) (Rect.unit ![0, 0] ![1024, 2048] inb_S1024x5760_S1024x2048_0_0)) (iblk m c 1 t) (View.ld (iblk m c 4 t) (Rect.unit ![0, 2048] ![1024, 2048] inb_S1024x5760_S1024x2048_0_2048)) (iblk m c 2 t) (View.ld (iblk m c 4 t) (Rect.unit ![0, 4096] ![1024, 512] inb_S1024x5760_S1024x512_0_4096)) (iblk m c 3 t) (View.ld (iblk m c 4 t) (Rect.unit ![0, 4608] ![1024, 1152] inb_S1024x5760_S1024x1152_0_4608)) (ix2 r k) = bk m c (ix2 (row t r) k) := by
  pointwise [k0_pay4]
  simp only [iblk0_apply, iblk1_apply, iblk2_apply, iblk3_apply, iblk4_apply, back_apply]
  try rfl

/-- The rows the norm is of. -/
abbrev rows5 (c : Dev nD) : Arr S8192x1024 := (m ((c : Thread nD τ).loc main_arg5))

theorem pay5_apply (c : Dev nD) (t : Fin cfg0.N) (r : Fin 256) (k : Fin 1) :
    k0_pay5 (F := Ideal) (iblk m c 5 t) (ix2 r k) = Ideal.rsqrt (var (m ((c : Thread nD τ).loc main_arg5)) (row t r)) := by
  pointwise [k0_pay5]
  simp only [iblk5_apply, var]
theorem pay6_apply (c : Dev nD) (t : Fin cfg0.N) (r : Fin 256) (k : Fin 1024) :
    k0_pay6 (F := Ideal) (iblk m c 5 t) (ix2 r k) = rows5 m c (ix2 (row t r) k) * Ideal.rsqrt (var (m ((c : Thread nD τ).loc main_arg5)) (row t r)) := by
  pointwise [k0_pay6]
  rw [pay5_apply, iblk5_apply]
theorem pay7_apply (c : Dev nD) (t : Fin cfg0.N) (r : Fin 256) (k : Fin 1024) :
    k0_pay7 (F := Ideal) (iblk m c 0 t) (View.ld (iblk m c 4 t) (Rect.unit ![0, 0] ![1024, 2048] inb_S1024x5760_S1024x2048_0_0)) (iblk m c 1 t) (View.ld (iblk m c 4 t) (Rect.unit ![0, 2048] ![1024, 2048] inb_S1024x5760_S1024x2048_0_2048)) (iblk m c 2 t) (View.ld (iblk m c 4 t) (Rect.unit ![0, 4096] ![1024, 512] inb_S1024x5760_S1024x512_0_4096)) (iblk m c 3 t) (View.ld (iblk m c 4 t) (Rect.unit ![0, 4608] ![1024, 1152] inb_S1024x5760_S1024x1152_0_4608)) (iblk m c 6 t) (ix2 r k) = bk m c (ix2 (row t r) k) * ((m ((c : Thread nD τ).loc main_arg6)) : Arr S1024) (ix1 k) := by
  pointwise [k0_pay7]
  rw [pay4_apply, iblk6_apply]
  exact congrArg (fun q : EReal => _ * q) (V_gain m c k)

/-- What a point leaves in its block of the first result. -/
theorem out_eq (c : Dev nD) (t : Fin cfg0.N) (r : Fin 256) (k : Fin 1024) :
    (outsAt0 m c t.val t.isLt).1 (ix2 r k) = gradX (bk m c) (m ((c : Thread nD τ).loc main_arg5)) (m ((c : Thread nD τ).loc main_arg6)) (m ((c : Thread nD τ).loc main_arg7)) (ix2 (row t r) k) := by
  have h : (outsAt0 m c t.val t.isLt).1 (ix2 r k) = k0_pay1 (F := Ideal) (k0_pay5 (iblk m c 5 t)) (k0_pay6 (iblk m c 5 t)) (k0_pay7 (iblk m c 0 t) (View.ld (iblk m c 4 t) (Rect.unit ![0, 0] ![1024, 2048] inb_S1024x5760_S1024x2048_0_0)) (iblk m c 1 t) (View.ld (iblk m c 4 t) (Rect.unit ![0, 2048] ![1024, 2048] inb_S1024x5760_S1024x2048_0_2048)) (iblk m c 2 t) (View.ld (iblk m c 4 t) (Rect.unit ![0, 4096] ![1024, 512] inb_S1024x5760_S1024x512_0_4096)) (iblk m c 3 t) (View.ld (iblk m c 4 t) (Rect.unit ![0, 4608] ![1024, 1152] inb_S1024x5760_S1024x1152_0_4608)) (iblk m c 6 t)) (iblk m c 7 t) (ix2 r k) := by
    by_cases h0 : t.val % 32 = 0
    · rw [outsAt0_A m c t h0]; dsimp only; frame_out; rfl
    · rw [outsAt0_B m c t h0]; dsimp only; frame_out; rfl
  refine h.trans ?_
  pointwise [k0_pay1]
  simp only [pay5_apply, pay6_apply, pay7_apply, iblk7_apply]
  rfl

/-- One point's summand of the gain's gradient. -/
def term (B x : Arr S8192x1024) (t : Fin cfg0.N) : Arr S1x1024 := fun i =>
  ∑ r : Fin 256, B (ix2 (row t r) (i 1)) * (x (ix2 (row t r) (i 1)) * Ideal.rsqrt (var x (row t r)))
theorem term_apply (B x : Arr S8192x1024) (t : Fin cfg0.N) (z : Fin 1) (k : Fin 1024) :
    term B x t (ix2 z k) = ∑ r : Fin 256, B (ix2 (row t r) k) * (x (ix2 (row t r) k) * Ideal.rsqrt (var x (row t r))) := rfl
theorem gradG_apply (B x : Arr S8192x1024) (z : Fin 1) (k : Fin 1024) :
    gradG B x (ix2 z k) = ∑ r : Fin 8192, B (ix2 r k) * (x (ix2 r k) * Ideal.rsqrt (var x r)) := rfl

theorem pay3_apply (c : Dev nD) (t : Fin cfg0.N) (acc : Arr S1x1024) (z : Fin 1) (k : Fin 1024) :
    k0_pay3 (F := Ideal) (k0_pay4 (iblk m c 0 t) (View.ld (iblk m c 4 t) (Rect.unit ![0, 0] ![1024, 2048] inb_S1024x5760_S1024x2048_0_0)) (iblk m c 1 t) (View.ld (iblk m c 4 t) (Rect.unit ![0, 2048] ![1024, 2048] inb_S1024x5760_S1024x2048_0_2048)) (iblk m c 2 t) (View.ld (iblk m c 4 t) (Rect.unit ![0, 4096] ![1024, 512] inb_S1024x5760_S1024x512_0_4096)) (iblk m c 3 t) (View.ld (iblk m c 4 t) (Rect.unit ![0, 4608] ![1024, 1152] inb_S1024x5760_S1024x1152_0_4608))) (k0_pay6 (iblk m c 5 t)) acc (ix2 z k) = acc (ix2 z k) + term (bk m c) (m ((c : Thread nD τ).loc main_arg5)) t (ix2 z k) := by
  pointwise [k0_pay3]
  simp only [pay4_apply, pay6_apply, term_apply]
  try rfl

/-- The accumulator after the last point is the sum over the points. -/
theorem acc_eq (c : Dev nD) (t : Fin cfg0.N) (hf : t.val % 32 = 32 - 1) (j : S1x1024.Idx) :
    (outsAt0 m c t.val t.isLt).2 j = 0 + ∑ s : Fin 32, term (bk m c) (m ((c : Thread nD τ).loc main_arg5)) ⟨32 * (t.val / 32) + s.val, Pipeline.run_point_lt_of_flush t hf s⟩ j :=
  Pipeline.eq_sum_fin_of_reset_step_apply_of_flush (fun n h => (outsAt0 m c n h).2) 32 (fun _ => (0 : EReal)) (term (bk m c) (m ((c : Thread nD τ).loc main_arg5)))
    (fun t h j => by
      rw [outsAt0_A m c t h]; dsimp only; frame_out
      idx_vars j
      refine Eq.trans (pay3_apply m c t _ j0 j1) ?_
      refine congrArg (· + _) ?_
      pointwise [k0_pay2])
    (fun t h j => by
      rw [outsAt0_B m c t h]; dsimp only; frame_out
      idx_vars j
      exact pay3_apply m c t _ j0 j1)
    t hf j

theorem flush_eq8 (c : Dev nD) (t : Fin cfg0.N) :
    (dats m 0 c).flushed 8 t = (win0_8.blk t).view.read (Elt Ideal) (gradX (bk m c) (m ((c : Thread nD τ).loc main_arg5)) (m ((c : Thread nD τ).loc main_arg6)) (m ((c : Thread nD τ).loc main_arg7))) := by
  show (cfg0.win 8).cut (grid0.coords t) ((dats m 0 c).after 8 t) = _
  rw [after0_8]
  refine funext fun (j : S256x1024.Idx) => ?_
  idx_vars j
  exact (out_eq m c t j0 j1).trans (read8_apply _ t j0 j1).symm
theorem final8 (c : Dev nD) : (dats m 0 c).arrAt 8 cfg0.N = gradX (bk m c) (m ((c : Thread nD τ).loc main_arg5)) (m ((c : Thread nD τ).loc main_arg6)) (m ((c : Thread nD τ).loc main_arg7)) :=
  (dats m 0 c).arrAt_eq_of_cover 8 _ (fun t _ => flush_eq8 m c t) cover8

theorem flush_eq9 (c : Dev nD) (t : Fin cfg0.N) (hf : (cfg0.win 9).flush t = true) :
    (dats m 0 c).flushed 9 t = (win0_9.blk t).view.read (Elt Ideal) (gradG (bk m c) (m ((c : Thread nD τ).loc main_arg5))) := by
  have h7 : t.val % 32 = 31 := by have h := (flush0_9 t).mp hf; have := t.isLt; have := N32; omega
  show (cfg0.win 9).cut (grid0.coords t) ((dats m 0 c).after 9 t) = _
  rw [after0_9]
  refine funext fun (j : S1x1024.Idx) => ?_
  idx_vars j
  refine Eq.trans ?_ (read9_apply _ t j0 j1).symm
  refine Eq.trans (acc_eq m c t h7 (ix2 j0 j1)) ?_
  rw [zero_add]
  simp only [term_apply, gradG_apply]
  refine Fin.sum_mul_add_congr fun s k hl => ?_
  have e0 : row ⟨32 * (t.val / 32) + s.val, Pipeline.run_point_lt_of_flush t h7 s⟩ k = ⟨s.val * 256 + k.val, hl⟩ :=
    Fin.ext (by show (32 * (t.val / 32) + s.val) * 256 + k.val = s.val * 256 + k.val; have := t.isLt; have := N32; omega)
  rw [e0]
theorem final9 (c : Dev nD) : (dats m 0 c).arrAt 9 cfg0.N = gradG (bk m c) (m ((c : Thread nD τ).loc main_arg5)) :=
  (dats m 0 c).arrAt_eq_of_cover 9 _ (fun t hf => flush_eq9 m c t hf) cover9

/-- Columns padded by zeros on both sides, read at a column. -/
theorem pad_cols {w n : Nat} (o p : Nat) (x : (⟨2, ![8192, w]⟩ : Shape).Idx → EReal) {u : Shape} (v : u.Idx → EReal)
    (h : Shape.Pads (⟨2, ![8192, w]⟩ : Shape) (![0, o] : Fin 2 → Nat) (![0, p] : Fin 2 → Nat) (![0, 0] : Fin 2 → Nat) (⟨2, ![8192, n]⟩ : Shape)) (hu : 0 < u.numel) (hv : v (Shape.Idx.first hu) = 0)
    (r : Fin 8192) (f : Fin n) :
    pad (⟨2, ![8192, n]⟩ : Shape) (![0, o] : Fin 2 → Nat) (![0, p] : Fin 2 → Nat) (![0, 0] : Fin 2 → Nat) x v h hu (ix2 r f)
      = if q : o ≤ f.val ∧ f.val < o + w then x (ix2 r ⟨f.val - o, by omega⟩) else 0 := by
  split_ifs with q
  · refine pad_apply_of_inside _ _ _ _ _ _ _ _ (ix2 r ⟨f.val - o, by omega⟩) fun a => ?_
    match a with
    | ⟨0, _⟩ => show r.val = 0 + r.val * 1; omega
    | ⟨1, _⟩ => show f.val = o + (f.val - o) * 1; omega
  · refine (pad_apply_of_not_inside _ _ _ _ _ _ _ _ (1 : Fin 2) ?_).trans hv
    show ¬(o ≤ f.val ∧ (f.val - o) % 1 = 0 ∧ (f.val - o) / 1 < w)
    rw [Nat.div_one]
    omega

/-- A row of the incoming gradients, each padded to the weight's columns and added, against a row of the weight: the
    four products. -/
theorem sum_cols (W a0 a1 a2 a3 : Fin 5760 → EReal) (d0 d1 : Fin 2048 → EReal) (d2 : Fin 512 → EReal) (d3 : Fin 1152 → EReal)
    (h0 : ∀ f : Fin 5760, a0 f = if h : 0 ≤ f.val ∧ f.val < 0 + 2048 then d0 ⟨f.val - 0, by omega⟩ else 0)
    (h1 : ∀ f : Fin 5760, a1 f = if h : 2048 ≤ f.val ∧ f.val < 2048 + 2048 then d1 ⟨f.val - 2048, by omega⟩ else 0)
    (h2 : ∀ f : Fin 5760, a2 f = if h : 4096 ≤ f.val ∧ f.val < 4096 + 512 then d2 ⟨f.val - 4096, by omega⟩ else 0)
    (h3 : ∀ f : Fin 5760, a3 f = if h : 4608 ≤ f.val ∧ f.val < 4608 + 1152 then d3 ⟨f.val - 4608, by omega⟩ else 0) :
    ∑ f : Fin 5760, (a3 f + a2 f + a1 f + a0 f) * W f
      = (∑ f : Fin 2048, d0 f * W ⟨f.val, by omega⟩) + (∑ f : Fin 2048, d1 f * W ⟨2048 + f.val, by omega⟩)
        + (∑ f : Fin 512, d2 f * W ⟨4096 + f.val, by omega⟩) + (∑ f : Fin 1152, d3 f * W ⟨4608 + f.val, by omega⟩) := by
  show ∑ f : Fin (2048 + 2048 + 512 + 1152), _ = _
  rw [Fin.sum_univ_add, Fin.sum_univ_add, Fin.sum_univ_add]
  refine congrArg₂ (· + ·) (congrArg₂ (· + ·) (congrArg₂ (· + ·) ?_ ?_) ?_) ?_
  · refine Finset.sum_congr rfl fun f _ => ?_
    show (a3 ⟨f.val, by omega⟩ + a2 ⟨f.val, by omega⟩ + a1 ⟨f.val, by omega⟩ + a0 ⟨f.val, by omega⟩) * W ⟨f.val, by omega⟩ = _
    rw [h0, h1, h2, h3,
      dif_pos (show (0 ≤ f.val ∧ f.val < 0 + 2048) by omega),
      dif_neg (show ¬ (2048 ≤ f.val ∧ f.val < 2048 + 2048) by omega),
      dif_neg (show ¬ (4096 ≤ f.val ∧ f.val < 4096 + 512) by omega),
      dif_neg (show ¬ (4608 ≤ f.val ∧ f.val < 4608 + 1152) by omega)]
    simp only [zero_add, add_zero]
    rfl
  · refine Finset.sum_congr rfl fun f _ => ?_
    show (a3 ⟨2048 + f.val, by omega⟩ + a2 ⟨2048 + f.val, by omega⟩ + a1 ⟨2048 + f.val, by omega⟩ + a0 ⟨2048 + f.val, by omega⟩) * W ⟨2048 + f.val, by omega⟩ = _
    rw [h0, h1, h2, h3,
      dif_neg (show ¬ (0 ≤ 2048 + f.val ∧ 2048 + f.val < 0 + 2048) by omega),
      dif_pos (show (2048 ≤ 2048 + f.val ∧ 2048 + f.val < 2048 + 2048) by omega),
      dif_neg (show ¬ (4096 ≤ 2048 + f.val ∧ 2048 + f.val < 4096 + 512) by omega),
      dif_neg (show ¬ (4608 ≤ 2048 + f.val ∧ 2048 + f.val < 4608 + 1152) by omega)]
    simp only [zero_add, add_zero]
    refine congrArg (fun q : EReal => q * _) (congrArg d1 (Fin.ext ?_))
    exact Nat.add_sub_cancel_left ..
  · refine Finset.sum_congr rfl fun f _ => ?_
    show (a3 ⟨4096 + f.val, by omega⟩ + a2 ⟨4096 + f.val, by omega⟩ + a1 ⟨4096 + f.val, by omega⟩ + a0 ⟨4096 + f.val, by omega⟩) * W ⟨4096 + f.val, by omega⟩ = _
    rw [h0, h1, h2, h3,
      dif_neg (show ¬ (0 ≤ 4096 + f.val ∧ 4096 + f.val < 0 + 2048) by omega),
      dif_neg (show ¬ (2048 ≤ 4096 + f.val ∧ 4096 + f.val < 2048 + 2048) by omega),
      dif_pos (show (4096 ≤ 4096 + f.val ∧ 4096 + f.val < 4096 + 512) by omega),
      dif_neg (show ¬ (4608 ≤ 4096 + f.val ∧ 4096 + f.val < 4608 + 1152) by omega)]
    simp only [zero_add, add_zero]
    refine congrArg (fun q : EReal => q * _) (congrArg d2 (Fin.ext ?_))
    exact Nat.add_sub_cancel_left ..
  · refine Finset.sum_congr rfl fun f _ => ?_
    show (a3 ⟨4608 + f.val, by omega⟩ + a2 ⟨4608 + f.val, by omega⟩ + a1 ⟨4608 + f.val, by omega⟩ + a0 ⟨4608 + f.val, by omega⟩) * W ⟨4608 + f.val, by omega⟩ = _
    rw [h0, h1, h2, h3,
      dif_neg (show ¬ (0 ≤ 4608 + f.val ∧ 4608 + f.val < 0 + 2048) by omega),
      dif_neg (show ¬ (2048 ≤ 4608 + f.val ∧ 4608 + f.val < 2048 + 2048) by omega),
      dif_neg (show ¬ (4096 ≤ 4608 + f.val ∧ 4608 + f.val < 4096 + 512) by omega),
      dif_pos (show (4608 ≤ 4608 + f.val ∧ 4608 + f.val < 4608 + 1152) by omega)]
    simp only [zero_add, add_zero]
    refine congrArg (fun q : EReal => q * _) (congrArg d3 (Fin.ext ?_))
    exact Nat.add_sub_cancel_left ..

end Cert.InBwdIdeal.Call

namespace Cert.InBwdRefIdeal.Dot
open Cert.InBwdRefIdeal Cert.InBwdRefIdeal.Gen Idealize.ShloMosaic Idealize.ShloMosaic.TcCoe Idealize.SL.Sem

/-- The product against the weight at an index. -/
theorem dot_apply (a0 a1 a2 a3 : FVec Ideal S8192x5760 .f32) (w : FVec Ideal S1024x5760 .f32) (r : Fin 8192) (k : Fin 1024) :
    (Host.dotGeneral (F := Ideal) dot_S8192x5760_S1024x5760_S8192x1024_1_1_0_0_n_n none (addf (addf (addf a3 a2) a1) a0) w) (ix2 r k)
      = ∑ f : Fin 5760, (a3 (ix2 r f) + a2 (ix2 r f) + a1 (ix2 r f) + a0 (ix2 r f)) * w (ix2 k f) := by
  pointwise

theorem zero_const (i : S_.Idx) : (constant S_ .f32 0x00000000#32 : FVec Ideal S_ .f32) i = 0 := by
  pointwise

/-- The gradient for the normalised rows, as the derivative of the split columns. -/
theorem dot_ref (m : (ℓ : Loc nD τ sig) → Buf (Elt Ideal) ℓ) (c : Dev nD) :
    Host.dotGeneral (F := Ideal) dot_S8192x5760_S1024x5760_S8192x1024_1_1_0_0_n_n none (addf (addf (addf (pad S8192x5760 ![0, 4608] ![0, 0] ![0, 0] (extf .f32 (m ((c.tc : Thread nD τ).loc main_arg3)) bitsLt_bf16_f32) (constant S_ .f32 0x00000000#32) pads_S8192x1152_S8192x5760_000_460800 h_S_) (pad S8192x5760 ![0, 4096] ![0, 1152] ![0, 0] (extf .f32 (m ((c.tc : Thread nD τ).loc main_arg2)) bitsLt_bf16_f32) (constant S_ .f32 0x00000000#32) pads_S8192x512_S8192x5760_000_409611520 h_S_)) (pad S8192x5760 ![0, 2048] ![0, 1664] ![0, 0] (extf .f32 (m ((c.tc : Thread nD τ).loc main_arg1)) bitsLt_bf16_f32) (constant S_ .f32 0x00000000#32) pads_S8192x2048_S8192x5760_000_204816640 h_S_)) (pad S8192x5760 ![0, 0] ![0, 3712] ![0, 0] (extf .f32 (m ((c.tc : Thread nD τ).loc main_arg0)) bitsLt_bf16_f32) (constant S_ .f32 0x00000000#32) pads_S8192x2048_S8192x5760_000_037120 h_S_)) (extf .f32 (m ((c.tc : Thread nD τ).loc main_arg4)) bitsLt_bf16_f32) = Cert.InBwdIdeal.Call.back (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine funext fun (i : S8192x1024.Idx) => ?_
  idx_vars i
  refine (dot_apply _ _ _ _ _ i0 i1).trans ?_
  refine (Cert.InBwdIdeal.Call.sum_cols _ _ _ _ _ (fun f : Fin 2048 => ((m ((c.tc : Thread nD τ).loc main_arg0)) : FVec Ideal S8192x2048 .bf16) (ix2 i0 f)) (fun f : Fin 2048 => ((m ((c.tc : Thread nD τ).loc main_arg1)) : FVec Ideal S8192x2048 .bf16) (ix2 i0 f)) (fun f : Fin 512 => ((m ((c.tc : Thread nD τ).loc main_arg2)) : FVec Ideal S8192x512 .bf16) (ix2 i0 f)) (fun f : Fin 1152 => ((m ((c.tc : Thread nD τ).loc main_arg3)) : FVec Ideal S8192x1152 .bf16) (ix2 i0 f))
    (fun f => Cert.InBwdIdeal.Call.pad_cols _ _ _ _ _ _ (zero_const _) _ f) (fun f => Cert.InBwdIdeal.Call.pad_cols _ _ _ _ _ _ (zero_const _) _ f)
    (fun f => Cert.InBwdIdeal.Call.pad_cols _ _ _ _ _ _ (zero_const _) _ f) (fun f => Cert.InBwdIdeal.Call.pad_cols _ _ _ _ _ _ (zero_const _) _ f)).trans ?_
  rw [Cert.InBwdIdeal.Call.back_apply]
  rfl

end Cert.InBwdRefIdeal.Dot

namespace Cert.InBwdIdeal.Call

end Cert.InBwdIdeal.Call

namespace Cert.InBwdIdeal.Claims
open Idealize.ShloMosaic Idealize.ShloMosaic.TcCoe Idealize.SL.Sem
open Cert.InBwdIdeal.Call

/-- The reference's frame: its host operations leave the arguments, and it declares no semaphore. -/
theorem frame_ref : Cert.quiescent_InBwdRefIdeal := fun m ρ _ =>
  (θ_run Cert.InBwdRefIdeal.defs _ _).mono (fun r h => ⟨fun c => (h c).2.2,
      Idealize.ShloMosaic.sem_eq_zero_of_no_sems (by decide) r.2⟩)
    (Cert.InBwdRefIdeal.Value.run (F := Ideal) m ρ)

set_option maxHeartbeats 2000000 in
/-- The reference's run: its results as functions of its arguments, which it leaves. -/
theorem run_ref (m : (ℓ : Loc Cert.InBwdRefIdeal.nD Cert.InBwdRefIdeal.τ Cert.InBwdRefIdeal.sig) → Buf (Elt Ideal) ℓ) (ρ : Dev Cert.InBwdRefIdeal.nD → PrngReg) :
    θ_run Cert.InBwdRefIdeal.defs (onTc (τ := Cert.InBwdRefIdeal.τ) (Cert.InBwdRefIdeal.main (F := Ideal))) ⟨m, fun _ => 0, ρ⟩ fun r => ∀ c : Dev Cert.InBwdRefIdeal.nD,
      r.2.mem ((c.tc : Thread Cert.InBwdRefIdeal.nD Cert.InBwdRefIdeal.τ).loc Cert.InBwdRefIdeal.main_v54) = gradX (back (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7))
      ∧ r.2.mem ((c.tc : Thread Cert.InBwdRefIdeal.nD Cert.InBwdRefIdeal.τ).loc Cert.InBwdRefIdeal.main_v55) = gradG (back (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))) (m ((c.tc : Thread Cert.InBwdRefIdeal.nD Cert.InBwdRefIdeal.τ).loc Cert.InBwdRefIdeal.main_arg5))
      ∧ r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7) := by
  refine (θ_run Cert.InBwdRefIdeal.defs _ _).mono (fun r h c => ?_) (Cert.InBwdRefIdeal.Value.run (F := Ideal) m ρ)
  refine ⟨(h c).1.trans ?_, (h c).2.1.trans ?_, (h c).2.2⟩
  · refine funext fun (i : S8192x1024.Idx) => ?_
    idx_vars i
    unfold Cert.InBwdRefIdeal.Value.res_main_v54
    rw [Cert.InBwdRefIdeal.Dot.dot_ref]
    pointwise
    simp only [Fin.sum_univ_one]
    exact (Cert.RmsGrad.grad (fun k : Fin 1024 => ((m ((c.tc : Thread Cert.InBwdRefIdeal.nD Cert.InBwdRefIdeal.τ).loc Cert.InBwdRefIdeal.main_arg5)) : Arr S8192x1024) (ix2 i0 k)) (fun k : Fin 1024 => back (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (ix2 i0 k) * ((m ((c.tc : Thread Cert.InBwdRefIdeal.nD Cert.InBwdRefIdeal.τ).loc Cert.InBwdRefIdeal.main_arg6)) : Arr S1024) (ix1 k)) (var ((m ((c.tc : Thread Cert.InBwdRefIdeal.nD Cert.InBwdRefIdeal.τ).loc Cert.InBwdRefIdeal.main_arg5)) : Arr S8192x1024) i0) (((m ((c.tc : Thread Cert.InBwdRefIdeal.nD Cert.InBwdRefIdeal.τ).loc Cert.InBwdRefIdeal.main_arg7)) : Arr S8192x1024) (ix2 i0 i1)) (Cert.RmsGrad.var_pos fun k : Fin 1024 => ((m ((c.tc : Thread Cert.InBwdRefIdeal.nD Cert.InBwdRefIdeal.τ).loc Cert.InBwdRefIdeal.main_arg5)) : Arr S8192x1024) (ix2 i0 k)) i1).symm
  · refine funext fun (i : S1x1024.Idx) => ?_
    idx_vars i
    rw [Cert.InBwdRefIdeal.Dot.dot_ref]
    pointwise
    simp only [Fin.sum_univ_one]
    exact Finset.sum_congr rfl fun k _ => mul_comm _ _

/-- The call's results are the reference's, whatever the arguments hold. -/
theorem algebraic : Cert.algebraic_InBwdIdeal_InBwdRefIdeal := by
  intro m ρ m' ρ' _ hag
  refine ⟨fun c => gradX (back (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)), fun c => gradG (back (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))) (m ((c.tc : Thread Cert.InBwdIdeal.nD Cert.InBwdIdeal.τ).loc Cert.InBwdIdeal.main_arg5)), ?_, ?_⟩
  · refine (θ_run Cert.InBwdIdeal.defs _ _).mono (fun r h c => ?_) (Cert.InBwdIdeal.Value.run_blocks (F := Ideal) m ρ)
    have h := h c
    rw [final8, final9] at h
    exact h
  · refine (θ_run Cert.InBwdRefIdeal.defs _ _).mono (fun r h c => ?_) (run_ref m' ρ')
    have e := hag c
    have h := h c
    rw [e.1, e.2.1, e.2.2.1, e.2.2.2.1, e.2.2.2.2.1, e.2.2.2.2.2.1, e.2.2.2.2.2.2.1, e.2.2.2.2.2.2.2] at h
    rw [e.1, e.2.1, e.2.2.1, e.2.2.2.1, e.2.2.2.2.1, e.2.2.2.2.2.1, e.2.2.2.2.2.2.1, e.2.2.2.2.2.2.2]
    exact h

end Cert.InBwdIdeal.Claims
end
-- ==== Proof.WMlpOutCall.lean ====
/-
  The weight-gradient call of the second layer of the two-layer network: its result, summed over the token blocks in a carried scratch, is the
  gradient of the weight; and the claims.
-/
module
public import proofs.«01_k».proof.Defs
public import proofs.«01_k».proof.Proof.Gen.WMlpOutIdeal.Value
public import proofs.«01_k».proof.Proof.Gen.WMlpOutRefIdeal.Run
public import Idealize.ShloMosaic.Lib.Pointwise
public import Idealize.ShloMosaic.Lib.Pipeline.ValueKit
public import Idealize.ShloMosaic.Lib.Pipeline.ReadBack
public import Idealize.ShloMosaic.Lib.Quiescent
@[expose] public section
set_option maxRecDepth 16384
noncomputable section
namespace Cert.WMlpOutIdeal.Call
open Cert.WMlpOutIdeal Cert.WMlpOutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The square of the positive part. -/
def act (x : EReal) : EReal := max x 0 * max x 0

/-- The gradient of the weight: the sum over the tokens. -/
def grad (a : Arr S8192x4096) (b : Arr S8192x1024) : Arr S4096x1024 := fun i =>
  ∑ k : Fin 8192, act (a (ix2 k (i 0))) * b (ix2 k (i 1))

theorem N32 : cfg0.N = 32 := N_0

theorem off0 : ∀ t : Fin cfg0.N, win0_0.index t 0 * win0_0.size 0 = t.val % 8 * 1024 ∧ win0_0.index t 1 * win0_0.size 1 = t.val / 8 * 1024 :=
  (by decide +kernel : ∀ t : Fin grid0.N, win0_0.index t 0 * win0_0.size 0 = t.val % 8 * 1024 ∧ win0_0.index t 1 * win0_0.size 1 = t.val / 8 * 1024)
theorem off1 : ∀ t : Fin cfg0.N, win0_1.index t 0 * win0_1.size 0 = t.val % 8 * 1024 ∧ win0_1.index t 1 * win0_1.size 1 = 0 :=
  (by decide +kernel : ∀ t : Fin grid0.N, win0_1.index t 0 * win0_1.size 0 = t.val % 8 * 1024 ∧ win0_1.index t 1 * win0_1.size 1 = 0)
theorem off2 : ∀ t : Fin cfg0.N, win0_2.index t 0 * win0_2.size 0 = t.val / 8 * 1024 ∧ win0_2.index t 1 * win0_2.size 1 = 0 :=
  (by decide +kernel : ∀ t : Fin grid0.N, win0_2.index t 0 * win0_2.size 0 = t.val / 8 * 1024 ∧ win0_2.index t 1 * win0_2.size 1 = 0)

/-- The token that row `k` of point `t`'s blocks is. -/
def tok (t : Fin cfg0.N) (k : Fin 1024) : Fin 8192 := ⟨t.val % 8 * 1024 + k.val, by omega⟩
/-- The result row that row `r` of point `t`'s block is. -/
def row (t : Fin cfg0.N) (r : Fin 1024) : Fin 4096 := ⟨t.val / 8 * 1024 + r.val, by have := t.isLt; have := N32; omega⟩

theorem iblk0_apply (c : Dev nD) (t : Fin cfg0.N) (r : Fin 1024) (k : Fin 1024) :
    (iblk m c 0 t : S1024x1024.Idx → EReal) (ix2 r k) = m ((c : Thread nD τ).loc main_arg0) (ix2 (tok t r) (row t k)) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val % 8 * 1024 + r.val
              rw [(off0 t).1]; omega
  | ⟨1, _⟩ => show win0_0.index t 1 * win0_0.size 1 + 1 * k.val = t.val / 8 * 1024 + k.val
              rw [(off0 t).2]; omega

theorem iblk1_apply (c : Dev nD) (t : Fin cfg0.N) (r : Fin 1024) (k : Fin 1024) :
    (iblk m c 1 t : S1024x1024.Idx → EReal) (ix2 r k) = m ((c : Thread nD τ).loc main_arg1) (ix2 (tok t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val % 8 * 1024 + r.val
              rw [(off1 t).1]; omega
  | ⟨1, _⟩ => show win0_1.index t 1 * win0_1.size 1 + 1 * k.val = k.val
              rw [(off1 t).2]; omega

/-- An array read through point `t`'s block of the result's window. -/
theorem read2_apply (X : Arr S4096x1024) (t : Fin cfg0.N) (r : Fin 1024) (k : Fin 1024) :
    ((win0_2.blk t).view.read (Elt Ideal) X : S1024x1024.Idx → EReal) (ix2 r k) = X (ix2 (row t r) k) := by
  show X ((win0_2.rect t).idx (ix2 r k)) = _
  refine congrArg _ (funext fun a => Fin.ext ?_)
  match a with
  | ⟨0, _⟩ => show win0_2.index t 0 * win0_2.size 0 + 1 * r.val = t.val / 8 * 1024 + r.val
              rw [(off2 t).1]; omega
  | ⟨1, _⟩ => show win0_2.index t 1 * win0_2.size 1 + 1 * k.val = k.val
              rw [(off2 t).2]; omega

/-- Every index of the result is in a block some point writes back. -/
theorem cover2 (i : S4096x1024.Idx) : ∃ t : Fin cfg0.N, (cfg0.win 2).flush t = true ∧ i ∈ ((cfg0.win 2).blk t).view.set := by
  have h0 : (i 0 : Nat) < 4096 := (i 0).isLt
  have h1 : (i 1 : Nat) < 1024 := (i 1).isLt
  have hN := N32
  obtain ⟨t, ht⟩ : ∃ t : Fin cfg0.N, t.val = 8 * ((i 0).val / 1024) + 7 := ⟨⟨8 * ((i 0).val / 1024) + 7, by omega⟩, rfl⟩
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * win0_2.size 0 ≤ (i 0 : Nat) ∧ (i 0 : Nat) < win0_2.index t 0 * win0_2.size 0 + 1024
              rw [(off2 t).1]; omega
  | ⟨1, _⟩ => show win0_2.index t 1 * win0_2.size 1 ≤ (i 1 : Nat) ∧ (i 1 : Nat) < win0_2.index t 1 * win0_2.size 1 + 1024
              rw [(off2 t).2]; omega

/-- What a point adds to the scratch. -/
def term (a : Arr S8192x4096) (b : Arr S8192x1024) (t : Fin cfg0.N) : Arr S1024x1024 := fun j =>
  ∑ k : Fin 1024, act (a (ix2 (tok t k) (row t (j 0)))) * b (ix2 (tok t k) (j 1))

theorem term_apply (a : Arr S8192x4096) (b : Arr S8192x1024) (t : Fin cfg0.N) (r : Fin 1024) (c : Fin 1024) :
    term a b t (ix2 r c) = ∑ k : Fin 1024, act (a (ix2 (tok t k) (row t r))) * b (ix2 (tok t k) c) := rfl
theorem grad_apply (a : Arr S8192x4096) (b : Arr S8192x1024) (r : Fin 4096) (c : Fin 1024) :
    grad a b (ix2 r c) = ∑ k : Fin 8192, act (a (ix2 k r)) * b (ix2 k c) := rfl

/-- The stored sum: what the scratch held, and the point's product. -/
theorem pay_add (c : Dev nD) (t : Fin cfg0.N) (acc : Arr S1024x1024) (j : S1024x1024.Idx) :
    (k0_pay2 (F := Ideal) (iblk m c 0 t) acc (iblk m c 1 t)) j = acc j + term (m ((c : Thread nD τ).loc main_arg0)) (m ((c : Thread nD τ).loc main_arg1)) t j := by
  idx_vars j
  pointwise [k0_pay2]
  simp only [iblk0_apply, iblk1_apply, term, act]
  try rfl

/-- The scratch at a point that writes the result back: the sum over the points of its run. -/
theorem acc_eq (c : Dev nD) (t : Fin cfg0.N) (hf : t.val % 8 = 8 - 1) (j : S1024x1024.Idx) :
    (outsAt0 m c t.val t.isLt).2 j = 0 + ∑ s : Fin 8, term (m ((c : Thread nD τ).loc main_arg0)) (m ((c : Thread nD τ).loc main_arg1)) ⟨8 * (t.val / 8) + s.val, Pipeline.run_point_lt_of_flush t hf s⟩ j :=
  Pipeline.eq_sum_fin_of_reset_step_apply_of_flush (fun n h => (outsAt0 m c n h).2) 8 (fun _ => (0 : EReal)) (term (m ((c : Thread nD τ).loc main_arg0)) (m ((c : Thread nD τ).loc main_arg1)))
    (fun t h j => by
      rw [outsAt0_A m c t h (by omega)]; dsimp only; frame_out; rw [pay_add]
      refine congrArg (· + _) ?_
      idx_vars j
      pointwise [k0_pay1])
    (fun t h j => by
      by_cases h7 : t.val % 8 = 7
      · rw [outsAt0_C m c t h h7]; dsimp only; frame_out; rw [pay_add, read_unread_whole]
      · rw [outsAt0_B m c t h h7]; dsimp only; frame_out; rw [pay_add, read_unread_whole])
    t hf j

/-- What a point that writes back stores is the scratch. -/
theorem out_eq (c : Dev nD) (t : Fin cfg0.N) (h7 : t.val % 8 = 7) (j : S1024x1024.Idx) :
    (outsAt0 m c t.val t.isLt).1 j = (outsAt0 m c t.val t.isLt).2 j := by
  rw [outsAt0_C m c t (by omega) h7]; dsimp only; frame_out
  idx_vars j
  pointwise [k0_pay3]

theorem flush_eq2 (c : Dev nD) (t : Fin cfg0.N) (hf : (cfg0.win 2).flush t = true) :
    (dats m 0 c).flushed 2 t = (win0_2.blk t).view.read (Elt Ideal) (grad (m ((c : Thread nD τ).loc main_arg0)) (m ((c : Thread nD τ).loc main_arg1))) := by
  have h7 : t.val % 8 = 7 := (flush0_2 t).mp hf
  show (cfg0.win 2).cut (grid0.coords t) ((dats m 0 c).after 2 t) = _
  rw [after0_2]
  refine funext fun (j : S1024x1024.Idx) => ?_
  idx_vars j
  refine Eq.trans ?_ (read2_apply _ t j0 j1).symm
  refine Eq.trans (out_eq m c t h7 (ix2 j0 j1)) ?_
  rw [acc_eq m c t h7, zero_add]
  simp only [term_apply, grad_apply]
  refine Fin.sum_mul_add_congr fun s k hl => ?_
  have e0 : tok ⟨8 * (t.val / 8) + s.val, Pipeline.run_point_lt_of_flush t h7 s⟩ k = ⟨s.val * 1024 + k.val, hl⟩ :=
    Fin.ext (by show (8 * (t.val / 8) + s.val) % 8 * 1024 + k.val = s.val * 1024 + k.val; omega)
  have e1 : row ⟨8 * (t.val / 8) + s.val, Pipeline.run_point_lt_of_flush t h7 s⟩ j0 = row t j0 :=
    Fin.ext (by show (8 * (t.val / 8) + s.val) / 8 * 1024 + j0.val = t.val / 8 * 1024 + j0.val; omega)
  simp only [e0, e1]

theorem final2 (c : Dev nD) : (dats m 0 c).arrAt 2 cfg0.N = grad (m ((c : Thread nD τ).loc main_arg0)) (m ((c : Thread nD τ).loc main_arg1)) :=
  (dats m 0 c).arrAt_eq_of_cover 2 _ (fun t hf => flush_eq2 m c t hf) cover2

end Cert.WMlpOutIdeal.Call

namespace Cert.WMlpOutIdeal.Claims
open Idealize.ShloMosaic Idealize.ShloMosaic.TcCoe Idealize.SL.Sem
open Cert.WMlpOutIdeal.Call

/-- The reference's frame: its host operations leave the arguments, and it declares no semaphore. -/
theorem frame_ref : Cert.quiescent_WMlpOutRefIdeal := fun m ρ _ =>
  (θ_run Cert.WMlpOutRefIdeal.defs _ _).mono (fun r h => ⟨fun c => (h c).2,
      Idealize.ShloMosaic.sem_eq_zero_of_no_sems (by decide) r.2⟩)
    (Cert.WMlpOutRefIdeal.Value.run (F := Ideal) m ρ)

/-- The reference's run: its result is the gradient of its arguments, which it leaves. -/
theorem run_ref (m : (ℓ : Loc Cert.WMlpOutRefIdeal.nD Cert.WMlpOutRefIdeal.τ Cert.WMlpOutRefIdeal.sig) → Buf (Elt Ideal) ℓ) (ρ : Dev Cert.WMlpOutRefIdeal.nD → PrngReg) :
    θ_run Cert.WMlpOutRefIdeal.defs (onTc (τ := Cert.WMlpOutRefIdeal.τ) (Cert.WMlpOutRefIdeal.main (F := Ideal))) ⟨m, fun _ => 0, ρ⟩ fun r => ∀ c : Dev Cert.WMlpOutRefIdeal.nD,
      r.2.mem ((c.tc : Thread Cert.WMlpOutRefIdeal.nD Cert.WMlpOutRefIdeal.τ).loc Cert.WMlpOutRefIdeal.main_v8) = grad (m ((c.tc : Thread Cert.WMlpOutRefIdeal.nD Cert.WMlpOutRefIdeal.τ).loc Cert.WMlpOutRefIdeal.main_arg0)) (m ((c.tc : Thread Cert.WMlpOutRefIdeal.nD Cert.WMlpOutRefIdeal.τ).loc Cert.WMlpOutRefIdeal.main_arg1))
      ∧ r.2.mem ((c.tc : Thread Cert.WMlpOutRefIdeal.nD Cert.WMlpOutRefIdeal.τ).loc Cert.WMlpOutRefIdeal.main_arg0) = m ((c.tc : Thread Cert.WMlpOutRefIdeal.nD Cert.WMlpOutRefIdeal.τ).loc Cert.WMlpOutRefIdeal.main_arg0)
      ∧ r.2.mem ((c.tc : Thread Cert.WMlpOutRefIdeal.nD Cert.WMlpOutRefIdeal.τ).loc Cert.WMlpOutRefIdeal.main_arg1) = m ((c.tc : Thread Cert.WMlpOutRefIdeal.nD Cert.WMlpOutRefIdeal.τ).loc Cert.WMlpOutRefIdeal.main_arg1) := by
  refine (θ_run Cert.WMlpOutRefIdeal.defs _ _).mono (fun r h c => ?_) (Cert.WMlpOutRefIdeal.Value.run (F := Ideal) m ρ)
  refine ⟨(h c).1.trans ?_, (h c).2⟩
  refine funext fun (i : S4096x1024.Idx) => ?_
  idx_vars i
  pointwise
  exact Finset.sum_congr rfl fun k _ => mul_comm _ _

/-- The call's result is the reference's, whatever the arguments hold. -/
theorem algebraic : Cert.algebraic_WMlpOutIdeal_WMlpOutRefIdeal := by
  intro m ρ m' ρ' _ hag
  refine ⟨fun c => grad (m ((c.tc : Thread Cert.WMlpOutIdeal.nD Cert.WMlpOutIdeal.τ).loc Cert.WMlpOutIdeal.main_arg0)) (m ((c.tc : Thread Cert.WMlpOutIdeal.nD Cert.WMlpOutIdeal.τ).loc Cert.WMlpOutIdeal.main_arg1)), ?_, ?_⟩
  · refine (θ_run Cert.WMlpOutIdeal.defs _ _).mono (fun r h c => ?_) (Cert.WMlpOutIdeal.Value.run_blocks (F := Ideal) m ρ)
    have h := h c
    rw [final2] at h
    exact h
  · refine (θ_run Cert.WMlpOutRefIdeal.defs _ _).mono (fun r h c => ?_) (run_ref m' ρ')
    have e := hag c
    have h := h c
    rw [e.1, e.2] at h
    rw [e.1, e.2]
    exact h

end Cert.WMlpOutIdeal.Claims
end
-- ==== Proof.WMlpInCall.lean ====
/-
  The weight-gradient call of the first layer of the two-layer network: its result, summed over the token blocks in a carried scratch, is the
  gradient of the weight; and the claims.
-/
module
public import proofs.«01_k».proof.Defs
public import proofs.«01_k».proof.Proof.Gen.WMlpInIdeal.Value
public import proofs.«01_k».proof.Proof.Gen.WMlpInRefIdeal.Run
public import Idealize.ShloMosaic.Lib.Pointwise
public import Idealize.ShloMosaic.Lib.Pipeline.ValueKit
public import Idealize.ShloMosaic.Lib.Pipeline.ReadBack
public import Idealize.ShloMosaic.Lib.Quiescent
@[expose] public section
set_option maxRecDepth 16384
noncomputable section
namespace Cert.WMlpInIdeal.Call
open Cert.WMlpInIdeal Cert.WMlpInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The gradient of the weight: the sum over the tokens. -/
def grad (a : Arr S8192x1024) (b : Arr S8192x4096) : Arr S1024x4096 := fun i =>
  ∑ k : Fin 8192, a (ix2 k (i 0)) * b (ix2 k (i 1))

theorem N16 : cfg0.N = 16 := N_0

theorem off0 : ∀ t : Fin cfg0.N, win0_0.index t 0 * win0_0.size 0 = t.val % 16 * 512 ∧ win0_0.index t 1 * win0_0.size 1 = t.val / 16 * 1024 :=
  (by decide +kernel : ∀ t : Fin grid0.N, win0_0.index t 0 * win0_0.size 0 = t.val % 16 * 512 ∧ win0_0.index t 1 * win0_0.size 1 = t.val / 16 * 1024)
theorem off1 : ∀ t : Fin cfg0.N, win0_1.index t 0 * win0_1.size 0 = t.val % 16 * 512 ∧ win0_1.index t 1 * win0_1.size 1 = 0 :=
  (by decide +kernel : ∀ t : Fin grid0.N, win0_1.index t 0 * win0_1.size 0 = t.val % 16 * 512 ∧ win0_1.index t 1 * win0_1.size 1 = 0)
/-- The token that row `k` of point `t`'s blocks is. -/
def tok (t : Fin cfg0.N) (k : Fin 512) : Fin 8192 := ⟨t.val % 16 * 512 + k.val, by omega⟩
/-- The result row that row `r` of point `t`'s block is. -/
def row (t : Fin cfg0.N) (r : Fin 1024) : Fin 1024 := ⟨t.val / 16 * 1024 + r.val, by have := t.isLt; have := N16; omega⟩

theorem iblk0_apply (c : Dev nD) (t : Fin cfg0.N) (r : Fin 512) (k : Fin 1024) :
    (iblk m c 0 t : S512x1024.Idx → EReal) (ix2 r k) = m ((c : Thread nD τ).loc main_arg0) (ix2 (tok t r) (row t k)) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val % 16 * 512 + r.val
              rw [(off0 t).1]; omega
  | ⟨1, _⟩ => show win0_0.index t 1 * win0_0.size 1 + 1 * k.val = t.val / 16 * 1024 + k.val
              rw [(off0 t).2]; omega

theorem iblk1_apply (c : Dev nD) (t : Fin cfg0.N) (r : Fin 512) (k : Fin 4096) :
    (iblk m c 1 t : S512x4096.Idx → EReal) (ix2 r k) = m ((c : Thread nD τ).loc main_arg1) (ix2 (tok t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val % 16 * 512 + r.val
              rw [(off1 t).1]; omega
  | ⟨1, _⟩ => show win0_1.index t 1 * win0_1.size 1 + 1 * k.val = k.val
              rw [(off1 t).2]; omega

theorem hz : ∀ a : Fin 2, (![0, 0] : Fin 2 → Nat) a = 0 := by decide

/-- A rectangle of the scratch, read after the scratch was stored whole. -/
theorem scr_read (X : Arr S1024x4096) (r : Rect S1024x4096) :
    (View.whole cc0_scratch0).readCov (Val := Elt Ideal) [⟨Rect.unit ![0, 0] ![1024, 4096] inb_S1024x4096_S1024x4096_0_0, X⟩] r.toLoadRect = View.ld (Val := Elt Ideal) (e' := .f32) X r :=
  View.readCov_fill (s := S1024x4096) _ _ _ _ _ hz

theorem off2 : ∀ t : Fin cfg0.N, win0_2.index t 0 * win0_2.size 0 = 0 ∧ win0_2.index t 1 * win0_2.size 1 = 0 ∧ win0_2.index t 2 * win0_2.size 2 = 0 :=
  (by decide +kernel : ∀ t : Fin grid0.N, win0_2.index t 0 * win0_2.size 0 = 0 ∧ win0_2.index t 1 * win0_2.size 1 = 0 ∧ win0_2.index t 2 * win0_2.size 2 = 0)

/-- The result, its columns stacked by eighths. -/
def stacked (X : Arr S1024x4096) : Arr S8x1024x512 := fun i =>
  X (ix2 (i 1) ⟨(i 0).val * 512 + (i 2).val, by have : (i 0).val < 8 := (i 0).isLt; have : (i 2).val < 512 := (i 2).isLt; omega⟩)
theorem col_lt (s : Fin 8) (k : Fin 512) : s.val * 512 + k.val < 4096 := by omega
theorem stacked_apply (X : Arr S1024x4096) (s : Fin 8) (r : Fin 1024) (k : Fin 512) :
    stacked X (ix3 s r k) = X (ix2 r ⟨s.val * 512 + k.val, col_lt s k⟩) := rfl

/-- An array read through point `t`'s block of the result's window: the whole of it. -/
theorem read2_apply (X : Arr S8x1024x512) (t : Fin cfg0.N) (s : Fin 8) (r : Fin 1024) (k : Fin 512) :
    ((win0_2.blk t).view.read (Elt Ideal) X : S8x1024x512.Idx → EReal) (ix3 s r k) = X (ix3 s r k) := by
  show X ((win0_2.rect t).idx (ix3 s r k)) = _
  refine congrArg _ (funext fun a => Fin.ext ?_)
  match a with
  | ⟨0, _⟩ => show win0_2.index t 0 * win0_2.size 0 + 1 * s.val = s.val
              rw [(off2 t).1]; omega
  | ⟨1, _⟩ => show win0_2.index t 1 * win0_2.size 1 + 1 * r.val = r.val
              rw [(off2 t).2.1]; omega
  | ⟨2, _⟩ => show win0_2.index t 2 * win0_2.size 2 + 1 * k.val = k.val
              rw [(off2 t).2.2]; omega

/-- Every index of the result is in the block the last point writes back. -/
theorem cover2 (i : S8x1024x512.Idx) : ∃ t : Fin cfg0.N, (cfg0.win 2).flush t = true ∧ i ∈ ((cfg0.win 2).blk t).view.set := by
  have h0 : (i 0 : Nat) < 8 := (i 0).isLt
  have h1 : (i 1 : Nat) < 1024 := (i 1).isLt
  have h2 : (i 2 : Nat) < 512 := (i 2).isLt
  have hN := N16
  obtain ⟨t, ht⟩ : ∃ t : Fin cfg0.N, t.val = 15 := ⟨⟨15, by omega⟩, rfl⟩
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * win0_2.size 0 ≤ (i 0 : Nat) ∧ (i 0 : Nat) < win0_2.index t 0 * win0_2.size 0 + 8
              rw [(off2 t).1]; omega
  | ⟨1, _⟩ => show win0_2.index t 1 * win0_2.size 1 ≤ (i 1 : Nat) ∧ (i 1 : Nat) < win0_2.index t 1 * win0_2.size 1 + 1024
              rw [(off2 t).2.1]; omega
  | ⟨2, _⟩ => show win0_2.index t 2 * win0_2.size 2 ≤ (i 2 : Nat) ∧ (i 2 : Nat) < win0_2.index t 2 * win0_2.size 2 + 512
              rw [(off2 t).2.2]; omega

/-- What a point adds to the scratch. -/
def term (a : Arr S8192x1024) (b : Arr S8192x4096) (t : Fin cfg0.N) : Arr S1024x4096 := fun j =>
  ∑ k : Fin 512, a (ix2 (tok t k) (row t (j 0))) * b (ix2 (tok t k) (j 1))

theorem term_apply (a : Arr S8192x1024) (b : Arr S8192x4096) (t : Fin cfg0.N) (r : Fin 1024) (c : Fin 4096) :
    term a b t (ix2 r c) = ∑ k : Fin 512, a (ix2 (tok t k) (row t r)) * b (ix2 (tok t k) c) := rfl
theorem grad_apply (a : Arr S8192x1024) (b : Arr S8192x4096) (r : Fin 1024) (c : Fin 4096) :
    grad a b (ix2 r c) = ∑ k : Fin 8192, a (ix2 k r) * b (ix2 k c) := rfl

/-- The stored sum: what the scratch held, and the point's product. -/
theorem pay_add (c : Dev nD) (t : Fin cfg0.N) (acc : Arr S1024x4096) (j : S1024x4096.Idx) :
    (k0_pay2 (F := Ideal) (iblk m c 0 t) acc (iblk m c 1 t)) j = acc j + term (m ((c : Thread nD τ).loc main_arg0)) (m ((c : Thread nD τ).loc main_arg1)) t j := by
  idx_vars j
  pointwise [k0_pay2]
  simp only [iblk0_apply, iblk1_apply, term]
  try rfl

/-- The scratch at a point that writes the result back: the sum over the points of its run. -/
theorem acc_eq (c : Dev nD) (t : Fin cfg0.N) (hf : t.val % 16 = 16 - 1) (j : S1024x4096.Idx) :
    (outsAt0 m c t.val t.isLt).2 j = 0 + ∑ s : Fin 16, term (m ((c : Thread nD τ).loc main_arg0)) (m ((c : Thread nD τ).loc main_arg1)) ⟨16 * (t.val / 16) + s.val, Pipeline.run_point_lt_of_flush t hf s⟩ j :=
  Pipeline.eq_sum_fin_of_reset_step_apply_of_flush (fun n h => (outsAt0 m c n h).2) 16 (fun _ => (0 : EReal)) (term (m ((c : Thread nD τ).loc main_arg0)) (m ((c : Thread nD τ).loc main_arg1)))
    (fun t h j => by
      rw [outsAt0_A m c t h (by omega)]; dsimp only; frame_out; rw [pay_add]
      refine congrArg (· + _) ?_
      idx_vars j
      pointwise [k0_pay1])
    (fun t h j => by
      by_cases h7 : t.val % 16 = 15
      · rw [outsAt0_C m c t h h7]; dsimp only; frame_out; rw [pay_add, read_unread_whole]
      · rw [outsAt0_B m c t h h7]; dsimp only; frame_out; rw [pay_add, read_unread_whole])
    t hf j

set_option maxHeartbeats 1000000 in
/-- What a point that writes back stores is the scratch, its columns stacked. -/
theorem out_eq (c : Dev nD) (t : Fin cfg0.N) (h7 : t.val % 16 = 15) (j : S8x1024x512.Idx) :
    (outsAt0 m c t.val t.isLt).1 j = stacked ((outsAt0 m c t.val t.isLt).2) j := by
  rw [outsAt0_C m c t (by omega) h7]; dsimp only; frame_out
  generalize k0_pay2 (F := Ideal) _ _ _ = X
  refine View.canon_apply_of_pieces (Val := Elt Ideal) (e := .bf16) (stacked X) _ ?_ j ?_
  · refine View.PiecesOf.mem ⟨?_, ?_, ?_, ?_, ?_, ?_, ?_, ?_, trivial⟩
    · refine fun (x : S1x1024x512.Idx) => Eq.trans (congrFun (congrArg (k0_pay5 (F := Ideal)) (scr_read X _)) x) ?_
      idx_vars x
      have ex : (Rect.unit (s := S8x1024x512) ![7, 0, 0] S1x1024x512.size inb_S8x1024x512_S1x1024x512_7_0_0).idx (ix3 x0 x1 x2) = ix3 (⟨7, by omega⟩ : Fin 8) x1 x2 := by pointwise
      refine Eq.trans ?_ (congrArg (stacked X) (show (Rect.unit (s := S8x1024x512) ![7, 0, 0] S1x1024x512.size inb_S8x1024x512_S1x1024x512_7_0_0).emb (ix3 x0 x1 x2) = _ from ex)).symm
      rw [stacked_apply]
      pointwise [k0_pay3, k0_pay4, k0_pay5, k0_pay6, k0_pay7, k0_pay8, k0_pay9, k0_pay10, k0_pay11]
      try rfl
    · refine fun (x : S1x1024x512.Idx) => Eq.trans (congrFun (congrArg (k0_pay4 (F := Ideal)) (scr_read X _)) x) ?_
      idx_vars x
      have ex : (Rect.unit (s := S8x1024x512) ![6, 0, 0] S1x1024x512.size inb_S8x1024x512_S1x1024x512_6_0_0).idx (ix3 x0 x1 x2) = ix3 (⟨6, by omega⟩ : Fin 8) x1 x2 := by pointwise
      refine Eq.trans ?_ (congrArg (stacked X) (show (Rect.unit (s := S8x1024x512) ![6, 0, 0] S1x1024x512.size inb_S8x1024x512_S1x1024x512_6_0_0).emb (ix3 x0 x1 x2) = _ from ex)).symm
      rw [stacked_apply]
      pointwise [k0_pay3, k0_pay4, k0_pay5, k0_pay6, k0_pay7, k0_pay8, k0_pay9, k0_pay10, k0_pay11]
      try rfl
    · refine fun (x : S1x1024x512.Idx) => Eq.trans (congrFun (congrArg (fun q => k0_pay3 (F := Ideal) (k0_pay11 q)) (scr_read X _)) x) ?_
      idx_vars x
      have ex : (Rect.unit (s := S8x1024x512) ![5, 0, 0] S1x1024x512.size inb_S8x1024x512_S1x1024x512_5_0_0).idx (ix3 x0 x1 x2) = ix3 (⟨5, by omega⟩ : Fin 8) x1 x2 := by pointwise
      refine Eq.trans ?_ (congrArg (stacked X) (show (Rect.unit (s := S8x1024x512) ![5, 0, 0] S1x1024x512.size inb_S8x1024x512_S1x1024x512_5_0_0).emb (ix3 x0 x1 x2) = _ from ex)).symm
      rw [stacked_apply]
      pointwise [k0_pay3, k0_pay4, k0_pay5, k0_pay6, k0_pay7, k0_pay8, k0_pay9, k0_pay10, k0_pay11]
      try rfl
    · refine fun (x : S1x1024x512.Idx) => Eq.trans (congrFun (congrArg (k0_pay10 (F := Ideal)) (scr_read X _)) x) ?_
      idx_vars x
      have ex : (Rect.unit (s := S8x1024x512) ![4, 0, 0] S1x1024x512.size inb_S8x1024x512_S1x1024x512_4_0_0).idx (ix3 x0 x1 x2) = ix3 (⟨4, by omega⟩ : Fin 8) x1 x2 := by pointwise
      refine Eq.trans ?_ (congrArg (stacked X) (show (Rect.unit (s := S8x1024x512) ![4, 0, 0] S1x1024x512.size inb_S8x1024x512_S1x1024x512_4_0_0).emb (ix3 x0 x1 x2) = _ from ex)).symm
      rw [stacked_apply]
      pointwise [k0_pay3, k0_pay4, k0_pay5, k0_pay6, k0_pay7, k0_pay8, k0_pay9, k0_pay10, k0_pay11]
      try rfl
    · refine fun (x : S1x1024x512.Idx) => Eq.trans (congrFun (congrArg (k0_pay9 (F := Ideal)) (scr_read X _)) x) ?_
      idx_vars x
      have ex : (Rect.unit (s := S8x1024x512) ![3, 0, 0] S1x1024x512.size inb_S8x1024x512_S1x1024x512_3_0_0).idx (ix3 x0 x1 x2) = ix3 (⟨3, by omega⟩ : Fin 8) x1 x2 := by pointwise
      refine Eq.trans ?_ (congrArg (stacked X) (show (Rect.unit (s := S8x1024x512) ![3, 0, 0] S1x1024x512.size inb_S8x1024x512_S1x1024x512_3_0_0).emb (ix3 x0 x1 x2) = _ from ex)).symm
      rw [stacked_apply]
      pointwise [k0_pay3, k0_pay4, k0_pay5, k0_pay6, k0_pay7, k0_pay8, k0_pay9, k0_pay10, k0_pay11]
      try rfl
    · refine fun (x : S1x1024x512.Idx) => Eq.trans (congrFun (congrArg (k0_pay8 (F := Ideal)) (scr_read X _)) x) ?_
      idx_vars x
      have ex : (Rect.unit (s := S8x1024x512) ![2, 0, 0] S1x1024x512.size inb_S8x1024x512_S1x1024x512_2_0_0).idx (ix3 x0 x1 x2) = ix3 (⟨2, by omega⟩ : Fin 8) x1 x2 := by pointwise
      refine Eq.trans ?_ (congrArg (stacked X) (show (Rect.unit (s := S8x1024x512) ![2, 0, 0] S1x1024x512.size inb_S8x1024x512_S1x1024x512_2_0_0).emb (ix3 x0 x1 x2) = _ from ex)).symm
      rw [stacked_apply]
      pointwise [k0_pay3, k0_pay4, k0_pay5, k0_pay6, k0_pay7, k0_pay8, k0_pay9, k0_pay10, k0_pay11]
      try rfl
    · refine fun (x : S1x1024x512.Idx) => Eq.trans (congrFun (congrArg (k0_pay7 (F := Ideal)) (scr_read X _)) x) ?_
      idx_vars x
      have ex : (Rect.unit (s := S8x1024x512) ![1, 0, 0] S1x1024x512.size inb_S8x1024x512_S1x1024x512_1_0_0).idx (ix3 x0 x1 x2) = ix3 (⟨1, by omega⟩ : Fin 8) x1 x2 := by pointwise
      refine Eq.trans ?_ (congrArg (stacked X) (show (Rect.unit (s := S8x1024x512) ![1, 0, 0] S1x1024x512.size inb_S8x1024x512_S1x1024x512_1_0_0).emb (ix3 x0 x1 x2) = _ from ex)).symm
      rw [stacked_apply]
      pointwise [k0_pay3, k0_pay4, k0_pay5, k0_pay6, k0_pay7, k0_pay8, k0_pay9, k0_pay10, k0_pay11]
      try rfl
    · refine fun (x : S1x1024x512.Idx) => Eq.trans (congrFun (congrArg (k0_pay6 (F := Ideal)) (scr_read X _)) x) ?_
      idx_vars x
      have ex : (Rect.unit (s := S8x1024x512) ![0, 0, 0] S1x1024x512.size inb_S8x1024x512_S1x1024x512_0_0_0).idx (ix3 x0 x1 x2) = ix3 (⟨0, by omega⟩ : Fin 8) x1 x2 := by pointwise
      refine Eq.trans ?_ (congrArg (stacked X) (show (Rect.unit (s := S8x1024x512) ![0, 0, 0] S1x1024x512.size inb_S8x1024x512_S1x1024x512_0_0_0).emb (ix3 x0 x1 x2) = _ from ex)).symm
      rw [stacked_apply]
      pointwise [k0_pay3, k0_pay4, k0_pay5, k0_pay6, k0_pay7, k0_pay8, k0_pay9, k0_pay10, k0_pay11]
      try rfl
  · exact View.cover_of_tiledL (s := S8x1024x512) (e := .bf16) (Val := Elt Ideal) _ S1x1024x512.size (by sl_kernel_rfl) j

theorem flush_eq2 (c : Dev nD) (t : Fin cfg0.N) (hf : (cfg0.win 2).flush t = true) :
    (dats m 0 c).flushed 2 t = (win0_2.blk t).view.read (Elt Ideal) (stacked (grad (m ((c : Thread nD τ).loc main_arg0)) (m ((c : Thread nD τ).loc main_arg1)))) := by
  have h7 : t.val % 16 = 15 := (flush0_2 t).mp hf
  show (cfg0.win 2).cut (grid0.coords t) ((dats m 0 c).after 2 t) = _
  rw [after0_2]
  refine funext fun (j : S8x1024x512.Idx) => ?_
  idx_vars j
  refine Eq.trans ?_ (read2_apply _ t j0 j1 j2).symm
  refine Eq.trans (out_eq m c t h7 (ix3 j0 j1 j2)) ?_
  rw [stacked_apply, stacked_apply, acc_eq m c t h7, zero_add]
  simp only [term_apply, grad_apply]
  refine Fin.sum_mul_add_congr fun s k hl => ?_
  have e0 : tok ⟨16 * (t.val / 16) + s.val, Pipeline.run_point_lt_of_flush t h7 s⟩ k = ⟨s.val * 512 + k.val, hl⟩ :=
    Fin.ext (by show (16 * (t.val / 16) + s.val) % 16 * 512 + k.val = s.val * 512 + k.val; omega)
  have e1 : row ⟨16 * (t.val / 16) + s.val, Pipeline.run_point_lt_of_flush t h7 s⟩ j1 = j1 :=
    Fin.ext (by show (16 * (t.val / 16) + s.val) / 16 * 1024 + j1.val = j1.val; have := t.isLt; have := N16; omega)
  simp only [e0, e1]

theorem final2 (c : Dev nD) : (dats m 0 c).arrAt 2 cfg0.N = stacked (grad (m ((c : Thread nD τ).loc main_arg0)) (m ((c : Thread nD τ).loc main_arg1))) :=
  (dats m 0 c).arrAt_eq_of_cover 2 _ (fun t hf => flush_eq2 m c t hf) cover2

end Cert.WMlpInIdeal.Call

namespace Cert.WMlpInIdeal.Claims
open Idealize.ShloMosaic Idealize.ShloMosaic.TcCoe Idealize.SL.Sem
open Cert.WMlpInIdeal.Call

/-- The reference's frame: its host operations leave the arguments, and it declares no semaphore. -/
theorem frame_ref : Cert.quiescent_WMlpInRefIdeal := fun m ρ _ =>
  (θ_run Cert.WMlpInRefIdeal.defs _ _).mono (fun r h => ⟨fun c => (h c).2,
      Idealize.ShloMosaic.sem_eq_zero_of_no_sems (by decide) r.2⟩)
    (Cert.WMlpInRefIdeal.Value.run (F := Ideal) m ρ)

/-- The reference's run: its result is the gradient of its arguments, which it leaves. -/
theorem run_ref (m : (ℓ : Loc Cert.WMlpInRefIdeal.nD Cert.WMlpInRefIdeal.τ Cert.WMlpInRefIdeal.sig) → Buf (Elt Ideal) ℓ) (ρ : Dev Cert.WMlpInRefIdeal.nD → PrngReg) :
    θ_run Cert.WMlpInRefIdeal.defs (onTc (τ := Cert.WMlpInRefIdeal.τ) (Cert.WMlpInRefIdeal.main (F := Ideal))) ⟨m, fun _ => 0, ρ⟩ fun r => ∀ c : Dev Cert.WMlpInRefIdeal.nD,
      r.2.mem ((c.tc : Thread Cert.WMlpInRefIdeal.nD Cert.WMlpInRefIdeal.τ).loc Cert.WMlpInRefIdeal.main_v10) = stacked (grad (m ((c.tc : Thread Cert.WMlpInRefIdeal.nD Cert.WMlpInRefIdeal.τ).loc Cert.WMlpInRefIdeal.main_arg0)) (m ((c.tc : Thread Cert.WMlpInRefIdeal.nD Cert.WMlpInRefIdeal.τ).loc Cert.WMlpInRefIdeal.main_arg1)))
      ∧ r.2.mem ((c.tc : Thread Cert.WMlpInRefIdeal.nD Cert.WMlpInRefIdeal.τ).loc Cert.WMlpInRefIdeal.main_arg0) = m ((c.tc : Thread Cert.WMlpInRefIdeal.nD Cert.WMlpInRefIdeal.τ).loc Cert.WMlpInRefIdeal.main_arg0)
      ∧ r.2.mem ((c.tc : Thread Cert.WMlpInRefIdeal.nD Cert.WMlpInRefIdeal.τ).loc Cert.WMlpInRefIdeal.main_arg1) = m ((c.tc : Thread Cert.WMlpInRefIdeal.nD Cert.WMlpInRefIdeal.τ).loc Cert.WMlpInRefIdeal.main_arg1) := by
  refine (θ_run Cert.WMlpInRefIdeal.defs _ _).mono (fun r h c => ?_) (Cert.WMlpInRefIdeal.Value.run (F := Ideal) m ρ)
  refine ⟨(h c).1.trans ?_, (h c).2⟩
  refine funext fun (i : S8x1024x512.Idx) => ?_
  idx_vars i
  pointwise
  exact Finset.sum_congr rfl fun k _ => mul_comm _ _

/-- The call's result is the reference's, whatever the arguments hold. -/
theorem algebraic : Cert.algebraic_WMlpInIdeal_WMlpInRefIdeal := by
  intro m ρ m' ρ' _ hag
  refine ⟨fun c => stacked (grad (m ((c.tc : Thread Cert.WMlpInIdeal.nD Cert.WMlpInIdeal.τ).loc Cert.WMlpInIdeal.main_arg0)) (m ((c.tc : Thread Cert.WMlpInIdeal.nD Cert.WMlpInIdeal.τ).loc Cert.WMlpInIdeal.main_arg1))), ?_, ?_⟩
  · refine (θ_run Cert.WMlpInIdeal.defs _ _).mono (fun r h c => ?_) (Cert.WMlpInIdeal.Value.run_blocks (F := Ideal) m ρ)
    have h := h c
    rw [final2] at h
    exact h
  · refine (θ_run Cert.WMlpInRefIdeal.defs _ _).mono (fun r h c => ?_) (run_ref m' ρ')
    have e := hag c
    have h := h c
    rw [e.1, e.2] at h
    rw [e.1, e.2]
    exact h

end Cert.WMlpInIdeal.Claims
end
-- ==== Proof.W1024Call.lean ====
/-
  The weight-gradient call of the output projection and the first branch: its result, summed over the token blocks in a carried scratch, is the
  gradient of the weight; and the claims.
-/
module
public import proofs.«01_k».proof.Defs
public import proofs.«01_k».proof.Proof.Gen.W1024Ideal.Value
public import proofs.«01_k».proof.Proof.Gen.W1024RefIdeal.Run
public import Idealize.ShloMosaic.Lib.Pointwise
public import Idealize.ShloMosaic.Lib.Pipeline.ValueKit
public import Idealize.ShloMosaic.Lib.Pipeline.ReadBack
public import Idealize.ShloMosaic.Lib.Quiescent
@[expose] public section
set_option maxRecDepth 16384
noncomputable section
namespace Cert.W1024Ideal.Call
open Cert.W1024Ideal Cert.W1024Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The gradient of the weight: the sum over the tokens. -/
def grad (a : Arr S8192x1024) (b : Arr S8192x1024) : Arr S1024x1024 := fun i =>
  ∑ k : Fin 8192, a (ix2 k (i 0)) * b (ix2 k (i 1))

theorem N8 : cfg0.N = 8 := N_0

theorem off0 : ∀ t : Fin cfg0.N, win0_0.index t 0 * win0_0.size 0 = t.val % 8 * 1024 ∧ win0_0.index t 1 * win0_0.size 1 = t.val / 8 * 1024 :=
  (by decide +kernel : ∀ t : Fin grid0.N, win0_0.index t 0 * win0_0.size 0 = t.val % 8 * 1024 ∧ win0_0.index t 1 * win0_0.size 1 = t.val / 8 * 1024)
theorem off1 : ∀ t : Fin cfg0.N, win0_1.index t 0 * win0_1.size 0 = t.val % 8 * 1024 ∧ win0_1.index t 1 * win0_1.size 1 = 0 :=
  (by decide +kernel : ∀ t : Fin grid0.N, win0_1.index t 0 * win0_1.size 0 = t.val % 8 * 1024 ∧ win0_1.index t 1 * win0_1.size 1 = 0)
theorem off2 : ∀ t : Fin cfg0.N, win0_2.index t 0 * win0_2.size 0 = t.val / 8 * 1024 ∧ win0_2.index t 1 * win0_2.size 1 = 0 :=
  (by decide +kernel : ∀ t : Fin grid0.N, win0_2.index t 0 * win0_2.size 0 = t.val / 8 * 1024 ∧ win0_2.index t 1 * win0_2.size 1 = 0)

/-- The token that row `k` of point `t`'s blocks is. -/
def tok (t : Fin cfg0.N) (k : Fin 1024) : Fin 8192 := ⟨t.val % 8 * 1024 + k.val, by omega⟩
/-- The result row that row `r` of point `t`'s block is. -/
def row (t : Fin cfg0.N) (r : Fin 1024) : Fin 1024 := ⟨t.val / 8 * 1024 + r.val, by have := t.isLt; have := N8; omega⟩

theorem iblk0_apply (c : Dev nD) (t : Fin cfg0.N) (r : Fin 1024) (k : Fin 1024) :
    (iblk m c 0 t : S1024x1024.Idx → EReal) (ix2 r k) = m ((c : Thread nD τ).loc main_arg0) (ix2 (tok t r) (row t k)) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val % 8 * 1024 + r.val
              rw [(off0 t).1]; omega
  | ⟨1, _⟩ => show win0_0.index t 1 * win0_0.size 1 + 1 * k.val = t.val / 8 * 1024 + k.val
              rw [(off0 t).2]; omega

theorem iblk1_apply (c : Dev nD) (t : Fin cfg0.N) (r : Fin 1024) (k : Fin 1024) :
    (iblk m c 1 t : S1024x1024.Idx → EReal) (ix2 r k) = m ((c : Thread nD τ).loc main_arg1) (ix2 (tok t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val % 8 * 1024 + r.val
              rw [(off1 t).1]; omega
  | ⟨1, _⟩ => show win0_1.index t 1 * win0_1.size 1 + 1 * k.val = k.val
              rw [(off1 t).2]; omega

/-- An array read through point `t`'s block of the result's window. -/
theorem read2_apply (X : Arr S1024x1024) (t : Fin cfg0.N) (r : Fin 1024) (k : Fin 1024) :
    ((win0_2.blk t).view.read (Elt Ideal) X : S1024x1024.Idx → EReal) (ix2 r k) = X (ix2 (row t r) k) := by
  show X ((win0_2.rect t).idx (ix2 r k)) = _
  refine congrArg _ (funext fun a => Fin.ext ?_)
  match a with
  | ⟨0, _⟩ => show win0_2.index t 0 * win0_2.size 0 + 1 * r.val = t.val / 8 * 1024 + r.val
              rw [(off2 t).1]; omega
  | ⟨1, _⟩ => show win0_2.index t 1 * win0_2.size 1 + 1 * k.val = k.val
              rw [(off2 t).2]; omega

/-- Every index of the result is in a block some point writes back. -/
theorem cover2 (i : S1024x1024.Idx) : ∃ t : Fin cfg0.N, (cfg0.win 2).flush t = true ∧ i ∈ ((cfg0.win 2).blk t).view.set := by
  have h0 : (i 0 : Nat) < 1024 := (i 0).isLt
  have h1 : (i 1 : Nat) < 1024 := (i 1).isLt
  have hN := N8
  obtain ⟨t, ht⟩ : ∃ t : Fin cfg0.N, t.val = 8 * ((i 0).val / 1024) + 7 := ⟨⟨8 * ((i 0).val / 1024) + 7, by omega⟩, rfl⟩
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * win0_2.size 0 ≤ (i 0 : Nat) ∧ (i 0 : Nat) < win0_2.index t 0 * win0_2.size 0 + 1024
              rw [(off2 t).1]; omega
  | ⟨1, _⟩ => show win0_2.index t 1 * win0_2.size 1 ≤ (i 1 : Nat) ∧ (i 1 : Nat) < win0_2.index t 1 * win0_2.size 1 + 1024
              rw [(off2 t).2]; omega

/-- What a point adds to the scratch. -/
def term (a : Arr S8192x1024) (b : Arr S8192x1024) (t : Fin cfg0.N) : Arr S1024x1024 := fun j =>
  ∑ k : Fin 1024, a (ix2 (tok t k) (row t (j 0))) * b (ix2 (tok t k) (j 1))

theorem term_apply (a : Arr S8192x1024) (b : Arr S8192x1024) (t : Fin cfg0.N) (r : Fin 1024) (c : Fin 1024) :
    term a b t (ix2 r c) = ∑ k : Fin 1024, a (ix2 (tok t k) (row t r)) * b (ix2 (tok t k) c) := rfl
theorem grad_apply (a : Arr S8192x1024) (b : Arr S8192x1024) (r : Fin 1024) (c : Fin 1024) :
    grad a b (ix2 r c) = ∑ k : Fin 8192, a (ix2 k r) * b (ix2 k c) := rfl

/-- The stored sum: what the scratch held, and the point's product. -/
theorem pay_add (c : Dev nD) (t : Fin cfg0.N) (acc : Arr S1024x1024) (j : S1024x1024.Idx) :
    (k0_pay2 (F := Ideal) (iblk m c 0 t) acc (iblk m c 1 t)) j = acc j + term (m ((c : Thread nD τ).loc main_arg0)) (m ((c : Thread nD τ).loc main_arg1)) t j := by
  idx_vars j
  pointwise [k0_pay2]
  simp only [iblk0_apply, iblk1_apply, term]
  try rfl

/-- The scratch at a point that writes the result back: the sum over the points of its run. -/
theorem acc_eq (c : Dev nD) (t : Fin cfg0.N) (hf : t.val % 8 = 8 - 1) (j : S1024x1024.Idx) :
    (outsAt0 m c t.val t.isLt).2 j = 0 + ∑ s : Fin 8, term (m ((c : Thread nD τ).loc main_arg0)) (m ((c : Thread nD τ).loc main_arg1)) ⟨8 * (t.val / 8) + s.val, Pipeline.run_point_lt_of_flush t hf s⟩ j :=
  Pipeline.eq_sum_fin_of_reset_step_apply_of_flush (fun n h => (outsAt0 m c n h).2) 8 (fun _ => (0 : EReal)) (term (m ((c : Thread nD τ).loc main_arg0)) (m ((c : Thread nD τ).loc main_arg1)))
    (fun t h j => by
      rw [outsAt0_A m c t h (by omega)]; dsimp only; frame_out; rw [pay_add]
      refine congrArg (· + _) ?_
      idx_vars j
      pointwise [k0_pay1])
    (fun t h j => by
      by_cases h7 : t.val % 8 = 7
      · rw [outsAt0_C m c t h h7]; dsimp only; frame_out; rw [pay_add, read_unread_whole]
      · rw [outsAt0_B m c t h h7]; dsimp only; frame_out; rw [pay_add, read_unread_whole])
    t hf j

/-- What a point that writes back stores is the scratch. -/
theorem out_eq (c : Dev nD) (t : Fin cfg0.N) (h7 : t.val % 8 = 7) (j : S1024x1024.Idx) :
    (outsAt0 m c t.val t.isLt).1 j = (outsAt0 m c t.val t.isLt).2 j := by
  rw [outsAt0_C m c t (by omega) h7]; dsimp only; frame_out
  idx_vars j
  pointwise [k0_pay3]

theorem flush_eq2 (c : Dev nD) (t : Fin cfg0.N) (hf : (cfg0.win 2).flush t = true) :
    (dats m 0 c).flushed 2 t = (win0_2.blk t).view.read (Elt Ideal) (grad (m ((c : Thread nD τ).loc main_arg0)) (m ((c : Thread nD τ).loc main_arg1))) := by
  have h7 : t.val % 8 = 7 := (flush0_2 t).mp hf
  show (cfg0.win 2).cut (grid0.coords t) ((dats m 0 c).after 2 t) = _
  rw [after0_2]
  refine funext fun (j : S1024x1024.Idx) => ?_
  idx_vars j
  refine Eq.trans ?_ (read2_apply _ t j0 j1).symm
  refine Eq.trans (out_eq m c t h7 (ix2 j0 j1)) ?_
  rw [acc_eq m c t h7, zero_add]
  simp only [term_apply, grad_apply]
  refine Fin.sum_mul_add_congr fun s k hl => ?_
  have e0 : tok ⟨8 * (t.val / 8) + s.val, Pipeline.run_point_lt_of_flush t h7 s⟩ k = ⟨s.val * 1024 + k.val, hl⟩ :=
    Fin.ext (by show (8 * (t.val / 8) + s.val) % 8 * 1024 + k.val = s.val * 1024 + k.val; omega)
  have e1 : row ⟨8 * (t.val / 8) + s.val, Pipeline.run_point_lt_of_flush t h7 s⟩ j0 = row t j0 :=
    Fin.ext (by show (8 * (t.val / 8) + s.val) / 8 * 1024 + j0.val = t.val / 8 * 1024 + j0.val; omega)
  simp only [e0, e1]

theorem final2 (c : Dev nD) : (dats m 0 c).arrAt 2 cfg0.N = grad (m ((c : Thread nD τ).loc main_arg0)) (m ((c : Thread nD τ).loc main_arg1)) :=
  (dats m 0 c).arrAt_eq_of_cover 2 _ (fun t hf => flush_eq2 m c t hf) cover2

end Cert.W1024Ideal.Call

namespace Cert.W1024Ideal.Claims
open Idealize.ShloMosaic Idealize.ShloMosaic.TcCoe Idealize.SL.Sem
open Cert.W1024Ideal.Call

/-- The reference's frame: its host operations leave the arguments, and it declares no semaphore. -/
theorem frame_ref : Cert.quiescent_W1024RefIdeal := fun m ρ _ =>
  (θ_run Cert.W1024RefIdeal.defs _ _).mono (fun r h => ⟨fun c => (h c).2,
      Idealize.ShloMosaic.sem_eq_zero_of_no_sems (by decide) r.2⟩)
    (Cert.W1024RefIdeal.Value.run (F := Ideal) m ρ)

/-- The reference's run: its result is the gradient of its arguments, which it leaves. -/
theorem run_ref (m : (ℓ : Loc Cert.W1024RefIdeal.nD Cert.W1024RefIdeal.τ Cert.W1024RefIdeal.sig) → Buf (Elt Ideal) ℓ) (ρ : Dev Cert.W1024RefIdeal.nD → PrngReg) :
    θ_run Cert.W1024RefIdeal.defs (onTc (τ := Cert.W1024RefIdeal.τ) (Cert.W1024RefIdeal.main (F := Ideal))) ⟨m, fun _ => 0, ρ⟩ fun r => ∀ c : Dev Cert.W1024RefIdeal.nD,
      r.2.mem ((c.tc : Thread Cert.W1024RefIdeal.nD Cert.W1024RefIdeal.τ).loc Cert.W1024RefIdeal.main_v6) = grad (m ((c.tc : Thread Cert.W1024RefIdeal.nD Cert.W1024RefIdeal.τ).loc Cert.W1024RefIdeal.main_arg0)) (m ((c.tc : Thread Cert.W1024RefIdeal.nD Cert.W1024RefIdeal.τ).loc Cert.W1024RefIdeal.main_arg1))
      ∧ r.2.mem ((c.tc : Thread Cert.W1024RefIdeal.nD Cert.W1024RefIdeal.τ).loc Cert.W1024RefIdeal.main_arg0) = m ((c.tc : Thread Cert.W1024RefIdeal.nD Cert.W1024RefIdeal.τ).loc Cert.W1024RefIdeal.main_arg0)
      ∧ r.2.mem ((c.tc : Thread Cert.W1024RefIdeal.nD Cert.W1024RefIdeal.τ).loc Cert.W1024RefIdeal.main_arg1) = m ((c.tc : Thread Cert.W1024RefIdeal.nD Cert.W1024RefIdeal.τ).loc Cert.W1024RefIdeal.main_arg1) := by
  refine (θ_run Cert.W1024RefIdeal.defs _ _).mono (fun r h c => ?_) (Cert.W1024RefIdeal.Value.run (F := Ideal) m ρ)
  refine ⟨(h c).1.trans ?_, (h c).2⟩
  refine funext fun (i : S1024x1024.Idx) => ?_
  idx_vars i
  pointwise
  exact Finset.sum_congr rfl fun k _ => mul_comm _ _

/-- The call's result is the reference's, whatever the arguments hold. -/
theorem algebraic : Cert.algebraic_W1024Ideal_W1024RefIdeal := by
  intro m ρ m' ρ' _ hag
  refine ⟨fun c => grad (m ((c.tc : Thread Cert.W1024Ideal.nD Cert.W1024Ideal.τ).loc Cert.W1024Ideal.main_arg0)) (m ((c.tc : Thread Cert.W1024Ideal.nD Cert.W1024Ideal.τ).loc Cert.W1024Ideal.main_arg1)), ?_, ?_⟩
  · refine (θ_run Cert.W1024Ideal.defs _ _).mono (fun r h c => ?_) (Cert.W1024Ideal.Value.run_blocks (F := Ideal) m ρ)
    have h := h c
    rw [final2] at h
    exact h
  · refine (θ_run Cert.W1024RefIdeal.defs _ _).mono (fun r h c => ?_) (run_ref m' ρ')
    have e := hag c
    have h := h c
    rw [e.1, e.2] at h
    rw [e.1, e.2]
    exact h

end Cert.W1024Ideal.Claims
end
-- ==== Proof.WBranchBCall.lean ====
/-
  The weight-gradient call of the second branch: its result, summed over the token blocks in a carried scratch, is the
  gradient of the weight; and the claims.
-/
module
public import proofs.«01_k».proof.Defs
public import proofs.«01_k».proof.Proof.Gen.WBranchBIdeal.Value
public import proofs.«01_k».proof.Proof.Gen.WBranchBRefIdeal.Run
public import Idealize.ShloMosaic.Lib.Pointwise
public import Idealize.ShloMosaic.Lib.Pipeline.ValueKit
public import Idealize.ShloMosaic.Lib.Pipeline.ReadBack
public import Idealize.ShloMosaic.Lib.Quiescent
@[expose] public section
set_option maxRecDepth 16384
noncomputable section
namespace Cert.WBranchBIdeal.Call
open Cert.WBranchBIdeal Cert.WBranchBIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The gradient of the weight: the sum over the tokens. -/
def grad (a : Arr S8192x512) (b : Arr S8192x1024) : Arr S512x1024 := fun i =>
  ∑ k : Fin 8192, a (ix2 k (i 0)) * b (ix2 k (i 1))

theorem N8 : cfg0.N = 8 := N_0

theorem off0 : ∀ t : Fin cfg0.N, win0_0.index t 0 * win0_0.size 0 = t.val % 8 * 1024 ∧ win0_0.index t 1 * win0_0.size 1 = t.val / 8 * 512 :=
  (by decide +kernel : ∀ t : Fin grid0.N, win0_0.index t 0 * win0_0.size 0 = t.val % 8 * 1024 ∧ win0_0.index t 1 * win0_0.size 1 = t.val / 8 * 512)
theorem off1 : ∀ t : Fin cfg0.N, win0_1.index t 0 * win0_1.size 0 = t.val % 8 * 1024 ∧ win0_1.index t 1 * win0_1.size 1 = 0 :=
  (by decide +kernel : ∀ t : Fin grid0.N, win0_1.index t 0 * win0_1.size 0 = t.val % 8 * 1024 ∧ win0_1.index t 1 * win0_1.size 1 = 0)
theorem off2 : ∀ t : Fin cfg0.N, win0_2.index t 0 * win0_2.size 0 = t.val / 8 * 512 ∧ win0_2.index t 1 * win0_2.size 1 = 0 :=
  (by decide +kernel : ∀ t : Fin grid0.N, win0_2.index t 0 * win0_2.size 0 = t.val / 8 * 512 ∧ win0_2.index t 1 * win0_2.size 1 = 0)

/-- The token that row `k` of point `t`'s blocks is. -/
def tok (t : Fin cfg0.N) (k : Fin 1024) : Fin 8192 := ⟨t.val % 8 * 1024 + k.val, by omega⟩
/-- The result row that row `r` of point `t`'s block is. -/
def row (t : Fin cfg0.N) (r : Fin 512) : Fin 512 := ⟨t.val / 8 * 512 + r.val, by have := t.isLt; have := N8; omega⟩

theorem iblk0_apply (c : Dev nD) (t : Fin cfg0.N) (r : Fin 1024) (k : Fin 512) :
    (iblk m c 0 t : S1024x512.Idx → EReal) (ix2 r k) = m ((c : Thread nD τ).loc main_arg0) (ix2 (tok t r) (row t k)) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val % 8 * 1024 + r.val
              rw [(off0 t).1]; omega
  | ⟨1, _⟩ => show win0_0.index t 1 * win0_0.size 1 + 1 * k.val = t.val / 8 * 512 + k.val
              rw [(off0 t).2]; omega

theorem iblk1_apply (c : Dev nD) (t : Fin cfg0.N) (r : Fin 1024) (k : Fin 1024) :
    (iblk m c 1 t : S1024x1024.Idx → EReal) (ix2 r k) = m ((c : Thread nD τ).loc main_arg1) (ix2 (tok t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val % 8 * 1024 + r.val
              rw [(off1 t).1]; omega
  | ⟨1, _⟩ => show win0_1.index t 1 * win0_1.size 1 + 1 * k.val = k.val
              rw [(off1 t).2]; omega

/-- An array read through point `t`'s block of the result's window. -/
theorem read2_apply (X : Arr S512x1024) (t : Fin cfg0.N) (r : Fin 512) (k : Fin 1024) :
    ((win0_2.blk t).view.read (Elt Ideal) X : S512x1024.Idx → EReal) (ix2 r k) = X (ix2 (row t r) k) := by
  show X ((win0_2.rect t).idx (ix2 r k)) = _
  refine congrArg _ (funext fun a => Fin.ext ?_)
  match a with
  | ⟨0, _⟩ => show win0_2.index t 0 * win0_2.size 0 + 1 * r.val = t.val / 8 * 512 + r.val
              rw [(off2 t).1]; omega
  | ⟨1, _⟩ => show win0_2.index t 1 * win0_2.size 1 + 1 * k.val = k.val
              rw [(off2 t).2]; omega

/-- Every index of the result is in a block some point writes back. -/
theorem cover2 (i : S512x1024.Idx) : ∃ t : Fin cfg0.N, (cfg0.win 2).flush t = true ∧ i ∈ ((cfg0.win 2).blk t).view.set := by
  have h0 : (i 0 : Nat) < 512 := (i 0).isLt
  have h1 : (i 1 : Nat) < 1024 := (i 1).isLt
  have hN := N8
  obtain ⟨t, ht⟩ : ∃ t : Fin cfg0.N, t.val = 8 * ((i 0).val / 512) + 7 := ⟨⟨8 * ((i 0).val / 512) + 7, by omega⟩, rfl⟩
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * win0_2.size 0 ≤ (i 0 : Nat) ∧ (i 0 : Nat) < win0_2.index t 0 * win0_2.size 0 + 512
              rw [(off2 t).1]; omega
  | ⟨1, _⟩ => show win0_2.index t 1 * win0_2.size 1 ≤ (i 1 : Nat) ∧ (i 1 : Nat) < win0_2.index t 1 * win0_2.size 1 + 1024
              rw [(off2 t).2]; omega

/-- What a point adds to the scratch. -/
def term (a : Arr S8192x512) (b : Arr S8192x1024) (t : Fin cfg0.N) : Arr S512x1024 := fun j =>
  ∑ k : Fin 1024, a (ix2 (tok t k) (row t (j 0))) * b (ix2 (tok t k) (j 1))

theorem term_apply (a : Arr S8192x512) (b : Arr S8192x1024) (t : Fin cfg0.N) (r : Fin 512) (c : Fin 1024) :
    term a b t (ix2 r c) = ∑ k : Fin 1024, a (ix2 (tok t k) (row t r)) * b (ix2 (tok t k) c) := rfl
theorem grad_apply (a : Arr S8192x512) (b : Arr S8192x1024) (r : Fin 512) (c : Fin 1024) :
    grad a b (ix2 r c) = ∑ k : Fin 8192, a (ix2 k r) * b (ix2 k c) := rfl

/-- The stored sum: what the scratch held, and the point's product. -/
theorem pay_add (c : Dev nD) (t : Fin cfg0.N) (acc : Arr S512x1024) (j : S512x1024.Idx) :
    (k0_pay2 (F := Ideal) (iblk m c 0 t) acc (iblk m c 1 t)) j = acc j + term (m ((c : Thread nD τ).loc main_arg0)) (m ((c : Thread nD τ).loc main_arg1)) t j := by
  idx_vars j
  pointwise [k0_pay2]
  simp only [iblk0_apply, iblk1_apply, term]
  try rfl

/-- The scratch at a point that writes the result back: the sum over the points of its run. -/
theorem acc_eq (c : Dev nD) (t : Fin cfg0.N) (hf : t.val % 8 = 8 - 1) (j : S512x1024.Idx) :
    (outsAt0 m c t.val t.isLt).2 j = 0 + ∑ s : Fin 8, term (m ((c : Thread nD τ).loc main_arg0)) (m ((c : Thread nD τ).loc main_arg1)) ⟨8 * (t.val / 8) + s.val, Pipeline.run_point_lt_of_flush t hf s⟩ j :=
  Pipeline.eq_sum_fin_of_reset_step_apply_of_flush (fun n h => (outsAt0 m c n h).2) 8 (fun _ => (0 : EReal)) (term (m ((c : Thread nD τ).loc main_arg0)) (m ((c : Thread nD τ).loc main_arg1)))
    (fun t h j => by
      rw [outsAt0_A m c t h (by omega)]; dsimp only; frame_out; rw [pay_add]
      refine congrArg (· + _) ?_
      idx_vars j
      pointwise [k0_pay1])
    (fun t h j => by
      by_cases h7 : t.val % 8 = 7
      · rw [outsAt0_C m c t h h7]; dsimp only; frame_out; rw [pay_add, read_unread_whole]
      · rw [outsAt0_B m c t h h7]; dsimp only; frame_out; rw [pay_add, read_unread_whole])
    t hf j

/-- What a point that writes back stores is the scratch. -/
theorem out_eq (c : Dev nD) (t : Fin cfg0.N) (h7 : t.val % 8 = 7) (j : S512x1024.Idx) :
    (outsAt0 m c t.val t.isLt).1 j = (outsAt0 m c t.val t.isLt).2 j := by
  rw [outsAt0_C m c t (by omega) h7]; dsimp only; frame_out
  idx_vars j
  pointwise [k0_pay3]

theorem flush_eq2 (c : Dev nD) (t : Fin cfg0.N) (hf : (cfg0.win 2).flush t = true) :
    (dats m 0 c).flushed 2 t = (win0_2.blk t).view.read (Elt Ideal) (grad (m ((c : Thread nD τ).loc main_arg0)) (m ((c : Thread nD τ).loc main_arg1))) := by
  have h7 : t.val % 8 = 7 := (flush0_2 t).mp hf
  show (cfg0.win 2).cut (grid0.coords t) ((dats m 0 c).after 2 t) = _
  rw [after0_2]
  refine funext fun (j : S512x1024.Idx) => ?_
  idx_vars j
  refine Eq.trans ?_ (read2_apply _ t j0 j1).symm
  refine Eq.trans (out_eq m c t h7 (ix2 j0 j1)) ?_
  rw [acc_eq m c t h7, zero_add]
  simp only [term_apply, grad_apply]
  refine Fin.sum_mul_add_congr fun s k hl => ?_
  have e0 : tok ⟨8 * (t.val / 8) + s.val, Pipeline.run_point_lt_of_flush t h7 s⟩ k = ⟨s.val * 1024 + k.val, hl⟩ :=
    Fin.ext (by show (8 * (t.val / 8) + s.val) % 8 * 1024 + k.val = s.val * 1024 + k.val; omega)
  have e1 : row ⟨8 * (t.val / 8) + s.val, Pipeline.run_point_lt_of_flush t h7 s⟩ j0 = row t j0 :=
    Fin.ext (by show (8 * (t.val / 8) + s.val) / 8 * 512 + j0.val = t.val / 8 * 512 + j0.val; omega)
  simp only [e0, e1]

theorem final2 (c : Dev nD) : (dats m 0 c).arrAt 2 cfg0.N = grad (m ((c : Thread nD τ).loc main_arg0)) (m ((c : Thread nD τ).loc main_arg1)) :=
  (dats m 0 c).arrAt_eq_of_cover 2 _ (fun t hf => flush_eq2 m c t hf) cover2

end Cert.WBranchBIdeal.Call

namespace Cert.WBranchBIdeal.Claims
open Idealize.ShloMosaic Idealize.ShloMosaic.TcCoe Idealize.SL.Sem
open Cert.WBranchBIdeal.Call

/-- The reference's frame: its host operations leave the arguments, and it declares no semaphore. -/
theorem frame_ref : Cert.quiescent_WBranchBRefIdeal := fun m ρ _ =>
  (θ_run Cert.WBranchBRefIdeal.defs _ _).mono (fun r h => ⟨fun c => (h c).2,
      Idealize.ShloMosaic.sem_eq_zero_of_no_sems (by decide) r.2⟩)
    (Cert.WBranchBRefIdeal.Value.run (F := Ideal) m ρ)

/-- The reference's run: its result is the gradient of its arguments, which it leaves. -/
theorem run_ref (m : (ℓ : Loc Cert.WBranchBRefIdeal.nD Cert.WBranchBRefIdeal.τ Cert.WBranchBRefIdeal.sig) → Buf (Elt Ideal) ℓ) (ρ : Dev Cert.WBranchBRefIdeal.nD → PrngReg) :
    θ_run Cert.WBranchBRefIdeal.defs (onTc (τ := Cert.WBranchBRefIdeal.τ) (Cert.WBranchBRefIdeal.main (F := Ideal))) ⟨m, fun _ => 0, ρ⟩ fun r => ∀ c : Dev Cert.WBranchBRefIdeal.nD,
      r.2.mem ((c.tc : Thread Cert.WBranchBRefIdeal.nD Cert.WBranchBRefIdeal.τ).loc Cert.WBranchBRefIdeal.main_v6) = grad (m ((c.tc : Thread Cert.WBranchBRefIdeal.nD Cert.WBranchBRefIdeal.τ).loc Cert.WBranchBRefIdeal.main_arg0)) (m ((c.tc : Thread Cert.WBranchBRefIdeal.nD Cert.WBranchBRefIdeal.τ).loc Cert.WBranchBRefIdeal.main_arg1))
      ∧ r.2.mem ((c.tc : Thread Cert.WBranchBRefIdeal.nD Cert.WBranchBRefIdeal.τ).loc Cert.WBranchBRefIdeal.main_arg0) = m ((c.tc : Thread Cert.WBranchBRefIdeal.nD Cert.WBranchBRefIdeal.τ).loc Cert.WBranchBRefIdeal.main_arg0)
      ∧ r.2.mem ((c.tc : Thread Cert.WBranchBRefIdeal.nD Cert.WBranchBRefIdeal.τ).loc Cert.WBranchBRefIdeal.main_arg1) = m ((c.tc : Thread Cert.WBranchBRefIdeal.nD Cert.WBranchBRefIdeal.τ).loc Cert.WBranchBRefIdeal.main_arg1) := by
  refine (θ_run Cert.WBranchBRefIdeal.defs _ _).mono (fun r h c => ?_) (Cert.WBranchBRefIdeal.Value.run (F := Ideal) m ρ)
  refine ⟨(h c).1.trans ?_, (h c).2⟩
  refine funext fun (i : S512x1024.Idx) => ?_
  idx_vars i
  pointwise
  exact Finset.sum_congr rfl fun k _ => mul_comm _ _

/-- The call's result is the reference's, whatever the arguments hold. -/
theorem algebraic : Cert.algebraic_WBranchBIdeal_WBranchBRefIdeal := by
  intro m ρ m' ρ' _ hag
  refine ⟨fun c => grad (m ((c.tc : Thread Cert.WBranchBIdeal.nD Cert.WBranchBIdeal.τ).loc Cert.WBranchBIdeal.main_arg0)) (m ((c.tc : Thread Cert.WBranchBIdeal.nD Cert.WBranchBIdeal.τ).loc Cert.WBranchBIdeal.main_arg1)), ?_, ?_⟩
  · refine (θ_run Cert.WBranchBIdeal.defs _ _).mono (fun r h c => ?_) (Cert.WBranchBIdeal.Value.run_blocks (F := Ideal) m ρ)
    have h := h c
    rw [final2] at h
    exact h
  · refine (θ_run Cert.WBranchBRefIdeal.defs _ _).mono (fun r h c => ?_) (run_ref m' ρ')
    have e := hag c
    have h := h c
    rw [e.1, e.2] at h
    rw [e.1, e.2]
    exact h

end Cert.WBranchBIdeal.Claims
end
-- ==== Proof.W2048Call.lean ====
/-
  The weight-gradient call of the first two pieces of the input projection: its result, summed over the token blocks in a carried scratch, is the
  gradient of the weight; and the claims.
-/
module
public import proofs.«01_k».proof.Defs
public import proofs.«01_k».proof.Proof.Gen.W2048Ideal.Value
public import proofs.«01_k».proof.Proof.Gen.W2048RefIdeal.Run
public import Idealize.ShloMosaic.Lib.Pointwise
public import Idealize.ShloMosaic.Lib.Pipeline.ValueKit
public import Idealize.ShloMosaic.Lib.Pipeline.ReadBack
public import Idealize.ShloMosaic.Lib.Quiescent
@[expose] public section
set_option maxRecDepth 16384
noncomputable section
namespace Cert.W2048Ideal.Call
open Cert.W2048Ideal Cert.W2048Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The gradient of the weight: the sum over the tokens. -/
def grad (a : Arr S8192x1024) (b : Arr S8192x2048) : Arr S1024x2048 := fun i =>
  ∑ k : Fin 8192, a (ix2 k (i 0)) * b (ix2 k (i 1))

theorem N8 : cfg0.N = 8 := N_0

theorem off0 : ∀ t : Fin cfg0.N, win0_0.index t 0 * win0_0.size 0 = t.val % 8 * 1024 ∧ win0_0.index t 1 * win0_0.size 1 = t.val / 8 * 1024 :=
  (by decide +kernel : ∀ t : Fin grid0.N, win0_0.index t 0 * win0_0.size 0 = t.val % 8 * 1024 ∧ win0_0.index t 1 * win0_0.size 1 = t.val / 8 * 1024)
theorem off1 : ∀ t : Fin cfg0.N, win0_1.index t 0 * win0_1.size 0 = t.val % 8 * 1024 ∧ win0_1.index t 1 * win0_1.size 1 = 0 :=
  (by decide +kernel : ∀ t : Fin grid0.N, win0_1.index t 0 * win0_1.size 0 = t.val % 8 * 1024 ∧ win0_1.index t 1 * win0_1.size 1 = 0)
theorem off2 : ∀ t : Fin cfg0.N, win0_2.index t 0 * win0_2.size 0 = t.val / 8 * 1024 ∧ win0_2.index t 1 * win0_2.size 1 = 0 :=
  (by decide +kernel : ∀ t : Fin grid0.N, win0_2.index t 0 * win0_2.size 0 = t.val / 8 * 1024 ∧ win0_2.index t 1 * win0_2.size 1 = 0)

/-- The token that row `k` of point `t`'s blocks is. -/
def tok (t : Fin cfg0.N) (k : Fin 1024) : Fin 8192 := ⟨t.val % 8 * 1024 + k.val, by omega⟩
/-- The result row that row `r` of point `t`'s block is. -/
def row (t : Fin cfg0.N) (r : Fin 1024) : Fin 1024 := ⟨t.val / 8 * 1024 + r.val, by have := t.isLt; have := N8; omega⟩

theorem iblk0_apply (c : Dev nD) (t : Fin cfg0.N) (r : Fin 1024) (k : Fin 1024) :
    (iblk m c 0 t : S1024x1024.Idx → EReal) (ix2 r k) = m ((c : Thread nD τ).loc main_arg0) (ix2 (tok t r) (row t k)) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val % 8 * 1024 + r.val
              rw [(off0 t).1]; omega
  | ⟨1, _⟩ => show win0_0.index t 1 * win0_0.size 1 + 1 * k.val = t.val / 8 * 1024 + k.val
              rw [(off0 t).2]; omega

theorem iblk1_apply (c : Dev nD) (t : Fin cfg0.N) (r : Fin 1024) (k : Fin 2048) :
    (iblk m c 1 t : S1024x2048.Idx → EReal) (ix2 r k) = m ((c : Thread nD τ).loc main_arg1) (ix2 (tok t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val % 8 * 1024 + r.val
              rw [(off1 t).1]; omega
  | ⟨1, _⟩ => show win0_1.index t 1 * win0_1.size 1 + 1 * k.val = k.val
              rw [(off1 t).2]; omega

/-- An array read through point `t`'s block of the result's window. -/
theorem read2_apply (X : Arr S1024x2048) (t : Fin cfg0.N) (r : Fin 1024) (k : Fin 2048) :
    ((win0_2.blk t).view.read (Elt Ideal) X : S1024x2048.Idx → EReal) (ix2 r k) = X (ix2 (row t r) k) := by
  show X ((win0_2.rect t).idx (ix2 r k)) = _
  refine congrArg _ (funext fun a => Fin.ext ?_)
  match a with
  | ⟨0, _⟩ => show win0_2.index t 0 * win0_2.size 0 + 1 * r.val = t.val / 8 * 1024 + r.val
              rw [(off2 t).1]; omega
  | ⟨1, _⟩ => show win0_2.index t 1 * win0_2.size 1 + 1 * k.val = k.val
              rw [(off2 t).2]; omega

/-- Every index of the result is in a block some point writes back. -/
theorem cover2 (i : S1024x2048.Idx) : ∃ t : Fin cfg0.N, (cfg0.win 2).flush t = true ∧ i ∈ ((cfg0.win 2).blk t).view.set := by
  have h0 : (i 0 : Nat) < 1024 := (i 0).isLt
  have h1 : (i 1 : Nat) < 2048 := (i 1).isLt
  have hN := N8
  obtain ⟨t, ht⟩ : ∃ t : Fin cfg0.N, t.val = 8 * ((i 0).val / 1024) + 7 := ⟨⟨8 * ((i 0).val / 1024) + 7, by omega⟩, rfl⟩
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * win0_2.size 0 ≤ (i 0 : Nat) ∧ (i 0 : Nat) < win0_2.index t 0 * win0_2.size 0 + 1024
              rw [(off2 t).1]; omega
  | ⟨1, _⟩ => show win0_2.index t 1 * win0_2.size 1 ≤ (i 1 : Nat) ∧ (i 1 : Nat) < win0_2.index t 1 * win0_2.size 1 + 2048
              rw [(off2 t).2]; omega

/-- What a point adds to the scratch. -/
def term (a : Arr S8192x1024) (b : Arr S8192x2048) (t : Fin cfg0.N) : Arr S1024x2048 := fun j =>
  ∑ k : Fin 1024, a (ix2 (tok t k) (row t (j 0))) * b (ix2 (tok t k) (j 1))

theorem term_apply (a : Arr S8192x1024) (b : Arr S8192x2048) (t : Fin cfg0.N) (r : Fin 1024) (c : Fin 2048) :
    term a b t (ix2 r c) = ∑ k : Fin 1024, a (ix2 (tok t k) (row t r)) * b (ix2 (tok t k) c) := rfl
theorem grad_apply (a : Arr S8192x1024) (b : Arr S8192x2048) (r : Fin 1024) (c : Fin 2048) :
    grad a b (ix2 r c) = ∑ k : Fin 8192, a (ix2 k r) * b (ix2 k c) := rfl

/-- The stored sum: what the scratch held, and the point's product. -/
theorem pay_add (c : Dev nD) (t : Fin cfg0.N) (acc : Arr S1024x2048) (j : S1024x2048.Idx) :
    (k0_pay2 (F := Ideal) (iblk m c 0 t) acc (iblk m c 1 t)) j = acc j + term (m ((c : Thread nD τ).loc main_arg0)) (m ((c : Thread nD τ).loc main_arg1)) t j := by
  idx_vars j
  pointwise [k0_pay2]
  simp only [iblk0_apply, iblk1_apply, term]
  try rfl

/-- The scratch at a point that writes the result back: the sum over the points of its run. -/
theorem acc_eq (c : Dev nD) (t : Fin cfg0.N) (hf : t.val % 8 = 8 - 1) (j : S1024x2048.Idx) :
    (outsAt0 m c t.val t.isLt).2 j = 0 + ∑ s : Fin 8, term (m ((c : Thread nD τ).loc main_arg0)) (m ((c : Thread nD τ).loc main_arg1)) ⟨8 * (t.val / 8) + s.val, Pipeline.run_point_lt_of_flush t hf s⟩ j :=
  Pipeline.eq_sum_fin_of_reset_step_apply_of_flush (fun n h => (outsAt0 m c n h).2) 8 (fun _ => (0 : EReal)) (term (m ((c : Thread nD τ).loc main_arg0)) (m ((c : Thread nD τ).loc main_arg1)))
    (fun t h j => by
      rw [outsAt0_A m c t h (by omega)]; dsimp only; frame_out; rw [pay_add]
      refine congrArg (· + _) ?_
      idx_vars j
      pointwise [k0_pay1])
    (fun t h j => by
      by_cases h7 : t.val % 8 = 7
      · rw [outsAt0_C m c t h h7]; dsimp only; frame_out; rw [pay_add, read_unread_whole]
      · rw [outsAt0_B m c t h h7]; dsimp only; frame_out; rw [pay_add, read_unread_whole])
    t hf j

/-- What a point that writes back stores is the scratch. -/
theorem out_eq (c : Dev nD) (t : Fin cfg0.N) (h7 : t.val % 8 = 7) (j : S1024x2048.Idx) :
    (outsAt0 m c t.val t.isLt).1 j = (outsAt0 m c t.val t.isLt).2 j := by
  rw [outsAt0_C m c t (by omega) h7]; dsimp only; frame_out
  idx_vars j
  pointwise [k0_pay3]

theorem flush_eq2 (c : Dev nD) (t : Fin cfg0.N) (hf : (cfg0.win 2).flush t = true) :
    (dats m 0 c).flushed 2 t = (win0_2.blk t).view.read (Elt Ideal) (grad (m ((c : Thread nD τ).loc main_arg0)) (m ((c : Thread nD τ).loc main_arg1))) := by
  have h7 : t.val % 8 = 7 := (flush0_2 t).mp hf
  show (cfg0.win 2).cut (grid0.coords t) ((dats m 0 c).after 2 t) = _
  rw [after0_2]
  refine funext fun (j : S1024x2048.Idx) => ?_
  idx_vars j
  refine Eq.trans ?_ (read2_apply _ t j0 j1).symm
  refine Eq.trans (out_eq m c t h7 (ix2 j0 j1)) ?_
  rw [acc_eq m c t h7, zero_add]
  simp only [term_apply, grad_apply]
  refine Fin.sum_mul_add_congr fun s k hl => ?_
  have e0 : tok ⟨8 * (t.val / 8) + s.val, Pipeline.run_point_lt_of_flush t h7 s⟩ k = ⟨s.val * 1024 + k.val, hl⟩ :=
    Fin.ext (by show (8 * (t.val / 8) + s.val) % 8 * 1024 + k.val = s.val * 1024 + k.val; omega)
  have e1 : row ⟨8 * (t.val / 8) + s.val, Pipeline.run_point_lt_of_flush t h7 s⟩ j0 = row t j0 :=
    Fin.ext (by show (8 * (t.val / 8) + s.val) / 8 * 1024 + j0.val = t.val / 8 * 1024 + j0.val; omega)
  simp only [e0, e1]

theorem final2 (c : Dev nD) : (dats m 0 c).arrAt 2 cfg0.N = grad (m ((c : Thread nD τ).loc main_arg0)) (m ((c : Thread nD τ).loc main_arg1)) :=
  (dats m 0 c).arrAt_eq_of_cover 2 _ (fun t hf => flush_eq2 m c t hf) cover2

end Cert.W2048Ideal.Call

namespace Cert.W2048Ideal.Claims
open Idealize.ShloMosaic Idealize.ShloMosaic.TcCoe Idealize.SL.Sem
open Cert.W2048Ideal.Call

/-- The reference's frame: its host operations leave the arguments, and it declares no semaphore. -/
theorem frame_ref : Cert.quiescent_W2048RefIdeal := fun m ρ _ =>
  (θ_run Cert.W2048RefIdeal.defs _ _).mono (fun r h => ⟨fun c => (h c).2,
      Idealize.ShloMosaic.sem_eq_zero_of_no_sems (by decide) r.2⟩)
    (Cert.W2048RefIdeal.Value.run (F := Ideal) m ρ)

/-- The reference's run: its result is the gradient of its arguments, which it leaves. -/
theorem run_ref (m : (ℓ : Loc Cert.W2048RefIdeal.nD Cert.W2048RefIdeal.τ Cert.W2048RefIdeal.sig) → Buf (Elt Ideal) ℓ) (ρ : Dev Cert.W2048RefIdeal.nD → PrngReg) :
    θ_run Cert.W2048RefIdeal.defs (onTc (τ := Cert.W2048RefIdeal.τ) (Cert.W2048RefIdeal.main (F := Ideal))) ⟨m, fun _ => 0, ρ⟩ fun r => ∀ c : Dev Cert.W2048RefIdeal.nD,
      r.2.mem ((c.tc : Thread Cert.W2048RefIdeal.nD Cert.W2048RefIdeal.τ).loc Cert.W2048RefIdeal.main_v6) = grad (m ((c.tc : Thread Cert.W2048RefIdeal.nD Cert.W2048RefIdeal.τ).loc Cert.W2048RefIdeal.main_arg0)) (m ((c.tc : Thread Cert.W2048RefIdeal.nD Cert.W2048RefIdeal.τ).loc Cert.W2048RefIdeal.main_arg1))
      ∧ r.2.mem ((c.tc : Thread Cert.W2048RefIdeal.nD Cert.W2048RefIdeal.τ).loc Cert.W2048RefIdeal.main_arg0) = m ((c.tc : Thread Cert.W2048RefIdeal.nD Cert.W2048RefIdeal.τ).loc Cert.W2048RefIdeal.main_arg0)
      ∧ r.2.mem ((c.tc : Thread Cert.W2048RefIdeal.nD Cert.W2048RefIdeal.τ).loc Cert.W2048RefIdeal.main_arg1) = m ((c.tc : Thread Cert.W2048RefIdeal.nD Cert.W2048RefIdeal.τ).loc Cert.W2048RefIdeal.main_arg1) := by
  refine (θ_run Cert.W2048RefIdeal.defs _ _).mono (fun r h c => ?_) (Cert.W2048RefIdeal.Value.run (F := Ideal) m ρ)
  refine ⟨(h c).1.trans ?_, (h c).2⟩
  refine funext fun (i : S1024x2048.Idx) => ?_
  idx_vars i
  pointwise
  exact Finset.sum_congr rfl fun k _ => mul_comm _ _

/-- The call's result is the reference's, whatever the arguments hold. -/
theorem algebraic : Cert.algebraic_W2048Ideal_W2048RefIdeal := by
  intro m ρ m' ρ' _ hag
  refine ⟨fun c => grad (m ((c.tc : Thread Cert.W2048Ideal.nD Cert.W2048Ideal.τ).loc Cert.W2048Ideal.main_arg0)) (m ((c.tc : Thread Cert.W2048Ideal.nD Cert.W2048Ideal.τ).loc Cert.W2048Ideal.main_arg1)), ?_, ?_⟩
  · refine (θ_run Cert.W2048Ideal.defs _ _).mono (fun r h c => ?_) (Cert.W2048Ideal.Value.run_blocks (F := Ideal) m ρ)
    have h := h c
    rw [final2] at h
    exact h
  · refine (θ_run Cert.W2048RefIdeal.defs _ _).mono (fun r h c => ?_) (run_ref m' ρ')
    have e := hag c
    have h := h c
    rw [e.1, e.2] at h
    rw [e.1, e.2]
    exact h

end Cert.W2048Ideal.Claims
end
-- ==== Proof.W512Call.lean ====
/-
  The weight-gradient call of the third piece of the input projection: its result, summed over the token blocks in a carried scratch, is the
  gradient of the weight; and the claims.
-/
module
public import proofs.«01_k».proof.Defs
public import proofs.«01_k».proof.Proof.Gen.W512Ideal.Value
public import proofs.«01_k».proof.Proof.Gen.W512RefIdeal.Run
public import Idealize.ShloMosaic.Lib.Pointwise
public import Idealize.ShloMosaic.Lib.Pipeline.ValueKit
public import Idealize.ShloMosaic.Lib.Pipeline.ReadBack
public import Idealize.ShloMosaic.Lib.Quiescent
@[expose] public section
set_option maxRecDepth 16384
noncomputable section
namespace Cert.W512Ideal.Call
open Cert.W512Ideal Cert.W512Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The gradient of the weight: the sum over the tokens. -/
def grad (a : Arr S8192x1024) (b : Arr S8192x512) : Arr S1024x512 := fun i =>
  ∑ k : Fin 8192, a (ix2 k (i 0)) * b (ix2 k (i 1))

theorem N8 : cfg0.N = 8 := N_0

theorem off0 : ∀ t : Fin cfg0.N, win0_0.index t 0 * win0_0.size 0 = t.val % 8 * 1024 ∧ win0_0.index t 1 * win0_0.size 1 = t.val / 8 * 1024 :=
  (by decide +kernel : ∀ t : Fin grid0.N, win0_0.index t 0 * win0_0.size 0 = t.val % 8 * 1024 ∧ win0_0.index t 1 * win0_0.size 1 = t.val / 8 * 1024)
theorem off1 : ∀ t : Fin cfg0.N, win0_1.index t 0 * win0_1.size 0 = t.val % 8 * 1024 ∧ win0_1.index t 1 * win0_1.size 1 = 0 :=
  (by decide +kernel : ∀ t : Fin grid0.N, win0_1.index t 0 * win0_1.size 0 = t.val % 8 * 1024 ∧ win0_1.index t 1 * win0_1.size 1 = 0)
theorem off2 : ∀ t : Fin cfg0.N, win0_2.index t 0 * win0_2.size 0 = t.val / 8 * 1024 ∧ win0_2.index t 1 * win0_2.size 1 = 0 :=
  (by decide +kernel : ∀ t : Fin grid0.N, win0_2.index t 0 * win0_2.size 0 = t.val / 8 * 1024 ∧ win0_2.index t 1 * win0_2.size 1 = 0)

/-- The token that row `k` of point `t`'s blocks is. -/
def tok (t : Fin cfg0.N) (k : Fin 1024) : Fin 8192 := ⟨t.val % 8 * 1024 + k.val, by omega⟩
/-- The result row that row `r` of point `t`'s block is. -/
def row (t : Fin cfg0.N) (r : Fin 1024) : Fin 1024 := ⟨t.val / 8 * 1024 + r.val, by have := t.isLt; have := N8; omega⟩

theorem iblk0_apply (c : Dev nD) (t : Fin cfg0.N) (r : Fin 1024) (k : Fin 1024) :
    (iblk m c 0 t : S1024x1024.Idx → EReal) (ix2 r k) = m ((c : Thread nD τ).loc main_arg0) (ix2 (tok t r) (row t k)) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val % 8 * 1024 + r.val
              rw [(off0 t).1]; omega
  | ⟨1, _⟩ => show win0_0.index t 1 * win0_0.size 1 + 1 * k.val = t.val / 8 * 1024 + k.val
              rw [(off0 t).2]; omega

theorem iblk1_apply (c : Dev nD) (t : Fin cfg0.N) (r : Fin 1024) (k : Fin 512) :
    (iblk m c 1 t : S1024x512.Idx → EReal) (ix2 r k) = m ((c : Thread nD τ).loc main_arg1) (ix2 (tok t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val % 8 * 1024 + r.val
              rw [(off1 t).1]; omega
  | ⟨1, _⟩ => show win0_1.index t 1 * win0_1.size 1 + 1 * k.val = k.val
              rw [(off1 t).2]; omega

/-- An array read through point `t`'s block of the result's window. -/
theorem read2_apply (X : Arr S1024x512) (t : Fin cfg0.N) (r : Fin 1024) (k : Fin 512) :
    ((win0_2.blk t).view.read (Elt Ideal) X : S1024x512.Idx → EReal) (ix2 r k) = X (ix2 (row t r) k) := by
  show X ((win0_2.rect t).idx (ix2 r k)) = _
  refine congrArg _ (funext fun a => Fin.ext ?_)
  match a with
  | ⟨0, _⟩ => show win0_2.index t 0 * win0_2.size 0 + 1 * r.val = t.val / 8 * 1024 + r.val
              rw [(off2 t).1]; omega
  | ⟨1, _⟩ => show win0_2.index t 1 * win0_2.size 1 + 1 * k.val = k.val
              rw [(off2 t).2]; omega

/-- Every index of the result is in a block some point writes back. -/
theorem cover2 (i : S1024x512.Idx) : ∃ t : Fin cfg0.N, (cfg0.win 2).flush t = true ∧ i ∈ ((cfg0.win 2).blk t).view.set := by
  have h0 : (i 0 : Nat) < 1024 := (i 0).isLt
  have h1 : (i 1 : Nat) < 512 := (i 1).isLt
  have hN := N8
  obtain ⟨t, ht⟩ : ∃ t : Fin cfg0.N, t.val = 8 * ((i 0).val / 1024) + 7 := ⟨⟨8 * ((i 0).val / 1024) + 7, by omega⟩, rfl⟩
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * win0_2.size 0 ≤ (i 0 : Nat) ∧ (i 0 : Nat) < win0_2.index t 0 * win0_2.size 0 + 1024
              rw [(off2 t).1]; omega
  | ⟨1, _⟩ => show win0_2.index t 1 * win0_2.size 1 ≤ (i 1 : Nat) ∧ (i 1 : Nat) < win0_2.index t 1 * win0_2.size 1 + 512
              rw [(off2 t).2]; omega

/-- What a point adds to the scratch. -/
def term (a : Arr S8192x1024) (b : Arr S8192x512) (t : Fin cfg0.N) : Arr S1024x512 := fun j =>
  ∑ k : Fin 1024, a (ix2 (tok t k) (row t (j 0))) * b (ix2 (tok t k) (j 1))

theorem term_apply (a : Arr S8192x1024) (b : Arr S8192x512) (t : Fin cfg0.N) (r : Fin 1024) (c : Fin 512) :
    term a b t (ix2 r c) = ∑ k : Fin 1024, a (ix2 (tok t k) (row t r)) * b (ix2 (tok t k) c) := rfl
theorem grad_apply (a : Arr S8192x1024) (b : Arr S8192x512) (r : Fin 1024) (c : Fin 512) :
    grad a b (ix2 r c) = ∑ k : Fin 8192, a (ix2 k r) * b (ix2 k c) := rfl

/-- The stored sum: what the scratch held, and the point's product. -/
theorem pay_add (c : Dev nD) (t : Fin cfg0.N) (acc : Arr S1024x512) (j : S1024x512.Idx) :
    (k0_pay2 (F := Ideal) (iblk m c 0 t) acc (iblk m c 1 t)) j = acc j + term (m ((c : Thread nD τ).loc main_arg0)) (m ((c : Thread nD τ).loc main_arg1)) t j := by
  idx_vars j
  pointwise [k0_pay2]
  simp only [iblk0_apply, iblk1_apply, term]
  try rfl

/-- The scratch at a point that writes the result back: the sum over the points of its run. -/
theorem acc_eq (c : Dev nD) (t : Fin cfg0.N) (hf : t.val % 8 = 8 - 1) (j : S1024x512.Idx) :
    (outsAt0 m c t.val t.isLt).2 j = 0 + ∑ s : Fin 8, term (m ((c : Thread nD τ).loc main_arg0)) (m ((c : Thread nD τ).loc main_arg1)) ⟨8 * (t.val / 8) + s.val, Pipeline.run_point_lt_of_flush t hf s⟩ j :=
  Pipeline.eq_sum_fin_of_reset_step_apply_of_flush (fun n h => (outsAt0 m c n h).2) 8 (fun _ => (0 : EReal)) (term (m ((c : Thread nD τ).loc main_arg0)) (m ((c : Thread nD τ).loc main_arg1)))
    (fun t h j => by
      rw [outsAt0_A m c t h (by omega)]; dsimp only; frame_out; rw [pay_add]
      refine congrArg (· + _) ?_
      idx_vars j
      pointwise [k0_pay1])
    (fun t h j => by
      by_cases h7 : t.val % 8 = 7
      · rw [outsAt0_C m c t h h7]; dsimp only; frame_out; rw [pay_add, read_unread_whole]
      · rw [outsAt0_B m c t h h7]; dsimp only; frame_out; rw [pay_add, read_unread_whole])
    t hf j

/-- What a point that writes back stores is the scratch. -/
theorem out_eq (c : Dev nD) (t : Fin cfg0.N) (h7 : t.val % 8 = 7) (j : S1024x512.Idx) :
    (outsAt0 m c t.val t.isLt).1 j = (outsAt0 m c t.val t.isLt).2 j := by
  rw [outsAt0_C m c t (by omega) h7]; dsimp only; frame_out
  idx_vars j
  pointwise [k0_pay3]

theorem flush_eq2 (c : Dev nD) (t : Fin cfg0.N) (hf : (cfg0.win 2).flush t = true) :
    (dats m 0 c).flushed 2 t = (win0_2.blk t).view.read (Elt Ideal) (grad (m ((c : Thread nD τ).loc main_arg0)) (m ((c : Thread nD τ).loc main_arg1))) := by
  have h7 : t.val % 8 = 7 := (flush0_2 t).mp hf
  show (cfg0.win 2).cut (grid0.coords t) ((dats m 0 c).after 2 t) = _
  rw [after0_2]
  refine funext fun (j : S1024x512.Idx) => ?_
  idx_vars j
  refine Eq.trans ?_ (read2_apply _ t j0 j1).symm
  refine Eq.trans (out_eq m c t h7 (ix2 j0 j1)) ?_
  rw [acc_eq m c t h7, zero_add]
  simp only [term_apply, grad_apply]
  refine Fin.sum_mul_add_congr fun s k hl => ?_
  have e0 : tok ⟨8 * (t.val / 8) + s.val, Pipeline.run_point_lt_of_flush t h7 s⟩ k = ⟨s.val * 1024 + k.val, hl⟩ :=
    Fin.ext (by show (8 * (t.val / 8) + s.val) % 8 * 1024 + k.val = s.val * 1024 + k.val; omega)
  have e1 : row ⟨8 * (t.val / 8) + s.val, Pipeline.run_point_lt_of_flush t h7 s⟩ j0 = row t j0 :=
    Fin.ext (by show (8 * (t.val / 8) + s.val) / 8 * 1024 + j0.val = t.val / 8 * 1024 + j0.val; omega)
  simp only [e0, e1]

theorem final2 (c : Dev nD) : (dats m 0 c).arrAt 2 cfg0.N = grad (m ((c : Thread nD τ).loc main_arg0)) (m ((c : Thread nD τ).loc main_arg1)) :=
  (dats m 0 c).arrAt_eq_of_cover 2 _ (fun t hf => flush_eq2 m c t hf) cover2

end Cert.W512Ideal.Call

namespace Cert.W512Ideal.Claims
open Idealize.ShloMosaic Idealize.ShloMosaic.TcCoe Idealize.SL.Sem
open Cert.W512Ideal.Call

/-- The reference's frame: its host operations leave the arguments, and it declares no semaphore. -/
theorem frame_ref : Cert.quiescent_W512RefIdeal := fun m ρ _ =>
  (θ_run Cert.W512RefIdeal.defs _ _).mono (fun r h => ⟨fun c => (h c).2,
      Idealize.ShloMosaic.sem_eq_zero_of_no_sems (by decide) r.2⟩)
    (Cert.W512RefIdeal.Value.run (F := Ideal) m ρ)

/-- The reference's run: its result is the gradient of its arguments, which it leaves. -/
theorem run_ref (m : (ℓ : Loc Cert.W512RefIdeal.nD Cert.W512RefIdeal.τ Cert.W512RefIdeal.sig) → Buf (Elt Ideal) ℓ) (ρ : Dev Cert.W512RefIdeal.nD → PrngReg) :
    θ_run Cert.W512RefIdeal.defs (onTc (τ := Cert.W512RefIdeal.τ) (Cert.W512RefIdeal.main (F := Ideal))) ⟨m, fun _ => 0, ρ⟩ fun r => ∀ c : Dev Cert.W512RefIdeal.nD,
      r.2.mem ((c.tc : Thread Cert.W512RefIdeal.nD Cert.W512RefIdeal.τ).loc Cert.W512RefIdeal.main_v6) = grad (m ((c.tc : Thread Cert.W512RefIdeal.nD Cert.W512RefIdeal.τ).loc Cert.W512RefIdeal.main_arg0)) (m ((c.tc : Thread Cert.W512RefIdeal.nD Cert.W512RefIdeal.τ).loc Cert.W512RefIdeal.main_arg1))
      ∧ r.2.mem ((c.tc : Thread Cert.W512RefIdeal.nD Cert.W512RefIdeal.τ).loc Cert.W512RefIdeal.main_arg0) = m ((c.tc : Thread Cert.W512RefIdeal.nD Cert.W512RefIdeal.τ).loc Cert.W512RefIdeal.main_arg0)
      ∧ r.2.mem ((c.tc : Thread Cert.W512RefIdeal.nD Cert.W512RefIdeal.τ).loc Cert.W512RefIdeal.main_arg1) = m ((c.tc : Thread Cert.W512RefIdeal.nD Cert.W512RefIdeal.τ).loc Cert.W512RefIdeal.main_arg1) := by
  refine (θ_run Cert.W512RefIdeal.defs _ _).mono (fun r h c => ?_) (Cert.W512RefIdeal.Value.run (F := Ideal) m ρ)
  refine ⟨(h c).1.trans ?_, (h c).2⟩
  refine funext fun (i : S1024x512.Idx) => ?_
  idx_vars i
  pointwise
  exact Finset.sum_congr rfl fun k _ => mul_comm _ _

/-- The call's result is the reference's, whatever the arguments hold. -/
theorem algebraic : Cert.algebraic_W512Ideal_W512RefIdeal := by
  intro m ρ m' ρ' _ hag
  refine ⟨fun c => grad (m ((c.tc : Thread Cert.W512Ideal.nD Cert.W512Ideal.τ).loc Cert.W512Ideal.main_arg0)) (m ((c.tc : Thread Cert.W512Ideal.nD Cert.W512Ideal.τ).loc Cert.W512Ideal.main_arg1)), ?_, ?_⟩
  · refine (θ_run Cert.W512Ideal.defs _ _).mono (fun r h c => ?_) (Cert.W512Ideal.Value.run_blocks (F := Ideal) m ρ)
    have h := h c
    rw [final2] at h
    exact h
  · refine (θ_run Cert.W512RefIdeal.defs _ _).mono (fun r h c => ?_) (run_ref m' ρ')
    have e := hag c
    have h := h c
    rw [e.1, e.2] at h
    rw [e.1, e.2]
    exact h

end Cert.W512Ideal.Claims
end
-- ==== Proof.W1152Call.lean ====
/-
  The weight-gradient call of the fourth piece of the input projection: its result, summed over the token blocks in a carried scratch, is the
  gradient of the weight; and the claims.
-/
module
public import proofs.«01_k».proof.Defs
public import proofs.«01_k».proof.Proof.Gen.W1152Ideal.Value
public import proofs.«01_k».proof.Proof.Gen.W1152RefIdeal.Run
public import Idealize.ShloMosaic.Lib.Pointwise
public import Idealize.ShloMosaic.Lib.Pipeline.ValueKit
public import Idealize.ShloMosaic.Lib.Pipeline.ReadBack
public import Idealize.ShloMosaic.Lib.Quiescent
@[expose] public section
set_option maxRecDepth 16384
noncomputable section
namespace Cert.W1152Ideal.Call
open Cert.W1152Ideal Cert.W1152Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

/-- The gradient of the weight: the sum over the tokens. -/
def grad (a : Arr S8192x1024) (b : Arr S8192x1152) : Arr S1024x1152 := fun i =>
  ∑ k : Fin 8192, a (ix2 k (i 0)) * b (ix2 k (i 1))

theorem N8 : cfg0.N = 8 := N_0

theorem off0 : ∀ t : Fin cfg0.N, win0_0.index t 0 * win0_0.size 0 = t.val % 8 * 1024 ∧ win0_0.index t 1 * win0_0.size 1 = t.val / 8 * 1024 :=
  (by decide +kernel : ∀ t : Fin grid0.N, win0_0.index t 0 * win0_0.size 0 = t.val % 8 * 1024 ∧ win0_0.index t 1 * win0_0.size 1 = t.val / 8 * 1024)
theorem off1 : ∀ t : Fin cfg0.N, win0_1.index t 0 * win0_1.size 0 = t.val % 8 * 1024 ∧ win0_1.index t 1 * win0_1.size 1 = 0 :=
  (by decide +kernel : ∀ t : Fin grid0.N, win0_1.index t 0 * win0_1.size 0 = t.val % 8 * 1024 ∧ win0_1.index t 1 * win0_1.size 1 = 0)
theorem off2 : ∀ t : Fin cfg0.N, win0_2.index t 0 * win0_2.size 0 = t.val / 8 * 1024 ∧ win0_2.index t 1 * win0_2.size 1 = 0 :=
  (by decide +kernel : ∀ t : Fin grid0.N, win0_2.index t 0 * win0_2.size 0 = t.val / 8 * 1024 ∧ win0_2.index t 1 * win0_2.size 1 = 0)

/-- The token that row `k` of point `t`'s blocks is. -/
def tok (t : Fin cfg0.N) (k : Fin 1024) : Fin 8192 := ⟨t.val % 8 * 1024 + k.val, by omega⟩
/-- The result row that row `r` of point `t`'s block is. -/
def row (t : Fin cfg0.N) (r : Fin 1024) : Fin 1024 := ⟨t.val / 8 * 1024 + r.val, by have := t.isLt; have := N8; omega⟩

theorem iblk0_apply (c : Dev nD) (t : Fin cfg0.N) (r : Fin 1024) (k : Fin 1024) :
    (iblk m c 0 t : S1024x1024.Idx → EReal) (ix2 r k) = m ((c : Thread nD τ).loc main_arg0) (ix2 (tok t r) (row t k)) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val % 8 * 1024 + r.val
              rw [(off0 t).1]; omega
  | ⟨1, _⟩ => show win0_0.index t 1 * win0_0.size 1 + 1 * k.val = t.val / 8 * 1024 + k.val
              rw [(off0 t).2]; omega

theorem iblk1_apply (c : Dev nD) (t : Fin cfg0.N) (r : Fin 1024) (k : Fin 1152) :
    (iblk m c 1 t : S1024x1152.Idx → EReal) (ix2 r k) = m ((c : Thread nD τ).loc main_arg1) (ix2 (tok t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val % 8 * 1024 + r.val
              rw [(off1 t).1]; omega
  | ⟨1, _⟩ => show win0_1.index t 1 * win0_1.size 1 + 1 * k.val = k.val
              rw [(off1 t).2]; omega

/-- An array read through point `t`'s block of the result's window. -/
theorem read2_apply (X : Arr S1024x1152) (t : Fin cfg0.N) (r : Fin 1024) (k : Fin 1152) :
    ((win0_2.blk t).view.read (Elt Ideal) X : S1024x1152.Idx → EReal) (ix2 r k) = X (ix2 (row t r) k) := by
  show X ((win0_2.rect t).idx (ix2 r k)) = _
  refine congrArg _ (funext fun a => Fin.ext ?_)
  match a with
  | ⟨0, _⟩ => show win0_2.index t 0 * win0_2.size 0 + 1 * r.val = t.val / 8 * 1024 + r.val
              rw [(off2 t).1]; omega
  | ⟨1, _⟩ => show win0_2.index t 1 * win0_2.size 1 + 1 * k.val = k.val
              rw [(off2 t).2]; omega

/-- Every index of the result is in a block some point writes back. -/
theorem cover2 (i : S1024x1152.Idx) : ∃ t : Fin cfg0.N, (cfg0.win 2).flush t = true ∧ i ∈ ((cfg0.win 2).blk t).view.set := by
  have h0 : (i 0 : Nat) < 1024 := (i 0).isLt
  have h1 : (i 1 : Nat) < 1152 := (i 1).isLt
  have hN := N8
  obtain ⟨t, ht⟩ : ∃ t : Fin cfg0.N, t.val = 8 * ((i 0).val / 1024) + 7 := ⟨⟨8 * ((i 0).val / 1024) + 7, by omega⟩, rfl⟩
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * win0_2.size 0 ≤ (i 0 : Nat) ∧ (i 0 : Nat) < win0_2.index t 0 * win0_2.size 0 + 1024
              rw [(off2 t).1]; omega
  | ⟨1, _⟩ => show win0_2.index t 1 * win0_2.size 1 ≤ (i 1 : Nat) ∧ (i 1 : Nat) < win0_2.index t 1 * win0_2.size 1 + 1152
              rw [(off2 t).2]; omega

/-- What a point adds to the scratch. -/
def term (a : Arr S8192x1024) (b : Arr S8192x1152) (t : Fin cfg0.N) : Arr S1024x1152 := fun j =>
  ∑ k : Fin 1024, a (ix2 (tok t k) (row t (j 0))) * b (ix2 (tok t k) (j 1))

theorem term_apply (a : Arr S8192x1024) (b : Arr S8192x1152) (t : Fin cfg0.N) (r : Fin 1024) (c : Fin 1152) :
    term a b t (ix2 r c) = ∑ k : Fin 1024, a (ix2 (tok t k) (row t r)) * b (ix2 (tok t k) c) := rfl
theorem grad_apply (a : Arr S8192x1024) (b : Arr S8192x1152) (r : Fin 1024) (c : Fin 1152) :
    grad a b (ix2 r c) = ∑ k : Fin 8192, a (ix2 k r) * b (ix2 k c) := rfl

/-- The stored sum: what the scratch held, and the point's product. -/
theorem pay_add (c : Dev nD) (t : Fin cfg0.N) (acc : Arr S1024x1152) (j : S1024x1152.Idx) :
    (k0_pay2 (F := Ideal) (iblk m c 0 t) acc (iblk m c 1 t)) j = acc j + term (m ((c : Thread nD τ).loc main_arg0)) (m ((c : Thread nD τ).loc main_arg1)) t j := by
  idx_vars j
  pointwise [k0_pay2]
  simp only [iblk0_apply, iblk1_apply, term]
  try rfl

/-- The scratch at a point that writes the result back: the sum over the points of its run. -/
theorem acc_eq (c : Dev nD) (t : Fin cfg0.N) (hf : t.val % 8 = 8 - 1) (j : S1024x1152.Idx) :
    (outsAt0 m c t.val t.isLt).2 j = 0 + ∑ s : Fin 8, term (m ((c : Thread nD τ).loc main_arg0)) (m ((c : Thread nD τ).loc main_arg1)) ⟨8 * (t.val / 8) + s.val, Pipeline.run_point_lt_of_flush t hf s⟩ j :=
  Pipeline.eq_sum_fin_of_reset_step_apply_of_flush (fun n h => (outsAt0 m c n h).2) 8 (fun _ => (0 : EReal)) (term (m ((c : Thread nD τ).loc main_arg0)) (m ((c : Thread nD τ).loc main_arg1)))
    (fun t h j => by
      rw [outsAt0_A m c t h (by omega)]; dsimp only; frame_out; rw [pay_add]
      refine congrArg (· + _) ?_
      idx_vars j
      pointwise [k0_pay1])
    (fun t h j => by
      by_cases h7 : t.val % 8 = 7
      · rw [outsAt0_C m c t h h7]; dsimp only; frame_out; rw [pay_add, read_unread_whole]
      · rw [outsAt0_B m c t h h7]; dsimp only; frame_out; rw [pay_add, read_unread_whole])
    t hf j

/-- What a point that writes back stores is the scratch. -/
theorem out_eq (c : Dev nD) (t : Fin cfg0.N) (h7 : t.val % 8 = 7) (j : S1024x1152.Idx) :
    (outsAt0 m c t.val t.isLt).1 j = (outsAt0 m c t.val t.isLt).2 j := by
  rw [outsAt0_C m c t (by omega) h7]; dsimp only; frame_out
  idx_vars j
  pointwise [k0_pay3]

theorem flush_eq2 (c : Dev nD) (t : Fin cfg0.N) (hf : (cfg0.win 2).flush t = true) :
    (dats m 0 c).flushed 2 t = (win0_2.blk t).view.read (Elt Ideal) (grad (m ((c : Thread nD τ).loc main_arg0)) (m ((c : Thread nD τ).loc main_arg1))) := by
  have h7 : t.val % 8 = 7 := (flush0_2 t).mp hf
  show (cfg0.win 2).cut (grid0.coords t) ((dats m 0 c).after 2 t) = _
  rw [after0_2]
  refine funext fun (j : S1024x1152.Idx) => ?_
  idx_vars j
  refine Eq.trans ?_ (read2_apply _ t j0 j1).symm
  refine Eq.trans (out_eq m c t h7 (ix2 j0 j1)) ?_
  rw [acc_eq m c t h7, zero_add]
  simp only [term_apply, grad_apply]
  refine Fin.sum_mul_add_congr fun s k hl => ?_
  have e0 : tok ⟨8 * (t.val / 8) + s.val, Pipeline.run_point_lt_of_flush t h7 s⟩ k = ⟨s.val * 1024 + k.val, hl⟩ :=
    Fin.ext (by show (8 * (t.val / 8) + s.val) % 8 * 1024 + k.val = s.val * 1024 + k.val; omega)
  have e1 : row ⟨8 * (t.val / 8) + s.val, Pipeline.run_point_lt_of_flush t h7 s⟩ j0 = row t j0 :=
    Fin.ext (by show (8 * (t.val / 8) + s.val) / 8 * 1024 + j0.val = t.val / 8 * 1024 + j0.val; omega)
  simp only [e0, e1]

theorem final2 (c : Dev nD) : (dats m 0 c).arrAt 2 cfg0.N = grad (m ((c : Thread nD τ).loc main_arg0)) (m ((c : Thread nD τ).loc main_arg1)) :=
  (dats m 0 c).arrAt_eq_of_cover 2 _ (fun t hf => flush_eq2 m c t hf) cover2

end Cert.W1152Ideal.Call

namespace Cert.W1152Ideal.Claims
open Idealize.ShloMosaic Idealize.ShloMosaic.TcCoe Idealize.SL.Sem
open Cert.W1152Ideal.Call

/-- The reference's frame: its host operations leave the arguments, and it declares no semaphore. -/
theorem frame_ref : Cert.quiescent_W1152RefIdeal := fun m ρ _ =>
  (θ_run Cert.W1152RefIdeal.defs _ _).mono (fun r h => ⟨fun c => (h c).2,
      Idealize.ShloMosaic.sem_eq_zero_of_no_sems (by decide) r.2⟩)
    (Cert.W1152RefIdeal.Value.run (F := Ideal) m ρ)

/-- The reference's run: its result is the gradient of its arguments, which it leaves. -/
theorem run_ref (m : (ℓ : Loc Cert.W1152RefIdeal.nD Cert.W1152RefIdeal.τ Cert.W1152RefIdeal.sig) → Buf (Elt Ideal) ℓ) (ρ : Dev Cert.W1152RefIdeal.nD → PrngReg) :
    θ_run Cert.W1152RefIdeal.defs (onTc (τ := Cert.W1152RefIdeal.τ) (Cert.W1152RefIdeal.main (F := Ideal))) ⟨m, fun _ => 0, ρ⟩ fun r => ∀ c : Dev Cert.W1152RefIdeal.nD,
      r.2.mem ((c.tc : Thread Cert.W1152RefIdeal.nD Cert.W1152RefIdeal.τ).loc Cert.W1152RefIdeal.main_v6) = grad (m ((c.tc : Thread Cert.W1152RefIdeal.nD Cert.W1152RefIdeal.τ).loc Cert.W1152RefIdeal.main_arg0)) (m ((c.tc : Thread Cert.W1152RefIdeal.nD Cert.W1152RefIdeal.τ).loc Cert.W1152RefIdeal.main_arg1))
      ∧ r.2.mem ((c.tc : Thread Cert.W1152RefIdeal.nD Cert.W1152RefIdeal.τ).loc Cert.W1152RefIdeal.main_arg0) = m ((c.tc : Thread Cert.W1152RefIdeal.nD Cert.W1152RefIdeal.τ).loc Cert.W1152RefIdeal.main_arg0)
      ∧ r.2.mem ((c.tc : Thread Cert.W1152RefIdeal.nD Cert.W1152RefIdeal.τ).loc Cert.W1152RefIdeal.main_arg1) = m ((c.tc : Thread Cert.W1152RefIdeal.nD Cert.W1152RefIdeal.τ).loc Cert.W1152RefIdeal.main_arg1) := by
  refine (θ_run Cert.W1152RefIdeal.defs _ _).mono (fun r h c => ?_) (Cert.W1152RefIdeal.Value.run (F := Ideal) m ρ)
  refine ⟨(h c).1.trans ?_, (h c).2⟩
  refine funext fun (i : S1024x1152.Idx) => ?_
  idx_vars i
  pointwise
  exact Finset.sum_congr rfl fun k _ => mul_comm _ _

/-- The call's result is the reference's, whatever the arguments hold. -/
theorem algebraic : Cert.algebraic_W1152Ideal_W1152RefIdeal := by
  intro m ρ m' ρ' _ hag
  refine ⟨fun c => grad (m ((c.tc : Thread Cert.W1152Ideal.nD Cert.W1152Ideal.τ).loc Cert.W1152Ideal.main_arg0)) (m ((c.tc : Thread Cert.W1152Ideal.nD Cert.W1152Ideal.τ).loc Cert.W1152Ideal.main_arg1)), ?_, ?_⟩
  · refine (θ_run Cert.W1152Ideal.defs _ _).mono (fun r h c => ?_) (Cert.W1152Ideal.Value.run_blocks (F := Ideal) m ρ)
    have h := h c
    rw [final2] at h
    exact h
  · refine (θ_run Cert.W1152RefIdeal.defs _ _).mono (fun r h c => ?_) (run_ref m' ρ')
    have e := hag c
    have h := h c
    rw [e.1, e.2] at h
    rw [e.1, e.2]
    exact h

end Cert.W1152Ideal.Claims
end
-- ==== Proof.Update.lean ====
/-
  One AdamW step over the extended reals: the gradient as a sum over eight devices, the two averages, and the weight's change.
-/
module
public import Idealize.ShloMosaic.PureOps.Ideal
@[expose] public section
noncomputable section
namespace Cert.Update
open Idealize.ShloMosaic

variable {I : Type}

/-- The gradient: the sum of the eight devices' summands. -/
def grad (p : Fin 8 → I → EReal) : I → EReal := fun i => ∑ d : Fin 8, p d i

/-- The running average of the gradient. -/
def first (m g : I → EReal) : I → EReal := fun i =>
  Ideal.ofBits .f32 0x3F666666#32 * m i + Ideal.ofBits .f32 0x3DCCCCCD#32 * g i

/-- The running average of the gradient's square. -/
def second (v g : I → EReal) : I → EReal := fun i =>
  Ideal.ofBits .f32 0x3F7FBE77#32 * v i + Ideal.ofBits .f32 0x3A83126F#32 * (g i * g i)

/-- The change of the weight, with its decay. -/
def delta (w m v g : I → EReal) : I → EReal := fun i =>
  Ideal.ofBits .f32 0xBA83126F#32 *
    (Ideal.div (Ideal.div (first m g i) (Ideal.ofBits .f32 0x3F26BD02#32))
        (Ideal.sqrt (Ideal.div (second v g i) (Ideal.ofBits .f32 0x3C231ACC#32)) + Ideal.ofBits .f32 0x322BCC77#32)
      + Ideal.ofBits .f32 0x3C23D70A#32 * w i)

/-- The gradient, its eight summands written out. -/
theorem grad_apply (p : Fin 8 → I → EReal) (i : I) :
    grad p i = p 0 i + p 1 i + p 2 i + p 3 i + p 4 i + p 5 i + p 6 i + p 7 i := Fin.sum_univ_eight _

end Cert.Update
end
-- ==== Proof.UpdMlpOutCall.lean ====
/-
  The AdamW step of one device's shard of a weight, by row blocks; and the claims.
-/
module
public import proofs.«01_k».proof.Defs
public import proofs.«01_k».proof.Proof.Gen.UpdMlpOutIdeal.Value
public import proofs.«01_k».proof.Proof.Gen.UpdMlpOutRefIdeal.Run
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Update
@[expose] public section
set_option maxRecDepth 16384
noncomputable section
namespace Cert.UpdMlpOutIdeal.Call
open Cert Cert.UpdMlpOutIdeal Cert.UpdMlpOutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

theorem N4 : cfg0.N = 4 := N_0

/-- The array row that row `r` of point `t`'s block is. -/
def row (t : Fin cfg0.N) (r : Fin 128) : Fin 512 := ⟨t.val * 128 + r.val, by have := t.isLt; have := N4; omega⟩

theorem hz : (![0, 0] : Fin 2 → Nat) = fun _ => 0 := funext fun a => by fin_cases a <;> rfl

theorem off0 : ∀ t : Fin cfg0.N, win0_0.index t 0 * win0_0.size 0 = t.val * 128 ∧ win0_0.index t 1 * win0_0.size 1 = 0 :=
  (by decide +kernel : ∀ t : Fin grid0.N, win0_0.index t 0 * win0_0.size 0 = t.val * 128 ∧ win0_0.index t 1 * win0_0.size 1 = 0)
theorem iblk0_apply (c : Dev nD) (t : Fin cfg0.N) (r : Fin 128) (k : Fin 1024) :
    (iblk m c 0 t : S128x1024.Idx → EReal) (ix2 r k) = m ((c : Thread nD τ).loc main_arg0) (ix2 (row t r) k) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val * 128 + r.val
              rw [(off0 t).1]; omega
  | ⟨1, _⟩ => show win0_0.index t 1 * win0_0.size 1 + 1 * k.val = k.val
              rw [(off0 t).2]; omega

theorem off1 : ∀ t : Fin cfg0.N, win0_1.index t 0 * win0_1.size 0 = t.val * 128 ∧ win0_1.index t 1 * win0_1.size 1 = 0 :=
  (by decide +kernel : ∀ t : Fin grid0.N, win0_1.index t 0 * win0_1.size 0 = t.val * 128 ∧ win0_1.index t 1 * win0_1.size 1 = 0)
theorem iblk1_apply (c : Dev nD) (t : Fin cfg0.N) (r : Fin 128) (k : Fin 1024) :
    (iblk m c 1 t : S128x1024.Idx → EReal) (ix2 r k) = m ((c : Thread nD τ).loc main_arg1) (ix2 (row t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val * 128 + r.val
              rw [(off1 t).1]; omega
  | ⟨1, _⟩ => show win0_1.index t 1 * win0_1.size 1 + 1 * k.val = k.val
              rw [(off1 t).2]; omega

theorem off2 : ∀ t : Fin cfg0.N, win0_2.index t 0 * win0_2.size 0 = t.val * 128 ∧ win0_2.index t 1 * win0_2.size 1 = 0 :=
  (by decide +kernel : ∀ t : Fin grid0.N, win0_2.index t 0 * win0_2.size 0 = t.val * 128 ∧ win0_2.index t 1 * win0_2.size 1 = 0)
theorem iblk2_apply (c : Dev nD) (t : Fin cfg0.N) (r : Fin 128) (k : Fin 1024) :
    (iblk m c 2 t : S128x1024.Idx → EReal) (ix2 r k) = m ((c : Thread nD τ).loc main_arg2) (ix2 (row t r) k) := by
  unfold iblk
  show V m c main_arg2 ((win0_2.rect t).idx (ix2 r k)) = _
  rw [V_main_arg2]
  refine congrArg _ (funext fun a => Fin.ext ?_)
  match a with
  | ⟨0, _⟩ => show win0_2.index t 0 * win0_2.size 0 + 1 * r.val = t.val * 128 + r.val
              rw [(off2 t).1]; omega
  | ⟨1, _⟩ => show win0_2.index t 1 * win0_2.size 1 + 1 * k.val = k.val
              rw [(off2 t).2]; omega

theorem off3 : ∀ t : Fin cfg0.N, win0_3.index t 0 * win0_3.size 0 = 0 ∧ win0_3.index t 1 * win0_3.size 1 = t.val * 128 ∧ win0_3.index t 2 * win0_3.size 2 = 0 :=
  (by decide +kernel : ∀ t : Fin grid0.N, win0_3.index t 0 * win0_3.size 0 = 0 ∧ win0_3.index t 1 * win0_3.size 1 = t.val * 128 ∧ win0_3.index t 2 * win0_3.size 2 = 0)
theorem iblk3_apply (c : Dev nD) (t : Fin cfg0.N) (s : Fin 8) (r : Fin 128) (k : Fin 1024) :
    (iblk m c 3 t : S8x128x1024.Idx → EReal) (ix3 s r k) = m ((c : Thread nD τ).loc main_arg3) (ix3 s (row t r) k) := by
  unfold iblk
  show V m c main_arg3 ((win0_3.rect t).idx (ix3 s r k)) = _
  rw [V_main_arg3]
  refine congrArg _ (funext fun a => Fin.ext ?_)
  match a with
  | ⟨0, _⟩ => show win0_3.index t 0 * win0_3.size 0 + 1 * s.val = s.val
              rw [(off3 t).1]; omega
  | ⟨1, _⟩ => show win0_3.index t 1 * win0_3.size 1 + 1 * r.val = t.val * 128 + r.val
              rw [(off3 t).2.1]; omega
  | ⟨2, _⟩ => show win0_3.index t 2 * win0_3.size 2 + 1 * k.val = k.val
              rw [(off3 t).2.2]; omega

theorem off4 : ∀ t : Fin cfg0.N, win0_4.index t 0 * win0_4.size 0 = t.val * 128 ∧ win0_4.index t 1 * win0_4.size 1 = 0 :=
  (by decide +kernel : ∀ t : Fin grid0.N, win0_4.index t 0 * win0_4.size 0 = t.val * 128 ∧ win0_4.index t 1 * win0_4.size 1 = 0)
/-- An array read through point `t`'s block of window 4. -/
theorem read4_apply (X : Arr S512x1024) (t : Fin cfg0.N) (r : Fin 128) (k : Fin 1024) :
    ((win0_4.blk t).view.read (Elt Ideal) X : S128x1024.Idx → EReal) (ix2 r k) = X (ix2 (row t r) k) := by
  show X ((win0_4.rect t).idx (ix2 r k)) = _
  refine congrArg _ (funext fun a => Fin.ext ?_)
  match a with
  | ⟨0, _⟩ => show win0_4.index t 0 * win0_4.size 0 + 1 * r.val = t.val * 128 + r.val
              rw [(off4 t).1]; omega
  | ⟨1, _⟩ => show win0_4.index t 1 * win0_4.size 1 + 1 * k.val = k.val
              rw [(off4 t).2]; omega

/-- Every index of the array is in the block of a point that writes back. -/
theorem cover4 (i : S512x1024.Idx) : ∃ t : Fin cfg0.N, (cfg0.win 4).flush t = true ∧ i ∈ ((cfg0.win 4).blk t).view.set := by
  have h0 : (i 0 : Nat) < 512 := (i 0).isLt
  have h1 : (i 1 : Nat) < 1024 := (i 1).isLt
  have hN : cfg0.N = 4 := N_0
  obtain ⟨t, ht⟩ : ∃ t : Fin cfg0.N, t.val = (i 0).val / 128 := ⟨⟨(i 0).val / 128, by omega⟩, rfl⟩
  refine ⟨t, flush0_4 t, ?_⟩
  show i ∈ ((View.whole main_v0_0).slice (win0_4.rect t)).set
  rw [View.set_slice_whole, Rect.mem_set_unit]
  intro a
  match a with
  | ⟨0, _⟩ => show win0_4.index t 0 * win0_4.size 0 ≤ (i 0 : Nat) ∧ (i 0 : Nat) < win0_4.index t 0 * win0_4.size 0 + 128
              rw [(off4 t).1]; omega
  | ⟨1, _⟩ => show win0_4.index t 1 * win0_4.size 1 ≤ (i 1 : Nat) ∧ (i 1 : Nat) < win0_4.index t 1 * win0_4.size 1 + 1024
              rw [(off4 t).2]; omega

theorem off5 : ∀ t : Fin cfg0.N, win0_5.index t 0 * win0_5.size 0 = t.val * 128 ∧ win0_5.index t 1 * win0_5.size 1 = 0 :=
  (by decide +kernel : ∀ t : Fin grid0.N, win0_5.index t 0 * win0_5.size 0 = t.val * 128 ∧ win0_5.index t 1 * win0_5.size 1 = 0)
/-- An array read through point `t`'s block of window 5. -/
theorem read5_apply (X : Arr S512x1024) (t : Fin cfg0.N) (r : Fin 128) (k : Fin 1024) :
    ((win0_5.blk t).view.read (Elt Ideal) X : S128x1024.Idx → EReal) (ix2 r k) = X (ix2 (row t r) k) := by
  show X ((win0_5.rect t).idx (ix2 r k)) = _
  refine congrArg _ (funext fun a => Fin.ext ?_)
  match a with
  | ⟨0, _⟩ => show win0_5.index t 0 * win0_5.size 0 + 1 * r.val = t.val * 128 + r.val
              rw [(off5 t).1]; omega
  | ⟨1, _⟩ => show win0_5.index t 1 * win0_5.size 1 + 1 * k.val = k.val
              rw [(off5 t).2]; omega

/-- Every index of the array is in the block of a point that writes back. -/
theorem cover5 (i : S512x1024.Idx) : ∃ t : Fin cfg0.N, (cfg0.win 5).flush t = true ∧ i ∈ ((cfg0.win 5).blk t).view.set := by
  have h0 : (i 0 : Nat) < 512 := (i 0).isLt
  have h1 : (i 1 : Nat) < 1024 := (i 1).isLt
  have hN : cfg0.N = 4 := N_0
  obtain ⟨t, ht⟩ : ∃ t : Fin cfg0.N, t.val = (i 0).val / 128 := ⟨⟨(i 0).val / 128, by omega⟩, rfl⟩
  refine ⟨t, flush0_5 t, ?_⟩
  show i ∈ ((View.whole main_v0_1).slice (win0_5.rect t)).set
  rw [View.set_slice_whole, Rect.mem_set_unit]
  intro a
  match a with
  | ⟨0, _⟩ => show win0_5.index t 0 * win0_5.size 0 ≤ (i 0 : Nat) ∧ (i 0 : Nat) < win0_5.index t 0 * win0_5.size 0 + 128
              rw [(off5 t).1]; omega
  | ⟨1, _⟩ => show win0_5.index t 1 * win0_5.size 1 ≤ (i 1 : Nat) ∧ (i 1 : Nat) < win0_5.index t 1 * win0_5.size 1 + 1024
              rw [(off5 t).2]; omega

theorem off6 : ∀ t : Fin cfg0.N, win0_6.index t 0 * win0_6.size 0 = t.val * 128 ∧ win0_6.index t 1 * win0_6.size 1 = 0 :=
  (by decide +kernel : ∀ t : Fin grid0.N, win0_6.index t 0 * win0_6.size 0 = t.val * 128 ∧ win0_6.index t 1 * win0_6.size 1 = 0)
/-- An array read through point `t`'s block of window 6. -/
theorem read6_apply (X : Arr S512x1024) (t : Fin cfg0.N) (r : Fin 128) (k : Fin 1024) :
    ((win0_6.blk t).view.read (Elt Ideal) X : S128x1024.Idx → EReal) (ix2 r k) = X (ix2 (row t r) k) := by
  show X ((win0_6.rect t).idx (ix2 r k)) = _
  refine congrArg _ (funext fun a => Fin.ext ?_)
  match a with
  | ⟨0, _⟩ => show win0_6.index t 0 * win0_6.size 0 + 1 * r.val = t.val * 128 + r.val
              rw [(off6 t).1]; omega
  | ⟨1, _⟩ => show win0_6.index t 1 * win0_6.size 1 + 1 * k.val = k.val
              rw [(off6 t).2]; omega

/-- Every index of the array is in the block of a point that writes back. -/
theorem cover6 (i : S512x1024.Idx) : ∃ t : Fin cfg0.N, (cfg0.win 6).flush t = true ∧ i ∈ ((cfg0.win 6).blk t).view.set := by
  have h0 : (i 0 : Nat) < 512 := (i 0).isLt
  have h1 : (i 1 : Nat) < 1024 := (i 1).isLt
  have hN : cfg0.N = 4 := N_0
  obtain ⟨t, ht⟩ : ∃ t : Fin cfg0.N, t.val = (i 0).val / 128 := ⟨⟨(i 0).val / 128, by omega⟩, rfl⟩
  refine ⟨t, flush0_6 t, ?_⟩
  show i ∈ ((View.whole main_v0_2).slice (win0_6.rect t)).set
  rw [View.set_slice_whole, Rect.mem_set_unit]
  intro a
  match a with
  | ⟨0, _⟩ => show win0_6.index t 0 * win0_6.size 0 ≤ (i 0 : Nat) ∧ (i 0 : Nat) < win0_6.index t 0 * win0_6.size 0 + 128
              rw [(off6 t).1]; omega
  | ⟨1, _⟩ => show win0_6.index t 1 * win0_6.size 1 ≤ (i 1 : Nat) ∧ (i 1 : Nat) < win0_6.index t 1 * win0_6.size 1 + 1024
              rw [(off6 t).2]; omega

theorem off7 : ∀ t : Fin cfg0.N, win0_7.index t 0 * win0_7.size 0 = t.val * 128 ∧ win0_7.index t 1 * win0_7.size 1 = 0 :=
  (by decide +kernel : ∀ t : Fin grid0.N, win0_7.index t 0 * win0_7.size 0 = t.val * 128 ∧ win0_7.index t 1 * win0_7.size 1 = 0)
/-- An array read through point `t`'s block of window 7. -/
theorem read7_apply (X : Arr S512x1024) (t : Fin cfg0.N) (r : Fin 128) (k : Fin 1024) :
    ((win0_7.blk t).view.read (Elt Ideal) X : S128x1024.Idx → EReal) (ix2 r k) = X (ix2 (row t r) k) := by
  show X ((win0_7.rect t).idx (ix2 r k)) = _
  refine congrArg _ (funext fun a => Fin.ext ?_)
  match a with
  | ⟨0, _⟩ => show win0_7.index t 0 * win0_7.size 0 + 1 * r.val = t.val * 128 + r.val
              rw [(off7 t).1]; omega
  | ⟨1, _⟩ => show win0_7.index t 1 * win0_7.size 1 + 1 * k.val = k.val
              rw [(off7 t).2]; omega

/-- Every index of the array is in the block of a point that writes back. -/
theorem cover7 (i : S512x1024.Idx) : ∃ t : Fin cfg0.N, (cfg0.win 7).flush t = true ∧ i ∈ ((cfg0.win 7).blk t).view.set := by
  have h0 : (i 0 : Nat) < 512 := (i 0).isLt
  have h1 : (i 1 : Nat) < 1024 := (i 1).isLt
  have hN : cfg0.N = 4 := N_0
  obtain ⟨t, ht⟩ : ∃ t : Fin cfg0.N, t.val = (i 0).val / 128 := ⟨⟨(i 0).val / 128, by omega⟩, rfl⟩
  refine ⟨t, flush0_7 t, ?_⟩
  show i ∈ ((View.whole main_v0_3).slice (win0_7.rect t)).set
  rw [View.set_slice_whole, Rect.mem_set_unit]
  intro a
  match a with
  | ⟨0, _⟩ => show win0_7.index t 0 * win0_7.size 0 ≤ (i 0 : Nat) ∧ (i 0 : Nat) < win0_7.index t 0 * win0_7.size 0 + 128
              rw [(off7 t).1]; omega
  | ⟨1, _⟩ => show win0_7.index t 1 * win0_7.size 1 ≤ (i 1 : Nat) ∧ (i 1 : Nat) < win0_7.index t 1 * win0_7.size 1 + 1024
              rw [(off7 t).2]; omega

set_option maxHeartbeats 1000000 in
/-- What point `t` writes back is block `t` of the array's function. -/
theorem flush_eq4 (c : Dev nD) (t : Fin cfg0.N) :
    (dats m 0 c).flushed 4 t = (win0_4.blk t).view.read (Elt Ideal) (Update.grad (fun d (i : S512x1024.Idx) => (m ((c : Thread nD τ).loc main_arg3)) (ix3 d (i 0) (i 1)))) := by
  show (cfg0.win 4).cut (grid0.coords t) ((dats m 0 c).after 4 t) = _
  rw [after0_4]
  unfold out0_4
  rw [View.canon_unit_zero hz]
  refine funext fun (j : S128x1024.Idx) => ?_
  idx_vars j
  refine Eq.trans ?_ (read4_apply _ t j0 j1).symm
  show (k0_pay1 (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final4 (c : Dev nD) : (dats m 0 c).arrAt 4 cfg0.N = Update.grad (fun d (i : S512x1024.Idx) => (m ((c : Thread nD τ).loc main_arg3)) (ix3 d (i 0) (i 1))) :=
  (dats m 0 c).arrAt_eq_of_cover 4 _ (fun t _ => flush_eq4 m c t) cover4

set_option maxHeartbeats 1000000 in
/-- What point `t` writes back is block `t` of the array's function. -/
theorem flush_eq5 (c : Dev nD) (t : Fin cfg0.N) :
    (dats m 0 c).flushed 5 t = (win0_5.blk t).view.read (Elt Ideal) (Update.delta (m ((c : Thread nD τ).loc main_arg0)) (m ((c : Thread nD τ).loc main_arg1)) (m ((c : Thread nD τ).loc main_arg2)) (Update.grad (fun d (i : S512x1024.Idx) => (m ((c : Thread nD τ).loc main_arg3)) (ix3 d (i 0) (i 1))))) := by
  show (cfg0.win 5).cut (grid0.coords t) ((dats m 0 c).after 5 t) = _
  rw [after0_5]
  unfold out0_5
  rw [View.canon_unit_zero hz]
  refine funext fun (j : S128x1024.Idx) => ?_
  idx_vars j
  refine Eq.trans ?_ (read5_apply _ t j0 j1).symm
  show (k0_pay4 (View.ld (iblk m c 0 t) r0_0) (View.ld (iblk m c 1 t) r0_0) (View.ld (iblk m c 2 t) r0_0) (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final5 (c : Dev nD) : (dats m 0 c).arrAt 5 cfg0.N = Update.delta (m ((c : Thread nD τ).loc main_arg0)) (m ((c : Thread nD τ).loc main_arg1)) (m ((c : Thread nD τ).loc main_arg2)) (Update.grad (fun d (i : S512x1024.Idx) => (m ((c : Thread nD τ).loc main_arg3)) (ix3 d (i 0) (i 1)))) :=
  (dats m 0 c).arrAt_eq_of_cover 5 _ (fun t _ => flush_eq5 m c t) cover5

set_option maxHeartbeats 1000000 in
/-- What point `t` writes back is block `t` of the array's function. -/
theorem flush_eq6 (c : Dev nD) (t : Fin cfg0.N) :
    (dats m 0 c).flushed 6 t = (win0_6.blk t).view.read (Elt Ideal) (Update.first (m ((c : Thread nD τ).loc main_arg1)) (Update.grad (fun d (i : S512x1024.Idx) => (m ((c : Thread nD τ).loc main_arg3)) (ix3 d (i 0) (i 1))))) := by
  show (cfg0.win 6).cut (grid0.coords t) ((dats m 0 c).after 6 t) = _
  rw [after0_6]
  unfold out0_6
  rw [View.canon_unit_zero hz]
  refine funext fun (j : S128x1024.Idx) => ?_
  idx_vars j
  refine Eq.trans ?_ (read6_apply _ t j0 j1).symm
  show (k0_pay2 (View.ld (iblk m c 1 t) r0_0) (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final6 (c : Dev nD) : (dats m 0 c).arrAt 6 cfg0.N = Update.first (m ((c : Thread nD τ).loc main_arg1)) (Update.grad (fun d (i : S512x1024.Idx) => (m ((c : Thread nD τ).loc main_arg3)) (ix3 d (i 0) (i 1)))) :=
  (dats m 0 c).arrAt_eq_of_cover 6 _ (fun t _ => flush_eq6 m c t) cover6

set_option maxHeartbeats 1000000 in
/-- What point `t` writes back is block `t` of the array's function. -/
theorem flush_eq7 (c : Dev nD) (t : Fin cfg0.N) :
    (dats m 0 c).flushed 7 t = (win0_7.blk t).view.read (Elt Ideal) (Update.second (m ((c : Thread nD τ).loc main_arg2)) (Update.grad (fun d (i : S512x1024.Idx) => (m ((c : Thread nD τ).loc main_arg3)) (ix3 d (i 0) (i 1))))) := by
  show (cfg0.win 7).cut (grid0.coords t) ((dats m 0 c).after 7 t) = _
  rw [after0_7]
  unfold out0_7
  rw [View.canon_unit_zero hz]
  refine funext fun (j : S128x1024.Idx) => ?_
  idx_vars j
  refine Eq.trans ?_ (read7_apply _ t j0 j1).symm
  show (k0_pay3 (View.ld (iblk m c 2 t) r0_0) (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final7 (c : Dev nD) : (dats m 0 c).arrAt 7 cfg0.N = Update.second (m ((c : Thread nD τ).loc main_arg2)) (Update.grad (fun d (i : S512x1024.Idx) => (m ((c : Thread nD τ).loc main_arg3)) (ix3 d (i 0) (i 1)))) :=
  (dats m 0 c).arrAt_eq_of_cover 7 _ (fun t _ => flush_eq7 m c t) cover7

end Cert.UpdMlpOutIdeal.Call

namespace Cert.UpdMlpOutRefIdeal.Call
open Cert Cert.UpdMlpOutRefIdeal Cert.UpdMlpOutRefIdeal.Gen Idealize.ShloMosaic Idealize.ShloMosaic.TcCoe Idealize.SL.Sem

/-- The reference's sum over the first extent is the sum of the eight summands. -/
theorem sum_S512x1024 (P : FVec Ideal S8x512x1024 .bf16) :
    Host.reduceAdd (extf .f32 P bitsLt_bf16_f32) (constant S_ .f32 0x00000000#32) reducesTo_S8x512x1024_S512x1024_d0 h_S_
      = Update.grad (fun d (i : S512x1024.Idx) => P (ix3 d (i 0) (i 1))) := by
  refine funext fun (i : S512x1024.Idx) => ?_
  idx_vars i
  pointwise
  rfl

set_option maxHeartbeats 2000000 in
/-- The reference's run: its results as functions of its arguments, which it leaves. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = Update.grad (fun d (i : S512x1024.Idx) => (m ((c.tc : Thread nD τ).loc main_arg3)) (ix3 d (i 0) (i 1)))
      ∧ r.2.mem ((c.tc : Thread nD τ).loc main_v25) = Update.delta (m ((c.tc : Thread nD τ).loc main_arg0)) (m ((c.tc : Thread nD τ).loc main_arg1)) (m ((c.tc : Thread nD τ).loc main_arg2)) (Update.grad (fun d (i : S512x1024.Idx) => (m ((c.tc : Thread nD τ).loc main_arg3)) (ix3 d (i 0) (i 1))))
      ∧ r.2.mem ((c.tc : Thread nD τ).loc main_v6) = Update.first (m ((c.tc : Thread nD τ).loc main_arg1)) (Update.grad (fun d (i : S512x1024.Idx) => (m ((c.tc : Thread nD τ).loc main_arg3)) (ix3 d (i 0) (i 1))))
      ∧ r.2.mem ((c.tc : Thread nD τ).loc main_v12) = Update.second (m ((c.tc : Thread nD τ).loc main_arg2)) (Update.grad (fun d (i : S512x1024.Idx) => (m ((c.tc : Thread nD τ).loc main_arg3)) (ix3 d (i 0) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run (F := Ideal) m ρ)
  obtain ⟨h0, h1, h2, h3, h⟩ := h c
  refine ⟨h0.trans ?_, h1.trans ?_, h2.trans ?_, h3.trans ?_, h⟩
  · exact sum_S512x1024 _
  · rw [sum_S512x1024]; rfl
  · rw [sum_S512x1024]; rfl
  · rw [sum_S512x1024]; rfl

end Cert.UpdMlpOutRefIdeal.Call

namespace Cert.UpdMlpOutIdeal.Claims
open Cert Cert.UpdMlpOutIdeal Cert.UpdMlpOutIdeal.Gen Cert.UpdMlpOutIdeal.Call Idealize.ShloMosaic Idealize.ShloMosaic.TcCoe Idealize.SL.Sem

/-- The reference's frame: its host operations leave the arguments, and it declares no semaphore. -/
theorem frame_ref : Cert.quiescent_UpdMlpOutRefIdeal := fun m ρ _ =>
  (θ_run Cert.UpdMlpOutRefIdeal.defs _ _).mono (fun r h => ⟨fun c => (h c).2.2.2.2,
      Idealize.ShloMosaic.sem_eq_zero_of_no_sems (by decide) r.2⟩)
    (Cert.UpdMlpOutRefIdeal.Value.run (F := Ideal) m ρ)

set_option maxHeartbeats 2000000 in
/-- The call's results are the reference's, whatever the arguments hold. -/
theorem algebraic : Cert.algebraic_UpdMlpOutIdeal_UpdMlpOutRefIdeal := by
  intro m ρ m' ρ' _ hag
  refine ⟨fun c => Update.grad (fun d (i : S512x1024.Idx) => (m ((c.tc : Thread nD τ).loc main_arg3)) (ix3 d (i 0) (i 1))),
    fun c => Update.delta (m ((c.tc : Thread nD τ).loc main_arg0)) (m ((c.tc : Thread nD τ).loc main_arg1)) (m ((c.tc : Thread nD τ).loc main_arg2)) (Update.grad (fun d (i : S512x1024.Idx) => (m ((c.tc : Thread nD τ).loc main_arg3)) (ix3 d (i 0) (i 1)))),
    fun c => Update.first (m ((c.tc : Thread nD τ).loc main_arg1)) (Update.grad (fun d (i : S512x1024.Idx) => (m ((c.tc : Thread nD τ).loc main_arg3)) (ix3 d (i 0) (i 1)))),
    fun c => Update.second (m ((c.tc : Thread nD τ).loc main_arg2)) (Update.grad (fun d (i : S512x1024.Idx) => (m ((c.tc : Thread nD τ).loc main_arg3)) (ix3 d (i 0) (i 1)))), ?_, ?_⟩
  · refine (θ_run defs _ _).mono (fun r h c => ?_) (Value.run_blocks (F := Ideal) m ρ)
    have h := h c
    rw [final4, final5, final6, final7] at h
    exact h
  · refine (θ_run Cert.UpdMlpOutRefIdeal.defs _ _).mono (fun r h c => ?_) (Cert.UpdMlpOutRefIdeal.Call.run_ref m' ρ')
    obtain ⟨e0, e1, e2, e3⟩ := hag c
    have h := h c
    rw [e0, e1, e2, e3] at h
    rw [e0, e1, e2, e3]
    exact h

end Cert.UpdMlpOutIdeal.Claims
end
-- ==== Proof.UpdMlpInCall.lean ====
/-
  The AdamW step of one device's shard of a weight, by row blocks; and the claims.
-/
module
public import proofs.«01_k».proof.Defs
public import proofs.«01_k».proof.Proof.Gen.UpdMlpInIdeal.Value
public import proofs.«01_k».proof.Proof.Gen.UpdMlpInRefIdeal.Run
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Update
@[expose] public section
set_option maxRecDepth 16384
noncomputable section
namespace Cert.UpdMlpInIdeal.Call
open Cert Cert.UpdMlpInIdeal Cert.UpdMlpInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

theorem N4 : cfg0.N = 4 := N_0

/-- The array row that row `r` of point `t`'s block is. -/
def row (t : Fin cfg0.N) (r : Fin 256) : Fin 1024 := ⟨t.val * 256 + r.val, by have := t.isLt; have := N4; omega⟩

theorem hz : (![0, 0] : Fin 2 → Nat) = fun _ => 0 := funext fun a => by fin_cases a <;> rfl

theorem off0 : ∀ t : Fin cfg0.N, win0_0.index t 0 * win0_0.size 0 = t.val * 256 ∧ win0_0.index t 1 * win0_0.size 1 = 0 :=
  (by decide +kernel : ∀ t : Fin grid0.N, win0_0.index t 0 * win0_0.size 0 = t.val * 256 ∧ win0_0.index t 1 * win0_0.size 1 = 0)
theorem iblk0_apply (c : Dev nD) (t : Fin cfg0.N) (r : Fin 256) (k : Fin 512) :
    (iblk m c 0 t : S256x512.Idx → EReal) (ix2 r k) = m ((c : Thread nD τ).loc main_arg0) (ix2 (row t r) k) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val * 256 + r.val
              rw [(off0 t).1]; omega
  | ⟨1, _⟩ => show win0_0.index t 1 * win0_0.size 1 + 1 * k.val = k.val
              rw [(off0 t).2]; omega

theorem off1 : ∀ t : Fin cfg0.N, win0_1.index t 0 * win0_1.size 0 = t.val * 256 ∧ win0_1.index t 1 * win0_1.size 1 = 0 :=
  (by decide +kernel : ∀ t : Fin grid0.N, win0_1.index t 0 * win0_1.size 0 = t.val * 256 ∧ win0_1.index t 1 * win0_1.size 1 = 0)
theorem iblk1_apply (c : Dev nD) (t : Fin cfg0.N) (r : Fin 256) (k : Fin 512) :
    (iblk m c 1 t : S256x512.Idx → EReal) (ix2 r k) = m ((c : Thread nD τ).loc main_arg1) (ix2 (row t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val * 256 + r.val
              rw [(off1 t).1]; omega
  | ⟨1, _⟩ => show win0_1.index t 1 * win0_1.size 1 + 1 * k.val = k.val
              rw [(off1 t).2]; omega

theorem off2 : ∀ t : Fin cfg0.N, win0_2.index t 0 * win0_2.size 0 = t.val * 256 ∧ win0_2.index t 1 * win0_2.size 1 = 0 :=
  (by decide +kernel : ∀ t : Fin grid0.N, win0_2.index t 0 * win0_2.size 0 = t.val * 256 ∧ win0_2.index t 1 * win0_2.size 1 = 0)
theorem iblk2_apply (c : Dev nD) (t : Fin cfg0.N) (r : Fin 256) (k : Fin 512) :
    (iblk m c 2 t : S256x512.Idx → EReal) (ix2 r k) = m ((c : Thread nD τ).loc main_arg2) (ix2 (row t r) k) := by
  unfold iblk
  show V m c main_arg2 ((win0_2.rect t).idx (ix2 r k)) = _
  rw [V_main_arg2]
  refine congrArg _ (funext fun a => Fin.ext ?_)
  match a with
  | ⟨0, _⟩ => show win0_2.index t 0 * win0_2.size 0 + 1 * r.val = t.val * 256 + r.val
              rw [(off2 t).1]; omega
  | ⟨1, _⟩ => show win0_2.index t 1 * win0_2.size 1 + 1 * k.val = k.val
              rw [(off2 t).2]; omega

theorem off3 : ∀ t : Fin cfg0.N, win0_3.index t 0 * win0_3.size 0 = 0 ∧ win0_3.index t 1 * win0_3.size 1 = t.val * 256 ∧ win0_3.index t 2 * win0_3.size 2 = 0 :=
  (by decide +kernel : ∀ t : Fin grid0.N, win0_3.index t 0 * win0_3.size 0 = 0 ∧ win0_3.index t 1 * win0_3.size 1 = t.val * 256 ∧ win0_3.index t 2 * win0_3.size 2 = 0)
theorem iblk3_apply (c : Dev nD) (t : Fin cfg0.N) (s : Fin 8) (r : Fin 256) (k : Fin 512) :
    (iblk m c 3 t : S8x256x512.Idx → EReal) (ix3 s r k) = m ((c : Thread nD τ).loc main_arg3) (ix3 s (row t r) k) := by
  unfold iblk
  show V m c main_arg3 ((win0_3.rect t).idx (ix3 s r k)) = _
  rw [V_main_arg3]
  refine congrArg _ (funext fun a => Fin.ext ?_)
  match a with
  | ⟨0, _⟩ => show win0_3.index t 0 * win0_3.size 0 + 1 * s.val = s.val
              rw [(off3 t).1]; omega
  | ⟨1, _⟩ => show win0_3.index t 1 * win0_3.size 1 + 1 * r.val = t.val * 256 + r.val
              rw [(off3 t).2.1]; omega
  | ⟨2, _⟩ => show win0_3.index t 2 * win0_3.size 2 + 1 * k.val = k.val
              rw [(off3 t).2.2]; omega

theorem off4 : ∀ t : Fin cfg0.N, win0_4.index t 0 * win0_4.size 0 = t.val * 256 ∧ win0_4.index t 1 * win0_4.size 1 = 0 :=
  (by decide +kernel : ∀ t : Fin grid0.N, win0_4.index t 0 * win0_4.size 0 = t.val * 256 ∧ win0_4.index t 1 * win0_4.size 1 = 0)
/-- An array read through point `t`'s block of window 4. -/
theorem read4_apply (X : Arr S1024x512) (t : Fin cfg0.N) (r : Fin 256) (k : Fin 512) :
    ((win0_4.blk t).view.read (Elt Ideal) X : S256x512.Idx → EReal) (ix2 r k) = X (ix2 (row t r) k) := by
  show X ((win0_4.rect t).idx (ix2 r k)) = _
  refine congrArg _ (funext fun a => Fin.ext ?_)
  match a with
  | ⟨0, _⟩ => show win0_4.index t 0 * win0_4.size 0 + 1 * r.val = t.val * 256 + r.val
              rw [(off4 t).1]; omega
  | ⟨1, _⟩ => show win0_4.index t 1 * win0_4.size 1 + 1 * k.val = k.val
              rw [(off4 t).2]; omega

/-- Every index of the array is in the block of a point that writes back. -/
theorem cover4 (i : S1024x512.Idx) : ∃ t : Fin cfg0.N, (cfg0.win 4).flush t = true ∧ i ∈ ((cfg0.win 4).blk t).view.set := by
  have h0 : (i 0 : Nat) < 1024 := (i 0).isLt
  have h1 : (i 1 : Nat) < 512 := (i 1).isLt
  have hN : cfg0.N = 4 := N_0
  obtain ⟨t, ht⟩ : ∃ t : Fin cfg0.N, t.val = (i 0).val / 256 := ⟨⟨(i 0).val / 256, by omega⟩, rfl⟩
  refine ⟨t, flush0_4 t, ?_⟩
  show i ∈ ((View.whole main_v0_0).slice (win0_4.rect t)).set
  rw [View.set_slice_whole, Rect.mem_set_unit]
  intro a
  match a with
  | ⟨0, _⟩ => show win0_4.index t 0 * win0_4.size 0 ≤ (i 0 : Nat) ∧ (i 0 : Nat) < win0_4.index t 0 * win0_4.size 0 + 256
              rw [(off4 t).1]; omega
  | ⟨1, _⟩ => show win0_4.index t 1 * win0_4.size 1 ≤ (i 1 : Nat) ∧ (i 1 : Nat) < win0_4.index t 1 * win0_4.size 1 + 512
              rw [(off4 t).2]; omega

theorem off5 : ∀ t : Fin cfg0.N, win0_5.index t 0 * win0_5.size 0 = t.val * 256 ∧ win0_5.index t 1 * win0_5.size 1 = 0 :=
  (by decide +kernel : ∀ t : Fin grid0.N, win0_5.index t 0 * win0_5.size 0 = t.val * 256 ∧ win0_5.index t 1 * win0_5.size 1 = 0)
/-- An array read through point `t`'s block of window 5. -/
theorem read5_apply (X : Arr S1024x512) (t : Fin cfg0.N) (r : Fin 256) (k : Fin 512) :
    ((win0_5.blk t).view.read (Elt Ideal) X : S256x512.Idx → EReal) (ix2 r k) = X (ix2 (row t r) k) := by
  show X ((win0_5.rect t).idx (ix2 r k)) = _
  refine congrArg _ (funext fun a => Fin.ext ?_)
  match a with
  | ⟨0, _⟩ => show win0_5.index t 0 * win0_5.size 0 + 1 * r.val = t.val * 256 + r.val
              rw [(off5 t).1]; omega
  | ⟨1, _⟩ => show win0_5.index t 1 * win0_5.size 1 + 1 * k.val = k.val
              rw [(off5 t).2]; omega

/-- Every index of the array is in the block of a point that writes back. -/
theorem cover5 (i : S1024x512.Idx) : ∃ t : Fin cfg0.N, (cfg0.win 5).flush t = true ∧ i ∈ ((cfg0.win 5).blk t).view.set := by
  have h0 : (i 0 : Nat) < 1024 := (i 0).isLt
  have h1 : (i 1 : Nat) < 512 := (i 1).isLt
  have hN : cfg0.N = 4 := N_0
  obtain ⟨t, ht⟩ : ∃ t : Fin cfg0.N, t.val = (i 0).val / 256 := ⟨⟨(i 0).val / 256, by omega⟩, rfl⟩
  refine ⟨t, flush0_5 t, ?_⟩
  show i ∈ ((View.whole main_v0_1).slice (win0_5.rect t)).set
  rw [View.set_slice_whole, Rect.mem_set_unit]
  intro a
  match a with
  | ⟨0, _⟩ => show win0_5.index t 0 * win0_5.size 0 ≤ (i 0 : Nat) ∧ (i 0 : Nat) < win0_5.index t 0 * win0_5.size 0 + 256
              rw [(off5 t).1]; omega
  | ⟨1, _⟩ => show win0_5.index t 1 * win0_5.size 1 ≤ (i 1 : Nat) ∧ (i 1 : Nat) < win0_5.index t 1 * win0_5.size 1 + 512
              rw [(off5 t).2]; omega

theorem off6 : ∀ t : Fin cfg0.N, win0_6.index t 0 * win0_6.size 0 = t.val * 256 ∧ win0_6.index t 1 * win0_6.size 1 = 0 :=
  (by decide +kernel : ∀ t : Fin grid0.N, win0_6.index t 0 * win0_6.size 0 = t.val * 256 ∧ win0_6.index t 1 * win0_6.size 1 = 0)
/-- An array read through point `t`'s block of window 6. -/
theorem read6_apply (X : Arr S1024x512) (t : Fin cfg0.N) (r : Fin 256) (k : Fin 512) :
    ((win0_6.blk t).view.read (Elt Ideal) X : S256x512.Idx → EReal) (ix2 r k) = X (ix2 (row t r) k) := by
  show X ((win0_6.rect t).idx (ix2 r k)) = _
  refine congrArg _ (funext fun a => Fin.ext ?_)
  match a with
  | ⟨0, _⟩ => show win0_6.index t 0 * win0_6.size 0 + 1 * r.val = t.val * 256 + r.val
              rw [(off6 t).1]; omega
  | ⟨1, _⟩ => show win0_6.index t 1 * win0_6.size 1 + 1 * k.val = k.val
              rw [(off6 t).2]; omega

/-- Every index of the array is in the block of a point that writes back. -/
theorem cover6 (i : S1024x512.Idx) : ∃ t : Fin cfg0.N, (cfg0.win 6).flush t = true ∧ i ∈ ((cfg0.win 6).blk t).view.set := by
  have h0 : (i 0 : Nat) < 1024 := (i 0).isLt
  have h1 : (i 1 : Nat) < 512 := (i 1).isLt
  have hN : cfg0.N = 4 := N_0
  obtain ⟨t, ht⟩ : ∃ t : Fin cfg0.N, t.val = (i 0).val / 256 := ⟨⟨(i 0).val / 256, by omega⟩, rfl⟩
  refine ⟨t, flush0_6 t, ?_⟩
  show i ∈ ((View.whole main_v0_2).slice (win0_6.rect t)).set
  rw [View.set_slice_whole, Rect.mem_set_unit]
  intro a
  match a with
  | ⟨0, _⟩ => show win0_6.index t 0 * win0_6.size 0 ≤ (i 0 : Nat) ∧ (i 0 : Nat) < win0_6.index t 0 * win0_6.size 0 + 256
              rw [(off6 t).1]; omega
  | ⟨1, _⟩ => show win0_6.index t 1 * win0_6.size 1 ≤ (i 1 : Nat) ∧ (i 1 : Nat) < win0_6.index t 1 * win0_6.size 1 + 512
              rw [(off6 t).2]; omega

theorem off7 : ∀ t : Fin cfg0.N, win0_7.index t 0 * win0_7.size 0 = t.val * 256 ∧ win0_7.index t 1 * win0_7.size 1 = 0 :=
  (by decide +kernel : ∀ t : Fin grid0.N, win0_7.index t 0 * win0_7.size 0 = t.val * 256 ∧ win0_7.index t 1 * win0_7.size 1 = 0)
/-- An array read through point `t`'s block of window 7. -/
theorem read7_apply (X : Arr S1024x512) (t : Fin cfg0.N) (r : Fin 256) (k : Fin 512) :
    ((win0_7.blk t).view.read (Elt Ideal) X : S256x512.Idx → EReal) (ix2 r k) = X (ix2 (row t r) k) := by
  show X ((win0_7.rect t).idx (ix2 r k)) = _
  refine congrArg _ (funext fun a => Fin.ext ?_)
  match a with
  | ⟨0, _⟩ => show win0_7.index t 0 * win0_7.size 0 + 1 * r.val = t.val * 256 + r.val
              rw [(off7 t).1]; omega
  | ⟨1, _⟩ => show win0_7.index t 1 * win0_7.size 1 + 1 * k.val = k.val
              rw [(off7 t).2]; omega

/-- Every index of the array is in the block of a point that writes back. -/
theorem cover7 (i : S1024x512.Idx) : ∃ t : Fin cfg0.N, (cfg0.win 7).flush t = true ∧ i ∈ ((cfg0.win 7).blk t).view.set := by
  have h0 : (i 0 : Nat) < 1024 := (i 0).isLt
  have h1 : (i 1 : Nat) < 512 := (i 1).isLt
  have hN : cfg0.N = 4 := N_0
  obtain ⟨t, ht⟩ : ∃ t : Fin cfg0.N, t.val = (i 0).val / 256 := ⟨⟨(i 0).val / 256, by omega⟩, rfl⟩
  refine ⟨t, flush0_7 t, ?_⟩
  show i ∈ ((View.whole main_v0_3).slice (win0_7.rect t)).set
  rw [View.set_slice_whole, Rect.mem_set_unit]
  intro a
  match a with
  | ⟨0, _⟩ => show win0_7.index t 0 * win0_7.size 0 ≤ (i 0 : Nat) ∧ (i 0 : Nat) < win0_7.index t 0 * win0_7.size 0 + 256
              rw [(off7 t).1]; omega
  | ⟨1, _⟩ => show win0_7.index t 1 * win0_7.size 1 ≤ (i 1 : Nat) ∧ (i 1 : Nat) < win0_7.index t 1 * win0_7.size 1 + 512
              rw [(off7 t).2]; omega

set_option maxHeartbeats 1000000 in
/-- What point `t` writes back is block `t` of the array's function. -/
theorem flush_eq4 (c : Dev nD) (t : Fin cfg0.N) :
    (dats m 0 c).flushed 4 t = (win0_4.blk t).view.read (Elt Ideal) (Update.grad (fun d (i : S1024x512.Idx) => (m ((c : Thread nD τ).loc main_arg3)) (ix3 d (i 0) (i 1)))) := by
  show (cfg0.win 4).cut (grid0.coords t) ((dats m 0 c).after 4 t) = _
  rw [after0_4]
  unfold out0_4
  rw [View.canon_unit_zero hz]
  refine funext fun (j : S256x512.Idx) => ?_
  idx_vars j
  refine Eq.trans ?_ (read4_apply _ t j0 j1).symm
  show (k0_pay1 (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final4 (c : Dev nD) : (dats m 0 c).arrAt 4 cfg0.N = Update.grad (fun d (i : S1024x512.Idx) => (m ((c : Thread nD τ).loc main_arg3)) (ix3 d (i 0) (i 1))) :=
  (dats m 0 c).arrAt_eq_of_cover 4 _ (fun t _ => flush_eq4 m c t) cover4

set_option maxHeartbeats 1000000 in
/-- What point `t` writes back is block `t` of the array's function. -/
theorem flush_eq5 (c : Dev nD) (t : Fin cfg0.N) :
    (dats m 0 c).flushed 5 t = (win0_5.blk t).view.read (Elt Ideal) (Update.delta (m ((c : Thread nD τ).loc main_arg0)) (m ((c : Thread nD τ).loc main_arg1)) (m ((c : Thread nD τ).loc main_arg2)) (Update.grad (fun d (i : S1024x512.Idx) => (m ((c : Thread nD τ).loc main_arg3)) (ix3 d (i 0) (i 1))))) := by
  show (cfg0.win 5).cut (grid0.coords t) ((dats m 0 c).after 5 t) = _
  rw [after0_5]
  unfold out0_5
  rw [View.canon_unit_zero hz]
  refine funext fun (j : S256x512.Idx) => ?_
  idx_vars j
  refine Eq.trans ?_ (read5_apply _ t j0 j1).symm
  show (k0_pay4 (View.ld (iblk m c 0 t) r0_0) (View.ld (iblk m c 1 t) r0_0) (View.ld (iblk m c 2 t) r0_0) (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final5 (c : Dev nD) : (dats m 0 c).arrAt 5 cfg0.N = Update.delta (m ((c : Thread nD τ).loc main_arg0)) (m ((c : Thread nD τ).loc main_arg1)) (m ((c : Thread nD τ).loc main_arg2)) (Update.grad (fun d (i : S1024x512.Idx) => (m ((c : Thread nD τ).loc main_arg3)) (ix3 d (i 0) (i 1)))) :=
  (dats m 0 c).arrAt_eq_of_cover 5 _ (fun t _ => flush_eq5 m c t) cover5

set_option maxHeartbeats 1000000 in
/-- What point `t` writes back is block `t` of the array's function. -/
theorem flush_eq6 (c : Dev nD) (t : Fin cfg0.N) :
    (dats m 0 c).flushed 6 t = (win0_6.blk t).view.read (Elt Ideal) (Update.first (m ((c : Thread nD τ).loc main_arg1)) (Update.grad (fun d (i : S1024x512.Idx) => (m ((c : Thread nD τ).loc main_arg3)) (ix3 d (i 0) (i 1))))) := by
  show (cfg0.win 6).cut (grid0.coords t) ((dats m 0 c).after 6 t) = _
  rw [after0_6]
  unfold out0_6
  rw [View.canon_unit_zero hz]
  refine funext fun (j : S256x512.Idx) => ?_
  idx_vars j
  refine Eq.trans ?_ (read6_apply _ t j0 j1).symm
  show (k0_pay2 (View.ld (iblk m c 1 t) r0_0) (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final6 (c : Dev nD) : (dats m 0 c).arrAt 6 cfg0.N = Update.first (m ((c : Thread nD τ).loc main_arg1)) (Update.grad (fun d (i : S1024x512.Idx) => (m ((c : Thread nD τ).loc main_arg3)) (ix3 d (i 0) (i 1)))) :=
  (dats m 0 c).arrAt_eq_of_cover 6 _ (fun t _ => flush_eq6 m c t) cover6

set_option maxHeartbeats 1000000 in
/-- What point `t` writes back is block `t` of the array's function. -/
theorem flush_eq7 (c : Dev nD) (t : Fin cfg0.N) :
    (dats m 0 c).flushed 7 t = (win0_7.blk t).view.read (Elt Ideal) (Update.second (m ((c : Thread nD τ).loc main_arg2)) (Update.grad (fun d (i : S1024x512.Idx) => (m ((c : Thread nD τ).loc main_arg3)) (ix3 d (i 0) (i 1))))) := by
  show (cfg0.win 7).cut (grid0.coords t) ((dats m 0 c).after 7 t) = _
  rw [after0_7]
  unfold out0_7
  rw [View.canon_unit_zero hz]
  refine funext fun (j : S256x512.Idx) => ?_
  idx_vars j
  refine Eq.trans ?_ (read7_apply _ t j0 j1).symm
  show (k0_pay3 (View.ld (iblk m c 2 t) r0_0) (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final7 (c : Dev nD) : (dats m 0 c).arrAt 7 cfg0.N = Update.second (m ((c : Thread nD τ).loc main_arg2)) (Update.grad (fun d (i : S1024x512.Idx) => (m ((c : Thread nD τ).loc main_arg3)) (ix3 d (i 0) (i 1)))) :=
  (dats m 0 c).arrAt_eq_of_cover 7 _ (fun t _ => flush_eq7 m c t) cover7

end Cert.UpdMlpInIdeal.Call

namespace Cert.UpdMlpInRefIdeal.Call
open Cert Cert.UpdMlpInRefIdeal Cert.UpdMlpInRefIdeal.Gen Idealize.ShloMosaic Idealize.ShloMosaic.TcCoe Idealize.SL.Sem

/-- The reference's sum over the first extent is the sum of the eight summands. -/
theorem sum_S1024x512 (P : FVec Ideal S8x1024x512 .bf16) :
    Host.reduceAdd (extf .f32 P bitsLt_bf16_f32) (constant S_ .f32 0x00000000#32) reducesTo_S8x1024x512_S1024x512_d0 h_S_
      = Update.grad (fun d (i : S1024x512.Idx) => P (ix3 d (i 0) (i 1))) := by
  refine funext fun (i : S1024x512.Idx) => ?_
  idx_vars i
  pointwise
  rfl

set_option maxHeartbeats 2000000 in
/-- The reference's run: its results as functions of its arguments, which it leaves. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = Update.grad (fun d (i : S1024x512.Idx) => (m ((c.tc : Thread nD τ).loc main_arg3)) (ix3 d (i 0) (i 1)))
      ∧ r.2.mem ((c.tc : Thread nD τ).loc main_v25) = Update.delta (m ((c.tc : Thread nD τ).loc main_arg0)) (m ((c.tc : Thread nD τ).loc main_arg1)) (m ((c.tc : Thread nD τ).loc main_arg2)) (Update.grad (fun d (i : S1024x512.Idx) => (m ((c.tc : Thread nD τ).loc main_arg3)) (ix3 d (i 0) (i 1))))
      ∧ r.2.mem ((c.tc : Thread nD τ).loc main_v6) = Update.first (m ((c.tc : Thread nD τ).loc main_arg1)) (Update.grad (fun d (i : S1024x512.Idx) => (m ((c.tc : Thread nD τ).loc main_arg3)) (ix3 d (i 0) (i 1))))
      ∧ r.2.mem ((c.tc : Thread nD τ).loc main_v12) = Update.second (m ((c.tc : Thread nD τ).loc main_arg2)) (Update.grad (fun d (i : S1024x512.Idx) => (m ((c.tc : Thread nD τ).loc main_arg3)) (ix3 d (i 0) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run (F := Ideal) m ρ)
  obtain ⟨h0, h1, h2, h3, h⟩ := h c
  refine ⟨h0.trans ?_, h1.trans ?_, h2.trans ?_, h3.trans ?_, h⟩
  · exact sum_S1024x512 _
  · rw [sum_S1024x512]; rfl
  · rw [sum_S1024x512]; rfl
  · rw [sum_S1024x512]; rfl

end Cert.UpdMlpInRefIdeal.Call

namespace Cert.UpdMlpInIdeal.Claims
open Cert Cert.UpdMlpInIdeal Cert.UpdMlpInIdeal.Gen Cert.UpdMlpInIdeal.Call Idealize.ShloMosaic Idealize.ShloMosaic.TcCoe Idealize.SL.Sem

/-- The reference's frame: its host operations leave the arguments, and it declares no semaphore. -/
theorem frame_ref : Cert.quiescent_UpdMlpInRefIdeal := fun m ρ _ =>
  (θ_run Cert.UpdMlpInRefIdeal.defs _ _).mono (fun r h => ⟨fun c => (h c).2.2.2.2,
      Idealize.ShloMosaic.sem_eq_zero_of_no_sems (by decide) r.2⟩)
    (Cert.UpdMlpInRefIdeal.Value.run (F := Ideal) m ρ)

set_option maxHeartbeats 2000000 in
/-- The call's results are the reference's, whatever the arguments hold. -/
theorem algebraic : Cert.algebraic_UpdMlpInIdeal_UpdMlpInRefIdeal := by
  intro m ρ m' ρ' _ hag
  refine ⟨fun c => Update.grad (fun d (i : S1024x512.Idx) => (m ((c.tc : Thread nD τ).loc main_arg3)) (ix3 d (i 0) (i 1))),
    fun c => Update.delta (m ((c.tc : Thread nD τ).loc main_arg0)) (m ((c.tc : Thread nD τ).loc main_arg1)) (m ((c.tc : Thread nD τ).loc main_arg2)) (Update.grad (fun d (i : S1024x512.Idx) => (m ((c.tc : Thread nD τ).loc main_arg3)) (ix3 d (i 0) (i 1)))),
    fun c => Update.first (m ((c.tc : Thread nD τ).loc main_arg1)) (Update.grad (fun d (i : S1024x512.Idx) => (m ((c.tc : Thread nD τ).loc main_arg3)) (ix3 d (i 0) (i 1)))),
    fun c => Update.second (m ((c.tc : Thread nD τ).loc main_arg2)) (Update.grad (fun d (i : S1024x512.Idx) => (m ((c.tc : Thread nD τ).loc main_arg3)) (ix3 d (i 0) (i 1)))), ?_, ?_⟩
  · refine (θ_run defs _ _).mono (fun r h c => ?_) (Value.run_blocks (F := Ideal) m ρ)
    have h := h c
    rw [final4, final5, final6, final7] at h
    exact h
  · refine (θ_run Cert.UpdMlpInRefIdeal.defs _ _).mono (fun r h c => ?_) (Cert.UpdMlpInRefIdeal.Call.run_ref m' ρ')
    obtain ⟨e0, e1, e2, e3⟩ := hag c
    have h := h c
    rw [e0, e1, e2, e3] at h
    rw [e0, e1, e2, e3]
    exact h

end Cert.UpdMlpInIdeal.Claims
end
-- ==== Proof.UpdOutCall.lean ====
/-
  The AdamW step of one device's shard of a weight; and the claims.
-/
module
public import proofs.«01_k».proof.Defs
public import proofs.«01_k».proof.Proof.Gen.UpdOutIdeal.Value
public import proofs.«01_k».proof.Proof.Gen.UpdOutRefIdeal.Run
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Update
@[expose] public section
set_option maxRecDepth 16384
noncomputable section
namespace Cert.UpdOutIdeal.Call
open Cert Cert.UpdOutIdeal Cert.UpdOutIdeal.Gen Idealize.ShloMosaic Idealize.ShloMosaic.TcCoe Idealize.SL.Sem
open Idealize.ShloMosaic.Pipeline (Dat)

/-- An array of reals of the given extents. -/
abbrev Arr (s : Shape) := s.Idx → EReal

variable (a0 a1 a2 : Arr S128x1024)
variable (a3 : Arr S8x128x1024)

set_option maxHeartbeats 1000000 in
/-- Result 0 of the call, as a function of its arguments. -/
theorem out4 : Value.G4 (F := Ideal) a0 a1 a2 a3 = Update.grad (fun d (i : S128x1024.Idx) => a3 (ix3 d (i 0) (i 1))) := by
  refine funext fun (j : S128x1024.Idx) => ?_
  idx_vars j
  pointwise [k0_pay1, k0_pay6, k0_pay5]
  simp only [Update.delta, Update.first, Update.second, Update.grad_apply]
  rfl

set_option maxHeartbeats 1000000 in
/-- Result 1 of the call, as a function of its arguments. -/
theorem out5 : Value.G5 (F := Ideal) a0 a1 a2 a3 = Update.delta a0 a1 a2 (Update.grad (fun d (i : S128x1024.Idx) => a3 (ix3 d (i 0) (i 1)))) := by
  refine funext fun (j : S128x1024.Idx) => ?_
  idx_vars j
  pointwise [k0_pay4, k0_pay6, k0_pay2, k0_pay3, k0_pay5, k0_pay1]
  simp only [Update.delta, Update.first, Update.second, Update.grad_apply]
  rfl

set_option maxHeartbeats 1000000 in
/-- Result 2 of the call, as a function of its arguments. -/
theorem out6 : Value.G6 (F := Ideal) a0 a1 a2 a3 = Update.first a1 (Update.grad (fun d (i : S128x1024.Idx) => a3 (ix3 d (i 0) (i 1)))) := by
  refine funext fun (j : S128x1024.Idx) => ?_
  idx_vars j
  pointwise [k0_pay2, k0_pay6, k0_pay1, k0_pay5]
  simp only [Update.delta, Update.first, Update.second, Update.grad_apply]
  rfl

set_option maxHeartbeats 1000000 in
/-- Result 3 of the call, as a function of its arguments. -/
theorem out7 : Value.G7 (F := Ideal) a0 a1 a2 a3 = Update.second a2 (Update.grad (fun d (i : S128x1024.Idx) => a3 (ix3 d (i 0) (i 1)))) := by
  refine funext fun (j : S128x1024.Idx) => ?_
  idx_vars j
  pointwise [k0_pay3, k0_pay6, k0_pay1, k0_pay5]
  simp only [Update.delta, Update.first, Update.second, Update.grad_apply]
  rfl

end Cert.UpdOutIdeal.Call

namespace Cert.UpdOutRefIdeal.Call
open Cert Cert.UpdOutRefIdeal Cert.UpdOutRefIdeal.Gen Idealize.ShloMosaic Idealize.ShloMosaic.TcCoe Idealize.SL.Sem

/-- The reference's sum over the first extent is the sum of the eight summands. -/
theorem sum_S128x1024 (P : FVec Ideal S8x128x1024 .bf16) :
    Host.reduceAdd (extf .f32 P bitsLt_bf16_f32) (constant S_ .f32 0x00000000#32) reducesTo_S8x128x1024_S128x1024_d0 h_S_
      = Update.grad (fun d (i : S128x1024.Idx) => P (ix3 d (i 0) (i 1))) := by
  refine funext fun (i : S128x1024.Idx) => ?_
  idx_vars i
  pointwise
  rfl

set_option maxHeartbeats 2000000 in
/-- The reference's run: its results as functions of its arguments, which it leaves. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = Update.grad (fun d (i : S128x1024.Idx) => (m ((c.tc : Thread nD τ).loc main_arg3)) (ix3 d (i 0) (i 1)))
      ∧ r.2.mem ((c.tc : Thread nD τ).loc main_v25) = Update.delta (m ((c.tc : Thread nD τ).loc main_arg0)) (m ((c.tc : Thread nD τ).loc main_arg1)) (m ((c.tc : Thread nD τ).loc main_arg2)) (Update.grad (fun d (i : S128x1024.Idx) => (m ((c.tc : Thread nD τ).loc main_arg3)) (ix3 d (i 0) (i 1))))
      ∧ r.2.mem ((c.tc : Thread nD τ).loc main_v6) = Update.first (m ((c.tc : Thread nD τ).loc main_arg1)) (Update.grad (fun d (i : S128x1024.Idx) => (m ((c.tc : Thread nD τ).loc main_arg3)) (ix3 d (i 0) (i 1))))
      ∧ r.2.mem ((c.tc : Thread nD τ).loc main_v12) = Update.second (m ((c.tc : Thread nD τ).loc main_arg2)) (Update.grad (fun d (i : S128x1024.Idx) => (m ((c.tc : Thread nD τ).loc main_arg3)) (ix3 d (i 0) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run (F := Ideal) m ρ)
  obtain ⟨h0, h1, h2, h3, h⟩ := h c
  refine ⟨h0.trans ?_, h1.trans ?_, h2.trans ?_, h3.trans ?_, h⟩
  · exact sum_S128x1024 _
  · rw [sum_S128x1024]; rfl
  · rw [sum_S128x1024]; rfl
  · rw [sum_S128x1024]; rfl

end Cert.UpdOutRefIdeal.Call

namespace Cert.UpdOutIdeal.Claims
open Cert Cert.UpdOutIdeal Cert.UpdOutIdeal.Gen Cert.UpdOutIdeal.Call Idealize.ShloMosaic Idealize.ShloMosaic.TcCoe Idealize.SL.Sem

/-- The reference's frame: its host operations leave the arguments, and it declares no semaphore. -/
theorem frame_ref : Cert.quiescent_UpdOutRefIdeal := fun m ρ _ =>
  (θ_run Cert.UpdOutRefIdeal.defs _ _).mono (fun r h => ⟨fun c => (h c).2.2.2.2,
      Idealize.ShloMosaic.sem_eq_zero_of_no_sems (by decide) r.2⟩)
    (Cert.UpdOutRefIdeal.Value.run (F := Ideal) m ρ)

set_option maxHeartbeats 2000000 in
/-- The call's results are the reference's, whatever the arguments hold. -/
theorem algebraic : Cert.algebraic_UpdOutIdeal_UpdOutRefIdeal := by
  intro m ρ m' ρ' _ hag
  refine ⟨fun c => Update.grad (fun d (i : S128x1024.Idx) => (m ((c.tc : Thread nD τ).loc main_arg3)) (ix3 d (i 0) (i 1))),
    fun c => Update.delta (m ((c.tc : Thread nD τ).loc main_arg0)) (m ((c.tc : Thread nD τ).loc main_arg1)) (m ((c.tc : Thread nD τ).loc main_arg2)) (Update.grad (fun d (i : S128x1024.Idx) => (m ((c.tc : Thread nD τ).loc main_arg3)) (ix3 d (i 0) (i 1)))),
    fun c => Update.first (m ((c.tc : Thread nD τ).loc main_arg1)) (Update.grad (fun d (i : S128x1024.Idx) => (m ((c.tc : Thread nD τ).loc main_arg3)) (ix3 d (i 0) (i 1)))),
    fun c => Update.second (m ((c.tc : Thread nD τ).loc main_arg2)) (Update.grad (fun d (i : S128x1024.Idx) => (m ((c.tc : Thread nD τ).loc main_arg3)) (ix3 d (i 0) (i 1)))), ?_, ?_⟩
  · refine (θ_run defs _ _).mono (fun r h c => ?_) (Value.run (F := Ideal) m ρ)
    have h := h c
    rw [out4, out5, out6, out7] at h
    exact h
  · refine (θ_run Cert.UpdOutRefIdeal.defs _ _).mono (fun r h c => ?_) (Cert.UpdOutRefIdeal.Call.run_ref m' ρ')
    obtain ⟨e0, e1, e2, e3⟩ := hag c
    have h := h c
    rw [e0, e1, e2, e3] at h
    rw [e0, e1, e2, e3]
    exact h

end Cert.UpdOutIdeal.Claims
end
-- ==== Proof.UpdBranchCall.lean ====
/-
  The AdamW step of one device's shard of a weight, by row blocks; and the claims.
-/
module
public import proofs.«01_k».proof.Defs
public import proofs.«01_k».proof.Proof.Gen.UpdBranchIdeal.Value
public import proofs.«01_k».proof.Proof.Gen.UpdBranchRefIdeal.Run
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Update
@[expose] public section
set_option maxRecDepth 16384
noncomputable section
namespace Cert.UpdBranchIdeal.Call
open Cert Cert.UpdBranchIdeal Cert.UpdBranchIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

theorem N2 : cfg0.N = 2 := N_0

/-- The array row that row `r` of point `t`'s block is. -/
def row (t : Fin cfg0.N) (r : Fin 96) : Fin 192 := ⟨t.val * 96 + r.val, by have := t.isLt; have := N2; omega⟩

theorem hz : (![0, 0] : Fin 2 → Nat) = fun _ => 0 := funext fun a => by fin_cases a <;> rfl

theorem off0 : ∀ t : Fin cfg0.N, win0_0.index t 0 * win0_0.size 0 = t.val * 96 ∧ win0_0.index t 1 * win0_0.size 1 = 0 :=
  (by decide +kernel : ∀ t : Fin grid0.N, win0_0.index t 0 * win0_0.size 0 = t.val * 96 ∧ win0_0.index t 1 * win0_0.size 1 = 0)
theorem iblk0_apply (c : Dev nD) (t : Fin cfg0.N) (r : Fin 96) (k : Fin 1024) :
    (iblk m c 0 t : S96x1024.Idx → EReal) (ix2 r k) = m ((c : Thread nD τ).loc main_arg0) (ix2 (row t r) k) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val * 96 + r.val
              rw [(off0 t).1]; omega
  | ⟨1, _⟩ => show win0_0.index t 1 * win0_0.size 1 + 1 * k.val = k.val
              rw [(off0 t).2]; omega

theorem off1 : ∀ t : Fin cfg0.N, win0_1.index t 0 * win0_1.size 0 = t.val * 96 ∧ win0_1.index t 1 * win0_1.size 1 = 0 :=
  (by decide +kernel : ∀ t : Fin grid0.N, win0_1.index t 0 * win0_1.size 0 = t.val * 96 ∧ win0_1.index t 1 * win0_1.size 1 = 0)
theorem iblk1_apply (c : Dev nD) (t : Fin cfg0.N) (r : Fin 96) (k : Fin 1024) :
    (iblk m c 1 t : S96x1024.Idx → EReal) (ix2 r k) = m ((c : Thread nD τ).loc main_arg1) (ix2 (row t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val * 96 + r.val
              rw [(off1 t).1]; omega
  | ⟨1, _⟩ => show win0_1.index t 1 * win0_1.size 1 + 1 * k.val = k.val
              rw [(off1 t).2]; omega

theorem off2 : ∀ t : Fin cfg0.N, win0_2.index t 0 * win0_2.size 0 = t.val * 96 ∧ win0_2.index t 1 * win0_2.size 1 = 0 :=
  (by decide +kernel : ∀ t : Fin grid0.N, win0_2.index t 0 * win0_2.size 0 = t.val * 96 ∧ win0_2.index t 1 * win0_2.size 1 = 0)
theorem iblk2_apply (c : Dev nD) (t : Fin cfg0.N) (r : Fin 96) (k : Fin 1024) :
    (iblk m c 2 t : S96x1024.Idx → EReal) (ix2 r k) = m ((c : Thread nD τ).loc main_arg2) (ix2 (row t r) k) := by
  unfold iblk
  show V m c main_arg2 ((win0_2.rect t).idx (ix2 r k)) = _
  rw [V_main_arg2]
  refine congrArg _ (funext fun a => Fin.ext ?_)
  match a with
  | ⟨0, _⟩ => show win0_2.index t 0 * win0_2.size 0 + 1 * r.val = t.val * 96 + r.val
              rw [(off2 t).1]; omega
  | ⟨1, _⟩ => show win0_2.index t 1 * win0_2.size 1 + 1 * k.val = k.val
              rw [(off2 t).2]; omega

theorem off3 : ∀ t : Fin cfg0.N, win0_3.index t 0 * win0_3.size 0 = 0 ∧ win0_3.index t 1 * win0_3.size 1 = t.val * 96 ∧ win0_3.index t 2 * win0_3.size 2 = 0 :=
  (by decide +kernel : ∀ t : Fin grid0.N, win0_3.index t 0 * win0_3.size 0 = 0 ∧ win0_3.index t 1 * win0_3.size 1 = t.val * 96 ∧ win0_3.index t 2 * win0_3.size 2 = 0)
theorem iblk3_apply (c : Dev nD) (t : Fin cfg0.N) (s : Fin 8) (r : Fin 96) (k : Fin 1024) :
    (iblk m c 3 t : S8x96x1024.Idx → EReal) (ix3 s r k) = m ((c : Thread nD τ).loc main_arg3) (ix3 s (row t r) k) := by
  unfold iblk
  show V m c main_arg3 ((win0_3.rect t).idx (ix3 s r k)) = _
  rw [V_main_arg3]
  refine congrArg _ (funext fun a => Fin.ext ?_)
  match a with
  | ⟨0, _⟩ => show win0_3.index t 0 * win0_3.size 0 + 1 * s.val = s.val
              rw [(off3 t).1]; omega
  | ⟨1, _⟩ => show win0_3.index t 1 * win0_3.size 1 + 1 * r.val = t.val * 96 + r.val
              rw [(off3 t).2.1]; omega
  | ⟨2, _⟩ => show win0_3.index t 2 * win0_3.size 2 + 1 * k.val = k.val
              rw [(off3 t).2.2]; omega

theorem off4 : ∀ t : Fin cfg0.N, win0_4.index t 0 * win0_4.size 0 = t.val * 96 ∧ win0_4.index t 1 * win0_4.size 1 = 0 :=
  (by decide +kernel : ∀ t : Fin grid0.N, win0_4.index t 0 * win0_4.size 0 = t.val * 96 ∧ win0_4.index t 1 * win0_4.size 1 = 0)
/-- An array read through point `t`'s block of window 4. -/
theorem read4_apply (X : Arr S192x1024) (t : Fin cfg0.N) (r : Fin 96) (k : Fin 1024) :
    ((win0_4.blk t).view.read (Elt Ideal) X : S96x1024.Idx → EReal) (ix2 r k) = X (ix2 (row t r) k) := by
  show X ((win0_4.rect t).idx (ix2 r k)) = _
  refine congrArg _ (funext fun a => Fin.ext ?_)
  match a with
  | ⟨0, _⟩ => show win0_4.index t 0 * win0_4.size 0 + 1 * r.val = t.val * 96 + r.val
              rw [(off4 t).1]; omega
  | ⟨1, _⟩ => show win0_4.index t 1 * win0_4.size 1 + 1 * k.val = k.val
              rw [(off4 t).2]; omega

/-- Every index of the array is in the block of a point that writes back. -/
theorem cover4 (i : S192x1024.Idx) : ∃ t : Fin cfg0.N, (cfg0.win 4).flush t = true ∧ i ∈ ((cfg0.win 4).blk t).view.set := by
  have h0 : (i 0 : Nat) < 192 := (i 0).isLt
  have h1 : (i 1 : Nat) < 1024 := (i 1).isLt
  have hN : cfg0.N = 2 := N_0
  obtain ⟨t, ht⟩ : ∃ t : Fin cfg0.N, t.val = (i 0).val / 96 := ⟨⟨(i 0).val / 96, by omega⟩, rfl⟩
  refine ⟨t, flush0_4 t, ?_⟩
  show i ∈ ((View.whole main_v0_0).slice (win0_4.rect t)).set
  rw [View.set_slice_whole, Rect.mem_set_unit]
  intro a
  match a with
  | ⟨0, _⟩ => show win0_4.index t 0 * win0_4.size 0 ≤ (i 0 : Nat) ∧ (i 0 : Nat) < win0_4.index t 0 * win0_4.size 0 + 96
              rw [(off4 t).1]; omega
  | ⟨1, _⟩ => show win0_4.index t 1 * win0_4.size 1 ≤ (i 1 : Nat) ∧ (i 1 : Nat) < win0_4.index t 1 * win0_4.size 1 + 1024
              rw [(off4 t).2]; omega

theorem off5 : ∀ t : Fin cfg0.N, win0_5.index t 0 * win0_5.size 0 = t.val * 96 ∧ win0_5.index t 1 * win0_5.size 1 = 0 :=
  (by decide +kernel : ∀ t : Fin grid0.N, win0_5.index t 0 * win0_5.size 0 = t.val * 96 ∧ win0_5.index t 1 * win0_5.size 1 = 0)
/-- An array read through point `t`'s block of window 5. -/
theorem read5_apply (X : Arr S192x1024) (t : Fin cfg0.N) (r : Fin 96) (k : Fin 1024) :
    ((win0_5.blk t).view.read (Elt Ideal) X : S96x1024.Idx → EReal) (ix2 r k) = X (ix2 (row t r) k) := by
  show X ((win0_5.rect t).idx (ix2 r k)) = _
  refine congrArg _ (funext fun a => Fin.ext ?_)
  match a with
  | ⟨0, _⟩ => show win0_5.index t 0 * win0_5.size 0 + 1 * r.val = t.val * 96 + r.val
              rw [(off5 t).1]; omega
  | ⟨1, _⟩ => show win0_5.index t 1 * win0_5.size 1 + 1 * k.val = k.val
              rw [(off5 t).2]; omega

/-- Every index of the array is in the block of a point that writes back. -/
theorem cover5 (i : S192x1024.Idx) : ∃ t : Fin cfg0.N, (cfg0.win 5).flush t = true ∧ i ∈ ((cfg0.win 5).blk t).view.set := by
  have h0 : (i 0 : Nat) < 192 := (i 0).isLt
  have h1 : (i 1 : Nat) < 1024 := (i 1).isLt
  have hN : cfg0.N = 2 := N_0
  obtain ⟨t, ht⟩ : ∃ t : Fin cfg0.N, t.val = (i 0).val / 96 := ⟨⟨(i 0).val / 96, by omega⟩, rfl⟩
  refine ⟨t, flush0_5 t, ?_⟩
  show i ∈ ((View.whole main_v0_1).slice (win0_5.rect t)).set
  rw [View.set_slice_whole, Rect.mem_set_unit]
  intro a
  match a with
  | ⟨0, _⟩ => show win0_5.index t 0 * win0_5.size 0 ≤ (i 0 : Nat) ∧ (i 0 : Nat) < win0_5.index t 0 * win0_5.size 0 + 96
              rw [(off5 t).1]; omega
  | ⟨1, _⟩ => show win0_5.index t 1 * win0_5.size 1 ≤ (i 1 : Nat) ∧ (i 1 : Nat) < win0_5.index t 1 * win0_5.size 1 + 1024
              rw [(off5 t).2]; omega

theorem off6 : ∀ t : Fin cfg0.N, win0_6.index t 0 * win0_6.size 0 = t.val * 96 ∧ win0_6.index t 1 * win0_6.size 1 = 0 :=
  (by decide +kernel : ∀ t : Fin grid0.N, win0_6.index t 0 * win0_6.size 0 = t.val * 96 ∧ win0_6.index t 1 * win0_6.size 1 = 0)
/-- An array read through point `t`'s block of window 6. -/
theorem read6_apply (X : Arr S192x1024) (t : Fin cfg0.N) (r : Fin 96) (k : Fin 1024) :
    ((win0_6.blk t).view.read (Elt Ideal) X : S96x1024.Idx → EReal) (ix2 r k) = X (ix2 (row t r) k) := by
  show X ((win0_6.rect t).idx (ix2 r k)) = _
  refine congrArg _ (funext fun a => Fin.ext ?_)
  match a with
  | ⟨0, _⟩ => show win0_6.index t 0 * win0_6.size 0 + 1 * r.val = t.val * 96 + r.val
              rw [(off6 t).1]; omega
  | ⟨1, _⟩ => show win0_6.index t 1 * win0_6.size 1 + 1 * k.val = k.val
              rw [(off6 t).2]; omega

/-- Every index of the array is in the block of a point that writes back. -/
theorem cover6 (i : S192x1024.Idx) : ∃ t : Fin cfg0.N, (cfg0.win 6).flush t = true ∧ i ∈ ((cfg0.win 6).blk t).view.set := by
  have h0 : (i 0 : Nat) < 192 := (i 0).isLt
  have h1 : (i 1 : Nat) < 1024 := (i 1).isLt
  have hN : cfg0.N = 2 := N_0
  obtain ⟨t, ht⟩ : ∃ t : Fin cfg0.N, t.val = (i 0).val / 96 := ⟨⟨(i 0).val / 96, by omega⟩, rfl⟩
  refine ⟨t, flush0_6 t, ?_⟩
  show i ∈ ((View.whole main_v0_2).slice (win0_6.rect t)).set
  rw [View.set_slice_whole, Rect.mem_set_unit]
  intro a
  match a with
  | ⟨0, _⟩ => show win0_6.index t 0 * win0_6.size 0 ≤ (i 0 : Nat) ∧ (i 0 : Nat) < win0_6.index t 0 * win0_6.size 0 + 96
              rw [(off6 t).1]; omega
  | ⟨1, _⟩ => show win0_6.index t 1 * win0_6.size 1 ≤ (i 1 : Nat) ∧ (i 1 : Nat) < win0_6.index t 1 * win0_6.size 1 + 1024
              rw [(off6 t).2]; omega

theorem off7 : ∀ t : Fin cfg0.N, win0_7.index t 0 * win0_7.size 0 = t.val * 96 ∧ win0_7.index t 1 * win0_7.size 1 = 0 :=
  (by decide +kernel : ∀ t : Fin grid0.N, win0_7.index t 0 * win0_7.size 0 = t.val * 96 ∧ win0_7.index t 1 * win0_7.size 1 = 0)
/-- An array read through point `t`'s block of window 7. -/
theorem read7_apply (X : Arr S192x1024) (t : Fin cfg0.N) (r : Fin 96) (k : Fin 1024) :
    ((win0_7.blk t).view.read (Elt Ideal) X : S96x1024.Idx → EReal) (ix2 r k) = X (ix2 (row t r) k) := by
  show X ((win0_7.rect t).idx (ix2 r k)) = _
  refine congrArg _ (funext fun a => Fin.ext ?_)
  match a with
  | ⟨0, _⟩ => show win0_7.index t 0 * win0_7.size 0 + 1 * r.val = t.val * 96 + r.val
              rw [(off7 t).1]; omega
  | ⟨1, _⟩ => show win0_7.index t 1 * win0_7.size 1 + 1 * k.val = k.val
              rw [(off7 t).2]; omega

/-- Every index of the array is in the block of a point that writes back. -/
theorem cover7 (i : S192x1024.Idx) : ∃ t : Fin cfg0.N, (cfg0.win 7).flush t = true ∧ i ∈ ((cfg0.win 7).blk t).view.set := by
  have h0 : (i 0 : Nat) < 192 := (i 0).isLt
  have h1 : (i 1 : Nat) < 1024 := (i 1).isLt
  have hN : cfg0.N = 2 := N_0
  obtain ⟨t, ht⟩ : ∃ t : Fin cfg0.N, t.val = (i 0).val / 96 := ⟨⟨(i 0).val / 96, by omega⟩, rfl⟩
  refine ⟨t, flush0_7 t, ?_⟩
  show i ∈ ((View.whole main_v0_3).slice (win0_7.rect t)).set
  rw [View.set_slice_whole, Rect.mem_set_unit]
  intro a
  match a with
  | ⟨0, _⟩ => show win0_7.index t 0 * win0_7.size 0 ≤ (i 0 : Nat) ∧ (i 0 : Nat) < win0_7.index t 0 * win0_7.size 0 + 96
              rw [(off7 t).1]; omega
  | ⟨1, _⟩ => show win0_7.index t 1 * win0_7.size 1 ≤ (i 1 : Nat) ∧ (i 1 : Nat) < win0_7.index t 1 * win0_7.size 1 + 1024
              rw [(off7 t).2]; omega

set_option maxHeartbeats 1000000 in
/-- What point `t` writes back is block `t` of the array's function. -/
theorem flush_eq4 (c : Dev nD) (t : Fin cfg0.N) :
    (dats m 0 c).flushed 4 t = (win0_4.blk t).view.read (Elt Ideal) (Update.grad (fun d (i : S192x1024.Idx) => (m ((c : Thread nD τ).loc main_arg3)) (ix3 d (i 0) (i 1)))) := by
  show (cfg0.win 4).cut (grid0.coords t) ((dats m 0 c).after 4 t) = _
  rw [after0_4]
  unfold out0_4
  rw [View.canon_unit_zero hz]
  refine funext fun (j : S96x1024.Idx) => ?_
  idx_vars j
  refine Eq.trans ?_ (read4_apply _ t j0 j1).symm
  show (k0_pay1 (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final4 (c : Dev nD) : (dats m 0 c).arrAt 4 cfg0.N = Update.grad (fun d (i : S192x1024.Idx) => (m ((c : Thread nD τ).loc main_arg3)) (ix3 d (i 0) (i 1))) :=
  (dats m 0 c).arrAt_eq_of_cover 4 _ (fun t _ => flush_eq4 m c t) cover4

set_option maxHeartbeats 1000000 in
/-- What point `t` writes back is block `t` of the array's function. -/
theorem flush_eq5 (c : Dev nD) (t : Fin cfg0.N) :
    (dats m 0 c).flushed 5 t = (win0_5.blk t).view.read (Elt Ideal) (Update.delta (m ((c : Thread nD τ).loc main_arg0)) (m ((c : Thread nD τ).loc main_arg1)) (m ((c : Thread nD τ).loc main_arg2)) (Update.grad (fun d (i : S192x1024.Idx) => (m ((c : Thread nD τ).loc main_arg3)) (ix3 d (i 0) (i 1))))) := by
  show (cfg0.win 5).cut (grid0.coords t) ((dats m 0 c).after 5 t) = _
  rw [after0_5]
  unfold out0_5
  rw [View.canon_unit_zero hz]
  refine funext fun (j : S96x1024.Idx) => ?_
  idx_vars j
  refine Eq.trans ?_ (read5_apply _ t j0 j1).symm
  show (k0_pay4 (View.ld (iblk m c 0 t) r0_0) (View.ld (iblk m c 1 t) r0_0) (View.ld (iblk m c 2 t) r0_0) (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final5 (c : Dev nD) : (dats m 0 c).arrAt 5 cfg0.N = Update.delta (m ((c : Thread nD τ).loc main_arg0)) (m ((c : Thread nD τ).loc main_arg1)) (m ((c : Thread nD τ).loc main_arg2)) (Update.grad (fun d (i : S192x1024.Idx) => (m ((c : Thread nD τ).loc main_arg3)) (ix3 d (i 0) (i 1)))) :=
  (dats m 0 c).arrAt_eq_of_cover 5 _ (fun t _ => flush_eq5 m c t) cover5

set_option maxHeartbeats 1000000 in
/-- What point `t` writes back is block `t` of the array's function. -/
theorem flush_eq6 (c : Dev nD) (t : Fin cfg0.N) :
    (dats m 0 c).flushed 6 t = (win0_6.blk t).view.read (Elt Ideal) (Update.first (m ((c : Thread nD τ).loc main_arg1)) (Update.grad (fun d (i : S192x1024.Idx) => (m ((c : Thread nD τ).loc main_arg3)) (ix3 d (i 0) (i 1))))) := by
  show (cfg0.win 6).cut (grid0.coords t) ((dats m 0 c).after 6 t) = _
  rw [after0_6]
  unfold out0_6
  rw [View.canon_unit_zero hz]
  refine funext fun (j : S96x1024.Idx) => ?_
  idx_vars j
  refine Eq.trans ?_ (read6_apply _ t j0 j1).symm
  show (k0_pay2 (View.ld (iblk m c 1 t) r0_0) (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final6 (c : Dev nD) : (dats m 0 c).arrAt 6 cfg0.N = Update.first (m ((c : Thread nD τ).loc main_arg1)) (Update.grad (fun d (i : S192x1024.Idx) => (m ((c : Thread nD τ).loc main_arg3)) (ix3 d (i 0) (i 1)))) :=
  (dats m 0 c).arrAt_eq_of_cover 6 _ (fun t _ => flush_eq6 m c t) cover6

set_option maxHeartbeats 1000000 in
/-- What point `t` writes back is block `t` of the array's function. -/
theorem flush_eq7 (c : Dev nD) (t : Fin cfg0.N) :
    (dats m 0 c).flushed 7 t = (win0_7.blk t).view.read (Elt Ideal) (Update.second (m ((c : Thread nD τ).loc main_arg2)) (Update.grad (fun d (i : S192x1024.Idx) => (m ((c : Thread nD τ).loc main_arg3)) (ix3 d (i 0) (i 1))))) := by
  show (cfg0.win 7).cut (grid0.coords t) ((dats m 0 c).after 7 t) = _
  rw [after0_7]
  unfold out0_7
  rw [View.canon_unit_zero hz]
  refine funext fun (j : S96x1024.Idx) => ?_
  idx_vars j
  refine Eq.trans ?_ (read7_apply _ t j0 j1).symm
  show (k0_pay3 (View.ld (iblk m c 2 t) r0_0) (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final7 (c : Dev nD) : (dats m 0 c).arrAt 7 cfg0.N = Update.second (m ((c : Thread nD τ).loc main_arg2)) (Update.grad (fun d (i : S192x1024.Idx) => (m ((c : Thread nD τ).loc main_arg3)) (ix3 d (i 0) (i 1)))) :=
  (dats m 0 c).arrAt_eq_of_cover 7 _ (fun t _ => flush_eq7 m c t) cover7

end Cert.UpdBranchIdeal.Call

namespace Cert.UpdBranchRefIdeal.Call
open Cert Cert.UpdBranchRefIdeal Cert.UpdBranchRefIdeal.Gen Idealize.ShloMosaic Idealize.ShloMosaic.TcCoe Idealize.SL.Sem

/-- The reference's sum over the first extent is the sum of the eight summands. -/
theorem sum_S192x1024 (P : FVec Ideal S8x192x1024 .bf16) :
    Host.reduceAdd (extf .f32 P bitsLt_bf16_f32) (constant S_ .f32 0x00000000#32) reducesTo_S8x192x1024_S192x1024_d0 h_S_
      = Update.grad (fun d (i : S192x1024.Idx) => P (ix3 d (i 0) (i 1))) := by
  refine funext fun (i : S192x1024.Idx) => ?_
  idx_vars i
  pointwise
  rfl

set_option maxHeartbeats 2000000 in
/-- The reference's run: its results as functions of its arguments, which it leaves. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = Update.grad (fun d (i : S192x1024.Idx) => (m ((c.tc : Thread nD τ).loc main_arg3)) (ix3 d (i 0) (i 1)))
      ∧ r.2.mem ((c.tc : Thread nD τ).loc main_v25) = Update.delta (m ((c.tc : Thread nD τ).loc main_arg0)) (m ((c.tc : Thread nD τ).loc main_arg1)) (m ((c.tc : Thread nD τ).loc main_arg2)) (Update.grad (fun d (i : S192x1024.Idx) => (m ((c.tc : Thread nD τ).loc main_arg3)) (ix3 d (i 0) (i 1))))
      ∧ r.2.mem ((c.tc : Thread nD τ).loc main_v6) = Update.first (m ((c.tc : Thread nD τ).loc main_arg1)) (Update.grad (fun d (i : S192x1024.Idx) => (m ((c.tc : Thread nD τ).loc main_arg3)) (ix3 d (i 0) (i 1))))
      ∧ r.2.mem ((c.tc : Thread nD τ).loc main_v12) = Update.second (m ((c.tc : Thread nD τ).loc main_arg2)) (Update.grad (fun d (i : S192x1024.Idx) => (m ((c.tc : Thread nD τ).loc main_arg3)) (ix3 d (i 0) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run (F := Ideal) m ρ)
  obtain ⟨h0, h1, h2, h3, h⟩ := h c
  refine ⟨h0.trans ?_, h1.trans ?_, h2.trans ?_, h3.trans ?_, h⟩
  · exact sum_S192x1024 _
  · rw [sum_S192x1024]; rfl
  · rw [sum_S192x1024]; rfl
  · rw [sum_S192x1024]; rfl

end Cert.UpdBranchRefIdeal.Call

namespace Cert.UpdBranchIdeal.Claims
open Cert Cert.UpdBranchIdeal Cert.UpdBranchIdeal.Gen Cert.UpdBranchIdeal.Call Idealize.ShloMosaic Idealize.ShloMosaic.TcCoe Idealize.SL.Sem

/-- The reference's frame: its host operations leave the arguments, and it declares no semaphore. -/
theorem frame_ref : Cert.quiescent_UpdBranchRefIdeal := fun m ρ _ =>
  (θ_run Cert.UpdBranchRefIdeal.defs _ _).mono (fun r h => ⟨fun c => (h c).2.2.2.2,
      Idealize.ShloMosaic.sem_eq_zero_of_no_sems (by decide) r.2⟩)
    (Cert.UpdBranchRefIdeal.Value.run (F := Ideal) m ρ)

set_option maxHeartbeats 2000000 in
/-- The call's results are the reference's, whatever the arguments hold. -/
theorem algebraic : Cert.algebraic_UpdBranchIdeal_UpdBranchRefIdeal := by
  intro m ρ m' ρ' _ hag
  refine ⟨fun c => Update.grad (fun d (i : S192x1024.Idx) => (m ((c.tc : Thread nD τ).loc main_arg3)) (ix3 d (i 0) (i 1))),
    fun c => Update.delta (m ((c.tc : Thread nD τ).loc main_arg0)) (m ((c.tc : Thread nD τ).loc main_arg1)) (m ((c.tc : Thread nD τ).loc main_arg2)) (Update.grad (fun d (i : S192x1024.Idx) => (m ((c.tc : Thread nD τ).loc main_arg3)) (ix3 d (i 0) (i 1)))),
    fun c => Update.first (m ((c.tc : Thread nD τ).loc main_arg1)) (Update.grad (fun d (i : S192x1024.Idx) => (m ((c.tc : Thread nD τ).loc main_arg3)) (ix3 d (i 0) (i 1)))),
    fun c => Update.second (m ((c.tc : Thread nD τ).loc main_arg2)) (Update.grad (fun d (i : S192x1024.Idx) => (m ((c.tc : Thread nD τ).loc main_arg3)) (ix3 d (i 0) (i 1)))), ?_, ?_⟩
  · refine (θ_run defs _ _).mono (fun r h c => ?_) (Value.run_blocks (F := Ideal) m ρ)
    have h := h c
    rw [final4, final5, final6, final7] at h
    exact h
  · refine (θ_run Cert.UpdBranchRefIdeal.defs _ _).mono (fun r h c => ?_) (Cert.UpdBranchRefIdeal.Call.run_ref m' ρ')
    obtain ⟨e0, e1, e2, e3⟩ := hag c
    have h := h c
    rw [e0, e1, e2, e3] at h
    rw [e0, e1, e2, e3]
    exact h

end Cert.UpdBranchIdeal.Claims
end
-- ==== Proof.UpdGluCall.lean ====
/-
  The AdamW step of one device's shard of a weight; and the claims.
-/
module
public import proofs.«01_k».proof.Defs
public import proofs.«01_k».proof.Proof.Gen.UpdGluIdeal.Value
public import proofs.«01_k».proof.Proof.Gen.UpdGluRefIdeal.Run
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Update
@[expose] public section
set_option maxRecDepth 16384
noncomputable section
namespace Cert.UpdGluIdeal.Call
open Cert Cert.UpdGluIdeal Cert.UpdGluIdeal.Gen Idealize.ShloMosaic Idealize.ShloMosaic.TcCoe Idealize.SL.Sem
open Idealize.ShloMosaic.Pipeline (Dat)

/-- An array of reals of the given extents. -/
abbrev Arr (s : Shape) := s.Idx → EReal

variable (a0 a1 a2 : Arr S64x512)
variable (a3 : Arr S8x64x512)

set_option maxHeartbeats 1000000 in
/-- Result 0 of the call, as a function of its arguments. -/
theorem out4 : Value.G4 (F := Ideal) a0 a1 a2 a3 = Update.grad (fun d (i : S64x512.Idx) => a3 (ix3 d (i 0) (i 1))) := by
  refine funext fun (j : S64x512.Idx) => ?_
  idx_vars j
  pointwise [k0_pay1, k0_pay6, k0_pay5]
  simp only [Update.delta, Update.first, Update.second, Update.grad_apply]
  rfl

set_option maxHeartbeats 1000000 in
/-- Result 1 of the call, as a function of its arguments. -/
theorem out5 : Value.G5 (F := Ideal) a0 a1 a2 a3 = Update.delta a0 a1 a2 (Update.grad (fun d (i : S64x512.Idx) => a3 (ix3 d (i 0) (i 1)))) := by
  refine funext fun (j : S64x512.Idx) => ?_
  idx_vars j
  pointwise [k0_pay4, k0_pay6, k0_pay2, k0_pay3, k0_pay5, k0_pay1]
  simp only [Update.delta, Update.first, Update.second, Update.grad_apply]
  rfl

set_option maxHeartbeats 1000000 in
/-- Result 2 of the call, as a function of its arguments. -/
theorem out6 : Value.G6 (F := Ideal) a0 a1 a2 a3 = Update.first a1 (Update.grad (fun d (i : S64x512.Idx) => a3 (ix3 d (i 0) (i 1)))) := by
  refine funext fun (j : S64x512.Idx) => ?_
  idx_vars j
  pointwise [k0_pay2, k0_pay6, k0_pay1, k0_pay5]
  simp only [Update.delta, Update.first, Update.second, Update.grad_apply]
  rfl

set_option maxHeartbeats 1000000 in
/-- Result 3 of the call, as a function of its arguments. -/
theorem out7 : Value.G7 (F := Ideal) a0 a1 a2 a3 = Update.second a2 (Update.grad (fun d (i : S64x512.Idx) => a3 (ix3 d (i 0) (i 1)))) := by
  refine funext fun (j : S64x512.Idx) => ?_
  idx_vars j
  pointwise [k0_pay3, k0_pay6, k0_pay1, k0_pay5]
  simp only [Update.delta, Update.first, Update.second, Update.grad_apply]
  rfl

end Cert.UpdGluIdeal.Call

namespace Cert.UpdGluRefIdeal.Call
open Cert Cert.UpdGluRefIdeal Cert.UpdGluRefIdeal.Gen Idealize.ShloMosaic Idealize.ShloMosaic.TcCoe Idealize.SL.Sem

/-- The reference's sum over the first extent is the sum of the eight summands. -/
theorem sum_S64x512 (P : FVec Ideal S8x64x512 .bf16) :
    Host.reduceAdd (extf .f32 P bitsLt_bf16_f32) (constant S_ .f32 0x00000000#32) reducesTo_S8x64x512_S64x512_d0 h_S_
      = Update.grad (fun d (i : S64x512.Idx) => P (ix3 d (i 0) (i 1))) := by
  refine funext fun (i : S64x512.Idx) => ?_
  idx_vars i
  pointwise
  rfl

set_option maxHeartbeats 2000000 in
/-- The reference's run: its results as functions of its arguments, which it leaves. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = Update.grad (fun d (i : S64x512.Idx) => (m ((c.tc : Thread nD τ).loc main_arg3)) (ix3 d (i 0) (i 1)))
      ∧ r.2.mem ((c.tc : Thread nD τ).loc main_v25) = Update.delta (m ((c.tc : Thread nD τ).loc main_arg0)) (m ((c.tc : Thread nD τ).loc main_arg1)) (m ((c.tc : Thread nD τ).loc main_arg2)) (Update.grad (fun d (i : S64x512.Idx) => (m ((c.tc : Thread nD τ).loc main_arg3)) (ix3 d (i 0) (i 1))))
      ∧ r.2.mem ((c.tc : Thread nD τ).loc main_v6) = Update.first (m ((c.tc : Thread nD τ).loc main_arg1)) (Update.grad (fun d (i : S64x512.Idx) => (m ((c.tc : Thread nD τ).loc main_arg3)) (ix3 d (i 0) (i 1))))
      ∧ r.2.mem ((c.tc : Thread nD τ).loc main_v12) = Update.second (m ((c.tc : Thread nD τ).loc main_arg2)) (Update.grad (fun d (i : S64x512.Idx) => (m ((c.tc : Thread nD τ).loc main_arg3)) (ix3 d (i 0) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run (F := Ideal) m ρ)
  obtain ⟨h0, h1, h2, h3, h⟩ := h c
  refine ⟨h0.trans ?_, h1.trans ?_, h2.trans ?_, h3.trans ?_, h⟩
  · exact sum_S64x512 _
  · rw [sum_S64x512]; rfl
  · rw [sum_S64x512]; rfl
  · rw [sum_S64x512]; rfl

end Cert.UpdGluRefIdeal.Call

namespace Cert.UpdGluIdeal.Claims
open Cert Cert.UpdGluIdeal Cert.UpdGluIdeal.Gen Cert.UpdGluIdeal.Call Idealize.ShloMosaic Idealize.ShloMosaic.TcCoe Idealize.SL.Sem

/-- The reference's frame: its host operations leave the arguments, and it declares no semaphore. -/
theorem frame_ref : Cert.quiescent_UpdGluRefIdeal := fun m ρ _ =>
  (θ_run Cert.UpdGluRefIdeal.defs _ _).mono (fun r h => ⟨fun c => (h c).2.2.2.2,
      Idealize.ShloMosaic.sem_eq_zero_of_no_sems (by decide) r.2⟩)
    (Cert.UpdGluRefIdeal.Value.run (F := Ideal) m ρ)

set_option maxHeartbeats 2000000 in
/-- The call's results are the reference's, whatever the arguments hold. -/
theorem algebraic : Cert.algebraic_UpdGluIdeal_UpdGluRefIdeal := by
  intro m ρ m' ρ' _ hag
  refine ⟨fun c => Update.grad (fun d (i : S64x512.Idx) => (m ((c.tc : Thread nD τ).loc main_arg3)) (ix3 d (i 0) (i 1))),
    fun c => Update.delta (m ((c.tc : Thread nD τ).loc main_arg0)) (m ((c.tc : Thread nD τ).loc main_arg1)) (m ((c.tc : Thread nD τ).loc main_arg2)) (Update.grad (fun d (i : S64x512.Idx) => (m ((c.tc : Thread nD τ).loc main_arg3)) (ix3 d (i 0) (i 1)))),
    fun c => Update.first (m ((c.tc : Thread nD τ).loc main_arg1)) (Update.grad (fun d (i : S64x512.Idx) => (m ((c.tc : Thread nD τ).loc main_arg3)) (ix3 d (i 0) (i 1)))),
    fun c => Update.second (m ((c.tc : Thread nD τ).loc main_arg2)) (Update.grad (fun d (i : S64x512.Idx) => (m ((c.tc : Thread nD τ).loc main_arg3)) (ix3 d (i 0) (i 1)))), ?_, ?_⟩
  · refine (θ_run defs _ _).mono (fun r h c => ?_) (Value.run (F := Ideal) m ρ)
    have h := h c
    rw [out4, out5, out6, out7] at h
    exact h
  · refine (θ_run Cert.UpdGluRefIdeal.defs _ _).mono (fun r h c => ?_) (Cert.UpdGluRefIdeal.Call.run_ref m' ρ')
    obtain ⟨e0, e1, e2, e3⟩ := hag c
    have h := h c
    rw [e0, e1, e2, e3] at h
    rw [e0, e1, e2, e3]
    exact h

end Cert.UpdGluIdeal.Claims
end
-- ==== Proof.UpdInCall.lean ====
/-
  The AdamW step of one device's shard of a weight, by row blocks; and the claims.
-/
module
public import proofs.«01_k».proof.Defs
public import proofs.«01_k».proof.Proof.Gen.UpdInIdeal.Value
public import proofs.«01_k».proof.Proof.Gen.UpdInRefIdeal.Run
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Update
@[expose] public section
set_option maxRecDepth 16384
noncomputable section
namespace Cert.UpdInIdeal.Call
open Cert Cert.UpdInIdeal Cert.UpdInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array of reals of the given extents. -/
abbrev Arr (s : Shape) := s.Idx → EReal

theorem N8 : cfg0.N = 8 := N_0

/-- The array row that row `r` of point `t`'s block is. -/
def row (t : Fin cfg0.N) (r : Fin 128) : Fin 1024 := ⟨t.val * 128 + r.val, by have := t.isLt; have := N8; omega⟩

theorem hz : (![0, 0] : Fin 2 → Nat) = fun _ => 0 := funext fun a => by fin_cases a <;> rfl

theorem off0 : ∀ t : Fin cfg0.N, win0_0.index t 0 * win0_0.size 0 = t.val * 128 ∧ win0_0.index t 1 * win0_0.size 1 = 0 :=
  (by decide +kernel : ∀ t : Fin grid0.N, win0_0.index t 0 * win0_0.size 0 = t.val * 128 ∧ win0_0.index t 1 * win0_0.size 1 = 0)
theorem iblk0_apply (c : Dev nD) (t : Fin cfg0.N) (r : Fin 128) (k : Fin 706) :
    (iblk m c 0 t : S128x706.Idx → EReal) (ix2 r k) = m ((c : Thread nD τ).loc main_arg0) (ix2 (row t r) k) := by
  unfold iblk
  show V m c main_arg0 ((win0_0.rect t).idx (ix2 r k)) = _
  rw [V_main_arg0]
  refine congrArg _ (funext fun a => Fin.ext ?_)
  match a with
  | ⟨0, _⟩ => show win0_0.index t 0 * win0_0.size 0 + 1 * r.val = t.val * 128 + r.val
              rw [(off0 t).1]; omega
  | ⟨1, _⟩ => show win0_0.index t 1 * win0_0.size 1 + 1 * k.val = k.val
              rw [(off0 t).2]; omega

theorem off1 : ∀ t : Fin cfg0.N, win0_1.index t 0 * win0_1.size 0 = t.val * 128 ∧ win0_1.index t 1 * win0_1.size 1 = 0 :=
  (by decide +kernel : ∀ t : Fin grid0.N, win0_1.index t 0 * win0_1.size 0 = t.val * 128 ∧ win0_1.index t 1 * win0_1.size 1 = 0)
theorem iblk1_apply (c : Dev nD) (t : Fin cfg0.N) (r : Fin 128) (k : Fin 706) :
    (iblk m c 1 t : S128x706.Idx → EReal) (ix2 r k) = m ((c : Thread nD τ).loc main_arg1) (ix2 (row t r) k) := by
  unfold iblk
  show V m c main_arg1 ((win0_1.rect t).idx (ix2 r k)) = _
  rw [V_main_arg1]
  refine congrArg _ (funext fun a => Fin.ext ?_)
  match a with
  | ⟨0, _⟩ => show win0_1.index t 0 * win0_1.size 0 + 1 * r.val = t.val * 128 + r.val
              rw [(off1 t).1]; omega
  | ⟨1, _⟩ => show win0_1.index t 1 * win0_1.size 1 + 1 * k.val = k.val
              rw [(off1 t).2]; omega

theorem off2 : ∀ t : Fin cfg0.N, win0_2.index t 0 * win0_2.size 0 = t.val * 128 ∧ win0_2.index t 1 * win0_2.size 1 = 0 :=
  (by decide +kernel : ∀ t : Fin grid0.N, win0_2.index t 0 * win0_2.size 0 = t.val * 128 ∧ win0_2.index t 1 * win0_2.size 1 = 0)
theorem iblk2_apply (c : Dev nD) (t : Fin cfg0.N) (r : Fin 128) (k : Fin 706) :
    (iblk m c 2 t : S128x706.Idx → EReal) (ix2 r k) = m ((c : Thread nD τ).loc main_arg2) (ix2 (row t r) k) := by
  unfold iblk
  show V m c main_arg2 ((win0_2.rect t).idx (ix2 r k)) = _
  rw [V_main_arg2]
  refine congrArg _ (funext fun a => Fin.ext ?_)
  match a with
  | ⟨0, _⟩ => show win0_2.index t 0 * win0_2.size 0 + 1 * r.val = t.val * 128 + r.val
              rw [(off2 t).1]; omega
  | ⟨1, _⟩ => show win0_2.index t 1 * win0_2.size 1 + 1 * k.val = k.val
              rw [(off2 t).2]; omega

theorem off3 : ∀ t : Fin cfg0.N, win0_3.index t 0 * win0_3.size 0 = 0 ∧ win0_3.index t 1 * win0_3.size 1 = t.val * 128 ∧ win0_3.index t 2 * win0_3.size 2 = 0 :=
  (by decide +kernel : ∀ t : Fin grid0.N, win0_3.index t 0 * win0_3.size 0 = 0 ∧ win0_3.index t 1 * win0_3.size 1 = t.val * 128 ∧ win0_3.index t 2 * win0_3.size 2 = 0)
theorem iblk3_apply (c : Dev nD) (t : Fin cfg0.N) (s : Fin 8) (r : Fin 128) (k : Fin 706) :
    (iblk m c 3 t : S8x128x706.Idx → EReal) (ix3 s r k) = m ((c : Thread nD τ).loc main_arg3) (ix3 s (row t r) k) := by
  unfold iblk
  show V m c main_arg3 ((win0_3.rect t).idx (ix3 s r k)) = _
  rw [V_main_arg3]
  refine congrArg _ (funext fun a => Fin.ext ?_)
  match a with
  | ⟨0, _⟩ => show win0_3.index t 0 * win0_3.size 0 + 1 * s.val = s.val
              rw [(off3 t).1]; omega
  | ⟨1, _⟩ => show win0_3.index t 1 * win0_3.size 1 + 1 * r.val = t.val * 128 + r.val
              rw [(off3 t).2.1]; omega
  | ⟨2, _⟩ => show win0_3.index t 2 * win0_3.size 2 + 1 * k.val = k.val
              rw [(off3 t).2.2]; omega

theorem off4 : ∀ t : Fin cfg0.N, win0_4.index t 0 * win0_4.size 0 = t.val * 128 ∧ win0_4.index t 1 * win0_4.size 1 = 0 :=
  (by decide +kernel : ∀ t : Fin grid0.N, win0_4.index t 0 * win0_4.size 0 = t.val * 128 ∧ win0_4.index t 1 * win0_4.size 1 = 0)
/-- An array read through point `t`'s block of window 4. -/
theorem read4_apply (X : Arr S1024x706) (t : Fin cfg0.N) (r : Fin 128) (k : Fin 706) :
    ((win0_4.blk t).view.read (Elt Ideal) X : S128x706.Idx → EReal) (ix2 r k) = X (ix2 (row t r) k) := by
  show X ((win0_4.rect t).idx (ix2 r k)) = _
  refine congrArg _ (funext fun a => Fin.ext ?_)
  match a with
  | ⟨0, _⟩ => show win0_4.index t 0 * win0_4.size 0 + 1 * r.val = t.val * 128 + r.val
              rw [(off4 t).1]; omega
  | ⟨1, _⟩ => show win0_4.index t 1 * win0_4.size 1 + 1 * k.val = k.val
              rw [(off4 t).2]; omega

/-- Every index of the array is in the block of a point that writes back. -/
theorem cover4 (i : S1024x706.Idx) : ∃ t : Fin cfg0.N, (cfg0.win 4).flush t = true ∧ i ∈ ((cfg0.win 4).blk t).view.set := by
  have h0 : (i 0 : Nat) < 1024 := (i 0).isLt
  have h1 : (i 1 : Nat) < 706 := (i 1).isLt
  have hN : cfg0.N = 8 := N_0
  obtain ⟨t, ht⟩ : ∃ t : Fin cfg0.N, t.val = (i 0).val / 128 := ⟨⟨(i 0).val / 128, by omega⟩, rfl⟩
  refine ⟨t, flush0_4 t, ?_⟩
  show i ∈ ((View.whole main_v0_0).slice (win0_4.rect t)).set
  rw [View.set_slice_whole, Rect.mem_set_unit]
  intro a
  match a with
  | ⟨0, _⟩ => show win0_4.index t 0 * win0_4.size 0 ≤ (i 0 : Nat) ∧ (i 0 : Nat) < win0_4.index t 0 * win0_4.size 0 + 128
              rw [(off4 t).1]; omega
  | ⟨1, _⟩ => show win0_4.index t 1 * win0_4.size 1 ≤ (i 1 : Nat) ∧ (i 1 : Nat) < win0_4.index t 1 * win0_4.size 1 + 706
              rw [(off4 t).2]; omega

theorem off5 : ∀ t : Fin cfg0.N, win0_5.index t 0 * win0_5.size 0 = t.val * 128 ∧ win0_5.index t 1 * win0_5.size 1 = 0 :=
  (by decide +kernel : ∀ t : Fin grid0.N, win0_5.index t 0 * win0_5.size 0 = t.val * 128 ∧ win0_5.index t 1 * win0_5.size 1 = 0)
/-- An array read through point `t`'s block of window 5. -/
theorem read5_apply (X : Arr S1024x706) (t : Fin cfg0.N) (r : Fin 128) (k : Fin 706) :
    ((win0_5.blk t).view.read (Elt Ideal) X : S128x706.Idx → EReal) (ix2 r k) = X (ix2 (row t r) k) := by
  show X ((win0_5.rect t).idx (ix2 r k)) = _
  refine congrArg _ (funext fun a => Fin.ext ?_)
  match a with
  | ⟨0, _⟩ => show win0_5.index t 0 * win0_5.size 0 + 1 * r.val = t.val * 128 + r.val
              rw [(off5 t).1]; omega
  | ⟨1, _⟩ => show win0_5.index t 1 * win0_5.size 1 + 1 * k.val = k.val
              rw [(off5 t).2]; omega

/-- Every index of the array is in the block of a point that writes back. -/
theorem cover5 (i : S1024x706.Idx) : ∃ t : Fin cfg0.N, (cfg0.win 5).flush t = true ∧ i ∈ ((cfg0.win 5).blk t).view.set := by
  have h0 : (i 0 : Nat) < 1024 := (i 0).isLt
  have h1 : (i 1 : Nat) < 706 := (i 1).isLt
  have hN : cfg0.N = 8 := N_0
  obtain ⟨t, ht⟩ : ∃ t : Fin cfg0.N, t.val = (i 0).val / 128 := ⟨⟨(i 0).val / 128, by omega⟩, rfl⟩
  refine ⟨t, flush0_5 t, ?_⟩
  show i ∈ ((View.whole main_v0_1).slice (win0_5.rect t)).set
  rw [View.set_slice_whole, Rect.mem_set_unit]
  intro a
  match a with
  | ⟨0, _⟩ => show win0_5.index t 0 * win0_5.size 0 ≤ (i 0 : Nat) ∧ (i 0 : Nat) < win0_5.index t 0 * win0_5.size 0 + 128
              rw [(off5 t).1]; omega
  | ⟨1, _⟩ => show win0_5.index t 1 * win0_5.size 1 ≤ (i 1 : Nat) ∧ (i 1 : Nat) < win0_5.index t 1 * win0_5.size 1 + 706
              rw [(off5 t).2]; omega

theorem off6 : ∀ t : Fin cfg0.N, win0_6.index t 0 * win0_6.size 0 = t.val * 128 ∧ win0_6.index t 1 * win0_6.size 1 = 0 :=
  (by decide +kernel : ∀ t : Fin grid0.N, win0_6.index t 0 * win0_6.size 0 = t.val * 128 ∧ win0_6.index t 1 * win0_6.size 1 = 0)
/-- An array read through point `t`'s block of window 6. -/
theorem read6_apply (X : Arr S1024x706) (t : Fin cfg0.N) (r : Fin 128) (k : Fin 706) :
    ((win0_6.blk t).view.read (Elt Ideal) X : S128x706.Idx → EReal) (ix2 r k) = X (ix2 (row t r) k) := by
  show X ((win0_6.rect t).idx (ix2 r k)) = _
  refine congrArg _ (funext fun a => Fin.ext ?_)
  match a with
  | ⟨0, _⟩ => show win0_6.index t 0 * win0_6.size 0 + 1 * r.val = t.val * 128 + r.val
              rw [(off6 t).1]; omega
  | ⟨1, _⟩ => show win0_6.index t 1 * win0_6.size 1 + 1 * k.val = k.val
              rw [(off6 t).2]; omega

/-- Every index of the array is in the block of a point that writes back. -/
theorem cover6 (i : S1024x706.Idx) : ∃ t : Fin cfg0.N, (cfg0.win 6).flush t = true ∧ i ∈ ((cfg0.win 6).blk t).view.set := by
  have h0 : (i 0 : Nat) < 1024 := (i 0).isLt
  have h1 : (i 1 : Nat) < 706 := (i 1).isLt
  have hN : cfg0.N = 8 := N_0
  obtain ⟨t, ht⟩ : ∃ t : Fin cfg0.N, t.val = (i 0).val / 128 := ⟨⟨(i 0).val / 128, by omega⟩, rfl⟩
  refine ⟨t, flush0_6 t, ?_⟩
  show i ∈ ((View.whole main_v0_2).slice (win0_6.rect t)).set
  rw [View.set_slice_whole, Rect.mem_set_unit]
  intro a
  match a with
  | ⟨0, _⟩ => show win0_6.index t 0 * win0_6.size 0 ≤ (i 0 : Nat) ∧ (i 0 : Nat) < win0_6.index t 0 * win0_6.size 0 + 128
              rw [(off6 t).1]; omega
  | ⟨1, _⟩ => show win0_6.index t 1 * win0_6.size 1 ≤ (i 1 : Nat) ∧ (i 1 : Nat) < win0_6.index t 1 * win0_6.size 1 + 706
              rw [(off6 t).2]; omega

theorem off7 : ∀ t : Fin cfg0.N, win0_7.index t 0 * win0_7.size 0 = t.val * 128 ∧ win0_7.index t 1 * win0_7.size 1 = 0 :=
  (by decide +kernel : ∀ t : Fin grid0.N, win0_7.index t 0 * win0_7.size 0 = t.val * 128 ∧ win0_7.index t 1 * win0_7.size 1 = 0)
/-- An array read through point `t`'s block of window 7. -/
theorem read7_apply (X : Arr S1024x706) (t : Fin cfg0.N) (r : Fin 128) (k : Fin 706) :
    ((win0_7.blk t).view.read (Elt Ideal) X : S128x706.Idx → EReal) (ix2 r k) = X (ix2 (row t r) k) := by
  show X ((win0_7.rect t).idx (ix2 r k)) = _
  refine congrArg _ (funext fun a => Fin.ext ?_)
  match a with
  | ⟨0, _⟩ => show win0_7.index t 0 * win0_7.size 0 + 1 * r.val = t.val * 128 + r.val
              rw [(off7 t).1]; omega
  | ⟨1, _⟩ => show win0_7.index t 1 * win0_7.size 1 + 1 * k.val = k.val
              rw [(off7 t).2]; omega

/-- Every index of the array is in the block of a point that writes back. -/
theorem cover7 (i : S1024x706.Idx) : ∃ t : Fin cfg0.N, (cfg0.win 7).flush t = true ∧ i ∈ ((cfg0.win 7).blk t).view.set := by
  have h0 : (i 0 : Nat) < 1024 := (i 0).isLt
  have h1 : (i 1 : Nat) < 706 := (i 1).isLt
  have hN : cfg0.N = 8 := N_0
  obtain ⟨t, ht⟩ : ∃ t : Fin cfg0.N, t.val = (i 0).val / 128 := ⟨⟨(i 0).val / 128, by omega⟩, rfl⟩
  refine ⟨t, flush0_7 t, ?_⟩
  show i ∈ ((View.whole main_v0_3).slice (win0_7.rect t)).set
  rw [View.set_slice_whole, Rect.mem_set_unit]
  intro a
  match a with
  | ⟨0, _⟩ => show win0_7.index t 0 * win0_7.size 0 ≤ (i 0 : Nat) ∧ (i 0 : Nat) < win0_7.index t 0 * win0_7.size 0 + 128
              rw [(off7 t).1]; omega
  | ⟨1, _⟩ => show win0_7.index t 1 * win0_7.size 1 ≤ (i 1 : Nat) ∧ (i 1 : Nat) < win0_7.index t 1 * win0_7.size 1 + 706
              rw [(off7 t).2]; omega

set_option maxHeartbeats 1000000 in
/-- What point `t` writes back is block `t` of the array's function. -/
theorem flush_eq4 (c : Dev nD) (t : Fin cfg0.N) :
    (dats m 0 c).flushed 4 t = (win0_4.blk t).view.read (Elt Ideal) (Update.grad (fun d (i : S1024x706.Idx) => (m ((c : Thread nD τ).loc main_arg3)) (ix3 d (i 0) (i 1)))) := by
  show (cfg0.win 4).cut (grid0.coords t) ((dats m 0 c).after 4 t) = _
  rw [after0_4]
  unfold out0_4
  rw [View.canon_unit_zero hz]
  refine funext fun (j : S128x706.Idx) => ?_
  idx_vars j
  refine Eq.trans ?_ (read4_apply _ t j0 j1).symm
  show (k0_pay1 (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final4 (c : Dev nD) : (dats m 0 c).arrAt 4 cfg0.N = Update.grad (fun d (i : S1024x706.Idx) => (m ((c : Thread nD τ).loc main_arg3)) (ix3 d (i 0) (i 1))) :=
  (dats m 0 c).arrAt_eq_of_cover 4 _ (fun t _ => flush_eq4 m c t) cover4

set_option maxHeartbeats 1000000 in
/-- What point `t` writes back is block `t` of the array's function. -/
theorem flush_eq5 (c : Dev nD) (t : Fin cfg0.N) :
    (dats m 0 c).flushed 5 t = (win0_5.blk t).view.read (Elt Ideal) (Update.delta (m ((c : Thread nD τ).loc main_arg0)) (m ((c : Thread nD τ).loc main_arg1)) (m ((c : Thread nD τ).loc main_arg2)) (Update.grad (fun d (i : S1024x706.Idx) => (m ((c : Thread nD τ).loc main_arg3)) (ix3 d (i 0) (i 1))))) := by
  show (cfg0.win 5).cut (grid0.coords t) ((dats m 0 c).after 5 t) = _
  rw [after0_5]
  unfold out0_5
  rw [View.canon_unit_zero hz]
  refine funext fun (j : S128x706.Idx) => ?_
  idx_vars j
  refine Eq.trans ?_ (read5_apply _ t j0 j1).symm
  show (k0_pay4 (View.ld (iblk m c 0 t) r0_0) (View.ld (iblk m c 1 t) r0_0) (View.ld (iblk m c 2 t) r0_0) (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final5 (c : Dev nD) : (dats m 0 c).arrAt 5 cfg0.N = Update.delta (m ((c : Thread nD τ).loc main_arg0)) (m ((c : Thread nD τ).loc main_arg1)) (m ((c : Thread nD τ).loc main_arg2)) (Update.grad (fun d (i : S1024x706.Idx) => (m ((c : Thread nD τ).loc main_arg3)) (ix3 d (i 0) (i 1)))) :=
  (dats m 0 c).arrAt_eq_of_cover 5 _ (fun t _ => flush_eq5 m c t) cover5

set_option maxHeartbeats 1000000 in
/-- What point `t` writes back is block `t` of the array's function. -/
theorem flush_eq6 (c : Dev nD) (t : Fin cfg0.N) :
    (dats m 0 c).flushed 6 t = (win0_6.blk t).view.read (Elt Ideal) (Update.first (m ((c : Thread nD τ).loc main_arg1)) (Update.grad (fun d (i : S1024x706.Idx) => (m ((c : Thread nD τ).loc main_arg3)) (ix3 d (i 0) (i 1))))) := by
  show (cfg0.win 6).cut (grid0.coords t) ((dats m 0 c).after 6 t) = _
  rw [after0_6]
  unfold out0_6
  rw [View.canon_unit_zero hz]
  refine funext fun (j : S128x706.Idx) => ?_
  idx_vars j
  refine Eq.trans ?_ (read6_apply _ t j0 j1).symm
  show (k0_pay2 (View.ld (iblk m c 1 t) r0_0) (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final6 (c : Dev nD) : (dats m 0 c).arrAt 6 cfg0.N = Update.first (m ((c : Thread nD τ).loc main_arg1)) (Update.grad (fun d (i : S1024x706.Idx) => (m ((c : Thread nD τ).loc main_arg3)) (ix3 d (i 0) (i 1)))) :=
  (dats m 0 c).arrAt_eq_of_cover 6 _ (fun t _ => flush_eq6 m c t) cover6

set_option maxHeartbeats 1000000 in
/-- What point `t` writes back is block `t` of the array's function. -/
theorem flush_eq7 (c : Dev nD) (t : Fin cfg0.N) :
    (dats m 0 c).flushed 7 t = (win0_7.blk t).view.read (Elt Ideal) (Update.second (m ((c : Thread nD τ).loc main_arg2)) (Update.grad (fun d (i : S1024x706.Idx) => (m ((c : Thread nD τ).loc main_arg3)) (ix3 d (i 0) (i 1))))) := by
  show (cfg0.win 7).cut (grid0.coords t) ((dats m 0 c).after 7 t) = _
  rw [after0_7]
  unfold out0_7
  rw [View.canon_unit_zero hz]
  refine funext fun (j : S128x706.Idx) => ?_
  idx_vars j
  refine Eq.trans ?_ (read7_apply _ t j0 j1).symm
  show (k0_pay3 (View.ld (iblk m c 2 t) r0_0) (k0_pay6 (iblk m c 0 t) (iblk m c 1 t) (iblk m c 2 t) (iblk m c 3 t)) (View.ld (iblk m c 3 t) r0_8)) (ix2 j0 j1) = _
  pointwise [k0_pay1, k0_pay2, k0_pay3, k0_pay4, k0_pay5, k0_pay6]
  simp only [iblk0_apply, iblk1_apply, iblk2_apply, iblk3_apply, Update.delta, Update.first, Update.second, Update.grad_apply]
  rfl

theorem final7 (c : Dev nD) : (dats m 0 c).arrAt 7 cfg0.N = Update.second (m ((c : Thread nD τ).loc main_arg2)) (Update.grad (fun d (i : S1024x706.Idx) => (m ((c : Thread nD τ).loc main_arg3)) (ix3 d (i 0) (i 1)))) :=
  (dats m 0 c).arrAt_eq_of_cover 7 _ (fun t _ => flush_eq7 m c t) cover7

end Cert.UpdInIdeal.Call

namespace Cert.UpdInRefIdeal.Call
open Cert Cert.UpdInRefIdeal Cert.UpdInRefIdeal.Gen Idealize.ShloMosaic Idealize.ShloMosaic.TcCoe Idealize.SL.Sem

/-- The reference's sum over the first extent is the sum of the eight summands. -/
theorem sum_S1024x706 (P : FVec Ideal S8x1024x706 .bf16) :
    Host.reduceAdd (extf .f32 P bitsLt_bf16_f32) (constant S_ .f32 0x00000000#32) reducesTo_S8x1024x706_S1024x706_d0 h_S_
      = Update.grad (fun d (i : S1024x706.Idx) => P (ix3 d (i 0) (i 1))) := by
  refine funext fun (i : S1024x706.Idx) => ?_
  idx_vars i
  pointwise
  rfl

set_option maxHeartbeats 2000000 in
/-- The reference's run: its results as functions of its arguments, which it leaves. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = Update.grad (fun d (i : S1024x706.Idx) => (m ((c.tc : Thread nD τ).loc main_arg3)) (ix3 d (i 0) (i 1)))
      ∧ r.2.mem ((c.tc : Thread nD τ).loc main_v25) = Update.delta (m ((c.tc : Thread nD τ).loc main_arg0)) (m ((c.tc : Thread nD τ).loc main_arg1)) (m ((c.tc : Thread nD τ).loc main_arg2)) (Update.grad (fun d (i : S1024x706.Idx) => (m ((c.tc : Thread nD τ).loc main_arg3)) (ix3 d (i 0) (i 1))))
      ∧ r.2.mem ((c.tc : Thread nD τ).loc main_v6) = Update.first (m ((c.tc : Thread nD τ).loc main_arg1)) (Update.grad (fun d (i : S1024x706.Idx) => (m ((c.tc : Thread nD τ).loc main_arg3)) (ix3 d (i 0) (i 1))))
      ∧ r.2.mem ((c.tc : Thread nD τ).loc main_v12) = Update.second (m ((c.tc : Thread nD τ).loc main_arg2)) (Update.grad (fun d (i : S1024x706.Idx) => (m ((c.tc : Thread nD τ).loc main_arg3)) (ix3 d (i 0) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run (F := Ideal) m ρ)
  obtain ⟨h0, h1, h2, h3, h⟩ := h c
  refine ⟨h0.trans ?_, h1.trans ?_, h2.trans ?_, h3.trans ?_, h⟩
  · exact sum_S1024x706 _
  · rw [sum_S1024x706]; rfl
  · rw [sum_S1024x706]; rfl
  · rw [sum_S1024x706]; rfl

end Cert.UpdInRefIdeal.Call

namespace Cert.UpdInIdeal.Claims
open Cert Cert.UpdInIdeal Cert.UpdInIdeal.Gen Cert.UpdInIdeal.Call Idealize.ShloMosaic Idealize.ShloMosaic.TcCoe Idealize.SL.Sem

/-- The reference's frame: its host operations leave the arguments, and it declares no semaphore. -/
theorem frame_ref : Cert.quiescent_UpdInRefIdeal := fun m ρ _ =>
  (θ_run Cert.UpdInRefIdeal.defs _ _).mono (fun r h => ⟨fun c => (h c).2.2.2.2,
      Idealize.ShloMosaic.sem_eq_zero_of_no_sems (by decide) r.2⟩)
    (Cert.UpdInRefIdeal.Value.run (F := Ideal) m ρ)

set_option maxHeartbeats 2000000 in
/-- The call's results are the reference's, whatever the arguments hold. -/
theorem algebraic : Cert.algebraic_UpdInIdeal_UpdInRefIdeal := by
  intro m ρ m' ρ' _ hag
  refine ⟨fun c => Update.grad (fun d (i : S1024x706.Idx) => (m ((c.tc : Thread nD τ).loc main_arg3)) (ix3 d (i 0) (i 1))),
    fun c => Update.delta (m ((c.tc : Thread nD τ).loc main_arg0)) (m ((c.tc : Thread nD τ).loc main_arg1)) (m ((c.tc : Thread nD τ).loc main_arg2)) (Update.grad (fun d (i : S1024x706.Idx) => (m ((c.tc : Thread nD τ).loc main_arg3)) (ix3 d (i 0) (i 1)))),
    fun c => Update.first (m ((c.tc : Thread nD τ).loc main_arg1)) (Update.grad (fun d (i : S1024x706.Idx) => (m ((c.tc : Thread nD τ).loc main_arg3)) (ix3 d (i 0) (i 1)))),
    fun c => Update.second (m ((c.tc : Thread nD τ).loc main_arg2)) (Update.grad (fun d (i : S1024x706.Idx) => (m ((c.tc : Thread nD τ).loc main_arg3)) (ix3 d (i 0) (i 1)))), ?_, ?_⟩
  · refine (θ_run defs _ _).mono (fun r h c => ?_) (Value.run_blocks (F := Ideal) m ρ)
    have h := h c
    rw [final4, final5, final6, final7] at h
    exact h
  · refine (θ_run Cert.UpdInRefIdeal.defs _ _).mono (fun r h c => ?_) (Cert.UpdInRefIdeal.Call.run_ref m' ρ')
    obtain ⟨e0, e1, e2, e3⟩ := hag c
    have h := h c
    rw [e0, e1, e2, e3] at h
    rw [e0, e1, e2, e3]
    exact h

end Cert.UpdInIdeal.Claims
end
-- ==== Proof.UpdConvCall.lean ====
/-
  The AdamW step of one device's shard of a weight; and the claims.
-/
module
public import proofs.«01_k».proof.Defs
public import proofs.«01_k».proof.Proof.Gen.UpdConvIdeal.Value
public import proofs.«01_k».proof.Proof.Gen.UpdConvRefIdeal.Run
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Update
@[expose] public section
set_option maxRecDepth 16384
noncomputable section
namespace Cert.UpdConvIdeal.Call
open Cert Cert.UpdConvIdeal Cert.UpdConvIdeal.Gen Idealize.ShloMosaic Idealize.ShloMosaic.TcCoe Idealize.SL.Sem
open Idealize.ShloMosaic.Pipeline (Dat)

/-- An array of reals of the given extents. -/
abbrev Arr (s : Shape) := s.Idx → EReal

variable (a0 a1 a2 : Arr S4x256)
variable (a3 : Arr S8x4x256)

set_option maxHeartbeats 1000000 in
/-- Result 0 of the call, as a function of its arguments. -/
theorem out4 : Value.G4 (F := Ideal) a0 a1 a2 a3 = Update.grad (fun d (i : S4x256.Idx) => a3 (ix3 d (i 0) (i 1))) := by
  refine funext fun (j : S4x256.Idx) => ?_
  idx_vars j
  pointwise [k0_pay6, k0_pay4]
  simp only [Update.delta, Update.first, Update.second, Update.grad_apply]
  rfl

set_option maxHeartbeats 1000000 in
/-- Result 1 of the call, as a function of its arguments. -/
theorem out5 : Value.G5 (F := Ideal) a0 a1 a2 a3 = Update.delta a0 a1 a2 (Update.grad (fun d (i : S4x256.Idx) => a3 (ix3 d (i 0) (i 1)))) := by
  refine funext fun (j : S4x256.Idx) => ?_
  idx_vars j
  pointwise [k0_pay3, k0_pay6, k0_pay7, k0_pay1, k0_pay2, k0_pay4, k0_pay5]
  simp only [Update.delta, Update.first, Update.second, Update.grad_apply]
  rfl

set_option maxHeartbeats 1000000 in
/-- Result 2 of the call, as a function of its arguments. -/
theorem out6 : Value.G6 (F := Ideal) a0 a1 a2 a3 = Update.first a1 (Update.grad (fun d (i : S4x256.Idx) => a3 (ix3 d (i 0) (i 1)))) := by
  refine funext fun (j : S4x256.Idx) => ?_
  idx_vars j
  pointwise [k0_pay1, k0_pay6, k0_pay7, k0_pay4, k0_pay5]
  simp only [Update.delta, Update.first, Update.second, Update.grad_apply]
  rfl

set_option maxHeartbeats 1000000 in
/-- Result 3 of the call, as a function of its arguments. -/
theorem out7 : Value.G7 (F := Ideal) a0 a1 a2 a3 = Update.second a2 (Update.grad (fun d (i : S4x256.Idx) => a3 (ix3 d (i 0) (i 1)))) := by
  refine funext fun (j : S4x256.Idx) => ?_
  idx_vars j
  pointwise [k0_pay2, k0_pay6, k0_pay4]
  simp only [Update.delta, Update.first, Update.second, Update.grad_apply]
  rfl

end Cert.UpdConvIdeal.Call

namespace Cert.UpdConvRefIdeal.Call
open Cert Cert.UpdConvRefIdeal Cert.UpdConvRefIdeal.Gen Idealize.ShloMosaic Idealize.ShloMosaic.TcCoe Idealize.SL.Sem

/-- The reference's sum over the first extent is the sum of the eight summands. -/
theorem sum_S4x256 (P : FVec Ideal S8x4x256 .f32) :
    Host.reduceAdd P (constant S_ .f32 0x00000000#32) reducesTo_S8x4x256_S4x256_d0 h_S_
      = Update.grad (fun d (i : S4x256.Idx) => P (ix3 d (i 0) (i 1))) := by
  refine funext fun (i : S4x256.Idx) => ?_
  idx_vars i
  pointwise
  rfl

set_option maxHeartbeats 2000000 in
/-- The reference's run: its results as functions of its arguments, which it leaves. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Update.grad (fun d (i : S4x256.Idx) => (m ((c.tc : Thread nD τ).loc main_arg3)) (ix3 d (i 0) (i 1)))
      ∧ r.2.mem ((c.tc : Thread nD τ).loc main_v24) = Update.delta (m ((c.tc : Thread nD τ).loc main_arg0)) (m ((c.tc : Thread nD τ).loc main_arg1)) (m ((c.tc : Thread nD τ).loc main_arg2)) (Update.grad (fun d (i : S4x256.Idx) => (m ((c.tc : Thread nD τ).loc main_arg3)) (ix3 d (i 0) (i 1))))
      ∧ r.2.mem ((c.tc : Thread nD τ).loc main_v5) = Update.first (m ((c.tc : Thread nD τ).loc main_arg1)) (Update.grad (fun d (i : S4x256.Idx) => (m ((c.tc : Thread nD τ).loc main_arg3)) (ix3 d (i 0) (i 1))))
      ∧ r.2.mem ((c.tc : Thread nD τ).loc main_v11) = Update.second (m ((c.tc : Thread nD τ).loc main_arg2)) (Update.grad (fun d (i : S4x256.Idx) => (m ((c.tc : Thread nD τ).loc main_arg3)) (ix3 d (i 0) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run (F := Ideal) m ρ)
  obtain ⟨h0, h1, h2, h3, h⟩ := h c
  refine ⟨h0.trans ?_, h1.trans ?_, h2.trans ?_, h3.trans ?_, h⟩
  · exact sum_S4x256 _
  · rw [sum_S4x256]; rfl
  · rw [sum_S4x256]; rfl
  · rw [sum_S4x256]; rfl

end Cert.UpdConvRefIdeal.Call

namespace Cert.UpdConvIdeal.Claims
open Cert Cert.UpdConvIdeal Cert.UpdConvIdeal.Gen Cert.UpdConvIdeal.Call Idealize.ShloMosaic Idealize.ShloMosaic.TcCoe Idealize.SL.Sem

/-- The reference's frame: its host operations leave the arguments, and it declares no semaphore. -/
theorem frame_ref : Cert.quiescent_UpdConvRefIdeal := fun m ρ _ =>
  (θ_run Cert.UpdConvRefIdeal.defs _ _).mono (fun r h => ⟨fun c => (h c).2.2.2.2,
      Idealize.ShloMosaic.sem_eq_zero_of_no_sems (by decide) r.2⟩)
    (Cert.UpdConvRefIdeal.Value.run (F := Ideal) m ρ)

set_option maxHeartbeats 2000000 in
/-- The call's results are the reference's, whatever the arguments hold. -/
theorem algebraic : Cert.algebraic_UpdConvIdeal_UpdConvRefIdeal := by
  intro m ρ m' ρ' _ hag
  refine ⟨fun c => Update.grad (fun d (i : S4x256.Idx) => (m ((c.tc : Thread nD τ).loc main_arg3)) (ix3 d (i 0) (i 1))),
    fun c => Update.delta (m ((c.tc : Thread nD τ).loc main_arg0)) (m ((c.tc : Thread nD τ).loc main_arg1)) (m ((c.tc : Thread nD τ).loc main_arg2)) (Update.grad (fun d (i : S4x256.Idx) => (m ((c.tc : Thread nD τ).loc main_arg3)) (ix3 d (i 0) (i 1)))),
    fun c => Update.first (m ((c.tc : Thread nD τ).loc main_arg1)) (Update.grad (fun d (i : S4x256.Idx) => (m ((c.tc : Thread nD τ).loc main_arg3)) (ix3 d (i 0) (i 1)))),
    fun c => Update.second (m ((c.tc : Thread nD τ).loc main_arg2)) (Update.grad (fun d (i : S4x256.Idx) => (m ((c.tc : Thread nD τ).loc main_arg3)) (ix3 d (i 0) (i 1)))), ?_, ?_⟩
  · refine (θ_run defs _ _).mono (fun r h c => ?_) (Value.run (F := Ideal) m ρ)
    have h := h c
    rw [out4, out5, out6, out7] at h
    exact h
  · refine (θ_run Cert.UpdConvRefIdeal.defs _ _).mono (fun r h c => ?_) (Cert.UpdConvRefIdeal.Call.run_ref m' ρ')
    obtain ⟨e0, e1, e2, e3⟩ := hag c
    have h := h c
    rw [e0, e1, e2, e3] at h
    rw [e0, e1, e2, e3]
    exact h

end Cert.UpdConvIdeal.Claims
end
-- ==== Proof.UpdS5BCall.lean ====
/-
  The AdamW step of the two input matrices of the second recurrence; and the claims.
-/
module
public import proofs.«01_k».proof.Defs
public import proofs.«01_k».proof.Proof.Gen.UpdS5BIdeal.Value
public import proofs.«01_k».proof.Proof.Gen.UpdS5BRefIdeal.Run
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Update
@[expose] public section
set_option maxRecDepth 16384
noncomputable section
namespace Cert.UpdS5BIdeal.Call
open Cert Cert.UpdS5BIdeal Cert.UpdS5BIdeal.Gen Idealize.ShloMosaic Idealize.ShloMosaic.TcCoe Idealize.SL.Sem
open Idealize.ShloMosaic.Pipeline (Dat)

/-- An array of reals of the given extents. -/
abbrev Arr (s : Shape) := s.Idx → EReal

variable (a0 a1 a2 a3 a4 a5 : Arr S32x64x16)
variable (a6 a7 : Arr S8x32x64x16)

set_option maxHeartbeats 1000000 in
/-- Result 0 of the call, as a function of its arguments. -/
theorem out8 : Value.G8 (F := Ideal) a0 a1 a2 a3 a4 a5 a6 a7 = Update.grad (fun d (i : S32x64x16.Idx) => a6 (ix4 d (i 0) (i 1) (i 2))) := by
  refine funext fun (j : S32x64x16.Idx) => ?_
  idx_vars j
  pointwise [k0_pay2, k0_pay11, k0_pay1]
  simp only [Update.delta, Update.first, Update.second, Update.grad_apply]
  rfl

set_option maxHeartbeats 1000000 in
/-- Result 1 of the call, as a function of its arguments. -/
theorem out9 : Value.G9 (F := Ideal) a0 a1 a2 a3 a4 a5 a6 a7 = Update.grad (fun d (i : S32x64x16.Idx) => a7 (ix4 d (i 0) (i 1) (i 2))) := by
  refine funext fun (j : S32x64x16.Idx) => ?_
  idx_vars j
  pointwise [k0_pay7, k0_pay12, k0_pay6]
  simp only [Update.delta, Update.first, Update.second, Update.grad_apply]
  rfl

set_option maxHeartbeats 1000000 in
/-- Result 2 of the call, as a function of its arguments. -/
theorem out10 : Value.G10 (F := Ideal) a0 a1 a2 a3 a4 a5 a6 a7 = Update.delta a0 a2 a4 (Update.grad (fun d (i : S32x64x16.Idx) => a6 (ix4 d (i 0) (i 1) (i 2)))) := by
  refine funext fun (j : S32x64x16.Idx) => ?_
  idx_vars j
  pointwise [k0_pay5, k0_pay11, k0_pay3, k0_pay4, k0_pay1, k0_pay2]
  simp only [Update.delta, Update.first, Update.second, Update.grad_apply]
  rfl

set_option maxHeartbeats 1000000 in
/-- Result 3 of the call, as a function of its arguments. -/
theorem out11 : Value.G11 (F := Ideal) a0 a1 a2 a3 a4 a5 a6 a7 = Update.delta a1 a3 a5 (Update.grad (fun d (i : S32x64x16.Idx) => a7 (ix4 d (i 0) (i 1) (i 2)))) := by
  refine funext fun (j : S32x64x16.Idx) => ?_
  idx_vars j
  pointwise [k0_pay10, k0_pay12, k0_pay8, k0_pay9, k0_pay6, k0_pay7]
  simp only [Update.delta, Update.first, Update.second, Update.grad_apply]
  rfl

set_option maxHeartbeats 1000000 in
/-- Result 4 of the call, as a function of its arguments. -/
theorem out12 : Value.G12 (F := Ideal) a0 a1 a2 a3 a4 a5 a6 a7 = Update.first a2 (Update.grad (fun d (i : S32x64x16.Idx) => a6 (ix4 d (i 0) (i 1) (i 2)))) := by
  refine funext fun (j : S32x64x16.Idx) => ?_
  idx_vars j
  pointwise [k0_pay3, k0_pay11, k0_pay2, k0_pay1]
  simp only [Update.delta, Update.first, Update.second, Update.grad_apply]
  rfl

set_option maxHeartbeats 1000000 in
/-- Result 5 of the call, as a function of its arguments. -/
theorem out13 : Value.G13 (F := Ideal) a0 a1 a2 a3 a4 a5 a6 a7 = Update.first a3 (Update.grad (fun d (i : S32x64x16.Idx) => a7 (ix4 d (i 0) (i 1) (i 2)))) := by
  refine funext fun (j : S32x64x16.Idx) => ?_
  idx_vars j
  pointwise [k0_pay8, k0_pay12, k0_pay7, k0_pay6]
  simp only [Update.delta, Update.first, Update.second, Update.grad_apply]
  rfl

set_option maxHeartbeats 1000000 in
/-- Result 6 of the call, as a function of its arguments. -/
theorem out14 : Value.G14 (F := Ideal) a0 a1 a2 a3 a4 a5 a6 a7 = Update.second a4 (Update.grad (fun d (i : S32x64x16.Idx) => a6 (ix4 d (i 0) (i 1) (i 2)))) := by
  refine funext fun (j : S32x64x16.Idx) => ?_
  idx_vars j
  pointwise [k0_pay4, k0_pay11, k0_pay2, k0_pay1]
  simp only [Update.delta, Update.first, Update.second, Update.grad_apply]
  rfl

set_option maxHeartbeats 1000000 in
/-- Result 7 of the call, as a function of its arguments. -/
theorem out15 : Value.G15 (F := Ideal) a0 a1 a2 a3 a4 a5 a6 a7 = Update.second a5 (Update.grad (fun d (i : S32x64x16.Idx) => a7 (ix4 d (i 0) (i 1) (i 2)))) := by
  refine funext fun (j : S32x64x16.Idx) => ?_
  idx_vars j
  pointwise [k0_pay9, k0_pay12, k0_pay7, k0_pay6]
  simp only [Update.delta, Update.first, Update.second, Update.grad_apply]
  rfl

end Cert.UpdS5BIdeal.Call

namespace Cert.UpdS5BRefIdeal.Call
open Cert Cert.UpdS5BRefIdeal Cert.UpdS5BRefIdeal.Gen Idealize.ShloMosaic Idealize.ShloMosaic.TcCoe Idealize.SL.Sem

/-- The reference's sum over the first extent is the sum of the eight summands. -/
theorem sum_S32x64x16 (P : FVec Ideal S8x32x64x16 .f32) :
    Host.reduceAdd P (constant S_ .f32 0x00000000#32) reducesTo_S8x32x64x16_S32x64x16_d0 h_S_
      = Update.grad (fun d (i : S32x64x16.Idx) => P (ix4 d (i 0) (i 1) (i 2))) := by
  refine funext fun (i : S32x64x16.Idx) => ?_
  idx_vars i
  pointwise
  rfl

set_option maxHeartbeats 2000000 in
/-- The reference's run: its results as functions of its arguments, which it leaves. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Update.grad (fun d (i : S32x64x16.Idx) => (m ((c.tc : Thread nD τ).loc main_arg6)) (ix4 d (i 0) (i 1) (i 2)))
      ∧ r.2.mem ((c.tc : Thread nD τ).loc main_v1) = Update.grad (fun d (i : S32x64x16.Idx) => (m ((c.tc : Thread nD τ).loc main_arg7)) (ix4 d (i 0) (i 1) (i 2)))
      ∧ r.2.mem ((c.tc : Thread nD τ).loc main_v25) = Update.delta (m ((c.tc : Thread nD τ).loc main_arg0)) (m ((c.tc : Thread nD τ).loc main_arg2)) (m ((c.tc : Thread nD τ).loc main_arg4)) (Update.grad (fun d (i : S32x64x16.Idx) => (m ((c.tc : Thread nD τ).loc main_arg6)) (ix4 d (i 0) (i 1) (i 2))))
      ∧ r.2.mem ((c.tc : Thread nD τ).loc main_v49) = Update.delta (m ((c.tc : Thread nD τ).loc main_arg1)) (m ((c.tc : Thread nD τ).loc main_arg3)) (m ((c.tc : Thread nD τ).loc main_arg5)) (Update.grad (fun d (i : S32x64x16.Idx) => (m ((c.tc : Thread nD τ).loc main_arg7)) (ix4 d (i 0) (i 1) (i 2))))
      ∧ r.2.mem ((c.tc : Thread nD τ).loc main_v6) = Update.first (m ((c.tc : Thread nD τ).loc main_arg2)) (Update.grad (fun d (i : S32x64x16.Idx) => (m ((c.tc : Thread nD τ).loc main_arg6)) (ix4 d (i 0) (i 1) (i 2))))
      ∧ r.2.mem ((c.tc : Thread nD τ).loc main_v30) = Update.first (m ((c.tc : Thread nD τ).loc main_arg3)) (Update.grad (fun d (i : S32x64x16.Idx) => (m ((c.tc : Thread nD τ).loc main_arg7)) (ix4 d (i 0) (i 1) (i 2))))
      ∧ r.2.mem ((c.tc : Thread nD τ).loc main_v12) = Update.second (m ((c.tc : Thread nD τ).loc main_arg4)) (Update.grad (fun d (i : S32x64x16.Idx) => (m ((c.tc : Thread nD τ).loc main_arg6)) (ix4 d (i 0) (i 1) (i 2))))
      ∧ r.2.mem ((c.tc : Thread nD τ).loc main_v36) = Update.second (m ((c.tc : Thread nD τ).loc main_arg5)) (Update.grad (fun d (i : S32x64x16.Idx) => (m ((c.tc : Thread nD τ).loc main_arg7)) (ix4 d (i 0) (i 1) (i 2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run (F := Ideal) m ρ)
  obtain ⟨h0, h1, h2, h3, h4, h5, h6, h7, h⟩ := h c
  refine ⟨h0.trans ?_, h1.trans ?_, h2.trans ?_, h3.trans ?_, h4.trans ?_, h5.trans ?_, h6.trans ?_, h7.trans ?_, h⟩
  · exact sum_S32x64x16 _
  · exact sum_S32x64x16 _
  · rw [sum_S32x64x16]; rfl
  · rw [sum_S32x64x16]; rfl
  · rw [sum_S32x64x16]; rfl
  · rw [sum_S32x64x16]; rfl
  · rw [sum_S32x64x16]; rfl
  · rw [sum_S32x64x16]; rfl

end Cert.UpdS5BRefIdeal.Call

namespace Cert.UpdS5BIdeal.Claims
open Cert Cert.UpdS5BIdeal Cert.UpdS5BIdeal.Gen Cert.UpdS5BIdeal.Call Idealize.ShloMosaic Idealize.ShloMosaic.TcCoe Idealize.SL.Sem

/-- The reference's frame: its host operations leave the arguments, and it declares no semaphore. -/
theorem frame_ref : Cert.quiescent_UpdS5BRefIdeal := fun m ρ _ =>
  (θ_run Cert.UpdS5BRefIdeal.defs _ _).mono (fun r h => ⟨fun c => (h c).2.2.2.2.2.2.2.2,
      Idealize.ShloMosaic.sem_eq_zero_of_no_sems (by decide) r.2⟩)
    (Cert.UpdS5BRefIdeal.Value.run (F := Ideal) m ρ)

set_option maxHeartbeats 2000000 in
/-- The call's results are the reference's, whatever the arguments hold. -/
theorem algebraic : Cert.algebraic_UpdS5BIdeal_UpdS5BRefIdeal := by
  intro m ρ m' ρ' _ hag
  refine ⟨fun c => Update.grad (fun d (i : S32x64x16.Idx) => (m ((c.tc : Thread nD τ).loc main_arg6)) (ix4 d (i 0) (i 1) (i 2))),
    fun c => Update.grad (fun d (i : S32x64x16.Idx) => (m ((c.tc : Thread nD τ).loc main_arg7)) (ix4 d (i 0) (i 1) (i 2))),
    fun c => Update.delta (m ((c.tc : Thread nD τ).loc main_arg0)) (m ((c.tc : Thread nD τ).loc main_arg2)) (m ((c.tc : Thread nD τ).loc main_arg4)) (Update.grad (fun d (i : S32x64x16.Idx) => (m ((c.tc : Thread nD τ).loc main_arg6)) (ix4 d (i 0) (i 1) (i 2)))),
    fun c => Update.delta (m ((c.tc : Thread nD τ).loc main_arg1)) (m ((c.tc : Thread nD τ).loc main_arg3)) (m ((c.tc : Thread nD τ).loc main_arg5)) (Update.grad (fun d (i : S32x64x16.Idx) => (m ((c.tc : Thread nD τ).loc main_arg7)) (ix4 d (i 0) (i 1) (i 2)))),
    fun c => Update.first (m ((c.tc : Thread nD τ).loc main_arg2)) (Update.grad (fun d (i : S32x64x16.Idx) => (m ((c.tc : Thread nD τ).loc main_arg6)) (ix4 d (i 0) (i 1) (i 2)))),
    fun c => Update.first (m ((c.tc : Thread nD τ).loc main_arg3)) (Update.grad (fun d (i : S32x64x16.Idx) => (m ((c.tc : Thread nD τ).loc main_arg7)) (ix4 d (i 0) (i 1) (i 2)))),
    fun c => Update.second (m ((c.tc : Thread nD τ).loc main_arg4)) (Update.grad (fun d (i : S32x64x16.Idx) => (m ((c.tc : Thread nD τ).loc main_arg6)) (ix4 d (i 0) (i 1) (i 2)))),
    fun c => Update.second (m ((c.tc : Thread nD τ).loc main_arg5)) (Update.grad (fun d (i : S32x64x16.Idx) => (m ((c.tc : Thread nD τ).loc main_arg7)) (ix4 d (i 0) (i 1) (i 2)))), ?_, ?_⟩
  · refine (θ_run defs _ _).mono (fun r h c => ?_) (Value.run (F := Ideal) m ρ)
    have h := h c
    rw [out8, out9, out10, out11, out12, out13, out14, out15] at h
    exact h
  · refine (θ_run Cert.UpdS5BRefIdeal.defs _ _).mono (fun r h c => ?_) (Cert.UpdS5BRefIdeal.Call.run_ref m' ρ')
    obtain ⟨e0, e1, e2, e3, e4, e5, e6, e7⟩ := hag c
    have h := h c
    rw [e0, e1, e2, e3, e4, e5, e6, e7] at h
    rw [e0, e1, e2, e3, e4, e5, e6, e7]
    exact h

end Cert.UpdS5BIdeal.Claims
end
-- ==== Proof.UpdLastCall.lean ====
/-
  The AdamW step of the gain of the norm before the branches; and the claims.
-/
module
public import proofs.«01_k».proof.Defs
public import proofs.«01_k».proof.Proof.Gen.UpdLastIdeal.Value
public import proofs.«01_k».proof.Proof.Gen.UpdLastRefIdeal.Run
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Update
@[expose] public section
set_option maxRecDepth 16384
noncomputable section
namespace Cert.UpdLastIdeal.Call
open Cert Cert.UpdLastIdeal Cert.UpdLastIdeal.Gen Idealize.ShloMosaic Idealize.ShloMosaic.TcCoe Idealize.SL.Sem
open Idealize.ShloMosaic.Pipeline (Dat)

/-- An array of reals of the given extents. -/
abbrev Arr (s : Shape) := s.Idx → EReal

variable (a0 a1 a2 : Arr S1024)
variable (a3 : Arr S8x1024)

set_option maxHeartbeats 1000000 in
/-- Result 0 of the call, as a function of its arguments. -/
theorem out4 : Value.G4 (F := Ideal) a0 a1 a2 a3 = Update.grad (fun d (i : S1024.Idx) => a3 (ix2 d (i 0))) := by
  refine funext fun (j : S1024.Idx) => ?_
  idx_vars j
  pointwise [k0_pay2]
  simp only [Update.delta, Update.first, Update.second, Update.grad_apply]
  rfl

set_option maxHeartbeats 1000000 in
/-- Result 1 of the call, as a function of its arguments. -/
theorem out5 : Value.G5 (F := Ideal) a0 a1 a2 a3 = Update.delta a0 a1 a2 (Update.grad (fun d (i : S1024.Idx) => a3 (ix2 d (i 0)))) := by
  refine funext fun (j : S1024.Idx) => ?_
  idx_vars j
  pointwise [k0_pay1, k0_pay5, k0_pay6, k0_pay3, k0_pay4, k0_pay2]
  simp only [Update.delta, Update.first, Update.second, Update.grad_apply]
  rfl

set_option maxHeartbeats 1000000 in
/-- Result 2 of the call, as a function of its arguments. -/
theorem out6 : Value.G6 (F := Ideal) a0 a1 a2 a3 = Update.first a1 (Update.grad (fun d (i : S1024.Idx) => a3 (ix2 d (i 0)))) := by
  refine funext fun (j : S1024.Idx) => ?_
  idx_vars j
  pointwise [k0_pay5, k0_pay3, k0_pay2]
  simp only [Update.delta, Update.first, Update.second, Update.grad_apply]
  rfl

set_option maxHeartbeats 1000000 in
/-- Result 3 of the call, as a function of its arguments. -/
theorem out7 : Value.G7 (F := Ideal) a0 a1 a2 a3 = Update.second a2 (Update.grad (fun d (i : S1024.Idx) => a3 (ix2 d (i 0)))) := by
  refine funext fun (j : S1024.Idx) => ?_
  idx_vars j
  pointwise [k0_pay6, k0_pay4, k0_pay2]
  simp only [Update.delta, Update.first, Update.second, Update.grad_apply]
  rfl

end Cert.UpdLastIdeal.Call

namespace Cert.UpdLastRefIdeal.Call
open Cert Cert.UpdLastRefIdeal Cert.UpdLastRefIdeal.Gen Idealize.ShloMosaic Idealize.ShloMosaic.TcCoe Idealize.SL.Sem

/-- The reference's sum over the first extent is the sum of the eight summands. -/
theorem sum_S1024 (P : FVec Ideal S8x1024 .f32) :
    Host.reduceAdd P (constant S_ .f32 0x00000000#32) reducesTo_S8x1024_S1024_d0 h_S_
      = Update.grad (fun d (i : S1024.Idx) => P (ix2 d (i 0))) := by
  refine funext fun (i : S1024.Idx) => ?_
  idx_vars i
  pointwise
  rfl

set_option maxHeartbeats 2000000 in
/-- The reference's run: its results as functions of its arguments, which it leaves. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Update.grad (fun d (i : S1024.Idx) => (m ((c.tc : Thread nD τ).loc main_arg3)) (ix2 d (i 0)))
      ∧ r.2.mem ((c.tc : Thread nD τ).loc main_v24) = Update.delta (m ((c.tc : Thread nD τ).loc main_arg0)) (m ((c.tc : Thread nD τ).loc main_arg1)) (m ((c.tc : Thread nD τ).loc main_arg2)) (Update.grad (fun d (i : S1024.Idx) => (m ((c.tc : Thread nD τ).loc main_arg3)) (ix2 d (i 0))))
      ∧ r.2.mem ((c.tc : Thread nD τ).loc main_v5) = Update.first (m ((c.tc : Thread nD τ).loc main_arg1)) (Update.grad (fun d (i : S1024.Idx) => (m ((c.tc : Thread nD τ).loc main_arg3)) (ix2 d (i 0))))
      ∧ r.2.mem ((c.tc : Thread nD τ).loc main_v11) = Update.second (m ((c.tc : Thread nD τ).loc main_arg2)) (Update.grad (fun d (i : S1024.Idx) => (m ((c.tc : Thread nD τ).loc main_arg3)) (ix2 d (i 0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run (F := Ideal) m ρ)
  obtain ⟨h0, h1, h2, h3, h⟩ := h c
  refine ⟨h0.trans ?_, h1.trans ?_, h2.trans ?_, h3.trans ?_, h⟩
  · exact sum_S1024 _
  · rw [sum_S1024]; rfl
  · rw [sum_S1024]; rfl
  · rw [sum_S1024]; rfl

end Cert.UpdLastRefIdeal.Call

namespace Cert.UpdLastIdeal.Claims
open Cert Cert.UpdLastIdeal Cert.UpdLastIdeal.Gen Cert.UpdLastIdeal.Call Idealize.ShloMosaic Idealize.ShloMosaic.TcCoe Idealize.SL.Sem

/-- The reference's frame: its host operations leave the arguments, and it declares no semaphore. -/
theorem frame_ref : Cert.quiescent_UpdLastRefIdeal := fun m ρ _ =>
  (θ_run Cert.UpdLastRefIdeal.defs _ _).mono (fun r h => ⟨fun c => (h c).2.2.2.2,
      Idealize.ShloMosaic.sem_eq_zero_of_no_sems (by decide) r.2⟩)
    (Cert.UpdLastRefIdeal.Value.run (F := Ideal) m ρ)

set_option maxHeartbeats 2000000 in
/-- The call's results are the reference's, whatever the arguments hold. -/
theorem algebraic : Cert.algebraic_UpdLastIdeal_UpdLastRefIdeal := by
  intro m ρ m' ρ' _ hag
  refine ⟨fun c => Update.grad (fun d (i : S1024.Idx) => (m ((c.tc : Thread nD τ).loc main_arg3)) (ix2 d (i 0))),
    fun c => Update.delta (m ((c.tc : Thread nD τ).loc main_arg0)) (m ((c.tc : Thread nD τ).loc main_arg1)) (m ((c.tc : Thread nD τ).loc main_arg2)) (Update.grad (fun d (i : S1024.Idx) => (m ((c.tc : Thread nD τ).loc main_arg3)) (ix2 d (i 0)))),
    fun c => Update.first (m ((c.tc : Thread nD τ).loc main_arg1)) (Update.grad (fun d (i : S1024.Idx) => (m ((c.tc : Thread nD τ).loc main_arg3)) (ix2 d (i 0)))),
    fun c => Update.second (m ((c.tc : Thread nD τ).loc main_arg2)) (Update.grad (fun d (i : S1024.Idx) => (m ((c.tc : Thread nD τ).loc main_arg3)) (ix2 d (i 0)))), ?_, ?_⟩
  · refine (θ_run defs _ _).mono (fun r h c => ?_) (Value.run (F := Ideal) m ρ)
    have h := h c
    rw [out4, out5, out6, out7] at h
    exact h
  · refine (θ_run Cert.UpdLastRefIdeal.defs _ _).mono (fun r h c => ?_) (Cert.UpdLastRefIdeal.Call.run_ref m' ρ')
    obtain ⟨e0, e1, e2, e3⟩ := hag c
    have h := h c
    rw [e0, e1, e2, e3] at h
    rw [e0, e1, e2, e3]
    exact h

end Cert.UpdLastIdeal.Claims
end
-- ==== Proof.Discretise.lean ====
/-
  The discretisation of one state of the second recurrence, in the real numbers: the gradient in the kernel's form, with
  complex numbers multiplied out, and in the form the chain rule gives it line by line; and that the two are equal.
-/
module
public import Idealize.ShloMosaic.PureOps
public import Idealize.ShloMosaic.Lib.Pointwise
@[expose] public section
noncomputable section
namespace Cert.Discretise
open Idealize.ShloMosaic

/-- The numbers of one state: its pole, the logarithm of its step, the gradients for its decay, the row of the input matrix
    and the row of that matrix's gradient after discretisation. -/
structure State where
  lr : ℝ
  li : ℝ
  d : ℝ
  a0 : ℝ
  a1 : ℝ
  br : Fin 16 → ℝ
  bi : Fin 16 → ℝ
  dr : Fin 16 → ℝ
  di : Fin 16 → ℝ

namespace State
variable (s : State)
/-- The step. -/
def dt : ℝ := Real.exp s.d
/-- The decay: its modulus, then its parts. -/
def mag : ℝ := Real.exp (s.lr * s.dt)
def abr : ℝ := s.mag * Real.cos (s.li * s.dt)
def abi : ℝ := s.mag * Real.sin (s.li * s.dt)
/-- The square of the pole's modulus. -/
def den : ℝ := s.lr * s.lr + s.li * s.li
/-- The coefficient of the input matrix. -/
def cr : ℝ := ((s.abr - 1) * s.lr + s.abi * s.li) / s.den
def ci : ℝ := (s.abi * s.lr - (s.abr - 1) * s.li) / s.den
/-- The coefficient's gradient. -/
def gcr : ℝ := ∑ k, (s.dr k * s.br k + s.di k * s.bi k)
def gci : ℝ := ∑ k, (s.di k * s.br k - s.dr k * s.bi k)
/-- One over the pole. -/
def ilr : ℝ := s.lr / s.den
def ili : ℝ := -s.li / s.den
/-- The decay's whole gradient. -/
def gabr : ℝ := s.a0 + (s.ilr * s.gcr + s.ili * s.gci)
def gabi : ℝ := s.a1 + (s.ilr * s.gci - s.ili * s.gcr)
/-- The derivatives for the pole: the decay's, then the coefficient's. -/
def t1r : ℝ := s.dt * s.abr
def t1i : ℝ := s.dt * s.abi
def t2r : ℝ := -(s.cr * s.ilr - s.ci * s.ili)
def t2i : ℝ := -(s.cr * s.ili + s.ci * s.ilr)
/-- The pole's gradient. -/
def poleR : ℝ := s.t1r * s.gabr + s.t1i * s.gabi + (s.t2r * s.gcr + s.t2i * s.gci)
def poleI : ℝ := s.t1r * s.gabi - s.t1i * s.gabr + (s.t2r * s.gci - s.t2i * s.gcr)
/-- The state's part of the gradient for the logarithm of the step. -/
def step : ℝ := ((s.lr * s.abr - s.li * s.abi) * s.gabr + (s.lr * s.abi + s.li * s.abr) * s.gabi) * s.dt
/-- The input matrix's gradient. -/
def inR (k : Fin 16) : ℝ := s.cr * s.dr k + s.ci * s.di k
def inI (k : Fin 16) : ℝ := s.cr * s.di k - s.ci * s.dr k
end State

namespace State
variable (s : State)
theorem dt_fold : Real.exp s.d = s.dt := rfl
theorem mag_fold : Real.exp (s.lr * s.dt) = s.mag := rfl
theorem abr_fold : s.mag * Real.cos (s.li * s.dt) = s.abr := rfl
theorem abi_fold : s.mag * Real.sin (s.li * s.dt) = s.abi := rfl
theorem den_fold : s.lr * s.lr + s.li * s.li = s.den := rfl
/-- The chain rule's sums, one product each. -/
theorem gci_fold : ∑ k, s.di k * s.br k + ∑ k, -s.dr k * s.bi k = s.gci := by
  rw [← Finset.sum_add_distrib]
  exact Finset.sum_congr rfl fun k _ => by ring
theorem gcr_fold : ∑ k, s.di k * s.bi k + ∑ k, s.dr k * s.br k = s.gcr := by
  rw [← Finset.sum_add_distrib]
  exact Finset.sum_congr rfl fun k _ => by ring
/-- The decay's gradient: the coefficient depends on the decay too. -/
theorem gabr_fold : s.a0 + -(s.gci / s.den) * s.li + s.gcr / s.den * s.lr = s.gabr := by
  unfold gabr ilr ili
  ring
theorem gabi_fold : s.a1 + s.gci / s.den * s.lr + s.gcr / s.den * s.li = s.gabi := by
  unfold gabi ilr ili
  ring
/-- The gradient through the quotient by the square of the modulus. -/
def quot : ℝ := -(s.gci * (1 / (s.den * s.den)) * (s.abi * s.lr - (s.abr - 1) * s.li)) + -(s.gcr * (1 / (s.den * s.den)) * ((s.abr - 1) * s.lr + s.abi * s.li))
/-- The pole's gradient as the chain rule gives it. -/
theorem poleR_eq (h : s.den ≠ 0) :
    s.abi * (s.gci / s.den) + (s.abr - 1) * (s.gcr / s.den) + s.lr * s.quot + s.quot * s.lr
      + (s.gabi * Real.sin (s.li * s.dt) + s.gabr * Real.cos (s.li * s.dt)) * s.mag * s.dt = s.poleR := by
  have hd : s.den = s.lr * s.lr + s.li * s.li := rfl
  have e : (s.gabi * Real.sin (s.li * s.dt) + s.gabr * Real.cos (s.li * s.dt)) * s.mag = s.gabi * s.abi + s.gabr * s.abr := by
    unfold abi abr
    ring
  rw [e]
  unfold poleR t1r t1i t2r t2i quot cr ci ilr ili
  generalize s.den = D at *
  generalize s.abr = p
  generalize s.abi = q
  field_simp
  rw [hd]
  ring
theorem poleI_eq (h : s.den ≠ 0) :
    (s.abr - 1) * -(s.gci / s.den) + s.abi * (s.gcr / s.den) + s.li * s.quot + s.quot * s.li
      + s.mag * s.gabi * Real.cos (s.li * s.dt) * s.dt + -(s.mag * s.gabr) * Real.sin (s.li * s.dt) * s.dt = s.poleI := by
  have hd : s.den = s.lr * s.lr + s.li * s.li := rfl
  have e : s.mag * s.gabi * Real.cos (s.li * s.dt) * s.dt + -(s.mag * s.gabr) * Real.sin (s.li * s.dt) * s.dt = s.dt * (s.gabi * s.abr - s.gabr * s.abi) := by
    unfold abi abr
    ring
  rw [add_assoc, e]
  unfold poleI t1r t1i t2r t2i quot cr ci ilr ili
  generalize s.den = D at *
  generalize s.abr = p
  generalize s.abi = q
  field_simp
  rw [hd]
  ring
/-- The step's gradient as the chain rule gives it. -/
theorem step_eq : (s.li * (s.mag * s.gabi * Real.cos (s.li * s.dt)) + s.li * (-(s.mag * s.gabr) * Real.sin (s.li * s.dt))
    + s.lr * ((s.gabi * Real.sin (s.li * s.dt) + s.gabr * Real.cos (s.li * s.dt)) * s.mag)) * s.dt = s.step := by
  unfold step abr abi
  ring
end State

/-- A finite sum of reals is the sum of the reals. -/
theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]
/-- The quotient of two reals. -/
theorem div_real {x y : ℝ} (h : y ≠ 0) : Ideal.div (x : EReal) (y : EReal) = ((x / y : ℝ) : EReal) := by
  rw [Ideal.div_coe h, ← EReal.coe_mul, mul_one_div]

/-- The row that state `s` of group `g` has in the arrays of 2048 rows, and a row's group and state. -/
def row (g : Fin 32) (s : Fin 64) : Fin 2048 := ⟨g.val * 64 + s.val, by omega⟩
def group (n : Fin 2048) : Fin 32 := ⟨n.val / 64, by omega⟩
def place (n : Fin 2048) : Fin 64 := ⟨n.val % 64, by omega⟩
theorem row_eq (n : Fin 2048) : row (group n) (place n) = n := Fin.ext (by show n.val / 64 * 64 + n.val % 64 = n.val; omega)
theorem group_row (g : Fin 32) (s : Fin 64) : group (row g s) = g := Fin.ext (by show (g.val * 64 + s.val) / 64 = g.val; omega)
theorem place_row (g : Fin 32) (s : Fin 64) : place (row g s) = s := Fin.ext (by show (g.val * 64 + s.val) % 64 = s.val; omega)

abbrev S32x64 : Shape := ⟨2, ![32, 64]⟩
abbrev S32 : Shape := ⟨1, ![32]⟩
abbrev S32x1 : Shape := ⟨2, ![32, 1]⟩
abbrev S32x64x16 : Shape := ⟨3, ![32, 64, 16]⟩
abbrev S8x2048 : Shape := ⟨2, ![8, 2048]⟩
abbrev S2048x1 : Shape := ⟨2, ![2048, 1]⟩
abbrev S2048x2 : Shape := ⟨2, ![2048, 2]⟩
abbrev S2048x16 : Shape := ⟨2, ![2048, 16]⟩

/-- The arguments hold the states' numbers, which are real, and no pole is zero. -/
structure Args (S : Fin 2048 → State) (a0 a1 : S32x64.Idx → EReal) (a2 : S32.Idx → EReal) (a3 a4 : S32x64x16.Idx → EReal)
    (a5 : S8x2048.Idx → EReal) (a6 a7 : S2048x16.Idx → EReal) : Prop where
  h0 : ∀ g s, a0 (ix2 g s) = ((S (row g s)).lr : EReal)
  h1 : ∀ g s, a1 (ix2 g s) = ((S (row g s)).li : EReal)
  h2 : ∀ g s, a2 (ix1 g) = ((S (row g s)).d : EReal)
  h3 : ∀ g s k, a3 (ix3 g s k) = ((S (row g s)).br k : EReal)
  h4 : ∀ g s k, a4 (ix3 g s k) = ((S (row g s)).bi k : EReal)
  h5 : ∀ n, a5 (ix2 (0 : Fin 8) n) = ((S n).a0 : EReal)
  h5' : ∀ n, a5 (ix2 (1 : Fin 8) n) = ((S n).a1 : EReal)
  h6 : ∀ n k, a6 (ix2 n k) = ((S n).dr k : EReal)
  h7 : ∀ n k, a7 (ix2 n k) = ((S n).di k : EReal)
  hn : ∀ n, (S n).den ≠ 0

/-- The states that arrays of reals hold. -/
def states (a0 a1 : S32x64.Idx → EReal) (a2 : S32.Idx → EReal) (a3 a4 : S32x64x16.Idx → EReal)
    (a5 : S8x2048.Idx → EReal) (a6 a7 : S2048x16.Idx → EReal) (n : Fin 2048) : State where
  lr := (a0 (ix2 (group n) (place n))).toReal
  li := (a1 (ix2 (group n) (place n))).toReal
  d := (a2 (ix1 (group n))).toReal
  br k := (a3 (ix3 (group n) (place n) k)).toReal
  bi k := (a4 (ix3 (group n) (place n) k)).toReal
  a0 := (a5 (ix2 (0 : Fin 8) n)).toReal
  a1 := (a5 (ix2 (1 : Fin 8) n)).toReal
  dr k := (a6 (ix2 n k)).toReal
  di k := (a7 (ix2 n k)).toReal

/-- What the precondition says of one state and one lane, in the extended reals. -/
structure Tame (x0 x1 x2 x3 x4 x5 x5' x6 x7 : EReal) : Prop where
  f0 : max x0 (-x0) < ⊤
  f1 : max x1 (-x1) < ⊤
  f2 : max x2 (-x2) < ⊤
  f3 : max x3 (-x3) < ⊤
  f4 : max x4 (-x4) < ⊤
  f5 : max x5 (-x5) < ⊤
  f5' : max x5' (-x5') < ⊤
  f6 : max x6 (-x6) < ⊤
  f7 : max x7 (-x7) < ⊤
  pos : 0 < x0 * x0 + x1 * x1
/-- A number whose absolute value is finite is a real. -/
theorem coe_of_abs {x : EReal} (h : max x (-x) < ⊤) : x = ((x.toReal : ℝ) : EReal) := by
  refine (EReal.coe_toReal (fun e => ?_) (fun e => ?_)).symm
  · subst e; simp at h
  · subst e; simp at h
theorem args_states {a0 a1 : S32x64.Idx → EReal} {a2 : S32.Idx → EReal} {a3 a4 : S32x64x16.Idx → EReal} {a5 : S8x2048.Idx → EReal}
    {a6 a7 : S2048x16.Idx → EReal}
    (h : ∀ g s k, Tame (a0 (ix2 g s)) (a1 (ix2 g s)) (a2 (ix1 g)) (a3 (ix3 g s k)) (a4 (ix3 g s k)) (a5 (ix2 (0 : Fin 8) (row g s)))
      (a5 (ix2 (1 : Fin 8) (row g s))) (a6 (ix2 (row g s) k)) (a7 (ix2 (row g s) k))) :
    Args (states a0 a1 a2 a3 a4 a5 a6 a7) a0 a1 a2 a3 a4 a5 a6 a7 where
  h0 g s := (coe_of_abs (h g s 0).f0).trans (by unfold states; simp only [group_row, place_row])
  h1 g s := (coe_of_abs (h g s 0).f1).trans (by unfold states; simp only [group_row, place_row])
  h2 g s := (coe_of_abs (h g s 0).f2).trans (by unfold states; simp only [group_row])
  h3 g s k := (coe_of_abs (h g s k).f3).trans (by unfold states; simp only [group_row, place_row])
  h4 g s k := (coe_of_abs (h g s k).f4).trans (by unfold states; simp only [group_row, place_row])
  h5 n := by have h := h (group n) (place n) 0; rw [row_eq] at h; exact coe_of_abs h.f5
  h5' n := by have h := h (group n) (place n) 0; rw [row_eq] at h; exact coe_of_abs h.f5'
  h6 n k := by have h := h (group n) (place n) k; rw [row_eq] at h; exact coe_of_abs h.f6
  h7 n k := by have h := h (group n) (place n) k; rw [row_eq] at h; exact coe_of_abs h.f7
  hn n := by
    have h := h (group n) (place n) 0
    have p := h.pos
    rw [coe_of_abs h.f0, coe_of_abs h.f1, ← EReal.coe_mul, ← EReal.coe_mul, ← EReal.coe_add] at p
    exact (EReal.coe_pos.mp p).ne'

/-- The call's results: the poles' gradients, the steps', and the input matrix's. -/
def poles (S : Fin 2048 → State) : S2048x2.Idx → EReal := fun i => ((if (i 1).val = 0 then (S (i 0)).poleR else (S (i 0)).poleI : ℝ) : EReal)
def steps (S : Fin 2048 → State) : S32x1.Idx → EReal := fun i => ((∑ s, (S (row (i 0) s)).step : ℝ) : EReal)
def inputR (S : Fin 2048 → State) : S2048x16.Idx → EReal := fun i => (((S (i 0)).inR (i 1) : ℝ) : EReal)
def inputI (S : Fin 2048 → State) : S2048x16.Idx → EReal := fun i => (((S (i 0)).inI (i 1) : ℝ) : EReal)
/-- A window whose block is its array reads the array's own index. -/
theorem idx_whole {S : Shape} (r : Rect S) (h : ∀ a, r.off a = 0) (h1 : ∀ a, r.stride a = 1) (i : r.shape.Idx) (a : Fin S.rank) :
    (r.idx i a : Nat) = i a := by
  rw [LoadRect.idx_apply, h a, h1 a, Nat.zero_add, Nat.one_mul]
end Cert.Discretise
end
-- ==== Proof.DiscCall.lean ====
/-
  The call of the second recurrence's discretisation. The kernel and the reference take the same operations per
  state and lane, so the results agree whatever the arguments hold.
-/
module
public import proofs.«01_k».proof.Defs
public import proofs.«01_k».proof.Proof.Gen.DiscIdeal.Value
public import proofs.«01_k».proof.Proof.Gen.DiscRefIdeal.Run
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Discretise
@[expose] public section
set_option maxRecDepth 16384
noncomputable section
namespace Cert.DiscIdeal.Call
open Cert.DiscIdeal Cert.DiscIdeal.Gen Idealize.ShloMosaic Idealize.ShloMosaic.TcCoe Idealize.SL.Sem
open Idealize.ShloMosaic.Pipeline (Dat)
open Cert.Discretise (row group place row_eq idx_whole)

section
variable (lr li d br bi : EReal)
/-- A state's step, the discrete pole's two parts, and the input's factor's two parts. -/
def dt : EReal := Ideal.exp d
def poleR : EReal := Ideal.exp (lr * dt d) * Ideal.cos (li * dt d)
def poleI : EReal := Ideal.exp (lr * dt d) * Ideal.sin (li * dt d)
def factorR : EReal := Ideal.div ((poleR lr li d - 1) * lr + poleI lr li d * li) (lr * lr + li * li)
def factorI : EReal := Ideal.div (poleI lr li d * lr - (poleR lr li d - 1) * li) (lr * lr + li * li)
/-- The discrete input's two parts. -/
def inR : EReal := factorR lr li d * br - factorI lr li d * bi
def inI : EReal := factorR lr li d * bi + factorI lr li d * br
end
section
variable (a0 a1 : S32x64.Idx → EReal) (a2 : S32.Idx → EReal) (a3 a4 : S32x64x16.Idx → EReal)
/-- The results, each state a row. -/
def poles : S2048x2.Idx → EReal := fun i =>
  (if (i 1).val = 0 then poleR else poleI) (a0 (ix2 (group (i 0)) (place (i 0)))) (a1 (ix2 (group (i 0)) (place (i 0)))) (a2 (ix1 (group (i 0))))
def inputR : S2048x16.Idx → EReal := fun i =>
  inR (a0 (ix2 (group (i 0)) (place (i 0)))) (a1 (ix2 (group (i 0)) (place (i 0)))) (a2 (ix1 (group (i 0)))) (a3 (ix3 (group (i 0)) (place (i 0)) (i 1))) (a4 (ix3 (group (i 0)) (place (i 0)) (i 1)))
def inputI : S2048x16.Idx → EReal := fun i =>
  inI (a0 (ix2 (group (i 0)) (place (i 0)))) (a1 (ix2 (group (i 0)) (place (i 0)))) (a2 (ix1 (group (i 0)))) (a3 (ix3 (group (i 0)) (place (i 0)) (i 1))) (a4 (ix3 (group (i 0)) (place (i 0)) (i 1)))
end

section
/-- The blocks hold the arguments, each state a row. -/
structure Holds (a0 a1 : S32x64.Idx → EReal) (a2 : S32.Idx → EReal) (a3 a4 : S32x64x16.Idx → EReal)
    (x0 x1 x2 : S2048x1.Idx → EReal) (x3 x4 : S2048x16.Idx → EReal) : Prop where
  h0 : ∀ n, x0 (ix2 n (0 : Fin 1)) = a0 (ix2 (group n) (place n))
  h1 : ∀ n, x1 (ix2 n (0 : Fin 1)) = a1 (ix2 (group n) (place n))
  h2 : ∀ n, x2 (ix2 n (0 : Fin 1)) = a2 (ix1 (group n))
  h3 : ∀ n k, x3 (ix2 n k) = a3 (ix3 (group n) (place n) k)
  h4 : ∀ n k, x4 (ix2 n k) = a4 (ix3 (group n) (place n) k)
variable {a0 a1 : S32x64.Idx → EReal} {a2 : S32.Idx → EReal} {a3 a4 : S32x64x16.Idx → EReal}
    {x0 x1 x2 : S2048x1.Idx → EReal} {x3 x4 : S2048x16.Idx → EReal} (H : Holds a0 a1 a2 a3 a4 x0 x1 x2 x3 x4)
include H
theorem out6 : (out0_6 (F := Ideal) x0 x1 x2 x3 x4 : S2048x16.Idx → EReal) = inputR a0 a1 a2 a3 a4 := by
  refine funext fun (i : S2048x16.Idx) => ?_
  idx_vars i
  unfold out0_6
  rw [View.canon_unit_zero (funext fun a => by fin_cases a <;> rfl)]
  pointwise [k0_pay1, k0_pay2, k0_pay3, k0_pay4, k0_pay5, k0_pay6, k0_pay7, k0_pay8, k0_pay9, k0_pay10, k0_pay11, k0_pay12, k0_pay13, k0_pay14]
  simp only [H.h0, H.h1, H.h2, H.h3, H.h4]
  rfl
theorem out7 : (out0_7 (F := Ideal) x0 x1 x2 x3 x4 : S2048x16.Idx → EReal) = inputI a0 a1 a2 a3 a4 := by
  refine funext fun (i : S2048x16.Idx) => ?_
  idx_vars i
  unfold out0_7
  rw [View.canon_unit_zero (funext fun a => by fin_cases a <;> rfl)]
  pointwise [k0_pay1, k0_pay2, k0_pay3, k0_pay4, k0_pay5, k0_pay6, k0_pay7, k0_pay8, k0_pay9, k0_pay10, k0_pay11, k0_pay12, k0_pay13, k0_pay14]
  simp only [H.h0, H.h1, H.h2, H.h3, H.h4]
  rfl
theorem out5 : (out0_5 (F := Ideal) x0 x1 x2 x3 x4 : S2048x2.Idx → EReal) = poles a0 a1 a2 := by
  refine funext fun y => ?_
  unfold out0_5
  refine View.canon_apply_of_pieces (Val := Elt Ideal) (e := .f32) (poles a0 a1 a2) _ (fun pc hpc => ?_) y (cover0_5 _ _ y)
  rcases List.mem_cons.mp hpc with rfl | hpc
  · intro q
    idx_vars q
    rw [show r0_2.emb (ix2 q0 q1) = ix2 q0 (1 : Fin 2) from funext fun a => Fin.ext (by match a with | ⟨0, _⟩ => exact (Nat.zero_add _).trans (Nat.one_mul _) | ⟨1, _⟩ => show 1 + 1 * q1.val = 1; omega)]
    obtain rfl : q1 = 0 := Subsingleton.elim _ _
    pointwise [k0_pay1, k0_pay2, k0_pay3, k0_pay4, k0_pay5, k0_pay6, k0_pay7, k0_pay8, k0_pay9, k0_pay10, k0_pay11, k0_pay12, k0_pay13, k0_pay14]
    simp only [H.h0, H.h1, H.h2]
    rfl
  · obtain rfl := List.mem_singleton.mp hpc
    intro q
    idx_vars q
    rw [show r0_1.emb (ix2 q0 q1) = ix2 q0 (0 : Fin 2) from funext fun a => Fin.ext (by match a with | ⟨0, _⟩ => exact (Nat.zero_add _).trans (Nat.one_mul _) | ⟨1, _⟩ => show 0 + 1 * q1.val = 0; omega)]
    obtain rfl : q1 = 0 := Subsingleton.elim _ _
    pointwise [k0_pay1, k0_pay2, k0_pay3, k0_pay4, k0_pay5, k0_pay6, k0_pay7, k0_pay8, k0_pay9, k0_pay10, k0_pay11, k0_pay12, k0_pay13, k0_pay14]
    simp only [H.h0, H.h1, H.h2]
    rfl
end
variable (m : (ℓ : Loc nD τ sig) → Buf (Elt Ideal) ℓ) (ρ : Dev nD → PrngReg)
/-- What the host code leaves in the windows' arrays. -/
theorem V0 (c : Dev nD) (g : Fin 32) (s : Fin 64) : (V m c main_v0 : S2048x1.Idx → EReal) (ix2 (row g s) (0 : Fin 1)) = (m ((c : Thread nD τ).loc main_arg0) : S32x64.Idx → EReal) (ix2 g s) := by
  unfold V hostOps0
  after_results_simp
  pointwise [row]
theorem V1 (c : Dev nD) (g : Fin 32) (s : Fin 64) : (V m c main_v1 : S2048x1.Idx → EReal) (ix2 (row g s) (0 : Fin 1)) = (m ((c : Thread nD τ).loc main_arg1) : S32x64.Idx → EReal) (ix2 g s) := by
  unfold V hostOps0
  after_results_simp
  pointwise [row]
theorem V4 (c : Dev nD) (g : Fin 32) (s : Fin 64) : (V m c main_v4 : S2048x1.Idx → EReal) (ix2 (row g s) (0 : Fin 1)) = (m ((c : Thread nD τ).loc main_arg2) : S32.Idx → EReal) (ix1 g) := by
  unfold V hostOps0
  after_results_simp
  pointwise [row]
theorem V5 (c : Dev nD) (g : Fin 32) (s : Fin 64) (k : Fin 16) : (V m c main_v5 : S2048x16.Idx → EReal) (ix2 (row g s) k) = (m ((c : Thread nD τ).loc main_arg3) : S32x64x16.Idx → EReal) (ix3 g s k) := by
  unfold V hostOps0
  after_results_simp
  pointwise [row]
theorem V6 (c : Dev nD) (g : Fin 32) (s : Fin 64) (k : Fin 16) : (V m c main_v6 : S2048x16.Idx → EReal) (ix2 (row g s) k) = (m ((c : Thread nD τ).loc main_arg4) : S32x64x16.Idx → EReal) (ix3 g s k) := by
  unfold V hostOps0
  after_results_simp
  pointwise [row]
theorem iblk0 (c : Dev nD) (t : Fin cfg0.N) : (iblk m c 0 t : S2048x1.Idx → EReal) = V m c main_v0 :=
  funext fun (i : S2048x1.Idx) => congrArg (V m c main_v0) (funext fun a => Fin.ext (idx_whole (win0_0.rect t) ((by decide +kernel : ∀ t : Fin grid0.N, ∀ a, (win0_0.rect t).off a = 0) t) (fun _ => rfl) i a))
theorem iblk1 (c : Dev nD) (t : Fin cfg0.N) : (iblk m c 1 t : S2048x1.Idx → EReal) = V m c main_v1 :=
  funext fun (i : S2048x1.Idx) => congrArg (V m c main_v1) (funext fun a => Fin.ext (idx_whole (win0_1.rect t) ((by decide +kernel : ∀ t : Fin grid0.N, ∀ a, (win0_1.rect t).off a = 0) t) (fun _ => rfl) i a))
theorem iblk2 (c : Dev nD) (t : Fin cfg0.N) : (iblk m c 2 t : S2048x1.Idx → EReal) = V m c main_v4 :=
  funext fun (i : S2048x1.Idx) => congrArg (V m c main_v4) (funext fun a => Fin.ext (idx_whole (win0_2.rect t) ((by decide +kernel : ∀ t : Fin grid0.N, ∀ a, (win0_2.rect t).off a = 0) t) (fun _ => rfl) i a))
theorem iblk3 (c : Dev nD) (t : Fin cfg0.N) : (iblk m c 3 t : S2048x16.Idx → EReal) = V m c main_v5 :=
  funext fun (i : S2048x16.Idx) => congrArg (V m c main_v5) (funext fun a => Fin.ext (idx_whole (win0_3.rect t) ((by decide +kernel : ∀ t : Fin grid0.N, ∀ a, (win0_3.rect t).off a = 0) t) (fun _ => rfl) i a))
theorem iblk4 (c : Dev nD) (t : Fin cfg0.N) : (iblk m c 4 t : S2048x16.Idx → EReal) = V m c main_v6 :=
  funext fun (i : S2048x16.Idx) => congrArg (V m c main_v6) (funext fun a => Fin.ext (idx_whole (win0_4.rect t) ((by decide +kernel : ∀ t : Fin grid0.N, ∀ a, (win0_4.rect t).off a = 0) t) (fun _ => rfl) i a))
variable (c : Dev nD)
/-- The blocks of the one point hold the arguments. -/
theorem holds (t : Fin cfg0.N) : Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (iblk m c 0 t) (iblk m c 1 t) (iblk m c 2 t) (iblk m c 3 t) (iblk m c 4 t) where
  h0 n := by rw [iblk0]; exact (congrArg (fun n => (V m c main_v0 : S2048x1.Idx → EReal) (ix2 n 0)) (row_eq n).symm).trans (V0 m c _ _)
  h1 n := by rw [iblk1]; exact (congrArg (fun n => (V m c main_v1 : S2048x1.Idx → EReal) (ix2 n 0)) (row_eq n).symm).trans (V1 m c _ _)
  h2 n := by rw [iblk2]; exact (congrArg (fun n => (V m c main_v4 : S2048x1.Idx → EReal) (ix2 n 0)) (row_eq n).symm).trans (V4 m c _ _)
  h3 n k := by rw [iblk3]; exact (congrArg (fun n => (V m c main_v5 : S2048x16.Idx → EReal) (ix2 n k)) (row_eq n).symm).trans (V5 m c _ _ _)
  h4 n k := by rw [iblk4]; exact (congrArg (fun n => (V m c main_v6 : S2048x16.Idx → EReal) (ix2 n k)) (row_eq n).symm).trans (V6 m c _ _ _)
theorem cover5 (i : S2048x2.Idx) : ∃ t : Fin cfg0.N, (cfg0.win 5).flush t = true ∧ i ∈ ((cfg0.win 5).blk t).view.set := by
  obtain ⟨t, ht⟩ : ∃ t : Fin cfg0.N, t.val = 0 := ⟨⟨0, by have h : cfg0.N = 1 := N_0; omega⟩, rfl⟩
  refine ⟨t, flush0_5 t, ?_⟩
  show i ∈ ((View.whole main_v7_0).slice (win0_5.rect t)).set
  rw [View.set_slice_whole, Rect.mem_set_unit]
  intro a
  have h := (by decide +kernel : ∀ t : Fin grid0.N, ∀ a, win0_5.index t a * win0_5.size a = 0) t a
  have hi : (i a).val < S2048x2.size a := (i a).isLt
  exact ⟨h.le.trans (Nat.zero_le _), hi.trans_le (Nat.le_add_left _ _)⟩
theorem final5 : (dats m 0 c).arrAt 5 cfg0.N = poles (m ((c.tc : Thread nD τ).loc main_arg0)) (m ((c.tc : Thread nD τ).loc main_arg1)) (m ((c.tc : Thread nD τ).loc main_arg2)) := by
  refine (dats m 0 c).arrAt_eq_of_cover 5 _ (fun t _ => ?_) cover5
  rw [Value.flushed5]
  refine funext fun (i : S2048x2.Idx) => ?_
  refine Eq.trans ?_ (congrArg (poles (m ((c.tc : Thread nD τ).loc main_arg0)) (m ((c.tc : Thread nD τ).loc main_arg1)) (m ((c.tc : Thread nD τ).loc main_arg2))) (funext fun a => Fin.ext (idx_whole (win0_5.rect t) ((by decide +kernel : ∀ t : Fin grid0.N, ∀ a, (win0_5.rect t).off a = 0) t) (fun _ => rfl) i a))).symm
  exact congrFun (out5 (holds m c t)) i
theorem cover6 (i : S2048x16.Idx) : ∃ t : Fin cfg0.N, (cfg0.win 6).flush t = true ∧ i ∈ ((cfg0.win 6).blk t).view.set := by
  obtain ⟨t, ht⟩ : ∃ t : Fin cfg0.N, t.val = 0 := ⟨⟨0, by have h : cfg0.N = 1 := N_0; omega⟩, rfl⟩
  refine ⟨t, flush0_6 t, ?_⟩
  show i ∈ ((View.whole main_v7_1).slice (win0_6.rect t)).set
  rw [View.set_slice_whole, Rect.mem_set_unit]
  intro a
  have h := (by decide +kernel : ∀ t : Fin grid0.N, ∀ a, win0_6.index t a * win0_6.size a = 0) t a
  have hi : (i a).val < S2048x16.size a := (i a).isLt
  exact ⟨h.le.trans (Nat.zero_le _), hi.trans_le (Nat.le_add_left _ _)⟩
theorem final6 : (dats m 0 c).arrAt 6 cfg0.N = inputR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_cover 6 _ (fun t _ => ?_) cover6
  rw [Value.flushed6]
  refine funext fun (i : S2048x16.Idx) => ?_
  refine Eq.trans ?_ (congrArg (inputR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (funext fun a => Fin.ext (idx_whole (win0_6.rect t) ((by decide +kernel : ∀ t : Fin grid0.N, ∀ a, (win0_6.rect t).off a = 0) t) (fun _ => rfl) i a))).symm
  exact congrFun (out6 (holds m c t)) i
theorem cover7 (i : S2048x16.Idx) : ∃ t : Fin cfg0.N, (cfg0.win 7).flush t = true ∧ i ∈ ((cfg0.win 7).blk t).view.set := by
  obtain ⟨t, ht⟩ : ∃ t : Fin cfg0.N, t.val = 0 := ⟨⟨0, by have h : cfg0.N = 1 := N_0; omega⟩, rfl⟩
  refine ⟨t, flush0_7 t, ?_⟩
  show i ∈ ((View.whole main_v7_2).slice (win0_7.rect t)).set
  rw [View.set_slice_whole, Rect.mem_set_unit]
  intro a
  have h := (by decide +kernel : ∀ t : Fin grid0.N, ∀ a, win0_7.index t a * win0_7.size a = 0) t a
  have hi : (i a).val < S2048x16.size a := (i a).isLt
  exact ⟨h.le.trans (Nat.zero_le _), hi.trans_le (Nat.le_add_left _ _)⟩
theorem final7 : (dats m 0 c).arrAt 7 cfg0.N = inputI (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_cover 7 _ (fun t _ => ?_) cover7
  rw [Value.flushed7]
  refine funext fun (i : S2048x16.Idx) => ?_
  refine Eq.trans ?_ (congrArg (inputI (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (funext fun a => Fin.ext (idx_whole (win0_7.rect t) ((by decide +kernel : ∀ t : Fin grid0.N, ∀ a, (win0_7.rect t).off a = 0) t) (fun _ => rfl) i a))).symm
  exact congrFun (out7 (holds m c t)) i
end Cert.DiscIdeal.Call

namespace Cert.DiscRefIdeal.Call
open Cert Cert.DiscRefIdeal Cert.DiscRefIdeal.Gen Idealize.ShloMosaic Idealize.ShloMosaic.TcCoe Idealize.SL.Sem
open Cert.Discretise (row group place row_eq)
open Cert.DiscIdeal.Call (poles inputR inputI)
/-- Two columns side by side. -/
theorem columns (X Y : FVec Ideal S2048x1 .f32) (n : Fin 2048) :
    (concatenate S2048x2 1 [⟨S2048x1, X⟩, ⟨S2048x1, Y⟩] concatenates_S2048x1_S2048x1_S2048x2_d1 : S2048x2.Idx → EReal) (ix2 n (0 : Fin 2)) = (X : S2048x1.Idx → EReal) (ix2 n (0 : Fin 1))
    ∧ (concatenate S2048x2 1 [⟨S2048x1, X⟩, ⟨S2048x1, Y⟩] concatenates_S2048x1_S2048x1_S2048x2_d1 : S2048x2.Idx → EReal) (ix2 n (1 : Fin 2)) = (Y : S2048x1.Idx → EReal) (ix2 n (0 : Fin 1)) := by
  constructor
  · pointwise
  · pointwise

set_option maxHeartbeats 1000000 in
/-- The reference's run: its results as functions of its arguments, which it leaves. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = poles (m ((c.tc : Thread nD τ).loc main_arg0)) (m ((c.tc : Thread nD τ).loc main_arg1)) (m ((c.tc : Thread nD τ).loc main_arg2))
      ∧ r.2.mem ((c.tc : Thread nD τ).loc main_v45) = inputR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v46) = inputI (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run (F := Ideal) m ρ)
  obtain ⟨h0, h1, h2, h⟩ := h c
  refine ⟨h0.trans ?_, h1.trans ?_, h2.trans ?_, h⟩
  · refine funext fun (i : S2048x2.Idx) => ?_
    idx_vars i
    rcases (by omega : i1 = 0 ∨ i1 = 1) with rfl | rfl
    · refine (columns _ _ i0).1.trans ?_
      pointwise
      rfl
    · refine (columns _ _ i0).2.trans ?_
      pointwise
      rfl
  · refine funext fun (i : S2048x16.Idx) => ?_
    idx_vars i
    pointwise
    rfl
  · refine funext fun (i : S2048x16.Idx) => ?_
    idx_vars i
    pointwise
    rfl
end Cert.DiscRefIdeal.Call

namespace Cert.DiscIdeal.Claims
open Cert Cert.DiscIdeal Cert.DiscIdeal.Gen Cert.DiscIdeal.Call Idealize.ShloMosaic Idealize.ShloMosaic.TcCoe Idealize.SL.Sem

/-- The reference's frame: its host operations leave the arguments, and it declares no semaphore. -/
theorem frame_ref : Cert.quiescent_DiscRefIdeal := fun m ρ _ =>
  (θ_run Cert.DiscRefIdeal.defs _ _).mono (fun r h => ⟨fun c => (h c).2.2.2,
      Idealize.ShloMosaic.sem_eq_zero_of_no_sems (by decide) r.2⟩)
    (Cert.DiscRefIdeal.Value.run (F := Ideal) m ρ)

/-- The call's results are the reference's, whatever the arguments hold. -/
theorem algebraic : Cert.algebraic_DiscIdeal_DiscRefIdeal := by
  intro m ρ m' ρ' _ hag
  refine ⟨fun c => poles (m ((c.tc : Thread nD τ).loc main_arg0)) (m ((c.tc : Thread nD τ).loc main_arg1)) (m ((c.tc : Thread nD τ).loc main_arg2)), fun c => inputR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => inputI (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · refine (θ_run defs _ _).mono (fun r h c => ?_) (Value.run_blocks (F := Ideal) m ρ)
    have h := h c
    rw [final5, final6, final7] at h
    exact h
  · refine (θ_run Cert.DiscRefIdeal.defs _ _).mono (fun r h c => ?_) (Cert.DiscRefIdeal.Call.run_ref m' ρ')
    obtain ⟨e0, e1, e2, e3, e4⟩ := hag c
    have h := h c
    rw [e0, e1, e2, e3, e4] at h
    rw [e0, e1, e2, e3, e4]
    exact h

end Cert.DiscIdeal.Claims
end
-- ==== Proof.DiscBwdCall.lean ====
/-
  The call of the gradient of the second recurrence's discretisation. Under the precondition the arguments hold real
  numbers and no pole is zero; then the kernel's results and the chain rule's are the same real numbers per state, and
  the step's gradient sums its group's states.
-/
module
public import proofs.«01_k».proof.Defs
public import proofs.«01_k».proof.Proof.Gen.DiscBwdIdeal.Value
public import proofs.«01_k».proof.Proof.Gen.DiscBwdRefIdeal.Run
public import proofs.«01_k».proof.Proof.Gen.Pre_finite_nonzero
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Discretise
@[expose] public section
set_option maxRecDepth 16384
noncomputable section
namespace Cert.DiscBwdIdeal.Call
open Cert.DiscBwdIdeal Cert.DiscBwdIdeal.Gen Idealize.ShloMosaic Idealize.ShloMosaic.TcCoe Idealize.SL.Sem
open Idealize.ShloMosaic.Pipeline (Dat)
open Cert.Discretise (State Args row group place row_eq div_real coe_sum idx_whole poles steps inputR inputI)

section
/-- The blocks hold the states' numbers, which are real, and no pole is zero. -/
structure Holds (S : Fin 2048 → State) (x0 x1 x2 : S2048x1.Idx → EReal) (x3 x4 : S2048x16.Idx → EReal) (x5 : S2048x2.Idx → EReal)
    (x6 x7 : S2048x16.Idx → EReal) : Prop where
  h0 : ∀ n, x0 (ix2 n (0 : Fin 1)) = ((S n).lr : EReal)
  h1 : ∀ n, x1 (ix2 n (0 : Fin 1)) = ((S n).li : EReal)
  h2 : ∀ n, x2 (ix2 n (0 : Fin 1)) = ((S n).d : EReal)
  h3 : ∀ n k, x3 (ix2 n k) = ((S n).br k : EReal)
  h4 : ∀ n k, x4 (ix2 n k) = ((S n).bi k : EReal)
  h5 : ∀ n, x5 (ix2 n (0 : Fin 2)) = ((S n).a0 : EReal)
  h5' : ∀ n, x5 (ix2 n (1 : Fin 2)) = ((S n).a1 : EReal)
  h6 : ∀ n k, x6 (ix2 n k) = ((S n).dr k : EReal)
  h7 : ∀ n k, x7 (ix2 n k) = ((S n).di k : EReal)
  hn : ∀ n, (S n).den ≠ 0

variable {S : Fin 2048 → State} {x0 x1 x2 : S2048x1.Idx → EReal} {x3 x4 : S2048x16.Idx → EReal} {x5 : S2048x2.Idx → EReal}
    {x6 x7 : S2048x16.Idx → EReal} (H : Holds S x0 x1 x2 x3 x4 x5 x6 x7)
include H

theorem o10 (n : Fin 2048) (k : Fin 16) : (out0_10 (F := Ideal) x0 x1 x2 x3 x4 x5 x6 x7 : S2048x16.Idx → EReal) (ix2 n k) = ((S n).inR k : EReal) := by
  have hn : (S n).lr * (S n).lr + (S n).li * (S n).li ≠ 0 := H.hn n
  unfold_out out0_10
  rw [View.canon_unit_zero (funext fun a => by fin_cases a <;> rfl)]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  simp only [H.h0, H.h1, H.h2, H.h6, H.h7, ← EReal.coe_one, Ideal.exp_coe, Ideal.cos_coe, Ideal.sin_coe, ← EReal.coe_mul, ← EReal.coe_add, ← EReal.coe_sub, div_real hn]
  rfl
theorem o11 (n : Fin 2048) (k : Fin 16) : (out0_11 (F := Ideal) x0 x1 x2 x3 x4 x5 x6 x7 : S2048x16.Idx → EReal) (ix2 n k) = ((S n).inI k : EReal) := by
  have hn : (S n).lr * (S n).lr + (S n).li * (S n).li ≠ 0 := H.hn n
  unfold_out out0_11
  rw [View.canon_unit_zero (funext fun a => by fin_cases a <;> rfl)]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  simp only [H.h0, H.h1, H.h2, H.h6, H.h7, ← EReal.coe_one, Ideal.exp_coe, Ideal.cos_coe, Ideal.sin_coe, ← EReal.coe_mul, ← EReal.coe_add, ← EReal.coe_sub, div_real hn]
  rfl
theorem o9 (g : Fin 32) : (out0_9 (F := Ideal) x0 x1 x2 x3 x4 x5 x6 x7 : S32x1.Idx → EReal) (ix2 g (0 : Fin 1)) = ((∑ s, (S (row g s)).step : ℝ) : EReal) := by
  unfold_out out0_9
  rw [View.canon_unit_zero (funext fun a => by fin_cases a <;> rfl)]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  rw [coe_sum]
  refine Finset.sum_congr rfl fun s _ => ?_
  have hn : (S (row g s)).lr * (S (row g s)).lr + (S (row g s)).li * (S (row g s)).li ≠ 0 := H.hn (row g s)
  simp only [show (⟨g.val * 64 + s.val, by omega⟩ : Fin 2048) = row g s from rfl, H.h0, H.h1, H.h2, H.h3, H.h4, H.h5, H.h5', H.h6, H.h7, ← EReal.coe_one, Ideal.exp_coe, Ideal.cos_coe, Ideal.sin_coe, zero_sub, ← EReal.coe_neg, ← EReal.coe_mul, ← EReal.coe_add, ← EReal.coe_sub, ← coe_sum, div_real hn]
  rfl
theorem out8 : (out0_8 (F := Ideal) x0 x1 x2 x3 x4 x5 x6 x7 : S2048x2.Idx → EReal) = poles S := by
  refine funext fun y => ?_
  unfold_out out0_8
  refine View.canon_apply_of_pieces (Val := Elt Ideal) (e := .f32) (poles S) _ (fun pc hpc => ?_) y (cover0_8 _ _ y)
  rcases List.mem_cons.mp hpc with rfl | hpc
  · intro q
    idx_vars q
    rw [show r0_3.emb (ix2 q0 q1) = ix2 q0 (1 : Fin 2) from funext fun a => Fin.ext (by match a with | ⟨0, _⟩ => exact (Nat.zero_add _).trans (Nat.one_mul _) | ⟨1, _⟩ => show 1 + 1 * q1.val = 1; omega)]
    have hn : (S q0).lr * (S q0).lr + (S q0).li * (S q0).li ≠ 0 := H.hn q0
    obtain rfl : q1 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    simp only [H.h0, H.h1, H.h2, H.h3, H.h4, H.h5, H.h5', H.h6, H.h7, ← EReal.coe_one, Ideal.exp_coe, Ideal.cos_coe, Ideal.sin_coe, zero_sub, ← EReal.coe_neg, ← EReal.coe_mul, ← EReal.coe_add, ← EReal.coe_sub, ← coe_sum, div_real hn]
    rfl
  · obtain rfl := List.mem_singleton.mp hpc
    intro q
    idx_vars q
    rw [show r0_2.emb (ix2 q0 q1) = ix2 q0 (0 : Fin 2) from funext fun a => Fin.ext (by match a with | ⟨0, _⟩ => exact (Nat.zero_add _).trans (Nat.one_mul _) | ⟨1, _⟩ => show 0 + 1 * q1.val = 0; omega)]
    have hn : (S q0).lr * (S q0).lr + (S q0).li * (S q0).li ≠ 0 := H.hn q0
    obtain rfl : q1 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    simp only [H.h0, H.h1, H.h2, H.h3, H.h4, H.h5, H.h5', H.h6, H.h7, ← EReal.coe_one, Ideal.exp_coe, Ideal.cos_coe, Ideal.sin_coe, zero_sub, ← EReal.coe_neg, ← EReal.coe_mul, ← EReal.coe_add, ← EReal.coe_sub, ← coe_sum, div_real hn]
    rfl
theorem out10 : (out0_10 (F := Ideal) x0 x1 x2 x3 x4 x5 x6 x7 : S2048x16.Idx → EReal) = inputR S :=
  funext fun i => by idx_vars i; exact o10 H _ _
theorem out11 : (out0_11 (F := Ideal) x0 x1 x2 x3 x4 x5 x6 x7 : S2048x16.Idx → EReal) = inputI S :=
  funext fun i => by idx_vars i; exact o11 H _ _
theorem out9 : (out0_9 (F := Ideal) x0 x1 x2 x3 x4 x5 x6 x7 : S32x1.Idx → EReal) = steps S :=
  funext fun i => by
    idx_vars i
    obtain rfl : i1 = 0 := Subsingleton.elim _ _
    exact o9 H _
end
variable (m : (ℓ : Loc nD τ sig) → Buf (Elt Ideal) ℓ) (ρ : Dev nD → PrngReg)
/-- What the host code leaves in the windows' arrays. -/
theorem V0 (c : Dev nD) (g : Fin 32) (s : Fin 64) : (V m c main_v0 : S2048x1.Idx → EReal) (ix2 (row g s) (0 : Fin 1)) = (m ((c : Thread nD τ).loc main_arg0) : S32x64.Idx → EReal) (ix2 g s) := by
  unfold V hostOps0
  after_results_simp
  pointwise [row]
theorem V1 (c : Dev nD) (g : Fin 32) (s : Fin 64) : (V m c main_v1 : S2048x1.Idx → EReal) (ix2 (row g s) (0 : Fin 1)) = (m ((c : Thread nD τ).loc main_arg1) : S32x64.Idx → EReal) (ix2 g s) := by
  unfold V hostOps0
  after_results_simp
  pointwise [row]
theorem V4 (c : Dev nD) (g : Fin 32) (s : Fin 64) : (V m c main_v4 : S2048x1.Idx → EReal) (ix2 (row g s) (0 : Fin 1)) = (m ((c : Thread nD τ).loc main_arg2) : S32.Idx → EReal) (ix1 g) := by
  unfold V hostOps0
  after_results_simp
  pointwise [row]
theorem V5 (c : Dev nD) (g : Fin 32) (s : Fin 64) (k : Fin 16) : (V m c main_v5 : S2048x16.Idx → EReal) (ix2 (row g s) k) = (m ((c : Thread nD τ).loc main_arg3) : S32x64x16.Idx → EReal) (ix3 g s k) := by
  unfold V hostOps0
  after_results_simp
  pointwise [row]
theorem V6 (c : Dev nD) (g : Fin 32) (s : Fin 64) (k : Fin 16) : (V m c main_v6 : S2048x16.Idx → EReal) (ix2 (row g s) k) = (m ((c : Thread nD τ).loc main_arg4) : S32x64x16.Idx → EReal) (ix3 g s k) := by
  unfold V hostOps0
  after_results_simp
  pointwise [row]
theorem V8 (c : Dev nD) (g : Fin 32) (s : Fin 64) (k : Fin 2) : (V m c main_v8 : S2048x2.Idx → EReal) (ix2 (row g s) k) = (m ((c : Thread nD τ).loc main_arg5) : S8x2048.Idx → EReal) (ix2 ⟨k.val, by omega⟩ (row g s)) := by
  unfold V hostOps0
  after_results_simp
  pointwise [row]

theorem iblk0 (c : Dev nD) (t : Fin cfg0.N) : (iblk m c 0 t : S2048x1.Idx → EReal) = V m c main_v0 :=
  funext fun (i : S2048x1.Idx) => congrArg (V m c main_v0) (funext fun a => Fin.ext (idx_whole (win0_0.rect t) ((by decide +kernel : ∀ t : Fin grid0.N, ∀ a, (win0_0.rect t).off a = 0) t) (fun _ => rfl) i a))
theorem iblk1 (c : Dev nD) (t : Fin cfg0.N) : (iblk m c 1 t : S2048x1.Idx → EReal) = V m c main_v1 :=
  funext fun (i : S2048x1.Idx) => congrArg (V m c main_v1) (funext fun a => Fin.ext (idx_whole (win0_1.rect t) ((by decide +kernel : ∀ t : Fin grid0.N, ∀ a, (win0_1.rect t).off a = 0) t) (fun _ => rfl) i a))
theorem iblk2 (c : Dev nD) (t : Fin cfg0.N) : (iblk m c 2 t : S2048x1.Idx → EReal) = V m c main_v4 :=
  funext fun (i : S2048x1.Idx) => congrArg (V m c main_v4) (funext fun a => Fin.ext (idx_whole (win0_2.rect t) ((by decide +kernel : ∀ t : Fin grid0.N, ∀ a, (win0_2.rect t).off a = 0) t) (fun _ => rfl) i a))
theorem iblk3 (c : Dev nD) (t : Fin cfg0.N) : (iblk m c 3 t : S2048x16.Idx → EReal) = V m c main_v5 :=
  funext fun (i : S2048x16.Idx) => congrArg (V m c main_v5) (funext fun a => Fin.ext (idx_whole (win0_3.rect t) ((by decide +kernel : ∀ t : Fin grid0.N, ∀ a, (win0_3.rect t).off a = 0) t) (fun _ => rfl) i a))
theorem iblk4 (c : Dev nD) (t : Fin cfg0.N) : (iblk m c 4 t : S2048x16.Idx → EReal) = V m c main_v6 :=
  funext fun (i : S2048x16.Idx) => congrArg (V m c main_v6) (funext fun a => Fin.ext (idx_whole (win0_4.rect t) ((by decide +kernel : ∀ t : Fin grid0.N, ∀ a, (win0_4.rect t).off a = 0) t) (fun _ => rfl) i a))
theorem iblk5 (c : Dev nD) (t : Fin cfg0.N) : (iblk m c 5 t : S2048x2.Idx → EReal) = V m c main_v8 :=
  funext fun (i : S2048x2.Idx) => congrArg (V m c main_v8) (funext fun a => Fin.ext (idx_whole (win0_5.rect t) ((by decide +kernel : ∀ t : Fin grid0.N, ∀ a, (win0_5.rect t).off a = 0) t) (fun _ => rfl) i a))
theorem iblk6 (c : Dev nD) (t : Fin cfg0.N) : (iblk m c 6 t : S2048x16.Idx → EReal) = V m c main_arg6 :=
  funext fun (i : S2048x16.Idx) => congrArg (V m c main_arg6) (funext fun a => Fin.ext (idx_whole (win0_6.rect t) ((by decide +kernel : ∀ t : Fin grid0.N, ∀ a, (win0_6.rect t).off a = 0) t) (fun _ => rfl) i a))
theorem iblk7 (c : Dev nD) (t : Fin cfg0.N) : (iblk m c 7 t : S2048x16.Idx → EReal) = V m c main_arg7 :=
  funext fun (i : S2048x16.Idx) => congrArg (V m c main_arg7) (funext fun a => Fin.ext (idx_whole (win0_7.rect t) ((by decide +kernel : ∀ t : Fin grid0.N, ∀ a, (win0_7.rect t).off a = 0) t) (fun _ => rfl) i a))

variable {S : Fin 2048 → State} (c : Dev nD) (H : Args S (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
include H
/-- The blocks of the one point hold the states' numbers. -/
theorem holds (t : Fin cfg0.N) : Holds S (iblk m c 0 t) (iblk m c 1 t) (iblk m c 2 t) (iblk m c 3 t) (iblk m c 4 t) (iblk m c 5 t) (iblk m c 6 t) (iblk m c 7 t) where
  h0 n := by rw [iblk0, ← row_eq n, V0]; exact H.h0 _ _
  h1 n := by rw [iblk1, ← row_eq n, V1]; exact H.h1 _ _
  h2 n := by rw [iblk2, ← row_eq n, V4]; exact H.h2 _ _
  h3 n k := by rw [iblk3, ← row_eq n, V5]; exact H.h3 _ _ _
  h4 n k := by rw [iblk4, ← row_eq n, V6]; exact H.h4 _ _ _
  h5 n := by rw [iblk5, ← row_eq n, V8]; exact H.h5 _
  h5' n := by rw [iblk5, ← row_eq n, V8]; exact H.h5' _
  h6 n k := by rw [iblk6, V_main_arg6]; exact H.h6 _ _
  h7 n k := by rw [iblk7, V_main_arg7]; exact H.h7 _ _
  hn := H.hn
omit H in
theorem cover8 (i : S2048x2.Idx) : ∃ t : Fin cfg0.N, (cfg0.win 8).flush t = true ∧ i ∈ ((cfg0.win 8).blk t).view.set := by
  obtain ⟨t, ht⟩ : ∃ t : Fin cfg0.N, t.val = 0 := ⟨⟨0, by have h : cfg0.N = 1 := N_0; omega⟩, rfl⟩
  refine ⟨t, flush0_8 t, ?_⟩
  show i ∈ ((View.whole main_v9_0).slice (win0_8.rect t)).set
  rw [View.set_slice_whole, Rect.mem_set_unit]
  intro a
  have h := (by decide +kernel : ∀ t : Fin grid0.N, ∀ a, win0_8.index t a * win0_8.size a = 0) t a
  have hi : (i a).val < S2048x2.size a := (i a).isLt
  exact ⟨h.le.trans (Nat.zero_le _), hi.trans_le (Nat.le_add_left _ _)⟩
theorem final8 : (dats m 0 c).arrAt 8 cfg0.N = poles S := by
  refine (dats m 0 c).arrAt_eq_of_cover 8 _ (fun t _ => ?_) cover8
  rw [Value.flushed8]
  refine funext fun (i : S2048x2.Idx) => ?_
  refine Eq.trans ?_ (congrArg (poles S) (funext fun a => Fin.ext (idx_whole (win0_8.rect t) ((by decide +kernel : ∀ t : Fin grid0.N, ∀ a, (win0_8.rect t).off a = 0) t) (fun _ => rfl) i a))).symm
  exact congrFun (out8 (holds m c H t)) i
omit H in
theorem cover9 (i : S32x1.Idx) : ∃ t : Fin cfg0.N, (cfg0.win 9).flush t = true ∧ i ∈ ((cfg0.win 9).blk t).view.set := by
  obtain ⟨t, ht⟩ : ∃ t : Fin cfg0.N, t.val = 0 := ⟨⟨0, by have h : cfg0.N = 1 := N_0; omega⟩, rfl⟩
  refine ⟨t, flush0_9 t, ?_⟩
  show i ∈ ((View.whole main_v9_1).slice (win0_9.rect t)).set
  rw [View.set_slice_whole, Rect.mem_set_unit]
  intro a
  have h := (by decide +kernel : ∀ t : Fin grid0.N, ∀ a, win0_9.index t a * win0_9.size a = 0) t a
  have hi : (i a).val < S32x1.size a := (i a).isLt
  exact ⟨h.le.trans (Nat.zero_le _), hi.trans_le (Nat.le_add_left _ _)⟩
theorem final9 : (dats m 0 c).arrAt 9 cfg0.N = steps S := by
  refine (dats m 0 c).arrAt_eq_of_cover 9 _ (fun t _ => ?_) cover9
  rw [Value.flushed9]
  refine funext fun (i : S32x1.Idx) => ?_
  refine Eq.trans ?_ (congrArg (steps S) (funext fun a => Fin.ext (idx_whole (win0_9.rect t) ((by decide +kernel : ∀ t : Fin grid0.N, ∀ a, (win0_9.rect t).off a = 0) t) (fun _ => rfl) i a))).symm
  exact congrFun (out9 (holds m c H t)) i
omit H in
theorem cover10 (i : S2048x16.Idx) : ∃ t : Fin cfg0.N, (cfg0.win 10).flush t = true ∧ i ∈ ((cfg0.win 10).blk t).view.set := by
  obtain ⟨t, ht⟩ : ∃ t : Fin cfg0.N, t.val = 0 := ⟨⟨0, by have h : cfg0.N = 1 := N_0; omega⟩, rfl⟩
  refine ⟨t, flush0_10 t, ?_⟩
  show i ∈ ((View.whole main_v9_2).slice (win0_10.rect t)).set
  rw [View.set_slice_whole, Rect.mem_set_unit]
  intro a
  have h := (by decide +kernel : ∀ t : Fin grid0.N, ∀ a, win0_10.index t a * win0_10.size a = 0) t a
  have hi : (i a).val < S2048x16.size a := (i a).isLt
  exact ⟨h.le.trans (Nat.zero_le _), hi.trans_le (Nat.le_add_left _ _)⟩
theorem final10 : (dats m 0 c).arrAt 10 cfg0.N = inputR S := by
  refine (dats m 0 c).arrAt_eq_of_cover 10 _ (fun t _ => ?_) cover10
  rw [Value.flushed10]
  refine funext fun (i : S2048x16.Idx) => ?_
  refine Eq.trans ?_ (congrArg (inputR S) (funext fun a => Fin.ext (idx_whole (win0_10.rect t) ((by decide +kernel : ∀ t : Fin grid0.N, ∀ a, (win0_10.rect t).off a = 0) t) (fun _ => rfl) i a))).symm
  exact congrFun (out10 (holds m c H t)) i
omit H in
theorem cover11 (i : S2048x16.Idx) : ∃ t : Fin cfg0.N, (cfg0.win 11).flush t = true ∧ i ∈ ((cfg0.win 11).blk t).view.set := by
  obtain ⟨t, ht⟩ : ∃ t : Fin cfg0.N, t.val = 0 := ⟨⟨0, by have h : cfg0.N = 1 := N_0; omega⟩, rfl⟩
  refine ⟨t, flush0_11 t, ?_⟩
  show i ∈ ((View.whole main_v9_3).slice (win0_11.rect t)).set
  rw [View.set_slice_whole, Rect.mem_set_unit]
  intro a
  have h := (by decide +kernel : ∀ t : Fin grid0.N, ∀ a, win0_11.index t a * win0_11.size a = 0) t a
  have hi : (i a).val < S2048x16.size a := (i a).isLt
  exact ⟨h.le.trans (Nat.zero_le _), hi.trans_le (Nat.le_add_left _ _)⟩
theorem final11 : (dats m 0 c).arrAt 11 cfg0.N = inputI S := by
  refine (dats m 0 c).arrAt_eq_of_cover 11 _ (fun t _ => ?_) cover11
  rw [Value.flushed11]
  refine funext fun (i : S2048x16.Idx) => ?_
  refine Eq.trans ?_ (congrArg (inputI S) (funext fun a => Fin.ext (idx_whole (win0_11.rect t) ((by decide +kernel : ∀ t : Fin grid0.N, ∀ a, (win0_11.rect t).off a = 0) t) (fun _ => rfl) i a))).symm
  exact congrFun (out11 (holds m c H t)) i
end Cert.DiscBwdIdeal.Call

namespace Cert.DiscBwdRefIdeal.Call
open Cert Cert.DiscBwdRefIdeal Cert.DiscBwdRefIdeal.Gen Idealize.ShloMosaic Idealize.ShloMosaic.TcCoe Idealize.SL.Sem
open Cert.Discretise (State Args row group place row_eq div_real coe_sum poles steps inputR inputI)

/-- An array of reals per state; per state and lane; per group. -/
def A (S : Fin 2048 → State) (p : State → ℝ) : FVec Ideal S32x64 .f32 := fun (i : S32x64.Idx) => ((p (S (row (i 0) (i 1))) : ℝ) : EReal)
def B (S : Fin 2048 → State) (p : State → Fin 16 → ℝ) : FVec Ideal S32x64x16 .f32 := fun (i : S32x64x16.Idx) => ((p (S (row (i 0) (i 1))) (i 2) : ℝ) : EReal)
def G (f : Fin 32 → ℝ) : FVec Ideal S32 .f32 := fun (i : S32.Idx) => ((f (i 0) : ℝ) : EReal)
def G1 (f : Fin 32 → ℝ) : FVec Ideal S32x1 .f32 := fun (i : S32x1.Idx) => ((f (i 0) : ℝ) : EReal)
section
variable (S : Fin 2048 → State)
theorem A_apply (p : State → ℝ) (g : Fin 32) (s : Fin 64) : (A S p : S32x64.Idx → EReal) (ix2 g s) = ((p (S (row g s)) : ℝ) : EReal) := rfl
theorem B_apply (p : State → Fin 16 → ℝ) (g : Fin 32) (s : Fin 64) (k : Fin 16) : (B S p : S32x64x16.Idx → EReal) (ix3 g s k) = ((p (S (row g s)) k : ℝ) : EReal) := rfl
theorem G_apply (f : Fin 32 → ℝ) (g : Fin 32) : (G f : S32.Idx → EReal) (ix1 g) = ((f g : ℝ) : EReal) := rfl
theorem G1_apply (f : Fin 32 → ℝ) (g : Fin 32) (z : Fin 1) : (G1 f : S32x1.Idx → EReal) (ix2 g z) = ((f g : ℝ) : EReal) := rfl
theorem mulf_A (p q : State → ℝ) : mulf (A S p) (A S q) = A S (fun s => p s * q s) := funext fun _ => (EReal.coe_mul _ _).symm
theorem addf_A (p q : State → ℝ) : addf (A S p) (A S q) = A S (fun s => p s + q s) := funext fun _ => (EReal.coe_add _ _).symm
theorem subf_A (p q : State → ℝ) : subf (A S p) (A S q) = A S (fun s => p s - q s) := funext fun _ => (EReal.coe_sub _ _).symm
theorem negf_A (p : State → ℝ) : Host.negf (A S p) = A S (fun s => - p s) := funext fun _ => (EReal.coe_neg _).symm
theorem exp_A (p : State → ℝ) : Host.exp (A S p) = A S (fun s => Real.exp (p s)) := funext fun _ => Ideal.exp_coe _
theorem sin_A (p : State → ℝ) : Host.sin (A S p) = A S (fun s => Real.sin (p s)) := funext fun _ => Ideal.sin_coe _
theorem cos_A (p : State → ℝ) : Host.cos (A S p) = A S (fun s => Real.cos (p s)) := funext fun _ => Ideal.cos_coe _
theorem divf_A (q : State → ℝ) (hq : ∀ n, q (S n) ≠ 0) (p : State → ℝ) : Host.divf (A S p) (A S q) = A S (fun s => p s / q s) := funext fun _ => div_real (hq _)
theorem mulf_B (p q : State → Fin 16 → ℝ) : mulf (B S p) (B S q) = B S (fun s k => p s k * q s k) := funext fun _ => (EReal.coe_mul _ _).symm
theorem negf_B (p : State → Fin 16 → ℝ) : Host.negf (B S p) = B S (fun s k => - p s k) := funext fun _ => (EReal.coe_neg _).symm
theorem addf_B (p q : State → Fin 16 → ℝ) : addf (B S p) (B S q) = B S (fun s k => p s k + q s k) := funext fun _ => (EReal.coe_add _ _).symm
theorem addf_G1 (f g : Fin 32 → ℝ) : addf (G1 f) (G1 g) = G1 (fun i => f i + g i) := funext fun _ => (EReal.coe_add _ _).symm
theorem mulf_G (f g : Fin 32 → ℝ) : mulf (G f) (G g) = G (fun i => f i * g i) := funext fun _ => (EReal.coe_mul _ _).symm
theorem exp_G (f : Fin 32 → ℝ) : Host.exp (G f) = G (fun i => Real.exp (f i)) := funext fun _ => Ideal.exp_coe _
theorem cast_G (f : Fin 32 → ℝ) : shapeCast S32x1 (G f) shapeCasts_S32_S32x1 = G1 f := by
  refine funext fun (i : S32x1.Idx) => ?_
  idx_vars i
  pointwise [G_apply, G1_apply]
theorem sum_B (p : State → Fin 16 → ℝ) :
    Host.reduceAdd (shapeCast S32x64x1 (Host.reduceAdd (B S p) (constant S_ .f32 0x00000000#32) reducesTo_S32x64x16_S32x64_d2 h_S_) shapeCasts_S32x64_S32x64x1) (constant S_ .f32 0x00000000#32) reducesTo_S32x64x1_S32x64_d2 h_S_
      = A S (fun s => ∑ k, p s k) := by
  refine funext fun (i : S32x64.Idx) => ?_
  idx_vars i
  pointwise [B_apply, A_apply]
  simp only [Fin.sum_univ_one, ← coe_sum]
theorem sum_A (p : State → ℝ) : Host.reduceAdd (A S p) (constant S_ .f32 0x00000000#32) reducesTo_S32x64_S32_d1 h_S_ = G (fun g => ∑ s, p (S (row g s))) := by
  refine funext fun (i : S32.Idx) => ?_
  idx_vars i
  pointwise [A_apply, G_apply]
  simp only [← coe_sum]
theorem sum_G1 (f : Fin 32 → ℝ) : Host.reduceAdd (G1 f) (constant S_ .f32 0x00000000#32) reducesTo_S32x1_S32_d1 h_S_ = G f := by
  refine funext fun (i : S32.Idx) => ?_
  idx_vars i
  pointwise [G1_apply, G_apply]
  exact Fin.sum_univ_one _
theorem ones : broadcastInDim S32x64 ![] bcast_S_S32x64 (constant (F := Ideal) S_ .f32 0x3F800000#32) = A S (fun _ => 1) := by
  refine funext fun (i : S32x64.Idx) => ?_
  idx_vars i
  pointwise [A_apply]
  simp
theorem bcast_G (f : Fin 32 → ℝ) (p : State → ℝ) (h : ∀ g s, f g = p (S (row g s))) : broadcastInDim S32x64 ![0, 1] bcast_S32x1_S32x64_0_1 (broadcastInDim S32x1 ![0] bcast_S32_S32x1_0 (G f)) = A S p := by
  refine funext fun (i : S32x64.Idx) => ?_
  idx_vars i
  pointwise [A_apply, G_apply]
  rw [h]
theorem bcast_A (p : State → ℝ) : broadcastInDim S32x64x16 ![0, 1, 2] bcast_S32x64x1_S32x64x16_0_1_2 (broadcastInDim S32x64x1 ![0, 1] bcast_S32x64_S32x64x1_0_1 (A S p)) = B S (fun s _ => p s) := by
  refine funext fun (i : S32x64x16.Idx) => ?_
  idx_vars i
  pointwise [A_apply, B_apply]
theorem flat (X : FVec Ideal S32x64 .f32) (n : Fin 2048) (z : Fin 1) :
    (broadcastInDim S2048x1 ![0] bcast_S2048_S2048x1_0 (shapeCast S2048 X shapeCasts_S32x64_S2048) : S2048x1.Idx → EReal) (ix2 n z) = (X : S32x64.Idx → EReal) (ix2 (group n) (place n)) := by
  pointwise [group, place]
theorem flat16 (X : FVec Ideal S32x64x16 .f32) (n : Fin 2048) (k : Fin 16) :
    (shapeCast S2048x16 X shapeCasts_S32x64x16_S2048x16 : S2048x16.Idx → EReal) (ix2 n k) = (X : S32x64x16.Idx → EReal) (ix3 (group n) (place n) k) := by
  pointwise [group, place]
/-- Two columns side by side. -/
theorem columns (X Y : FVec Ideal S2048x1 .f32) (n : Fin 2048) :
    (concatenate S2048x2 1 [⟨S2048x1, X⟩, ⟨S2048x1, Y⟩] concatenates_S2048x1_S2048x1_S2048x2_d1 : S2048x2.Idx → EReal) (ix2 n (0 : Fin 2)) = (X : S2048x1.Idx → EReal) (ix2 n (0 : Fin 1))
    ∧ (concatenate S2048x2 1 [⟨S2048x1, X⟩, ⟨S2048x1, Y⟩] concatenates_S2048x1_S2048x1_S2048x2_d1 : S2048x2.Idx → EReal) (ix2 n (1 : Fin 2)) = (Y : S2048x1.Idx → EReal) (ix2 n (0 : Fin 1)) := by
  constructor
  · pointwise
  · pointwise
/-- A quotient by the poles' squares, and by their squares. -/
theorem divf_den (hn : ∀ n, (S n).den ≠ 0) (p : State → ℝ) : Host.divf (A S p) (A S State.den) = A S (fun s => p s / s.den) := divf_A S _ hn p
theorem divf_den2 (hn : ∀ n, (S n).den ≠ 0) (p : State → ℝ) : Host.divf (A S p) (A S fun s => s.den * s.den) = A S (fun s => p s / (s.den * s.den)) :=
  divf_A S _ (fun n => mul_ne_zero (hn n) (hn n)) p
section
variable {S}
variable {a0 a1 : S32x64.Idx → EReal} {a2 : S32.Idx → EReal} {a3 a4 : S32x64x16.Idx → EReal} {a5 : S8x2048.Idx → EReal} {a6 a7 : S2048x16.Idx → EReal}
    (H : Args S a0 a1 a2 a3 a4 a5 a6 a7)
include H
theorem arg0 : a0 = A S State.lr := funext fun (i : S32x64.Idx) => by idx_vars i; exact H.h0 _ _
theorem arg1 : a1 = A S State.li := funext fun (i : S32x64.Idx) => by idx_vars i; exact H.h1 _ _
theorem arg2 : a2 = G (fun g => (S (row g 0)).d) := funext fun (i : S32.Idx) => by idx_vars i; exact H.h2 _ 0
theorem arg3 : a3 = B S State.br := funext fun (i : S32x64x16.Idx) => by idx_vars i; exact H.h3 _ _ _
theorem arg4 : a4 = B S State.bi := funext fun (i : S32x64x16.Idx) => by idx_vars i; exact H.h4 _ _ _
theorem arg5 : shapeCast S32x64 (shapeCast S2048 (extractStridedSlice S1x2048 ![0, 0] (a5 : FVec Ideal S8x2048 .f32) slices_S8x2048_S1x2048_0_0) shapeCasts_S1x2048_S2048) shapeCasts_S2048_S32x64 = A S State.a0 := by
  refine funext fun (i : S32x64.Idx) => ?_
  idx_vars i
  pointwise [A_apply]
  exact H.h5 (row _ _)
theorem arg5' : shapeCast S32x64 (shapeCast S2048 (extractStridedSlice S1x2048 ![1, 0] (a5 : FVec Ideal S8x2048 .f32) slices_S8x2048_S1x2048_1_0) shapeCasts_S1x2048_S2048) shapeCasts_S2048_S32x64 = A S State.a1 := by
  refine funext fun (i : S32x64.Idx) => ?_
  idx_vars i
  pointwise [A_apply]
  exact H.h5' (row _ _)
theorem arg6 : shapeCast S32x64x16 (a6 : FVec Ideal S2048x16 .f32) shapeCasts_S2048x16_S32x64x16 = B S State.dr := by
  refine funext fun (i : S32x64x16.Idx) => ?_
  idx_vars i
  pointwise [B_apply]
  exact H.h6 (row _ _) _
theorem arg7 : shapeCast S32x64x16 (a7 : FVec Ideal S2048x16 .f32) shapeCasts_S2048x16_S32x64x16 = B S State.di := by
  refine funext fun (i : S32x64x16.Idx) => ?_
  idx_vars i
  pointwise [B_apply]
  exact H.h7 (row _ _) _
/-- A group's states share their step. -/
theorem step_const (g : Fin 32) (s : Fin 64) : (S (row g 0)).dt = (S (row g s)).dt :=
  congrArg Real.exp (EReal.coe_injective ((H.h2 g 0).symm.trans (H.h2 g s)))
end
end
section
variable {S : Fin 2048 → State} (m : (ℓ : Loc nD τ sig) → Buf (Elt Ideal) ℓ) (c : Dev nD)
variable (H : Args S (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
include H
theorem res_steps : (Value.res_main_v153 (F := Ideal) m c : S32x1.Idx → EReal) = steps S := by
  unfold Value.res_main_v153
  have e6 := arg6 H
  have e7 := arg7 H
  have e5 := arg5 H
  have e5' := arg5' H
  have e50 : shapeCast ((c.tc : Thread nD τ).loc main_arg0).ty.shape (shapeCast S2048 (extractStridedSlice S1x2048 ![0, 0] (m ((c.tc : Thread nD τ).loc main_arg5)) slices_S8x2048_S1x2048_0_0) shapeCasts_S1x2048_S2048) shapeCasts_S2048_S32x64 = A S State.a0 := e5
  have e51 : shapeCast ((c.tc : Thread nD τ).loc main_arg1).ty.shape (shapeCast S2048 (extractStridedSlice S1x2048 ![0, 0] (m ((c.tc : Thread nD τ).loc main_arg5)) slices_S8x2048_S1x2048_0_0) shapeCasts_S1x2048_S2048) shapeCasts_S2048_S32x64 = A S State.a0 := e5
  have e50' : shapeCast ((c.tc : Thread nD τ).loc main_arg0).ty.shape (shapeCast S2048 (extractStridedSlice S1x2048 ![1, 0] (m ((c.tc : Thread nD τ).loc main_arg5)) slices_S8x2048_S1x2048_1_0) shapeCasts_S1x2048_S2048) shapeCasts_S2048_S32x64 = A S State.a1 := e5'
  have e51' : shapeCast ((c.tc : Thread nD τ).loc main_arg1).ty.shape (shapeCast S2048 (extractStridedSlice S1x2048 ![1, 0] (m ((c.tc : Thread nD τ).loc main_arg5)) slices_S8x2048_S1x2048_1_0) shapeCasts_S1x2048_S2048) shapeCasts_S2048_S32x64 = A S State.a1 := e5'
  simp only [e50, e51, e50', e51', e6, e7, arg0 H, arg1 H, arg2 H, arg3 H, arg4 H, exp_G, bcast_G S _ State.dt (step_const H), mulf_A, addf_A, subf_A, negf_A, exp_A, sin_A, cos_A, mulf_B, negf_B, addf_B, sum_B, bcast_A, divf_den S H.hn, divf_den2 S H.hn, ones S, sum_A, cast_G, addf_G1, sum_G1, mulf_G,
    State.dt_fold, State.mag_fold, State.abr_fold, State.abi_fold, State.den_fold, State.gci_fold, State.gcr_fold, State.gabr_fold, State.gabi_fold]
  refine (cast_G _).trans ?_
  show _ = G1 fun g => ∑ s, (S (row g s)).step
  refine congrArg G1 (funext fun g => ?_)
  rw [← Finset.sum_add_distrib, ← Finset.sum_add_distrib, Finset.sum_mul]
  refine Finset.sum_congr rfl fun s _ => ?_
  rw [step_const H g s]
  exact State.step_eq _
theorem res_poles : (Value.res_main_v152 (F := Ideal) m c : S2048x2.Idx → EReal) = poles S := by
  unfold Value.res_main_v152
  have e6 := arg6 H
  have e7 := arg7 H
  have e5 := arg5 H
  have e5' := arg5' H
  have e50 : shapeCast ((c.tc : Thread nD τ).loc main_arg0).ty.shape (shapeCast S2048 (extractStridedSlice S1x2048 ![0, 0] (m ((c.tc : Thread nD τ).loc main_arg5)) slices_S8x2048_S1x2048_0_0) shapeCasts_S1x2048_S2048) shapeCasts_S2048_S32x64 = A S State.a0 := e5
  have e51 : shapeCast ((c.tc : Thread nD τ).loc main_arg1).ty.shape (shapeCast S2048 (extractStridedSlice S1x2048 ![0, 0] (m ((c.tc : Thread nD τ).loc main_arg5)) slices_S8x2048_S1x2048_0_0) shapeCasts_S1x2048_S2048) shapeCasts_S2048_S32x64 = A S State.a0 := e5
  have e50' : shapeCast ((c.tc : Thread nD τ).loc main_arg0).ty.shape (shapeCast S2048 (extractStridedSlice S1x2048 ![1, 0] (m ((c.tc : Thread nD τ).loc main_arg5)) slices_S8x2048_S1x2048_1_0) shapeCasts_S1x2048_S2048) shapeCasts_S2048_S32x64 = A S State.a1 := e5'
  have e51' : shapeCast ((c.tc : Thread nD τ).loc main_arg1).ty.shape (shapeCast S2048 (extractStridedSlice S1x2048 ![1, 0] (m ((c.tc : Thread nD τ).loc main_arg5)) slices_S8x2048_S1x2048_1_0) shapeCasts_S1x2048_S2048) shapeCasts_S2048_S32x64 = A S State.a1 := e5'
  refine funext fun (i : S2048x2.Idx) => ?_
  idx_vars i
  rcases (by omega : i1 = 0 ∨ i1 = 1) with rfl | rfl
  · rw [(columns _ _ i0).1, flat]
    simp only [e50, e51, e50', e51', e6, e7, arg0 H, arg1 H, arg2 H, arg3 H, arg4 H, exp_G, bcast_G S _ State.dt (step_const H), mulf_A, addf_A, subf_A, negf_A, exp_A, sin_A, cos_A, mulf_B, negf_B, addf_B, sum_B, bcast_A, divf_den S H.hn, divf_den2 S H.hn, ones S, sum_A, cast_G, addf_G1, sum_G1, mulf_G,
      State.dt_fold, State.mag_fold, State.abr_fold, State.abi_fold, State.den_fold, State.gci_fold, State.gcr_fold, State.gabr_fold, State.gabi_fold]
    rw [A_apply, row_eq]
    exact congrArg _ (State.poleR_eq _ (H.hn i0))
  · rw [(columns _ _ i0).2, flat]
    simp only [e50, e51, e50', e51', e6, e7, arg0 H, arg1 H, arg2 H, arg3 H, arg4 H, exp_G, bcast_G S _ State.dt (step_const H), mulf_A, addf_A, subf_A, negf_A, exp_A, sin_A, cos_A, mulf_B, negf_B, addf_B, sum_B, bcast_A, divf_den S H.hn, divf_den2 S H.hn, ones S, sum_A, cast_G, addf_G1, sum_G1, mulf_G,
      State.dt_fold, State.mag_fold, State.abr_fold, State.abi_fold, State.den_fold, State.gci_fold, State.gcr_fold, State.gabr_fold, State.gabi_fold]
    rw [A_apply, row_eq]
    exact congrArg _ (State.poleI_eq _ (H.hn i0))
end

/-- The reference's run under the precondition: its results, and its arguments left. -/
theorem run_ref (m : (ℓ : Loc nD τ sig) → Buf (Elt Ideal) ℓ) (ρ : Dev nD → PrngReg) (S : Dev nD → Fin 2048 → State) (H : ∀ c : Dev nD, Args (S c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :
    θ_run defs (onTc (τ := τ) (main (F := Ideal))) ⟨m, fun _ => 0, ρ⟩ fun r => ∀ c : Dev nD,
      r.2.mem ((c.tc : Thread nD τ).loc main_v152) = poles (S c)
      ∧ r.2.mem ((c.tc : Thread nD τ).loc main_v153) = steps (S c)
      ∧ r.2.mem ((c.tc : Thread nD τ).loc main_v154) = inputR (S c)
      ∧ r.2.mem ((c.tc : Thread nD τ).loc main_v155) = inputI (S c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run (F := Ideal) m ρ)
  obtain ⟨h0, h1, h2, h3, h⟩ := h c
  have H := H c
  refine ⟨h0.trans (res_poles m c H), h1.trans (res_steps m c H), h2.trans ?_, h3.trans ?_, h⟩
  · have e6 := arg6 H
    have e7 := arg7 H
    refine funext fun (i : S2048x16.Idx) => ?_
    idx_vars i
    refine (flat16 _ _ _).trans ?_
    simp only [e6, e7, arg0 H, arg1 H, arg2 H, arg3 H, arg4 H, exp_G, bcast_G (S c) _ State.dt (step_const H), mulf_A, addf_A, subf_A, negf_A, exp_A, sin_A, cos_A, mulf_B, negf_B, addf_B, sum_B, bcast_A, divf_den (S c) H.hn, divf_den2 (S c) H.hn, ones (S c), sum_A, cast_G, addf_G1, sum_G1, mulf_G,
      State.dt_fold, State.mag_fold, State.abr_fold, State.abi_fold, State.den_fold, State.gci_fold, State.gcr_fold, State.gabr_fold, State.gabi_fold]
    refine (congrFun (congrArg₂ addf (congrArg₂ mulf (bcast_A (S c) _) rfl) (congrArg₂ mulf (bcast_A (S c) _) rfl)) _).trans ?_
    simp only [mulf_B, addf_B]
    rw [B_apply, row_eq]
    exact congrArg _ ((add_comm _ _).trans rfl)
  · have e6 := arg6 H
    have e7 := arg7 H
    refine funext fun (i : S2048x16.Idx) => ?_
    idx_vars i
    refine (flat16 _ _ _).trans ?_
    simp only [e6, e7, arg0 H, arg1 H, arg2 H, arg3 H, arg4 H, exp_G, bcast_G (S c) _ State.dt (step_const H), mulf_A, addf_A, subf_A, negf_A, exp_A, sin_A, cos_A, mulf_B, negf_B, addf_B, sum_B, bcast_A, divf_den (S c) H.hn, divf_den2 (S c) H.hn, ones (S c), sum_A, cast_G, addf_G1, sum_G1, mulf_G,
      State.dt_fold, State.mag_fold, State.abr_fold, State.abi_fold, State.den_fold, State.gci_fold, State.gcr_fold, State.gabr_fold, State.gabi_fold]
    refine (congrFun (congrArg₂ addf (congrArg₂ mulf (bcast_A (S c) _) rfl) (congrArg₂ mulf (bcast_A (S c) _) rfl)) _).trans ?_
    simp only [mulf_B, addf_B]
    rw [B_apply, row_eq]
    refine congrArg (fun x : ℝ => ((x : ℝ) : EReal)) (?_ : _ = (S c i0).inI i1)
    unfold State.inI State.cr State.ci
    ring
end Cert.DiscBwdRefIdeal.Call

namespace Cert.DiscBwdIdeal.Claims
open Cert Cert.DiscBwdIdeal Cert.DiscBwdIdeal.Gen Cert.DiscBwdIdeal.Call Idealize.ShloMosaic Idealize.ShloMosaic.TcCoe Idealize.SL.Sem
open Cert.Discretise (State Args Tame states args_states row group place row_eq poles steps inputR inputI)

/-- The reference's frame: its host operations leave the arguments, and it declares no semaphore. -/
theorem frame_ref : Cert.quiescent_DiscBwdRefIdeal := fun m ρ _ =>
  (θ_run Cert.DiscBwdRefIdeal.defs _ _).mono (fun r h => ⟨fun c => (h c).2.2.2.2,
      Idealize.ShloMosaic.sem_eq_zero_of_no_sems (by decide) r.2⟩)
    (Cert.DiscBwdRefIdeal.Value.run (F := Ideal) m ρ)

/-- Two truth bits are both one when their conjunction is. -/
theorem both (a b : BitVec 1) : IntOp.andi a b = 1#1 ↔ a = 1#1 ∧ b = 1#1 := by revert a b; decide

/-- A truth bit is one when what it says holds. -/
theorem bit (p : Prop) [Decidable p] : BitVec.ofBool (decide p) = 1#1 ↔ p := by by_cases h : p <;> simp [h]
/-- The bound of the absolute values is positive infinity. -/
theorem infinity : Ideal.ofBits FTy.f32 0x7F800000#32 = ⊤ := by simp [Ideal.ofBits, Ideal.ieee]

/-- What the precondition says of one state and one input. -/
theorem tame {a0 a1 : FVec Ideal S32x64 .f32} {a2 : FVec Ideal S32 .f32} {a3 a4 : FVec Ideal S32x64x16 .f32} {a5 : FVec Ideal S8x2048 .f32}
    {a6 a7 : FVec Ideal S2048x16 .f32} (h : Cert.Pre_finite_nonzero.fn (F := Ideal) a0 a1 a2 a3 a4 a5 a6 a7 = fun _ => 1#1) (g : Fin 32) (s : Fin 64) (k : Fin 16) :
    Tame ((a0 : S32x64.Idx → EReal) (ix2 g s)) ((a1 : S32x64.Idx → EReal) (ix2 g s)) ((a2 : S32.Idx → EReal) (ix1 g)) ((a3 : S32x64x16.Idx → EReal) (ix3 g s k))
      ((a4 : S32x64x16.Idx → EReal) (ix3 g s k)) ((a5 : S8x2048.Idx → EReal) (ix2 (0 : Fin 8) (row g s))) ((a5 : S8x2048.Idx → EReal) (ix2 (1 : Fin 8) (row g s)))
      ((a6 : S2048x16.Idx → EReal) (ix2 (row g s) k)) ((a7 : S2048x16.Idx → EReal) (ix2 (row g s) k)) := by
  have h := congrFun h (ix3 g s k)
  unfold Cert.Pre_finite_nonzero.fn Cert.Pre_finite_nonzero.fn_part1 Cert.Pre_finite_nonzero.fn_part2 at h
  pointwise at h
  simp only [both, bit, infinity] at h
  obtain ⟨⟨⟨⟨⟨⟨⟨⟨⟨f0, f1⟩, f2⟩, pos⟩, f5⟩, f5'⟩, f3⟩, f4⟩, f6⟩, f7⟩ := h
  exact ⟨f0, f1, f2, f3, f4, f5, f5', f6, f7, pos⟩

/-- Under the precondition the call's results are the reference's. -/
theorem algebraic : Cert.algebraic_DiscBwdIdeal_DiscBwdRefIdeal_pre_finite_nonzero := by
  intro m ρ m' ρ' hp hag
  have H := fun c : Dev nD => args_states (fun g s k => tame (hp c) g s k)
  refine ⟨fun c => poles (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))), fun c => steps (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))), fun c => inputR (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))), fun c => inputI (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))), ?_, ?_⟩
  · refine (θ_run defs _ _).mono (fun r h c => ?_) (Value.run_blocks (F := Ideal) m ρ)
    have h := h c
    rw [final8 m c (H c), final9 m c (H c), final10 m c (H c), final11 m c (H c)] at h
    exact h
  · refine (θ_run Cert.DiscBwdRefIdeal.defs _ _).mono (fun r h c => ?_) (Cert.DiscBwdRefIdeal.Call.run_ref m' ρ' (fun c => states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (fun c => ?_))
    · obtain ⟨e0, e1, e2, e3, e4, e5, e6, e7⟩ := hag c
      have h := h c
      rw [e0, e1, e2, e3, e4, e5, e6, e7] at h
      rw [e0, e1, e2, e3, e4, e5, e6, e7]
      exact h
    · obtain ⟨e0, e1, e2, e3, e4, e5, e6, e7⟩ := hag c
      rw [e0, e1, e2, e3, e4, e5, e6, e7]
      exact H c

end Cert.DiscBwdIdeal.Claims
end
-- ==== Proof.lean ====
module

public import proofs.«01_k».proof.Defs
public import proofs.«01_k».proof.Proof.Gen.Pre_finite_nonzero
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MlpIn
public import proofs.«01_k».proof.Proof.Gen.MlpIn.Skeleton
public import proofs.«01_k».proof.Proof.Gen.MlpIn.Launch
public import proofs.«01_k».proof.Proof.Gen.MlpIn.Points
public import proofs.«01_k».proof.Proof.Gen.MlpIn.Frame
public import proofs.«01_k».proof.Proof.Gen.MlpInIdeal
public import proofs.«01_k».proof.Proof.Gen.MlpInIdeal.Skeleton
public import proofs.«01_k».proof.Proof.Gen.MlpInIdeal.Launch
public import proofs.«01_k».proof.Proof.Gen.MlpInIdeal.Points
public import proofs.«01_k».proof.Proof.Gen.MlpInIdeal.Frame
public import proofs.«01_k».proof.Proof.Gen.MlpInIdeal.Value
public import proofs.«01_k».proof.Proof.Gen.MlpInRefIdeal
public import proofs.«01_k».proof.Proof.Gen.MlpInRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.MlpInBwd
public import proofs.«01_k».proof.Proof.Gen.MlpInBwd.Skeleton
public import proofs.«01_k».proof.Proof.Gen.MlpInBwd.Launch
public import proofs.«01_k».proof.Proof.Gen.MlpInBwd.Points
public import proofs.«01_k».proof.Proof.Gen.MlpInBwd.Frame
public import proofs.«01_k».proof.Proof.Gen.MlpInBwdIdeal
public import proofs.«01_k».proof.Proof.Gen.MlpInBwdIdeal.Skeleton
public import proofs.«01_k».proof.Proof.Gen.MlpInBwdIdeal.Launch
public import proofs.«01_k».proof.Proof.Gen.MlpInBwdIdeal.Points
public import proofs.«01_k».proof.Proof.Gen.MlpInBwdIdeal.Frame
public import proofs.«01_k».proof.Proof.Gen.MlpInBwdIdeal.Value
public import proofs.«01_k».proof.Proof.Gen.MlpInBwdRefIdeal
public import proofs.«01_k».proof.Proof.Gen.MlpInBwdRefIdeal.Run
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.WMlpOut
public import proofs.«01_k».proof.Proof.Gen.WMlpOut.Skeleton
public import proofs.«01_k».proof.Proof.Gen.WMlpOut.Launch
public import proofs.«01_k».proof.Proof.Gen.WMlpOut.Points
public import proofs.«01_k».proof.Proof.Gen.WMlpOut.Frame
public import proofs.«01_k».proof.Proof.Gen.WMlpOutIdeal
public import proofs.«01_k».proof.Proof.Gen.WMlpOutIdeal.Skeleton
public import proofs.«01_k».proof.Proof.Gen.WMlpOutIdeal.Launch
public import proofs.«01_k».proof.Proof.Gen.WMlpOutIdeal.Points
public import proofs.«01_k».proof.Proof.Gen.WMlpOutIdeal.Frame
public import proofs.«01_k».proof.Proof.Gen.WMlpOutIdeal.Value
public import proofs.«01_k».proof.Proof.Gen.WMlpOutRefIdeal
public import proofs.«01_k».proof.Proof.Gen.WMlpOutRefIdeal.Run
public import proofs.«01_k».proof.Proof.Gen.WMlpIn
public import proofs.«01_k».proof.Proof.Gen.WMlpIn.Skeleton
public import proofs.«01_k».proof.Proof.Gen.WMlpIn.Launch
public import proofs.«01_k».proof.Proof.Gen.WMlpIn.Points
public import proofs.«01_k».proof.Proof.Gen.WMlpIn.Frame
public import proofs.«01_k».proof.Proof.Gen.WMlpInIdeal
public import proofs.«01_k».proof.Proof.Gen.WMlpInIdeal.Skeleton
public import proofs.«01_k».proof.Proof.Gen.WMlpInIdeal.Launch
public import proofs.«01_k».proof.Proof.Gen.WMlpInIdeal.Points
public import proofs.«01_k».proof.Proof.Gen.WMlpInIdeal.Frame
public import proofs.«01_k».proof.Proof.Gen.WMlpInIdeal.Value
public import proofs.«01_k».proof.Proof.Gen.WMlpInRefIdeal
public import proofs.«01_k».proof.Proof.Gen.WMlpInRefIdeal.Run
public import proofs.«01_k».proof.Proof.Gen.W1024
public import proofs.«01_k».proof.Proof.Gen.W1024.Skeleton
public import proofs.«01_k».proof.Proof.Gen.W1024.Launch
public import proofs.«01_k».proof.Proof.Gen.W1024.Points
public import proofs.«01_k».proof.Proof.Gen.W1024.Frame
public import proofs.«01_k».proof.Proof.Gen.W1024Ideal
public import proofs.«01_k».proof.Proof.Gen.W1024Ideal.Skeleton
public import proofs.«01_k».proof.Proof.Gen.W1024Ideal.Launch
public import proofs.«01_k».proof.Proof.Gen.W1024Ideal.Points
public import proofs.«01_k».proof.Proof.Gen.W1024Ideal.Frame
public import proofs.«01_k».proof.Proof.Gen.W1024Ideal.Value
public import proofs.«01_k».proof.Proof.Gen.W1024RefIdeal
public import proofs.«01_k».proof.Proof.Gen.W1024RefIdeal.Run
public import proofs.«01_k».proof.Proof.Gen.WBranchB
public import proofs.«01_k».proof.Proof.Gen.WBranchB.Skeleton
public import proofs.«01_k».proof.Proof.Gen.WBranchB.Launch
public import proofs.«01_k».proof.Proof.Gen.WBranchB.Points
public import proofs.«01_k».proof.Proof.Gen.WBranchB.Frame
public import proofs.«01_k».proof.Proof.Gen.WBranchBIdeal
public import proofs.«01_k».proof.Proof.Gen.WBranchBIdeal.Skeleton
public import proofs.«01_k».proof.Proof.Gen.WBranchBIdeal.Launch
public import proofs.«01_k».proof.Proof.Gen.WBranchBIdeal.Points
public import proofs.«01_k».proof.Proof.Gen.WBranchBIdeal.Frame
public import proofs.«01_k».proof.Proof.Gen.WBranchBIdeal.Value
public import proofs.«01_k».proof.Proof.Gen.WBranchBRefIdeal
public import proofs.«01_k».proof.Proof.Gen.WBranchBRefIdeal.Run
public import proofs.«01_k».proof.Proof.Gen.W2048
public import proofs.«01_k».proof.Proof.Gen.W2048.Skeleton
public import proofs.«01_k».proof.Proof.Gen.W2048.Launch
public import proofs.«01_k».proof.Proof.Gen.W2048.Points
public import proofs.«01_k».proof.Proof.Gen.W2048.Frame
public import proofs.«01_k».proof.Proof.Gen.W2048Ideal
public import proofs.«01_k».proof.Proof.Gen.W2048Ideal.Skeleton
public import proofs.«01_k».proof.Proof.Gen.W2048Ideal.Launch
public import proofs.«01_k».proof.Proof.Gen.W2048Ideal.Points
public import proofs.«01_k».proof.Proof.Gen.W2048Ideal.Frame
public import proofs.«01_k».proof.Proof.Gen.W2048Ideal.Value
public import proofs.«01_k».proof.Proof.Gen.W2048RefIdeal
public import proofs.«01_k».proof.Proof.Gen.W2048RefIdeal.Run
public import proofs.«01_k».proof.Proof.Gen.W512
public import proofs.«01_k».proof.Proof.Gen.W512.Skeleton
public import proofs.«01_k».proof.Proof.Gen.W512.Launch
public import proofs.«01_k».proof.Proof.Gen.W512.Points
public import proofs.«01_k».proof.Proof.Gen.W512.Frame
public import proofs.«01_k».proof.Proof.Gen.W512Ideal
public import proofs.«01_k».proof.Proof.Gen.W512Ideal.Skeleton
public import proofs.«01_k».proof.Proof.Gen.W512Ideal.Launch
public import proofs.«01_k».proof.Proof.Gen.W512Ideal.Points
public import proofs.«01_k».proof.Proof.Gen.W512Ideal.Frame
public import proofs.«01_k».proof.Proof.Gen.W512Ideal.Value
public import proofs.«01_k».proof.Proof.Gen.W512RefIdeal
public import proofs.«01_k».proof.Proof.Gen.W512RefIdeal.Run
public import proofs.«01_k».proof.Proof.Gen.W1152
public import proofs.«01_k».proof.Proof.Gen.W1152.Skeleton
public import proofs.«01_k».proof.Proof.Gen.W1152.Launch
public import proofs.«01_k».proof.Proof.Gen.W1152.Points
public import proofs.«01_k».proof.Proof.Gen.W1152.Frame
public import proofs.«01_k».proof.Proof.Gen.W1152Ideal
public import proofs.«01_k».proof.Proof.Gen.W1152Ideal.Skeleton
public import proofs.«01_k».proof.Proof.Gen.W1152Ideal.Launch
public import proofs.«01_k».proof.Proof.Gen.W1152Ideal.Points
public import proofs.«01_k».proof.Proof.Gen.W1152Ideal.Frame
public import proofs.«01_k».proof.Proof.Gen.W1152Ideal.Value
public import proofs.«01_k».proof.Proof.Gen.W1152RefIdeal
public import proofs.«01_k».proof.Proof.Gen.W1152RefIdeal.Run
public import proofs.«01_k».proof.Proof.Gen.UpdMlpOut
public import proofs.«01_k».proof.Proof.Gen.UpdMlpOut.Skeleton
public import proofs.«01_k».proof.Proof.Gen.UpdMlpOut.Launch
public import proofs.«01_k».proof.Proof.Gen.UpdMlpOut.Points
public import proofs.«01_k».proof.Proof.Gen.UpdMlpOut.Frame
public import proofs.«01_k».proof.Proof.Gen.UpdMlpOutIdeal
public import proofs.«01_k».proof.Proof.Gen.UpdMlpOutIdeal.Skeleton
public import proofs.«01_k».proof.Proof.Gen.UpdMlpOutIdeal.Launch
public import proofs.«01_k».proof.Proof.Gen.UpdMlpOutIdeal.Points
public import proofs.«01_k».proof.Proof.Gen.UpdMlpOutIdeal.Frame
public import proofs.«01_k».proof.Proof.Gen.UpdMlpOutIdeal.Value
public import proofs.«01_k».proof.Proof.Gen.UpdMlpOutRefIdeal
public import proofs.«01_k».proof.Proof.Gen.UpdMlpOutRefIdeal.Run
public import proofs.«01_k».proof.Proof.Gen.UpdMlpIn
public import proofs.«01_k».proof.Proof.Gen.UpdMlpIn.Skeleton
public import proofs.«01_k».proof.Proof.Gen.UpdMlpIn.Launch
public import proofs.«01_k».proof.Proof.Gen.UpdMlpIn.Points
public import proofs.«01_k».proof.Proof.Gen.UpdMlpIn.Frame
public import proofs.«01_k».proof.Proof.Gen.UpdMlpInIdeal
public import proofs.«01_k».proof.Proof.Gen.UpdMlpInIdeal.Skeleton
public import proofs.«01_k».proof.Proof.Gen.UpdMlpInIdeal.Launch
public import proofs.«01_k».proof.Proof.Gen.UpdMlpInIdeal.Points
public import proofs.«01_k».proof.Proof.Gen.UpdMlpInIdeal.Frame
public import proofs.«01_k».proof.Proof.Gen.UpdMlpInIdeal.Value
public import proofs.«01_k».proof.Proof.Gen.UpdMlpInRefIdeal
public import proofs.«01_k».proof.Proof.Gen.UpdMlpInRefIdeal.Run
public import proofs.«01_k».proof.Proof.Gen.UpdOut
public import proofs.«01_k».proof.Proof.Gen.UpdOut.Skeleton
public import proofs.«01_k».proof.Proof.Gen.UpdOut.Launch
public import proofs.«01_k».proof.Proof.Gen.UpdOut.Points
public import proofs.«01_k».proof.Proof.Gen.UpdOut.Frame
public import proofs.«01_k».proof.Proof.Gen.UpdOutIdeal
public import proofs.«01_k».proof.Proof.Gen.UpdOutIdeal.Skeleton
public import proofs.«01_k».proof.Proof.Gen.UpdOutIdeal.Launch
public import proofs.«01_k».proof.Proof.Gen.UpdOutIdeal.Points
public import proofs.«01_k».proof.Proof.Gen.UpdOutIdeal.Frame
public import proofs.«01_k».proof.Proof.Gen.UpdOutIdeal.Value
public import proofs.«01_k».proof.Proof.Gen.UpdOutRefIdeal
public import proofs.«01_k».proof.Proof.Gen.UpdOutRefIdeal.Run
public import proofs.«01_k».proof.Proof.Gen.UpdBranch
public import proofs.«01_k».proof.Proof.Gen.UpdBranch.Skeleton
public import proofs.«01_k».proof.Proof.Gen.UpdBranch.Launch
public import proofs.«01_k».proof.Proof.Gen.UpdBranch.Points
public import proofs.«01_k».proof.Proof.Gen.UpdBranch.Frame
public import proofs.«01_k».proof.Proof.Gen.UpdBranchIdeal
public import proofs.«01_k».proof.Proof.Gen.UpdBranchIdeal.Skeleton
public import proofs.«01_k».proof.Proof.Gen.UpdBranchIdeal.Launch
public import proofs.«01_k».proof.Proof.Gen.UpdBranchIdeal.Points
public import proofs.«01_k».proof.Proof.Gen.UpdBranchIdeal.Frame
public import proofs.«01_k».proof.Proof.Gen.UpdBranchIdeal.Value
public import proofs.«01_k».proof.Proof.Gen.UpdBranchRefIdeal
public import proofs.«01_k».proof.Proof.Gen.UpdBranchRefIdeal.Run
public import proofs.«01_k».proof.Proof.Gen.UpdGlu
public import proofs.«01_k».proof.Proof.Gen.UpdGlu.Skeleton
public import proofs.«01_k».proof.Proof.Gen.UpdGlu.Launch
public import proofs.«01_k».proof.Proof.Gen.UpdGlu.Points
public import proofs.«01_k».proof.Proof.Gen.UpdGlu.Frame
public import proofs.«01_k».proof.Proof.Gen.UpdGluIdeal
public import proofs.«01_k».proof.Proof.Gen.UpdGluIdeal.Skeleton
public import proofs.«01_k».proof.Proof.Gen.UpdGluIdeal.Launch
public import proofs.«01_k».proof.Proof.Gen.UpdGluIdeal.Points
public import proofs.«01_k».proof.Proof.Gen.UpdGluIdeal.Frame
public import proofs.«01_k».proof.Proof.Gen.UpdGluIdeal.Value
public import proofs.«01_k».proof.Proof.Gen.UpdGluRefIdeal
public import proofs.«01_k».proof.Proof.Gen.UpdGluRefIdeal.Run
public import proofs.«01_k».proof.Proof.Gen.UpdIn
public import proofs.«01_k».proof.Proof.Gen.UpdIn.Skeleton
public import proofs.«01_k».proof.Proof.Gen.UpdIn.Launch
public import proofs.«01_k».proof.Proof.Gen.UpdIn.Points
public import proofs.«01_k».proof.Proof.Gen.UpdIn.Frame
public import proofs.«01_k».proof.Proof.Gen.UpdInIdeal
public import proofs.«01_k».proof.Proof.Gen.UpdInIdeal.Skeleton
public import proofs.«01_k».proof.Proof.Gen.UpdInIdeal.Launch
public import proofs.«01_k».proof.Proof.Gen.UpdInIdeal.Points
public import proofs.«01_k».proof.Proof.Gen.UpdInIdeal.Frame
public import proofs.«01_k».proof.Proof.Gen.UpdInIdeal.Value
public import proofs.«01_k».proof.Proof.Gen.UpdInRefIdeal
public import proofs.«01_k».proof.Proof.Gen.UpdInRefIdeal.Run
public import proofs.«01_k».proof.Proof.Gen.UpdConv
public import proofs.«01_k».proof.Proof.Gen.UpdConv.Skeleton
public import proofs.«01_k».proof.Proof.Gen.UpdConv.Launch
public import proofs.«01_k».proof.Proof.Gen.UpdConv.Points
public import proofs.«01_k».proof.Proof.Gen.UpdConv.Frame
public import proofs.«01_k».proof.Proof.Gen.UpdConvIdeal
public import proofs.«01_k».proof.Proof.Gen.UpdConvIdeal.Skeleton
public import proofs.«01_k».proof.Proof.Gen.UpdConvIdeal.Launch
public import proofs.«01_k».proof.Proof.Gen.UpdConvIdeal.Points
public import proofs.«01_k».proof.Proof.Gen.UpdConvIdeal.Frame
public import proofs.«01_k».proof.Proof.Gen.UpdConvIdeal.Value
public import proofs.«01_k».proof.Proof.Gen.UpdConvRefIdeal
public import proofs.«01_k».proof.Proof.Gen.UpdConvRefIdeal.Run
public import proofs.«01_k».proof.Proof.Gen.UpdS5B
public import proofs.«01_k».proof.Proof.Gen.UpdS5B.Skeleton
public import proofs.«01_k».proof.Proof.Gen.UpdS5B.Launch
public import proofs.«01_k».proof.Proof.Gen.UpdS5B.Points
public import proofs.«01_k».proof.Proof.Gen.UpdS5B.Frame
public import proofs.«01_k».proof.Proof.Gen.UpdS5BIdeal
public import proofs.«01_k».proof.Proof.Gen.UpdS5BIdeal.Skeleton
public import proofs.«01_k».proof.Proof.Gen.UpdS5BIdeal.Launch
public import proofs.«01_k».proof.Proof.Gen.UpdS5BIdeal.Points
public import proofs.«01_k».proof.Proof.Gen.UpdS5BIdeal.Frame
public import proofs.«01_k».proof.Proof.Gen.UpdS5BIdeal.Value
public import proofs.«01_k».proof.Proof.Gen.UpdS5BRefIdeal
public import proofs.«01_k».proof.Proof.Gen.UpdS5BRefIdeal.Run
public import proofs.«01_k».proof.Proof.Gen.UpdLast
public import proofs.«01_k».proof.Proof.Gen.UpdLast.Skeleton
public import proofs.«01_k».proof.Proof.Gen.UpdLast.Launch
public import proofs.«01_k».proof.Proof.Gen.UpdLast.Points
public import proofs.«01_k».proof.Proof.Gen.UpdLast.Frame
public import proofs.«01_k».proof.Proof.Gen.UpdLastIdeal
public import proofs.«01_k».proof.Proof.Gen.UpdLastIdeal.Skeleton
public import proofs.«01_k».proof.Proof.Gen.UpdLastIdeal.Launch
public import proofs.«01_k».proof.Proof.Gen.UpdLastIdeal.Points
public import proofs.«01_k».proof.Proof.Gen.UpdLastIdeal.Frame
public import proofs.«01_k».proof.Proof.Gen.UpdLastIdeal.Value
public import proofs.«01_k».proof.Proof.Gen.UpdLastRefIdeal
public import proofs.«01_k».proof.Proof.Gen.UpdLastRefIdeal.Run
public import proofs.«01_k».proof.Proof.Gen.Disc
public import proofs.«01_k».proof.Proof.Gen.Disc.Skeleton
public import proofs.«01_k».proof.Proof.Gen.Disc.Launch
public import proofs.«01_k».proof.Proof.Gen.Disc.Points
public import proofs.«01_k».proof.Proof.Gen.Disc.Frame
public import proofs.«01_k».proof.Proof.Gen.DiscIdeal
public import proofs.«01_k».proof.Proof.Gen.DiscIdeal.Skeleton
public import proofs.«01_k».proof.Proof.Gen.DiscIdeal.Launch
public import proofs.«01_k».proof.Proof.Gen.DiscIdeal.Points
public import proofs.«01_k».proof.Proof.Gen.DiscIdeal.Frame
public import proofs.«01_k».proof.Proof.Gen.DiscIdeal.Value
public import proofs.«01_k».proof.Proof.Gen.DiscRefIdeal
public import proofs.«01_k».proof.Proof.Gen.DiscRefIdeal.Run
public import proofs.«01_k».proof.Proof.Gen.DiscBwd
public import proofs.«01_k».proof.Proof.Gen.DiscBwd.Skeleton
public import proofs.«01_k».proof.Proof.Gen.DiscBwd.Launch
public import proofs.«01_k».proof.Proof.Gen.DiscBwd.Points
public import proofs.«01_k».proof.Proof.Gen.DiscBwd.Frame
public import proofs.«01_k».proof.Proof.Gen.DiscBwdIdeal
public import proofs.«01_k».proof.Proof.Gen.DiscBwdIdeal.Skeleton
public import proofs.«01_k».proof.Proof.Gen.DiscBwdIdeal.Launch
public import proofs.«01_k».proof.Proof.Gen.DiscBwdIdeal.Points
public import proofs.«01_k».proof.Proof.Gen.DiscBwdIdeal.Frame
public import proofs.«01_k».proof.Proof.Gen.DiscBwdIdeal.Value
public import proofs.«01_k».proof.Proof.Gen.DiscBwdRefIdeal
public import proofs.«01_k».proof.Proof.Gen.DiscBwdRefIdeal.Run
public import proofs.«01_k».proof.Proof.MergeClaim
public import proofs.«01_k».proof.Proof.MergeFwdCall
public import proofs.«01_k».proof.Proof.MlpInCall
public import proofs.«01_k».proof.Proof.InProjCall
public import proofs.«01_k».proof.Proof.LossCall
public import proofs.«01_k».proof.Proof.ActCall
public import proofs.«01_k».proof.Proof.MlpInBwdCall
public import proofs.«01_k».proof.Proof.InBwdCall
public import proofs.«01_k».proof.Proof.WMlpOutCall
public import proofs.«01_k».proof.Proof.WMlpInCall
public import proofs.«01_k».proof.Proof.W1024Call
public import proofs.«01_k».proof.Proof.WBranchBCall
public import proofs.«01_k».proof.Proof.W2048Call
public import proofs.«01_k».proof.Proof.W512Call
public import proofs.«01_k».proof.Proof.W1152Call
public import proofs.«01_k».proof.Proof.UpdMlpOutCall
public import proofs.«01_k».proof.Proof.UpdMlpInCall
public import proofs.«01_k».proof.Proof.UpdOutCall
public import proofs.«01_k».proof.Proof.UpdBranchCall
public import proofs.«01_k».proof.Proof.UpdGluCall
public import proofs.«01_k».proof.Proof.UpdInCall
public import proofs.«01_k».proof.Proof.UpdConvCall
public import proofs.«01_k».proof.Proof.UpdS5BCall
public import proofs.«01_k».proof.Proof.UpdLastCall
public import proofs.«01_k».proof.Proof.DiscCall
public import proofs.«01_k».proof.Proof.DiscBwdCall
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MergeFwd.Gen.facts, Cert.MergeFwdIdeal.Gen.facts, Cert.MergeFwdRefIdeal.Gen.facts,
  Cert.MlpIn.Gen.facts, Cert.MlpInIdeal.Gen.facts, Cert.MlpInRefIdeal.Gen.facts,
  Cert.InProj.Gen.facts, Cert.InProjIdeal.Gen.facts, Cert.InProjRefIdeal.Gen.facts,
  Cert.Loss.Gen.facts, Cert.LossIdeal.Gen.facts, Cert.LossRefIdeal.Gen.facts,
  Cert.Act.Gen.facts, Cert.ActIdeal.Gen.facts, Cert.ActRefIdeal.Gen.facts,
  Cert.MlpInBwd.Gen.facts, Cert.MlpInBwdIdeal.Gen.facts, Cert.MlpInBwdRefIdeal.Gen.facts,
  Cert.InBwd.Gen.facts, Cert.InBwdIdeal.Gen.facts, Cert.InBwdRefIdeal.Gen.facts,
  Cert.WMlpOut.Gen.facts, Cert.WMlpOutIdeal.Gen.facts, Cert.WMlpOutRefIdeal.Gen.facts,
  Cert.WMlpIn.Gen.facts, Cert.WMlpInIdeal.Gen.facts, Cert.WMlpInRefIdeal.Gen.facts,
  Cert.W1024.Gen.facts, Cert.W1024Ideal.Gen.facts, Cert.W1024RefIdeal.Gen.facts,
  Cert.WBranchB.Gen.facts, Cert.WBranchBIdeal.Gen.facts, Cert.WBranchBRefIdeal.Gen.facts,
  Cert.W2048.Gen.facts, Cert.W2048Ideal.Gen.facts, Cert.W2048RefIdeal.Gen.facts,
  Cert.W512.Gen.facts, Cert.W512Ideal.Gen.facts, Cert.W512RefIdeal.Gen.facts,
  Cert.W1152.Gen.facts, Cert.W1152Ideal.Gen.facts, Cert.W1152RefIdeal.Gen.facts,
  Cert.UpdMlpOut.Gen.facts, Cert.UpdMlpOutIdeal.Gen.facts, Cert.UpdMlpOutRefIdeal.Gen.facts,
  Cert.UpdMlpIn.Gen.facts, Cert.UpdMlpInIdeal.Gen.facts, Cert.UpdMlpInRefIdeal.Gen.facts,
  Cert.UpdOut.Gen.facts, Cert.UpdOutIdeal.Gen.facts, Cert.UpdOutRefIdeal.Gen.facts,
  Cert.UpdBranch.Gen.facts, Cert.UpdBranchIdeal.Gen.facts, Cert.UpdBranchRefIdeal.Gen.facts,
  Cert.UpdGlu.Gen.facts, Cert.UpdGluIdeal.Gen.facts, Cert.UpdGluRefIdeal.Gen.facts,
  Cert.UpdIn.Gen.facts, Cert.UpdInIdeal.Gen.facts, Cert.UpdInRefIdeal.Gen.facts,
  Cert.UpdConv.Gen.facts, Cert.UpdConvIdeal.Gen.facts, Cert.UpdConvRefIdeal.Gen.facts,
  Cert.UpdS5B.Gen.facts, Cert.UpdS5BIdeal.Gen.facts, Cert.UpdS5BRefIdeal.Gen.facts,
  Cert.UpdLast.Gen.facts, Cert.UpdLastIdeal.Gen.facts, Cert.UpdLastRefIdeal.Gen.facts,
  Cert.Disc.Gen.facts, Cert.DiscIdeal.Gen.facts, Cert.DiscRefIdeal.Gen.facts,
  Cert.DiscBwd.Gen.facts, Cert.DiscBwdIdeal.Gen.facts, Cert.DiscBwdRefIdeal.Gen.facts,
  Cert.Pre_finite_nonzero.Gen.facts,
  fun m ρ _ => Cert.Kernel.Gen.frame m ρ, fun m ρ _ => Cert.KernelIdeal.Gen.frame m ρ, Cert.MergeClaim.frame_ref,
  fun m ρ _ => Cert.MergeFwd.Gen.frame m ρ, fun m ρ _ => Cert.MergeFwdIdeal.Gen.frame m ρ, Cert.MergeFwdIdeal.Claims.frame_ref,
  fun m ρ _ => Cert.MlpIn.Gen.frame m ρ, fun m ρ _ => Cert.MlpInIdeal.Gen.frame m ρ, Cert.MlpInIdeal.Claims.frame_ref,
  fun m ρ _ => Cert.InProj.Gen.frame m ρ, fun m ρ _ => Cert.InProjIdeal.Gen.frame m ρ, Cert.InProjIdeal.Claims.frame_ref,
  fun m ρ _ => Cert.Loss.Gen.frame m ρ, fun m ρ _ => Cert.LossIdeal.Gen.frame m ρ, Cert.LossIdeal.Claims.frame_ref,
  fun m ρ _ => Cert.Act.Gen.frame m ρ, fun m ρ _ => Cert.ActIdeal.Gen.frame m ρ, Cert.ActIdeal.Claims.frame_ref,
  fun m ρ _ => Cert.MlpInBwd.Gen.frame m ρ, fun m ρ _ => Cert.MlpInBwdIdeal.Gen.frame m ρ, Cert.MlpInBwdIdeal.Claims.frame_ref,
  fun m ρ _ => Cert.InBwd.Gen.frame m ρ, fun m ρ _ => Cert.InBwdIdeal.Gen.frame m ρ, Cert.InBwdIdeal.Claims.frame_ref,
  fun m ρ _ => Cert.WMlpOut.Gen.frame m ρ, fun m ρ _ => Cert.WMlpOutIdeal.Gen.frame m ρ, Cert.WMlpOutIdeal.Claims.frame_ref,
  fun m ρ _ => Cert.WMlpIn.Gen.frame m ρ, fun m ρ _ => Cert.WMlpInIdeal.Gen.frame m ρ, Cert.WMlpInIdeal.Claims.frame_ref,
  fun m ρ _ => Cert.W1024.Gen.frame m ρ, fun m ρ _ => Cert.W1024Ideal.Gen.frame m ρ, Cert.W1024Ideal.Claims.frame_ref,
  fun m ρ _ => Cert.WBranchB.Gen.frame m ρ, fun m ρ _ => Cert.WBranchBIdeal.Gen.frame m ρ, Cert.WBranchBIdeal.Claims.frame_ref,
  fun m ρ _ => Cert.W2048.Gen.frame m ρ, fun m ρ _ => Cert.W2048Ideal.Gen.frame m ρ, Cert.W2048Ideal.Claims.frame_ref,
  fun m ρ _ => Cert.W512.Gen.frame m ρ, fun m ρ _ => Cert.W512Ideal.Gen.frame m ρ, Cert.W512Ideal.Claims.frame_ref,
  fun m ρ _ => Cert.W1152.Gen.frame m ρ, fun m ρ _ => Cert.W1152Ideal.Gen.frame m ρ, Cert.W1152Ideal.Claims.frame_ref,
  fun m ρ _ => Cert.UpdMlpOut.Gen.frame m ρ, fun m ρ _ => Cert.UpdMlpOutIdeal.Gen.frame m ρ, Cert.UpdMlpOutIdeal.Claims.frame_ref,
  fun m ρ _ => Cert.UpdMlpIn.Gen.frame m ρ, fun m ρ _ => Cert.UpdMlpInIdeal.Gen.frame m ρ, Cert.UpdMlpInIdeal.Claims.frame_ref,
  fun m ρ _ => Cert.UpdOut.Gen.frame m ρ, fun m ρ _ => Cert.UpdOutIdeal.Gen.frame m ρ, Cert.UpdOutIdeal.Claims.frame_ref,
  fun m ρ _ => Cert.UpdBranch.Gen.frame m ρ, fun m ρ _ => Cert.UpdBranchIdeal.Gen.frame m ρ, Cert.UpdBranchIdeal.Claims.frame_ref,
  fun m ρ _ => Cert.UpdGlu.Gen.frame m ρ, fun m ρ _ => Cert.UpdGluIdeal.Gen.frame m ρ, Cert.UpdGluIdeal.Claims.frame_ref,
  fun m ρ _ => Cert.UpdIn.Gen.frame m ρ, fun m ρ _ => Cert.UpdInIdeal.Gen.frame m ρ, Cert.UpdInIdeal.Claims.frame_ref,
  fun m ρ _ => Cert.UpdConv.Gen.frame m ρ, fun m ρ _ => Cert.UpdConvIdeal.Gen.frame m ρ, Cert.UpdConvIdeal.Claims.frame_ref,
  fun m ρ _ => Cert.UpdS5B.Gen.frame m ρ, fun m ρ _ => Cert.UpdS5BIdeal.Gen.frame m ρ, Cert.UpdS5BIdeal.Claims.frame_ref,
  fun m ρ _ => Cert.UpdLast.Gen.frame m ρ, fun m ρ _ => Cert.UpdLastIdeal.Gen.frame m ρ, Cert.UpdLastIdeal.Claims.frame_ref,
  fun m ρ _ => Cert.Disc.Gen.frame m ρ, fun m ρ _ => Cert.DiscIdeal.Gen.frame m ρ, Cert.DiscIdeal.Claims.frame_ref,
  fun m ρ _ => Cert.DiscBwd.Gen.frame m ρ, fun m ρ _ => Cert.DiscBwdIdeal.Gen.frame m ρ, fun m ρ _ => Cert.DiscBwdIdeal.Gen.frame m ρ,
    Cert.DiscBwdIdeal.Claims.frame_ref, fun m ρ _ => Cert.DiscBwdIdeal.Claims.frame_ref m ρ trivial,
  trivial, Cert.MergeClaim.algebraic,
  trivial, Cert.MergeFwdIdeal.Claims.algebraic,
  trivial, Cert.MlpInIdeal.Claims.algebraic,
  trivial, Cert.InProjIdeal.Claims.algebraic,
  trivial, Cert.LossIdeal.Claims.algebraic,
  trivial, Cert.ActIdeal.Claims.algebraic,
  trivial, Cert.MlpInBwdIdeal.Claims.algebraic,
  trivial, Cert.InBwdIdeal.Claims.algebraic,
  trivial, Cert.WMlpOutIdeal.Claims.algebraic,
  trivial, Cert.WMlpInIdeal.Claims.algebraic,
  trivial, Cert.W1024Ideal.Claims.algebraic,
  trivial, Cert.WBranchBIdeal.Claims.algebraic,
  trivial, Cert.W2048Ideal.Claims.algebraic,
  trivial, Cert.W512Ideal.Claims.algebraic,
  trivial, Cert.W1152Ideal.Claims.algebraic,
  trivial, Cert.UpdMlpOutIdeal.Claims.algebraic,
  trivial, Cert.UpdMlpInIdeal.Claims.algebraic,
  trivial, Cert.UpdOutIdeal.Claims.algebraic,
  trivial, Cert.UpdBranchIdeal.Claims.algebraic,
  trivial, Cert.UpdGluIdeal.Claims.algebraic,
  trivial, Cert.UpdInIdeal.Claims.algebraic,
  trivial, Cert.UpdConvIdeal.Claims.algebraic,
  trivial, Cert.UpdS5BIdeal.Claims.algebraic,
  trivial, Cert.UpdLastIdeal.Claims.algebraic,
  trivial, Cert.DiscIdeal.Claims.algebraic,
  trivial, Cert.DiscBwdIdeal.Claims.algebraic⟩

end Cert.Proof

end
